-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v141) = v4 c
          ∧ r.2.mem ((c.tc : Thread Cert.ReferenceIdeal.nD Cert.ReferenceIdeal.τ).loc Cert.ReferenceIdeal.main_v174) = v5 c
          ∧ r.2.mem ((c.tc : Thread Cert.ReferenceIdeal.nD Cert.ReferenceIdeal.τ).loc Cert.ReferenceIdeal.main_v177) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v29_4)) (v1 : (c : Dev Cert.Kernel12Ideal.nD) → Buf (Elt Ideal) ((c.tc : Thread Cert.Kernel12Ideal.nD Cert.Kernel12Ideal.τ).loc Cert.Kernel12Ideal.main_v29_5)) (v2 : (c : Dev Cert.Kernel12Ideal.nD) → Buf (Elt Ideal) ((c.tc : Thread Cert.Kernel12Ideal.nD Cert.Kernel12Ideal.τ).loc Cert.Kernel12Ideal.main_v29_6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v29_4) = v0 c
          ∧ r.2.mem ((c.tc : Thread Cert.Kernel12Ideal.nD Cert.Kernel12Ideal.τ).loc Cert.Kernel12Ideal.main_v29_5) = v1 c
          ∧ r.2.mem ((c.tc : Thread Cert.Kernel12Ideal.nD Cert.Kernel12Ideal.τ).loc Cert.Kernel12Ideal.main_v29_6) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v64) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v67) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)) (v2 : (c : Dev Cert.Kernel13Ideal.nD) → Buf (Elt Ideal) ((c.tc : Thread Cert.Kernel13Ideal.nD Cert.Kernel13Ideal.τ).loc Cert.Kernel13Ideal.main_v8_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_v8_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v75) = v0 c
          ∧ r.2.mem ((c.tc : Thread Cert.Reference13Ideal.nD Cert.Reference13Ideal.τ).loc Cert.Reference13Ideal.main_v74) = v1 c
          ∧ r.2.mem ((c.tc : Thread Cert.Reference13Ideal.nD Cert.Reference13Ideal.τ).loc Cert.Reference13Ideal.main_v58) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite6 : Cert.Pre_finite6.Facts) (hPre_finite12 : Cert.Pre_finite12.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S4096x3200 : Shape := ⟨2, ![4096, 3200]⟩
abbrev S16x256 : Shape := ⟨2, ![16, 256]⟩
abbrev S1x256 : Shape := ⟨2, ![1, 256]⟩
abbrev S1x512 : Shape := ⟨2, ![1, 512]⟩
abbrev S4096x512 : Shape := ⟨2, ![4096, 512]⟩
abbrev S4x64x128x64 : Shape := ⟨4, ![4, 64, 128, 64]⟩
abbrev S4096x1024 : Shape := ⟨2, ![4096, 1024]⟩
abbrev S_ : Shape := ⟨0, ![]⟩

class Facts : Prop where
  bcast_S_S4096x3200 : S_.BroadcastsInDim S4096x3200 (![] : Fin 0 → Fin S4096x3200.rank)
  bcast_S_S16x256 : S_.BroadcastsInDim S16x256 (![] : Fin 0 → Fin S16x256.rank)
  bcast_S_S1x256 : S_.BroadcastsInDim S1x256 (![] : Fin 0 → Fin S1x256.rank)
  bcast_S_S1x512 : S_.BroadcastsInDim S1x512 (![] : Fin 0 → Fin S1x512.rank)
  bcast_S_S4096x512 : S_.BroadcastsInDim S4096x512 (![] : Fin 0 → Fin S4096x512.rank)
  bcast_S_S4x64x128x64 : S_.BroadcastsInDim S4x64x128x64 (![] : Fin 0 → Fin S4x64x128x64.rank)
  bcast_S_S4096x1024 : S_.BroadcastsInDim S4096x1024 (![] : Fin 0 → Fin S4096x1024.rank)

variable [Facts]

def fn_part1 {F : FTy → Type} [FloatOps F] (main_arg6 : FVec F S4096x1024 .f32) (main_v2 : IVec S4096x3200 1) (main_v5 : IVec S16x256 1) (main_v8 : IVec S1x256 1) (main_v11 : IVec S1x512 1) (main_v14 : IVec S4096x512 1) (main_v17 : IVec S4x64x128x64 1) : IVec S4096x3200 1 × IVec S16x256 1 × IVec S1x256 1 × IVec S1x512 1 × IVec S4096x512 1 × IVec S4x64x128x64 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x3200 .f32) (main_arg1 : FVec F S16x256 .f32) (main_arg2 : FVec F S1x256 .f32) (main_arg3 : FVec F S1x512 .f32) (main_arg4 : FVec F S4096x512 .f32) (main_arg5 : FVec F S4x64x128x64 .f32) (main_arg6 : FVec F S4096x1024 .f32) : IVec S4096x3200 1 × IVec S16x256 1 × IVec S1x256 1 × IVec S1x512 1 × IVec S4096x512 1 × IVec S4x64x128x64 1 × IVec S4096x1024 1 :=
  let main_v0 : FVec F S4096x3200 .f32 := Host.absf main_arg0
  let main_cst : FVec F S_ .f32 := constant S_ .f32 0x7F800000#32
  let main_v1 : FVec F S4096x3200 .f32 := broadcastInDim S4096x3200 ![] bcast_S_S4096x3200 main_cst
  let main_v2 : IVec S4096x3200 1 := cmpf .olt main_v0 main_v1
  let main_v3 : FVec F S16x256 .f32 := Host.absf main_arg1
  let main_cst_0 : FVec F S_ .f32 := constant S_ .f32 0x7F800000#32
  let main_v4 : FVec F S16x256 .f32 := broadcastInDim S16x256 ![] bcast_S_S16x256 main_cst_0
  let main_v5 : IVec S16x256 1 := cmpf .olt main_v3 main_v4
  let main_v6 : FVec F S1x256 .f32 := Host.absf main_arg2
  let main_cst_1 : FVec F S_ .f32 := constant S_ .f32 0x7F800000#32
  let main_v7 : FVec F S1x256 .f32 := broadcastInDim S1x256 ![] bcast_S_S1x256 main_cst_1
  let main_v8 : IVec S1x256 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4x64x128x64 .f32 := Host.absf main_arg5
  let main_cst_4 : FVec F S_ .f32 := constant S_ .f32 0x7F800000#32
  let main_v16 : FVec F S4x64x128x64 .f32 := broadcastInDim S4x64x128x64 ![] bcast_S_S4x64x128x64 main_cst_4
  let main_v17 : IVec S4x64x128x64 1 := cmpf .olt main_v15 main_v16
  fn_part1 (F := F) main_arg6 main_v2 main_v5 main_v8 main_v11 main_v14 main_v17
-- ==== Pre_finite12.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S4096x1024 1) (main_v5 : IVec S4096x1024 1) (main_v8 : IVec S1x1024 1) (main_v11 : IVec S1024x2816 1) (main_v14 : IVec S1024x2816 1) (main_v17 : IVec S2816x1024 1) : IVec S4096x1024 1 × IVec S4096x1024 1 × IVec S1x1024 1 × IVec S1024x2816 1 × IVec S1024x2816 1 × IVec S2816x1024 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) (main_arg6 : FVec F S1024x1024 .f32) : IVec S4096x1024 1 × IVec S4096x1024 1 × IVec S1x1024 1 × IVec S1024x2816 1 × IVec S1024x2816 1 × IVec S2816x1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Pre_finite13.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S4096x1024 .f32) (main_v2 : IVec S4096x1024 1) (main_v5 : IVec S1x1024 1) (main_v8 : IVec S1024x2816 1) (main_v11 : IVec S1024x2816 1) (main_v14 : IVec S2816x1024 1) (main_v17 : IVec S1x1024 1) : IVec S4096x1024 1 × IVec S1x1024 1 × IVec S1024x2816 1 × IVec S1024x2816 1 × IVec S2816x1024 1 × IVec S1x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S4096x1024 .f32) : IVec S4096x1024 1 × IVec S1x1024 1 × IVec S1024x2816 1 × IVec S1024x2816 1 × IVec S2816x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite6.lean ====
abbrev S4096x3088 : Shape := ⟨2, ![4096, 3088]⟩
abbrev S1024x3088 : Shape := ⟨2, ![1024, 3088]⟩
abbrev S4096x1024 : Shape := ⟨2, ![4096, 1024]⟩
abbrev S1x1024 : Shape := ⟨2, ![1, 1024]⟩
abbrev S_ : Shape := ⟨0, ![]⟩

class Facts : Prop where
  bcast_S_S4096x3088 : S_.BroadcastsInDim S4096x3088 (![] : Fin 0 → Fin S4096x3088.rank)
  bcast_S_S1024x3088 : S_.BroadcastsInDim S1024x3088 (![] : Fin 0 → Fin S1024x3088.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x3088 .f32) (main_arg1 : FVec F S1024x3088 .f32) (main_arg2 : FVec F S4096x1024 .f32) (main_arg3 : FVec F S4096x1024 .f32) (main_arg4 : FVec F S1x1024 .f32) : IVec S4096x3088 1 × IVec S1024x3088 1 × IVec S4096x1024 1 × IVec S1x1024 1 :=
  let main_v0 : FVec F S4096x3088 .f32 := Host.absf main_arg0
  let main_cst : FVec F S_ .f32 := constant S_ .f32 0x7F800000#32
  let main_v1 : FVec F S4096x3088 .f32 := broadcastInDim S4096x3088 ![] bcast_S_S4096x3088 main_cst
  let main_v2 : IVec S4096x3088 1 := cmpf .olt main_v0 main_v1
  let main_v3 : FVec F S1024x3088 .f32 := Host.absf main_arg1
  let main_cst_0 : FVec F S_ .f32 := constant S_ .f32 0x7F800000#32
  let main_v4 : FVec F S1024x3088 .f32 := broadcastInDim S1024x3088 ![] bcast_S_S1024x3088 main_cst_0
  let main_v5 : IVec S1024x3088 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S4096x3200 : Shape := ⟨2, ![4096, 3200]⟩
abbrev S16x256 : Shape := ⟨2, ![16, 256]⟩
abbrev S1x256 : Shape := ⟨2, ![1, 256]⟩
abbrev S1x512 : Shape := ⟨2, ![1, 512]⟩
abbrev S4096x512 : Shape := ⟨2, ![4096, 512]⟩
abbrev S4x64x128x64 : Shape := ⟨4, ![4, 64, 128, 64]⟩
abbrev S4096x1024 : Shape := ⟨2, ![4096, 1024]⟩
abbrev S16x4x64 : Shape := ⟨3, ![16, 4, 64]⟩
abbrev S_ : Shape := ⟨0, ![]⟩
abbrev S16x4x128 : Shape := ⟨3, ![16, 4, 128]⟩
abbrev S16x512 : Shape := ⟨2, ![16, 512]⟩
abbrev S128x512 : Shape := ⟨2, ![128, 512]⟩
abbrev S4x64 : Shape := ⟨2, ![4, 64]⟩
abbrev S4x128 : Shape := ⟨2, ![4, 128]⟩
abbrev S4x64x128x128 : Shape := ⟨4, ![4, 64, 128, 128]⟩
abbrev S4096x256 : Shape := ⟨2, ![4096, 256]⟩
abbrev S512x128 : Shape := ⟨2, ![512, 128]⟩
abbrev S512x256 : Shape := ⟨2, ![512, 256]⟩
abbrev S128x256 : Shape := ⟨2, ![128, 256]⟩
abbrev S2x8x128x128 : Shape := ⟨4, ![2, 8, 128, 128]⟩
abbrev S2x128x128 : Shape := ⟨3, ![2, 128, 128]⟩
abbrev S16x128x128 : Shape := ⟨3, ![16, 128, 128]⟩
abbrev S1x128 : Shape := ⟨2, ![1, 128]⟩
abbrev S16x64x64 : Shape := ⟨3, ![16, 64, 64]⟩
abbrev S8x64x128 : Shape := ⟨3, ![8, 64, 128]⟩
abbrev S128x128 : Shape := ⟨2, ![128, 128]⟩
abbrev S8x64x64 : Shape := ⟨3, ![8, 64, 64]⟩
abbrev S16x64x128 : Shape := ⟨3, ![16, 64, 128]⟩
abbrev S16x1x128 : Shape := ⟨3, ![16, 1, 128]⟩
abbrev S512 : Shape := ⟨1, ![512]⟩
abbrev S512x1 : Shape := ⟨2, ![512, 1]⟩
abbrev S128 : Shape := ⟨1, ![128]⟩
abbrev S1x128x128 : Shape := ⟨3, ![1, 128, 128]⟩
abbrev S1x1x128 : Shape := ⟨3, ![1, 1, 128]⟩
abbrev S16x128 : Shape := ⟨2, ![16, 128]⟩

abbrev nBuf : Space → Nat
  | .hbm => 31
  | .vmem => 38
  | .smem => 0
  | _ => 0

abbrev bufTy : (tb : Table) → Fin (tcTables nBuf tb) → BufTy
  | .hbm, ⟨0, _⟩ => ⟨S4096x3200, .f32⟩
  | .hbm, ⟨1, _⟩ => ⟨S16x256, .f32⟩
  | .hbm, ⟨2, _⟩ => ⟨S1x256, .f32⟩
  | .hbm, ⟨3, _⟩ => ⟨S1x512, .f32⟩
  | .hbm, ⟨4, _⟩ => ⟨S4096x512, .f32⟩
  | .hbm, ⟨5, _⟩ => ⟨S4x64x128x64, .f32⟩
  | .hbm, ⟨6, _⟩ => ⟨S4096x1024, .f32⟩
  | .hbm, ⟨7, _⟩ => ⟨S16x4x64, .f32⟩
  | .hbm, ⟨8, _⟩ => ⟨S_, .i32⟩
  | .hbm, ⟨9, _⟩ => ⟨S_, .f32⟩
  | .hbm, ⟨10, _⟩ => ⟨S16x4x128, .f32⟩
  | .hbm, ⟨11, _⟩ => ⟨S16x512, .f32⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S128x512, .bf16⟩
  | .hbm, ⟨16, _⟩ => ⟨S4x64, .f32⟩
  | .hbm, ⟨17, _⟩ => ⟨S_, .i32⟩
  | .hbm, ⟨18, _⟩ => ⟨S_, .f32⟩
  | .hbm, ⟨19, _⟩ => ⟨S4x128, .f32⟩
  | .hbm, ⟨20, _⟩ => ⟨S1x512, .f32⟩
  | .hbm, ⟨21, _⟩ => ⟨S_, .i32⟩
  | .hbm, ⟨22, _⟩ => ⟨S_, .f32⟩
  | .hbm, ⟨23, _⟩ => ⟨S4x64x128x128, .f32⟩
  | .hbm, ⟨24, _⟩ => ⟨S4096x256, .bf16⟩
  | .hbm, ⟨25, _⟩ => ⟨S4096x256, .bf16⟩
  | .hbm, ⟨26, _⟩ => ⟨S4096x512, .bf16⟩
  | .hbm, ⟨27, _⟩ => ⟨S4096x512, .bf16⟩
  | .hbm, ⟨28, _⟩ => ⟨S1x512, .f32⟩
  | .hbm, ⟨29, _⟩ => ⟨S4096x512, .bf16⟩
  | .hbm, ⟨30, _⟩ => ⟨S1x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x256, .f32⟩
  | .local _ .vmem, ⟨17, _⟩ => ⟨S512x256, .f32⟩
  | .local _ .vmem, ⟨18, _⟩ => ⟨S2x8x128x128, .f32⟩
  | .local _ .vmem, ⟨19, _⟩ => ⟨S2x8x128x128, .f32⟩
  | .local _ .vmem, ⟨20, _⟩ => ⟨S512x256, .f32⟩
  | .local _ .vmem, ⟨21, _⟩ => ⟨S512x256, .f32⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S1x256, .f32⟩
  | .local _ .vmem, ⟨31, _⟩ => ⟨S1x256, .f32⟩
  | .local _ .vmem, ⟨32, _⟩ => ⟨S512x256, .bf16⟩
  | .local _ .vmem, ⟨33, _⟩ => ⟨S512x256, .bf16⟩
  | .local _ .vmem, ⟨34, _⟩ => ⟨S1x256, .f32⟩
  | .local _ .vmem, ⟨35, _⟩ => ⟨S1x256, .f32⟩
  | .local _ .vmem, ⟨36, _⟩ => ⟨S2x128x128, .f32⟩
  | .local _ .vmem, ⟨37, _⟩ => ⟨S16x128x128, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_call3_v0 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c12_i32 : BitVec 32 := 12#32
  let v1 : BitVec 32 := Scalar.addi c12_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c14_i32 : BitVec 32 := 14#32
  let v1 : BitVec 32 := Scalar.addi c14_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c10_i32 : BitVec 32 := 10#32
  let v1 : BitVec 32 := Scalar.addi c10_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c24_i32 : BitVec 32 := 24#32
  let c0_i32 : BitVec 32 := 0#32
  ![v0.toNat, c24_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S4096x3200 : Shape := ⟨2, ![4096, 3200]⟩
abbrev S16x256 : Shape := ⟨2, ![16, 256]⟩
abbrev S1x256 : Shape := ⟨2, ![1, 256]⟩
abbrev S1x512 : Shape := ⟨2, ![1, 512]⟩
abbrev S4096x512 : Shape := ⟨2, ![4096, 512]⟩
abbrev S4x64x128x64 : Shape := ⟨4, ![4, 64, 128, 64]⟩
abbrev S4096x1024 : Shape := ⟨2, ![4096, 1024]⟩
abbrev S1x4096x3200 : Shape := ⟨3, ![1, 4096, 3200]⟩
abbrev S1x4096x256 : Shape := ⟨3, ![1, 4096, 256]⟩
abbrev S1x4096x512 : Shape := ⟨3, ![1, 4096, 512]⟩
abbrev S1x4096x16 : Shape := ⟨3, ![1, 4096, 16]⟩
abbrev S1x1x256 : Shape := ⟨3, ![1, 1, 256]⟩
abbrev S1x4096x4x128 : Shape := ⟨4, ![1, 4096, 4, 128]⟩
abbrev S1x4x4096x128 : Shape := ⟨4, ![1, 4, 4096, 128]⟩
abbrev S_ : Shape := ⟨0, ![]⟩
abbrev S1x4x4096 : Shape := ⟨3, ![1, 4, 4096]⟩
abbrev S1x4x4096x1 : Shape := ⟨4, ![1, 4, 4096, 1]⟩
abbrev S1x1x512 : Shape := ⟨3, ![1, 1, 512]⟩
abbrev S512 : Shape := ⟨1, ![512]⟩
abbrev S4x4096 : Shape := ⟨2, ![4, 4096]⟩
abbrev S64x4x64x128 : Shape := ⟨4, ![64, 4, 64, 128]⟩
abbrev S64x1x4x64x128 : Shape := ⟨5, ![64, 1, 4, 64, 128]⟩
abbrev S1x4096x4x64 : Shape := ⟨4, ![1, 4096, 4, 64]⟩
abbrev S1x4x4096x64 : Shape := ⟨4, ![1, 4, 4096, 64]⟩
abbrev S1x4x64x64x64 : Shape := ⟨5, ![1, 4, 64, 64, 64]⟩
abbrev S64x1x4x64x64 : Shape := ⟨5, ![64, 1, 4, 64, 64]⟩
abbrev S1x4x64x64x128 : Shape := ⟨5, ![1, 4, 64, 64, 128]⟩
abbrev S1x4x64x128 : Shape := ⟨4, ![1, 4, 64, 128]⟩
abbrev S1x1x4x64x128 : Shape := ⟨5, ![1, 1, 4, 64, 128]⟩
abbrev S1x1x4x64x64 : Shape := ⟨5, ![1, 1, 4, 64, 64]⟩
abbrev S1x4x64x64 : Shape := ⟨4, ![1, 4, 64, 64]⟩
abbrev S1x4x64x1x64 : Shape := ⟨5, ![1, 4, 64, 1, 64]⟩
abbrev S1x4x1x64x64 : Shape := ⟨5, ![1, 4, 1, 64, 64]⟩
abbrev S1x4x1x64 : Shape := ⟨4, ![1, 4, 1, 64]⟩
abbrev S1x4x64 : Shape := ⟨3, ![1, 4, 64]⟩
abbrev S1x4x64x1 : Shape := ⟨4, ![1, 4, 64, 1]⟩
abbrev S1x4x128x64 : Shape := ⟨4, ![1, 4, 128, 64]⟩
abbrev S4x64 : Shape := ⟨2, ![4, 64]⟩
abbrev S4x64x64 : Shape := ⟨3, ![4, 64, 64]⟩
abbrev S256 : Shape := ⟨1, ![256]⟩
abbrev S4096x256 : Shape := ⟨2, ![4096, 256]⟩
abbrev S4096x4x64 : Shape := ⟨3, ![4096, 4, 64]⟩
abbrev S4096x4x128 : Shape := ⟨3, ![4096, 4, 128]⟩
abbrev S1x4x128 : Shape := ⟨3, ![1, 4, 128]⟩

abbrev nBuf : Space → Nat
  | .hbm => 511
  | .vmem => 0
  | .smem => 0
  | _ => 0

abbrev hbmTy0_0 (i : Nat) : BufTy := match i % 128 with
  | 0 => ⟨S4096x3200, .f32⟩
  | 1 => ⟨S16x256, .f32⟩
  | 2 => ⟨S1x256, .f32⟩
  | 3 => ⟨S1x512, .f32⟩
  | 4 => ⟨S4096x512, .f32⟩
  | 5 => ⟨S4x64x128x64, .f32⟩
  | 6 => ⟨S4096x1024, .f32⟩
  | 7 => ⟨S1x4096x3200, .f32⟩
  | 8 => ⟨S1x4096x256, .f32⟩
  | 9 => ⟨S1x4096x256, .f32⟩
  | 10 => ⟨S1x4096x512, .f32⟩
  | 11 => ⟨S1x4096x16, .f32⟩
  | 12 => ⟨S1x4096x256, .f32⟩
  | 13 => ⟨S1x1x256, .f32⟩
  | 14 => ⟨S1x4096x256, .f32⟩
  | 15 => ⟨S1x4096x256, .f32⟩
  | 16 => ⟨S1x4096x512, .f32⟩
  | 17 => ⟨S1x4096x4x128, .f32⟩
  | 18 => ⟨S1x4x4096x128, .f32⟩
  | 19 => ⟨S4096x512, .f32⟩
  | 20 => ⟨S1x4096x512, .f32⟩
  | 21 => ⟨S1x4x4096x128, .f32⟩
  | 22 => ⟨S_, .f32⟩
  | 23 => ⟨S1x4x4096, .f32⟩
  | 24 => ⟨S1x4x4096x1, .f32⟩
  | 25 => ⟨S_, .f32⟩
  | 26 => ⟨S1x4x4096x1, .f32⟩
  | 27 => ⟨S1x4x4096x1, .f32⟩
  | 28 => ⟨S_, .f32⟩
  | 29 => ⟨S1x4x4096x1, .f32⟩
  | 30 => ⟨S1x4x4096x1, .f32⟩
  | 31 => ⟨S1x4x4096x1, .f32⟩
  | 32 => ⟨S1x4x4096x1, .f32⟩
  | 33 => ⟨S_, .f32⟩
  | 34 => ⟨S1x4x4096x1, .f32⟩
  | 35 => ⟨S1x4x4096x1, .f32⟩
  | 36 => ⟨S1x4x4096x128, .f32⟩
  | 37 => ⟨S1x4x4096x128, .f32⟩
  | 38 => ⟨S1x4096x4x128, .f32⟩
  | 39 => ⟨S1x4096x512, .f32⟩
  | 40 => ⟨S1x1x512, .f32⟩
  | 41 => ⟨S1x4096x512, .f32⟩
  | 42 => ⟨S1x4096x512, .f32⟩
  | 43 => ⟨S1x4096x512, .f32⟩
  | 44 => ⟨S1x4096x512, .f32⟩
  | 45 => ⟨S_, .f32⟩
  | 46 => ⟨S1x4096x512, .f32⟩
  | 47 => ⟨S1x4096x512, .f32⟩
  | 48 => ⟨S_, .f32⟩
  | 49 => ⟨S1x4096x512, .f32⟩
  | 50 => ⟨S1x4096x512, .f32⟩
  | 51 => ⟨S_, .f32⟩
  | 52 => ⟨S1x4096x512, .f32⟩
  | 53 => ⟨S1x4096x512, .f32⟩
  | 54 => ⟨S1x4096x512, .f32⟩
  | 55 => ⟨S1x4096x512, .f32⟩
  | 56 => ⟨S1x4096x512, .f32⟩
  | 57 => ⟨S4096x512, .f32⟩
  | 58 => ⟨S1x4096x512, .f32⟩
  | 59 => ⟨S1x4096x512, .f32⟩
  | 60 => ⟨S1x4096x512, .f32⟩
  | 61 => ⟨S1x4096x512, .f32⟩
  | 62 => ⟨S1x4096x512, .f32⟩
  | 63 => ⟨S1x4096x512, .f32⟩
  | 64 => ⟨S1x4096x512, .f32⟩
  | 65 => ⟨S1x4096x512, .f32⟩
  | 66 => ⟨S_, .f32⟩
  | 67 => ⟨S1x512, .f32⟩
  | 68 => ⟨S1x1x512, .f32⟩
  | 69 => ⟨S1x4096x512, .f32⟩
  | 70 => ⟨S1x4096x512, .f32⟩
  | 71 => ⟨S_, .f32⟩
  | 72 => ⟨S512, .f32⟩
  | 73 => ⟨S1x512, .f32⟩
  | 74 => ⟨S1x4096x4x128, .f32⟩
  | 75 => ⟨S1x4x4096x128, .f32⟩
  | 76 => ⟨S1x4x4096x128, .f32⟩
  | 77 => ⟨S_, .f32⟩
  | 78 => ⟨S1x4x4096, .f32⟩
  | 79 => ⟨S1x4x4096x1, .f32⟩
  | 80 => ⟨S1x4x4096x128, .f32⟩
  | 81 => ⟨S1x4x4096x128, .f32⟩
  | 82 => ⟨S1x4x4096x1, .f32⟩
  | 83 => ⟨S_, .f32⟩
  | 84 => ⟨S1x4x4096x1, .f32⟩
  | 85 => ⟨S1x4x4096x1, .f32⟩
  | 86 => ⟨S_, .f32⟩
  | 87 => ⟨S4x4096, .f32⟩
  | 88 => ⟨S1x4x4096, .f32⟩
  | 89 => ⟨S1x4x4096x128, .f32⟩
  | 90 => ⟨S1x4x4096x128, .f32⟩
  | 91 => ⟨S1x4x4096x128, .f32⟩
  | 92 => ⟨S1x4x4096x128, .f32⟩
  | 93 => ⟨S1x4x4096x128, .f32⟩
  | 94 => ⟨S64x4x64x128, .f32⟩
  | 95 => ⟨S64x1x4x64x128, .f32⟩
  | 96 => ⟨S1x4096x4x64, .f32⟩
  | 97 => ⟨S1x4x4096x64, .f32⟩
  | 98 => ⟨S1x4x64x64x64, .f32⟩
  | 99 => ⟨S64x1x4x64x64, .f32⟩
  | 100 => ⟨S1x4096x4x64, .f32⟩
  | 101 => ⟨S1x4x4096x64, .f32⟩
  | 102 => ⟨S1x4x64x64x64, .f32⟩
  | 103 => ⟨S64x1x4x64x64, .f32⟩
  | 104 => ⟨S1x4096x4x128, .f32⟩
  | 105 => ⟨S1x4x4096x128, .f32⟩
  | 106 => ⟨S1x4x64x64x128, .f32⟩
  | 107 => ⟨S64x1x4x64x128, .f32⟩
  | 108 => ⟨S1x4096x4x64, .f32⟩
  | 109 => ⟨S1x4x4096x64, .f32⟩
  | 110 => ⟨S1x4x64x64x64, .f32⟩
  | 111 => ⟨S64x1x4x64x64, .f32⟩
  | 112 => ⟨S_, .f32⟩
  | 113 => ⟨S1x4x64x128, .f32⟩
  | 114 => ⟨S1x4x64x64x128, .f32⟩
  | 115 => ⟨S64x1x4x64x128, .f32⟩
  | 116 => ⟨S_, .f32⟩
  | 117 => ⟨S64x1x4x64x64, .f32⟩
  | 118 => ⟨S_, .f32⟩
  | 119 => ⟨S64x1x4x64x64, .f32⟩
  | 120 => ⟨S_, .f32⟩
  | 121 => ⟨S64x1x4x64x128, .f32⟩
  | 122 => ⟨S_, .f32⟩
  | 123 => ⟨S64x1x4x64x64, .f32⟩
  | 124 => ⟨S_, .i32⟩
  | 125 => ⟨S64x1x4x64x128, .f32⟩
  | 126 => ⟨S64x1x4x64x64, .f32⟩
  | 127 => ⟨S64x1x4x64x64, .f32⟩
  | _ => ⟨S4096x3200, .f32⟩

abbrev hbmTy0_1 (i : Nat) : BufTy := match i % 128 with
  | 0 => ⟨S64x1x4x64x128, .f32⟩
  | 1 => ⟨S64x1x4x64x64, .f32⟩
  | 2 => ⟨S64x1x4x64x128, .f32⟩
  | 3 => ⟨S_, .i32⟩
  | 4 => ⟨S1x4x64x128, .f32⟩
  | 5 => ⟨S64x1x4x64x64, .f32⟩
  | 6 => ⟨S64x1x4x64x64, .f32⟩
  | 7 => ⟨S64x1x4x64x128, .f32⟩
  | 8 => ⟨S64x1x4x64x64, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S1x1x4x64x128, .f32⟩
  | 20 => ⟨S1x4x64x128, .f32⟩
  | 21 => ⟨S_, .i32⟩
  | 22 => ⟨S_, .i32⟩
  | 23 => ⟨S_, .i32⟩
  | 24 => ⟨S_, .i32⟩
  | 25 => ⟨S1x1x4x64x64, .f32⟩
  | 26 => ⟨S1x4x64x64, .f32⟩
  | 27 => ⟨S_, .i32⟩
  | 28 => ⟨S_, .i32⟩
  | 29 => ⟨S_, .i32⟩
  | 30 => ⟨S_, .i32⟩
  | 31 => ⟨S1x1x4x64x64, .f32⟩
  | 32 => ⟨S1x4x64x64, .f32⟩
  | 33 => ⟨S_, .i32⟩
  | 34 => ⟨S_, .i32⟩
  | 35 => ⟨S_, .i32⟩
  | 36 => ⟨S_, .i32⟩
  | 37 => ⟨S1x1x4x64x128, .f32⟩
  | 38 => ⟨S1x4x64x128, .f32⟩
  | 39 => ⟨S_, .i32⟩
  | 40 => ⟨S_, .i32⟩
  | 41 => ⟨S_, .i32⟩
  | 42 => ⟨S_, .i32⟩
  | 43 => ⟨S1x1x4x64x64, .f32⟩
  | 44 => ⟨S1x4x64x64, .f32⟩
  | 45 => ⟨S_, .i32⟩
  | 46 => ⟨S_, .i32⟩
  | 47 => ⟨S_, .i32⟩
  | 48 => ⟨S_, .i32⟩
  | 49 => ⟨S1x1x4x64x128, .f32⟩
  | 50 => ⟨S1x4x64x128, .f32⟩
  | 51 => ⟨S_, .f32⟩
  | 52 => ⟨S1x4x64x64, .f32⟩
  | 53 => ⟨S1x4x64x64, .f32⟩
  | 54 => ⟨S1x4x64x64, .f32⟩
  | 55 => ⟨S_, .f32⟩
  | 56 => ⟨S1x4x64x64, .f32⟩
  | 57 => ⟨S1x4x64x64, .f32⟩
  | 58 => ⟨S1x4x64x64, .f32⟩
  | 59 => ⟨S1x4x64x64, .f32⟩
  | 60 => ⟨S1x4x64x64, .i1⟩
  | 61 => ⟨S1x4x64x64, .f32⟩
  | 62 => ⟨S1x4x64x64, .f32⟩
  | 63 => ⟨S1x4x64x64, .f32⟩
  | 64 => ⟨S1x4x64x64, .f32⟩
  | 65 => ⟨S1x4x64x64, .f32⟩
  | 66 => ⟨S1x4x64x64, .f32⟩
  | 67 => ⟨S1x4x64x64, .f32⟩
  | 68 => ⟨S1x4x64x64, .f32⟩
  | 69 => ⟨S_, .f32⟩
  | 70 => ⟨S1x4x64x64, .f32⟩
  | 71 => ⟨S1x4x64x64, .i1⟩
  | 72 => ⟨S_, .f32⟩
  | 73 => ⟨S1x4x64x64, .f32⟩
  | 74 => ⟨S1x4x64x64, .f32⟩
  | 75 => ⟨S_, .f32⟩
  | 76 => ⟨S1x4x64x64, .f32⟩
  | 77 => ⟨S1x4x64x64, .i1⟩
  | 78 => ⟨S_, .f32⟩
  | 79 => ⟨S1x4x64x64, .f32⟩
  | 80 => ⟨S1x4x64x64, .f32⟩
  | 81 => ⟨S1x4x64x64, .f32⟩
  | 82 => ⟨S1x4x64x64, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S_, .f32⟩
  | 90 => ⟨S1x4x64x64, .f32⟩
  | 91 => ⟨S1x4x64x64, .i1⟩
  | 92 => ⟨S_, .f32⟩
  | 93 => ⟨S1x4x64x64, .f32⟩
  | 94 => ⟨S1x4x64x64, .f32⟩
  | 95 => ⟨S1x4x64x64, .f32⟩
  | 96 => ⟨S1x4x64x64, .f32⟩
  | 97 => ⟨S1x4x64x64, .f32⟩
  | 98 => ⟨S_, .f32⟩
  | 99 => ⟨S1x4x64x64, .f32⟩
  | 100 => ⟨S1x4x64x64, .f32⟩
  | 101 => ⟨S1x4x64x64, .f32⟩
  | 102 => ⟨S_, .f32⟩
  | 103 => ⟨S1x4x64x64, .f32⟩
  | 104 => ⟨S1x4x64x64, .f32⟩
  | 105 => ⟨S_, .f32⟩
  | 106 => ⟨S_, .f32⟩
  | 107 => ⟨S1x4x64x64, .f32⟩
  | 108 => ⟨S1x4x64x1x64, .f32⟩
  | 109 => ⟨S1x4x1x64x64, .f32⟩
  | 110 => ⟨S1x4x64x64x64, .f32⟩
  | 111 => ⟨S1x4x64x64x64, .f32⟩
  | 112 => ⟨S1x4x64x64x64, .f32⟩
  | 113 => ⟨S1x4x64x64x64, .f32⟩
  | 114 => ⟨S_, .f32⟩
  | 115 => ⟨S1x4x64x64x64, .f32⟩
  | 116 => ⟨S1x4x64x64x64, .i1⟩
  | 117 => ⟨S1x4x64x64x64, .f32⟩
  | 118 => ⟨S1x4x64x64x64, .f32⟩
  | 119 => ⟨S1x4x64x1x64, .f32⟩
  | 120 => ⟨S1x4x1x64x64, .f32⟩
  | 121 => ⟨S1x4x64x64x64, .f32⟩
  | 122 => ⟨S1x4x64x64x64, .f32⟩
  | 123 => ⟨S1x4x64x64x64, .f32⟩
  | 124 => ⟨S1x4x64x64x64, .f32⟩
  | 125 => ⟨S_, .f32⟩
  | 126 => ⟨S1x4x64x64, .f32⟩
  | 127 => ⟨S1x4x64x128, .f32⟩
  | _ => ⟨S4096x3200, .f32⟩

abbrev hbmTy0_2 (i : Nat) : BufTy := match i % 128 with
  | 0 => ⟨S1x4x64x64, .f32⟩
  | 1 => ⟨S1x4x64x64, .f32⟩
  | 2 => ⟨S1x4x64x128, .f32⟩
  | 3 => ⟨S1x4x64x128, .f32⟩
  | 4 => ⟨S1x4x1x64, .f32⟩
  | 5 => ⟨S1x4x64, .f32⟩
  | 6 => ⟨S1x4x64, .f32⟩
  | 7 => ⟨S1x4x64x1, .f32⟩
  | 8 => ⟨S1x4x64x128, .f32⟩
  | 9 => ⟨S1x4x64x128, .f32⟩
  | 10 => ⟨S1x4x64x64, .f32⟩
  | 11 => ⟨S1x4x64x64, .f32⟩
  | 12 => ⟨S1x4x64x64, .f32⟩
  | 13 => ⟨S1x4x64x64, .f32⟩
  | 14 => ⟨S1x4x64x128, .f32⟩
  | 15 => ⟨S1x4x64x128, .f32⟩
  | 16 => ⟨S1x4x128x64, .f32⟩
  | 17 => ⟨S1x4x64x128, .f32⟩
  | 18 => ⟨S1x4x64x64, .f32⟩
  | 19 => ⟨S1x4x64x64, .f32⟩
  | 20 => ⟨S1x4x64x64, .f32⟩
  | 21 => ⟨S1x4x64x64, .f32⟩
  | 22 => ⟨S1x4x64x64, .f32⟩
  | 23 => ⟨S_, .f32⟩
  | 24 => ⟨S1x4x64, .f32⟩
  | 25 => ⟨S1x4x1x64, .f32⟩
  | 26 => ⟨S1x4x64x64, .f32⟩
  | 27 => ⟨S1x4x64x128, .f32⟩
  | 28 => ⟨S1x4x64x128, .f32⟩
  | 29 => ⟨S1x4x64x128, .f32⟩
  | 30 => ⟨S_, .f32⟩
  | 31 => ⟨S1x4x64, .f32⟩
  | 32 => ⟨S1x4x64x1, .f32⟩
  | 33 => ⟨S_, .f32⟩
  | 34 => ⟨S4x64, .f32⟩
  | 35 => ⟨S1x4x64, .f32⟩
  | 36 => ⟨S1x4x64, .f32⟩
  | 37 => ⟨S1x4x1x64, .f32⟩
  | 38 => ⟨S1x4x1x64, .f32⟩
  | 39 => ⟨S_, .f32⟩
  | 40 => ⟨S1x4x64x64, .f32⟩
  | 41 => ⟨S1x4x64x64, .f32⟩
  | 42 => ⟨S1x4x128x64, .f32⟩
  | 43 => ⟨S1x4x64x128, .f32⟩
  | 44 => ⟨S1x4x64x128, .f32⟩
  | 45 => ⟨S1x4x64x64, .f32⟩
  | 46 => ⟨S1x4x64x64, .f32⟩
  | 47 => ⟨S1x4x64x64, .f32⟩
  | 48 => ⟨S1x4x64x64, .f32⟩
  | 49 => ⟨S1x4x64x64, .f32⟩
  | 50 => ⟨S1x4x128x64, .f32⟩
  | 51 => ⟨S1x4x64x128, .f32⟩
  | 52 => ⟨S1x4x64x128, .f32⟩
  | 53 => ⟨S1x4x64x64, .f32⟩
  | 54 => ⟨S1x4x64x64x64, .f32⟩
  | 55 => ⟨S1x4x64x64x64, .f32⟩
  | 56 => ⟨S1x4x64x64x64, .f32⟩
  | 57 => ⟨S1x4x64x64x64, .f32⟩
  | 58 => ⟨S1x4x64x64x64, .f32⟩
  | 59 => ⟨S_, .f32⟩
  | 60 => ⟨S1x4x64x64, .f32⟩
  | 61 => ⟨S1x4x1x64x64, .f32⟩
  | 62 => ⟨S1x4x64x64x64, .f32⟩
  | 63 => ⟨S1x4x64x64x64, .f32⟩
  | 64 => ⟨S_, .f32⟩
  | 65 => ⟨S1x4x64x64, .f32⟩
  | 66 => ⟨S1x4x64x1x64, .f32⟩
  | 67 => ⟨S_, .f32⟩
  | 68 => ⟨S4x64x64, .f32⟩
  | 69 => ⟨S1x4x64x64, .f32⟩
  | 70 => ⟨S1x4x64x64, .f32⟩
  | 71 => ⟨S_, .f32⟩
  | 72 => ⟨S4x64x64, .f32⟩
  | 73 => ⟨S1x4x64x64, .f32⟩
  | 74 => ⟨S1x4x64x64, .f32⟩
  | 75 => ⟨S1x4x64x64x64, .f32⟩
  | 76 => ⟨S1x4x64x64x64, .f32⟩
  | 77 => ⟨S_, .f32⟩
  | 78 => ⟨S1x4x64x64x64, .f32⟩
  | 79 => ⟨S1x4x64x64x64, .f32⟩
  | 80 => ⟨S1x4x64x64x64, .f32⟩
  | 81 => ⟨S1x4x64x64x64, .f32⟩
  | 82 => ⟨S1x4x64x64x64, .f32⟩
  | 83 => ⟨S_, .f32⟩
  | 84 => ⟨S1x4x64x64, .f32⟩
  | 85 => ⟨S1x4x64x1x64, .f32⟩
  | 86 => ⟨S1x4x64x64x64, .f32⟩
  | 87 => ⟨S_, .f32⟩
  | 88 => ⟨S1x4x64x64, .f32⟩
  | 89 => ⟨S1x4x1x64x64, .f32⟩
  | 90 => ⟨S_, .f32⟩
  | 91 => ⟨S4x64x64, .f32⟩
  | 92 => ⟨S1x4x64x64, .f32⟩
  | 93 => ⟨S1x4x64x64, .f32⟩
  | 94 => ⟨S_, .f32⟩
  | 95 => ⟨S4x64x64, .f32⟩
  | 96 => ⟨S1x4x64x64, .f32⟩
  | 97 => ⟨S1x4x64x64, .f32⟩
  | 98 => ⟨S_, .f32⟩
  | 99 => ⟨S_, .f32⟩
  | 100 => ⟨S1x4x64x64, .f32⟩
  | 101 => ⟨S_, .f32⟩
  | 102 => ⟨S1x4x64x64, .f32⟩
  | 103 => ⟨S1x4x64x64, .f32⟩
  | 104 => ⟨S1x4x64x64, .f32⟩
  | 105 => ⟨S1x4x64x64, .f32⟩
  | 106 => ⟨S1x4x64x64, .f32⟩
  | 107 => ⟨S_, .f32⟩
  | 108 => ⟨S1x4x64x64, .f32⟩
  | 109 => ⟨S1x4x64x64, .f32⟩
  | 110 => ⟨S1x1x4x64x64, .f32⟩
  | 111 => ⟨S_, .i32⟩
  | 112 => ⟨S_, .i32⟩
  | 113 => ⟨S_, .i32⟩
  | 114 => ⟨S_, .i32⟩
  | 115 => ⟨S64x1x4x64x64, .f32⟩
  | 116 => ⟨S1x1x4x64x64, .f32⟩
  | 117 => ⟨S_, .i32⟩
  | 118 => ⟨S_, .i32⟩
  | 119 => ⟨S_, .i32⟩
  | 120 => ⟨S_, .i32⟩
  | 121 => ⟨S64x1x4x64x64, .f32⟩
  | 122 => ⟨S1x1x4x64x128, .f32⟩
  | 123 => ⟨S_, .i32⟩
  | 124 => ⟨S_, .i32⟩
  | 125 => ⟨S_, .i32⟩
  | 126 => ⟨S_, .i32⟩
  | 127 => ⟨S64x1x4x64x128, .f32⟩
  | _ => ⟨S4096x3200, .f32⟩

abbrev hbmTy0_3 (i : Nat) : BufTy := match i % 128 with
  | 0 => ⟨S1x1x4x64x64, .f32⟩
  | 1 => ⟨S_, .i32⟩
  | 2 => ⟨S_, .i32⟩
  | 3 => ⟨S_, .i32⟩
  | 4 => ⟨S_, .i32⟩
  | 5 => ⟨S64x1x4x64x64, .f32⟩
  | 6 => ⟨S_, .i32⟩
  | 7 => ⟨S_, .i32⟩
  | 8 => ⟨S1x4x64x64x64, .f32⟩
  | 9 => ⟨S1x4x4096x64, .f32⟩
  | 10 => ⟨S1x4096x4x64, .f32⟩
  | 11 => ⟨S1x4096x256, .f32⟩
  | 12 => ⟨S1x4x64x64x64, .f32⟩
  | 13 => ⟨S1x4x4096x64, .f32⟩
  | 14 => ⟨S1x4096x4x64, .f32⟩
  | 15 => ⟨S1x4096x256, .f32⟩
  | 16 => ⟨S1x4x64x64x128, .f32⟩
  | 17 => ⟨S1x4x4096x128, .f32⟩
  | 18 => ⟨S1x4096x4x128, .f32⟩
  | 19 => ⟨S1x4096x512, .f32⟩
  | 20 => ⟨S1x4x64x64x64, .f32⟩
  | 21 => ⟨S1x4x4096x64, .f32⟩
  | 22 => ⟨S1x4096x4x64, .f32⟩
  | 23 => ⟨S1x4096x256, .f32⟩
  | 24 => ⟨S1x4096x512, .f32⟩
  | 25 => ⟨S1x4096x4x128, .f32⟩
  | 26 => ⟨S1x4x4096x128, .f32⟩
  | 27 => ⟨S4096x512, .f32⟩
  | 28 => ⟨S1x4096x512, .f32⟩
  | 29 => ⟨S1x4x4096x128, .f32⟩
  | 30 => ⟨S_, .f32⟩
  | 31 => ⟨S1x4x4096, .f32⟩
  | 32 => ⟨S1x4x4096x1, .f32⟩
  | 33 => ⟨S_, .f32⟩
  | 34 => ⟨S1x4x4096x1, .f32⟩
  | 35 => ⟨S1x4x4096x1, .f32⟩
  | 36 => ⟨S_, .f32⟩
  | 37 => ⟨S1x4x4096x1, .f32⟩
  | 38 => ⟨S1x4x4096x1, .f32⟩
  | 39 => ⟨S1x4x4096x1, .f32⟩
  | 40 => ⟨S1x4x4096x1, .f32⟩
  | 41 => ⟨S_, .f32⟩
  | 42 => ⟨S1x4x4096x1, .f32⟩
  | 43 => ⟨S1x4x4096x1, .f32⟩
  | 44 => ⟨S1x4x4096x128, .f32⟩
  | 45 => ⟨S1x4x4096x128, .f32⟩
  | 46 => ⟨S1x4096x4x128, .f32⟩
  | 47 => ⟨S1x4096x512, .f32⟩
  | 48 => ⟨S1x1x512, .f32⟩
  | 49 => ⟨S1x4096x512, .f32⟩
  | 50 => ⟨S1x4096x512, .f32⟩
  | 51 => ⟨S1x4096x512, .f32⟩
  | 52 => ⟨S1x4096x512, .f32⟩
  | 53 => ⟨S_, .f32⟩
  | 54 => ⟨S1x4096x512, .f32⟩
  | 55 => ⟨S1x4096x512, .f32⟩
  | 56 => ⟨S_, .f32⟩
  | 57 => ⟨S1x4096x512, .f32⟩
  | 58 => ⟨S1x4096x512, .f32⟩
  | 59 => ⟨S_, .f32⟩
  | 60 => ⟨S1x4096x512, .f32⟩
  | 61 => ⟨S1x4096x512, .f32⟩
  | 62 => ⟨S1x4096x512, .f32⟩
  | 63 => ⟨S1x4096x512, .f32⟩
  | 64 => ⟨S1x4096x512, .f32⟩
  | 65 => ⟨S4096x512, .f32⟩
  | 66 => ⟨S1x4096x512, .f32⟩
  | 67 => ⟨S1x4096x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S_, .f32⟩
  | 75 => ⟨S1x512, .f32⟩
  | 76 => ⟨S1x1x512, .f32⟩
  | 77 => ⟨S1x4096x512, .f32⟩
  | 78 => ⟨S1x4096x512, .f32⟩
  | 79 => ⟨S_, .f32⟩
  | 80 => ⟨S512, .f32⟩
  | 81 => ⟨S1x512, .f32⟩
  | 82 => ⟨S1x4096x4x128, .f32⟩
  | 83 => ⟨S1x4x4096x128, .f32⟩
  | 84 => ⟨S1x4x4096x128, .f32⟩
  | 85 => ⟨S_, .f32⟩
  | 86 => ⟨S1x4x4096, .f32⟩
  | 87 => ⟨S1x4x4096x1, .f32⟩
  | 88 => ⟨S1x4x4096x128, .f32⟩
  | 89 => ⟨S1x4x4096x128, .f32⟩
  | 90 => ⟨S1x4x4096x1, .f32⟩
  | 91 => ⟨S_, .f32⟩
  | 92 => ⟨S1x4x4096x1, .f32⟩
  | 93 => ⟨S1x4x4096x1, .f32⟩
  | 94 => ⟨S_, .f32⟩
  | 95 => ⟨S4x4096, .f32⟩
  | 96 => ⟨S1x4x4096, .f32⟩
  | 97 => ⟨S1x4x4096x128, .f32⟩
  | 98 => ⟨S1x4x4096x128, .f32⟩
  | 99 => ⟨S1x4x4096x128, .f32⟩
  | 100 => ⟨S1x4x4096x128, .f32⟩
  | 101 => ⟨S1x4x4096x128, .f32⟩
  | 102 => ⟨S_, .f32⟩
  | 103 => ⟨S1x256, .f32⟩
  | 104 => ⟨S1x1x256, .f32⟩
  | 105 => ⟨S_, .f32⟩
  | 106 => ⟨S256, .f32⟩
  | 107 => ⟨S1x256, .f32⟩
  | 108 => ⟨S4096x256, .f32⟩
  | 109 => ⟨S4096x256, .bf16⟩
  | 110 => ⟨S4096x256, .f32⟩
  | 111 => ⟨S4096x256, .bf16⟩
  | 112 => ⟨S4096x512, .f32⟩
  | 113 => ⟨S4096x512, .bf16⟩
  | 114 => ⟨S4096x512, .f32⟩
  | 115 => ⟨S4096x512, .bf16⟩
  | 116 => ⟨S4096x4x64, .f32⟩
  | 117 => ⟨S_, .i32⟩
  | 118 => ⟨S_, .f32⟩
  | 119 => ⟨S4096x4x128, .f32⟩
  | 120 => ⟨S4096x512, .f32⟩
  | 121 => ⟨S4096x512, .bf16⟩
  | 122 => ⟨S1x4x64, .f32⟩
  | 123 => ⟨S_, .i32⟩
  | 124 => ⟨S_, .f32⟩
  | 125 => ⟨S1x4x128, .f32⟩
  | 126 => ⟨S1x512, .f32⟩
  | _ => ⟨S4096x3200, .f32⟩

abbrev hbmTy (i : Nat) : BufTy := match i / 128 with
  | 0 => hbmTy0_0 i
  | 1 => hbmTy0_1 i
  | 2 => hbmTy0_2 i
  | 3 => hbmTy0_3 i
  | _ => ⟨S4096x3200, .f32⟩

abbrev bufTy : (tb : Table) → Fin (tcTables nBuf tb) → BufTy
  | .hbm, ⟨i, _⟩ => hbmTy i
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v32_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v32_1 : Ref sig .tc := ⟨.hbm, 54, rfl⟩
abbrev main_v32_0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_8 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_9 : Ref sig .tc := ⟨.hbm, 116, rfl⟩
abbrev main_v84 : Ref sig .tc := ⟨.hbm, 117, rfl⟩
abbrev main_cst_10 : Ref sig .tc := ⟨.hbm, 118, rfl⟩
abbrev main_v85 : Ref sig .tc := ⟨.hbm, 119, rfl⟩
abbrev main_cst_11 : Ref sig .tc := ⟨.hbm, 120, rfl⟩
abbrev main_v86 : Ref sig .tc := ⟨.hbm, 121, rfl⟩
abbrev main_cst_12 : Ref sig .tc := ⟨.hbm, 122, rfl⟩
abbrev main_v87 : Ref sig .tc := ⟨.hbm, 123, rfl⟩
abbrev main_c : Ref sig .tc := ⟨.hbm, 124, rfl⟩
abbrev main_v88_0 : Ref sig .tc := ⟨.hbm, 125, rfl⟩
abbrev main_v88_1 : Ref sig .tc := ⟨.hbm, 126, rfl⟩
abbrev main_v88_2 : Ref sig .tc := ⟨.hbm, 127, rfl⟩
abbrev main_v88_3 : Ref sig .tc := ⟨.hbm, 128, rfl⟩
abbrev main_v88_4 : Ref sig .tc := ⟨.hbm, 129, rfl⟩
abbrev main_v88_5 : Ref sig .tc := ⟨.hbm, 130, rfl⟩
abbrev main_v88_6 : Ref sig .tc := ⟨.hbm, 131, rfl⟩
abbrev main_v88_7 : Ref sig .tc := ⟨.hbm, 132, rfl⟩
abbrev main_v88_8 : Ref sig .tc := ⟨.hbm, 133, rfl⟩
abbrev main_v88_9 : Ref sig .tc := ⟨.hbm, 134, rfl⟩
abbrev main_v88_10 : Ref sig .tc := ⟨.hbm, 135, rfl⟩
abbrev main_v88_11 : Ref sig .tc := ⟨.hbm, 136, rfl⟩
abbrev main_while0c_c_37 : Ref sig .tc := ⟨.hbm, 137, rfl⟩
abbrev main_while0c_v178 : Ref sig .tc := ⟨.hbm, 138, rfl⟩
abbrev main_while0b_c_37 : Ref sig .tc := ⟨.hbm, 139, rfl⟩
abbrev main_while0b_v178 : Ref sig .tc := ⟨.hbm, 140, rfl⟩
abbrev main_while0b_c_38 : Ref sig .tc := ⟨.hbm, 141, rfl⟩
abbrev main_while0b_v179 : Ref sig .tc := ⟨.hbm, 142, rfl⟩
abbrev main_while0b_call2_c : Ref sig .tc := ⟨.hbm, 143, rfl⟩
abbrev main_while0b_call2_c_0 : Ref sig .tc := ⟨.hbm, 144, rfl⟩
abbrev main_while0b_call2_c_1 : Ref sig .tc := ⟨.hbm, 145, rfl⟩
abbrev main_while0b_call2_c_2 : Ref sig .tc := ⟨.hbm, 146, rfl⟩
abbrev main_while0b_call2_v0 : Ref sig .tc := ⟨.hbm, 147, rfl⟩
abbrev main_while0b_v180 : Ref sig .tc := ⟨.hbm, 148, rfl⟩
abbrev main_while0b_call3_c : Ref sig .tc := ⟨.hbm, 149, rfl⟩
abbrev main_while0b_call3_c_0 : Ref sig .tc := ⟨.hbm, 150, rfl⟩
abbrev main_while0b_call3_c_1 : Ref sig .tc := ⟨.hbm, 151, rfl⟩
abbrev main_while0b_call3_c_2 : Ref sig .tc := ⟨.hbm, 152, rfl⟩
abbrev main_while0b_call3_v0 : Ref sig .tc := ⟨.hbm, 153, rfl⟩
abbrev main_while0b_v181 : Ref sig .tc := ⟨.hbm, 154, rfl⟩
abbrev main_while0b_call4_c : Ref sig .tc := ⟨.hbm, 155, rfl⟩
abbrev main_while0b_call4_c_0 : Ref sig .tc := ⟨.hbm, 156, rfl⟩
abbrev main_while0b_call4_c_1 : Ref sig .tc := ⟨.hbm, 157, rfl⟩
abbrev main_while0b_call4_c_2 : Ref sig .tc := ⟨.hbm, 158, rfl⟩
abbrev main_while0b_call4_v0 : Ref sig .tc := ⟨.hbm, 159, rfl⟩
abbrev main_while0b_v182 : Ref sig .tc := ⟨.hbm, 160, rfl⟩
abbrev main_while0b_call5_c : Ref sig .tc := ⟨.hbm, 161, rfl⟩
abbrev main_while0b_call5_c_0 : Ref sig .tc := ⟨.hbm, 162, rfl⟩
abbrev main_while0b_call5_c_1 : Ref sig .tc := ⟨.hbm, 163, rfl⟩
abbrev main_while0b_call5_c_2 : Ref sig .tc := ⟨.hbm, 164, rfl⟩
abbrev main_while0b_call5_v0 : Ref sig .tc := ⟨.hbm, 165, rfl⟩
abbrev main_while0b_v183 : Ref sig .tc := ⟨.hbm, 166, rfl⟩
abbrev main_while0b_call6_c : Ref sig .tc := ⟨.hbm, 167, rfl⟩
abbrev main_while0b_call6_c_0 : Ref sig .tc := ⟨.hbm, 168, rfl⟩
abbrev main_while0b_call6_c_1 : Ref sig .tc := ⟨.hbm, 169, rfl⟩
abbrev main_while0b_call6_c_2 : Ref sig .tc := ⟨.hbm, 170, rfl⟩
abbrev main_while0b_call6_v0 : Ref sig .tc := ⟨.hbm, 171, rfl⟩
abbrev main_while0b_v184 : Ref sig .tc := ⟨.hbm, 172, rfl⟩
abbrev main_while0b_call7_c : Ref sig .tc := ⟨.hbm, 173, rfl⟩
abbrev main_while0b_call7_c_0 : Ref sig .tc := ⟨.hbm, 174, rfl⟩
abbrev main_while0b_call7_c_1 : Ref sig .tc := ⟨.hbm, 175, rfl⟩
abbrev main_while0b_call7_c_2 : Ref sig .tc := ⟨.hbm, 176, rfl⟩
abbrev main_while0b_call7_v0 : Ref sig .tc := ⟨.hbm, 177, rfl⟩
abbrev main_while0b_v185 : Ref sig .tc := ⟨.hbm, 178, rfl⟩
abbrev main_while0b_cst_39 : Ref sig .tc := ⟨.hbm, 179, rfl⟩
abbrev main_while0b_v186 : Ref sig .tc := ⟨.hbm, 180, rfl⟩
abbrev main_while0b_v187 : Ref sig .tc := ⟨.hbm, 181, rfl⟩
abbrev main_while0b_v188 : Ref sig .tc := ⟨.hbm, 182, rfl⟩
abbrev main_while0b_cst_40 : Ref sig .tc := ⟨.hbm, 183, rfl⟩
abbrev main_while0b_v189 : Ref sig .tc := ⟨.hbm, 184, rfl⟩
abbrev main_while0b_v190 : Ref sig .tc := ⟨.hbm, 185, rfl⟩
abbrev main_while0b_v191 : Ref sig .tc := ⟨.hbm, 186, rfl⟩
abbrev main_while0b_v192 : Ref sig .tc := ⟨.hbm, 187, rfl⟩
abbrev main_while0b_v193 : Ref sig .tc := ⟨.hbm, 188, rfl⟩
abbrev main_while0b_v194 : Ref sig .tc := ⟨.hbm, 189, rfl⟩
abbrev main_while0b_v195 : Ref sig .tc := ⟨.hbm, 190, rfl⟩
abbrev main_while0b_v196 : Ref sig .tc := ⟨.hbm, 191, rfl⟩
abbrev main_while0b_v197 : Ref sig .tc := ⟨.hbm, 192, rfl⟩
abbrev main_while0b_v198 : Ref sig .tc := ⟨.hbm, 193, rfl⟩
abbrev main_while0b_v199 : Ref sig .tc := ⟨.hbm, 194, rfl⟩
abbrev main_while0b_v200 : Ref sig .tc := ⟨.hbm, 195, rfl⟩
abbrev main_while0b_v201 : Ref sig .tc := ⟨.hbm, 196, rfl⟩
abbrev main_while0b_cst_41 : Ref sig .tc := ⟨.hbm, 197, rfl⟩
abbrev main_while0b_v202 : Ref sig .tc := ⟨.hbm, 198, rfl⟩
abbrev main_while0b_v203 : Ref sig .tc := ⟨.hbm, 199, rfl⟩
abbrev main_while0b_cst_42 : Ref sig .tc := ⟨.hbm, 200, rfl⟩
abbrev main_while0b_v204 : Ref sig .tc := ⟨.hbm, 201, rfl⟩
abbrev main_while0b_v205 : Ref sig .tc := ⟨.hbm, 202, rfl⟩
abbrev main_while0b_cst_43 : Ref sig .tc := ⟨.hbm, 203, rfl⟩
abbrev main_while0b_v206 : Ref sig .tc := ⟨.hbm, 204, rfl⟩
abbrev main_while0b_v207 : Ref sig .tc := ⟨.hbm, 205, rfl⟩
abbrev main_while0b_cst_44 : Ref sig .tc := ⟨.hbm, 206, rfl⟩
abbrev main_while0b_v208 : Ref sig .tc := ⟨.hbm, 207, rfl⟩
abbrev main_while0b_v209 : Ref sig .tc := ⟨.hbm, 208, rfl⟩
abbrev main_while0b_v210 : Ref sig .tc := ⟨.hbm, 209, rfl⟩
abbrev main_while0b_v211 : Ref sig .tc := ⟨.hbm, 210, rfl⟩
abbrev main_while0b_cst_45 : Ref sig .tc := ⟨.hbm, 211, rfl⟩
abbrev main_while0b_cst_46 : Ref sig .tc := ⟨.hbm, 212, rfl⟩
abbrev main_while0b_v212 : Ref sig .tc := ⟨.hbm, 213, rfl⟩
abbrev main_while0b_cst_47 : Ref sig .tc := ⟨.hbm, 214, rfl⟩
abbrev main_while0b_cst_48 : Ref sig .tc := ⟨.hbm, 215, rfl⟩
abbrev main_while0b_v213 : Ref sig .tc := ⟨.hbm, 216, rfl⟩
abbrev main_while0b_cst_49 : Ref sig .tc := ⟨.hbm, 217, rfl⟩
abbrev main_while0b_v214 : Ref sig .tc := ⟨.hbm, 218, rfl⟩
abbrev main_while0b_v215 : Ref sig .tc := ⟨.hbm, 219, rfl⟩
abbrev main_while0b_cst_50 : Ref sig .tc := ⟨.hbm, 220, rfl⟩
abbrev main_while0b_v216 : Ref sig .tc := ⟨.hbm, 221, rfl⟩
abbrev main_while0b_v217 : Ref sig .tc := ⟨.hbm, 222, rfl⟩
abbrev main_while0b_v218 : Ref sig .tc := ⟨.hbm, 223, rfl⟩
abbrev main_while0b_v219 : Ref sig .tc := ⟨.hbm, 224, rfl⟩
abbrev main_while0b_v220 : Ref sig .tc := ⟨.hbm, 225, rfl⟩
abbrev main_while0b_cst_51 : Ref sig .tc := ⟨.hbm, 226, rfl⟩
abbrev main_while0b_v221 : Ref sig .tc := ⟨.hbm, 227, rfl⟩
abbrev main_while0b_v222 : Ref sig .tc := ⟨.hbm, 228, rfl⟩
abbrev main_while0b_v223 : Ref sig .tc := ⟨.hbm, 229, rfl⟩
abbrev main_while0b_cst_52 : Ref sig .tc := ⟨.hbm, 230, rfl⟩
abbrev main_while0b_v224 : Ref sig .tc := ⟨.hbm, 231, rfl⟩
abbrev main_while0b_v225 : Ref sig .tc := ⟨.hbm, 232, rfl⟩
abbrev main_while0b_call8_cst : Ref sig .tc := ⟨.hbm, 233, rfl⟩
abbrev main_while0b_call8_v0 : Ref sig .tc := ⟨.hbm, 234, rfl⟩
abbrev main_while0b_v226 : Ref sig .tc := ⟨.hbm, 235, rfl⟩
abbrev main_while0b_v227 : Ref sig .tc := ⟨.hbm, 236, rfl⟩
abbrev main_while0b_v228 : Ref sig .tc := ⟨.hbm, 237, rfl⟩
abbrev main_while0b_v229 : Ref sig .tc := ⟨.hbm, 238, rfl⟩
abbrev main_while0b_v230 : Ref sig .tc := ⟨.hbm, 239, rfl⟩
abbrev main_while0b_v231 : Ref sig .tc := ⟨.hbm, 240, rfl⟩
abbrev main_while0b_v232 : Ref sig .tc := ⟨.hbm, 241, rfl⟩
abbrev main_while0b_cst_53 : Ref sig .tc := ⟨.hbm, 242, rfl⟩
abbrev main_while0b_v233 : Ref sig .tc := ⟨.hbm, 243, rfl⟩
abbrev main_while0b_v234 : Ref sig .tc := ⟨.hbm, 244, rfl⟩
abbrev main_while0b_v235 : Ref sig .tc := ⟨.hbm, 245, rfl⟩
abbrev main_while0b_v236 : Ref sig .tc := ⟨.hbm, 246, rfl⟩
abbrev main_while0b_v237 : Ref sig .tc := ⟨.hbm, 247, rfl⟩
abbrev main_while0b_v238 : Ref sig .tc := ⟨.hbm, 248, rfl⟩
abbrev main_while0b_v239 : Ref sig .tc := ⟨.hbm, 249, rfl⟩
abbrev main_while0b_v240 : Ref sig .tc := ⟨.hbm, 250, rfl⟩
abbrev main_while0b_v241 : Ref sig .tc := ⟨.hbm, 251, rfl⟩
abbrev main_while0b_v242 : Ref sig .tc := ⟨.hbm, 252, rfl⟩
abbrev main_while0b_cst_54 : Ref sig .tc := ⟨.hbm, 253, rfl⟩
abbrev main_while0b_v243 : Ref sig .tc := ⟨.hbm, 254, rfl⟩
abbrev main_while0b_v244 : Ref sig .tc := ⟨.hbm, 255, rfl⟩
abbrev main_while0b_v245 : Ref sig .tc := ⟨.hbm, 256, rfl⟩
abbrev main_while0b_v246 : Ref sig .tc := ⟨.hbm, 257, rfl⟩
abbrev main_while0b_v247 : Ref sig .tc := ⟨.hbm, 258, rfl⟩
abbrev main_while0b_v248 : Ref sig .tc := ⟨.hbm, 259, rfl⟩
abbrev main_while0b_v249 : Ref sig .tc := ⟨.hbm, 260, rfl⟩
abbrev main_while0b_v250 : Ref sig .tc := ⟨.hbm, 261, rfl⟩
abbrev main_while0b_v251 : Ref sig .tc := ⟨.hbm, 262, rfl⟩
abbrev main_while0b_v252 : Ref sig .tc := ⟨.hbm, 263, rfl⟩
abbrev main_while0b_v253 : Ref sig .tc := ⟨.hbm, 264, rfl⟩
abbrev main_while0b_v254 : Ref sig .tc := ⟨.hbm, 265, rfl⟩
abbrev main_while0b_v255 : Ref sig .tc := ⟨.hbm, 266, rfl⟩
abbrev main_while0b_v256 : Ref sig .tc := ⟨.hbm, 267, rfl⟩
abbrev main_while0b_v257 : Ref sig .tc := ⟨.hbm, 268, rfl⟩
abbrev main_while0b_v258 : Ref sig .tc := ⟨.hbm, 269, rfl⟩
abbrev main_while0b_v259 : Ref sig .tc := ⟨.hbm, 270, rfl⟩
abbrev main_while0b_v260 : Ref sig .tc := ⟨.hbm, 271, rfl⟩
abbrev main_while0b_v261 : Ref sig .tc := ⟨.hbm, 272, rfl⟩
abbrev main_while0b_v262 : Ref sig .tc := ⟨.hbm, 273, rfl⟩
abbrev main_while0b_v263 : Ref sig .tc := ⟨.hbm, 274, rfl⟩
abbrev main_while0b_v264 : Ref sig .tc := ⟨.hbm, 275, rfl⟩
abbrev main_while0b_v265 : Ref sig .tc := ⟨.hbm, 276, rfl⟩
abbrev main_while0b_v266 : Ref sig .tc := ⟨.hbm, 277, rfl⟩
abbrev main_while0b_v267 : Ref sig .tc := ⟨.hbm, 278, rfl⟩
abbrev main_while0b_cst_55 : Ref sig .tc := ⟨.hbm, 279, rfl⟩
abbrev main_while0b_v268 : Ref sig .tc := ⟨.hbm, 280, rfl⟩
abbrev main_while0b_v269 : Ref sig .tc := ⟨.hbm, 281, rfl⟩
abbrev main_while0b_v270 : Ref sig .tc := ⟨.hbm, 282, rfl⟩
abbrev main_while0b_v271 : Ref sig .tc := ⟨.hbm, 283, rfl⟩
abbrev main_while0b_v272 : Ref sig .tc := ⟨.hbm, 284, rfl⟩
abbrev main_while0b_v273 : Ref sig .tc := ⟨.hbm, 285, rfl⟩
abbrev main_while0b_cst_56 : Ref sig .tc := ⟨.hbm, 286, rfl⟩
abbrev main_while0b_v274 : Ref sig .tc := ⟨.hbm, 287, rfl⟩
abbrev main_while0b_v275 : Ref sig .tc := ⟨.hbm, 288, rfl⟩
abbrev main_while0b_cst_57 : Ref sig .tc := ⟨.hbm, 289, rfl⟩
abbrev main_while0b_v276 : Ref sig .tc := ⟨.hbm, 290, rfl⟩
abbrev main_while0b_v277 : Ref sig .tc := ⟨.hbm, 291, rfl⟩
abbrev main_while0b_v278 : Ref sig .tc := ⟨.hbm, 292, rfl⟩
abbrev main_while0b_v279 : Ref sig .tc := ⟨.hbm, 293, rfl⟩
abbrev main_while0b_v280 : Ref sig .tc := ⟨.hbm, 294, rfl⟩
abbrev main_while0b_cst_58 : Ref sig .tc := ⟨.hbm, 295, rfl⟩
abbrev main_while0b_v281 : Ref sig .tc := ⟨.hbm, 296, rfl⟩
abbrev main_while0b_v282 : Ref sig .tc := ⟨.hbm, 297, rfl⟩
abbrev main_while0b_v283 : Ref sig .tc := ⟨.hbm, 298, rfl⟩
abbrev main_while0b_v284 : Ref sig .tc := ⟨.hbm, 299, rfl⟩
abbrev main_while0b_v285 : Ref sig .tc := ⟨.hbm, 300, rfl⟩
abbrev main_while0b_v286 : Ref sig .tc := ⟨.hbm, 301, rfl⟩
abbrev main_while0b_v287 : Ref sig .tc := ⟨.hbm, 302, rfl⟩
abbrev main_while0b_v288 : Ref sig .tc := ⟨.hbm, 303, rfl⟩
abbrev main_while0b_v289 : Ref sig .tc := ⟨.hbm, 304, rfl⟩
abbrev main_while0b_v290 : Ref sig .tc := ⟨.hbm, 305, rfl⟩
abbrev main_while0b_v291 : Ref sig .tc := ⟨.hbm, 306, rfl⟩
abbrev main_while0b_v292 : Ref sig .tc := ⟨.hbm, 307, rfl⟩
abbrev main_while0b_v293 : Ref sig .tc := ⟨.hbm, 308, rfl⟩
abbrev main_while0b_v294 : Ref sig .tc := ⟨.hbm, 309, rfl⟩
abbrev main_while0b_v295 : Ref sig .tc := ⟨.hbm, 310, rfl⟩
abbrev main_while0b_v296 : Ref sig .tc := ⟨.hbm, 311, rfl⟩
abbrev main_while0b_v297 : Ref sig .tc := ⟨.hbm, 312, rfl⟩
abbrev main_while0b_v298 : Ref sig .tc := ⟨.hbm, 313, rfl⟩
abbrev main_while0b_v299 : Ref sig .tc := ⟨.hbm, 314, rfl⟩
abbrev main_while0b_cst_59 : Ref sig .tc := ⟨.hbm, 315, rfl⟩
abbrev main_while0b_v300 : Ref sig .tc := ⟨.hbm, 316, rfl⟩
abbrev main_while0b_v301 : Ref sig .tc := ⟨.hbm, 317, rfl⟩
abbrev main_while0b_v302 : Ref sig .tc := ⟨.hbm, 318, rfl⟩
abbrev main_while0b_v303 : Ref sig .tc := ⟨.hbm, 319, rfl⟩
abbrev main_while0b_cst_60 : Ref sig .tc := ⟨.hbm, 320, rfl⟩
abbrev main_while0b_v304 : Ref sig .tc := ⟨.hbm, 321, rfl⟩
abbrev main_while0b_v305 : Ref sig .tc := ⟨.hbm, 322, rfl⟩
abbrev main_while0b_cst_61 : Ref sig .tc := ⟨.hbm, 323, rfl⟩
abbrev main_while0b_v306 : Ref sig .tc := ⟨.hbm, 324, rfl⟩
abbrev main_while0b_v307 : Ref sig .tc := ⟨.hbm, 325, rfl⟩
abbrev main_while0b_v308 : Ref sig .tc := ⟨.hbm, 326, rfl⟩
abbrev main_while0b_cst_62 : Ref sig .tc := ⟨.hbm, 327, rfl⟩
abbrev main_while0b_v309 : Ref sig .tc := ⟨.hbm, 328, rfl⟩
abbrev main_while0b_v310 : Ref sig .tc := ⟨.hbm, 329, rfl⟩
abbrev main_while0b_v311 : Ref sig .tc := ⟨.hbm, 330, rfl⟩
abbrev main_while0b_v312 : Ref sig .tc := ⟨.hbm, 331, rfl⟩
abbrev main_while0b_v313 : Ref sig .tc := ⟨.hbm, 332, rfl⟩
abbrev main_while0b_cst_63 : Ref sig .tc := ⟨.hbm, 333, rfl⟩
abbrev main_while0b_v314 : Ref sig .tc := ⟨.hbm, 334, rfl⟩
abbrev main_while0b_v315 : Ref sig .tc := ⟨.hbm, 335, rfl⟩
abbrev main_while0b_v316 : Ref sig .tc := ⟨.hbm, 336, rfl⟩
abbrev main_while0b_v317 : Ref sig .tc := ⟨.hbm, 337, rfl⟩
abbrev main_while0b_v318 : Ref sig .tc := ⟨.hbm, 338, rfl⟩
abbrev main_while0b_cst_64 : Ref sig .tc := ⟨.hbm, 339, rfl⟩
abbrev main_while0b_v319 : Ref sig .tc := ⟨.hbm, 340, rfl⟩
abbrev main_while0b_v320 : Ref sig .tc := ⟨.hbm, 341, rfl⟩
abbrev main_while0b_v321 : Ref sig .tc := ⟨.hbm, 342, rfl⟩
abbrev main_while0b_cst_65 : Ref sig .tc := ⟨.hbm, 343, rfl⟩
abbrev main_while0b_v322 : Ref sig .tc := ⟨.hbm, 344, rfl⟩
abbrev main_while0b_v323 : Ref sig .tc := ⟨.hbm, 345, rfl⟩
abbrev main_while0b_cst_66 : Ref sig .tc := ⟨.hbm, 346, rfl⟩
abbrev main_while0b_v324 : Ref sig .tc := ⟨.hbm, 347, rfl⟩
abbrev main_while0b_v325 : Ref sig .tc := ⟨.hbm, 348, rfl⟩
abbrev main_while0b_v326 : Ref sig .tc := ⟨.hbm, 349, rfl⟩
abbrev main_while0b_cst_67 : Ref sig .tc := ⟨.hbm, 350, rfl⟩
abbrev main_while0b_v327 : Ref sig .tc := ⟨.hbm, 351, rfl⟩
abbrev main_while0b_v328 : Ref sig .tc := ⟨.hbm, 352, rfl⟩
abbrev main_while0b_v329 : Ref sig .tc := ⟨.hbm, 353, rfl⟩
abbrev main_while0b_call9_cst : Ref sig .tc := ⟨.hbm, 354, rfl⟩
abbrev main_while0b_call9_v0 : Ref sig .tc := ⟨.hbm, 355, rfl⟩
abbrev main_while0b_v330 : Ref sig .tc := ⟨.hbm, 356, rfl⟩
abbrev main_while0b_cst_68 : Ref sig .tc := ⟨.hbm, 357, rfl⟩
abbrev main_while0b_v331 : Ref sig .tc := ⟨.hbm, 358, rfl⟩
abbrev main_while0b_v332 : Ref sig .tc := ⟨.hbm, 359, rfl⟩
abbrev main_while0b_v333 : Ref sig .tc := ⟨.hbm, 360, rfl⟩
abbrev main_while0b_v334 : Ref sig .tc := ⟨.hbm, 361, rfl⟩
abbrev main_while0b_v335 : Ref sig .tc := ⟨.hbm, 362, rfl⟩
abbrev main_while0b_cst_69 : Ref sig .tc := ⟨.hbm, 363, rfl⟩
abbrev main_while0b_v336 : Ref sig .tc := ⟨.hbm, 364, rfl⟩
abbrev main_while0b_v337 : Ref sig .tc := ⟨.hbm, 365, rfl⟩
abbrev main_while0b_call10_v0 : Ref sig .tc := ⟨.hbm, 366, rfl⟩
abbrev main_while0b_call10_c : Ref sig .tc := ⟨.hbm, 367, rfl⟩
abbrev main_while0b_call10_c_0 : Ref sig .tc := ⟨.hbm, 368, rfl⟩
abbrev main_while0b_call10_c_1 : Ref sig .tc := ⟨.hbm, 369, rfl⟩
abbrev main_while0b_call10_c_2 : Ref sig .tc := ⟨.hbm, 370, rfl⟩
abbrev main_while0b_v338 : Ref sig .tc := ⟨.hbm, 371, rfl⟩
abbrev main_while0b_call11_v0 : Ref sig .tc := ⟨.hbm, 372, rfl⟩
abbrev main_while0b_call11_c : Ref sig .tc := ⟨.hbm, 373, rfl⟩
abbrev main_while0b_call11_c_0 : Ref sig .tc := ⟨.hbm, 374, rfl⟩
abbrev main_while0b_call11_c_1 : Ref sig .tc := ⟨.hbm, 375, rfl⟩
abbrev main_while0b_call11_c_2 : Ref sig .tc := ⟨.hbm, 376, rfl⟩
abbrev main_while0b_v339 : Ref sig .tc := ⟨.hbm, 377, rfl⟩
abbrev main_while0b_call12_v0 : Ref sig .tc := ⟨.hbm, 378, rfl⟩
abbrev main_while0b_call12_c : Ref sig .tc := ⟨.hbm, 379, rfl⟩
abbrev main_while0b_call12_c_0 : Ref sig .tc := ⟨.hbm, 380, rfl⟩
abbrev main_while0b_call12_c_1 : Ref sig .tc := ⟨.hbm, 381, rfl⟩
abbrev main_while0b_call12_c_2 : Ref sig .tc := ⟨.hbm, 382, rfl⟩
abbrev main_while0b_v340 : Ref sig .tc := ⟨.hbm, 383, rfl⟩
abbrev main_while0b_call13_v0 : Ref sig .tc := ⟨.hbm, 384, rfl⟩
abbrev main_while0b_call13_c : Ref sig .tc := ⟨.hbm, 385, rfl⟩
abbrev main_while0b_call13_c_0 : Ref sig .tc := ⟨.hbm, 386, rfl⟩
abbrev main_while0b_call13_c_1 : Ref sig .tc := ⟨.hbm, 387, rfl⟩
abbrev main_while0b_call13_c_2 : Ref sig .tc := ⟨.hbm, 388, rfl⟩
abbrev main_while0b_v341 : Ref sig .tc := ⟨.hbm, 389, rfl⟩
abbrev main_while0b_c_70 : Ref sig .tc := ⟨.hbm, 390, rfl⟩
abbrev main_while0b_v342 : Ref sig .tc := ⟨.hbm, 391, rfl⟩
abbrev main_v89 : Ref sig .tc := ⟨.hbm, 392, rfl⟩
abbrev main_v90 : Ref sig .tc := ⟨.hbm, 393, rfl⟩
abbrev main_v91 : Ref sig .tc := ⟨.hbm, 394, rfl⟩
abbrev main_v92 : Ref sig .tc := ⟨.hbm, 395, rfl⟩
abbrev main_v93 : Ref sig .tc := ⟨.hbm, 396, rfl⟩
abbrev main_v94 : Ref sig .tc := ⟨.hbm, 397, rfl⟩
abbrev main_v95 : Ref sig .tc := ⟨.hbm, 398, rfl⟩
abbrev main_v96 : Ref sig .tc := ⟨.hbm, 399, rfl⟩
abbrev main_v97 : Ref sig .tc := ⟨.hbm, 400, rfl⟩
abbrev main_v98 : Ref sig .tc := ⟨.hbm, 401, rfl⟩
abbrev main_v99 : Ref sig .tc := ⟨.hbm, 402, rfl⟩
abbrev main_v100 : Ref sig .tc := ⟨.hbm, 403, rfl⟩
abbrev main_v101 : Ref sig .tc := ⟨.hbm, 404, rfl⟩
abbrev main_v102 : Ref sig .tc := ⟨.hbm, 405, rfl⟩
abbrev main_v103 : Ref sig .tc := ⟨.hbm, 406, rfl⟩
abbrev main_v104 : Ref sig .tc := ⟨.hbm, 407, rfl⟩
abbrev main_v105 : Ref sig .tc := ⟨.hbm, 408, rfl⟩
abbrev main_v106 : Ref sig .tc := ⟨.hbm, 409, rfl⟩
abbrev main_v107 : Ref sig .tc := ⟨.hbm, 410, rfl⟩
abbrev main_v108 : Ref sig .tc := ⟨.hbm, 411, rfl⟩
abbrev main_v109 : Ref sig .tc := ⟨.hbm, 412, rfl⟩
abbrev main_v110 : Ref sig .tc := ⟨.hbm, 413, rfl⟩
abbrev main_cst_13 : Ref sig .tc := ⟨.hbm, 414, rfl⟩
abbrev main_v111 : Ref sig .tc := ⟨.hbm, 415, rfl⟩
abbrev main_v112 : Ref sig .tc := ⟨.hbm, 416, rfl⟩
abbrev main_cst_14 : Ref sig .tc := ⟨.hbm, 417, rfl⟩
abbrev main_v113 : Ref sig .tc := ⟨.hbm, 418, rfl⟩
abbrev main_v114 : Ref sig .tc := ⟨.hbm, 419, rfl⟩
abbrev main_cst_15 : Ref sig .tc := ⟨.hbm, 420, rfl⟩
abbrev main_v115 : Ref sig .tc := ⟨.hbm, 421, rfl⟩
abbrev main_v116 : Ref sig .tc := ⟨.hbm, 422, rfl⟩
abbrev main_v117 : Ref sig .tc := ⟨.hbm, 423, rfl⟩
abbrev main_v118 : Ref sig .tc := ⟨.hbm, 424, rfl⟩
abbrev main_cst_16 : Ref sig .tc := ⟨.hbm, 425, rfl⟩
abbrev main_v119 : Ref sig .tc := ⟨.hbm, 426, rfl⟩
abbrev main_v120 : Ref sig .tc := ⟨.hbm, 427, rfl⟩
abbrev main_v121 : Ref sig .tc := ⟨.hbm, 428, rfl⟩
abbrev main_v122 : Ref sig .tc := ⟨.hbm, 429, rfl⟩
abbrev main_v123 : Ref sig .tc := ⟨.hbm, 430, rfl⟩
abbrev main_v124 : Ref sig .tc := ⟨.hbm, 431, rfl⟩
abbrev main_v125 : Ref sig .tc := ⟨.hbm, 432, rfl⟩
abbrev main_v126 : Ref sig .tc := ⟨.hbm, 433, rfl⟩
abbrev main_v127 : Ref sig .tc := ⟨.hbm, 434, rfl⟩
abbrev main_call14_v0 : Ref sig .tc := ⟨.hbm, 435, rfl⟩
abbrev main_call14_v1 : Ref sig .tc := ⟨.hbm, 436, rfl⟩
abbrev main_call14_cst : Ref sig .tc := ⟨.hbm, 437, rfl⟩
abbrev main_call14_v2 : Ref sig .tc := ⟨.hbm, 438, rfl⟩
abbrev main_call14_v3 : Ref sig .tc := ⟨.hbm, 439, rfl⟩
abbrev main_call14_cst_0 : Ref sig .tc := ⟨.hbm, 440, rfl⟩
abbrev main_call14_v4 : Ref sig .tc := ⟨.hbm, 441, rfl⟩
abbrev main_v128_2 : Ref sig .tc := ⟨.hbm, 442, rfl⟩
abbrev main_call14_cst_1 : Ref sig .tc := ⟨.hbm, 443, rfl⟩
abbrev main_call14_v6 : Ref sig .tc := ⟨.hbm, 444, rfl⟩
abbrev main_call14_v7 : Ref sig .tc := ⟨.hbm, 445, rfl⟩
abbrev main_v128_1 : Ref sig .tc := ⟨.hbm, 446, rfl⟩
abbrev main_v128_0 : Ref sig .tc := ⟨.hbm, 447, rfl⟩
abbrev main_v129 : Ref sig .tc := ⟨.hbm, 448, rfl⟩
abbrev main_v130 : Ref sig .tc := ⟨.hbm, 449, rfl⟩
abbrev main_v131 : Ref sig .tc := ⟨.hbm, 450, rfl⟩
abbrev main_v132 : Ref sig .tc := ⟨.hbm, 451, rfl⟩
abbrev main_v133 : Ref sig .tc := ⟨.hbm, 452, rfl⟩
abbrev main_call15_v0 : Ref sig .tc := ⟨.hbm, 453, rfl⟩
abbrev main_call15_v1 : Ref sig .tc := ⟨.hbm, 454, rfl⟩
abbrev main_call15_v2 : Ref sig .tc := ⟨.hbm, 455, rfl⟩
abbrev main_v134 : Ref sig .tc := ⟨.hbm, 456, rfl⟩
abbrev main_v135 : Ref sig .tc := ⟨.hbm, 457, rfl⟩
abbrev main_cst_17 : Ref sig .tc := ⟨.hbm, 458, rfl⟩
abbrev main_v136 : Ref sig .tc := ⟨.hbm, 459, rfl⟩
abbrev main_v137 : Ref sig .tc := ⟨.hbm, 460, rfl⟩
abbrev main_v138 : Ref sig .tc := ⟨.hbm, 461, rfl⟩
abbrev main_v139 : Ref sig .tc := ⟨.hbm, 462, rfl⟩
abbrev main_cst_18 : Ref sig .tc := ⟨.hbm, 463, rfl⟩
abbrev main_v140 : Ref sig .tc := ⟨.hbm, 464, rfl⟩
abbrev main_v141 : Ref sig .tc := ⟨.hbm, 465, rfl⟩
abbrev main_v142 : Ref sig .tc := ⟨.hbm, 466, rfl⟩
abbrev main_v143 : Ref sig .tc := ⟨.hbm, 467, rfl⟩
abbrev main_v144 : Ref sig .tc := ⟨.hbm, 468, rfl⟩
abbrev main_cst_19 : Ref sig .tc := ⟨.hbm, 469, rfl⟩
abbrev main_v145 : Ref sig .tc := ⟨.hbm, 470, rfl⟩
abbrev main_v146 : Ref sig .tc := ⟨.hbm, 471, rfl⟩
abbrev main_v147 : Ref sig .tc := ⟨.hbm, 472, rfl⟩
abbrev main_v148 : Ref sig .tc := ⟨.hbm, 473, rfl⟩
abbrev main_v149 : Ref sig .tc := ⟨.hbm, 474, rfl⟩
abbrev main_cst_20 : Ref sig .tc := ⟨.hbm, 475, rfl⟩
abbrev main_v150 : Ref sig .tc := ⟨.hbm, 476, rfl⟩
abbrev main_v151 : Ref sig .tc := ⟨.hbm, 477, rfl⟩
abbrev main_cst_21 : Ref sig .tc := ⟨.hbm, 478, rfl⟩
abbrev main_v152 : Ref sig .tc := ⟨.hbm, 479, rfl⟩
abbrev main_v153 : Ref sig .tc := ⟨.hbm, 480, rfl⟩
abbrev main_v154 : Ref sig .tc := ⟨.hbm, 481, rfl⟩
abbrev main_v155 : Ref sig .tc := ⟨.hbm, 482, rfl⟩
abbrev main_v156 : Ref sig .tc := ⟨.hbm, 483, rfl⟩
abbrev main_v157 : Ref sig .tc := ⟨.hbm, 484, rfl⟩
abbrev main_v158 : Ref sig .tc := ⟨.hbm, 485, rfl⟩
abbrev main_cst_22 : Ref sig .tc := ⟨.hbm, 486, rfl⟩
abbrev main_v159 : Ref sig .tc := ⟨.hbm, 487, rfl⟩
abbrev main_v160 : Ref sig .tc := ⟨.hbm, 488, rfl⟩
abbrev main_cst_23 : Ref sig .tc := ⟨.hbm, 489, rfl⟩
abbrev main_v161 : Ref sig .tc := ⟨.hbm, 490, rfl⟩
abbrev main_v162 : Ref sig .tc := ⟨.hbm, 491, rfl⟩
abbrev main_v163 : Ref sig .tc := ⟨.hbm, 492, rfl⟩
abbrev main_v164 : Ref sig .tc := ⟨.hbm, 493, rfl⟩
abbrev main_v165 : Ref sig .tc := ⟨.hbm, 494, rfl⟩
abbrev main_v166 : Ref sig .tc := ⟨.hbm, 495, rfl⟩
abbrev main_v167 : Ref sig .tc := ⟨.hbm, 496, rfl⟩
abbrev main_v168 : Ref sig .tc := ⟨.hbm, 497, rfl⟩
abbrev main_v169 : Ref sig .tc := ⟨.hbm, 498, rfl⟩
abbrev main_v170 : Ref sig .tc := ⟨.hbm, 499, rfl⟩
abbrev main_v171 : Ref sig .tc := ⟨.hbm, 500, rfl⟩
abbrev main_c_24 : Ref sig .tc := ⟨.hbm, 501, rfl⟩
abbrev main_call16_v0 : Ref sig .tc := ⟨.hbm, 502, rfl⟩
abbrev main_v172 : Ref sig .tc := ⟨.hbm, 503, rfl⟩
abbrev main_v173 : Ref sig .tc := ⟨.hbm, 504, rfl⟩
abbrev main_v174 : Ref sig .tc := ⟨.hbm, 505, rfl⟩
abbrev main_v175 : Ref sig .tc := ⟨.hbm, 506, rfl⟩
abbrev main_c_25 : Ref sig .tc := ⟨.hbm, 507, rfl⟩
abbrev main_call17_v0 : Ref sig .tc := ⟨.hbm, 508, rfl⟩
abbrev main_v176 : Ref sig .tc := ⟨.hbm, 509, rfl⟩
abbrev main_v177 : Ref sig .tc := ⟨.hbm, 510, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .bf16⟩
  | .hbm, ⟨6, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .bf16⟩
  | .hbm, ⟨6, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x3088 : Shape := ⟨2, ![4096, 3088]⟩
abbrev S4096x1024 : Shape := ⟨2, ![4096, 1024]⟩
abbrev S_ : Shape := ⟨0, ![]⟩
abbrev S4096x3200 : Shape := ⟨2, ![4096, 3200]⟩
abbrev S1x3200x1024 : Shape := ⟨3, ![1, 3200, 1024]⟩
abbrev S2048x640 : Shape := ⟨2, ![2048, 640]⟩
abbrev S2048x1024 : Shape := ⟨2, ![2048, 1024]⟩
abbrev S1x640x1024 : Shape := ⟨3, ![1, 640, 1024]⟩
abbrev S640x1024 : Shape := ⟨2, ![640, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x3088, .f32⟩
  | .hbm, ⟨1, _⟩ => ⟨S4096x1024, .f32⟩
  | .hbm, ⟨2, _⟩ => ⟨S_, .i32⟩
  | .hbm, ⟨3, _⟩ => ⟨S_, .f32⟩
  | .hbm, ⟨4, _⟩ => ⟨S4096x3200, .f32⟩
  | .hbm, ⟨5, _⟩ => ⟨S4096x3200, .bf16⟩
  | .hbm, ⟨6, _⟩ => ⟨S4096x1024, .bf16⟩
  | .hbm, ⟨7, _⟩ => ⟨S1x3200x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S1x640x1024, .bf16⟩
  | .local _ .vmem, ⟨5, _⟩ => ⟨S1x640x1024, .bf16⟩
  | .local _ .vmem, ⟨6, _⟩ => ⟨S640x1024, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x3088 : Shape := ⟨2, ![4096, 3088]⟩
abbrev S4096x1024 : Shape := ⟨2, ![4096, 1024]⟩
abbrev S_ : Shape := ⟨0, ![]⟩
abbrev S1024x3088 : Shape := ⟨2, ![1024, 3088]⟩
abbrev S3088x1024 : Shape := ⟨2, ![3088, 1024]⟩
abbrev S3200x1024 : Shape := ⟨2, ![3200, 1024]⟩
abbrev S1x3200x1024 : Shape := ⟨3, ![1, 3200, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S4096x1024, .f32⟩
  | .hbm, ⟨2, _⟩ => ⟨S_, .f32⟩
  | .hbm, ⟨3, _⟩ => ⟨S1024x3088, .f32⟩
  | .hbm, ⟨4, _⟩ => ⟨S4096x3088, .f32⟩
  | .hbm, ⟨5, _⟩ => ⟨S3088x1024, .f32⟩
  | .hbm, ⟨6, _⟩ => ⟨S1024x3088, .f32⟩
  | .hbm, ⟨7, _⟩ => ⟨S3088x1024, .f32⟩
  | .hbm, ⟨8, _⟩ => ⟨S_, .i32⟩
  | .hbm, ⟨9, _⟩ => ⟨S_, .f32⟩
  | .hbm, ⟨10, _⟩ => ⟨S3200x1024, .f32⟩
  | .hbm, ⟨11, _⟩ => ⟨S1x3200x1024, .f32⟩
  | .hbm, ⟨12, _⟩ => ⟨S1x3200x1024, .bf16⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S4096x512 : Shape := ⟨2, ![4096, 512]⟩
abbrev S4096x1024 : Shape := ⟨2, ![4096, 1024]⟩
abbrev S1x512x1024 : Shape := ⟨3, ![1, 512, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S1x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S1x512x1024, .f32⟩
  | .hbm, ⟨8, _⟩ => ⟨S1x512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x3088 : Shape := ⟨2, ![4096, 3088]⟩
abbrev S1024x3088 : Shape := ⟨2, ![1024, 3088]⟩
abbrev S4096x1024 : Shape := ⟨2, ![4096, 1024]⟩
abbrev S1x1024 : Shape := ⟨2, ![1, 1024]⟩
abbrev S_ : Shape := ⟨0, ![]⟩
abbrev S4096x3200 : Shape := ⟨2, ![4096, 3200]⟩
abbrev S3088x1024 : Shape := ⟨2, ![3088, 1024]⟩
abbrev S3200x1024 : Shape := ⟨2, ![3200, 1024]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 11
  | .smem => 0
  | _ => 0

abbrev bufTy : (tb : Table) → Fin (tcTables nBuf tb) → BufTy
  | .hbm, ⟨0, _⟩ => ⟨S4096x3088, .f32⟩
  | .hbm, ⟨1, _⟩ => ⟨S1024x3088, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S4096x3200, .f32⟩
  | .hbm, ⟨8, _⟩ => ⟨S4096x3200, .bf16⟩
  | .hbm, ⟨9, _⟩ => ⟨S3088x1024, .f32⟩
  | .hbm, ⟨10, _⟩ => ⟨S_, .i32⟩
  | .hbm, ⟨11, _⟩ => ⟨S_, .f32⟩
  | .hbm, ⟨12, _⟩ => ⟨S3200x1024, .f32⟩
  | .hbm, ⟨13, _⟩ => ⟨S3200x1024, .bf16⟩
  | .hbm, ⟨14, _⟩ => ⟨S4096x1024, .f32⟩
  | .hbm, ⟨15, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S3200x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x3088 : Shape := ⟨2, ![4096, 3088]⟩
abbrev S1024x3088 : Shape := ⟨2, ![1024, 3088]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x3088, .f32⟩
  | .hbm, ⟨1, _⟩ => ⟨S1024x3088, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3088, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel7.lean ====
abbrev S4096x512 : Shape := ⟨2, ![4096, 512]⟩
abbrev S1024x1024 : Shape := ⟨2, ![1024, 1024]⟩
abbrev S4096x1024 : Shape := ⟨2, ![4096, 1024]⟩
abbrev S512x512 : Shape := ⟨2, ![512, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S4096x512, .bf16⟩
  | .hbm, ⟨5, _⟩ => ⟨S4096x512, .bf16⟩
  | .hbm, ⟨6, _⟩ => ⟨S1024x1024, .bf16⟩
  | .hbm, ⟨7, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4096x512 : Shape := ⟨2, ![4096, 512]⟩
abbrev S1024x1024 : Shape := ⟨2, ![1024, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel8.lean ====
abbrev S4096x16 : Shape := ⟨2, ![4096, 16]⟩
abbrev S4096x256 : Shape := ⟨2, ![4096, 256]⟩
abbrev S_ : Shape := ⟨0, ![]⟩
abbrev S4096x128 : Shape := ⟨2, ![4096, 128]⟩
abbrev S4096x4x64 : Shape := ⟨3, ![4096, 4, 64]⟩
abbrev S4096x4x128 : Shape := ⟨3, ![4096, 4, 128]⟩
abbrev S4096x512 : Shape := ⟨2, ![4096, 512]⟩
abbrev S1x128x512 : Shape := ⟨3, ![1, 128, 512]⟩
abbrev S2048x128 : Shape := ⟨2, ![2048, 128]⟩
abbrev S2048x512 : Shape := ⟨2, ![2048, 512]⟩
abbrev S128x512 : Shape := ⟨2, ![128, 512]⟩

abbrev nBuf : Space → Nat
  | .hbm => 12
  | .vmem => 6
  | .smem => 0
  | _ => 0

abbrev bufTy : (tb : Table) → Fin (tcTables nBuf tb) → BufTy
  | .hbm, ⟨0, _⟩ => ⟨S4096x16, .f32⟩
  | .hbm, ⟨1, _⟩ => ⟨S4096x256, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S4096x4x64, .f32⟩
  | .hbm, ⟨6, _⟩ => ⟨S_, .i32⟩
  | .hbm, ⟨7, _⟩ => ⟨S_, .f32⟩
  | .hbm, ⟨8, _⟩ => ⟨S4096x4x128, .f32⟩
  | .hbm, ⟨9, _⟩ => ⟨S4096x512, .f32⟩
  | .hbm, ⟨10, _⟩ => ⟨S4096x512, .bf16⟩
  | .hbm, ⟨11, _⟩ => ⟨S1x128x512, .f32⟩
  | .local _ .vmem, ⟨0, _⟩ => ⟨S2048x128, .f32⟩
  | .local _ .vmem, ⟨1, _⟩ => ⟨S2048x128, .f32⟩
  | .local _ .vmem, ⟨2, _⟩ => ⟨S2048x512, .bf16⟩
  | .local _ .vmem, ⟨3, _⟩ => ⟨S2048x512, .bf16⟩
  | .local _ .vmem, ⟨4, _⟩ => ⟨S1x128x512, .f32⟩
  | .local _ .vmem, ⟨5, _⟩ => ⟨S128x512, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x16 : Shape := ⟨2, ![4096, 16]⟩
abbrev S4096x256 : Shape := ⟨2, ![4096, 256]⟩
abbrev S_ : Shape := ⟨0, ![]⟩
abbrev S16x256 : Shape := ⟨2, ![16, 256]⟩
abbrev S256x16 : Shape := ⟨2, ![256, 16]⟩
abbrev S16x4x64 : Shape := ⟨3, ![16, 4, 64]⟩
abbrev S16x4x128 : Shape := ⟨3, ![16, 4, 128]⟩
abbrev S16x512 : Shape := ⟨2, ![16, 512]⟩
abbrev S128x512 : Shape := ⟨2, ![128, 512]⟩
abbrev S1x128x512 : Shape := ⟨3, ![1, 128, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x256, .f32⟩
  | .hbm, ⟨2, _⟩ => ⟨S_, .f32⟩
  | .hbm, ⟨3, _⟩ => ⟨S16x256, .f32⟩
  | .hbm, ⟨4, _⟩ => ⟨S4096x256, .f32⟩
  | .hbm, ⟨5, _⟩ => ⟨S256x16, .f32⟩
  | .hbm, ⟨6, _⟩ => ⟨S16x256, .f32⟩
  | .hbm, ⟨7, _⟩ => ⟨S16x4x64, .f32⟩
  | .hbm, ⟨8, _⟩ => ⟨S_, .i32⟩
  | .hbm, ⟨9, _⟩ => ⟨S_, .f32⟩
  | .hbm, ⟨10, _⟩ => ⟨S16x4x128, .f32⟩
  | .hbm, ⟨11, _⟩ => ⟨S16x512, .f32⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S1x128x512, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel9.lean ====
abbrev S704x1024 : Shape := ⟨2, ![704, 1024]⟩
abbrev S352x1024 : Shape := ⟨2, ![352, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S704x1024 : Shape := ⟨2, ![704, 1024]⟩
abbrev S352x1024 : Shape := ⟨2, ![352, 1024]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x352x1024 : Shape := ⟨3, ![2, 352, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x352x1024, .i1⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel10.lean ====
abbrev S800x1024 : Shape := ⟨2, ![800, 1024]⟩
abbrev S400x1024 : Shape := ⟨2, ![400, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S800x1024, .f32⟩
  | .hbm, ⟨1, _⟩ => ⟨S400x1024, .f32⟩
  | .hbm, ⟨2, _⟩ => ⟨S400x1024, .f32⟩
  | .hbm, ⟨3, _⟩ => ⟨S800x1024, .f32⟩
  | .hbm, ⟨4, _⟩ => ⟨S800x1024, .f32⟩
  | .hbm, ⟨5, _⟩ => ⟨S800x1024, .f32⟩
  | .hbm, ⟨6, _⟩ => ⟨S800x1024, .f32⟩
  | .hbm, ⟨7, _⟩ => ⟨S800x1024, .f32⟩
  | .hbm, ⟨8, _⟩ => ⟨S800x1024, .f32⟩
  | .local _ .vmem, ⟨0, _⟩ => ⟨S400x1024, .f32⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S400x1024, .f32⟩
  | .local _ .vmem, ⟨14, _⟩ => ⟨S400x1024, .f32⟩
  | .local _ .vmem, ⟨15, _⟩ => ⟨S400x1024, .f32⟩
  | .local _ .smem, ⟨0, _⟩ => ⟨S1, .i32⟩
  | _, _ => ⟨S800x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S400x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S400x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S400x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S800x1024 : Shape := ⟨2, ![800, 1024]⟩
abbrev S400x1024 : Shape := ⟨2, ![400, 1024]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x400x1024 : Shape := ⟨3, ![2, 400, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S800x1024, .f32⟩
  | .hbm, ⟨1, _⟩ => ⟨S400x1024, .f32⟩
  | .hbm, ⟨2, _⟩ => ⟨S400x1024, .f32⟩
  | .hbm, ⟨3, _⟩ => ⟨S800x1024, .f32⟩
  | .hbm, ⟨4, _⟩ => ⟨S800x1024, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x400x1024, .i1⟩
  | .hbm, ⟨12, _⟩ => ⟨S2x400x1024, .f32⟩
  | .hbm, ⟨13, _⟩ => ⟨S2x400x1024, .f32⟩
  | .hbm, ⟨14, _⟩ => ⟨S2x400x1024, .f32⟩
  | .hbm, ⟨15, _⟩ => ⟨S800x1024, .f32⟩
  | .hbm, ⟨16, _⟩ => ⟨S_, .f32⟩
  | .hbm, ⟨17, _⟩ => ⟨S800x1024, .f32⟩
  | .hbm, ⟨18, _⟩ => ⟨S800x1024, .f32⟩
  | .hbm, ⟨19, _⟩ => ⟨S_, .f32⟩
  | .hbm, ⟨20, _⟩ => ⟨S800x1024, .f32⟩
  | .hbm, ⟨21, _⟩ => ⟨S800x1024, .f32⟩
  | .hbm, ⟨22, _⟩ => ⟨S800x1024, .f32⟩
  | .hbm, ⟨23, _⟩ => ⟨S_, .f32⟩
  | .hbm, ⟨24, _⟩ => ⟨S800x1024, .f32⟩
  | .hbm, ⟨25, _⟩ => ⟨S800x1024, .f32⟩
  | .hbm, ⟨26, _⟩ => ⟨S800x1024, .f32⟩
  | .hbm, ⟨27, _⟩ => ⟨S_, .f32⟩
  | .hbm, ⟨28, _⟩ => ⟨S800x1024, .f32⟩
  | .hbm, ⟨29, _⟩ => ⟨S800x1024, .f32⟩
  | .hbm, ⟨30, _⟩ => ⟨S800x1024, .f32⟩
  | .hbm, ⟨31, _⟩ => ⟨S_, .f32⟩
  | .hbm, ⟨32, _⟩ => ⟨S800x1024, .f32⟩
  | .hbm, ⟨33, _⟩ => ⟨S800x1024, .f32⟩
  | .hbm, ⟨34, _⟩ => ⟨S_, .f32⟩
  | .hbm, ⟨35, _⟩ => ⟨S800x1024, .f32⟩
  | .hbm, ⟨36, _⟩ => ⟨S800x1024, .f32⟩
  | .hbm, ⟨37, _⟩ => ⟨S800x1024, .f32⟩
  | .hbm, ⟨38, _⟩ => ⟨S_, .f32⟩
  | .hbm, ⟨39, _⟩ => ⟨S800x1024, .f32⟩
  | .hbm, ⟨40, _⟩ => ⟨S800x1024, .f32⟩
  | .hbm, ⟨41, _⟩ => ⟨S800x1024, .f32⟩
  | .hbm, ⟨42, _⟩ => ⟨S_, .f32⟩
  | .hbm, ⟨43, _⟩ => ⟨S800x1024, .f32⟩
  | .hbm, ⟨44, _⟩ => ⟨S800x1024, .f32⟩
  | .hbm, ⟨45, _⟩ => ⟨S800x1024, .f32⟩
  | .hbm, ⟨46, _⟩ => ⟨S_, .f32⟩
  | .hbm, ⟨47, _⟩ => ⟨S800x1024, .f32⟩
  | .hbm, ⟨48, _⟩ => ⟨S800x1024, .f32⟩
  | _, _ => ⟨S800x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel11.lean ====
abbrev S256x1024 : Shape := ⟨2, ![256, 1024]⟩
abbrev S128x1024 : Shape := ⟨2, ![128, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S256x1024 : Shape := ⟨2, ![256, 1024]⟩
abbrev S128x1024 : Shape := ⟨2, ![128, 1024]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x128x1024 : Shape := ⟨3, ![2, 128, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x128x1024, .i1⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩
abbrev S512x1024 : Shape := ⟨2, ![512, 1024]⟩
abbrev S1x512x704 : Shape := ⟨3, ![1, 512, 704]⟩
abbrev S1x704x1024 : Shape := ⟨3, ![1, 704, 1024]⟩
abbrev S2x512x704 : Shape := ⟨3, ![2, 512, 704]⟩
abbrev S704x1024 : Shape := ⟨2, ![704, 1024]⟩
abbrev S512x704 : Shape := ⟨2, ![512, 704]⟩
abbrev S512 : Shape := ⟨1, ![512]⟩
abbrev S512x1 : Shape := ⟨2, ![512, 1]⟩
abbrev S1024 : Shape := ⟨1, ![1024]⟩

abbrev nBuf : Space → Nat
  | .hbm => 46
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x1024, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2816x1024, .bf16⟩
  | .hbm, ⟨12, _⟩ => ⟨S4x704x1024, .bf16⟩
  | .hbm, ⟨13, _⟩ => ⟨S2816x1024, .bf16⟩
  | .hbm, ⟨14, _⟩ => ⟨S4x704x1024, .bf16⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x4x704, .f32⟩
  | .hbm, ⟨32, _⟩ => ⟨S4x4096x704, .f32⟩
  | .hbm, ⟨33, _⟩ => ⟨S4x4096x704, .bf16⟩
  | .hbm, ⟨34, _⟩ => ⟨S4096x2816, .f32⟩
  | .hbm, ⟨35, _⟩ => ⟨S4096x4x704, .f32⟩
  | .hbm, ⟨36, _⟩ => ⟨S4x4096x704, .f32⟩
  | .hbm, ⟨37, _⟩ => ⟨S4x4096x704, .bf16⟩
  | .hbm, ⟨38, _⟩ => ⟨S1024x1024, .bf16⟩
  | .hbm, ⟨39, _⟩ => ⟨S4x4096x704, .bf16⟩
  | .hbm, ⟨40, _⟩ => ⟨S4x4096x704, .bf16⟩
  | .hbm, ⟨41, _⟩ => ⟨S4x4096x704, .bf16⟩
  | .hbm, ⟨42, _⟩ => ⟨S4096x1024, .bf16⟩
  | .hbm, ⟨43, _⟩ => ⟨S4096x1024, .f32⟩
  | .hbm, ⟨44, _⟩ => ⟨S1x1024, .f32⟩
  | .hbm, ⟨45, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1024x1024, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S2x512x704, .bf16⟩
  | .local _ .vmem, ⟨33, _⟩ => ⟨S2x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev main_v29_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let c1_i32_46 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v78 : BitVec 32 := Scalar.subi c1_i32_46 v35
  let v79 : Index := Scalar.indexCast v78
  let c0_47 : Index := 0#32
  let c0_48 : Index := 0#32
  ![v79.toNat, 0, 0]
def k0_off2 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v97 : Index := Scalar.indexCast v35
  let c0_62 : Index := 0#32
  let c0_63 : Index := 0#32
  ![v97.toNat, 0, 0]
def k0_cond2 (i : grid0.Coords) : BitVec 1 :=
  let c31_i32 : BitVec 32 := 31#32
  let c0_i32_0 : BitVec 32 := 0#32
  let arg0 : BitVec 32 := BitVec.ofNat 32 (i 0).val
  let c0_i32 : BitVec 32 := 0#32
  let v0 : BitVec 32 := Scalar.subi arg0 c0_i32
  let v1 : BitVec 32 := Scalar.maxsi c0_i32_0 v0
  let v2 : BitVec 32 := Scalar.minsi c31_i32 v1
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_21 : BitVec 32 := 0#32
  let v39 : BitVec 1 := Scalar.cmpi .eq v12 c0_i32_21
  let v40 : BitVec 32 := Scalar.extui v39
  let c0_i32_22 : BitVec 32 := 0#32
  let v41 : BitVec 1 := Scalar.cmpi .ne v40 c0_i32_22
  v41

def k0_cond3 (i : grid0.Coords) : BitVec 1 :=
  let c31_i32_7 : BitVec 32 := 31#32
  let c0_i32_6 : BitVec 32 := 0#32
  let arg0 : BitVec 32 := BitVec.ofNat 32 (i 0).val
  let c1_i32_5 : BitVec 32 := 1#32
  let v13 : BitVec 32 := Scalar.subi arg0 c1_i32_5
  let v14 : BitVec 32 := Scalar.maxsi c0_i32_6 v13
  let v15 : BitVec 32 := Scalar.minsi c31_i32_7 v14
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c3_i32 : BitVec 32 := 3#32
  let v105 : BitVec 1 := Scalar.cmpi .eq v25 c3_i32
  let c0_i32_66 : BitVec 32 := 0#32
  let v106 : BitVec 1 := Scalar.cmpi .sgt arg0 c0_i32_66
  let v107 : BitVec 1 := Scalar.andi v105 v106
  let v108 : BitVec 32 := Scalar.extui v107
  let c0_i32_67 : BitVec 32 := 0#32
  let v109 : BitVec 1 := Scalar.cmpi .ne v108 c0_i32_67
  v109

def k0_cond1 (i : grid0.Coords) : BitVec 1 :=
  let arg0 : BitVec 32 := BitVec.ofNat 32 (i 0).val
  let c0_i32_19 : BitVec 32 := 0#32
  let v36 : BitVec 1 := Scalar.cmpi .eq arg0 c0_i32_19
  let v37 : BitVec 32 := Scalar.extui v36
  let c0_i32_20 : BitVec 32 := 0#32
  let v38 : BitVec 1 := Scalar.cmpi .ne v37 c0_i32_20
  v38

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.subi arg0 c0_i32_12
  let c0_i32_13 : BitVec 32 := 0#32
  let c31_i32_14 : BitVec 32 := 31#32
  let v31 : BitVec 32 := Scalar.maxsi c0_i32_13 v30
  let v32 : BitVec 32 := Scalar.minsi c31_i32_14 v31
  let c4_i32_15 : BitVec 32 := 4#32
  let v33 : BitVec 32 := Scalar.divsi v32 c4_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c4_i32_15 c0_i32_18
  let v40 : BitVec 32 := Scalar.extui v39
  let c0_i32_19 : BitVec 32 := 0#32
  let v41 : BitVec 1 := Scalar.cmpi .slt c4_i32_15 c0_i32_19
  let v42 : BitVec 32 := Scalar.extui v41
  let v43 : BitVec 32 := Scalar.subi v40 v42
  let v44 : BitVec 1 := Scalar.cmpi .ne v38 v43
  let v45 : BitVec 32 := Scalar.remsi v32 c4_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi v32 v51
  let c0_i32_25 : BitVec 32 := 0#32
  let v53 : BitVec 1 := Scalar.cmpi .ne v52 c0_i32_25
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let v57 : BitVec 1 := Scalar.andi v56 v53
  let v58 : BitVec 32 := Scalar.addi v52 v51
  let v59 : BitVec 32 := Scalar.select v57 v58 v52
  let c0_i32_28 : BitVec 32 := 0#32
  let c0_i32_29 : BitVec 32 := 0#32
  ![v29.toNat, v49.toNat, c0_i32_28.toNat]

def cc0_transform_5 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.subi arg0 c0_i32_12
  let c0_i32_13 : BitVec 32 := 0#32
  let c31_i32_14 : BitVec 32 := 31#32
  let v31 : BitVec 32 := Scalar.maxsi c0_i32_13 v30
  let v32 : BitVec 32 := Scalar.minsi c31_i32_14 v31
  let c4_i32_15 : BitVec 32 := 4#32
  let v33 : BitVec 32 := Scalar.divsi v32 c4_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c4_i32_15 c0_i32_18
  let v40 : BitVec 32 := Scalar.extui v39
  let c0_i32_19 : BitVec 32 := 0#32
  let v41 : BitVec 1 := Scalar.cmpi .slt c4_i32_15 c0_i32_19
  let v42 : BitVec 32 := Scalar.extui v41
  let v43 : BitVec 32 := Scalar.subi v40 v42
  let v44 : BitVec 1 := Scalar.cmpi .ne v38 v43
  let v45 : BitVec 32 := Scalar.remsi v32 c4_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi v32 v51
  let c0_i32_25 : BitVec 32 := 0#32
  let v53 : BitVec 1 := Scalar.cmpi .ne v52 c0_i32_25
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let v57 : BitVec 1 := Scalar.andi v56 v53
  let v58 : BitVec 32 := Scalar.addi v52 v51
  let v59 : BitVec 32 := Scalar.select v57 v58 v52
  let c0_i32_28 : BitVec 32 := 0#32
  let c0_i32_29 : BitVec 32 := 0#32
  ![v29.toNat, v49.toNat, c0_i32_28.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, c0_i32_12.toNat, c0_i32_13.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, c0_i32_12.toNat, c0_i32_13.toNat]

def cc0_transform_8 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, c0_i32_12.toNat, c0_i32_13.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.subi arg0 c0_i32_12
  let c0_i32_13 : BitVec 32 := 0#32
  let c31_i32_14 : BitVec 32 := 31#32
  let v31 : BitVec 32 := Scalar.maxsi c0_i32_13 v30
  let v32 : BitVec 32 := Scalar.minsi c31_i32_14 v31
  let c4_i32_15 : BitVec 32 := 4#32
  let v33 : BitVec 32 := Scalar.divsi v32 c4_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c4_i32_15 c0_i32_18
  let v40 : BitVec 32 := Scalar.extui v39
  let c0_i32_19 : BitVec 32 := 0#32
  let v41 : BitVec 1 := Scalar.cmpi .slt c4_i32_15 c0_i32_19
  let v42 : BitVec 32 := Scalar.extui v41
  let v43 : BitVec 32 := Scalar.subi v40 v42
  let v44 : BitVec 1 := Scalar.cmpi .ne v38 v43
  let v45 : BitVec 32 := Scalar.remsi v32 c4_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi v32 v51
  let c0_i32_25 : BitVec 32 := 0#32
  let v53 : BitVec 1 := Scalar.cmpi .ne v52 c0_i32_25
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let v57 : BitVec 1 := Scalar.andi v56 v53
  let v58 : BitVec 32 := Scalar.addi v52 v51
  let v59 : BitVec 32 := Scalar.select v57 v58 v52
  let c0_i32_28 : BitVec 32 := 0#32
  let c0_i32_29 : BitVec 32 := 0#32
  ![v29.toNat, v49.toNat, c0_i32_28.toNat]

def cc0_transform_11 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.subi arg0 c0_i32_12
  let c0_i32_13 : BitVec 32 := 0#32
  let c31_i32_14 : BitVec 32 := 31#32
  let v31 : BitVec 32 := Scalar.maxsi c0_i32_13 v30
  let v32 : BitVec 32 := Scalar.minsi c31_i32_14 v31
  let c4_i32_15 : BitVec 32 := 4#32
  let v33 : BitVec 32 := Scalar.divsi v32 c4_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c4_i32_15 c0_i32_18
  let v40 : BitVec 32 := Scalar.extui v39
  let c0_i32_19 : BitVec 32 := 0#32
  let v41 : BitVec 1 := Scalar.cmpi .slt c4_i32_15 c0_i32_19
  let v42 : BitVec 32 := Scalar.extui v41
  let v43 : BitVec 32 := Scalar.subi v40 v42
  let v44 : BitVec 1 := Scalar.cmpi .ne v38 v43
  let v45 : BitVec 32 := Scalar.remsi v32 c4_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi v32 v51
  let c0_i32_25 : BitVec 32 := 0#32
  let v53 : BitVec 1 := Scalar.cmpi .ne v52 c0_i32_25
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let v57 : BitVec 1 := Scalar.andi v56 v53
  let v58 : BitVec 32 := Scalar.addi v52 v51
  let v59 : BitVec 32 := Scalar.select v57 v58 v52
  let c0_i32_28 : BitVec 32 := 0#32
  let c0_i32_29 : BitVec 32 := 0#32
  ![v29.toNat, v49.toNat, c0_i32_28.toNat]

def cc0_transform_12 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 32 := Scalar.subi arg0 c0_i32_12
  let c0_i32_13 : BitVec 32 := 0#32
  let c31_i32_14 : BitVec 32 := 31#32
  let v31 : BitVec 32 := Scalar.maxsi c0_i32_13 v30
  let v32 : BitVec 32 := Scalar.minsi c31_i32_14 v31
  let c4_i32_15 : BitVec 32 := 4#32
  let v33 : BitVec 32 := Scalar.divsi v32 c4_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c4_i32_15 c0_i32_18
  let v40 : BitVec 32 := Scalar.extui v39
  let c0_i32_19 : BitVec 32 := 0#32
  let v41 : BitVec 1 := Scalar.cmpi .slt c4_i32_15 c0_i32_19
  let v42 : BitVec 32 := Scalar.extui v41
  let v43 : BitVec 32 := Scalar.subi v40 v42
  let v44 : BitVec 1 := Scalar.cmpi .ne v38 v43
  let v45 : BitVec 32 := Scalar.remsi v32 c4_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c4_i32_22 : BitVec 32 := 4#32
  let c0_i32_23 : BitVec 32 := 0#32
  let v50 : BitVec 1 := Scalar.cmpi .eq c4_i32_22 c0_i32_23
  let c1_i32_24 : BitVec 32 := 1#32
  let v51 : BitVec 32 := Scalar.select v50 c1_i32_24 c4_i32_22
  let v52 : BitVec 32 := Scalar.remsi v32 v51
  let c0_i32_25 : BitVec 32 := 0#32
  let v53 : BitVec 1 := Scalar.cmpi .ne v52 c0_i32_25
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let v57 : BitVec 1 := Scalar.andi v56 v53
  let v58 : BitVec 32 := Scalar.addi v52 v51
  let v59 : BitVec 32 := Scalar.select v57 v58 v52
  let c0_i32_28 : BitVec 32 := 0#32
  let c0_i32_29 : BitVec 32 := 0#32
  ![v29.toNat, v49.toNat, c0_i32_28.toNat]

def cc0_transform_13 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.divsi v2 c4_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference12Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x1024, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S8x128 : Shape := ⟨2, ![8, 128]⟩
abbrev S4x4096x704 : Shape := ⟨3, ![4, 4096, 704]⟩
abbrev S512x1024 : Shape := ⟨2, ![512, 1024]⟩
abbrev S1x704x1024 : Shape := ⟨3, ![1, 704, 1024]⟩
abbrev S1x512x704 : Shape := ⟨3, ![1, 512, 704]⟩
abbrev S512 : Shape := ⟨1, ![512]⟩
abbrev S512x1 : Shape := ⟨2, ![512, 1]⟩
abbrev S704x1024 : Shape := ⟨2, ![704, 1024]⟩
abbrev S512x704 : Shape := ⟨2, ![512, 704]⟩
abbrev S1 : Shape := ⟨1, ![1]⟩
abbrev S1x1 : Shape := ⟨2, ![1, 1]⟩
abbrev S1024 : Shape := ⟨1, ![1024]⟩

abbrev nBuf : Space → Nat
  | .hbm => 21
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2816x1024, .bf16⟩
  | .hbm, ⟨12, _⟩ => ⟨S4x704x1024, .bf16⟩
  | .hbm, ⟨13, _⟩ => ⟨S2816x1024, .bf16⟩
  | .hbm, ⟨14, _⟩ => ⟨S4x704x1024, .bf16⟩
  | .hbm, ⟨15, _⟩ => ⟨S8x128, .f32⟩
  | .hbm, ⟨16, _⟩ => ⟨S4096x1024, .f32⟩
  | .hbm, ⟨17, _⟩ => ⟨S1x1024, .f32⟩
  | .hbm, ⟨18, _⟩ => ⟨S4x4096x704, .bf16⟩
  | .hbm, ⟨19, _⟩ => ⟨S4x4096x704, .bf16⟩
  | .hbm, ⟨20, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c0_i32_23 : BitVec 32 := 0#32
  let v31 : BitVec 1 := Scalar.cmpi .eq arg0 c0_i32_23
  let arg1 : BitVec 32 := BitVec.ofNat 32 (i 1).val
  let c0_i32_24 : BitVec 32 := 0#32
  let v32 : BitVec 1 := Scalar.cmpi .eq arg1 c0_i32_24
  let v33 : BitVec 1 := Scalar.andi v31 v32
  let v34 : BitVec 32 := Scalar.extui v33
  let c0_i32_25 : BitVec 32 := 0#32
  let v35 : BitVec 1 := Scalar.cmpi .ne v34 c0_i32_25
  v35

def k0_cond3 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_26 : BitVec 32 := 0#32
  let v38 : BitVec 1 := Scalar.cmpi .ne v37 c0_i32_26
  v38

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference13Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S8x128 : Shape := ⟨2, ![8, 128]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_cst_14 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_18 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_19 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Proof.Lift.lean ====
/-
  Arrays of real numbers read as arrays of extended reals, and the scalar facts that keep them there.
-/
module

public import Idealize.ShloMosaic.Lib.Pointwise
public import Mathlib.Analysis.SpecialFunctions.Log.Basic

@[expose] public section

set_option maxRecDepth 16384

noncomputable section

namespace Cert.Gla

open Idealize.ShloMosaic

/-- A matrix of reals as an array of extended reals. -/
def lift2 {a b : ℕ} (f : Fin a → Fin b → ℝ) : (⟨2, ![a, b]⟩ : Shape).Idx → EReal :=
  fun y => ((f (y 0) (y 1) : ℝ) : EReal)

def lift1 {a : ℕ} (f : Fin a → ℝ) : (⟨1, ![a]⟩ : Shape).Idx → EReal :=
  fun y => ((f (y 0) : ℝ) : EReal)

def lift3 {a b c : ℕ} (f : Fin a → Fin b → Fin c → ℝ) : (⟨3, ![a, b, c]⟩ : Shape).Idx → EReal :=
  fun y => ((f (y 0) (y 1) (y 2) : ℝ) : EReal)

def lift4 {a b c d : ℕ} (f : Fin a → Fin b → Fin c → Fin d → ℝ) : (⟨4, ![a, b, c, d]⟩ : Shape).Idx → EReal :=
  fun y => ((f (y 0) (y 1) (y 2) (y 3) : ℝ) : EReal)

def lift5 {a b c d e : ℕ} (f : Fin a → Fin b → Fin c → Fin d → Fin e → ℝ) :
    (⟨5, ![a, b, c, d, e]⟩ : Shape).Idx → EReal :=
  fun y => ((f (y 0) (y 1) (y 2) (y 3) (y 4) : ℝ) : EReal)

variable {a b c d e : ℕ}

theorem lift1_ix (f : Fin a → ℝ) (i) : lift1 f (ix1 i) = ((f i : ℝ) : EReal) := rfl
theorem lift2_ix (f : Fin a → Fin b → ℝ) (i j) : lift2 f (ix2 i j) = ((f i j : ℝ) : EReal) := rfl
theorem lift3_ix (f : Fin a → Fin b → Fin c → ℝ) (i j k) : lift3 f (ix3 i j k) = ((f i j k : ℝ) : EReal) := rfl
theorem lift4_ix (f : Fin a → Fin b → Fin c → Fin d → ℝ) (i j k l) :
    lift4 f (ix4 i j k l) = ((f i j k l : ℝ) : EReal) := rfl
theorem lift5_ix (f : Fin a → Fin b → Fin c → Fin d → Fin e → ℝ) (i j k l m) :
    lift5 f (ix5 i j k l m) = ((f i j k l m : ℝ) : EReal) := rfl

theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

theorem coe_ite (p : Prop) [Decidable p] (x y : ℝ) :
    (if p then (x : EReal) else (y : EReal)) = ((if p then x else y : ℝ) : EReal) := by split_ifs <;> rfl

theorem zero_coe : (0 : EReal) = ((0 : ℝ) : EReal) := rfl
theorem one_coe : (1 : EReal) = ((1 : ℝ) : EReal) := rfl

theorem c_sixteenth : Ideal.ofBits .f32 0x3D800000#32 = ((1 / 16 : ℝ) : EReal) := by
  simp [Ideal.ofBits, Ideal.ieee, -EReal.coe_mul]; norm_num
theorem c_eighth : Ideal.ofBits .f32 0x3E000000#32 = ((1 / 8 : ℝ) : EReal) := by
  simp [Ideal.ofBits, Ideal.ieee, -EReal.coe_mul]; norm_num
theorem c_sixteen : Ideal.ofBits .f32 0x41800000#32 = ((16 : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num

theorem div_real (x : ℝ) {y : ℝ} (h : y ≠ 0) : Ideal.div (x : EReal) (y : EReal) = ((x / y : ℝ) : EReal) := by
  rw [Ideal.div_coe h, ← EReal.coe_mul]; congr 1; ring

theorem log1p_real {x : ℝ} (h : -1 < x) : Ideal.log1p (x : EReal) = ((Real.log (1 + x) : ℝ) : EReal) := by
  rw [Ideal.log1p, one_coe, ← EReal.coe_add, Ideal.log_coe, if_neg (by linarith)]

theorem log1p_exp (x : ℝ) : Ideal.log1p ((Real.exp x : ℝ) : EReal) = ((Real.log (1 + Real.exp x) : ℝ) : EReal) :=
  log1p_real (by linarith [Real.exp_pos x])

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem max_coe (x y : ℝ) : max (x : EReal) (y : EReal) = ((max x y : ℝ) : EReal) :=
  (EReal.coe_strictMono.monotone.map_max).symm
theorem min_coe (x y : ℝ) : min (x : EReal) (y : EReal) = ((min x y : ℝ) : EReal) :=
  (EReal.coe_strictMono.monotone.map_min).symm
theorem abs_coe (x : ℝ) : max (x : EReal) (-(x : EReal)) = ((|x| : ℝ) : EReal) := by
  rw [← EReal.coe_neg, max_coe]; rfl

theorem absf_coe {φ : FTy} (x : ℝ) : FloatOps.absf (F := Ideal) (φ := φ) ((x : ℝ) : EReal) = ((|x| : ℝ) : EReal) := by
  exact abs_coe x

/-! ## Comparisons of positions -/

theorem ofNat_toInt {n : ℕ} (h : n < 2 ^ 31) : (BitVec.ofNat 32 n).toInt = n := by
  rw [BitVec.toInt_eq_toNat_cond, BitVec.toNat_ofNat, Nat.mod_eq_of_lt (by omega)]
  rw [if_pos (by omega)]

theorem cmp_sle {i j : ℕ} (hi : i < 2 ^ 31) (hj : j < 2 ^ 31) :
    IntOp.cmpi CmpIPredicate.sle (BitVec.ofNat 32 i) (BitVec.ofNat 32 j) = if i ≤ j then 1#1 else 0#1 := by
  simp only [IntOp.cmpi, BitVec.sle, ofNat_toInt hi, ofNat_toInt hj, Nat.cast_le]
  split_ifs with h <;> simp [h] <;> rw [decide_eq_false (by omega)] <;> rfl

theorem cmp_sge {i j : ℕ} (hi : i < 2 ^ 31) (hj : j < 2 ^ 31) :
    IntOp.cmpi CmpIPredicate.sge (BitVec.ofNat 32 i) (BitVec.ofNat 32 j) = if j ≤ i then 1#1 else 0#1 := by
  simp only [IntOp.cmpi, BitVec.sle, ofNat_toInt hi, ofNat_toInt hj, Nat.cast_le]
  split_ifs with h <;> simp [h] <;> rw [decide_eq_false (by omega)] <;> rfl

theorem cmp_slt {i j : ℕ} (hi : i < 2 ^ 31) (hj : j < 2 ^ 31) :
    IntOp.cmpi CmpIPredicate.slt (BitVec.ofNat 32 i) (BitVec.ofNat 32 j) = if i < j then 1#1 else 0#1 := by
  simp only [IntOp.cmpi, BitVec.slt, ofNat_toInt hi, ofNat_toInt hj, Nat.cast_lt]
  split_ifs with h <;> simp [h] <;> rw [decide_eq_false (by omega)] <;> rfl

theorem cmp_eq {i j : ℕ} (hi : i < 2 ^ 31) (hj : j < 2 ^ 31) :
    IntOp.cmpi CmpIPredicate.eq (BitVec.ofNat 32 i) (BitVec.ofNat 32 j) = if i = j then 1#1 else 0#1 := by
  have : BitVec.ofNat 32 i = BitVec.ofNat 32 j ↔ i = j := by
    constructor
    · intro h; have := congrArg BitVec.toInt h; rw [ofNat_toInt hi, ofNat_toInt hj] at this; exact_mod_cast this
    · rintro rfl; rfl
  simp only [IntOp.cmpi]
  by_cases h : i = j
  · simp [h]
  · rw [if_neg h, beq_eq_false_iff_ne.mpr (fun e => h (this.mp e))]; rfl

theorem sel_ite {α : Type} (p : Prop) [Decidable p] (x y : α) :
    Scalar.select (if p then 1#1 else 0#1) x y = if p then x else y := by
  split_ifs <;> simp [Scalar.select]

theorem mask_ite {φ : FTy} (p : Prop) [Decidable p] :
    FloatOps.sitofp (F := Ideal) φ (BitVec.setWidth 32 (if p then 1#1 else 0#1)) = (((if p then 1 else 0 : ℝ)) : EReal) := by
  split_ifs <;> simp [FloatOps.sitofp]

theorem cmp_sle64 (i j : Fin 64) :
    IntOp.cmpi CmpIPredicate.sle (BitVec.ofNat 32 i) (BitVec.ofNat 32 j) = if i ≤ j then 1#1 else 0#1 :=
  (cmp_sle (by omega) (by omega)).trans rfl
theorem cmp_sge64 (i j : Fin 64) :
    IntOp.cmpi CmpIPredicate.sge (BitVec.ofNat 32 i) (BitVec.ofNat 32 j) = if j ≤ i then 1#1 else 0#1 :=
  (cmp_sge (by omega) (by omega)).trans rfl
theorem cmp_lane (k : Fin 128) :
    IntOp.cmpi CmpIPredicate.slt (BitVec.ofNat 32 k) 64#32 = if (k : ℕ) < 64 then 1#1 else 0#1 :=
  cmp_slt (j := 64) (by omega) (by omega)
theorem cmp_last (i : Fin 64) :
    IntOp.cmpi CmpIPredicate.eq (BitVec.ofNat 32 i) 63#32 = if i = 63 then 1#1 else 0#1 := by
  rw [cmp_eq (i := i) (j := 63) (by omega) (by omega)]
  by_cases h : i = 63
  · subst h; rfl
  · rw [if_neg h, if_neg (fun e : (i : ℕ) = 63 => h (Fin.ext e))]

/-! ## The scale of a row's mean square -/

/-- The number added to a mean square before its inverse root is taken. -/
def eps : ℝ := 8796093 * 2 ^ (-43 : ℤ)

theorem eps_pos : 0 < eps := by unfold eps; positivity

theorem c_eps : Ideal.ofBits .f32 0x358637BD#32 = ((eps : ℝ) : EReal) := by
  simp [Ideal.ofBits, Ideal.ieee, -EReal.coe_mul, eps]

theorem c_one : Ideal.ofBits .f32 0x3F800000#32 = ((1 : ℝ) : EReal) := by
  simp [Ideal.ofBits, Ideal.ieee, -EReal.coe_mul]; norm_num

theorem c_zero : Ideal.ofBits .f32 0x00000000#32 = ((0 : ℝ) : EReal) := by
  simp [Ideal.ofBits, Ideal.ieee, -EReal.coe_mul]

/-- The inverse root of a row's mean square. -/
def rmsScale (x : Fin 128 → ℝ) : ℝ := (Real.sqrt ((∑ j, x j * x j) * (1 / 128) + eps))⁻¹

theorem meanSq_pos (x : Fin 128 → ℝ) : 0 < (∑ j, x j * x j) * (1 / 128) + eps := by
  have : 0 ≤ ∑ j, x j * x j := Finset.sum_nonneg fun j _ => mul_self_nonneg _
  linarith [eps_pos]

theorem div_128 (x : ℝ) : Ideal.div (x : EReal) ((128 : ℝ) : EReal) = ((x * (1 / 128) : ℝ) : EReal) := by
  rw [div_real x (by norm_num)]; congr 1; ring

theorem rsqrt_rms (x : Fin 128 → ℝ) :
    Ideal.rsqrt (((∑ j, x j * x j) * (1 / 128) + eps : ℝ) : EReal) = ((rmsScale x : ℝ) : EReal) :=
  rsqrt_pos (meanSq_pos x)

theorem coe_dite (p : Prop) [Decidable p] (x : p → ℝ) (y : ¬ p → ℝ) :
    (if h : p then ((x h : ℝ) : EReal) else ((y h : ℝ) : EReal)) = ((if h : p then x h else y h : ℝ) : EReal) := by
  split_ifs <;> rfl

/-- The sigmoid. -/
def sgm (x : ℝ) : ℝ := (1 + Real.exp (-x))⁻¹

end Cert.Gla

end
-- ==== Proof.Chunk.lean ====
/-
  The real-number formulas of one chunk of the gated attention's gradient, twice: as the tiled code computes them
  (decays split at the chunk's middle row, positions at or below the diagonal and above it apart) and as the plain
  derivative has them (one decay per pair of positions). The two agree where the cumulative log-decays strictly fall.
-/
module

public import Idealize.ShloMosaic.Lib.Pointwise
public import Mathlib.Analysis.SpecialFunctions.Log.Basic

@[expose] public section

set_option maxRecDepth 16384

noncomputable section

namespace Cert.Gla

open Finset

/-- The log-decay of one gate logit: the logarithm of its sigmoid, by a form that does not overflow. -/
def logSig (x : ℝ) : ℝ := min x 0 - Real.log (1 + Real.exp (-|x|))

theorem logSig_neg (x : ℝ) : logSig x < 0 := by
  have h : 0 < Real.log (1 + Real.exp (-|x|)) := Real.log_pos (by linarith [Real.exp_pos (-|x|)])
  have := min_le_right x 0
  unfold logSig; linarith

/-- The cumulative log-decay at position `i`. -/
def cumDecay {n : ℕ} (l : Fin 64 → Fin n → ℝ) (i : Fin 64) (k : Fin n) : ℝ :=
  ∑ j : Fin 64, if j ≤ i then logSig (l j k) / 16 else 0

theorem cumDecay_lt {n : ℕ} (l : Fin 64 → Fin n → ℝ) {i j : Fin 64} (h : i < j) (k : Fin n) :
    cumDecay l j k < cumDecay l i k := by
  unfold cumDecay
  refine Finset.sum_lt_sum (fun x _ => ?_) ⟨j, Finset.mem_univ _, ?_⟩
  · have := logSig_neg (l x k)
    by_cases h1 : x ≤ i
    · simp [h1, h1.trans h.le]
    · simp only [if_neg h1]; split_ifs <;> linarith
  · have := logSig_neg (l j k)
    simp only [le_refl, if_true, if_neg (not_le.mpr h)]; linarith

section
variable {n : ℕ} (q k b : Fin 64 → Fin n → ℝ) (v ct : Fin 64 → Fin 128 → ℝ) (S G : Fin n → Fin 128 → ℝ)

/-- The decay between two positions. -/
def dec (i j : Fin 64) (a : Fin n) : ℝ := Real.exp (-|b i a - b j a|)

/-- The gradient of a score. -/
def dsc (i j : Fin 64) : ℝ := ∑ e, ct i e * v j e

/-! ## The plain derivative -/

def rScore (i j : Fin 64) : ℝ := ∑ a, dec b i j a * (k j a * q i a)

def rDq (i : Fin 64) (a : Fin n) : ℝ :=
  (∑ e, ct i e * S a e) * Real.exp (b i a) + ∑ j, dsc v ct i j * dec b i j a * k j a

def rDk (j : Fin 64) (a : Fin n) : ℝ :=
  (∑ e, G a e * v j e) * Real.exp (b 63 a - b j a) + ∑ i, dsc v ct i j * dec b i j a * q i a

def rDv (j : Fin 64) (e : Fin 128) : ℝ :=
  (∑ a, G a e * (k j a * Real.exp (b 63 a - b j a))) + ∑ i, ct i e * rScore q k b i j

/-- The signed pair term: the derivative of the decay through its absolute value. -/
def rPair (i j : Fin 64) (a : Fin n) : ℝ :=
  if b j a ≤ b i a then -(dsc v ct i j * (k j a * q i a) * dec b i j a) else dsc v ct i j * (k j a * q i a) * dec b i j a

def rKd (j : Fin 64) (a : Fin n) : ℝ := k j a * (∑ e, G a e * v j e) * Real.exp (b 63 a - b j a)

def rDb (i : Fin 64) (a : Fin n) : ℝ :=
  -rKd k b v G i a + (if i = 63 then (∑ j, rKd k b v G j a) + (∑ e, G a e * S a e) * Real.exp (b 63 a) else 0)
    + q i a * (∑ e, ct i e * S a e) * Real.exp (b i a)
    + (∑ x, -rPair q k b v ct x i a) + ∑ x, rPair q k b v ct i x a

def rDst (a : Fin n) (e : Fin 128) : ℝ :=
  Real.exp (b 63 a) * G a e + ∑ i, ct i e * (q i a * Real.exp (b i a))

/-! ## The tiled code's -/

def kT (i : Fin 64) (a : Fin n) : ℝ := k i a * Real.exp (b 31 a - b i a)
def kH (i : Fin 64) (a : Fin n) : ℝ := k i a * Real.exp (b i a - b 31 a)

def kScoreT (j i : Fin 64) : ℝ :=
  if j ≤ i then ∑ a, kT k b j a * kH q b i a else ∑ a, kH k b j a * kT q b i a

def dqt (i : Fin 64) (a : Fin n) : ℝ := ∑ j, (if j ≤ i then dsc v ct i j else 0) * kT k b j a
def dqh (i : Fin 64) (a : Fin n) : ℝ := ∑ j, (if j ≤ i then 0 else dsc v ct i j) * kH k b j a
def dkt (j : Fin 64) (a : Fin n) : ℝ := ∑ i, (if j ≤ i then ∑ e, v j e * ct i e else 0) * kH q b i a
def dkh (j : Fin 64) (a : Fin n) : ℝ := ∑ i, (if j ≤ i then 0 else ∑ e, v j e * ct i e) * kT q b i a
def dqe (i : Fin 64) (a : Fin n) : ℝ := ∑ e, ct i e * S a e
def dkd (j : Fin 64) (a : Fin n) : ℝ := ∑ e, v j e * G a e

def kDq (i : Fin 64) (a : Fin n) : ℝ :=
  dqt k b v ct i a * Real.exp (b i a - b 31 a) + dqh k b v ct i a * Real.exp (b 31 a - b i a)
    + dqe ct S i a * Real.exp (b i a)

def kDk (j : Fin 64) (a : Fin n) : ℝ :=
  dkt q b v ct j a * Real.exp (b 31 a - b j a) + dkh q b v ct j a * Real.exp (b j a - b 31 a)
    + dkd v G j a * Real.exp (b 63 a - b j a)

def kDv (j : Fin 64) (e : Fin 128) : ℝ :=
  (∑ i, kScoreT q k b j i * ct i e) + ∑ a, k j a * Real.exp (b 63 a - b j a) * G a e

def kDb (i : Fin 64) (a : Fin n) : ℝ :=
  dqt k b v ct i a * kH q b i a - dkt q b v ct i a * kT k b i a - dqh k b v ct i a * kT q b i a
    + dkh q b v ct i a * kH k b i a + dqe ct S i a * (q i a * Real.exp (b i a))
    - dkd v G i a * (k i a * Real.exp (b 63 a - b i a))
    + (if i = 63 then (∑ j, dkd v G j a * (k j a * Real.exp (b 63 a - b j a)))
        + (∑ e, G a e * S a e) * Real.exp (b 63 a) else 0)

def kDst (a : Fin n) (e : Fin 128) : ℝ :=
  G a e * Real.exp (b 63 a) + ∑ i, ct i e * (q i a * Real.exp (b i a))

/-! ## They agree -/

variable {q k b v ct S G}

theorem dec_low (hb : ∀ a (i j : Fin 64), i < j → b j a < b i a) {i j : Fin 64} (h : j ≤ i) (a : Fin n) :
    dec b i j a = Real.exp (b i a - b 31 a) * Real.exp (b 31 a - b j a) := by
  have : b i a ≤ b j a := by
    rcases h.lt_or_eq with h | h
    · exact (hb a _ _ h).le
    · rw [h]
  rw [dec, ← Real.exp_add, abs_of_nonpos (by linarith)]; congr 1; ring

theorem dec_upp (hb : ∀ a (i j : Fin 64), i < j → b j a < b i a) {i j : Fin 64} (h : ¬ j ≤ i) (a : Fin n) :
    dec b i j a = Real.exp (b 31 a - b i a) * Real.exp (b j a - b 31 a) := by
  have := hb a _ _ (not_le.mp h)
  rw [dec, ← Real.exp_add, abs_of_nonneg (by linarith)]; congr 1; ring

theorem kScoreT_eq (hb : ∀ a (i j : Fin 64), i < j → b j a < b i a) (i j : Fin 64) :
    kScoreT q k b j i = rScore q k b i j := by
  unfold kScoreT rScore kT kH
  split_ifs with h
  · refine Finset.sum_congr rfl fun a _ => ?_
    rw [dec_low hb h]; ring
  · refine Finset.sum_congr rfl fun a _ => ?_
    rw [dec_upp hb h]; ring

theorem kDv_eq (hb : ∀ a (i j : Fin 64), i < j → b j a < b i a) (j : Fin 64) (e : Fin 128) :
    kDv q k b ct G j e = rDv q k b ct G j e := by
  unfold kDv rDv
  rw [add_comm]
  congr 1
  · exact Finset.sum_congr rfl fun a _ => mul_comm _ _
  · exact Finset.sum_congr rfl fun i _ => by rw [kScoreT_eq hb, mul_comm]

theorem dqt_dqh (hb : ∀ a (i j : Fin 64), i < j → b j a < b i a) (i : Fin 64) (a : Fin n) :
    dqt k b v ct i a * Real.exp (b i a - b 31 a) + dqh k b v ct i a * Real.exp (b 31 a - b i a)
      = ∑ j, dsc v ct i j * dec b i j a * k j a := by
  unfold dqt dqh kT kH
  rw [Finset.sum_mul, Finset.sum_mul, ← Finset.sum_add_distrib]
  refine Finset.sum_congr rfl fun j _ => ?_
  split_ifs with h
  · rw [dec_low hb h]; ring
  · rw [dec_upp hb h]; ring

theorem dsc_comm (i j : Fin 64) : (∑ e, v j e * ct i e) = dsc v ct i j :=
  Finset.sum_congr rfl fun _ _ => mul_comm _ _

theorem dkt_dkh (hb : ∀ a (i j : Fin 64), i < j → b j a < b i a) (j : Fin 64) (a : Fin n) :
    dkt q b v ct j a * Real.exp (b 31 a - b j a) + dkh q b v ct j a * Real.exp (b j a - b 31 a)
      = ∑ i, dsc v ct i j * dec b i j a * q i a := by
  unfold dkt dkh kT kH
  simp only [dsc_comm]
  rw [Finset.sum_mul, Finset.sum_mul, ← Finset.sum_add_distrib]
  refine Finset.sum_congr rfl fun i _ => ?_
  split_ifs with h
  · rw [dec_low hb h]; ring
  · rw [dec_upp hb h]; ring

theorem kDq_eq (hb : ∀ a (i j : Fin 64), i < j → b j a < b i a) (i : Fin 64) (a : Fin n) :
    kDq k b v ct S i a = rDq k b v ct S i a := by
  unfold kDq rDq dqe
  rw [dqt_dqh hb, add_comm]

theorem dkd_eq (j : Fin 64) (a : Fin n) : dkd v G j a = ∑ e, G a e * v j e :=
  Finset.sum_congr rfl fun _ _ => mul_comm _ _

theorem kDk_eq (hb : ∀ a (i j : Fin 64), i < j → b j a < b i a) (j : Fin 64) (a : Fin n) :
    kDk q b v ct G j a = rDk q b v ct G j a := by
  unfold kDk rDk
  rw [dkt_dkh hb, add_comm, dkd_eq]

theorem kDst_eq (a : Fin n) (e : Fin 128) : kDst q b ct G a e = rDst q b ct G a e := by
  unfold kDst rDst; rw [mul_comm]

/-- The query side of the pair terms. -/
theorem pair_q (hb : ∀ a (i j : Fin 64), i < j → b j a < b i a) (i : Fin 64) (a : Fin n) :
    dqt k b v ct i a * kH q b i a - dqh k b v ct i a * kT q b i a
      = (∑ x, rPair q k b v ct i x a) + 2 * (dsc v ct i i * (k i a * q i a)) := by
  have e : ∀ x, (if x ≤ i then dsc v ct i x else 0) * kT k b x a * kH q b i a
      - (if x ≤ i then 0 else dsc v ct i x) * kH k b x a * kT q b i a
      = rPair q k b v ct i x a + if x = i then 2 * (dsc v ct i i * (k i a * q i a)) else 0 := by
    intro x
    unfold rPair kT kH
    rcases lt_trichotomy x i with h | h | h
    · have hlt := hb a _ _ h
      rw [if_pos h.le, if_pos h.le, if_neg (not_le.mpr hlt), if_neg h.ne, dec_low hb h.le]; ring
    · subst h
      simp only [le_refl, if_true, dec, sub_self, abs_zero, neg_zero, Real.exp_zero]
      have : Real.exp (b 31 a - b x a) * Real.exp (b x a - b 31 a) = 1 := by
        rw [← Real.exp_add]; simp
      linear_combination (dsc v ct x x * k x a * q x a) * this
    · have hlt := hb a _ _ h
      rw [if_neg (not_le.mpr h), if_neg (not_le.mpr h), if_pos hlt.le, if_neg h.ne', dec_upp hb (not_le.mpr h)]; ring
  unfold dqt dqh
  rw [Finset.sum_mul, Finset.sum_mul, ← Finset.sum_sub_distrib, Finset.sum_congr rfl fun x _ => e x,
    Finset.sum_add_distrib, Finset.sum_ite_eq' Finset.univ i]
  simp

/-- The key side of the pair terms. -/
theorem pair_k (hb : ∀ a (i j : Fin 64), i < j → b j a < b i a) (i : Fin 64) (a : Fin n) :
    dkt q b v ct i a * kT k b i a - dkh q b v ct i a * kH k b i a
      = (∑ x, rPair q k b v ct x i a) + 2 * (dsc v ct i i * (k i a * q i a)) := by
  have e : ∀ x, (if i ≤ x then ∑ e, v i e * ct x e else 0) * kH q b x a * kT k b i a
      - (if i ≤ x then 0 else ∑ e, v i e * ct x e) * kT q b x a * kH k b i a
      = rPair q k b v ct x i a + if x = i then 2 * (dsc v ct i i * (k i a * q i a)) else 0 := by
    intro x
    unfold rPair kT kH
    rw [dsc_comm]
    rcases lt_trichotomy i x with h | h | h
    · have hlt := hb a _ _ h
      rw [if_pos h.le, if_pos h.le, if_neg (not_le.mpr hlt), if_neg h.ne', dec_low hb h.le]; ring
    · subst h
      simp only [le_refl, if_true, dec, sub_self, abs_zero, neg_zero, Real.exp_zero]
      have : Real.exp (b 31 a - b i a) * Real.exp (b i a - b 31 a) = 1 := by
        rw [← Real.exp_add]; simp
      linear_combination (dsc v ct i i * k i a * q i a) * this
    · have hlt := hb a _ _ h
      rw [if_neg (not_le.mpr h), if_neg (not_le.mpr h), if_pos hlt.le, if_neg h.ne, dec_upp hb (not_le.mpr h)]; ring
  unfold dkt dkh
  rw [Finset.sum_mul, Finset.sum_mul, ← Finset.sum_sub_distrib, Finset.sum_congr rfl fun x _ => e x,
    Finset.sum_add_distrib, Finset.sum_ite_eq' Finset.univ i]
  simp

theorem rKd_eq (j : Fin 64) (a : Fin n) :
    dkd v G j a * (k j a * Real.exp (b 63 a - b j a)) = rKd k b v G j a := by
  rw [dkd_eq, rKd]; ring

theorem kDb_eq (hb : ∀ a (i j : Fin 64), i < j → b j a < b i a) (i : Fin 64) (a : Fin n) :
    kDb q k b v ct S G i a = rDb q k b v ct S G i a := by
  have h1 := pair_q (q := q) (k := k) (v := v) (ct := ct) hb i a
  have h2 := pair_k (q := q) (k := k) (v := v) (ct := ct) hb i a
  unfold kDb rDb
  simp only [rKd_eq, Finset.sum_neg_distrib, dqe]
  linear_combination h1 - h2

end

end Cert.Gla

end
-- ==== Proof.Tile.lean ====
/-
  What the values of the kernel's body are, when the arrays they are computed from hold real numbers.
-/
module

public import proofs.«01_k».proof.Proof.Gen.KernelIdeal.Skeleton
public import proofs.«01_k».proof.Proof.Lift
public import proofs.«01_k».proof.Proof.Chunk

@[expose] public section

set_option maxRecDepth 16384

noncomputable section

namespace Cert.KernelIdeal.Stage

open Cert.KernelIdeal Cert.KernelIdeal.Gen Cert.Gla Idealize.ShloMosaic

/-- The position of every element along the second and along the third axis. -/
abbrev rowI : IVec S16x64x64 32 := iota .tc S16x64x64 32 [1] iota_S16x64x64_d1_w32
abbrev colI : IVec S16x64x64 32 := iota .tc S16x64x64 32 [2] iota_S16x64x64_d2_w32

/-- The gate logits: a product and a bias. -/
def logit (x : Fin 512 → Fin 128 → ℝ) (w : Fin 128 → Fin 128 → ℝ) (b : Fin 1 → Fin 128 → ℝ) (r : Fin 512) (k : Fin 128) : ℝ :=
  (∑ j, x r j * w j k) + b 0 k

/-- The row of a tile's position. -/
def row (c : Fin 8) (i : Fin 64) : Fin 512 := ⟨c * 64 + i, by omega⟩

/-- The two heads' chunks of a tile, one head after the other. -/
def pair (f g : Fin 512 → Fin 128 → ℝ) (c : Fin 16) (i : Fin 64) (k : Fin 128) : ℝ :=
  if h : (c : ℕ) < 8 then f (row ⟨c, h⟩ i) k else g (row ⟨c - 8, by omega⟩ i) k

theorem p9 (x : Fin 512 → Fin 128 → ℝ) :
    k0_pay9 (F := Ideal) (lift2 x) = lift2 fun r k => if (k : ℕ) < 64 then x r k else 0 := by
  funext y
  idx_vars y
  pointwise [k0_pay9, k0_pay8]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p10 (x : Fin 512 → Fin 128 → ℝ) :
    k0_pay10 (F := Ideal) (lift2 x) = lift2 fun r k => if (k : ℕ) < 64 then x r k else 0 := by
  funext y
  idx_vars y
  pointwise [k0_pay10, k0_pay8]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p11 (x : Fin 512 → Fin 128 → ℝ) :
    k0_pay11 (F := Ideal) (lift2 x) = lift3 fun c i k => x (row c i) k := by
  funext y
  idx_vars y
  pointwise [k0_pay11]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p17 (x : Fin 512 → Fin 128 → ℝ) :
    k0_pay17 (F := Ideal) (lift2 x) = lift3 fun c i k => x (row c i) k := by
  funext y
  idx_vars y
  pointwise [k0_pay17]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p20 (x : Fin 512 → Fin 128 → ℝ) :
    k0_pay20 (F := Ideal) (lift2 x) = lift3 fun c i k => x (row c i) k := by
  funext y
  idx_vars y
  pointwise [k0_pay20]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p18 (x : Fin 512 → Fin 128 → ℝ) :
    k0_pay18 (F := Ideal) k0_pay8 (lift2 x) = lift2 fun r k => if (k : ℕ) < 64 then x r ⟨(k + 64) % 128, by omega⟩ else 0 := by
  funext y
  idx_vars y
  pointwise [k0_pay18, k0_pay8]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p19 (x : Fin 512 → Fin 128 → ℝ) :
    k0_pay19 (F := Ideal) k0_pay8 (lift2 x) = lift2 fun r k => if (k : ℕ) < 64 then x r ⟨(k + 64) % 128, by omega⟩ else 0 := by
  funext y
  idx_vars y
  pointwise [k0_pay19, k0_pay8]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p12 (x : Fin 512 → Fin 128 → ℝ) (w : Fin 128 → Fin 128 → ℝ) (b : Fin 1 → Fin 128 → ℝ) :
    k0_pay12 (F := Ideal) (lift2 x) (lift2 w) (lift2 b) = lift2 (logit x w b) := by
  funext y
  idx_vars y
  pointwise [k0_pay12]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [logit])
theorem p21 (x : Fin 512 → Fin 128 → ℝ) (w : Fin 128 → Fin 128 → ℝ) (b : Fin 1 → Fin 128 → ℝ) :
    k0_pay21 (F := Ideal) (lift2 x) (lift2 w) (lift2 b) = lift2 (logit x w b) := by
  funext y
  idx_vars y
  pointwise [k0_pay21]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [logit])
theorem p13 (x : Fin 512 → Fin 128 → ℝ) (w : Fin 128 → Fin 128 → ℝ) (b : Fin 1 → Fin 128 → ℝ) :
    k0_pay13 (F := Ideal) (lift2 x) (lift2 w) (lift2 b) = lift2 fun r k => min (logit x w b r k) 0 := by
  funext y
  idx_vars y
  pointwise [k0_pay13, p12]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p14 (x : Fin 512 → Fin 128 → ℝ) (w : Fin 128 → Fin 128 → ℝ) (b : Fin 1 → Fin 128 → ℝ) :
    k0_pay14 (F := Ideal) (lift2 x) (lift2 w) (lift2 b) = lift2 fun r k => -|logit x w b r k| := by
  funext y
  idx_vars y
  pointwise [k0_pay14, p12]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp)
theorem p15 (x : Fin 512 → Fin 128 → ℝ) :
    k0_pay15 (F := Ideal) rowI colI (lift2 fun r k => min (x r k) 0) (lift2 fun r k => -|x r k|) = lift3 fun c => cumDecay fun i => x (row c i) := by
  funext y
  idx_vars y
  pointwise [k0_pay15]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [cumDecay, logSig, row, div_eq_mul_inv])
theorem p16 (x : Fin 512 → Fin 128 → ℝ) :
    k0_pay16 (F := Ideal) (lift2 x) = lift3 fun c i k => x (row c i) k * (1 / 8) := by
  funext y
  idx_vars y
  pointwise [k0_pay16]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p22 (x z : Fin 512 → Fin 128 → ℝ) :
    k0_pay22 (F := Ideal) (lift3 fun c i k => x (row c i) k * (1 / 8)) (lift2 z) = lift3 (pair (fun r k => x r k * (1 / 8)) (fun r k => z r k * (1 / 8))) := by
  funext y
  idx_vars y
  pointwise [k0_pay22]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p23 (x z : Fin 512 → Fin 128 → ℝ) :
    k0_pay23 (F := Ideal) (lift3 fun c i k => x (row c i) k) (lift2 z) = lift3 (pair x z) := by
  funext y
  idx_vars y
  pointwise [k0_pay23]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p24 (x z : Fin 512 → Fin 128 → ℝ) :
    k0_pay24 (F := Ideal) (lift3 fun c i k => x (row c i) k) (lift3 fun c i k => z (row c i) k) = lift3 (pair x z) := by
  funext y
  idx_vars y
  pointwise [k0_pay24]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p25 (z : Fin 512 → Fin 128 → ℝ) (x : Fin 512 → Fin 128 → ℝ) (w : Fin 128 → Fin 128 → ℝ) (b : Fin 1 → Fin 128 → ℝ) :
    k0_pay25 (F := Ideal) rowI colI (lift3 fun c => cumDecay fun i => z (row c i)) (lift2 x) (lift2 w) (lift2 b) = lift3 fun c => cumDecay (pair z (logit x w b) c) := by
  funext y
  idx_vars y
  pointwise [k0_pay25, p21]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  refine congrArg _ ?_
  by_cases h : (y0 : ℕ) < 8
  · simp [h, cumDecay, pair]
  · simp [h, cumDecay, pair, logSig, row, div_eq_mul_inv]
/-- The queries of a tile's two heads: the head's 64 lanes of the block, scaled, and zeros. -/
def tQ (x : Fin 512 → Fin 128 → ℝ) : Fin 16 → Fin 64 → Fin 128 → ℝ :=
  pair (fun r k => (if (k : ℕ) < 64 then x r k else 0) * (1 / 8))
    (fun r k => (if (k : ℕ) < 64 then x r ⟨(k + 64) % 128, by omega⟩ else 0) * (1 / 8))

/-- Its keys. -/
def tK (x : Fin 512 → Fin 128 → ℝ) : Fin 16 → Fin 64 → Fin 128 → ℝ :=
  pair (fun r k => if (k : ℕ) < 64 then x r k else 0)
    (fun r k => if (k : ℕ) < 64 then x r ⟨(k + 64) % 128, by omega⟩ else 0)

/-- Its cumulative log-decays. -/
def tB (x : Fin 512 → Fin 128 → ℝ) (w0 w1 : Fin 128 → Fin 128 → ℝ) (b0 b1 : Fin 1 → Fin 128 → ℝ) (c : Fin 16) :
    Fin 64 → Fin 128 → ℝ :=
  cumDecay (pair (logit x w0 b0) (logit x w1 b1) c)

theorem kQ (x : Fin 512 → Fin 128 → ℝ) :
    k0_pay22 (F := Ideal) (k0_pay16 (k0_pay9 (lift2 x))) (k0_pay18 k0_pay8 (lift2 x)) = lift3 (tQ x) := by
  rw [p9, p16, p18]; exact p22 (fun r k => if (k : ℕ) < 64 then x r k else 0) _

theorem kK (x : Fin 512 → Fin 128 → ℝ) :
    k0_pay23 (F := Ideal) (k0_pay17 (k0_pay10 (lift2 x))) (k0_pay19 k0_pay8 (lift2 x)) = lift3 (tK x) := by
  rw [p10, p17, p19]; exact p23 (fun r k => if (k : ℕ) < 64 then x r k else 0) _

theorem kV (x z : Fin 512 → Fin 128 → ℝ) :
    k0_pay24 (F := Ideal) (k0_pay11 (lift2 x)) (k0_pay20 (lift2 z)) = lift3 (pair x z) := by
  rw [p11, p20, p24]

theorem kB (x : Fin 512 → Fin 128 → ℝ) (w0 w1 : Fin 128 → Fin 128 → ℝ) (b0 b1 : Fin 1 → Fin 128 → ℝ) :
    k0_pay25 (F := Ideal) rowI colI (k0_pay15 rowI colI (k0_pay13 (lift2 x) (lift2 w0) (lift2 b0))
      (k0_pay14 (lift2 x) (lift2 w0) (lift2 b0))) (lift2 x) (lift2 w1) (lift2 b1) = lift3 (tB x w0 w1 b0 b1) := by
  rw [p13, p14, p15, p25]; rfl

end Cert.KernelIdeal.Stage
-- ==== Proof.Norm.lean ====
/-
  The normalisation and the output gate of the kernel's body: what its values are, when the arrays they are computed from hold real numbers.
-/
module

public import proofs.«01_k».proof.Proof.Gen.KernelIdeal.Skeleton
public import proofs.«01_k».proof.Proof.Tile
public import proofs.«01_k».proof.Proof.Chunk

@[expose] public section

set_option maxRecDepth 16384

noncomputable section

namespace Cert.KernelIdeal.Stage

open Cert.KernelIdeal Cert.KernelIdeal.Gen Cert.Gla Idealize.ShloMosaic

/-- The gradient before the output gate. -/
def dPre (g df : Fin 512 → Fin 128 → ℝ) (r : Fin 512) (e : Fin 128) : ℝ := df r e * (g r e * sgm (g r e))

/-- The normalised row. -/
def nrm (o : Fin 512 → Fin 128 → ℝ) (r : Fin 512) (e : Fin 128) : ℝ := o r e * rmsScale (o r)

/-- The gradient of the output gate. -/
def dGate (gn : Fin 1 → Fin 128 → ℝ) (o g df : Fin 512 → Fin 128 → ℝ) (r : Fin 512) (e : Fin 128) : ℝ :=
  df r e * (nrm o r e * gn 0 e) * (sgm (g r e) * (1 + g r e * (1 - sgm (g r e))))

/-- The gradient of the attention's output, through the normalisation. -/
def dOut (gn : Fin 1 → Fin 128 → ℝ) (o g df : Fin 512 → Fin 128 → ℝ) (r : Fin 512) (e : Fin 128) : ℝ :=
  rmsScale (o r) * (dPre g df r e * gn 0 e - nrm o r e * ((∑ j, dPre g df r j * gn 0 j * nrm o r j) * (1 / 128)))

theorem p32 (o : Fin 512 → Fin 128 → ℝ) :
    k0_pay32 (F := Ideal) (lift2 o) = lift2 fun r _ => rmsScale (o r) := by
  funext y
  idx_vars y
  pointwise [k0_pay32]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p39 (o : Fin 512 → Fin 128 → ℝ) :
    k0_pay39 (F := Ideal) (lift2 o) = lift2 fun r _ => rmsScale (o r) := by
  funext y
  idx_vars y
  pointwise [k0_pay39]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p33 (o : Fin 512 → Fin 128 → ℝ) :
    k0_pay33 (F := Ideal) (lift2 o) = lift2 (nrm o) := by
  funext y
  idx_vars y
  pointwise [k0_pay33, p32]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p40 (o : Fin 512 → Fin 128 → ℝ) :
    k0_pay40 (F := Ideal) (lift2 o) = lift2 (nrm o) := by
  funext y
  idx_vars y
  pointwise [k0_pay40, p39]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p36 (g df : Fin 512 → Fin 128 → ℝ) :
    k0_pay36 (F := Ideal) (lift2 g) (lift2 df) = lift2 (dPre g df) := by
  funext y
  idx_vars y
  pointwise [k0_pay36, k0_pay34]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [nrm, dPre, dGate, dOut, rmsScale, sgm, row])
theorem p43 (g df : Fin 512 → Fin 128 → ℝ) :
    k0_pay43 (F := Ideal) (lift2 g) (lift2 df) = lift2 (dPre g df) := by
  funext y
  idx_vars y
  pointwise [k0_pay43, k0_pay41]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [nrm, dPre, dGate, dOut, rmsScale, sgm, row])
theorem p35 (gn : Fin 1 → Fin 128 → ℝ) (o g df : Fin 512 → Fin 128 → ℝ) :
    k0_pay35 (F := Ideal) (lift2 g) (lift2 gn) (lift2 o) (lift2 df) = lift2 (dGate gn o g df) := by
  funext y
  idx_vars y
  pointwise [k0_pay35, k0_pay34, p33]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p42 (gn : Fin 1 → Fin 128 → ℝ) (o g df : Fin 512 → Fin 128 → ℝ) :
    k0_pay42 (F := Ideal) (lift2 g) (lift2 gn) (lift2 o) (lift2 df) = lift2 (dGate gn o g df) := by
  funext y
  idx_vars y
  pointwise [k0_pay42, k0_pay41, p40]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p37 (o g df : Fin 512 → Fin 128 → ℝ) (a : Fin 1 → Fin 128 → ℝ) :
    k0_pay37 (F := Ideal) (lift2 g) (lift2 o) (lift2 df) (lift2 a) = lift2 fun u e => a u e + ∑ r, dPre g df r e * nrm o r e := by
  funext y
  idx_vars y
  pointwise [k0_pay37, p36, p33]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p44 (n d : Fin 512 → Fin 128 → ℝ) (a : Fin 1 → Fin 128 → ℝ) :
    k0_pay44 (F := Ideal) (lift2 n) (lift2 d) (lift2 a) = lift2 fun u e => a u e + ∑ r, d r e * n r e := by
  funext y
  idx_vars y
  pointwise [k0_pay44]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p38 (gn : Fin 1 → Fin 128 → ℝ) (o g df : Fin 512 → Fin 128 → ℝ) :
    k0_pay38 (F := Ideal) (lift2 gn) (lift2 fun r _ => rmsScale (o r)) (lift2 (nrm o)) (lift2 (dPre g df)) = lift3 fun c i e => dOut gn o g df (row c i) e := by
  funext y
  idx_vars y
  pointwise [k0_pay38]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [nrm, dPre, dGate, dOut, rmsScale, sgm, row])
theorem p45 (x : Fin 512 → Fin 128 → ℝ) (gn : Fin 1 → Fin 128 → ℝ) (o g df : Fin 512 → Fin 128 → ℝ) :
    k0_pay45 (F := Ideal) (lift3 fun c i e => x (row c i) e) (lift2 gn) (lift2 fun r _ => rmsScale (o r)) (lift2 (nrm o)) (lift2 (dPre g df)) = lift3 (pair x (dOut gn o g df)) := by
  funext y
  idx_vars y
  pointwise [k0_pay45]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [pair, dOut, nrm, dPre, sgm, row])

end Cert.KernelIdeal.Stage
-- ==== Proof.State.lean ====
/-
  The gradient of the carried state through a tile's chunks: what the body's values are, when the arrays they are computed from hold real numbers.
-/
module

public import proofs.«01_k».proof.Proof.Gen.KernelIdeal.Skeleton
public import proofs.«01_k».proof.Proof.Norm
public import proofs.«01_k».proof.Proof.Chunk

@[expose] public section

set_option maxRecDepth 16384

noncomputable section

namespace Cert.KernelIdeal.Stage

open Cert.KernelIdeal Cert.KernelIdeal.Gen Cert.Gla Idealize.ShloMosaic

/-- One chunk back: the gradient decayed over the chunk, and the chunk's own. -/
def step (EL : Fin 16 → Fin 1 → Fin 128 → ℝ) (DG : Fin 16 → Fin 128 → Fin 128 → ℝ) (n : Fin 16)
    (z : Fin 128 → Fin 128 → ℝ) (e a : Fin 128) : ℝ := z e a * EL n 0 a + DG n e a

/-- What each chunk adds to the gradient of its starting state. -/
def grow (D QE : Fin 16 → Fin 64 → Fin 128 → ℝ) (c : Fin 16) (e a : Fin 128) : ℝ := ∑ i, D c i e * QE c i a

theorem p47 (QE : Fin 16 → Fin 64 → Fin 128 → ℝ) (x : Fin 512 → Fin 128 → ℝ) (gn : Fin 1 → Fin 128 → ℝ) (o g df : Fin 512 → Fin 128 → ℝ) :
    k0_pay47 (F := Ideal) (lift3 QE) (lift3 fun c i e => x (row c i) e) (lift2 gn) (lift2 fun r _ => rmsScale (o r)) (lift2 (nrm o)) (lift2 (dPre g df)) = lift3 (grow (pair x (dOut gn o g df)) QE) := by
  funext y
  idx_vars y
  pointwise [k0_pay47, p45]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [grow])
theorem p48 (z : Fin 1 → Fin 128 → Fin 128 → ℝ) :
    k0_pay48 (F := Ideal) (lift3 z) = lift2 (z 0) := by
  funext y
  idx_vars y
  pointwise [k0_pay48]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p66 (z : Fin 1 → Fin 128 → Fin 128 → ℝ) :
    k0_pay66 (F := Ideal) (lift3 z) = lift2 (z 0) := by
  funext y
  idx_vars y
  pointwise [k0_pay66]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p49 (z : Fin 1 → Fin 128 → Fin 128 → ℝ) :
    k0_pay49 (F := Ideal) (lift3 z) = lift3 fun _ => z 0 := by
  funext y
  idx_vars y
  pointwise [k0_pay49, p48]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p67 (z : Fin 1 → Fin 128 → Fin 128 → ℝ) :
    k0_pay67 (F := Ideal) (lift3 z) = lift3 fun _ => z 0 := by
  funext y
  idx_vars y
  pointwise [k0_pay67, p66]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p50 (EL : Fin 16 → Fin 1 → Fin 128 → ℝ) (QE : Fin 16 → Fin 64 → Fin 128 → ℝ) (x : Fin 512 → Fin 128 → ℝ) (gn : Fin 1 → Fin 128 → ℝ) (o g df : Fin 512 → Fin 128 → ℝ) (z : Fin 1 → Fin 128 → Fin 128 → ℝ) :
    k0_pay50 (F := Ideal) (lift3 QE) (lift3 EL) (lift3 fun c i e => x (row c i) e) (lift2 gn) (lift2 fun r _ => rmsScale (o r)) (lift2 (nrm o)) (lift2 (dPre g df)) (lift3 z) = lift2 (step EL (grow (pair x (dOut gn o g df)) QE) 7 (z 0)) := by
  funext y
  idx_vars y
  pointwise [k0_pay50, p47, p48]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p51 (EL : Fin 16 → Fin 1 → Fin 128 → ℝ) (QE : Fin 16 → Fin 64 → Fin 128 → ℝ) (x : Fin 512 → Fin 128 → ℝ) (gn : Fin 1 → Fin 128 → ℝ) (o g df : Fin 512 → Fin 128 → ℝ) (z : Fin 1 → Fin 128 → Fin 128 → ℝ) :
    k0_pay51 (F := Ideal) (lift3 QE) (lift3 EL) (lift3 fun c i e => x (row c i) e) (lift2 gn) (lift2 fun r _ => rmsScale (o r)) (lift2 (nrm o)) (lift2 (dPre g df)) (lift3 z) = lift3 fun _ => step EL (grow (pair x (dOut gn o g df)) QE) 7 (z 0) := by
  funext y
  idx_vars y
  pointwise [k0_pay51, p50]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p52 (EL : Fin 16 → Fin 1 → Fin 128 → ℝ) (DG : Fin 16 → Fin 128 → Fin 128 → ℝ) (z : Fin 128 → Fin 128 → ℝ) :
    k0_pay52 (F := Ideal) (lift3 EL) (lift3 DG) (lift2 z) = lift2 (step EL DG 6 z) := by
  funext y
  idx_vars y
  pointwise [k0_pay52]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p53 (EL : Fin 16 → Fin 1 → Fin 128 → ℝ) (DG : Fin 16 → Fin 128 → Fin 128 → ℝ) (z : Fin 128 → Fin 128 → ℝ) :
    k0_pay53 (F := Ideal) (lift3 EL) (lift3 DG) (lift2 z) = lift3 fun _ => step EL DG 6 z := by
  funext y
  idx_vars y
  pointwise [k0_pay53, p52]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p54 (EL : Fin 16 → Fin 1 → Fin 128 → ℝ) (DG : Fin 16 → Fin 128 → Fin 128 → ℝ) (z : Fin 128 → Fin 128 → ℝ) :
    k0_pay54 (F := Ideal) (lift3 EL) (lift3 DG) (lift2 z) = lift2 (step EL DG 5 (step EL DG 6 z)) := by
  funext y
  idx_vars y
  pointwise [k0_pay54, p52]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p55 (EL : Fin 16 → Fin 1 → Fin 128 → ℝ) (DG : Fin 16 → Fin 128 → Fin 128 → ℝ) (z : Fin 128 → Fin 128 → ℝ) :
    k0_pay55 (F := Ideal) (lift3 EL) (lift3 DG) (lift2 z) = lift3 fun _ => step EL DG 5 (step EL DG 6 z) := by
  funext y
  idx_vars y
  pointwise [k0_pay55, p54]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p56 (EL : Fin 16 → Fin 1 → Fin 128 → ℝ) (DG : Fin 16 → Fin 128 → Fin 128 → ℝ) (z : Fin 128 → Fin 128 → ℝ) :
    k0_pay56 (F := Ideal) (lift3 EL) (lift3 DG) (lift2 z) = lift2 (step EL DG 4 (step EL DG 5 (step EL DG 6 z))) := by
  funext y
  idx_vars y
  pointwise [k0_pay56, p54]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p57 (EL : Fin 16 → Fin 1 → Fin 128 → ℝ) (DG : Fin 16 → Fin 128 → Fin 128 → ℝ) (z : Fin 128 → Fin 128 → ℝ) :
    k0_pay57 (F := Ideal) (lift3 EL) (lift3 DG) (lift2 z) = lift3 fun _ => step EL DG 4 (step EL DG 5 (step EL DG 6 z)) := by
  funext y
  idx_vars y
  pointwise [k0_pay57, p56]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p58 (EL : Fin 16 → Fin 1 → Fin 128 → ℝ) (DG : Fin 16 → Fin 128 → Fin 128 → ℝ) (z : Fin 128 → Fin 128 → ℝ) :
    k0_pay58 (F := Ideal) (lift3 EL) (lift3 DG) (lift2 z) = lift2 (step EL DG 3 (step EL DG 4 (step EL DG 5 (step EL DG 6 z)))) := by
  funext y
  idx_vars y
  pointwise [k0_pay58, p56]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p59 (EL : Fin 16 → Fin 1 → Fin 128 → ℝ) (DG : Fin 16 → Fin 128 → Fin 128 → ℝ) (z : Fin 128 → Fin 128 → ℝ) :
    k0_pay59 (F := Ideal) (lift3 EL) (lift3 DG) (lift2 z) = lift3 fun _ => step EL DG 3 (step EL DG 4 (step EL DG 5 (step EL DG 6 z))) := by
  funext y
  idx_vars y
  pointwise [k0_pay59, p58]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p60 (EL : Fin 16 → Fin 1 → Fin 128 → ℝ) (DG : Fin 16 → Fin 128 → Fin 128 → ℝ) (z : Fin 128 → Fin 128 → ℝ) :
    k0_pay60 (F := Ideal) (lift3 EL) (lift3 DG) (lift2 z) = lift2 fun e a => step EL DG 3 (step EL DG 4 (step EL DG 5 (step EL DG 6 z))) e a * EL 2 0 a := by
  funext y
  idx_vars y
  pointwise [k0_pay60, p58]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p61 (EL : Fin 16 → Fin 1 → Fin 128 → ℝ) (DG : Fin 16 → Fin 128 → Fin 128 → ℝ) (z : Fin 128 → Fin 128 → ℝ) :
    k0_pay61 (F := Ideal) (lift3 DG) (lift2 fun e a => z e a * EL 2 0 a) = lift2 (step EL DG 2 z) := by
  funext y
  idx_vars y
  pointwise [k0_pay61]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p62 (EL : Fin 16 → Fin 1 → Fin 128 → ℝ) (DG : Fin 16 → Fin 128 → Fin 128 → ℝ) (z : Fin 128 → Fin 128 → ℝ) :
    k0_pay62 (F := Ideal) (lift3 DG) (lift2 fun e a => z e a * EL 2 0 a) = lift3 fun _ => step EL DG 2 z := by
  funext y
  idx_vars y
  pointwise [k0_pay62, p61]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p63 (EL : Fin 16 → Fin 1 → Fin 128 → ℝ) (DG : Fin 16 → Fin 128 → Fin 128 → ℝ) (z : Fin 128 → Fin 128 → ℝ) :
    k0_pay63 (F := Ideal) (lift3 EL) (lift3 DG) (lift2 fun e a => z e a * EL 2 0 a) = lift2 (step EL DG 1 (step EL DG 2 z)) := by
  funext y
  idx_vars y
  pointwise [k0_pay63, p61]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p64 (EL : Fin 16 → Fin 1 → Fin 128 → ℝ) (DG : Fin 16 → Fin 128 → Fin 128 → ℝ) (z : Fin 128 → Fin 128 → ℝ) :
    k0_pay64 (F := Ideal) (lift3 EL) (lift3 DG) (lift2 fun e a => z e a * EL 2 0 a) = lift3 fun _ => step EL DG 1 (step EL DG 2 z) := by
  funext y
  idx_vars y
  pointwise [k0_pay64, p63]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p65 (EL : Fin 16 → Fin 1 → Fin 128 → ℝ) (DG : Fin 16 → Fin 128 → Fin 128 → ℝ) (z : Fin 128 → Fin 128 → ℝ) :
    k0_pay65 (F := Ideal) (lift3 EL) (lift3 DG) (lift2 fun e a => z e a * EL 2 0 a) = lift3 fun _ => step EL DG 0 (step EL DG 1 (step EL DG 2 z)) := by
  funext y
  idx_vars y
  pointwise [k0_pay65, p63]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p68 (EL : Fin 16 → Fin 1 → Fin 128 → ℝ) (DG : Fin 16 → Fin 128 → Fin 128 → ℝ) (z : Fin 1 → Fin 128 → Fin 128 → ℝ) :
    k0_pay68 (F := Ideal) (lift3 EL) (lift3 DG) (lift3 z) = lift2 (step EL DG 15 (z 0)) := by
  funext y
  idx_vars y
  pointwise [k0_pay68, p66]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p69 (z : Fin 128 → Fin 128 → ℝ) :
    k0_pay69 (F := Ideal) (lift2 z) = lift3 fun _ => z := by
  funext y
  idx_vars y
  pointwise [k0_pay69]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p70 (EL : Fin 16 → Fin 1 → Fin 128 → ℝ) (DG : Fin 16 → Fin 128 → Fin 128 → ℝ) (z : Fin 128 → Fin 128 → ℝ) :
    k0_pay70 (F := Ideal) (lift3 EL) (lift3 DG) (lift2 z) = lift2 (step EL DG 14 z) := by
  funext y
  idx_vars y
  pointwise [k0_pay70]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p71 (EL : Fin 16 → Fin 1 → Fin 128 → ℝ) (DG : Fin 16 → Fin 128 → Fin 128 → ℝ) (z : Fin 128 → Fin 128 → ℝ) :
    k0_pay71 (F := Ideal) (lift3 EL) (lift3 DG) (lift2 z) = lift3 fun _ => step EL DG 14 z := by
  funext y
  idx_vars y
  pointwise [k0_pay71, p70]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p72 (EL : Fin 16 → Fin 1 → Fin 128 → ℝ) (DG : Fin 16 → Fin 128 → Fin 128 → ℝ) (z : Fin 128 → Fin 128 → ℝ) :
    k0_pay72 (F := Ideal) (lift3 EL) (lift3 DG) (lift2 z) = lift2 (step EL DG 13 (step EL DG 14 z)) := by
  funext y
  idx_vars y
  pointwise [k0_pay72, p70]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p73 (EL : Fin 16 → Fin 1 → Fin 128 → ℝ) (DG : Fin 16 → Fin 128 → Fin 128 → ℝ) (z : Fin 128 → Fin 128 → ℝ) :
    k0_pay73 (F := Ideal) (lift3 EL) (lift3 DG) (lift2 z) = lift3 fun _ => step EL DG 13 (step EL DG 14 z) := by
  funext y
  idx_vars y
  pointwise [k0_pay73, p72]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p74 (EL : Fin 16 → Fin 1 → Fin 128 → ℝ) (DG : Fin 16 → Fin 128 → Fin 128 → ℝ) (z : Fin 128 → Fin 128 → ℝ) :
    k0_pay74 (F := Ideal) (lift3 EL) (lift3 DG) (lift2 z) = lift2 (step EL DG 12 (step EL DG 13 (step EL DG 14 z))) := by
  funext y
  idx_vars y
  pointwise [k0_pay74, p72]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p75 (EL : Fin 16 → Fin 1 → Fin 128 → ℝ) (DG : Fin 16 → Fin 128 → Fin 128 → ℝ) (z : Fin 128 → Fin 128 → ℝ) :
    k0_pay75 (F := Ideal) (lift3 EL) (lift3 DG) (lift2 z) = lift3 fun _ => step EL DG 12 (step EL DG 13 (step EL DG 14 z)) := by
  funext y
  idx_vars y
  pointwise [k0_pay75, p74]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p76 (EL : Fin 16 → Fin 1 → Fin 128 → ℝ) (DG : Fin 16 → Fin 128 → Fin 128 → ℝ) (z : Fin 128 → Fin 128 → ℝ) :
    k0_pay76 (F := Ideal) (lift3 EL) (lift3 DG) (lift2 z) = lift2 (step EL DG 11 (step EL DG 12 (step EL DG 13 (step EL DG 14 z)))) := by
  funext y
  idx_vars y
  pointwise [k0_pay76, p74]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p77 (EL : Fin 16 → Fin 1 → Fin 128 → ℝ) (DG : Fin 16 → Fin 128 → Fin 128 → ℝ) (z : Fin 128 → Fin 128 → ℝ) :
    k0_pay77 (F := Ideal) (lift3 EL) (lift3 DG) (lift2 z) = lift3 fun _ => step EL DG 11 (step EL DG 12 (step EL DG 13 (step EL DG 14 z))) := by
  funext y
  idx_vars y
  pointwise [k0_pay77, p76]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p78 (EL : Fin 16 → Fin 1 → Fin 128 → ℝ) (DG : Fin 16 → Fin 128 → Fin 128 → ℝ) (z : Fin 128 → Fin 128 → ℝ) :
    k0_pay78 (F := Ideal) (lift3 EL) (lift3 DG) (lift2 z) = lift2 (step EL DG 10 z) := by
  funext y
  idx_vars y
  pointwise [k0_pay78]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p79 (EL : Fin 16 → Fin 1 → Fin 128 → ℝ) (DG : Fin 16 → Fin 128 → Fin 128 → ℝ) (z : Fin 128 → Fin 128 → ℝ) :
    k0_pay79 (F := Ideal) (lift3 EL) (lift3 DG) (lift2 z) = lift3 fun _ => step EL DG 10 z := by
  funext y
  idx_vars y
  pointwise [k0_pay79, p78]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p80 (EL : Fin 16 → Fin 1 → Fin 128 → ℝ) (DG : Fin 16 → Fin 128 → Fin 128 → ℝ) (z : Fin 128 → Fin 128 → ℝ) :
    k0_pay80 (F := Ideal) (lift3 EL) (lift3 DG) (lift2 z) = lift2 (step EL DG 9 (step EL DG 10 z)) := by
  funext y
  idx_vars y
  pointwise [k0_pay80, p78]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p81 (EL : Fin 16 → Fin 1 → Fin 128 → ℝ) (DG : Fin 16 → Fin 128 → Fin 128 → ℝ) (z : Fin 128 → Fin 128 → ℝ) :
    k0_pay81 (F := Ideal) (lift3 EL) (lift3 DG) (lift2 z) = lift3 fun _ => step EL DG 9 (step EL DG 10 z) := by
  funext y
  idx_vars y
  pointwise [k0_pay81, p80]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p82 (EL : Fin 16 → Fin 1 → Fin 128 → ℝ) (DG : Fin 16 → Fin 128 → Fin 128 → ℝ) (z : Fin 128 → Fin 128 → ℝ) :
    k0_pay82 (F := Ideal) (lift3 EL) (lift3 DG) (lift2 z) = lift3 fun _ => step EL DG 8 (step EL DG 9 (step EL DG 10 z)) := by
  funext y
  idx_vars y
  pointwise [k0_pay82, p80]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl

/-! The last chunks of the first head, from the array that the fourth one leaves. -/

theorem c62 (EL : Fin 16 → Fin 1 → Fin 128 → ℝ) (DG : Fin 16 → Fin 128 → Fin 128 → ℝ) (z : Fin 128 → Fin 128 → ℝ) :
    k0_pay62 (F := Ideal) (lift3 DG) (k0_pay60 (lift3 EL) (lift3 DG) (lift2 z)) = lift3 fun _ => step EL DG 2 (step EL DG 3 (step EL DG 4 (step EL DG 5 (step EL DG 6 z)))) := by
  rw [p60, p62]

theorem c64 (EL : Fin 16 → Fin 1 → Fin 128 → ℝ) (DG : Fin 16 → Fin 128 → Fin 128 → ℝ) (z : Fin 128 → Fin 128 → ℝ) :
    k0_pay64 (F := Ideal) (lift3 EL) (lift3 DG) (k0_pay60 (lift3 EL) (lift3 DG) (lift2 z)) = lift3 fun _ => step EL DG 1 (step EL DG 2 (step EL DG 3 (step EL DG 4 (step EL DG 5 (step EL DG 6 z))))) := by
  rw [p60, p64]

theorem c65 (EL : Fin 16 → Fin 1 → Fin 128 → ℝ) (DG : Fin 16 → Fin 128 → Fin 128 → ℝ) (z : Fin 128 → Fin 128 → ℝ) :
    k0_pay65 (F := Ideal) (lift3 EL) (lift3 DG) (k0_pay60 (lift3 EL) (lift3 DG) (lift2 z)) = lift3 fun _ => step EL DG 0 (step EL DG 1 (step EL DG 2 (step EL DG 3 (step EL DG 4 (step EL DG 5 (step EL DG 6 z)))))) := by
  rw [p60, p65]

end Cert.KernelIdeal.Stage
-- ==== Proof.Grad.lean ====
/-
  The gradients within the chunks of a tile: what the kernel's values are, when the arrays they are computed from hold real numbers.
-/
module

public import proofs.«01_k».proof.Proof.Gen.KernelIdeal.Skeleton
public import proofs.«01_k».proof.Proof.State
public import proofs.«01_k».proof.Proof.Chunk

@[expose] public section

set_option maxRecDepth 16384

noncomputable section

namespace Cert.KernelIdeal.Stage

open Cert.KernelIdeal Cert.KernelIdeal.Gen Cert.Gla Idealize.ShloMosaic

variable (Q K B D V : Fin 16 → Fin 64 → Fin 128 → ℝ) (T A : Fin 16 → Fin 128 → Fin 128 → ℝ)

theorem p26  :
    k0_pay26 (F := Ideal) (lift3 B) = lift3 fun c i a => Real.exp (B c i a) := by
  funext y
  idx_vars y
  pointwise [k0_pay26]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p27  :
    k0_pay27 (F := Ideal) (lift3 Q) (lift3 B) = lift3 fun c i a => Q c i a * Real.exp (B c i a) := by
  funext y
  idx_vars y
  pointwise [k0_pay27, p26]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p29  :
    k0_pay29 (F := Ideal) (lift3 B) = lift3 fun c _ a => Real.exp (B c 63 a) := by
  funext y
  idx_vars y
  pointwise [k0_pay29, k0_pay28]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
theorem p30  :
    k0_pay30 (F := Ideal) (lift3 B) = lift3 fun c i a => Real.exp (B c 63 a - B c i a) := by
  funext y
  idx_vars y
  pointwise [k0_pay30, k0_pay28]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
theorem p31  :
    k0_pay31 (F := Ideal) (lift3 K) (lift3 B) = lift3 fun c i a => K c i a * Real.exp (B c 63 a - B c i a) := by
  funext y
  idx_vars y
  pointwise [k0_pay31, p30]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p46  :
    k0_pay46 (F := Ideal) (lift3 V) = lift3 V := by
  funext y
  idx_vars y
  pointwise [k0_pay46]

theorem p83 (S : Fin 2 → Fin 8 → Fin 128 → Fin 128 → ℝ) :
    k0_pay83 (F := Ideal) (lift4 S) = lift3 fun c e a => S ⟨c / 8, by omega⟩ ⟨c % 8, by omega⟩ e a := by
  funext y
  idx_vars y
  pointwise [k0_pay83]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
theorem p84 (S : Fin 2 → Fin 8 → Fin 128 → Fin 128 → ℝ) :
    k0_pay84 (F := Ideal) (lift4 S) = lift3 fun c e a => S ⟨c / 8, by omega⟩ ⟨c % 8, by omega⟩ e a := by
  funext y
  idx_vars y
  pointwise [k0_pay84, p83]

theorem p85  :
    k0_pay85 (F := Ideal) (lift3 A) = lift3 A := by
  funext y
  idx_vars y
  pointwise [k0_pay85]

theorem p86  :
    k0_pay86 (F := Ideal) (lift3 D) (lift3 V) = lift3 fun c => dsc (V c) (D c) := by
  funext y
  idx_vars y
  pointwise [k0_pay86]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dsc])
theorem p87  :
    k0_pay87 (F := Ideal) (lift3 D) (lift3 V) = lift3 fun c j i => ∑ e, V c j e * D c i e := by
  funext y
  idx_vars y
  pointwise [k0_pay87]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
theorem p88  :
    k0_pay88 (F := Ideal) (lift3 D) (lift3 T) (constant S16x64x128 .f32 0x00000000#32) = lift3 fun c => dqe (D c) fun a e => T c e a := by
  funext y
  idx_vars y
  pointwise [k0_pay88]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dqe])
theorem p89  :
    k0_pay89 (F := Ideal) (lift3 V) (lift3 A) = lift3 fun c => dkd (V c) fun a e => A c e a := by
  funext y
  idx_vars y
  pointwise [k0_pay89]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dkd])
theorem p91  :
    k0_pay91 (F := Ideal) (lift3 B) = lift3 fun c i a => Real.exp (B c i a - B c 31 a) := by
  funext y
  idx_vars y
  pointwise [k0_pay91, k0_pay90]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
theorem p92  :
    k0_pay92 (F := Ideal) (lift3 B) = lift3 fun c i a => Real.exp (B c 31 a - B c i a) := by
  funext y
  idx_vars y
  pointwise [k0_pay92, k0_pay90]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
theorem p93  :
    k0_pay93 (F := Ideal) (lift3 Q) (lift3 B) = lift3 fun c => kH (Q c) (B c) := by
  funext y
  idx_vars y
  pointwise [k0_pay93, p91]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p94  :
    k0_pay94 (F := Ideal) (lift3 K) (lift3 B) = lift3 fun c => kT (K c) (B c) := by
  funext y
  idx_vars y
  pointwise [k0_pay94, p92]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p95  :
    k0_pay95 (F := Ideal) (lift3 Q) (lift3 B) = lift3 fun c => kT (Q c) (B c) := by
  funext y
  idx_vars y
  pointwise [k0_pay95, p92]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p96  :
    k0_pay96 (F := Ideal) (lift3 K) (lift3 B) = lift3 fun c => kH (K c) (B c) := by
  funext y
  idx_vars y
  pointwise [k0_pay96, p91]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p97  :
    k0_pay97 (F := Ideal) (lift3 Q) (lift3 B) = lift3 fun c => kH (Q c) (B c) := by
  funext y
  idx_vars y
  pointwise [k0_pay97, p93]

theorem p98  :
    k0_pay98 (F := Ideal) (lift3 K) (lift3 B) = lift3 fun c => kT (K c) (B c) := by
  funext y
  idx_vars y
  pointwise [k0_pay98, p94]

theorem p99  :
    k0_pay99 (F := Ideal) (lift3 Q) (lift3 B) = lift3 fun c => kT (Q c) (B c) := by
  funext y
  idx_vars y
  pointwise [k0_pay99, p95]

theorem p100  :
    k0_pay100 (F := Ideal) (lift3 K) (lift3 B) = lift3 fun c => kH (K c) (B c) := by
  funext y
  idx_vars y
  pointwise [k0_pay100, p96]

theorem p101  :
    k0_pay101 (F := Ideal) rowI colI (lift3 Q) (lift3 K) (lift3 B) = lift3 fun c => kScoreT (Q c) (K c) (B c) := by
  funext y
  idx_vars y
  pointwise [k0_pay101, p97, p98, p99, p100]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [kScoreT])
theorem p102  :
    k0_pay102 (F := Ideal) rowI colI (lift3 K) (lift3 B) (lift3 fun c => dsc (V c) (D c)) = lift3 fun c => dqt (K c) (B c) (V c) (D c) := by
  funext y
  idx_vars y
  pointwise [k0_pay102, p98]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dqt])
theorem p103  :
    k0_pay103 (F := Ideal) rowI colI (lift3 K) (lift3 B) (lift3 fun c => dsc (V c) (D c)) = lift3 fun c => dqh (K c) (B c) (V c) (D c) := by
  funext y
  idx_vars y
  pointwise [k0_pay103, p100]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dqh])
theorem p104  :
    k0_pay104 (F := Ideal) rowI colI (lift3 Q) (lift3 B) (lift3 fun c j i => ∑ e, V c j e * D c i e) = lift3 fun c => dkt (Q c) (B c) (V c) (D c) := by
  funext y
  idx_vars y
  pointwise [k0_pay104, p97]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dkt])
theorem p105  :
    k0_pay105 (F := Ideal) rowI colI (lift3 Q) (lift3 B) (lift3 fun c j i => ∑ e, V c j e * D c i e) = lift3 fun c => dkh (Q c) (B c) (V c) (D c) := by
  funext y
  idx_vars y
  pointwise [k0_pay105, p99]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dkh])
theorem p106  :
    k0_pay106 (F := Ideal) rowI colI (lift3 K) (lift3 B) (lift3 fun c i a => Real.exp (B c i a)) (lift3 D) (lift3 T) (lift3 fun c => dsc (V c) (D c))
      (constant S16x64x128 .f32 0x00000000#32) = lift3 fun c => kDq (K c) (B c) (V c) (D c) fun a e => T c e a := by
  funext y
  idx_vars y
  pointwise [k0_pay106, p102, p103, p91, p92, p88]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p107  :
    k0_pay107 (F := Ideal) rowI colI (lift3 Q) (lift3 B) (lift3 fun c j i => ∑ e, V c j e * D c i e) = lift3 fun c i a => dkt (Q c) (B c) (V c) (D c) i a * Real.exp (B c 31 a - B c i a)
      + dkh (Q c) (B c) (V c) (D c) i a * Real.exp (B c i a - B c 31 a) := by
  funext y
  idx_vars y
  pointwise [k0_pay107, p104, p105, p91, p92]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p108  :
    k0_pay108 (F := Ideal) (lift3 fun c i a => Real.exp (B c 63 a - B c i a)) (lift3 fun c => dkd (V c) fun a e => A c e a)
      (lift3 fun c i a => dkt (Q c) (B c) (V c) (D c) i a * Real.exp (B c 31 a - B c i a)
      + dkh (Q c) (B c) (V c) (D c) i a * Real.exp (B c i a - B c 31 a)) = lift3 fun c => kDk (Q c) (B c) (V c) (D c) fun a e => A c e a := by
  funext y
  idx_vars y
  pointwise [k0_pay108]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p109  :
    k0_pay109 (F := Ideal) (lift3 fun c i a => K c i a * Real.exp (B c 63 a - B c i a)) (lift3 D) (lift3 A) (lift3 fun c => kScoreT (Q c) (K c) (B c)) = lift3 fun c => kDv (Q c) (K c) (B c) (D c) fun a e => A c e a := by
  funext y
  idx_vars y
  pointwise [k0_pay109]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [kDv])
theorem p110  :
    k0_pay110 (F := Ideal) rowI colI (lift3 fun c i a => Q c i a * Real.exp (B c i a)) (lift3 fun c _ a => Real.exp (B c 63 a))
      (lift3 fun c i a => K c i a * Real.exp (B c 63 a - B c i a)) (lift3 T) (lift3 A) (lift3 fun c => dqe (D c) fun a e => T c e a)
      (lift3 fun c => dkd (V c) fun a e => A c e a) (lift3 fun c => kH (Q c) (B c)) (lift3 fun c => kT (K c) (B c))
      (lift3 fun c => kT (Q c) (B c)) (lift3 fun c => kH (K c) (B c)) (lift3 fun c => dqt (K c) (B c) (V c) (D c))
      (lift3 fun c => dqh (K c) (B c) (V c) (D c)) (lift3 fun c => dkt (Q c) (B c) (V c) (D c))
      (lift3 fun c => dkh (Q c) (B c) (V c) (D c)) = lift3 fun c i a => ∑ j, (if i ≤ j then 1 else 0) *
      kDb (Q c) (K c) (B c) (V c) (D c) (fun a e => T c e a) (fun a e => A c e a) j a := by
  funext y
  idx_vars y
  pointwise [k0_pay110]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [kDb])

/-! The same, for any two arrays that are the positions. -/

variable {R C : IVec S16x64x64 32} (hR : R = rowI) (hC : C = colI)

include hR hC

theorem kB' (x : Fin 512 → Fin 128 → ℝ) (w0 w1 : Fin 128 → Fin 128 → ℝ) (b0 b1 : Fin 1 → Fin 128 → ℝ) :
    k0_pay25 (F := Ideal) R C (k0_pay15 R C (k0_pay13 (lift2 x) (lift2 w0) (lift2 b0))
      (k0_pay14 (lift2 x) (lift2 w0) (lift2 b0))) (lift2 x) (lift2 w1) (lift2 b1) = lift3 (tB x w0 w1 b0 b1) := by
  subst hR hC
  exact kB x w0 w1 b0 b1

theorem p101' :
    k0_pay101 (F := Ideal) R C (lift3 Q) (lift3 K) (lift3 B) = lift3 fun c => kScoreT (Q c) (K c) (B c) := by
  subst hR hC
  exact p101 Q K B

theorem p102' :
    k0_pay102 (F := Ideal) R C (lift3 K) (lift3 B) (lift3 fun c => dsc (V c) (D c)) = lift3 fun c => dqt (K c) (B c) (V c) (D c) := by
  subst hR hC
  exact p102 K B D V

theorem p103' :
    k0_pay103 (F := Ideal) R C (lift3 K) (lift3 B) (lift3 fun c => dsc (V c) (D c)) = lift3 fun c => dqh (K c) (B c) (V c) (D c) := by
  subst hR hC
  exact p103 K B D V

theorem p104' :
    k0_pay104 (F := Ideal) R C (lift3 Q) (lift3 B) (lift3 fun c j i => ∑ e, V c j e * D c i e) = lift3 fun c => dkt (Q c) (B c) (V c) (D c) := by
  subst hR hC
  exact p104 Q B D V

theorem p105' :
    k0_pay105 (F := Ideal) R C (lift3 Q) (lift3 B) (lift3 fun c j i => ∑ e, V c j e * D c i e) = lift3 fun c => dkh (Q c) (B c) (V c) (D c) := by
  subst hR hC
  exact p105 Q B D V

theorem p106' :
    k0_pay106 (F := Ideal) R C (lift3 K) (lift3 B) (lift3 fun c i a => Real.exp (B c i a)) (lift3 D) (lift3 T) (lift3 fun c => dsc (V c) (D c))
      (constant S16x64x128 .f32 0x00000000#32) = lift3 fun c => kDq (K c) (B c) (V c) (D c) fun a e => T c e a := by
  subst hR hC
  exact p106 K B D V T

theorem p107' :
    k0_pay107 (F := Ideal) R C (lift3 Q) (lift3 B) (lift3 fun c j i => ∑ e, V c j e * D c i e) = lift3 fun c i a => dkt (Q c) (B c) (V c) (D c) i a * Real.exp (B c 31 a - B c i a)
      + dkh (Q c) (B c) (V c) (D c) i a * Real.exp (B c i a - B c 31 a) := by
  subst hR hC
  exact p107 Q B D V

theorem p110' :
    k0_pay110 (F := Ideal) R C (lift3 fun c i a => Q c i a * Real.exp (B c i a)) (lift3 fun c _ a => Real.exp (B c 63 a))
      (lift3 fun c i a => K c i a * Real.exp (B c 63 a - B c i a)) (lift3 T) (lift3 A) (lift3 fun c => dqe (D c) fun a e => T c e a)
      (lift3 fun c => dkd (V c) fun a e => A c e a) (lift3 fun c => kH (Q c) (B c)) (lift3 fun c => kT (K c) (B c))
      (lift3 fun c => kT (Q c) (B c)) (lift3 fun c => kH (K c) (B c)) (lift3 fun c => dqt (K c) (B c) (V c) (D c))
      (lift3 fun c => dqh (K c) (B c) (V c) (D c)) (lift3 fun c => dkt (Q c) (B c) (V c) (D c))
      (lift3 fun c => dkh (Q c) (B c) (V c) (D c)) = lift3 fun c i a => ∑ j, (if i ≤ j then 1 else 0) *
      kDb (Q c) (K c) (B c) (V c) (D c) (fun a e => T c e a) (fun a e => A c e a) j a := by
  subst hR hC
  exact p110 Q K B D V T A

end Cert.KernelIdeal.Stage
-- ==== Proof.Heads.lean ====
/-
  The gradients of a tile laid out by head: what the kernel's values are, when the arrays they are computed from hold real numbers.
-/
module

public import proofs.«01_k».proof.Proof.Gen.KernelIdeal.Skeleton
public import proofs.«01_k».proof.Proof.Grad
public import proofs.«01_k».proof.Proof.Chunk

@[expose] public section

set_option maxRecDepth 16384

noncomputable section

namespace Cert.KernelIdeal.Stage

open Cert.KernelIdeal Cert.KernelIdeal.Gen Cert.Gla Idealize.ShloMosaic

/-- A tile's rows of the first and of the second head. -/
def rows0 (X : Fin 16 → Fin 64 → Fin 128 → ℝ) (r : Fin 512) (a : Fin 128) : ℝ := X ⟨r / 64, by omega⟩ ⟨r % 64, by omega⟩ a
def rows1 (X : Fin 16 → Fin 64 → Fin 128 → ℝ) (r : Fin 512) (a : Fin 128) : ℝ := X ⟨8 + r / 64, by omega⟩ ⟨r % 64, by omega⟩ a

/-- The first head's lanes, and the second head's half a row further. -/
def both (x y : Fin 512 → Fin 128 → ℝ) (r : Fin 512) (a : Fin 128) : ℝ := x r a + y r ⟨(a + 64) % 128, by omega⟩

/-- The gradient of the gate's logits, of the gradient of the decay's logarithm. -/
def dLogit (l g : Fin 512 → Fin 128 → ℝ) (r : Fin 512) (a : Fin 128) : ℝ := g r a * (1 / 16) * sgm (-l r a)

variable (X : Fin 16 → Fin 64 → Fin 128 → ℝ) (x l g : Fin 512 → Fin 128 → ℝ) (u : Fin 1 → Fin 128 → ℝ)

theorem p113  :
    k0_pay113 (F := Ideal) (k0_pay111 (lift3 X)) = lift2 fun r a => rows0 X r a * (1 / 8) := by
  funext y
  idx_vars y
  pointwise [k0_pay113, k0_pay111]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p112  :
    k0_pay112 (F := Ideal) (lift3 X) = lift2 (rows0 X) := by
  funext y
  idx_vars y
  pointwise [k0_pay112]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p118  :
    k0_pay118 (F := Ideal) (lift3 X) = lift2 (rows1 X) := by
  funext y
  idx_vars y
  pointwise [k0_pay118]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p119  :
    k0_pay119 (F := Ideal) (lift3 X) = lift2 fun r a => rows1 X r a * (1 / 8) := by
  funext y
  idx_vars y
  pointwise [k0_pay119]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p117  :
    k0_pay117 (F := Ideal) (lift3 X) = lift2 (rows0 X) := by
  funext y
  idx_vars y
  pointwise [k0_pay117]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p2  :
    k0_pay2 (F := Ideal) (lift3 X) = lift2 (rows1 X) := by
  funext y
  idx_vars y
  pointwise [k0_pay2]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p3  :
    k0_pay3 (F := Ideal) (lift2 x) (lift2 g) = lift2 (both x g) := by
  funext y
  idx_vars y
  pointwise [k0_pay3]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p4  :
    k0_pay4 (F := Ideal) (lift2 x) (lift2 g) = lift2 (both x g) := by
  funext y
  idx_vars y
  pointwise [k0_pay4]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  rfl
theorem p114  :
    k0_pay114 (F := Ideal) (lift2 l) (lift3 X) = lift2 (dLogit l (rows0 X)) := by
  funext y
  idx_vars y
  pointwise [k0_pay114]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dLogit, rows0, sgm])
theorem p120  :
    k0_pay120 (F := Ideal) (lift2 l) (lift3 X) = lift2 (dLogit l (rows1 X)) := by
  funext y
  idx_vars y
  pointwise [k0_pay120]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]
  exact congrArg _ (by simp [dLogit, rows1, sgm])
theorem p115  :
    k0_pay115 (F := Ideal) (lift2 l) (lift3 X) = lift2 (dLogit l (rows0 X)) := by
  funext y
  idx_vars y
  pointwise [k0_pay115, p114]

theorem p121  :
    k0_pay121 (F := Ideal) (lift2 l) (lift3 X) = lift2 (dLogit l (rows1 X)) := by
  funext y
  idx_vars y
  pointwise [k0_pay121, p120]

theorem p116  :
    k0_pay116 (F := Ideal) (lift2 l) (lift3 X) (lift2 u) = lift2 fun z a => u z a + ∑ r, dLogit l (rows0 X) r a := by
  funext y
  idx_vars y
  pointwise [k0_pay116, p114]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

theorem p1  :
    k0_pay1 (F := Ideal) (lift2 x) (lift2 u) = lift2 fun z a => u z a + ∑ r, x r a := by
  funext y
  idx_vars y
  pointwise [k0_pay1]
  simp only [lift1_ix, lift2_ix, lift3_ix, lift4_ix, absf_coe, max_coe, min_coe, Ideal.exp_coe, Ideal.logistic_coe, log1p_exp, div_128, rsqrt_rms,
    c_sixteenth, c_eighth, c_128, c_eps, c_one, c_zero, cmp_sle64, cmp_sge64, cmp_lane, cmp_last, sel_ite, mask_ite, coe_ite, coe_dite,
    ← EReal.coe_mul, ← EReal.coe_add, ← EReal.coe_sub, ← EReal.coe_neg, coe_sum, zero_coe]

end Cert.KernelIdeal.Stage
-- ==== Proof.Loads.lean ====
/-
  What the kernel's body loads, when the blocks hold real numbers: the halves of a block, and the pieces of the gradient of
  the states once every chunk's piece has been stored.
-/
module

public import proofs.«01_k».proof.Proof.Gen.KernelIdeal.Value
public import proofs.«01_k».proof.Proof.Heads
public import Idealize.ShloMosaic.Lib.Pipeline.ValueKit
public import Idealize.ShloMosaic.Lib.Claim

@[expose] public section

set_option maxRecDepth 16384

noncomputable section

namespace Cert.KernelIdeal.Stage

open Cert.KernelIdeal Cert.KernelIdeal.Gen Cert.Gla Idealize.ShloMosaic Idealize.ShloMosaic.TcCoe

/-- The lanes of the first and of the second head. -/
def lo {n : ℕ} (f : Fin n → Fin 256 → ℝ) (r : Fin n) (e : Fin 128) : ℝ := f r ⟨e, by omega⟩
def hi {n : ℕ} (f : Fin n → Fin 256 → ℝ) (r : Fin n) (e : Fin 128) : ℝ := f r ⟨128 + e, by omega⟩

theorem ld_lo512 (x : Fin 512 → Fin 256 → ℝ) (inb) :
    View.ld (Val := Elt Ideal) (S := S512x256) (e' := .f32) (lift2 x) (Rect.unit ![0, 0] ![512, 128] inb) = lift2 (lo x) := by
  funext y
  idx_vars y
  pointwise
  rfl

theorem ld_hi512 (x : Fin 512 → Fin 256 → ℝ) (inb) :
    View.ld (Val := Elt Ideal) (S := S512x256) (e' := .f32) (lift2 x) (Rect.unit ![0, 128] ![512, 128] inb) = lift2 (hi x) := by
  funext y
  idx_vars y
  pointwise
  rfl

theorem ld_lo128 (x : Fin 128 → Fin 256 → ℝ) (inb) :
    View.ld (Val := Elt Ideal) (S := S128x256) (e' := .bf16) (lift2 x) (Rect.unit ![0, 0] ![128, 128] inb) = lift2 (lo x) := by
  funext y
  idx_vars y
  pointwise
  rfl

theorem ld_hi128 (x : Fin 128 → Fin 256 → ℝ) (inb) :
    View.ld (Val := Elt Ideal) (S := S128x256) (e' := .bf16) (lift2 x) (Rect.unit ![0, 128] ![128, 128] inb) = lift2 (hi x) := by
  funext y
  idx_vars y
  pointwise
  rfl

theorem ld_lo1 (x : Fin 1 → Fin 256 → ℝ) (inb) :
    View.ld (Val := Elt Ideal) (S := S1x256) (e' := .f32) (lift2 x) (Rect.unit ![0, 0] ![1, 128] inb) = lift2 (lo x) := by
  funext y
  idx_vars y
  pointwise
  obtain rfl : y0 = 0 := Subsingleton.elim _ _
  rfl

theorem ld_hi1 (x : Fin 1 → Fin 256 → ℝ) (inb) :
    View.ld (Val := Elt Ideal) (S := S1x256) (e' := .f32) (lift2 x) (Rect.unit ![0, 128] ![1, 128] inb) = lift2 (hi x) := by
  funext y
  idx_vars y
  pointwise
  obtain rfl : y0 = 0 := Subsingleton.elim _ _
  rfl

theorem ld_state0 (x : Fin 2 → Fin 128 → Fin 128 → ℝ) (inb) :
    View.ld (Val := Elt Ideal) (S := S2x128x128) (e' := .f32) (lift3 x) (Rect.unit ![0, 0, 0] ![1, 128, 128] inb) = lift3 fun _ => x 0 := by
  funext y
  idx_vars y
  pointwise
  rfl

theorem ld_state1 (x : Fin 2 → Fin 128 → Fin 128 → ℝ) (inb) :
    View.ld (Val := Elt Ideal) (S := S2x128x128) (e' := .f32) (lift3 x) (Rect.unit ![1, 0, 0] ![1, 128, 128] inb) = lift3 fun _ => x 1 := by
  funext y
  idx_vars y
  pointwise
  rfl

/-- The gradient of the state after the chunk, from the last chunk of a head back. -/
def after (EL : Fin 16 → Fin 1 → Fin 128 → ℝ) (DG : Fin 16 → Fin 128 → Fin 128 → ℝ) (z : Fin 2 → Fin 128 → Fin 128 → ℝ) :
    Fin 16 → Fin 128 → Fin 128 → ℝ := ![
  step EL DG 1 (step EL DG 2 (step EL DG 3 (step EL DG 4 (step EL DG 5 (step EL DG 6 (step EL DG 7 (z 0))))))),
  step EL DG 2 (step EL DG 3 (step EL DG 4 (step EL DG 5 (step EL DG 6 (step EL DG 7 (z 0)))))),
  step EL DG 3 (step EL DG 4 (step EL DG 5 (step EL DG 6 (step EL DG 7 (z 0))))),
  step EL DG 4 (step EL DG 5 (step EL DG 6 (step EL DG 7 (z 0)))),
  step EL DG 5 (step EL DG 6 (step EL DG 7 (z 0))),
  step EL DG 6 (step EL DG 7 (z 0)),
  step EL DG 7 (z 0),
  z 0,
  step EL DG 9 (step EL DG 10 (step EL DG 11 (step EL DG 12 (step EL DG 13 (step EL DG 14 (step EL DG 15 (z 1))))))),
  step EL DG 10 (step EL DG 11 (step EL DG 12 (step EL DG 13 (step EL DG 14 (step EL DG 15 (z 1)))))),
  step EL DG 11 (step EL DG 12 (step EL DG 13 (step EL DG 14 (step EL DG 15 (z 1))))),
  step EL DG 12 (step EL DG 13 (step EL DG 14 (step EL DG 15 (z 1)))),
  step EL DG 13 (step EL DG 14 (step EL DG 15 (z 1))),
  step EL DG 14 (step EL DG 15 (z 1)),
  step EL DG 15 (z 1),
  z 1]

/-- The gradient of the state at the start of a head's tile. -/
def before (EL : Fin 16 → Fin 1 → Fin 128 → ℝ) (DG : Fin 16 → Fin 128 → Fin 128 → ℝ) (z : Fin 2 → Fin 128 → Fin 128 → ℝ) :
    Fin 2 → Fin 128 → Fin 128 → ℝ := ![step EL DG 0 (after EL DG z 0), step EL DG 8 (after EL DG z 8)]

/-- Sixteen stored pieces, read back as one array. -/
theorem readback (v : View sig .tc .vmem S16x128x128 .f32) (A : Fin 16 → Fin 128 → Fin 128 → ℝ) (L : List (View.Piece (Elt Ideal) S16x128x128 .f32))
    (inb) (hA : ∀ x, View.canon L x = lift3 A x) :
    v.readCov L (Rect.unit ![0, 0, 0] ![16, 128, 128] inb).toLoadRect = lift3 A := by
  rw [View.readCov_eq_canon']
  funext y
  rw [hA]
  idx_vars y
  pointwise

/-- A stored piece of an array is the array there. -/
theorem held {N : ℕ} (A : Fin N → Fin 128 → Fin 128 → ℝ) (n : Fin N) (x : (⟨3, ![1, 128, 128]⟩ : Shape).Idx) (y : (⟨3, ![N, 128, 128]⟩ : Shape).Idx)
    (h0 : (y 0 : ℕ) = n + (x 0 : ℕ)) (h1 : (y 1 : ℕ) = (x 1 : ℕ)) (h2 : (y 2 : ℕ) = (x 2 : ℕ)) :
    lift3 (fun _ : Fin 1 => A n) x = lift3 A y := by
  have e : (x 0 : ℕ) = 0 := Nat.lt_one_iff.mp (x 0).isLt
  have e0 : y 0 = n := Fin.ext (by omega)
  have e1 : y 1 = x 1 := Fin.ext h1
  have e2 : y 2 = x 2 := Fin.ext h2
  change ((A n (x 1) (x 2) : ℝ) : EReal) = ((A (y 0) (y 1) (y 2) : ℝ) : EReal)
  rw [e0, e1, e2]

/-- Two halves side by side. -/
def beside {n : ℕ} (x y : Fin n → Fin 128 → ℝ) (r : Fin n) (e : Fin 256) : ℝ :=
  if h : (e : ℕ) < 128 then x r ⟨e, h⟩ else y r ⟨e - 128, by omega⟩

theorem lo_beside {n : ℕ} (x y : Fin n → Fin 128 → ℝ) : lo (beside x y) = x := by
  funext r e
  simp [lo, beside, e.isLt]

theorem hi_beside {n : ℕ} (x y : Fin n → Fin 128 → ℝ) : hi (beside x y) = y := by
  funext r e
  simp [hi, beside]

theorem beside_lo {n : ℕ} (x y : Fin n → Fin 128 → ℝ) (u : (⟨2, ![n, 128]⟩ : Shape).Idx) (w : (⟨2, ![n, 256]⟩ : Shape).Idx)
    (h0 : (w 0 : ℕ) = (u 0 : ℕ)) (h1 : (w 1 : ℕ) = (u 1 : ℕ)) : lift2 x u = lift2 (beside x y) w := by
  have e0 : w 0 = u 0 := Fin.ext h0
  have l : (u 1 : ℕ) < 128 := (u 1).isLt
  change ((x (u 0) (u 1) : ℝ) : EReal) = ((beside x y (w 0) (w 1) : ℝ) : EReal)
  have l' : (w 1 : ℕ) < 128 := by omega
  have e1 : beside x y (w 0) (w 1) = x (w 0) ⟨w 1, l'⟩ := dif_pos l'
  rw [e1, e0]
  congr 2
  exact Fin.ext h1.symm

theorem beside_hi {n : ℕ} (x y : Fin n → Fin 128 → ℝ) (u : (⟨2, ![n, 128]⟩ : Shape).Idx) (w : (⟨2, ![n, 256]⟩ : Shape).Idx)
    (h0 : (w 0 : ℕ) = (u 0 : ℕ)) (h1 : (w 1 : ℕ) = 128 + (u 1 : ℕ)) : lift2 y u = lift2 (beside x y) w := by
  have e0 : w 0 = u 0 := Fin.ext h0
  change ((y (u 0) (u 1) : ℝ) : EReal) = ((beside x y (w 0) (w 1) : ℝ) : EReal)
  have l : (u 1 : ℕ) < 128 := (u 1).isLt
  have l' : ¬ (w 1 : ℕ) < 128 := by omega
  have e1 : beside x y (w 0) (w 1) = y (w 0) ⟨(w 1 : ℕ) - 128, by omega⟩ := dif_neg l'
  rw [e1, e0]
  congr 2
  exact Fin.ext (by change (u 1 : ℕ) = (w 1 : ℕ) - 128; omega)

theorem canon512 (x y : Fin 512 → Fin 128 → ℝ) :
    View.canon (s := S512x256) [(⟨Rect.unit ![0, 128] ![512, 128] inb_S512x256_S512x128_0_128, lift2 y⟩ : View.Piece (Elt Ideal) S512x256 .f32), ⟨Rect.unit ![0, 0] ![512, 128] inb_S512x256_S512x128_0_0, lift2 x⟩]
      = lift2 (beside x y) := by
  funext w
  canon_tiles u h
  · exact beside_hi x y u w (by simpa using h0) (by simpa using h1)
  · exact beside_lo x y u w (by simpa using h0) (by simpa using h1)

/-- What was stored before pieces that cover an index does not count there. -/
theorem canon_drop {Val : EltTy → Type} [∀ e, Nonempty (Val e)] {S : Shape} {e : EltTy} (L' : List (View.Piece Val S e)) :
    ∀ (L : List (View.Piece Val S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_drop L' L y ⟨q, hq', hyq⟩

theorem canon1 (x y : Fin 1 → Fin 128 → ℝ) :
    View.canon (s := S1x256) [(⟨Rect.unit ![0, 128] ![1, 128] inb_S1x256_S1x128_0_128, lift2 y⟩ : View.Piece (Elt Ideal) S1x256 .f32), ⟨Rect.unit ![0, 0] ![1, 128] inb_S1x256_S1x128_0_0, lift2 x⟩]
      = lift2 (beside x y) := by
  funext w
  canon_tiles u h
  · exact beside_hi x y u w (by simpa using h0) (by simpa using h1)
  · exact beside_lo x y u w (by simpa using h0) (by simpa using h1)

theorem canon1' (x y : Fin 1 → Fin 128 → ℝ) (z : FVec Ideal S1x256 .f32) :
    View.canon (s := S1x256)
      [(⟨Rect.unit ![0, 128] ![1, 128] inb_S1x256_S1x128_0_128, lift2 y⟩ : View.Piece (Elt Ideal) S1x256 .f32), ⟨Rect.unit ![0, 0] ![1, 128] inb_S1x256_S1x128_0_0, lift2 x⟩, ⟨Rect.unit ![0, 0] ![1, 256] inb_S1x256_S1x256_0_0, z⟩]
      = lift2 (beside x y) := by
  funext w
  refine (canon_drop [_] [_, _] w ?_).trans (congrFun (canon1 x y) w)
  exact View.cover_of_tiled_head _ _ _ rfl w

/-- Both heads' pieces stored over whatever was there. -/
theorem canon_state (A : Fin 2 → Fin 128 → Fin 128 → ℝ) (z : FVec Ideal S2x128x128 .f32) :
    View.canon (s := S2x128x128) [(⟨Rect.unit ![1, 0, 0] ![1, 128, 128] inb_S2x128x128_S1x128x128_1_0_0, lift3 fun _ => A 1⟩ : View.Piece (Elt Ideal) S2x128x128 .f32),
      ⟨Rect.unit ![0, 0, 0] ![1, 128, 128] inb_S2x128x128_S1x128x128_0_0_0, lift3 fun _ => A 0⟩,
      ⟨Rect.unit ![0, 0, 0] ![2, 128, 128] inb_S2x128x128_S2x128x128_0_0_0, z⟩] = lift3 A := by
  funext y
  refine (canon_drop [_] [_, _] y ?_).trans ?_
  · exact View.cover_of_tiled_head _ _ _ rfl y
  · canon_tiles x h
    · exact held _ 1 x y (by simpa using h0) (by simpa using h1) (by simpa using h2)
    · exact held _ 0 x y (by simpa using h0) (by simpa using h1) (by simpa using h2)

/-- What is read back after zeros were stored, and after the first half was then stored again. -/
theorem back_lo (v : View sig .tc .vmem S1x256 .f32) (z : Fin 1 → Fin 256 → ℝ) :
    v.readCov [(⟨Rect.unit ![0, 0] ![1, 256] inb_S1x256_S1x256_0_0, lift2 z⟩ : View.Piece (Elt Ideal) S1x256 .f32)] (Rect.unit ![0, 0] ![1, 128] inb_S1x256_S1x128_0_0).toLoadRect
      = lift2 (lo z) := by
  rw [View.readCov_eq_canon']
  have hA : ∀ w, View.canon [(⟨Rect.unit ![0, 0] ![1, 256] inb_S1x256_S1x256_0_0, lift2 z⟩ : View.Piece (Elt Ideal) S1x256 .f32)] w = lift2 z w := by
    intro w
    canon_tiles u h
    congr 1
    funext k
    fin_cases k
    · exact Fin.ext (by simpa using h0.symm)
    · exact Fin.ext (by simpa using h1.symm)
  funext y
  rw [hA]
  idx_vars y
  obtain rfl : y0 = 0 := Subsingleton.elim _ _
  pointwise
  rfl

theorem back_hi (v : View sig .tc .vmem S1x256 .f32) (x : Fin 1 → Fin 128 → ℝ) (z : Fin 1 → Fin 256 → ℝ) :
    v.readCov [(⟨Rect.unit ![0, 0] ![1, 128] inb_S1x256_S1x128_0_0, lift2 x⟩ : View.Piece (Elt Ideal) S1x256 .f32), ⟨Rect.unit ![0, 0] ![1, 256] inb_S1x256_S1x256_0_0, lift2 z⟩]
      (Rect.unit ![0, 128] ![1, 128] inb_S1x256_S1x128_0_128).toLoadRect = lift2 (hi z) := by
  rw [View.readCov_eq_canon']
  have hA : ∀ w : S1x256.Idx, 128 ≤ (w 1 : ℕ) →
      View.canon [(⟨Rect.unit ![0, 0] ![1, 128] inb_S1x256_S1x128_0_0, lift2 x⟩ : View.Piece (Elt Ideal) S1x256 .f32), ⟨Rect.unit ![0, 0] ![1, 256] inb_S1x256_S1x256_0_0, lift2 z⟩] w
        = lift2 z w := by
    intro w hw
    rw [View.canon_cons_of_not_mem _ _ (Rect.not_mem_set_of_axis _ w 1 0 128 rfl rfl rfl (Or.inr hw)), View.canon_cons_unit_lit _ _ _ (by decide)]
  funext y
  idx_vars y
  rw [hA _ (by simp)]
  obtain rfl : y0 = 0 := Subsingleton.elim _ _
  pointwise
  rfl

theorem back_state0 (v : View sig .tc .vmem S2x128x128 .f32) (z : Fin 2 → Fin 128 → Fin 128 → ℝ) :
    v.readCov [(⟨Rect.unit ![0, 0, 0] ![2, 128, 128] inb_S2x128x128_S2x128x128_0_0_0, lift3 z⟩ : View.Piece (Elt Ideal) S2x128x128 .f32)]
      (Rect.unit ![0, 0, 0] ![1, 128, 128] inb_S2x128x128_S1x128x128_0_0_0).toLoadRect = lift3 fun _ => z 0 := by
  rw [View.readCov_eq_canon']
  have hA : ∀ w, View.canon [(⟨Rect.unit ![0, 0, 0] ![2, 128, 128] inb_S2x128x128_S2x128x128_0_0_0, lift3 z⟩ : View.Piece (Elt Ideal) S2x128x128 .f32)] w = lift3 z w := by
    intro w
    canon_tiles u h
    congr 1
    funext k
    fin_cases k
    · exact Fin.ext (by simpa using h0.symm)
    · exact Fin.ext (by simpa using h1.symm)
    · exact Fin.ext (by simpa using h2.symm)
  funext y
  rw [hA]
  idx_vars y
  pointwise
  rfl

theorem back_state1 (v : View sig .tc .vmem S2x128x128 .f32) (x : Fin 1 → Fin 128 → Fin 128 → ℝ) (z : Fin 2 → Fin 128 → Fin 128 → ℝ) :
    v.readCov [(⟨Rect.unit ![0, 0, 0] ![1, 128, 128] inb_S2x128x128_S1x128x128_0_0_0, lift3 x⟩ : View.Piece (Elt Ideal) S2x128x128 .f32),
      ⟨Rect.unit ![0, 0, 0] ![2, 128, 128] inb_S2x128x128_S2x128x128_0_0_0, lift3 z⟩] (Rect.unit ![1, 0, 0] ![1, 128, 128] inb_S2x128x128_S1x128x128_1_0_0).toLoadRect = lift3 fun _ => z 1 := by
  rw [View.readCov_eq_canon']
  have hA : ∀ w : S2x128x128.Idx, 1 ≤ (w 0 : ℕ) →
      View.canon [(⟨Rect.unit ![0, 0, 0] ![1, 128, 128] inb_S2x128x128_S1x128x128_0_0_0, lift3 x⟩ : View.Piece (Elt Ideal) S2x128x128 .f32),
        ⟨Rect.unit ![0, 0, 0] ![2, 128, 128] inb_S2x128x128_S2x128x128_0_0_0, lift3 z⟩] w = lift3 z w := by
    intro w hw
    rw [View.canon_cons_of_not_mem _ _ (Rect.not_mem_set_of_axis _ w 0 0 1 rfl rfl rfl (Or.inr hw)), View.canon_cons_unit_lit _ _ _ (by decide)]
  funext y
  idx_vars y
  rw [hA _ (by simp)]
  pointwise
  rfl

/-- The zeros a pair of heads starts from. -/
theorem p5 : k0_pay5 (F := Ideal) = lift3 fun _ _ _ => 0 := by
  funext y
  idx_vars y
  pointwise [k0_pay5]
  simp only [lift3_ix, c_zero, zero_coe]

theorem p6 : k0_pay6 (F := Ideal) = lift2 fun _ _ => 0 := by
  funext y
  idx_vars y
  pointwise [k0_pay6]
  simp only [lift2_ix, c_zero, zero_coe]

theorem p7 : k0_pay7 (F := Ideal) = lift2 fun _ _ => 0 := by
  funext y
  idx_vars y
  pointwise [k0_pay7]
  simp only [lift2_ix, c_zero, zero_coe]

end Cert.KernelIdeal.Stage
-- ==== Proof.Block.lean ====
/-
  What one grid point of the kernel leaves in its blocks, when the blocks it reads hold real numbers.
-/
module

public import proofs.«01_k».proof.Proof.Loads
public import Idealize.ShloMosaic.Lib.Claim
public import Idealize.ShloMosaic.Lib.Pipeline.ReadBack

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

/-- The real numbers a grid point reads: the queries, keys, values, gates and low-rank gate inputs of a tile, the gate's
weights and bias, the norm's gain, the attention's outputs before the norm, the states, and the gradient of the outputs. -/
structure Point where
  q : Fin 512 → Fin 128 → ℝ
  k : Fin 512 → Fin 128 → ℝ
  v : Fin 512 → Fin 256 → ℝ
  g : Fin 512 → Fin 256 → ℝ
  x : Fin 512 → Fin 128 → ℝ
  w : Fin 128 → Fin 256 → ℝ
  b : Fin 1 → Fin 256 → ℝ
  n : Fin 1 → Fin 256 → ℝ
  o : Fin 512 → Fin 256 → ℝ
  s : Fin 2 → Fin 8 → Fin 128 → Fin 128 → ℝ
  d : Fin 512 → Fin 256 → ℝ

namespace Point

variable (P : Point) (z : Fin 2 → Fin 128 → Fin 128 → ℝ)

/-- The gate logits of either head. -/
abbrev l0 : Fin 512 → Fin 128 → ℝ := logit P.x (lo P.w) (lo P.b)
abbrev l1 : Fin 512 → Fin 128 → ℝ := logit P.x (hi P.w) (hi P.b)

/-- The gradient of the attention's outputs before the norm, of either head. -/
abbrev d0 : Fin 512 → Fin 128 → ℝ := dOut (lo P.n) (lo P.o) (lo P.g) (lo P.d)
abbrev d1 : Fin 512 → Fin 128 → ℝ := dOut (hi P.n) (hi P.o) (hi P.g) (hi P.d)

abbrev Q : Fin 16 → Fin 64 → Fin 128 → ℝ := tQ P.q
abbrev K : Fin 16 → Fin 64 → Fin 128 → ℝ := tK P.k
abbrev V : Fin 16 → Fin 64 → Fin 128 → ℝ := pair (lo P.v) (hi P.v)
abbrev B : Fin 16 → Fin 64 → Fin 128 → ℝ := tB P.x (lo P.w) (hi P.w) (lo P.b) (hi P.b)
abbrev D : Fin 16 → Fin 64 → Fin 128 → ℝ := pair P.d0 P.d1

/-- The decay over a whole chunk, and what the chunk adds to its starting state's gradient. -/
abbrev EL : Fin 16 → Fin 1 → Fin 128 → ℝ := fun c _ a => Real.exp (P.B c 63 a)
abbrev DG : Fin 16 → Fin 128 → Fin 128 → ℝ := grow P.D fun c i a => P.Q c i a * Real.exp (P.B c i a)

/-- The states at the chunks' starts, and the gradients of the states at their ends. -/
abbrev S : Fin 16 → Fin 128 → Fin 128 → ℝ := fun c e a => P.s ⟨c / 8, by omega⟩ ⟨c % 8, by omega⟩ e a
abbrev A : Fin 16 → Fin 128 → Fin 128 → ℝ := after P.EL P.DG z

abbrev gq : Fin 16 → Fin 64 → Fin 128 → ℝ := fun c => kDq (P.K c) (P.B c) (P.V c) (P.D c) fun a e => P.S c e a
abbrev gk : Fin 16 → Fin 64 → Fin 128 → ℝ := fun c => kDk (P.Q c) (P.B c) (P.V c) (P.D c) fun a e => P.A z c e a
abbrev gv : Fin 16 → Fin 64 → Fin 128 → ℝ := fun c => kDv (P.Q c) (P.K c) (P.B c) (P.D c) fun a e => P.A z c e a
abbrev gl : Fin 16 → Fin 64 → Fin 128 → ℝ := fun c i a => ∑ j, (if i ≤ j then 1 else 0) *
  kDb (P.Q c) (P.K c) (P.B c) (P.V c) (P.D c) (fun a e => P.S c e a) (fun a e => P.A z c e a) j a

/-- The blocks of the point. -/
abbrev oq : Fin 512 → Fin 128 → ℝ := both (fun r a => rows0 P.gq r a * (1 / 8)) fun r a => rows1 P.gq r a * (1 / 8)
abbrev ok : Fin 512 → Fin 128 → ℝ := both (rows0 (P.gk z)) (rows1 (P.gk z))
abbrev ll0 : Fin 512 → Fin 128 → ℝ := dLogit P.l0 (rows0 (P.gl z))
abbrev ll1 : Fin 512 → Fin 128 → ℝ := dLogit P.l1 (rows1 (P.gl z))
abbrev ov : Fin 512 → Fin 256 → ℝ := beside (rows0 (P.gv z)) (rows1 (P.gv z))
abbrev og : Fin 512 → Fin 256 → ℝ := beside (dGate (lo P.n) (lo P.o) (lo P.g) (lo P.d)) (dGate (hi P.n) (hi P.o) (hi P.g) (hi P.d))
abbrev ol : Fin 512 → Fin 256 → ℝ := beside (P.ll0 z) (P.ll1 z)

/-- The two sums over all tokens, with the point's share added to what was there. -/
abbrev on (u : Fin 1 → Fin 256 → ℝ) : Fin 1 → Fin 256 → ℝ :=
  beside (fun i e => lo u i e + ∑ r, dPre (lo P.g) (lo P.d) r e * nrm (lo P.o) r e)
    (fun i e => hi u i e + ∑ r, dPre (hi P.g) (hi P.d) r e * nrm (hi P.o) r e)
abbrev ob (u : Fin 1 → Fin 256 → ℝ) : Fin 1 → Fin 256 → ℝ :=
  beside (fun i a => lo u i a + ∑ r, P.ll0 z r a) (fun i a => hi u i a + ∑ r, P.ll1 z r a)

/-- The gradient of the states that the point hands on. -/
abbrev Z : Fin 2 → Fin 128 → Fin 128 → ℝ := before P.EL P.DG z

end Point

variable (m : (ℓ : Loc nD τ sig) → Buf (Elt Ideal) ℓ) (c : Dev nD)

/-- The point's blocks hold those numbers. -/
structure Reads (t : Fin cfg0.N) (P : Point) : Prop where
  q : iblk m c 0 t = lift2 P.q
  k : iblk m c 1 t = lift2 P.k
  v : X0_2 m c t = lift2 P.v
  g : X0_3 m c t = lift2 P.g
  x : iblk m c 4 t = lift2 P.x
  w : iblk m c 5 t = lift2 P.w
  b : iblk m c 6 t = lift2 P.b
  n : iblk m c 7 t = lift2 P.n
  o : iblk m c 8 t = lift2 P.o
  s : iblk m c 9 t = lift4 P.s
  d : iblk m c 10 t = lift2 P.d

variable {m c}

theorem kD (gn0 gn1 : Fin 1 → Fin 128 → ℝ) (o0 o1 g0 g1 d0 d1 : Fin 512 → Fin 128 → ℝ) :
    k0_pay45 (F := Ideal) (k0_pay38 (lift2 gn0) (k0_pay32 (lift2 o0)) (k0_pay33 (lift2 o0)) (k0_pay36 (lift2 g0) (lift2 d0))) (lift2 gn1)
      (k0_pay39 (lift2 o1)) (k0_pay40 (lift2 o1)) (k0_pay43 (lift2 g1) (lift2 d1))
      = lift3 (pair (dOut gn0 o0 g0 d0) (dOut gn1 o1 g1 d1)) := by
  rw [p32, p33, p36, p38, p39, p40, p43]
  exact p45 (dOut gn0 o0 g0 d0) gn1 o1 g1 d1

end Cert.KernelIdeal.Block
-- ==== Proof.BlockA.lean ====
/-
  The blocks that the first point of a pair of heads, where the gradient of the states starts from zero, leaves.
-/
module

public import proofs.«01_k».proof.Proof.Block
public import Idealize.ShloMosaic.Lib.Claim
public import Idealize.ShloMosaic.Lib.Pipeline.ReadBack

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

variable {m : (ℓ : Loc nD τ sig) → Buf (Elt Ideal) ℓ} {c : Dev nD}

theorem dq_A (t : Fin cfg0.N) (h8 : t.val % 8 = 0) (P : Point) (hP : Reads m c t P) :
    (outsAt0 m c t.val t.isLt).1 = lift2 P.oq := by
  rw [outsAt0_A m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), kD, p26, p84, p46, p86, p106' (hR := hR.symm) (hC := hC.symm), p113, p119, p3]

theorem dgate_A (t : Fin cfg0.N) (h8 : t.val % 8 = 0) (P : Point) (hP : Reads m c t P) :
    (outsAt0 m c t.val t.isLt).2.2.2.1 = lift2 P.og := by
  rw [outsAt0_A m c t h8]
  frame_out
  simp only [hP.q, hP.k, hP.v, hP.g, hP.x, hP.w, hP.b, hP.n, hP.o, hP.s, hP.d, ld_lo512, ld_hi512, ld_lo128, ld_hi128, ld_lo1, ld_hi1, p35, p42]
  exact canon512 _ _

theorem dgn_A (t : Fin cfg0.N) (h8 : t.val % 8 = 0) (P : Point) (hP : Reads m c t P) :
    (outsAt0 m c t.val t.isLt).2.2.2.2.1 = lift2 (P.on (fun _ _ => 0)) := by
  rw [outsAt0_A m c t h8]
  frame_out
  simp only [hP.q, hP.k, hP.v, hP.g, hP.x, hP.w, hP.b, hP.n, hP.o, hP.s, hP.d, ld_lo512, ld_hi512, ld_lo128, ld_hi128, ld_lo1, ld_hi1, p37, p40, p43, p44, p6, back_lo, back_hi, canon1']

theorem dk_A (t : Fin cfg0.N) (h8 : t.val % 8 = 0) (P : Point) (hP : Reads m c t P) :
    (outsAt0 m c t.val t.isLt).2.1 = lift2 (P.ok (fun _ _ _ => 0)) := by
  rw [outsAt0_A m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), p5, back_state0, back_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p87, p107' (hR := hR.symm) (hC := hC.symm)]
  rw [readback _ (P.A (fun _ _ _ => 0))]
  · simp only [p85, p89, p108, p112, p118, p4]
  · intro y
    canon_tiles x h
    · exact held (P.A (fun _ _ _ => 0)) 8 x y (by simpa using h0) (by simpa using h1) (by simpa using h2)
    · exact held (P.A (fun _ _ _ => 0)) 9 x y (by simpa using h0) (by simpa using h1) (by simpa using h2)
    · exact held (P.A (fun _ _ _ => 0)) 10 x y (by simpa using h0) (by simpa using h1) (by simpa using h2)
    · exact held (P.A (fun _ _ _ => 0)) 11 x y (by simpa using h0) (by simpa using h1) (by simpa using h2)
    · exact held (P.A (fun _ _ _ => 0)) 12 x y (by simpa using h0) (by simpa using h1) (by simpa using h2)
    · exact held (P.A (fun _ _ _ => 0)) 13 x y (by simpa using h0) (by simpa using h1) (by simpa using h2)
    · exact held (P.A (fun _ _ _ => 0)) 14 x y (by simpa using h0) (by simpa using h1) (by simpa using h2)
    · exact held (P.A (fun _ _ _ => 0)) 15 x y (by simpa using h0) (by simpa using h1) (by simpa using h2)
    · exact held (P.A (fun _ _ _ => 0)) 0 x y (by simpa using h0) (by simpa using h1) (by simpa using h2)
    · exact held (P.A (fun _ _ _ => 0)) 1 x y (by simpa using h0) (by simpa using h1) (by simpa using h2)
    · exact held (P.A (fun _ _ _ => 0)) 2 x y (by simpa using h0) (by simpa using h1) (by simpa using h2)
    · exact held (P.A (fun _ _ _ => 0)) 3 x y (by simpa using h0) (by simpa using h1) (by simpa using h2)
    · exact held (P.A (fun _ _ _ => 0)) 4 x y (by simpa using h0) (by simpa using h1) (by simpa using h2)
    · exact held (P.A (fun _ _ _ => 0)) 5 x y (by simpa using h0) (by simpa using h1) (by simpa using h2)
    · exact held (P.A (fun _ _ _ => 0)) 6 x y (by simpa using h0) (by simpa using h1) (by simpa using h2)
    · exact held (P.A (fun _ _ _ => 0)) 7 x y (by simpa using h0) (by simpa using h1) (by simpa using h2)

theorem dv_A (t : Fin cfg0.N) (h8 : t.val % 8 = 0) (P : Point) (hP : Reads m c t P) :
    (outsAt0 m c t.val t.isLt).2.2.1 = lift2 (P.ov (fun _ _ _ => 0)) := by
  rw [outsAt0_A m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), p5, back_state0, back_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p101' (hR := hR.symm) (hC := hC.symm)]
  rw [readback _ (P.A (fun _ _ _ => 0))]
  · simp only [p85, p109, p117, p2]
    exact canon512 _ _
  · intro y
    canon_tiles x h
    · exact held (P.A (fun _ _ _ => 0)) 8 x y (by simpa using h0) (by simpa using h1) (by simpa using h2)
    · exact held (P.A (fun _ _ _ => 0)) 9 x y (by simpa using h0) (by simpa using h1) (by simpa using h2)
    · exact held (P.A (fun _ _ _ => 0)) 10 x y (by simpa using h0) (by simpa using h1) (by simpa using h2)
    · exact held (P.A (fun _ _ _ => 0)) 11 x y (by simpa using h0) (by simpa using h1) (by simpa using h2)
    · exact held (P.A (fun _ _ _ => 0)) 12 x y (by simpa using h0) (by simpa using h1) (by simpa using h2)
    · exact held (P.A (fun _ _ _ => 0)) 13 x y (by simpa using h0) (by simpa using h1) (by simpa using h2)
    · exact held (P.A (fun _ _ _ => 0)) 14 x y (by simpa using h0) (by simpa using h1) (by simpa using h2)
    · exact held (P.A (fun _ _ _ => 0)) 15 x y (by simpa using h0) (by simpa using h1) (by simpa using h2)
    · exact held (P.A (fun _ _ _ => 0)) 0 x y (by simpa using h0) (by simpa using h1) (by simpa using h2)
    · exact held (P.A (fun _ _ _ => 0)) 1 x y (by simpa using h0) (by simpa using h1) (by simpa using h2)
    · exact held (P.A (fun _ _ _ => 0)) 2 x y (by simpa using h0) (by simpa using h1) (by simpa using h2)
    · exact held (P.A (fun _ _ _ => 0)) 3 x y (by simpa using h0) (by simpa using h1) (by simpa using h2)
    · exact held (P.A (fun _ _ _ => 0)) 4 x y (by simpa using h0) (by simpa using h1) (by simpa using h2)
    · exact held (P.A (fun _ _ _ => 0)) 5 x y (by simpa using h0) (by simpa using h1) (by simpa using h2)
    · exact held (P.A (fun _ _ _ => 0)) 6 x y (by simpa using h0) (by simpa using h1) (by simpa using h2)
    · exact held (P.A (fun _ _ _ => 0)) 7 x y (by simpa using h0) (by simpa using h1) (by simpa using h2)

theorem dlogit_A (t : Fin cfg0.N) (h8 : t.val % 8 = 0) (P : Point) (hP : Reads m c t P) :
    (outsAt0 m c t.val t.isLt).2.2.2.2.2.1 = lift2 (P.ol (fun _ _ _ => 0)) := by
  rw [outsAt0_A m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), p5, back_state0, back_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p12, p21, p83, p84, p86, p87, p88, p93, p94, p95, p96, p102' (hR := hR.symm) (hC := hC.symm), p103' (hR := hR.symm) (hC := hC.symm), p104' (hR := hR.symm) (hC := hC.symm), p105' (hR := hR.symm) (hC := hC.symm)]
  rw [readback _ (P.A (fun _ _ _ => 0))]
  · simp only [p85, p89, p110' (hR := hR.symm) (hC := hC.symm), p115, p121]
    exact canon512 _ _
  · intro y
    canon_tiles x h
    · exact held (P.A (fun _ _ _ => 0)) 8 x y (by simpa using h0) (by simpa using h1) (by simpa using h2)
    · exact held (P.A (fun _ _ _ => 0)) 9 x y (by simpa using h0) (by simpa using h1) (by simpa using h2)
    · exact held (P.A (fun _ _ _ => 0)) 10 x y (by simpa using h0) (by simpa using h1) (by simpa using h2)
    · exact held (P.A (fun _ _ _ => 0)) 11 x y (by simpa using h0) (by simpa using h1) (by simpa using h2)
    · exact held (P.A (fun _ _ _ => 0)) 12 x y (by simpa using h0) (by simpa using h1) (by simpa using h2)
    · exact held (P.A (fun _ _ _ => 0)) 13 x y (by simpa using h0) (by simpa using h1) (by simpa using h2)
    · exact held (P.A (fun _ _ _ => 0)) 14 x y (by simpa using h0) (by simpa using h1) (by simpa using h2)
    · exact held (P.A (fun _ _ _ => 0)) 15 x y (by simpa using h0) (by simpa using h1) (by simpa using h2)
    · exact held (P.A (fun _ _ _ => 0)) 0 x y (by simpa using h0) (by simpa using h1) (by simpa using h2)
    · exact held (P.A (fun _ _ _ => 0)) 1 x y (by simpa using h0) (by simpa using h1) (by simpa using h2)
    · exact held (P.A (fun _ _ _ => 0)) 2 x y (by simpa using h0) (by simpa using h1) (by simpa using h2)
    · exact held (P.A (fun _ _ _ => 0)) 3 x y (by simpa using h0) (by simpa using h1) (by simpa using h2)
    · exact held (P.A (fun _ _ _ => 0)) 4 x y (by simpa using h0) (by simpa using h1) (by simpa using h2)
    · exact held (P.A (fun _ _ _ => 0)) 5 x y (by simpa using h0) (by simpa using h1) (by simpa using h2)
    · exact held (P.A (fun _ _ _ => 0)) 6 x y (by simpa using h0) (by simpa using h1) (by simpa using h2)
    · exact held (P.A (fun _ _ _ => 0)) 7 x y (by simpa using h0) (by simpa using h1) (by simpa using h2)

theorem dba_A (t : Fin cfg0.N) (h8 : t.val % 8 = 0) (P : Point) (hP : Reads m c t P) :
    (outsAt0 m c t.val t.isLt).2.2.2.2.2.2.1 = lift2 (P.ob (fun _ _ _ => 0) (fun _ _ => 0)) := by
  rw [outsAt0_A m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), p5, back_state0, back_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p12, p21, p83, p84, p86, p87, p88, p93, p94, p95, p96, p102' (hR := hR.symm) (hC := hC.symm), p103' (hR := hR.symm) (hC := hC.symm), p104' (hR := hR.symm) (hC := hC.symm), p105' (hR := hR.symm) (hC := hC.symm)]
  rw [readback _ (P.A (fun _ _ _ => 0))]
  · simp only [p85, p89, p110' (hR := hR.symm) (hC := hC.symm), p114, p120, p116, p1, ld_lo1, ld_hi1, p7, back_lo, back_hi, canon1']
  · intro y
    canon_tiles x h
    · exact held (P.A (fun _ _ _ => 0)) 8 x y (by simpa using h0) (by simpa using h1) (by simpa using h2)
    · exact held (P.A (fun _ _ _ => 0)) 9 x y (by simpa using h0) (by simpa using h1) (by simpa using h2)
    · exact held (P.A (fun _ _ _ => 0)) 10 x y (by simpa using h0) (by simpa using h1) (by simpa using h2)
    · exact held (P.A (fun _ _ _ => 0)) 11 x y (by simpa using h0) (by simpa using h1) (by simpa using h2)
    · exact held (P.A (fun _ _ _ => 0)) 12 x y (by simpa using h0) (by simpa using h1) (by simpa using h2)
    · exact held (P.A (fun _ _ _ => 0)) 13 x y (by simpa using h0) (by simpa using h1) (by simpa using h2)
    · exact held (P.A (fun _ _ _ => 0)) 14 x y (by simpa using h0) (by simpa using h1) (by simpa using h2)
    · exact held (P.A (fun _ _ _ => 0)) 15 x y (by simpa using h0) (by simpa using h1) (by simpa using h2)
    · exact held (P.A (fun _ _ _ => 0)) 0 x y (by simpa using h0) (by simpa using h1) (by simpa using h2)
    · exact held (P.A (fun _ _ _ => 0)) 1 x y (by simpa using h0) (by simpa using h1) (by simpa using h2)
    · exact held (P.A (fun _ _ _ => 0)) 2 x y (by simpa using h0) (by simpa using h1) (by simpa using h2)
    · exact held (P.A (fun _ _ _ => 0)) 3 x y (by simpa using h0) (by simpa using h1) (by simpa using h2)
    · exact held (P.A (fun _ _ _ => 0)) 4 x y (by simpa using h0) (by simpa using h1) (by simpa using h2)
    · exact held (P.A (fun _ _ _ => 0)) 5 x y (by simpa using h0) (by simpa using h1) (by simpa using h2)
    · exact held (P.A (fun _ _ _ => 0)) 6 x y (by simpa using h0) (by simpa using h1) (by simpa using h2)
    · exact held (P.A (fun _ _ _ => 0)) 7 x y (by simpa using h0) (by simpa using h1) (by simpa using h2)

theorem carried_A (t : Fin cfg0.N) (h8 : t.val % 8 = 0) (P : Point) (hP : Reads m c t P) :
    (outsAt0 m c t.val t.isLt).2.2.2.2.2.2.2 = lift3 (P.Z (fun _ _ _ => 0)) := by
  rw [outsAt0_A m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), p5, back_state0, back_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82]
  exact canon_state (P.Z (fun _ _ _ => 0)) _

end Cert.KernelIdeal.Block
-- ==== Proof.BlockB.lean ====
/-
  The blocks that every other point of a pair of heads, which takes the gradient of the states on, leaves.
-/
module

public import proofs.«01_k».proof.Proof.Block
public import Idealize.ShloMosaic.Lib.Claim
public import Idealize.ShloMosaic.Lib.Pipeline.ReadBack

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

variable {m : (ℓ : Loc nD τ sig) → Buf (Elt Ideal) ℓ} {c : Dev nD}

theorem dq_B (t : Fin cfg0.N) (h8 : ¬ t.val % 8 = 0) (P : Point) (hP : Reads m c t P) :
    (outsAt0 m c t.val t.isLt).1 = lift2 P.oq := by
  rw [outsAt0_B m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), kD, p26, p84, p46, p86, p106' (hR := hR.symm) (hC := hC.symm), p113, p119, p3]

theorem dgate_B (t : Fin cfg0.N) (h8 : ¬ t.val % 8 = 0) (P : Point) (hP : Reads m c t P) :
    (outsAt0 m c t.val t.isLt).2.2.2.1 = lift2 P.og := by
  rw [outsAt0_B m c t h8]
  frame_out
  simp only [hP.q, hP.k, hP.v, hP.g, hP.x, hP.w, hP.b, hP.n, hP.o, hP.s, hP.d, ld_lo512, ld_hi512, ld_lo128, ld_hi128, ld_lo1, ld_hi1, p35, p42]
  exact canon512 _ _

theorem dgn_B (t : Fin cfg0.N) (h8 : ¬ t.val % 8 = 0) (P : Point) (hP : Reads m c t P) (u : Fin 1 → Fin 256 → ℝ)
    (hu : (outsAt0 m c (t.val - 1) (Nat.lt_of_le_of_lt (Nat.sub_le _ _) t.isLt)).2.2.2.2.1 = lift2 u) :
    (outsAt0 m c t.val t.isLt).2.2.2.2.1 = lift2 (P.on u) := by
  rw [outsAt0_B m c t h8]
  frame_out
  simp only [hP.q, hP.k, hP.v, hP.g, hP.x, hP.w, hP.b, hP.n, hP.o, hP.s, hP.d, ld_lo512, ld_hi512, ld_lo128, ld_hi128, ld_lo1, ld_hi1, p37, p40, p43, p44, hu, canon1]

theorem dk_B (t : Fin cfg0.N) (h8 : ¬ t.val % 8 = 0) (P : Point) (hP : Reads m c t P) (z : Fin 2 → Fin 128 → Fin 128 → ℝ)
    (hz : (outsAt0 m c (t.val - 1) (Nat.lt_of_le_of_lt (Nat.sub_le _ _) t.isLt)).2.2.2.2.2.2.2 = lift3 z) :
    (outsAt0 m c t.val t.isLt).2.1 = lift2 (P.ok z) := by
  rw [outsAt0_B m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), read_unread_whole, hz, ld_state0, ld_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p87, p107' (hR := hR.symm) (hC := hC.symm)]
  rw [readback _ (P.A z)]
  · simp only [p85, p89, p108, p112, p118, p4]
  · intro y
    canon_tiles x h
    · exact held (P.A z) 8 x y (by simpa using h0) (by simpa using h1) (by simpa using h2)
    · exact held (P.A z) 9 x y (by simpa using h0) (by simpa using h1) (by simpa using h2)
    · exact held (P.A z) 10 x y (by simpa using h0) (by simpa using h1) (by simpa using h2)
    · exact held (P.A z) 11 x y (by simpa using h0) (by simpa using h1) (by simpa using h2)
    · exact held (P.A z) 12 x y (by simpa using h0) (by simpa using h1) (by simpa using h2)
    · exact held (P.A z) 13 x y (by simpa using h0) (by simpa using h1) (by simpa using h2)
    · exact held (P.A z) 14 x y (by simpa using h0) (by simpa using h1) (by simpa using h2)
    · exact held (P.A z) 15 x y (by simpa using h0) (by simpa using h1) (by simpa using h2)
    · exact held (P.A z) 0 x y (by simpa using h0) (by simpa using h1) (by simpa using h2)
    · exact held (P.A z) 1 x y (by simpa using h0) (by simpa using h1) (by simpa using h2)
    · exact held (P.A z) 2 x y (by simpa using h0) (by simpa using h1) (by simpa using h2)
    · exact held (P.A z) 3 x y (by simpa using h0) (by simpa using h1) (by simpa using h2)
    · exact held (P.A z) 4 x y (by simpa using h0) (by simpa using h1) (by simpa using h2)
    · exact held (P.A z) 5 x y (by simpa using h0) (by simpa using h1) (by simpa using h2)
    · exact held (P.A z) 6 x y (by simpa using h0) (by simpa using h1) (by simpa using h2)
    · exact held (P.A z) 7 x y (by simpa using h0) (by simpa using h1) (by simpa using h2)

theorem dv_B (t : Fin cfg0.N) (h8 : ¬ t.val % 8 = 0) (P : Point) (hP : Reads m c t P) (z : Fin 2 → Fin 128 → Fin 128 → ℝ)
    (hz : (outsAt0 m c (t.val - 1) (Nat.lt_of_le_of_lt (Nat.sub_le _ _) t.isLt)).2.2.2.2.2.2.2 = lift3 z) :
    (outsAt0 m c t.val t.isLt).2.2.1 = lift2 (P.ov z) := by
  rw [outsAt0_B m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), read_unread_whole, hz, ld_state0, ld_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p101' (hR := hR.symm) (hC := hC.symm)]
  rw [readback _ (P.A z)]
  · simp only [p85, p109, p117, p2]
    exact canon512 _ _
  · intro y
    canon_tiles x h
    · exact held (P.A z) 8 x y (by simpa using h0) (by simpa using h1) (by simpa using h2)
    · exact held (P.A z) 9 x y (by simpa using h0) (by simpa using h1) (by simpa using h2)
    · exact held (P.A z) 10 x y (by simpa using h0) (by simpa using h1) (by simpa using h2)
    · exact held (P.A z) 11 x y (by simpa using h0) (by simpa using h1) (by simpa using h2)
    · exact held (P.A z) 12 x y (by simpa using h0) (by simpa using h1) (by simpa using h2)
    · exact held (P.A z) 13 x y (by simpa using h0) (by simpa using h1) (by simpa using h2)
    · exact held (P.A z) 14 x y (by simpa using h0) (by simpa using h1) (by simpa using h2)
    · exact held (P.A z) 15 x y (by simpa using h0) (by simpa using h1) (by simpa using h2)
    · exact held (P.A z) 0 x y (by simpa using h0) (by simpa using h1) (by simpa using h2)
    · exact held (P.A z) 1 x y (by simpa using h0) (by simpa using h1) (by simpa using h2)
    · exact held (P.A z) 2 x y (by simpa using h0) (by simpa using h1) (by simpa using h2)
    · exact held (P.A z) 3 x y (by simpa using h0) (by simpa using h1) (by simpa using h2)
    · exact held (P.A z) 4 x y (by simpa using h0) (by simpa using h1) (by simpa using h2)
    · exact held (P.A z) 5 x y (by simpa using h0) (by simpa using h1) (by simpa using h2)
    · exact held (P.A z) 6 x y (by simpa using h0) (by simpa using h1) (by simpa using h2)
    · exact held (P.A z) 7 x y (by simpa using h0) (by simpa using h1) (by simpa using h2)

theorem dlogit_B (t : Fin cfg0.N) (h8 : ¬ t.val % 8 = 0) (P : Point) (hP : Reads m c t P) (z : Fin 2 → Fin 128 → Fin 128 → ℝ)
    (hz : (outsAt0 m c (t.val - 1) (Nat.lt_of_le_of_lt (Nat.sub_le _ _) t.isLt)).2.2.2.2.2.2.2 = lift3 z) :
    (outsAt0 m c t.val t.isLt).2.2.2.2.2.1 = lift2 (P.ol z) := by
  rw [outsAt0_B m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), read_unread_whole, hz, ld_state0, ld_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p12, p21, p83, p84, p86, p87, p88, p93, p94, p95, p96, p102' (hR := hR.symm) (hC := hC.symm), p103' (hR := hR.symm) (hC := hC.symm), p104' (hR := hR.symm) (hC := hC.symm), p105' (hR := hR.symm) (hC := hC.symm)]
  rw [readback _ (P.A z)]
  · simp only [p85, p89, p110' (hR := hR.symm) (hC := hC.symm), p115, p121]
    exact canon512 _ _
  · intro y
    canon_tiles x h
    · exact held (P.A z) 8 x y (by simpa using h0) (by simpa using h1) (by simpa using h2)
    · exact held (P.A z) 9 x y (by simpa using h0) (by simpa using h1) (by simpa using h2)
    · exact held (P.A z) 10 x y (by simpa using h0) (by simpa using h1) (by simpa using h2)
    · exact held (P.A z) 11 x y (by simpa using h0) (by simpa using h1) (by simpa using h2)
    · exact held (P.A z) 12 x y (by simpa using h0) (by simpa using h1) (by simpa using h2)
    · exact held (P.A z) 13 x y (by simpa using h0) (by simpa using h1) (by simpa using h2)
    · exact held (P.A z) 14 x y (by simpa using h0) (by simpa using h1) (by simpa using h2)
    · exact held (P.A z) 15 x y (by simpa using h0) (by simpa using h1) (by simpa using h2)
    · exact held (P.A z) 0 x y (by simpa using h0) (by simpa using h1) (by simpa using h2)
    · exact held (P.A z) 1 x y (by simpa using h0) (by simpa using h1) (by simpa using h2)
    · exact held (P.A z) 2 x y (by simpa using h0) (by simpa using h1) (by simpa using h2)
    · exact held (P.A z) 3 x y (by simpa using h0) (by simpa using h1) (by simpa using h2)
    · exact held (P.A z) 4 x y (by simpa using h0) (by simpa using h1) (by simpa using h2)
    · exact held (P.A z) 5 x y (by simpa using h0) (by simpa using h1) (by simpa using h2)
    · exact held (P.A z) 6 x y (by simpa using h0) (by simpa using h1) (by simpa using h2)
    · exact held (P.A z) 7 x y (by simpa using h0) (by simpa using h1) (by simpa using h2)

theorem dba_B (t : Fin cfg0.N) (h8 : ¬ t.val % 8 = 0) (P : Point) (hP : Reads m c t P) (z : Fin 2 → Fin 128 → Fin 128 → ℝ)
    (hz : (outsAt0 m c (t.val - 1) (Nat.lt_of_le_of_lt (Nat.sub_le _ _) t.isLt)).2.2.2.2.2.2.2 = lift3 z) (u : Fin 1 → Fin 256 → ℝ)
    (hu : (outsAt0 m c (t.val - 1) (Nat.lt_of_le_of_lt (Nat.sub_le _ _) t.isLt)).2.2.2.2.2.2.1 = lift2 u) :
    (outsAt0 m c t.val t.isLt).2.2.2.2.2.2.1 = lift2 (P.ob z u) := by
  rw [outsAt0_B m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), read_unread_whole, hz, ld_state0, ld_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82, p12, p21, p83, p84, p86, p87, p88, p93, p94, p95, p96, p102' (hR := hR.symm) (hC := hC.symm), p103' (hR := hR.symm) (hC := hC.symm), p104' (hR := hR.symm) (hC := hC.symm), p105' (hR := hR.symm) (hC := hC.symm)]
  rw [readback _ (P.A z)]
  · simp only [p85, p89, p110' (hR := hR.symm) (hC := hC.symm), p114, p120, p116, p1, ld_lo1, ld_hi1, hu, canon1]
  · intro y
    canon_tiles x h
    · exact held (P.A z) 8 x y (by simpa using h0) (by simpa using h1) (by simpa using h2)
    · exact held (P.A z) 9 x y (by simpa using h0) (by simpa using h1) (by simpa using h2)
    · exact held (P.A z) 10 x y (by simpa using h0) (by simpa using h1) (by simpa using h2)
    · exact held (P.A z) 11 x y (by simpa using h0) (by simpa using h1) (by simpa using h2)
    · exact held (P.A z) 12 x y (by simpa using h0) (by simpa using h1) (by simpa using h2)
    · exact held (P.A z) 13 x y (by simpa using h0) (by simpa using h1) (by simpa using h2)
    · exact held (P.A z) 14 x y (by simpa using h0) (by simpa using h1) (by simpa using h2)
    · exact held (P.A z) 15 x y (by simpa using h0) (by simpa using h1) (by simpa using h2)
    · exact held (P.A z) 0 x y (by simpa using h0) (by simpa using h1) (by simpa using h2)
    · exact held (P.A z) 1 x y (by simpa using h0) (by simpa using h1) (by simpa using h2)
    · exact held (P.A z) 2 x y (by simpa using h0) (by simpa using h1) (by simpa using h2)
    · exact held (P.A z) 3 x y (by simpa using h0) (by simpa using h1) (by simpa using h2)
    · exact held (P.A z) 4 x y (by simpa using h0) (by simpa using h1) (by simpa using h2)
    · exact held (P.A z) 5 x y (by simpa using h0) (by simpa using h1) (by simpa using h2)
    · exact held (P.A z) 6 x y (by simpa using h0) (by simpa using h1) (by simpa using h2)
    · exact held (P.A z) 7 x y (by simpa using h0) (by simpa using h1) (by simpa using h2)

theorem carried_B (t : Fin cfg0.N) (h8 : ¬ t.val % 8 = 0) (P : Point) (hP : Reads m c t P) (z : Fin 2 → Fin 128 → Fin 128 → ℝ)
    (hz : (outsAt0 m c (t.val - 1) (Nat.lt_of_le_of_lt (Nat.sub_le _ _) t.isLt)).2.2.2.2.2.2.2 = lift3 z) :
    (outsAt0 m c t.val t.isLt).2.2.2.2.2.2.2 = lift3 (P.Z z) := by
  rw [outsAt0_B m c t h8]
  frame_out
  generalize hR : iota .tc S16x64x64 32 [1] iota_S16x64x64_d1_w32 = R
  generalize hC : iota .tc S16x64x64 32 [2] iota_S16x64x64_d2_w32 = C
  simp only [hP.q, hP.k, hP.v, hP.g, hP.x, hP.w, hP.b, hP.n, hP.o, hP.s, hP.d, ld_lo512, ld_hi512, ld_lo128, ld_hi128, ld_lo1, ld_hi1, kQ, kK, kV, kB' (hR := hR.symm) (hC := hC.symm), read_unread_whole, hz, ld_state0, ld_state1, p26, p27, p29, p30, p31, p46, p32, p33, p36, p38, p39, p40, p43, p45, p47, p49, p50, p51, p52, p53, p54, p55, p56, p57, p58, p59, p61, c62, p63, c64, c65, p66, p67, p68, p69, p70, p71, p72, p73, p74, p75, p76, p77, p78, p79, p80, p81, p82]
  funext y
  canon_tiles x h
  · exact held (P.Z z) 1 x y (by simpa using h0) (by simpa using h1) (by simpa using h2)
  · exact held (P.Z z) 0 x y (by simpa using h0) (by simpa using h1) (by simpa using h2)

end Cert.KernelIdeal.Block
-- ==== Proof.Wide.lean ====
/-
  A chunk whose queries, keys and states are stored in 128 lanes, zero beyond the 64 of the head: the tiled code's formulas
  give the plain derivative of the 64 lanes there, and zero beyond.
-/
module

public import proofs.«01_k».proof.Proof.Chunk

@[expose] public section

set_option maxRecDepth 16384

noncomputable section

namespace Cert.Gla

/-- 64 lanes followed by 64 zeros. -/
def wide (f : Fin 64 → ℝ) (a : Fin 128) : ℝ := if h : (a : ℕ) < 64 then f ⟨a, h⟩ else 0

theorem wide_lt (f : Fin 64 → ℝ) {a : Fin 128} (h : (a : ℕ) < 64) : wide f a = f ⟨a, h⟩ := dif_pos h

theorem wide_ge (f : Fin 64 → ℝ) {a : Fin 128} (h : ¬ (a : ℕ) < 64) : wide f a = 0 := dif_neg h

theorem sum_wide (f : Fin 64 → ℝ) : ∑ a, wide f a = ∑ a, f a := by
  rw [show (∑ a, wide f a) = ∑ a : Fin (64 + 64), wide f a from rfl, Fin.sum_univ_add]
  have h1 : ∀ a : Fin 64, wide f (Fin.castAdd 64 a) = f a := fun a => wide_lt f (a := Fin.castAdd 64 a) a.isLt
  have h2 : ∀ a : Fin 64, wide f (Fin.natAdd 64 a) = 0 := fun a => wide_ge f (a := Fin.natAdd 64 a) (by simp)
  rw [Finset.sum_congr rfl fun a _ => h1 a, Finset.sum_congr rfl fun a _ => h2 a]
  simp

variable {Q K B : Fin 64 → Fin 128 → ℝ} {q k b : Fin 64 → Fin 64 → ℝ} {v ct : Fin 64 → Fin 128 → ℝ}
  {T A : Fin 128 → Fin 128 → ℝ} {S G : Fin 64 → Fin 128 → ℝ}

variable (hb : ∀ a (i j : Fin 64), i < j → B j a < B i a) (hQ : ∀ i a, Q i a = wide (q i) a) (hK : ∀ i a, K i a = wide (k i) a)
  (hB : ∀ i (a : Fin 128) (h : (a : ℕ) < 64), B i a = b i ⟨a, h⟩)
  (hT : ∀ e a, T e a = wide (fun a => S a e) a) (hA : ∀ e a, A e a = wide (fun a => G a e) a)

include hb hQ hK hB hT in
theorem wide_dq (i : Fin 64) (a : Fin 128) : kDq K B v ct (fun a e => T e a) i a = wide (rDq k b v ct S i) a := by
  rw [kDq_eq hb]
  by_cases h : (a : ℕ) < 64
  · simp only [rDq, dec, hK, hT, wide_lt _ h, hB _ a h]
  · simp only [rDq, hK, hT, wide_ge _ h, mul_zero, zero_mul, Finset.sum_const_zero, add_zero]

include hb hQ hK hB hA in
theorem wide_dk (i : Fin 64) (a : Fin 128) : kDk Q B v ct (fun a e => A e a) i a = wide (rDk q b v ct G i) a := by
  rw [kDk_eq hb]
  by_cases h : (a : ℕ) < 64
  · simp only [rDk, dec, hQ, hA, wide_lt _ h, hB _ a h]
  · simp only [rDk, hQ, hA, wide_ge _ h, mul_zero, zero_mul, Finset.sum_const_zero, add_zero]

include hb hQ hK hB hA in
theorem wide_dv (i : Fin 64) (e : Fin 128) : kDv Q K B ct (fun a e => A e a) i e = rDv q k b ct G i e := by
  rw [kDv_eq hb]
  have hs : ∀ i j, rScore Q K B i j = rScore q k b i j := fun i j => by
    unfold rScore
    rw [← sum_wide]
    refine Finset.sum_congr rfl fun a _ => ?_
    by_cases h : (a : ℕ) < 64
    · simp only [dec, hQ, hK, wide_lt _ h, hB _ a h]
    · simp only [hQ, hK, wide_ge _ h, mul_zero]
  unfold rDv
  congr 1
  · rw [← sum_wide]
    refine Finset.sum_congr rfl fun a _ => ?_
    by_cases h : (a : ℕ) < 64
    · simp only [hA, hK, wide_lt _ h, hB _ a h]
    · simp only [hA, hK, wide_ge _ h, mul_zero, zero_mul]
  · exact Finset.sum_congr rfl fun j _ => by rw [hs]

include hb hQ hK hB hT hA in
theorem wide_db (i : Fin 64) (a : Fin 128) :
    kDb Q K B v ct (fun a e => T e a) (fun a e => A e a) i a = wide (rDb q k b v ct S G i) a := by
  rw [kDb_eq hb]
  by_cases h : (a : ℕ) < 64
  · simp only [rDb, rKd, rPair, dec, hQ, hK, hT, hA, wide_lt _ h, hB _ a h]
  · simp only [rDb, rKd, rPair, hQ, hK, hT, hA, wide_ge _ h, mul_zero, zero_mul, Finset.sum_const_zero, add_zero, neg_zero, ite_self]

include hQ hB hA in
theorem wide_dst (e : Fin 128) (a : Fin 128) :
    A e a * Real.exp (B 63 a) + ∑ i, ct i e * (Q i a * Real.exp (B i a)) = wide (fun a => rDst q b ct G a e) a := by
  by_cases h : (a : ℕ) < 64
  · simp only [rDst, hQ, hA, wide_lt _ h, hB _ a h]
    ring
  · simp only [hQ, hA, wide_ge _ h, mul_zero, zero_mul, Finset.sum_const_zero, add_zero]

end Cert.Gla

end
-- ==== Proof.Spec.lean ====
/-
  The gradient of the gated linear attention and of its output's normalisation and gate, as real numbers: the derivatives of
  one head's chunks, and the gradient of the state carried from the last chunk to the first.
-/
module

public import proofs.«01_k».proof.Proof.Wide
public import proofs.«01_k».proof.Proof.Lift

@[expose] public section

set_option maxRecDepth 16384

noncomputable section

namespace Cert.Gla

/-- The inputs: the projections of the tokens, the gate's second weight and its bias, the norm's gain, the attention's outputs,
the states at the chunks' starts (by head, chunk, value lane and key lane), and the gradient of the mixed outputs. -/
structure Data where
  proj : ℕ → ℕ → ℝ
  wa : ℕ → ℕ → ℝ
  ba : ℕ → ℕ → ℝ
  gn : ℕ → ℕ → ℝ
  o : ℕ → ℕ → ℝ
  st : ℕ → ℕ → ℕ → ℕ → ℝ
  dd : ℕ → ℕ → ℝ

namespace Data

variable (D : Data) (h j r : ℕ)

/-- A token's output gate, its gradient through the gate, its normalised output. -/
def gate (e : Fin 128) : ℝ := D.proj r (2560 + 128 * h + e)
def out (e : Fin 128) : ℝ := D.o r (128 * h + e)
def pre (e : Fin 128) : ℝ := D.dd r (512 + 128 * h + e) * (D.gate h r e * sgm (D.gate h r e))
def nrm (e : Fin 128) : ℝ := D.out h r e * rmsScale (D.out h r)

/-- The gradients of the output gate and of the attention's output. -/
def dgate (e : Fin 128) : ℝ :=
  D.dd r (512 + 128 * h + e) * (D.nrm h r e * D.gn 0 (128 * h + e)) * (sgm (D.gate h r e) * (1 + D.gate h r e * (1 - sgm (D.gate h r e))))
def dout (e : Fin 128) : ℝ :=
  rmsScale (D.out h r) * (D.pre h r e * D.gn 0 (128 * h + e)
    - D.nrm h r e * ((∑ x : Fin 128, D.pre h r x * D.gn 0 (128 * h + x) * D.nrm h r x) * (1 / 128)))

/-- The gradient of the norm's gain. -/
def dgn (e : Fin 128) : ℝ := ∑ r : Fin 4096, D.pre h r e * D.nrm h r e

/-- A token's gate logits. -/
def logit (a : Fin 64) : ℝ := (∑ x : Fin 16, D.proj r (3072 + x) * D.wa x (64 * h + a)) + D.ba 0 (64 * h + a)

/-- One chunk's queries (scaled), keys, values, cumulative log-decays, output gradients and starting state. -/
def q (i : Fin 64) (a : Fin 64) : ℝ := D.proj (64 * j + i) (1536 + 64 * h + a) * (1 / 8)
def k (i : Fin 64) (a : Fin 64) : ℝ := D.proj (64 * j + i) (1792 + 64 * h + a)
def v (i : Fin 64) (e : Fin 128) : ℝ := D.proj (64 * j + i) (2048 + 128 * h + e)
def l (i : Fin 64) (a : Fin 64) : ℝ := D.logit h (64 * j + i) a
def b : Fin 64 → Fin 64 → ℝ := cumDecay (D.l h j)
def ct (i : Fin 64) (e : Fin 128) : ℝ := D.dout h (64 * j + i) e
def S (a : Fin 64) (e : Fin 128) : ℝ := D.st h j e a

/-- The gradient of the state after the last chunk but `n`. -/
def back : ℕ → Fin 64 → Fin 128 → ℝ
  | 0 => fun _ _ => 0
  | n + 1 => fun a e => rDst (D.q h (63 - n)) (D.b h (63 - n)) (D.ct h (63 - n)) (back n) a e

/-- The gradient of the state after a chunk. -/
def G : Fin 64 → Fin 128 → ℝ := D.back h (63 - j)

/-- A chunk's gradients. -/
def dq (i : Fin 64) (a : Fin 64) : ℝ := rDq (D.k h j) (D.b h j) (D.v h j) (D.ct h j) (D.S h j) i a * (1 / 8)
def dk (i : Fin 64) (a : Fin 64) : ℝ := rDk (D.q h j) (D.b h j) (D.v h j) (D.ct h j) (D.G h j) i a
def dv (i : Fin 64) (e : Fin 128) : ℝ := rDv (D.q h j) (D.k h j) (D.b h j) (D.ct h j) (D.G h j) i e
def dl (i : Fin 64) (a : Fin 64) : ℝ :=
  (∑ x, (if i ≤ x then 1 else 0) * rDb (D.q h j) (D.k h j) (D.b h j) (D.v h j) (D.ct h j) (D.S h j) (D.G h j) x a) * (1 / 16)
    * sgm (-D.l h j i a)

/-- The place of a token in its chunk. -/
def pos : Fin 64 := ⟨r % 64, Nat.mod_lt _ (by norm_num)⟩

/-- The gradient of the gate's bias. -/
def dba (a : Fin 64) : ℝ := ∑ r : Fin 4096, D.dl h (r / 64) (pos r) a

theorem b_lt (a : Fin 64) {i i' : Fin 64} (w : i < i') : D.b h j i' a < D.b h j i a := cumDecay_lt _ w a

/-- The results: token by token, the heads side by side. -/
def DQ (c : ℕ) : ℝ := D.dq (c / 64) (r / 64) (pos r) (pos c)
def DK (c : ℕ) : ℝ := D.dk (c / 64) (r / 64) (pos r) (pos c)
def lane (c : ℕ) : Fin 128 := ⟨c % 128, Nat.mod_lt _ (by norm_num)⟩
def DV (c : ℕ) : ℝ := D.dv (c / 128) (r / 64) (pos r) (lane c)
def DGate (c : ℕ) : ℝ := D.dgate (c / 128) r (lane c)
def DGn (c : ℕ) : ℝ := D.dgn (c / 128) (lane c)
def DL (c : ℕ) : ℝ := wide (D.dl (c / 128) (r / 64) (pos r)) (lane c)
def DBa (c : ℕ) : ℝ := wide (D.dba (c / 128)) (lane c)

end Data

end Cert.Gla

end
-- ==== Proof.At.lean ====
/-
  What a grid point reads of the inputs, and that its blocks then hold the gradient's numbers.
-/
module

public import proofs.«01_k».proof.Proof.Block
public import proofs.«01_k».proof.Proof.Spec

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

variable (D : Data) (p τ : ℕ)

/-- The tile `τ` of the head pair `p`. -/
def pt : Point where
  q r k := D.proj (512 * τ + r) (128 * (12 + p) + k)
  k r k := D.proj (512 * τ + r) (128 * (14 + p) + k)
  v r e := D.proj (512 * τ + r) (256 * (8 + p) + e)
  g r e := D.proj (512 * τ + r) (256 * (10 + p) + e)
  x r k := D.proj (512 * τ + r) (128 * 24 + k)
  w k e := if (k : ℕ) < 16 ∧ (e : ℕ) % 128 < 64 then D.wa k (64 * (2 * p + e / 128) + e % 128) else 0
  b _ e := if (e : ℕ) % 128 < 64 then D.ba 0 (64 * (2 * p + e / 128) + e % 128) else 0
  n _ e := D.gn 0 (256 * p + e)
  o r e := D.o (512 * τ + r) (256 * p + e)
  s d n e a := if (a : ℕ) < 64 then D.st (2 * p + d) (8 * τ + n) e a else 0
  d r e := D.dd (512 * τ + r) (256 * (2 + p) + e)

/-- The head and the chunk of a tile's slot. -/
abbrev hd (c : Fin 16) : ℕ := 2 * p + c / 8
abbrev ch (c : Fin 16) : ℕ := 8 * τ + c % 8

theorem pt_Q (c : Fin 16) (i : Fin 64) (a : Fin 128) : (pt D p τ).Q c i a = wide (D.q (hd p c) (ch τ c) i) a := by
  unfold Point.Q tQ pair
  by_cases hc : (c : ℕ) < 8
  · rw [dif_pos hc]
    by_cases h : (a : ℕ) < 64
    · simp only [wide_lt _ h, if_pos h, pt, row, Data.q]
      congr 2 <;> simp only [hd, ch] <;> omega
    · simp only [wide_ge _ h, if_neg h, zero_mul]
  · rw [dif_neg hc]
    by_cases h : (a : ℕ) < 64
    · simp only [wide_lt _ h, if_pos h, pt, row, Data.q]
      congr 2 <;> simp only [hd, ch] <;> omega
    · simp only [wide_ge _ h, if_neg h, zero_mul]

theorem pt_K (c : Fin 16) (i : Fin 64) (a : Fin 128) : (pt D p τ).K c i a = wide (D.k (hd p c) (ch τ c) i) a := by
  unfold Point.K tK pair
  by_cases hc : (c : ℕ) < 8
  · rw [dif_pos hc]
    by_cases h : (a : ℕ) < 64
    · simp only [wide_lt _ h, if_pos h, pt, row, Data.k]
      congr 1 <;> simp only [hd, ch] <;> omega
    · simp only [wide_ge _ h, if_neg h]
  · rw [dif_neg hc]
    by_cases h : (a : ℕ) < 64
    · simp only [wide_lt _ h, if_pos h, pt, row, Data.k]
      congr 1 <;> simp only [hd, ch] <;> omega
    · simp only [wide_ge _ h, if_neg h]

theorem pt_V (c : Fin 16) (i : Fin 64) (e : Fin 128) : (pt D p τ).V c i e = D.v (hd p c) (ch τ c) i e := by
  unfold Point.V pair
  by_cases hc : (c : ℕ) < 8
  · rw [dif_pos hc]
    simp only [lo, pt, row, Data.v]
    congr 1 <;> simp only [hd, ch] <;> omega
  · rw [dif_neg hc]
    simp only [hi, pt, row, Data.v]
    congr 1 <;> simp only [hd, ch] <;> omega

/-- The rows of the first and of the second head of the tile. -/
theorem lo_g (r : Fin 512) (e : Fin 128) : lo (pt D p τ).g r e = D.gate (2 * p) (512 * τ + r) e := by
  simp only [lo, pt, Data.gate]; congr 1; omega
theorem hi_g (r : Fin 512) (e : Fin 128) : hi (pt D p τ).g r e = D.gate (2 * p + 1) (512 * τ + r) e := by
  simp only [hi, pt, Data.gate]; congr 1; omega
theorem lo_o (r : Fin 512) (e : Fin 128) : lo (pt D p τ).o r e = D.out (2 * p) (512 * τ + r) e := by
  simp only [lo, pt, Data.out]; congr 1; omega
theorem hi_o (r : Fin 512) (e : Fin 128) : hi (pt D p τ).o r e = D.out (2 * p + 1) (512 * τ + r) e := by
  simp only [hi, pt, Data.out]; congr 1; omega
theorem lo_d (r : Fin 512) (e : Fin 128) : lo (pt D p τ).d r e = D.dd (512 * τ + r) (512 + 128 * (2 * p) + e) := by
  simp only [lo, pt]; congr 1; omega
theorem hi_d (r : Fin 512) (e : Fin 128) : hi (pt D p τ).d r e = D.dd (512 * τ + r) (512 + 128 * (2 * p + 1) + e) := by
  simp only [hi, pt]; congr 1; omega
theorem lo_n (e : Fin 128) : lo (pt D p τ).n 0 e = D.gn 0 (128 * (2 * p) + e) := by
  simp only [lo, pt]; congr 1; omega
theorem hi_n (e : Fin 128) : hi (pt D p τ).n 0 e = D.gn 0 (128 * (2 * p + 1) + e) := by
  simp only [hi, pt]; congr 1; omega

theorem lo_pre (r : Fin 512) (e : Fin 128) : dPre (lo (pt D p τ).g) (lo (pt D p τ).d) r e = D.pre (2 * p) (512 * τ + r) e := by
  simp only [dPre, Data.pre, lo_g, lo_d]
theorem hi_pre (r : Fin 512) (e : Fin 128) : dPre (hi (pt D p τ).g) (hi (pt D p τ).d) r e = D.pre (2 * p + 1) (512 * τ + r) e := by
  simp only [dPre, Data.pre, hi_g, hi_d]
theorem lo_scale (r : Fin 512) : rmsScale (lo (pt D p τ).o r) = rmsScale (D.out (2 * p) (512 * τ + r)) :=
  congrArg _ (funext fun e => lo_o D p τ r e)
theorem hi_scale (r : Fin 512) : rmsScale (hi (pt D p τ).o r) = rmsScale (D.out (2 * p + 1) (512 * τ + r)) :=
  congrArg _ (funext fun e => hi_o D p τ r e)
theorem lo_nrm (r : Fin 512) (e : Fin 128) : nrm (lo (pt D p τ).o) r e = D.nrm (2 * p) (512 * τ + r) e := by
  simp only [nrm, Data.nrm, lo_o, lo_scale]
theorem hi_nrm (r : Fin 512) (e : Fin 128) : nrm (hi (pt D p τ).o) r e = D.nrm (2 * p + 1) (512 * τ + r) e := by
  simp only [nrm, Data.nrm, hi_o, hi_scale]
theorem lo_gate (r : Fin 512) (e : Fin 128) :
    dGate (lo (pt D p τ).n) (lo (pt D p τ).o) (lo (pt D p τ).g) (lo (pt D p τ).d) r e = D.dgate (2 * p) (512 * τ + r) e := by
  simp only [dGate, Data.dgate, lo_nrm, lo_n, lo_g, lo_d]
theorem hi_gate (r : Fin 512) (e : Fin 128) :
    dGate (hi (pt D p τ).n) (hi (pt D p τ).o) (hi (pt D p τ).g) (hi (pt D p τ).d) r e = D.dgate (2 * p + 1) (512 * τ + r) e := by
  simp only [dGate, Data.dgate, hi_nrm, hi_n, hi_g, hi_d]
theorem lo_out (r : Fin 512) (e : Fin 128) : (pt D p τ).d0 r e = D.dout (2 * p) (512 * τ + r) e := by
  simp only [Point.d0, dOut, Data.dout, lo_nrm, lo_n, lo_pre, lo_scale]
theorem hi_out (r : Fin 512) (e : Fin 128) : (pt D p τ).d1 r e = D.dout (2 * p + 1) (512 * τ + r) e := by
  simp only [Point.d1, dOut, Data.dout, hi_nrm, hi_n, hi_pre, hi_scale]

theorem pt_D (c : Fin 16) (i : Fin 64) (e : Fin 128) : (pt D p τ).D c i e = D.ct (hd p c) (ch τ c) i e := by
  unfold Point.D pair
  by_cases hc : (c : ℕ) < 8
  · rw [dif_pos hc, lo_out]
    simp only [row, Data.ct]
    congr 1 <;> simp only [hd, ch] <;> omega
  · rw [dif_neg hc, hi_out]
    simp only [row, Data.ct]
    congr 1 <;> simp only [hd, ch] <;> omega

/-- Only the first 16 of the 128 gate inputs have a weight. -/
theorem sum_low (f g : Fin 128 → ℝ) (u : Fin 16 → ℝ) (h : ∀ x : Fin 128, (hx : (x : ℕ) < 16) → g x = u ⟨x, hx⟩)
    (h' : ∀ x : Fin 128, ¬ (x : ℕ) < 16 → g x = 0) : ∑ x, f x * g x = ∑ x : Fin 16, f ⟨x, by omega⟩ * u x := by
  rw [show (∑ x, f x * g x) = ∑ x : Fin (16 + 112), f x * g x from rfl, Fin.sum_univ_add]
  have h1 : ∀ x : Fin 112, f (Fin.natAdd 16 x) * g (Fin.natAdd 16 x) = 0 := fun x => by rw [h' _ (by simp), mul_zero]
  rw [Finset.sum_congr rfl fun x _ => h1 x, Finset.sum_const_zero, add_zero]
  exact Finset.sum_congr rfl fun x _ => by rw [h (Fin.castAdd 112 x) x.isLt]; rfl

theorem pt_l0 (r : Fin 512) (a : Fin 128) (h : (a : ℕ) < 64) : (pt D p τ).l0 r a = D.logit (2 * p) (512 * τ + r) ⟨a, h⟩ := by
  unfold Point.l0 logit Data.logit
  have e1 : (a : ℕ) % 128 = a := Nat.mod_eq_of_lt a.isLt
  have e2 : (a : ℕ) / 128 = 0 := Nat.div_eq_of_lt a.isLt
  congr 1
  · refine (sum_low _ _ (fun x : Fin 16 => D.wa x (64 * (2 * p) + a)) (fun x hx => ?_) (fun x hx => ?_)).trans ?_
    · simp only [lo, pt, e1, e2, hx, h, and_self, if_true, add_zero]
    · simp only [lo, pt, hx, false_and, if_false]
    · rfl
  · simp only [lo, pt, e1, e2, h, if_true, add_zero]

theorem pt_l1 (r : Fin 512) (a : Fin 128) (h : (a : ℕ) < 64) : (pt D p τ).l1 r a = D.logit (2 * p + 1) (512 * τ + r) ⟨a, h⟩ := by
  unfold Point.l1 logit Data.logit
  have e1 : (128 + (a : ℕ)) % 128 = a := by omega
  have e2 : (128 + (a : ℕ)) / 128 = 1 := by omega
  congr 1
  · refine (sum_low _ _ (fun x : Fin 16 => D.wa x (64 * (2 * p + 1) + a)) (fun x hx => ?_) (fun x hx => ?_)).trans ?_
    · simp only [hi, pt, e1, e2, hx, h, and_self, if_true]
    · simp only [hi, pt, hx, false_and, if_false]
    · rfl
  · simp only [hi, pt, e1, e2, h, if_true]

theorem pt_B (c : Fin 16) (i : Fin 64) (a : Fin 128) (h : (a : ℕ) < 64) : (pt D p τ).B c i a = D.b (hd p c) (ch τ c) i ⟨a, h⟩ := by
  unfold Point.B tB Data.b cumDecay
  refine Finset.sum_congr rfl fun x _ => ?_
  have e : pair (logit (pt D p τ).x (lo (pt D p τ).w) (lo (pt D p τ).b)) (logit (pt D p τ).x (hi (pt D p τ).w) (hi (pt D p τ).b)) c x a
      = D.l (hd p c) (ch τ c) x ⟨a, h⟩ := by
    unfold pair Data.l
    by_cases hc : (c : ℕ) < 8
    · rw [dif_pos hc]
      refine (pt_l0 D p τ _ a h).trans ?_
      simp only [row]
      congr 1 <;> simp only [hd, ch] <;> omega
    · rw [dif_neg hc]
      refine (pt_l1 D p τ _ a h).trans ?_
      simp only [row]
      congr 1 <;> simp only [hd, ch] <;> omega
  rw [e]

theorem pt_B_lt (c : Fin 16) (a : Fin 128) (i j : Fin 64) (h : i < j) : (pt D p τ).B c j a < (pt D p τ).B c i a := cumDecay_lt _ h a

theorem pt_S (c : Fin 16) (e a : Fin 128) : (pt D p τ).S c e a = wide (fun a => D.S (hd p c) (ch τ c) a e) a := by
  by_cases h : (a : ℕ) < 64
  · simp only [Point.S, pt, if_pos h, wide_lt _ h, Data.S]
  · simp only [Point.S, pt, if_neg h, wide_ge _ h]

end Cert.KernelIdeal.Block

end
-- ==== Proof.Carry.lean ====
/-
  The gradient of the state as it passes through a tile, and what the tile's point leaves in its blocks.
-/
module

public import proofs.«01_k».proof.Proof.At

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

variable (D : Data) (p τ : ℕ)

/-- The gradient of the state that enters a tile from the one after it. -/
def enter (d : Fin 2) (e a : Fin 128) : ℝ := wide (fun a => D.back (2 * p + d) (8 * (7 - τ)) a e) a

/-- The gradient of the state after a chunk of the tile. -/
def Gs (c : Fin 16) (e a : Fin 128) : ℝ := wide (fun a => D.G (hd p c) (ch τ c) a e) a

variable {τ} (hτ : τ ≤ 7)

include hτ

theorem step_Gs (c : Fin 16) (e a : Fin 128) :
    step (pt D p τ).EL (pt D p τ).DG c (Gs D p τ c) e a = wide (fun a => D.back (hd p c) (63 - ch τ c + 1) a e) a := by
  have hc : ch τ c ≤ 63 := by simp only [ch]; omega
  have h := wide_dst (q := D.q (hd p c) (ch τ c)) (b := D.b (hd p c) (ch τ c)) (ct := D.ct (hd p c) (ch τ c))
    (G := D.G (hd p c) (ch τ c)) (Q := (pt D p τ).Q c) (B := (pt D p τ).B c) (A := Gs D p τ c) (pt_Q D p τ c)
    (pt_B D p τ c) (fun _ _ => rfl) e a
  simp only [step, grow, pt_D] at h ⊢
  rw [h]
  simp only [Data.back, Data.G, Nat.sub_sub_self hc]

theorem step_prev (c c' : Fin 16) (h : (c : ℕ) = c' + 1) (h8 : (c : ℕ) % 8 ≠ 0) :
    step (pt D p τ).EL (pt D p τ).DG c (Gs D p τ c) = Gs D p τ c' := by
  funext e a
  rw [step_Gs D p hτ]
  have e1 : hd p c = hd p c' := by simp only [hd]; omega
  have e2 : 63 - ch τ c + 1 = 63 - ch τ c' := by simp only [ch]; omega
  rw [e1, e2]
  rfl

theorem Gs_7 : Gs D p τ 7 = enter D p τ 0 := by
  funext e a
  have e1 : hd p 7 = 2 * p + (0 : Fin 2) := rfl
  have e2 : 63 - ch τ 7 = 8 * (7 - τ) := by show 63 - (8 * τ + 7) = _; omega
  simp only [Gs, enter, Data.G, e1, e2]
theorem Gs_15 : Gs D p τ 15 = enter D p τ 1 := by
  funext e a
  have e1 : hd p 15 = 2 * p + (1 : Fin 2) := rfl
  have e2 : 63 - ch τ 15 = 8 * (7 - τ) := by show 63 - (8 * τ + 7) = _; omega
  simp only [Gs, enter, Data.G, e1, e2]

theorem pt_A : (pt D p τ).A (enter D p τ) = Gs D p τ := by
  have s := step_prev D p hτ
  funext c
  unfold Point.A after
  rw [← Gs_7 D p hτ, ← Gs_15 D p hτ, s 7 6 rfl (by decide), s 6 5 rfl (by decide), s 5 4 rfl (by decide), s 4 3 rfl (by decide), s 3 2 rfl (by decide),
    s 2 1 rfl (by decide), s 1 0 rfl (by decide), s 15 14 rfl (by decide), s 14 13 rfl (by decide), s 13 12 rfl (by decide), s 12 11 rfl (by decide),
    s 11 10 rfl (by decide), s 10 9 rfl (by decide), s 9 8 rfl (by decide)]
  fin_cases c <;> rfl

theorem pt_Z (d : Fin 2) (e a : Fin 128) :
    (pt D p τ).Z (enter D p τ) d e a = wide (fun a => D.back (2 * p + d) (8 * (7 - τ) + 8) a e) a := by
  have hA : after (pt D p τ).EL (pt D p τ).DG (enter D p τ) = Gs D p τ := pt_A D p hτ
  unfold Point.Z before
  rw [hA]
  obtain rfl | rfl : d = 0 ∨ d = 1 := by omega
  · refine (step_Gs D p hτ 0 e a).trans ?_
    have e1 : hd p 0 = 2 * p + (0 : Fin 2) := rfl
    have e2 : 63 - ch τ 0 + 1 = 8 * (7 - τ) + 8 := by show 63 - (8 * τ + 0) + 1 = _; omega
    rw [e1, e2]
  · refine (step_Gs D p hτ 8 e a).trans ?_
    have e1 : hd p 8 = 2 * p + (1 : Fin 2) := rfl
    have e2 : 63 - ch τ 8 + 1 = 8 * (7 - τ) + 8 := by show 63 - (8 * τ + 0) + 1 = _; omega
    rw [e1, e2]

theorem pt_enter (hτ' : τ ≠ 0) : (pt D p τ).Z (enter D p τ) = enter D p (τ - 1) := by
  funext d e a
  rw [pt_Z D p hτ]
  have e2 : 8 * (7 - τ) + 8 = 8 * (7 - (τ - 1)) := by omega
  rw [e2]
  rfl

omit hτ in
theorem enter_7 : enter D p 7 = fun _ _ _ => 0 := by
  funext d e a
  by_cases h : (a : ℕ) < 64
  · simp only [enter, wide_lt _ h, Nat.sub_self, Nat.mul_zero, Data.back]
  · simp only [enter, wide_ge _ h]

/-! ## The chunks' gradients -/

omit hτ in
theorem pt_gq (c : Fin 16) (i : Fin 64) (a : Fin 128) : (pt D p τ).gq c i a * (1 / 8) = wide (D.dq (hd p c) (ch τ c) i) a := by
  have hV : (pt D p τ).V c = D.v (hd p c) (ch τ c) := funext fun i => funext fun e => pt_V D p τ c i e
  have hD : (pt D p τ).D c = D.ct (hd p c) (ch τ c) := funext fun i => funext fun e => pt_D D p τ c i e
  have h := wide_dq (q := D.q (hd p c) (ch τ c)) (k := D.k (hd p c) (ch τ c)) (b := D.b (hd p c) (ch τ c)) (v := D.v (hd p c) (ch τ c))
    (ct := D.ct (hd p c) (ch τ c)) (S := D.S (hd p c) (ch τ c)) (Q := (pt D p τ).Q c) (K := (pt D p τ).K c) (B := (pt D p τ).B c)
    (T := (pt D p τ).S c) (pt_B_lt D p τ c) (pt_Q D p τ c) (pt_K D p τ c) (pt_B D p τ c) (pt_S D p τ c) i a
  unfold Point.gq
  rw [hV, hD, h]
  by_cases w : (a : ℕ) < 64
  · simp only [wide_lt _ w, Data.dq]
  · simp only [wide_ge _ w, zero_mul]

theorem pt_gk (c : Fin 16) (i : Fin 64) (a : Fin 128) :
    (pt D p τ).gk (enter D p τ) c i a = wide (D.dk (hd p c) (ch τ c) i) a := by
  have hV : (pt D p τ).V c = D.v (hd p c) (ch τ c) := funext fun i => funext fun e => pt_V D p τ c i e
  have hD : (pt D p τ).D c = D.ct (hd p c) (ch τ c) := funext fun i => funext fun e => pt_D D p τ c i e
  have h := wide_dk (q := D.q (hd p c) (ch τ c)) (k := D.k (hd p c) (ch τ c)) (b := D.b (hd p c) (ch τ c)) (v := D.v (hd p c) (ch τ c))
    (ct := D.ct (hd p c) (ch τ c)) (G := D.G (hd p c) (ch τ c)) (Q := (pt D p τ).Q c) (K := (pt D p τ).K c) (B := (pt D p τ).B c)
    (A := Gs D p τ c) (pt_B_lt D p τ c) (pt_Q D p τ c) (pt_K D p τ c) (pt_B D p τ c) (fun _ _ => rfl) i a
  unfold Point.gk
  rw [hV, hD, pt_A D p hτ, h]
  rfl

theorem pt_gv (c : Fin 16) (i : Fin 64) (e : Fin 128) :
    (pt D p τ).gv (enter D p τ) c i e = D.dv (hd p c) (ch τ c) i e := by
  have hD : (pt D p τ).D c = D.ct (hd p c) (ch τ c) := funext fun i => funext fun e => pt_D D p τ c i e
  have h := wide_dv (q := D.q (hd p c) (ch τ c)) (k := D.k (hd p c) (ch τ c)) (b := D.b (hd p c) (ch τ c))
    (ct := D.ct (hd p c) (ch τ c)) (G := D.G (hd p c) (ch τ c)) (Q := (pt D p τ).Q c) (K := (pt D p τ).K c) (B := (pt D p τ).B c)
    (A := Gs D p τ c) (pt_B_lt D p τ c) (pt_Q D p τ c) (pt_K D p τ c) (pt_B D p τ c) (fun _ _ => rfl) i e
  unfold Point.gv
  rw [hD, pt_A D p hτ, h]
  rfl

theorem pt_gl (c : Fin 16) (i : Fin 64) (a : Fin 128) :
    (pt D p τ).gl (enter D p τ) c i a = ∑ x, (if i ≤ x then 1 else 0) * wide (rDb (D.q (hd p c) (ch τ c)) (D.k (hd p c) (ch τ c)) (D.b (hd p c) (ch τ c)) (D.v (hd p c) (ch τ c)) (D.ct (hd p c) (ch τ c)) (D.S (hd p c) (ch τ c)) (D.G (hd p c) (ch τ c)) x) a := by
  have hV : (pt D p τ).V c = D.v (hd p c) (ch τ c) := funext fun i => funext fun e => pt_V D p τ c i e
  have hD : (pt D p τ).D c = D.ct (hd p c) (ch τ c) := funext fun i => funext fun e => pt_D D p τ c i e
  have h := fun i => wide_db (q := D.q (hd p c) (ch τ c)) (k := D.k (hd p c) (ch τ c)) (b := D.b (hd p c) (ch τ c)) (v := D.v (hd p c) (ch τ c))
    (ct := D.ct (hd p c) (ch τ c)) (S := D.S (hd p c) (ch τ c)) (G := D.G (hd p c) (ch τ c)) (Q := (pt D p τ).Q c) (K := (pt D p τ).K c) (B := (pt D p τ).B c)
    (T := (pt D p τ).S c) (A := Gs D p τ c) (pt_B_lt D p τ c) (pt_Q D p τ c) (pt_K D p τ c) (pt_B D p τ c) (pt_S D p τ c) (fun _ _ => rfl) i a
  unfold Point.gl
  rw [hV, hD, pt_A D p hτ]
  simp only [h]

theorem pt_dl (c : Fin 16) (i : Fin 64) (a : Fin 128) (l : ℝ) (hl : ∀ h : (a : ℕ) < 64, l = D.l (hd p c) (ch τ c) i ⟨a, h⟩) :
    (pt D p τ).gl (enter D p τ) c i a * (1 / 16) * sgm (-l) = wide (D.dl (hd p c) (ch τ c) i) a := by
  rw [pt_gl D p hτ]
  by_cases w : (a : ℕ) < 64
  · rw [hl w]
    simp only [wide_lt _ w, Data.dl]
  · simp only [wide_ge _ w, mul_zero, Finset.sum_const_zero, zero_mul]

/-! ## The blocks -/

omit hτ in
/-- The place of a row and of a lane among all of them. -/
theorem row_chunk (r : Fin 512) : (512 * τ + r) / 64 = 8 * τ + (r : ℕ) / 64 := by omega
omit hτ in
theorem row_pos (r : Fin 512) : Data.pos (512 * τ + r) = ⟨(r : ℕ) % 64, by omega⟩ := Fin.ext (by simp only [Data.pos]; omega)

omit hτ in
theorem both_wide {X : Fin 16 → Fin 64 → Fin 128 → ℝ} {F : ℕ → ℕ → Fin 64 → Fin 64 → ℝ} (h : ∀ c i a, X c i a = wide (F (hd p c) (ch τ c) i) a)
    (r : Fin 512) (a : Fin 128) :
    both (rows0 X) (rows1 X) r a = F ((128 * p + a) / 64) ((512 * τ + r) / 64) (Data.pos (512 * τ + r)) (Data.pos (128 * p + a)) := by
  unfold both rows0 rows1
  rw [h, h, row_chunk, row_pos]
  have d0 : hd p ⟨(r : ℕ) / 64, by omega⟩ = 2 * p := by simp only [hd]; omega
  have d1 : hd p ⟨8 + (r : ℕ) / 64, by omega⟩ = 2 * p + 1 := by simp only [hd]; omega
  have c0 : ch τ ⟨(r : ℕ) / 64, by omega⟩ = 8 * τ + (r : ℕ) / 64 := by simp only [ch]; omega
  have c1 : ch τ ⟨8 + (r : ℕ) / 64, by omega⟩ = 8 * τ + (r : ℕ) / 64 := by simp only [ch]; omega
  rw [d0, d1, c0, c1]
  by_cases w : (a : ℕ) < 64
  · rw [wide_lt _ w, wide_ge _ (by show ¬ (a + 64 : ℕ) % 128 < 64; omega), add_zero]
    have e1 : (128 * p + a) / 64 = 2 * p := by omega
    have e2 : Data.pos (128 * p + a) = ⟨a, w⟩ := Fin.ext (by simp only [Data.pos]; omega)
    rw [e1, e2]
  · have w' : (a + 64 : ℕ) % 128 < 64 := by omega
    rw [wide_ge _ w, wide_lt _ (a := ⟨(a + 64 : ℕ) % 128, by omega⟩) w', zero_add]
    have e1 : (128 * p + a) / 64 = 2 * p + 1 := by omega
    have e2 : Data.pos (128 * p + a) = ⟨(a + 64 : ℕ) % 128, w'⟩ := Fin.ext (by simp only [Data.pos]; omega)
    rw [e1, e2]

omit hτ in
theorem pt_oq (r : Fin 512) (a : Fin 128) : (pt D p τ).oq r a = D.DQ (512 * τ + r) (128 * p + a) :=
  both_wide p (X := fun c i a => (pt D p τ).gq c i a * (1 / 8)) (F := D.dq) (pt_gq D p) r a

theorem pt_ok (r : Fin 512) (a : Fin 128) : (pt D p τ).ok (enter D p τ) r a = D.DK (512 * τ + r) (128 * p + a) :=
  both_wide p (F := D.dk) (pt_gk D p hτ) r a

omit hτ in
theorem beside_eq {n : ℕ} {x y : Fin n → Fin 128 → ℝ} {F : ℕ → Fin n → Fin 128 → ℝ} (hx : ∀ r a, x r a = F (2 * p) r a) (hy : ∀ r a, y r a = F (2 * p + 1) r a)
    (r : Fin n) (e : Fin 256) : beside x y r e = F ((256 * p + e) / 128) r (Data.lane (256 * p + e)) := by
  unfold beside
  by_cases h : (e : ℕ) < 128
  · rw [dif_pos h, hx]
    have e1 : (256 * p + e) / 128 = 2 * p := by omega
    have e2 : Data.lane (256 * p + e) = ⟨e, h⟩ := Fin.ext (by simp only [Data.lane]; omega)
    rw [e1, e2]
  · rw [dif_neg h, hy]
    have e1 : (256 * p + e) / 128 = 2 * p + 1 := by omega
    have e2 : Data.lane (256 * p + e) = ⟨e - 128, by omega⟩ := Fin.ext (by simp only [Data.lane]; omega)
    rw [e1, e2]

omit hτ in
theorem rows0_eq {X : Fin 16 → Fin 64 → Fin 128 → ℝ} {F : ℕ → ℕ → Fin 64 → Fin 128 → ℝ} (h : ∀ c i a, X c i a = F (hd p c) (ch τ c) i a)
    (r : Fin 512) (a : Fin 128) : rows0 X r a = F (2 * p) ((512 * τ + r) / 64) (Data.pos (512 * τ + r)) a := by
  unfold rows0
  rw [h, row_chunk, row_pos]
  have d0 : hd p ⟨(r : ℕ) / 64, by omega⟩ = 2 * p := by simp only [hd]; omega
  have c0 : ch τ ⟨(r : ℕ) / 64, by omega⟩ = 8 * τ + (r : ℕ) / 64 := by simp only [ch]; omega
  rw [d0, c0]

omit hτ in
theorem rows1_eq {X : Fin 16 → Fin 64 → Fin 128 → ℝ} {F : ℕ → ℕ → Fin 64 → Fin 128 → ℝ} (h : ∀ c i a, X c i a = F (hd p c) (ch τ c) i a)
    (r : Fin 512) (a : Fin 128) : rows1 X r a = F (2 * p + 1) ((512 * τ + r) / 64) (Data.pos (512 * τ + r)) a := by
  unfold rows1
  rw [h, row_chunk, row_pos]
  have d1 : hd p ⟨8 + (r : ℕ) / 64, by omega⟩ = 2 * p + 1 := by simp only [hd]; omega
  have c1 : ch τ ⟨8 + (r : ℕ) / 64, by omega⟩ = 8 * τ + (r : ℕ) / 64 := by simp only [ch]; omega
  rw [d1, c1]

theorem pt_ov (r : Fin 512) (e : Fin 256) : (pt D p τ).ov (enter D p τ) r e = D.DV (512 * τ + r) (256 * p + e) :=
  beside_eq p (F := fun h (r : Fin 512) a => D.dv h ((512 * τ + r) / 64) (Data.pos (512 * τ + r)) a)
    (fun r a => rows0_eq p (F := D.dv) (pt_gv D p hτ) r a) (fun r a => rows1_eq p (F := D.dv) (pt_gv D p hτ) r a) r e

omit hτ in
theorem pt_og (r : Fin 512) (e : Fin 256) : (pt D p τ).og r e = D.DGate (512 * τ + r) (256 * p + e) :=
  beside_eq p (F := fun h (r : Fin 512) a => D.dgate h (512 * τ + r) a) (fun r a => lo_gate D p τ r a) (fun r a => hi_gate D p τ r a) r e

theorem pt_ll0 (r : Fin 512) (a : Fin 128) : (pt D p τ).ll0 (enter D p τ) r a
    = wide (D.dl (2 * p) ((512 * τ + r) / 64) (Data.pos (512 * τ + r))) a := by
  unfold Point.ll0 dLogit rows0
  have d0 : hd p ⟨(r : ℕ) / 64, by omega⟩ = 2 * p := by simp only [hd]; omega
  have c0 : ch τ ⟨(r : ℕ) / 64, by omega⟩ = 8 * τ + (r : ℕ) / 64 := by simp only [ch]; omega
  rw [pt_dl D p hτ _ _ a _ (fun h => ?_), d0, c0, row_chunk, row_pos]
  rw [pt_l0 D p τ r a h, d0, c0]
  unfold Data.l
  congr 1
  show 512 * τ + (r : ℕ) = 64 * (8 * τ + r / 64) + r % 64
  omega

theorem pt_ll1 (r : Fin 512) (a : Fin 128) : (pt D p τ).ll1 (enter D p τ) r a
    = wide (D.dl (2 * p + 1) ((512 * τ + r) / 64) (Data.pos (512 * τ + r))) a := by
  unfold Point.ll1 dLogit rows1
  have d0 : hd p ⟨8 + (r : ℕ) / 64, by omega⟩ = 2 * p + 1 := by simp only [hd]; omega
  have c0 : ch τ ⟨8 + (r : ℕ) / 64, by omega⟩ = 8 * τ + (r : ℕ) / 64 := by simp only [ch]; omega
  rw [pt_dl D p hτ _ _ a _ (fun h => ?_), d0, c0, row_chunk, row_pos]
  rw [pt_l1 D p τ r a h, d0, c0]
  unfold Data.l
  congr 1
  show 512 * τ + (r : ℕ) = 64 * (8 * τ + r / 64) + r % 64
  omega

theorem pt_ol (r : Fin 512) (e : Fin 256) : (pt D p τ).ol (enter D p τ) r e = D.DL (512 * τ + r) (256 * p + e) :=
  beside_eq p (F := fun h (r : Fin 512) a => wide (D.dl h ((512 * τ + r) / 64) (Data.pos (512 * τ + r))) a)
    (pt_ll0 D p hτ) (pt_ll1 D p hτ) r e

/-- A tile's share of the two sums over all tokens. -/
def shareN (D : Data) (c r : ℕ) : ℝ := D.pre (c / 128) r (Data.lane c) * D.nrm (c / 128) r (Data.lane c)

omit hτ in
theorem pt_on (u : Fin 1 → Fin 256 → ℝ) (i : Fin 1) (e : Fin 256) :
    (pt D p τ).on u i e = u i e + ∑ r : Fin 512, shareN D (256 * p + e) (512 * τ + r) := by
  unfold shareN
  have hl : beside (lo u) (hi u) i e = u i e := by
    unfold beside lo hi
    by_cases h : (e : ℕ) < 128
    · rw [dif_pos h]
    · rw [dif_neg h]; congr 1; exact Fin.ext (by show 128 + ((e : ℕ) - 128) = e; omega)
  rw [← beside_eq p (n := 1) (x := fun _ a => ∑ r : Fin 512, D.pre (2 * p) (512 * τ + r) a * D.nrm (2 * p) (512 * τ + r) a)
    (y := fun _ a => ∑ r : Fin 512, D.pre (2 * p + 1) (512 * τ + r) a * D.nrm (2 * p + 1) (512 * τ + r) a)
    (F := fun h _ a => ∑ r : Fin 512, D.pre h (512 * τ + r) a * D.nrm h (512 * τ + r) a) (fun _ _ => rfl) (fun _ _ => rfl) i e]
  rw [← hl]
  unfold Point.on
  simp only [lo_pre, hi_pre, lo_nrm, hi_nrm]
  unfold beside
  by_cases h : (e : ℕ) < 128
  · simp only [dif_pos h]
  · simp only [dif_neg h]

theorem pt_ob (u : Fin 1 → Fin 256 → ℝ) (i : Fin 1) (e : Fin 256) :
    (pt D p τ).ob (enter D p τ) u i e = u i e + ∑ r : Fin 512, D.DL (512 * τ + r) (256 * p + e) := by
  unfold Data.DL
  have hl : beside (lo u) (hi u) i e = u i e := by
    unfold beside lo hi
    by_cases h : (e : ℕ) < 128
    · rw [dif_pos h]
    · rw [dif_neg h]; congr 1; exact Fin.ext (by show 128 + ((e : ℕ) - 128) = e; omega)
  rw [← beside_eq p (n := 1) (x := fun _ a => ∑ r : Fin 512, wide (D.dl (2 * p) ((512 * τ + r) / 64) (Data.pos (512 * τ + r))) a)
    (y := fun _ a => ∑ r : Fin 512, wide (D.dl (2 * p + 1) ((512 * τ + r) / 64) (Data.pos (512 * τ + r))) a)
    (F := fun h _ a => ∑ r : Fin 512, wide (D.dl h ((512 * τ + r) / 64) (Data.pos (512 * τ + r))) a) (fun _ _ => rfl) (fun _ _ => rfl) i e]
  rw [← hl]
  unfold Point.ob
  simp only [pt_ll0 D p hτ, pt_ll1 D p hτ]
  unfold beside
  by_cases h : (e : ℕ) < 128
  · simp only [dif_pos h]
  · simp only [dif_neg h]

end Cert.KernelIdeal.Block

end
-- ==== Proof.Operands.lean ====
/-
  The arrays the kernel reads, as real numbers: the arguments, and the padded weight, bias and states.
-/
module

public import proofs.«01_k».proof.Proof.Carry

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

variable (D : Data) (m : (ℓ : Loc nD τ sig) → Buf (Elt Ideal) ℓ) (c : Dev nD)

/-- The arguments hold the inputs. -/
structure Holds : Prop where
  a0 : m ((c : Thread nD τ).loc main_arg0) = (lift2 fun (r : Fin 4096) (x : Fin 3200) => D.proj r x)
  a1 : m ((c : Thread nD τ).loc main_arg1) = (lift2 fun (r : Fin 16) (x : Fin 256) => D.wa r x)
  a2 : m ((c : Thread nD τ).loc main_arg2) = (lift2 fun (r : Fin 1) (x : Fin 256) => D.ba r x)
  a3 : m ((c : Thread nD τ).loc main_arg3) = (lift2 fun (r : Fin 1) (x : Fin 512) => D.gn r x)
  a4 : m ((c : Thread nD τ).loc main_arg4) = (lift2 fun (r : Fin 4096) (x : Fin 512) => D.o r x)
  a5 : m ((c : Thread nD τ).loc main_arg5) = (lift4 fun (h : Fin 4) (j : Fin 64) (e : Fin 128) (a : Fin 64) => D.st h j e a)
  a6 : m ((c : Thread nD τ).loc main_arg6) = (lift2 fun (r : Fin 4096) (x : Fin 1024) => D.dd r x)

variable {D m c} (H : Holds D m c)

theorem zero_word : FloatOps.sitofp (F := Ideal) FTy.f32 (0#32) = ((0 : ℝ) : EReal) := by
  show (((0#32 : BitVec 32).toInt : ℝ) : EReal) = _
  norm_num

variable (D) in
theorem pad4 : truncf (F := Ideal) .bf16 (pad S128x512 ![0, 0] ![112, 0] ![0, 0] (shapeCast S16x512 (pad S16x4x128 ![0, 0, 0] ![0, 0, 64] ![0, 0, 0]
    (shapeCast S16x4x64 (lift2 fun (r : Fin 16) (x : Fin 256) => D.wa r x) shapeCasts_S16x256_S16x4x64) (sitofp (F := Ideal) .f32 (constantI S_ 32 0#32))
      pads_S16x4x64_S16x4x128_000_000_0640 h_S_) shapeCasts_S16x4x128_S16x512) (sitofp (F := Ideal) .f32 (constantI S_ 32 0#32)) pads_S16x512_S128x512_01120_000 h_S_) bitsLt_bf16_f32
    = lift2 fun (x : Fin 128) (e : Fin 512) => if (x : ℕ) < 16 ∧ (e : ℕ) % 128 < 64 then D.wa x (64 * (e / 128) + e % 128) else 0 := by
  funext y
  idx_vars y
  pointwise
  rw [zero_word]
  simp only [lift2_ix]
  have : (y1 : ℕ) / 128 < 4 := by omega
  split_ifs <;> first | rfl | (exfalso; omega) | (congr 2; omega)

variable (D) in
theorem pad7 : shapeCast S1x512 (pad S4x128 ![0, 0] ![0, 64] ![0, 0] (shapeCast S4x64 (lift2 fun (r : Fin 1) (x : Fin 256) => D.ba r x) shapeCasts_S1x256_S4x64) (sitofp (F := Ideal) .f32 (constantI S_ 32 0#32))
    pads_S4x64_S4x128_000_0640 h_S_) shapeCasts_S4x128_S1x512
    = lift2 fun (x : Fin 1) (e : Fin 512) => if (e : ℕ) % 128 < 64 then D.ba 0 (64 * (e / 128) + e % 128) else 0 := by
  funext y
  idx_vars y
  pointwise
  rw [zero_word]
  simp only [lift2_ix]
  have : (y1 : ℕ) / 128 < 4 := by omega
  split_ifs <;> first | rfl | (exfalso; omega) | (congr 2; omega)

variable (D) in
theorem pad8 : pad S4x64x128x128 ![0, 0, 0, 0] ![0, 0, 0, 64] ![0, 0, 0, 0]
    (lift4 fun (h : Fin 4) (j : Fin 64) (e : Fin 128) (a : Fin 64) => D.st h j e a) (sitofp (F := Ideal) .f32 (constantI S_ 32 0#32)) pads_S4x64x128x64_S4x64x128x128_000_000_000_0640 h_S_
    = lift4 fun (h : Fin 4) (j : Fin 64) (e : Fin 128) (a : Fin 128) => if (a : ℕ) < 64 then D.st h j e a else 0 := by
  funext y
  idx_vars y
  pointwise
  rw [zero_word]
  simp only [lift4_ix]
  split_ifs <;> rfl

include H

theorem v4 : V m c main_v4 = lift2 fun (x : Fin 128) (e : Fin 512) =>
    if (x : ℕ) < 16 ∧ (e : ℕ) % 128 < 64 then D.wa x (64 * (e / 128) + e % 128) else 0 := by
  unfold V
  simp only [hostOps0, hostOps0_1, hostOps0_2, hostOps0_3, hostOps0_4, hostOps0_5, hostOps0_6, hostOps0_7, List.flatten_cons, List.flatten_nil, List.cons_append, List.nil_append, List.append_nil]
  entry_read
  rw [show m (c, Proc.devRef .tc main_arg1) = (lift2 fun (r : Fin 16) (x : Fin 256) => D.wa r x) from H.a1]
  exact pad4 D

theorem v7 : V m c main_v7 = lift2 fun (x : Fin 1) (e : Fin 512) =>
    if (e : ℕ) % 128 < 64 then D.ba 0 (64 * (e / 128) + e % 128) else 0 := by
  unfold V
  simp only [hostOps0, hostOps0_1, hostOps0_2, hostOps0_3, hostOps0_4, hostOps0_5, hostOps0_6, hostOps0_7, List.flatten_cons, List.flatten_nil, List.cons_append, List.nil_append, List.append_nil]
  entry_read
  rw [show m (c, Proc.devRef .tc main_arg2) = (lift2 fun (r : Fin 1) (x : Fin 256) => D.ba r x) from H.a2]
  exact pad7 D

theorem v8 : V m c main_v8 = lift4 fun (h : Fin 4) (j : Fin 64) (e : Fin 128) (a : Fin 128) =>
    if (a : ℕ) < 64 then D.st h j e a else 0 := by
  unfold V
  simp only [hostOps0, hostOps0_1, hostOps0_2, hostOps0_3, hostOps0_4, hostOps0_5, hostOps0_6, hostOps0_7, List.flatten_cons, List.flatten_nil, List.cons_append, List.nil_append, List.append_nil]
  entry_read
  rw [show m (c, Proc.devRef .tc main_arg5) = (lift4 fun (h : Fin 4) (j : Fin 64) (e : Fin 128) (a : Fin 64) => D.st h j e a) from H.a5]
  exact pad8 D

omit H in
theorem idx : ∀ t : Fin cfg0.N,
    win0_0.index t = ![7 - (t : ℕ) % 8, 12 + t / 8] ∧ win0_1.index t = ![7 - (t : ℕ) % 8, 14 + t / 8] ∧ win0_2.index t = ![7 - (t : ℕ) % 8, 8 + t / 8]
    ∧ win0_3.index t = ![7 - (t : ℕ) % 8, 10 + t / 8] ∧ win0_4.index t = ![7 - (t : ℕ) % 8, 24] ∧ win0_5.index t = ![0, (t : ℕ) / 8]
    ∧ win0_6.index t = ![0, (t : ℕ) / 8] ∧ win0_7.index t = ![0, (t : ℕ) / 8] ∧ win0_8.index t = ![7 - (t : ℕ) % 8, (t : ℕ) / 8]
    ∧ win0_9.index t = ![(t : ℕ) / 8, 7 - (t : ℕ) % 8, 0, 0] ∧ win0_10.index t = ![7 - (t : ℕ) % 8, 2 + t / 8] ∧ win0_11.index t = ![7 - (t : ℕ) % 8, (t : ℕ) / 8]
    ∧ win0_12.index t = ![7 - (t : ℕ) % 8, (t : ℕ) / 8] ∧ win0_13.index t = ![7 - (t : ℕ) % 8, (t : ℕ) / 8] ∧ win0_14.index t = ![7 - (t : ℕ) % 8, (t : ℕ) / 8]
    ∧ win0_15.index t = ![0, (t : ℕ) / 8] ∧ win0_16.index t = ![7 - (t : ℕ) % 8, (t : ℕ) / 8] ∧ win0_17.index t = ![0, (t : ℕ) / 8] :=
  (by decide +kernel : ∀ t : Fin grid0.N, _)

theorem rq (t : Fin cfg0.N) : iblk m c 0 t = lift2 (pt D (t / 8) (7 - t % 8)).q := by
  have ht : (t : ℕ) < 16 := t.isLt
  funext y
  idx_vars y
  have e : iblk m c 0 t (ix2 y0 y1) = V m c main_arg0 (ix2 ⟨512 * (7 - t % 8) + y0, by omega⟩ ⟨128 * (12 + t / 8) + y1, by omega⟩) := by blk_ext [iblk, idx t]
  refine e.trans ?_
  rw [V_main_arg0, H.a0]
  rfl

theorem rk (t : Fin cfg0.N) : iblk m c 1 t = lift2 (pt D (t / 8) (7 - t % 8)).k := by
  have ht : (t : ℕ) < 16 := t.isLt
  funext y
  idx_vars y
  have e : iblk m c 1 t (ix2 y0 y1) = V m c main_arg0 (ix2 ⟨512 * (7 - t % 8) + y0, by omega⟩ ⟨128 * (14 + t / 8) + y1, by omega⟩) := by blk_ext [iblk, idx t]
  refine e.trans ?_
  rw [V_main_arg0, H.a0]
  rfl

theorem rv (t : Fin cfg0.N) : X0_2 m c t = lift2 (pt D (t / 8) (7 - t % 8)).v := by
  have ht : (t : ℕ) < 16 := t.isLt
  funext y
  idx_vars y
  have e : X0_2 m c t (ix2 y0 y1) = V m c main_arg0 (ix2 ⟨512 * (7 - t % 8) + y0, by omega⟩ ⟨256 * (8 + t / 8) + y1, by omega⟩) := by
    unfold X0_2 Pipeline.Window.fill
    rw [dif_pos (moved0_2 t _)]
    blk_ext [iblk, idx t]
  refine e.trans ?_
  rw [V_main_arg0, H.a0]
  rfl

theorem rg (t : Fin cfg0.N) : X0_3 m c t = lift2 (pt D (t / 8) (7 - t % 8)).g := by
  have ht : (t : ℕ) < 16 := t.isLt
  funext y
  idx_vars y
  have e : X0_3 m c t (ix2 y0 y1) = V m c main_arg0 (ix2 ⟨512 * (7 - t % 8) + y0, by omega⟩ ⟨256 * (10 + t / 8) + y1, by omega⟩) := by
    unfold X0_3 Pipeline.Window.fill
    rw [dif_pos (moved0_3 t _)]
    blk_ext [iblk, idx t]
  refine e.trans ?_
  rw [V_main_arg0, H.a0]
  rfl

theorem rx (t : Fin cfg0.N) : iblk m c 4 t = lift2 (pt D (t / 8) (7 - t % 8)).x := by
  have ht : (t : ℕ) < 16 := t.isLt
  funext y
  idx_vars y
  have e : iblk m c 4 t (ix2 y0 y1) = V m c main_arg0 (ix2 ⟨512 * (7 - t % 8) + y0, by omega⟩ ⟨128 * 24 + y1, by omega⟩) := by blk_ext [iblk, idx t]
  refine e.trans ?_
  rw [V_main_arg0, H.a0]
  rfl

theorem rw5 (t : Fin cfg0.N) : iblk m c 5 t = lift2 (pt D (t / 8) (7 - t % 8)).w := by
  have ht : (t : ℕ) < 16 := t.isLt
  funext y
  idx_vars y
  have e : iblk m c 5 t (ix2 y0 y1) = V m c main_v4 (ix2 ⟨y0, by omega⟩ ⟨256 * (t / 8) + y1, by omega⟩) := by blk_ext [iblk, idx t]
  refine e.trans ?_
  rw [v4 H]
  have e1 : (256 * ((t : ℕ) / 8) + y1) / 128 = 2 * (t / 8) + y1 / 128 := by omega
  have e2 : (256 * ((t : ℕ) / 8) + y1) % 128 = y1 % 128 := by omega
  simp only [lift2_ix, pt, e1, e2]

theorem rb (t : Fin cfg0.N) : iblk m c 6 t = lift2 (pt D (t / 8) (7 - t % 8)).b := by
  have ht : (t : ℕ) < 16 := t.isLt
  funext y
  idx_vars y
  have e : iblk m c 6 t (ix2 y0 y1) = V m c main_v7 (ix2 ⟨y0, by omega⟩ ⟨256 * (t / 8) + y1, by omega⟩) := by blk_ext [iblk, idx t]
  refine e.trans ?_
  rw [v7 H]
  have e1 : (256 * ((t : ℕ) / 8) + y1) / 128 = 2 * (t / 8) + y1 / 128 := by omega
  have e2 : (256 * ((t : ℕ) / 8) + y1) % 128 = y1 % 128 := by omega
  simp only [lift2_ix, pt, e1, e2]

theorem rn (t : Fin cfg0.N) : iblk m c 7 t = lift2 (pt D (t / 8) (7 - t % 8)).n := by
  have ht : (t : ℕ) < 16 := t.isLt
  funext y
  idx_vars y
  have e : iblk m c 7 t (ix2 y0 y1) = V m c main_arg3 (ix2 ⟨y0, by omega⟩ ⟨256 * (t / 8) + y1, by omega⟩) := by blk_ext [iblk, idx t]
  refine e.trans ?_
  rw [V_main_arg3, H.a3]
  obtain rfl : y0 = 0 := Subsingleton.elim _ _
  rfl

theorem ro (t : Fin cfg0.N) : iblk m c 8 t = lift2 (pt D (t / 8) (7 - t % 8)).o := by
  have ht : (t : ℕ) < 16 := t.isLt
  funext y
  idx_vars y
  have e : iblk m c 8 t (ix2 y0 y1) = V m c main_arg4 (ix2 ⟨512 * (7 - t % 8) + y0, by omega⟩ ⟨256 * (t / 8) + y1, by omega⟩) := by blk_ext [iblk, idx t]
  refine e.trans ?_
  rw [V_main_arg4, H.a4]
  rfl

theorem rs (t : Fin cfg0.N) : iblk m c 9 t = lift4 (pt D (t / 8) (7 - t % 8)).s := by
  have ht : (t : ℕ) < 16 := t.isLt
  funext y
  idx_vars y
  have e : iblk m c 9 t (ix4 y0 y1 y2 y3) = V m c main_v8 (ix4 ⟨2 * (t / 8) + y0, by omega⟩ ⟨8 * (7 - t % 8) + y1, by omega⟩ y2 y3) := by
    blk_ext [iblk, idx t]
  refine e.trans ?_
  rw [v8 H]
  rfl

theorem rd (t : Fin cfg0.N) : iblk m c 10 t = lift2 (pt D (t / 8) (7 - t % 8)).d := by
  have ht : (t : ℕ) < 16 := t.isLt
  funext y
  idx_vars y
  have e : iblk m c 10 t (ix2 y0 y1) = V m c main_arg6 (ix2 ⟨512 * (7 - t % 8) + y0, by omega⟩ ⟨256 * (2 + t / 8) + y1, by omega⟩) := by blk_ext [iblk, idx t]
  refine e.trans ?_
  rw [V_main_arg6, H.a6]
  rfl

/-- Every grid point reads its tile. -/
theorem reads (t : Fin cfg0.N) : Reads m c t (pt D (t / 8) (7 - t % 8)) :=
  ⟨rq H t, rk H t, rv H t, rg H t, rx H t, rw5 H t, rb H t, rn H t, ro H t, rs H t, rd H t⟩

end Cert.KernelIdeal.Block

end
-- ==== Proof.Outputs.lean ====
/-
  The kernel's result arrays: what every grid point leaves, and the arrays once all have run.
-/
module

public import proofs.«01_k».proof.Proof.BlockA
public import proofs.«01_k».proof.Proof.BlockB
public import proofs.«01_k».proof.Proof.Operands
public import proofs.«01_k».proof.Proof.Gen.KernelIdeal.Value

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

variable {D : Data} {m : (ℓ : Loc nD τ sig) → Buf (Elt Ideal) ℓ} {c : Dev nD} (H : Holds D m c)

include H

theorem carried_0 (t : Fin cfg0.N) (h8 : (t : ℕ) % 8 = 0) :
    (outsAt0 m c t.val t.isLt).2.2.2.2.2.2.2 = lift3 ((pt D (t / 8) (7 - t % 8)).Z (enter D (t / 8) (7 - t % 8))) := by
  rw [carried_A t h8 _ (reads H t), h8, Nat.sub_zero, enter_7]

/-- The gradient of the state as each grid point hands it on. -/
theorem carried : ∀ (n : ℕ) (hn : n < cfg0.N),
    (outsAt0 m c n hn).2.2.2.2.2.2.2 = lift3 ((pt D (n / 8) (7 - n % 8)).Z (enter D (n / 8) (7 - n % 8)))
  | 0, hn => carried_0 H ⟨0, hn⟩ rfl
  | n + 1, hn => by
    by_cases h8 : (n + 1) % 8 = 0
    · exact carried_0 H ⟨n + 1, hn⟩ h8
    · refine carried_B ⟨n + 1, hn⟩ h8 _ (reads H ⟨n + 1, hn⟩) _ ?_
      have ih := carried n (Nat.lt_of_succ_lt hn)
      have e1 : n / 8 = (n + 1) / 8 := by omega
      have e2 : 7 - (n + 1) % 8 = 7 - n % 8 - 1 := by omega
      refine ih.trans ?_
      rw [pt_enter D _ (by omega) (by omega), e1, e2]

/-- What a point that is not its pair's first finds. -/
theorem found (t : Fin cfg0.N) (h8 : ¬ (t : ℕ) % 8 = 0) :
    (outsAt0 m c (t.val - 1) (Nat.lt_of_le_of_lt (Nat.sub_le _ _) t.isLt)).2.2.2.2.2.2.2 = lift3 (enter D (t / 8) (7 - t % 8)) := by
  have ih := carried H (t.val - 1) (Nat.lt_of_le_of_lt (Nat.sub_le _ _) t.isLt)
  have e1 : (t.val - 1) / 8 = t / 8 := by omega
  have e2 : 7 - (t : ℕ) % 8 = 7 - (t.val - 1) % 8 - 1 := by omega
  refine ih.trans ?_
  rw [pt_enter D _ (by omega) (by omega), e1, e2]

/-! ## What each point leaves in its blocks -/

theorem left_q (t : Fin cfg0.N) : (outsAt0 m c t.val t.isLt).1
    = (lift2 fun (r : Fin 512) (a : Fin 128) => D.DQ (512 * (7 - t % 8) + r) (128 * (t / 8) + a)) := by
  have e : (outsAt0 m c t.val t.isLt).1 = lift2 (pt D (t / 8) (7 - t % 8)).oq := by
    by_cases h8 : (t : ℕ) % 8 = 0
    · exact dq_A t h8 _ (reads H t)
    · exact dq_B t h8 _ (reads H t)
  rw [e]
  exact congrArg lift2 (funext fun r => funext fun a => pt_oq D _ r a)

theorem left_gate (t : Fin cfg0.N) : (outsAt0 m c t.val t.isLt).2.2.2.1
    = (lift2 fun (r : Fin 512) (a : Fin 256) => D.DGate (512 * (7 - t % 8) + r) (256 * (t / 8) + a)) := by
  have e : (outsAt0 m c t.val t.isLt).2.2.2.1 = lift2 (pt D (t / 8) (7 - t % 8)).og := by
    by_cases h8 : (t : ℕ) % 8 = 0
    · exact dgate_A t h8 _ (reads H t)
    · exact dgate_B t h8 _ (reads H t)
  rw [e]
  exact congrArg lift2 (funext fun r => funext fun a => pt_og D _ r a)

theorem left_k (t : Fin cfg0.N) : (outsAt0 m c t.val t.isLt).2.1
    = (lift2 fun (r : Fin 512) (a : Fin 128) => D.DK (512 * (7 - t % 8) + r) (128 * (t / 8) + a)) := by
  have e : (outsAt0 m c t.val t.isLt).2.1 = lift2 ((pt D (t / 8) (7 - t % 8)).ok (enter D (t / 8) (7 - t % 8))) := by
    by_cases h8 : (t : ℕ) % 8 = 0
    · rw [dk_A t h8 _ (reads H t), h8, Nat.sub_zero, enter_7]
    · exact dk_B t h8 _ (reads H t) _ (found H t h8)
  rw [e]
  exact congrArg lift2 (funext fun r => funext fun a => pt_ok D _ (by omega) r a)

theorem left_v (t : Fin cfg0.N) : (outsAt0 m c t.val t.isLt).2.2.1
    = (lift2 fun (r : Fin 512) (a : Fin 256) => D.DV (512 * (7 - t % 8) + r) (256 * (t / 8) + a)) := by
  have e : (outsAt0 m c t.val t.isLt).2.2.1 = lift2 ((pt D (t / 8) (7 - t % 8)).ov (enter D (t / 8) (7 - t % 8))) := by
    by_cases h8 : (t : ℕ) % 8 = 0
    · rw [dv_A t h8 _ (reads H t), h8, Nat.sub_zero, enter_7]
    · exact dv_B t h8 _ (reads H t) _ (found H t h8)
  rw [e]
  exact congrArg lift2 (funext fun r => funext fun a => pt_ov D _ (by omega) r a)

theorem left_l (t : Fin cfg0.N) : (outsAt0 m c t.val t.isLt).2.2.2.2.2.1
    = (lift2 fun (r : Fin 512) (a : Fin 256) => D.DL (512 * (7 - t % 8) + r) (256 * (t / 8) + a)) := by
  have e : (outsAt0 m c t.val t.isLt).2.2.2.2.2.1 = lift2 ((pt D (t / 8) (7 - t % 8)).ol (enter D (t / 8) (7 - t % 8))) := by
    by_cases h8 : (t : ℕ) % 8 = 0
    · rw [dlogit_A t h8 _ (reads H t), h8, Nat.sub_zero, enter_7]
    · exact dlogit_B t h8 _ (reads H t) _ (found H t h8)
  rw [e]
  exact congrArg lift2 (funext fun r => funext fun a => pt_ol D _ (by omega) r a)

/-! ## The two sums -/

omit H in
/-- The sum over the last `n + 1` tiles. -/
def tail (f : ℕ → ℝ) (n : ℕ) : ℝ := ∑ s ∈ Finset.range (n + 1), ∑ r : Fin 512, f (512 * (7 - s) + r)

omit H in
theorem tail_succ (f : ℕ → ℝ) (n : ℕ) : tail f (n + 1) = tail f n + ∑ r : Fin 512, f (512 * (7 - (n + 1)) + r) := Finset.sum_range_succ _ _

omit H in
theorem tail_7 (f : ℕ → ℝ) : tail f 7 = ∑ r : Fin 4096, f r := by
  have e : ∀ r : Fin 4096, f r = f (512 * ((finProdFinEquiv (m := 8) (n := 512)).symm r).1 + ((finProdFinEquiv (m := 8) (n := 512)).symm r).2) := fun r => by
    congr 1
    show (r : ℕ) = 512 * (r / 512) + r % 512
    omega
  rw [Finset.sum_congr rfl fun r _ => e r, Equiv.sum_comp (finProdFinEquiv (m := 8) (n := 512)).symm fun x => f (512 * x.1 + x.2), Fintype.sum_prod_type]
  unfold tail
  rw [Finset.sum_range_reflect (fun s => ∑ r : Fin 512, f (512 * s + r)) 8, Finset.sum_range]

omit H in
theorem zero_lift2 {a b : ℕ} (f : Fin a → Fin b → ℝ) (g : Fin a → Fin b → ℝ) (h : ∀ i j, f i j = g i j) : lift2 f = lift2 g :=
  congrArg lift2 (funext fun i => funext fun j => h i j)

theorem left_n_0 (t : Fin cfg0.N) (h8 : (t : ℕ) % 8 = 0) : (outsAt0 m c t.val t.isLt).2.2.2.2.1
    = (lift2 fun (_ : Fin 1) (e : Fin 256) => tail (shareN D (256 * (t / 8) + e)) (t % 8)) := by
  rw [dgn_A t h8 _ (reads H t)]
  refine zero_lift2 _ _ fun i e => ?_
  rw [pt_on, zero_add, h8]
  simp [tail]

theorem left_n : ∀ (n : ℕ) (hn : n < cfg0.N), (outsAt0 m c n hn).2.2.2.2.1
    = (lift2 fun (_ : Fin 1) (e : Fin 256) => tail (shareN D (256 * (n / 8) + e)) (n % 8))
  | 0, hn => left_n_0 H ⟨0, hn⟩ rfl
  | n + 1, hn => by
    by_cases h8 : (n + 1) % 8 = 0
    · exact left_n_0 H ⟨n + 1, hn⟩ h8
    · refine (dgn_B ⟨n + 1, hn⟩ h8 _ (reads H ⟨n + 1, hn⟩) _ (left_n n (Nat.lt_of_succ_lt hn))).trans (zero_lift2 _ _ fun i e => ?_)
      have e1 : n / 8 = (n + 1) / 8 := by omega
      have e2 : (n + 1) % 8 = n % 8 + 1 := by omega
      rw [pt_on]
      simp only [e1, e2, tail_succ]

theorem left_b_0 (t : Fin cfg0.N) (h8 : (t : ℕ) % 8 = 0) : (outsAt0 m c t.val t.isLt).2.2.2.2.2.2.1
    = (lift2 fun (_ : Fin 1) (e : Fin 256) => tail (fun r => D.DL r (256 * (t / 8) + e)) (t % 8)) := by
  rw [dba_A t h8 _ (reads H t), ← enter_7 D (t / 8), h8]
  refine zero_lift2 _ _ fun i e => ?_
  rw [Nat.sub_zero, pt_ob D _ (le_refl _), zero_add]
  simp [tail]

theorem left_b : ∀ (n : ℕ) (hn : n < cfg0.N), (outsAt0 m c n hn).2.2.2.2.2.2.1
    = (lift2 fun (_ : Fin 1) (e : Fin 256) => tail (fun r => D.DL r (256 * (n / 8) + e)) (n % 8))
  | 0, hn => left_b_0 H ⟨0, hn⟩ rfl
  | n + 1, hn => by
    by_cases h8 : (n + 1) % 8 = 0
    · exact left_b_0 H ⟨n + 1, hn⟩ h8
    · refine (dba_B ⟨n + 1, hn⟩ h8 _ (reads H ⟨n + 1, hn⟩) _ (found H ⟨n + 1, hn⟩ h8) _ (left_b n (Nat.lt_of_succ_lt hn))).trans (zero_lift2 _ _ fun i e => ?_)
      have e1 : n / 8 = (n + 1) / 8 := by omega
      have e2 : (n + 1) % 8 = n % 8 + 1 := by omega
      rw [pt_ob D _ (by omega)]
      simp only [e1, e2, tail_succ]

end Cert.KernelIdeal.Block

end
-- ==== Proof.Arrays.lean ====
/-
  The kernel's result arrays once all grid points have run.
-/
module

public import proofs.«01_k».proof.Proof.Outputs

@[expose] public section

set_option maxRecDepth 16384

noncomputable section

namespace Cert.KernelIdeal.Block

open Cert.KernelIdeal Cert.KernelIdeal.Gen Cert.KernelIdeal.Stage Cert.Gla Idealize.ShloMosaic Idealize.ShloMosaic.TcCoe Idealize.SL.Sem

variable {D : Data} {m : (ℓ : Loc nD τ sig) → Buf (Elt Ideal) ℓ} {c : Dev nD} (H : Holds D m c)

include H

theorem arr_q : (dats m 0 c).arrAt 11 (cfgs 0).N = (lift2 fun (r : Fin 4096) (a : Fin 256) => D.DQ r a) := by
  refine (dats m 0 c).arrAt_eq_of_covers 11 _ (by decide +kernel) fun t _ y => ?_
  blk_simp
  rw [after0_11, left_q H t]
  idx_vars y
  symm
  have ht : (t : ℕ) < 16 := t.isLt
  refine Eq.trans (b := lift2 (fun (r : Fin 4096) (a : Fin 256) => D.DQ r a) (ix2 ⟨512 * (7 - t % 8) + y0, by omega⟩ ⟨128 * (t / 8) + y1, by omega⟩)) ?_ rfl
  blk_ext [idx t]

theorem arr_k : (dats m 0 c).arrAt 12 (cfgs 0).N = (lift2 fun (r : Fin 4096) (a : Fin 256) => D.DK r a) := by
  refine (dats m 0 c).arrAt_eq_of_covers 12 _ (by decide +kernel) fun t _ y => ?_
  blk_simp
  rw [after0_12, left_k H t]
  idx_vars y
  symm
  have ht : (t : ℕ) < 16 := t.isLt
  refine Eq.trans (b := lift2 (fun (r : Fin 4096) (a : Fin 256) => D.DK r a) (ix2 ⟨512 * (7 - t % 8) + y0, by omega⟩ ⟨128 * (t / 8) + y1, by omega⟩)) ?_ rfl
  blk_ext [idx t]

theorem arr_v : (dats m 0 c).arrAt 13 (cfgs 0).N = (lift2 fun (r : Fin 4096) (a : Fin 512) => D.DV r a) := by
  refine (dats m 0 c).arrAt_eq_of_covers 13 _ (by decide +kernel) fun t _ y => ?_
  blk_simp
  rw [after0_13, left_v H t]
  idx_vars y
  symm
  have ht : (t : ℕ) < 16 := t.isLt
  refine Eq.trans (b := lift2 (fun (r : Fin 4096) (a : Fin 512) => D.DV r a) (ix2 ⟨512 * (7 - t % 8) + y0, by omega⟩ ⟨256 * (t / 8) + y1, by omega⟩)) ?_ rfl
  blk_ext [idx t]

theorem arr_gate : (dats m 0 c).arrAt 14 (cfgs 0).N = (lift2 fun (r : Fin 4096) (a : Fin 512) => D.DGate r a) := by
  refine (dats m 0 c).arrAt_eq_of_covers 14 _ (by decide +kernel) fun t _ y => ?_
  blk_simp
  rw [after0_14, left_gate H t]
  idx_vars y
  symm
  have ht : (t : ℕ) < 16 := t.isLt
  refine Eq.trans (b := lift2 (fun (r : Fin 4096) (a : Fin 512) => D.DGate r a) (ix2 ⟨512 * (7 - t % 8) + y0, by omega⟩ ⟨256 * (t / 8) + y1, by omega⟩)) ?_ rfl
  blk_ext [idx t]

theorem arr_l : (dats m 0 c).arrAt 16 (cfgs 0).N = (lift2 fun (r : Fin 4096) (a : Fin 512) => D.DL r a) := by
  refine (dats m 0 c).arrAt_eq_of_covers 16 _ (by decide +kernel) fun t _ y => ?_
  blk_simp
  rw [after0_16, left_l H t]
  idx_vars y
  symm
  have ht : (t : ℕ) < 16 := t.isLt
  refine Eq.trans (b := lift2 (fun (r : Fin 4096) (a : Fin 512) => D.DL r a) (ix2 ⟨512 * (7 - t % 8) + y0, by omega⟩ ⟨256 * (t / 8) + y1, by omega⟩)) ?_ rfl
  blk_ext [idx t]

theorem arr_n : (dats m 0 c).arrAt 15 (cfgs 0).N = (lift2 fun (r : Fin 1) (a : Fin 512) => D.DGn a) := by
  refine (dats m 0 c).arrAt_eq_of_covers 15 _ (by decide +kernel) fun t hf y => ?_
  have h7 := (flush0_15 t).mp hf
  blk_simp
  rw [after0_15, left_n H t.val t.isLt, h7]
  idx_vars y
  symm
  have ht : (t : ℕ) < 16 := t.isLt
  refine Eq.trans (b := lift2 (fun (r : Fin 1) (a : Fin 512) => D.DGn a) (ix2 0 ⟨256 * (t / 8) + y1, by omega⟩)) ?_ ?_
  · blk_ext [idx t]
  · simp only [lift2_ix, tail_7]
    rfl

omit H in
theorem sum_DL (D : Data) (x : ℕ) : ∑ r : Fin 4096, D.DL r x = D.DBa x := by
  unfold Data.DL Data.DBa
  by_cases h : (Data.lane x : ℕ) < 64
  · simp only [wide_lt _ h, Data.dba]
  · simp only [wide_ge _ h, Finset.sum_const_zero]

theorem arr_b : (dats m 0 c).arrAt 17 (cfgs 0).N = (lift2 fun (r : Fin 1) (a : Fin 512) => D.DBa a) := by
  refine (dats m 0 c).arrAt_eq_of_covers 17 _ (by decide +kernel) fun t hf y => ?_
  have h7 := (flush0_17 t).mp hf
  blk_simp
  rw [after0_17, left_b H t.val t.isLt, h7]
  idx_vars y
  symm
  have ht : (t : ℕ) < 16 := t.isLt
  refine Eq.trans (b := lift2 (fun (r : Fin 1) (a : Fin 512) => D.DBa a) (ix2 0 ⟨256 * (t / 8) + y1, by omega⟩)) ?_ ?_
  · blk_ext [idx t]
  · simp only [lift2_ix, tail_7]
    rw [sum_DL]

end Cert.KernelIdeal.Block

end
-- ==== Proof.Given.lean ====
/-
  The arrays of the arguments, of the gradient's inputs.
-/
module

public import proofs.«01_k».proof.Proof.Spec

@[expose] public section

noncomputable section

namespace Cert.Gla

open Idealize.ShloMosaic

variable (D : Data)

def P0 : (⟨2, ![4096, 3200]⟩ : Shape).Idx → EReal := lift2 fun (r : Fin 4096) (x : Fin 3200) => D.proj r x
def P1 : (⟨2, ![16, 256]⟩ : Shape).Idx → EReal := lift2 fun (r : Fin 16) (x : Fin 256) => D.wa r x
def P2 : (⟨2, ![1, 256]⟩ : Shape).Idx → EReal := lift2 fun (r : Fin 1) (x : Fin 256) => D.ba r x
def P3 : (⟨2, ![1, 512]⟩ : Shape).Idx → EReal := lift2 fun (r : Fin 1) (x : Fin 512) => D.gn r x
def P4 : (⟨2, ![4096, 512]⟩ : Shape).Idx → EReal := lift2 fun (r : Fin 4096) (x : Fin 512) => D.o r x
def P5 : (⟨4, ![4, 64, 128, 64]⟩ : Shape).Idx → EReal :=
  lift4 fun (h : Fin 4) (j : Fin 64) (e : Fin 128) (a : Fin 64) => D.st h j e a
def P6 : (⟨2, ![4096, 1024]⟩ : Shape).Idx → EReal := lift2 fun (r : Fin 4096) (x : Fin 1024) => D.dd r x

theorem P0_ix (i j) : P0 D (ix2 i j) = ((D.proj i j : ℝ) : EReal) := rfl
theorem P1_ix (i j) : P1 D (ix2 i j) = ((D.wa i j : ℝ) : EReal) := rfl
theorem P2_ix (i j) : P2 D (ix2 i j) = ((D.ba i j : ℝ) : EReal) := rfl
theorem P3_ix (i j) : P3 D (ix2 i j) = ((D.gn i j : ℝ) : EReal) := rfl
theorem P4_ix (i j) : P4 D (ix2 i j) = ((D.o i j : ℝ) : EReal) := rfl
theorem P5_ix (i j k l) : P5 D (ix4 i j k l) = ((D.st i j k l : ℝ) : EReal) := rfl
theorem P6_ix (i j) : P6 D (ix2 i j) = ((D.dd i j : ℝ) : EReal) := rfl

end Cert.Gla

end
-- ==== Proof.Unit.lean ====
/-
  Sums over axes of one element each.
-/
module

public import proofs.«01_k».proof.Proof.Gen.ReferenceIdeal
public import Idealize.ShloMosaic.Lib.Pointwise

@[expose] public section

set_option maxRecDepth 16384

noncomputable section

namespace Cert.ReferenceIdeal.Trip

open Cert.ReferenceIdeal Cert.ReferenceIdeal.Gen Idealize.ShloMosaic

theorem unit_a (x : S1x4x64x1.Idx → EReal) (z : EReal) (h : Fin 4) (a : Fin 64) :
    Ideal.hostReduceAdd reducesTo_S1x4x64x1_S4x64_d0_3 x z (ix2 h a) = z + x (ix4 0 h a 0) := by
  refine congrArg (z + ·) (Finset.sum_eq_single_of_mem _ ?_ fun i hi ne => absurd ?_ ne)
  · refine Finset.mem_filter.mpr ⟨Finset.mem_univ _, ?_⟩
    funext b
    match b with
    | ⟨0, _⟩ => rfl
    | ⟨1, _⟩ => rfl
  · have e := (Finset.mem_filter.mp hi).2
    funext b
    match b with
    | ⟨0, _⟩ => exact Subsingleton.elim (α := Fin 1) _ _
    | ⟨1, _⟩ => exact congrFun e 0
    | ⟨2, _⟩ => exact congrFun e 1
    | ⟨3, _⟩ => exact Subsingleton.elim (α := Fin 1) _ _

theorem unit_d (x : S1x4x4096x1.Idx → EReal) (z : EReal) (h : Fin 4) (a : Fin 4096) :
    Ideal.hostReduceAdd reducesTo_S1x4x4096x1_S4x4096_d0_3 x z (ix2 h a) = z + x (ix4 0 h a 0) := by
  refine congrArg (z + ·) (Finset.sum_eq_single_of_mem _ ?_ fun i hi ne => absurd ?_ ne)
  · refine Finset.mem_filter.mpr ⟨Finset.mem_univ _, ?_⟩
    funext b
    match b with
    | ⟨0, _⟩ => rfl
    | ⟨1, _⟩ => rfl
  · have e := (Finset.mem_filter.mp hi).2
    funext b
    match b with
    | ⟨0, _⟩ => exact Subsingleton.elim (α := Fin 1) _ _
    | ⟨1, _⟩ => exact congrFun e 0
    | ⟨2, _⟩ => exact congrFun e 1
    | ⟨3, _⟩ => exact Subsingleton.elim (α := Fin 1) _ _

theorem unit_e (x : S1x1x512.Idx → EReal) (z : EReal) (a : Fin 512) :
    Ideal.hostReduceAdd reducesTo_S1x1x512_S512_d0_1 x z (ix1 a) = z + x (ix3 0 0 a) := by
  refine congrArg (z + ·) (Finset.sum_eq_single_of_mem _ ?_ fun i hi ne => absurd ?_ ne)
  · refine Finset.mem_filter.mpr ⟨Finset.mem_univ _, ?_⟩
    funext b
    match b with
    | ⟨0, _⟩ => rfl
  · have e := (Finset.mem_filter.mp hi).2
    funext b
    match b with
    | ⟨0, _⟩ => exact Subsingleton.elim (α := Fin 1) _ _
    | ⟨1, _⟩ => exact Subsingleton.elim (α := Fin 1) _ _
    | ⟨2, _⟩ => exact congrFun e 0

theorem unit_f (x : S1x1x256.Idx → EReal) (z : EReal) (a : Fin 256) :
    Ideal.hostReduceAdd reducesTo_S1x1x256_S256_d0_1 x z (ix1 a) = z + x (ix3 0 0 a) := by
  refine congrArg (z + ·) (Finset.sum_eq_single_of_mem _ ?_ fun i hi ne => absurd ?_ ne)
  · refine Finset.mem_filter.mpr ⟨Finset.mem_univ _, ?_⟩
    funext b
    match b with
    | ⟨0, _⟩ => rfl
  · have e := (Finset.mem_filter.mp hi).2
    funext b
    match b with
    | ⟨0, _⟩ => exact Subsingleton.elim (α := Fin 1) _ _
    | ⟨1, _⟩ => exact Subsingleton.elim (α := Fin 1) _ _
    | ⟨2, _⟩ => exact congrFun e 0

theorem unit_b (x : S1x4x1x64x64.Idx → EReal) (z : EReal) (h : Fin 4) (i a : Fin 64) :
    Ideal.hostReduceAdd reducesTo_S1x4x1x64x64_S4x64x64_d0_2 x z (ix3 h i a) = z + x (ix5 0 h 0 i a) := by
  refine congrArg (z + ·) (Finset.sum_eq_single_of_mem _ ?_ fun i hi ne => absurd ?_ ne)
  · refine Finset.mem_filter.mpr ⟨Finset.mem_univ _, ?_⟩
    funext b
    match b with
    | ⟨0, _⟩ => rfl
    | ⟨1, _⟩ => rfl
    | ⟨2, _⟩ => rfl
  · have e := (Finset.mem_filter.mp hi).2
    funext b
    match b with
    | ⟨0, _⟩ => exact Subsingleton.elim (α := Fin 1) _ _
    | ⟨1, _⟩ => exact congrFun e 0
    | ⟨2, _⟩ => exact Subsingleton.elim (α := Fin 1) _ _
    | ⟨3, _⟩ => exact congrFun e 1
    | ⟨4, _⟩ => exact congrFun e 2

theorem unit_c (x : S1x4x64x1x64.Idx → EReal) (z : EReal) (h : Fin 4) (i a : Fin 64) :
    Ideal.hostReduceAdd reducesTo_S1x4x64x1x64_S4x64x64_d0_3 x z (ix3 h i a) = z + x (ix5 0 h i 0 a) := by
  refine congrArg (z + ·) (Finset.sum_eq_single_of_mem _ ?_ fun i hi ne => absurd ?_ ne)
  · refine Finset.mem_filter.mpr ⟨Finset.mem_univ _, ?_⟩
    funext b
    match b with
    | ⟨0, _⟩ => rfl
    | ⟨1, _⟩ => rfl
    | ⟨2, _⟩ => rfl
  · have e := (Finset.mem_filter.mp hi).2
    funext b
    match b with
    | ⟨0, _⟩ => exact Subsingleton.elim (α := Fin 1) _ _
    | ⟨1, _⟩ => exact congrFun e 0
    | ⟨2, _⟩ => exact congrFun e 1
    | ⟨3, _⟩ => exact Subsingleton.elim (α := Fin 1) _ _
    | ⟨4, _⟩ => exact congrFun e 2

end Cert.ReferenceIdeal.Trip

end
-- ==== Proof.RefSlice.lean ====
/-
  The chunk a trip of the reference reads and writes: trip `j` works on the last chunk but `j`.
-/
module

public import proofs.«01_k».proof.Proof.Gen.ReferenceIdeal.Step
public import proofs.«01_k».proof.Proof.Lift
public import Idealize.ShloMosaic.Lib.WordCmp
public import Idealize.ShloMosaic.Lib.DynamicIndex

@[expose] public section

set_option maxRecDepth 16384

noncomputable section

namespace Cert.ReferenceIdeal.Trip

open Cert.ReferenceIdeal Cert.ReferenceIdeal.Gen Cert.ReferenceIdeal.Step Cert.Gla Idealize.ShloMosaic

/-- The last chunk but `j`. -/
abbrev chunk (j : ℕ) : Fin 64 := ⟨63 - j, by omega⟩

theorem start_word : ∀ j : Fin 64, (64#32 - BitVec.ofNat 32 j - 1#32).toInt = ((63 - j : ℕ) : ℤ) := by decide

/-- The place where a trip's chunk begins. -/
abbrev off (j : ℕ) : Fin 5 → ℕ := ![63 - j, 0, 0, 0, 0]

theorem starts {j : ℕ} (h : j < 64) (s : State Ideal) {z0 z1 z2 z3 : IVec S_ 32} (h0 : z0 = constantI S_ 32 0#32)
    (h1 : z1 = constantI S_ 32 0#32) (h2 : z2 = constantI S_ 32 0#32) (h3 : z3 = constantI S_ 32 0#32) (a : Fin 5) :
    ((![b3 j s, z0, z1, z2, z3] : Fin 5 → IVec S_ 32) a (Shape.Idx.first h_S_)).toInt = (off j a : ℤ) := by
  subst h0 h1 h2 h3
  fin_cases a
  · exact start_word ⟨j, h⟩
  · rfl
  · rfl
  · rfl
  · rfl

theorem fits64 (j : ℕ) : S64x1x4x64x64.Slices (off j) S1x1x4x64x64 :=
  ⟨rfl, fun a => by fin_cases a <;> simp [off] <;> omega⟩
theorem fits128 (j : ℕ) : S64x1x4x64x128.Slices (off j) S1x1x4x64x128 :=
  ⟨rfl, fun a => by fin_cases a <;> simp [off] <;> omega⟩

theorem read64 {j : ℕ} (h : j < 64) (X : Fin 64 → Fin 1 → Fin 4 → Fin 64 → Fin 64 → ℝ) {start : Fin 5 → ℤ}
    (hs : ∀ a, start a = (off j a : ℤ)) :
    shapeCast S1x4x64x64 (Host.dynamicSlice S1x1x4x64x64 (lift5 X) start sliceFits_S64x1x4x64x64_S1x1x4x64x64)
        shapeCasts_S1x1x4x64x64_S1x4x64x64
      = lift4 fun (_ : Fin 1) => X (chunk j) 0 := by
  refine (congrArg (fun z => shapeCast S1x4x64x64 z shapeCasts_S1x1x4x64x64_S1x4x64x64)
    (Host.dynamicSlice_eq_extractStridedSlice (s := S64x1x4x64x64) S1x1x4x64x64 (lift5 X) start (off j)
      sliceFits_S64x1x4x64x64_S1x1x4x64x64 (fits64 j) hs)).trans ?_
  funext y
  idx_vars y
  pointwise [off]
  exact congrArg (lift5 X) (by idx_ext)

theorem read128 {j : ℕ} (h : j < 64) (X : Fin 64 → Fin 1 → Fin 4 → Fin 64 → Fin 128 → ℝ) {start : Fin 5 → ℤ}
    (hs : ∀ a, start a = (off j a : ℤ)) :
    shapeCast S1x4x64x128 (Host.dynamicSlice S1x1x4x64x128 (lift5 X) start sliceFits_S64x1x4x64x128_S1x1x4x64x128)
        shapeCasts_S1x1x4x64x128_S1x4x64x128
      = lift4 fun (_ : Fin 1) => X (chunk j) 0 := by
  refine (congrArg (fun z => shapeCast S1x4x64x128 z shapeCasts_S1x1x4x64x128_S1x4x64x128)
    (Host.dynamicSlice_eq_extractStridedSlice (s := S64x1x4x64x128) S1x1x4x64x128 (lift5 X) start (off j)
      sliceFits_S64x1x4x64x128_S1x1x4x64x128 (fits128 j) hs)).trans ?_
  funext y
  idx_vars y
  pointwise [off]
  exact congrArg (lift5 X) (by idx_ext)

theorem write64 {j : ℕ} (h : j < 64) (X : Fin 64 → Fin 4 → Fin 64 → Fin 64 → ℝ) {start : Fin 5 → ℤ}
    (hs : ∀ a, start a = (off j a : ℤ)) :
    Host.dynamicUpdateSlice (lift5 fun (c : Fin 64) (_ : Fin 1) h i a => if 64 ≤ (c : ℕ) + j then X c h i a else 0)
        (broadcastInDim S1x1x4x64x64 ![1, 2, 3, 4] bcast_S1x4x64x64_S1x1x4x64x64_1_2_3_4 (lift4 fun (_ : Fin 1) => X (chunk j))) start
        updateFits_S64x1x4x64x64_S1x1x4x64x64
      = lift5 fun (c : Fin 64) (_ : Fin 1) h i a => if 64 ≤ (c : ℕ) + (j + 1) then X c h i a else 0 := by
  refine (WordCmp.dynamicUpdateSlice_eq_update (s := S64x1x4x64x64) (u := S1x1x4x64x64) _ _ start
    updateFits_S64x1x4x64x64_S1x1x4x64x64 (off j) (fits64 j) hs).trans ?_
  funext y
  idx_vars y
  pointwise [off]
  simp only [lift4_ix, lift5_ix]
  by_cases e : (y0 : ℕ) = 63 - j
  · have e' : y0 = chunk j := Fin.ext e
    rw [dif_pos (by omega), if_pos (by omega), e']
  · rw [dif_neg (by omega)]
    by_cases e2 : 64 ≤ (y0 : ℕ) + j
    · rw [if_pos e2, if_pos (by omega)]
    · rw [if_neg e2, if_neg (by omega)]

theorem write128 {j : ℕ} (h : j < 64) (X : Fin 64 → Fin 4 → Fin 64 → Fin 128 → ℝ) {start : Fin 5 → ℤ}
    (hs : ∀ a, start a = (off j a : ℤ)) :
    Host.dynamicUpdateSlice (lift5 fun (c : Fin 64) (_ : Fin 1) h i a => if 64 ≤ (c : ℕ) + j then X c h i a else 0)
        (broadcastInDim S1x1x4x64x128 ![1, 2, 3, 4] bcast_S1x4x64x128_S1x1x4x64x128_1_2_3_4 (lift4 fun (_ : Fin 1) => X (chunk j))) start
        updateFits_S64x1x4x64x128_S1x1x4x64x128
      = lift5 fun (c : Fin 64) (_ : Fin 1) h i a => if 64 ≤ (c : ℕ) + (j + 1) then X c h i a else 0 := by
  refine (WordCmp.dynamicUpdateSlice_eq_update (s := S64x1x4x64x128) (u := S1x1x4x64x128) _ _ start
    updateFits_S64x1x4x64x128_S1x1x4x64x128 (off j) (fits128 j) hs).trans ?_
  funext y
  idx_vars y
  pointwise [off]
  simp only [lift4_ix, lift5_ix]
  by_cases e : (y0 : ℕ) = 63 - j
  · have e' : y0 = chunk j := Fin.ext e
    rw [dif_pos (by omega), if_pos (by omega), e']
  · rw [dif_neg (by omega)]
    by_cases e2 : 64 ≤ (y0 : ℕ) + j
    · rw [if_pos e2, if_pos (by omega)]
    · rw [if_neg e2, if_neg (by omega)]

end Cert.ReferenceIdeal.Trip

end
-- ==== Proof.Window.lean ====
/-
  The running sum along the third axis: a sum over a window of 64 rows, padded with zeros below (the rows up to this one)
  or above (the rows from this one on).
-/
module

public import proofs.«01_k».proof.Proof.Gen.ReferenceIdeal
public import proofs.«01_k».proof.Proof.Lift

@[expose] public section

set_option maxRecDepth 16384

noncomputable section

namespace Cert.ReferenceIdeal.Window

open Cert.ReferenceIdeal Cert.ReferenceIdeal.Gen Cert.Gla Idealize.ShloMosaic

theorem foldl_sum {n : ℕ} (f : Fin n → EReal) (l : List (Fin n)) (x : EReal) :
    l.foldl (fun r k => r + f k) x = x + (l.map f).sum := by
  induction l generalizing x with
  | nil => simp
  | cons a l ih => rw [List.foldl_cons, ih, List.map_cons, List.sum_cons, add_assoc]

/-- A sum over windows, at one result position: the sum over the window's positions, those in the padding giving nothing. -/
theorem window_sum {s t : Shape} (window strides lo hi : Fin s.rank → ℕ) (h : s.ReduceWindows window strides lo hi t)
    (x : s.Idx → EReal) (j : t.Idx) :
    Ideal.hostReduceWindowAdd window strides lo hi h x 0 j = ∑ w : (⟨s.rank, window⟩ : Shape).Idx,
      if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0 := by
  unfold Ideal.hostReduceWindowAdd Host.reduceWindow
  dsimp only
  rw [foldl_sum, zero_add, ← List.ofFn_eq_map, List.sum_ofFn]
  refine Eq.trans (Finset.sum_congr rfl fun n _ => ?_) (Equiv.sum_comp (⟨s.rank, window⟩ : Shape).rowMajor.symm fun w => if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0)
  congr

theorem sum_low (g : ℕ → EReal) (i : Fin 64) :
    (∑ w : Fin 64, if 63 ≤ (i : ℕ) + w then g (i + w - 63) else 0) = ∑ j : Fin 64, if j ≤ i then g j else 0 := by
  rw [Fin.sum_univ_eq_sum_range (fun w => if 63 ≤ (i : ℕ) + w then g (i + w - 63) else 0) 64,
    show (∑ j : Fin 64, if j ≤ i then g j else 0) = ∑ j : Fin 64, if (j : ℕ) ≤ i then g j else 0 from rfl,
    Fin.sum_univ_eq_sum_range (fun j => if j ≤ (i : ℕ) then g j else 0) 64, ← Finset.sum_filter, ← Finset.sum_filter]
  have hi := i.2
  refine Finset.sum_bij_ne_zero (fun w _ _ => (i : ℕ) + w - 63) ?_ ?_ ?_ ?_
  · intro w hw _; simp only [Finset.mem_filter, Finset.mem_range] at hw ⊢; omega
  · intro w hw _ w' hw' _ h; simp only [Finset.mem_filter, Finset.mem_range] at hw hw'; omega
  · intro j hj h; simp only [Finset.mem_filter, Finset.mem_range] at hj
    have e : (i : ℕ) + (63 - i + j) - 63 = j := by omega
    refine ⟨63 - i + j, ?_, ?_, e⟩
    · simp only [Finset.mem_filter, Finset.mem_range]; omega
    · rwa [e]
  · intro w _ _; rfl

theorem sum_high (g : ℕ → EReal) (i : Fin 64) :
    (∑ w : Fin 64, if (i : ℕ) + w < 64 then g (i + w) else 0) = ∑ j : Fin 64, if i ≤ j then g j else 0 := by
  rw [Fin.sum_univ_eq_sum_range (fun w => if (i : ℕ) + w < 64 then g (i + w) else 0) 64,
    show (∑ j : Fin 64, if i ≤ j then g j else 0) = ∑ j : Fin 64, if (i : ℕ) ≤ j then g j else 0 from rfl,
    Fin.sum_univ_eq_sum_range (fun j => if (i : ℕ) ≤ j then g j else 0) 64, ← Finset.sum_filter, ← Finset.sum_filter]
  have hi := i.2
  refine Finset.sum_bij_ne_zero (fun w _ _ => (i : ℕ) + w) ?_ ?_ ?_ ?_
  · intro w hw _; simp only [Finset.mem_filter, Finset.mem_range] at hw ⊢; omega
  · intro w hw _ w' hw' _ h; simp only [Finset.mem_filter, Finset.mem_range] at hw hw'; omega
  · intro j hj h; simp only [Finset.mem_filter, Finset.mem_range] at hj
    have e : (i : ℕ) + (j - i) = j := by omega
    refine ⟨j - i, ?_, ?_, e⟩
    · simp only [Finset.mem_filter, Finset.mem_range]; omega
    · rwa [e]
  · intro w _ _; rfl

variable (X : Fin 1 → Fin 4 → Fin 64 → Fin 64 → ℝ) (z : S_.Idx → EReal)

theorem apply_eq (window strides lo hi : Fin 4 → ℕ) (x : S1x4x64x64.Idx → EReal)
    (hw : S1x4x64x64.ReduceWindows window strides lo hi S1x4x64x64) (hz : ∀ y, z y = 0) (y : S1x4x64x64.Idx) :
    Host.reduceWindowAdd (F := Ideal) (φ := .f32) window strides lo hi x z hw h_S_ y
      = ∑ w : (⟨4, window⟩ : Shape).Idx, if hin : ∀ a : Fin 4, lo a ≤ (y a).val * strides a + (w a).val
          ∧ (y a).val * strides a + (w a).val - lo a < S1x4x64x64.size a
        then x (fun a => ⟨(y a).val * strides a + (w a).val - lo a, (hin a).2⟩) else 0 := by
  unfold Host.reduceWindowAdd
  rw [Ideal.hostReduceWindowAdd_def, hz]
  exact window_sum window strides lo hi hw x y

theorem low (hz : ∀ y, z y = 0) :
    Host.reduceWindowAdd (F := Ideal) (φ := .f32) ![1, 1, 64, 1] ![1, 1, 1, 1] ![0, 0, 63, 0] ![0, 0, 0, 0] (lift4 X) z
        reduceWindows_S1x4x64x64_S1x4x64x64_w1s1p0_0_w1s1p0_0_w64s1p63_0_w1s1p0_0 h_S_
      = lift4 fun u h i a => ∑ j : Fin 64, if j ≤ i then X u h j a else 0 := by
  funext y
  idx_vars y
  rw [apply_eq z _ _ _ _ _ _ hz, sum_idx4]
  simp only [Fin.sum_univ_one, Finset.univ_unique, Fin.default_eq_zero, Finset.sum_singleton]
  have e := sum_low (fun n => if h : n < 64 then ((X y0 y1 ⟨n, h⟩ y3 : ℝ) : EReal) else 0) y2
  refine Eq.trans (Finset.sum_congr rfl fun w _ => ?_) (e.trans ?_)
  · by_cases h : 63 ≤ (y2 : ℕ) + w
    · have h2 : (y2 : ℕ) + w - 63 < 64 := by omega
      rw [if_pos h, dif_pos h2, dif_pos]
      · exact congrArg (lift4 X) (by funext a; fin_cases a <;> apply Fin.ext <;> simp [ix4] : _ = (ix4 y0 y1 ⟨(y2 : ℕ) + w - 63, h2⟩ y3))
      · intro a
        fin_cases a <;> simp [ix4] <;> omega
    · rw [if_neg h, dif_neg]
      intro hin
      have := (hin 2).1
      simp [ix4] at this
      omega
  · rw [lift4_ix, ← coe_sum]
    refine Finset.sum_congr rfl fun j _ => ?_
    rw [dif_pos j.2, zero_coe, coe_ite]

theorem high (hz : ∀ y, z y = 0) :
    Host.reduceWindowAdd (F := Ideal) (φ := .f32) ![1, 1, 64, 1] ![1, 1, 1, 1] ![0, 0, 0, 0] ![0, 0, 63, 0] (lift4 X) z
        reduceWindows_S1x4x64x64_S1x4x64x64_w1s1p0_0_w1s1p0_0_w64s1p0_63_w1s1p0_0 h_S_
      = lift4 fun u h i a => ∑ j : Fin 64, if i ≤ j then X u h j a else 0 := by
  funext y
  idx_vars y
  rw [apply_eq z _ _ _ _ _ _ hz, sum_idx4]
  simp only [Fin.sum_univ_one, Finset.univ_unique, Fin.default_eq_zero, Finset.sum_singleton]
  have e := sum_high (fun n => if h : n < 64 then ((X y0 y1 ⟨n, h⟩ y3 : ℝ) : EReal) else 0) y2
  refine Eq.trans (Finset.sum_congr rfl fun w _ => ?_) (e.trans ?_)
  · by_cases h2 : (y2 : ℕ) + w < 64
    · rw [if_pos h2, dif_pos h2, dif_pos]
      · exact congrArg (lift4 X) (by funext a; fin_cases a <;> apply Fin.ext <;> simp [ix4] : _ = (ix4 y0 y1 ⟨(y2 : ℕ) + w, h2⟩ y3))
      · intro a
        fin_cases a <;> simp [ix4] <;> omega
    · rw [if_neg h2, dif_neg]
      intro hin
      have := (hin 2).2
      simp [ix4] at this
      omega
  · rw [lift4_ix, ← coe_sum]
    refine Finset.sum_congr rfl fun j _ => ?_
    rw [dif_pos j.2, zero_coe, coe_ite]

end Cert.ReferenceIdeal.Window

end
-- ==== Proof.Soft.lean ====
/-
  The softplus and the sigmoid, in the forms that do not overflow; comparisons with infinity, which a real number does not meet.
-/
module

public import proofs.«01_k».proof.Proof.Lift
public import proofs.«01_k».proof.Proof.Chunk

@[expose] public section

set_option maxRecDepth 16384

noncomputable section

namespace Cert.Gla

open Idealize.ShloMosaic

theorem c_inf : Ideal.ofBits .f32 0x7F800000#32 = (⊤ : EReal) := by
  simp [Ideal.ofBits, Ideal.ieee]

theorem div_16 (x : ℝ) : Ideal.div (x : EReal) ((16 : ℝ) : EReal) = ((x / 16 : ℝ) : EReal) :=
  div_real x (by norm_num)

/-- The softplus of the negated logit. -/
theorem soft_neg (x : ℝ) : max (-x) 0 + Real.log (1 + Real.exp (-|-x|)) = -logSig x := by
  unfold logSig
  rw [abs_neg, neg_sub, sub_eq_add_neg, add_comm, show max (-x) 0 = -min x 0 by rw [← max_neg_neg, neg_zero]]

theorem soft_eq (x : ℝ) : -logSig x = Real.log (1 + Real.exp (-x)) := by
  rw [← soft_neg, abs_neg]
  rcases le_total 0 x with h | h
  · rw [abs_of_nonneg h, max_eq_right (by linarith), zero_add]
  · rw [abs_of_nonpos h, max_eq_left (by linarith), neg_neg]
    have e : 1 + Real.exp (-x) = Real.exp (-x) * (1 + Real.exp x) := by
      rw [mul_add, mul_one, ← Real.exp_add]; simp [add_comm]
    rw [e, Real.log_mul (Real.exp_pos _).ne' (by linarith [Real.exp_pos x]), Real.log_exp]

/-- The sigmoid of the negated logit, by its logarithm. -/
theorem sgm_neg (x : ℝ) : Real.exp (-x - -logSig x) = sgm (-x) := by
  rw [soft_eq, Real.exp_sub, Real.exp_log (by linarith [Real.exp_pos (-x)]), sgm, neg_neg]
  have := Real.exp_pos x
  have e : Real.exp (-x) = (Real.exp x)⁻¹ := Real.exp_neg x
  rw [e]; field_simp; ring

end Cert.Gla

end
-- ==== Proof.RefChunk.lean ====
/-
  What one chunk's trip of the reference computes, when the arrays it reads hold real numbers: each value of the trip is the
  array of one real-number formula of the plain derivative.
-/
module

public import proofs.«01_k».proof.Proof.Gen.ReferenceIdeal.Step
public import proofs.«01_k».proof.Proof.Window
public import proofs.«01_k».proof.Proof.Soft
public import proofs.«01_k».proof.Proof.Unit
public import proofs.«01_k».proof.Proof.Chunk

@[expose] public section

set_option maxRecDepth 16384

noncomputable section

namespace Cert.ReferenceIdeal.Trip

open Cert.ReferenceIdeal Cert.ReferenceIdeal.Gen Cert.ReferenceIdeal.Step Cert.Gla Idealize.ShloMosaic

/-- What trip `j` reads: the chunk's scaled queries, keys, gate logits, values, output gradients, starting states, and the
gradients of the states after it, by head. -/
structure Reads (s : State Ideal) (j : ℕ) (Q K L : Fin 4 → Fin 64 → Fin 64 → ℝ) (V C S G : Fin 4 → Fin 64 → Fin 128 → ℝ) : Prop where
  q : b42 j s = lift4 fun (_ : Fin 1) => Q
  k : b21 j s = lift4 fun (_ : Fin 1) => K
  l : b33 j s = lift4 fun (_ : Fin 1) => L
  v : b27 j s = lift4 fun (_ : Fin 1) => V
  c : b39 j s = lift4 fun (_ : Fin 1) => C
  t : b9 j s = lift4 fun (_ : Fin 1) => S
  g : s.main_v88_7 = lift4 fun (_ : Fin 1) => G

variable {s : State Ideal} {j : ℕ} {Q K L : Fin 4 → Fin 64 → Fin 64 → ℝ} {V C S G : Fin 4 → Fin 64 → Fin 128 → ℝ}
  (H : Reads s j Q K L V C S G)

/-- The cumulative log-decays by head. -/
def cum (L : Fin 4 → Fin 64 → Fin 64 → ℝ) (h : Fin 4) : Fin 64 → Fin 64 → ℝ := cumDecay (L h)

include H

theorem b57_at : b57 j s = lift4 fun (_ : Fin 1) (h : Fin 4) (i a : Fin 64) => -logSig (L h i a) := by
  funext y
  idx_vars y
  pointwise [b57, b56, b55, b54, b53, b52, b48, b47, b44, b43, H.l, b46, b45, b51, b50, b49]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  exact congrArg _ ((if_neg (fun h => h rfl)).trans (soft_neg _))
theorem b71_at : b71 j s = lift4 fun (_ : Fin 1) (h : Fin 4) (i a : Fin 64) => sgm (-L h i a) := by
  funext y
  idx_vars y
  pointwise [b71, b70, b69, b68, b67, b66, b65, b64, b57_at H, b63, b62, b61, b60, b59, b58, b43, H.l]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  exact congrArg _ (sgm_neg _)
theorem b93_at : b93 j s = lift4 fun (_ : Fin 1) (h : Fin 4) (i a : Fin 64) => logSig (L h i a) / 16 := by
  funext y
  idx_vars y
  pointwise [b93, b92, b91, b90, b57_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe, div_16]
  refine congrArg _ ?_
  rw [neg_neg]
theorem b96_at : b96 j s = lift4 fun (_ : Fin 1) => cum L := by
  unfold b96
  rw [b93_at H]
  exact (Window.low _ _ fun y => by pointwise [b95, b94]).trans rfl

theorem b107_at : b107 j s = lift5 fun (_ : Fin 1) (h : Fin 4) (i j a : Fin 64) => dec (cum L h) i j a := by
  funext y
  idx_vars y
  pointwise [b107, b106, b102, b101, b100, b98, b96_at H, b99, b97]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  rfl
theorem b112_at : b112 j s = lift5 fun (_ : Fin 1) (h : Fin 4) (i j a : Fin 64) => Q h i a * K h j a := by
  funext y
  idx_vars y
  pointwise [b112, b111, b109, H.k, b110, b108, H.q]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b115_at : b115 j s = lift4 fun (_ : Fin 1) (h : Fin 4) (i j : Fin 64) => rScore (Q h) (K h) (cum L h) i j := by
  funext y
  idx_vars y
  pointwise [b115, b114, b113, b112_at H, b107_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  refine congrArg _ ?_
  exact Finset.sum_congr rfl fun x _ => by ring
theorem b117_at : b117 j s = lift4 fun (_ : Fin 1) (h : Fin 4) (i a : Fin 64) => Real.exp (cum L h i a) := by
  funext y
  idx_vars y
  pointwise [b117, b96_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b118_at : b118 j s = lift4 fun (_ : Fin 1) (h : Fin 4) (i a : Fin 64) => Q h i a * Real.exp (cum L h i a) := by
  funext y
  idx_vars y
  pointwise [b118, b117_at H, H.q]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b123_at : b123 j s = lift3 fun (_ : Fin 1) (h : Fin 4) (a : Fin 64) => Real.exp (cum L h 63 a) := by
  funext y
  idx_vars y
  pointwise [b123, b122, b121, b96_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b129_at : b129 j s = lift4 fun (_ : Fin 1) (h : Fin 4) (i a : Fin 64) => Real.exp (cum L h 63 a - cum L h i a) := by
  funext y
  idx_vars y
  pointwise [b129, b128, b127, b121, b96_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b130_at : b130 j s = lift4 fun (_ : Fin 1) (h : Fin 4) (i a : Fin 64) => K h i a * Real.exp (cum L h 63 a - cum L h i a) := by
  funext y
  idx_vars y
  pointwise [b130, b129_at H, H.k]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b134_at : b134 j s = lift4 fun (_ : Fin 1) (h : Fin 4) (i : Fin 64) (e : Fin 128) => ∑ a, G h a e * (K h i a * Real.exp (cum L h 63 a - cum L h i a)) := by
  funext y
  idx_vars y
  pointwise [b134, b133, b130_at H, H.g]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b136_at : b136 j s = lift4 fun (_ : Fin 1) (h : Fin 4) (i a : Fin 64) => ∑ e, G h a e * V h i e := by
  funext y
  idx_vars y
  pointwise [b136, b135, H.v, H.g]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b138_at : b138 j s = lift4 fun (_ : Fin 1) (h : Fin 4) (i a : Fin 64) => (∑ e, G h a e * V h i e) * Real.exp (cum L h 63 a - cum L h i a) := by
  funext y
  idx_vars y
  pointwise [b138, b136_at H, b129_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b139_at : b139 j s = lift4 fun (_ : Fin 1) (h : Fin 4) (i a : Fin 64) => rKd (K h) (cum L h) (V h) (G h) i a := by
  funext y
  idx_vars y
  pointwise [b139, b137, b136_at H, H.k, b129_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  rfl
theorem b141_at : b141 j s = lift3 fun (_ : Fin 1) (h : Fin 4) (a : Fin 64) => ∑ i, rKd (K h) (cum L h) (V h) (G h) i a := by
  funext y
  idx_vars y
  pointwise [b141, b140, b139_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b145_at : b145 j s = lift4 fun (_ : Fin 1) (h : Fin 4) (a : Fin 64) (e : Fin 128) => Real.exp (cum L h 63 a) * G h a e := by
  funext y
  idx_vars y
  pointwise [b145, b144, b124, b123_at H, H.g]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b148_at : b148 j s = lift3 fun (_ : Fin 1) (h : Fin 4) (a : Fin 64) => ∑ e, G h a e * S h a e := by
  funext y
  idx_vars y
  pointwise [b148, b147, b146, H.t, H.g]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b151_at : b151 j s = lift2 fun (h : Fin 4) (a : Fin 64) => ∑ e, G h a e * S h a e := by
  funext y
  idx_vars y
  pointwise [b151, b150, b149, b148_at H, unit_a]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b155_at : b155 j s = lift4 fun (_ : Fin 1) (h : Fin 4) (_ : Fin 1) (a : Fin 64) => (∑ i, rKd (K h) (cum L h) (V h) (G h) i a) + (∑ e, G h a e * S h a e) * Real.exp (cum L h 63 a) := by
  funext y
  idx_vars y
  pointwise [b155, b154, b153, b152, b151_at H, b123_at H, b142, b141_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b157_at : b157 j s = lift4 fun (_ : Fin 1) (h : Fin 4) (i a : Fin 64) => if i = 63 then (∑ i, rKd (K h) (cum L h) (V h) (G h) i a) + (∑ e, G h a e * S h a e) * Real.exp (cum L h 63 a) else 0 := by
  funext y
  idx_vars y
  pointwise [b157, b156, b155_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  refine congrArg _ ?_
  by_cases e : y2 = 63
  · subst e; rfl
  · rw [if_neg e, dif_neg]; omega
theorem b158_at : b158 j s = lift4 fun (_ : Fin 1) (h : Fin 4) (i a : Fin 64) => -rKd (K h) (cum L h) (V h) (G h) i a + if i = 63 then (∑ i, rKd (K h) (cum L h) (V h) (G h) i a) + (∑ e, G h a e * S h a e) * Real.exp (cum L h 63 a) else 0 := by
  funext y
  idx_vars y
  pointwise [b158, b157_at H, b143, b139_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b161_at : b161 j s = lift4 fun (_ : Fin 1) (h : Fin 4) (a : Fin 64) (e : Fin 128) => rDst (Q h) (cum L h) (C h) (G h) a e := by
  funext y
  idx_vars y
  pointwise [b161, b160, b159, b118_at H, H.c, b145_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  rfl
theorem b162_at : b162 j s = lift4 fun (_ : Fin 1) (h : Fin 4) (i a : Fin 64) => ∑ e, C h i e * S h a e := by
  funext y
  idx_vars y
  pointwise [b162, H.c, H.t]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b164_at : b164 j s = lift4 fun (_ : Fin 1) (h : Fin 4) (i a : Fin 64) => (∑ e, C h i e * S h a e) * Real.exp (cum L h i a) := by
  funext y
  idx_vars y
  pointwise [b164, b162_at H, b117_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b165_at : b165 j s = lift4 fun (_ : Fin 1) (h : Fin 4) (i a : Fin 64) => Q h i a * (∑ e, C h i e * S h a e) * Real.exp (cum L h i a) := by
  funext y
  idx_vars y
  pointwise [b165, b163, b162_at H, H.q, b117_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b169_at : b169 j s = lift4 fun (_ : Fin 1) (h : Fin 4) (i : Fin 64) (e : Fin 128) => rDv (Q h) (K h) (cum L h) (C h) (G h) i e := by
  funext y
  idx_vars y
  pointwise [b169, b168, b167, b115_at H, H.c, b134_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  rfl
theorem b170_at : b170 j s = lift4 fun (_ : Fin 1) (h : Fin 4) (i j : Fin 64) => dsc (V h) (C h) i j := by
  funext y
  idx_vars y
  pointwise [b170, H.c, H.v]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  rfl
theorem b173_at : b173 j s = lift5 fun (_ : Fin 1) (h : Fin 4) (i j a : Fin 64) => dsc (V h) (C h) i j * dec (cum L h) i j a := by
  funext y
  idx_vars y
  pointwise [b173, b171, b170_at H, b107_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b186_at : b186 j s = lift4 fun (_ : Fin 1) (h : Fin 4) (i a : Fin 64) => ∑ x, Q h x a * (dsc (V h) (C h) x i * dec (cum L h) x i a) := by
  funext y
  idx_vars y
  pointwise [b186, b185, b184, b178, b177, b176, b175, b174, b108, H.q, b173_at H, unit_b]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b187_at : b187 j s = lift4 fun (_ : Fin 1) (h : Fin 4) (i a : Fin 64) => rDk (Q h) (cum L h) (V h) (C h) (G h) i a := by
  funext y
  idx_vars y
  pointwise [b187, b186_at H, b138_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  refine congrArg _ ?_
  unfold rDk
  congr 1
  exact Finset.sum_congr rfl fun x _ => mul_comm _ _
theorem b190_at : b190 j s = lift4 fun (_ : Fin 1) (h : Fin 4) (i a : Fin 64) => ∑ x, dsc (V h) (C h) i x * dec (cum L h) i x a * K h x a := by
  funext y
  idx_vars y
  pointwise [b190, b189, b188, b183, b182, b181, b180, b179, b109, H.k, b173_at H, unit_c]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b191_at : b191 j s = lift4 fun (_ : Fin 1) (h : Fin 4) (i a : Fin 64) => rDq (K h) (cum L h) (V h) (C h) (S h) i a := by
  funext y
  idx_vars y
  pointwise [b191, b190_at H, b164_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  rfl
theorem b199_at : b199 j s = lift5 fun (_ : Fin 1) (h : Fin 4) (i j a : Fin 64) => rPair (Q h) (K h) (cum L h) (V h) (C h) i j a := by
  funext y
  idx_vars y
  pointwise [b199, b198, b196, b195, b194, b193, b192, b172, b171, b170_at H, b112_at H, b107_at H, b105, b104, b103, b101, b100, b98, b96_at H, b99, b97, b197]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  simp only [EReal.coe_le_coe_iff, sub_nonneg]
  unfold rPair
  split_ifs
  · simp only [← EReal.coe_neg, ← EReal.coe_add]; exact congrArg _ (by ring)
  · simp only [← EReal.coe_neg, ← EReal.coe_add]; exact congrArg _ (by ring)
theorem b209_at : b209 j s = lift4 fun (_ : Fin 1) (h : Fin 4) (i a : Fin 64) => ∑ x, -rPair (Q h) (K h) (cum L h) (V h) (C h) x i a := by
  funext y
  idx_vars y
  pointwise [b209, b208, b207, b206, b205, b204, b203, b199_at H, unit_b]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b213_at : b213 j s = lift4 fun (_ : Fin 1) (h : Fin 4) (i a : Fin 64) => ∑ x, rPair (Q h) (K h) (cum L h) (V h) (C h) i x a := by
  funext y
  idx_vars y
  pointwise [b213, b212, b211, b202, b201, b200, b199_at H, unit_c]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

theorem b214_at : b214 j s = lift4 fun (_ : Fin 1) (h : Fin 4) (i a : Fin 64) => rDb (Q h) (K h) (cum L h) (V h) (C h) (S h) (G h) i a := by
  funext y
  idx_vars y
  pointwise [b214, b213_at H, b210, b209_at H, b166, b165_at H, b158_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]
  rfl
theorem b217_at : b217 j s = lift4 fun (_ : Fin 1) (h : Fin 4) (i a : Fin 64) =>
    ∑ x, if i ≤ x then rDb (Q h) (K h) (cum L h) (V h) (C h) (S h) (G h) x a else 0 := by
  unfold b217
  rw [b214_at H]
  exact Window.high _ _ fun y => by pointwise [b216, b215]

theorem b223_at : b223 j s = lift4 fun (_ : Fin 1) (h : Fin 4) (i a : Fin 64) => (∑ x, if i ≤ x then rDb (Q h) (K h) (cum L h) (V h) (C h) (S h) (G h) x a else 0) * (1 / 16) * sgm (-L h i a) := by
  funext y
  idx_vars y
  pointwise [b223, b222, b221, b220, b219, b218, b217_at H, b71_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe, div_16]
  refine congrArg _ ?_
  ring
theorem b226_at : b226 j s = lift4 fun (_ : Fin 1) (h : Fin 4) (i a : Fin 64) => rDq (K h) (cum L h) (V h) (C h) (S h) i a * (1 / 8) := by
  funext y
  idx_vars y
  pointwise [b226, b225, b224, b191_at H]
  simp only [lift1_ix, lift2_ix, lift3_ix, lift4_ix, lift5_ix, absf_coe, max_coe, min_coe, Ideal.exp_coe, Ideal.logistic_coe, log1p_exp,
    c_eighth, c_sixteen, c_one, c_zero, c_inf, EReal.coe_ne_top, sel_ite, coe_ite, coe_dite,
    ← EReal.coe_mul, ← EReal.coe_add, ← EReal.coe_sub, ← EReal.coe_neg, coe_sum, zero_coe]

end Cert.ReferenceIdeal.Trip

end
-- ==== Proof.RefLoop.lean ====
/-
  The reference's loop: before trip `n` its state holds the chunks' inputs, the gradient of the state after the last chunk but
  `n`, and the gradients of the last `n` chunks.
-/
module

public import proofs.«01_k».proof.Proof.RefSlice
public import proofs.«01_k».proof.Proof.RefChunk
public import proofs.«01_k».proof.Proof.Spec

@[expose] public section

set_option maxRecDepth 16384

noncomputable section

namespace Cert.ReferenceIdeal.Trip

open Cert.ReferenceIdeal Cert.ReferenceIdeal.Gen Cert.ReferenceIdeal.Step Cert.Gla Idealize.ShloMosaic

/-- A chunk's queries before their scaling. -/
def q0 (D : Data) (h c : ℕ) (i a : Fin 64) : ℝ := D.proj (64 * c + i) (1536 + 64 * h + a)

/-- What is written of a gradient before trip `n`. -/
def part {e : ℕ} (n : ℕ) (X : Fin 64 → Fin 4 → Fin 64 → Fin e → ℝ) (c : Fin 64) (_ : Fin 1) (h : Fin 4) (i : Fin 64) (a : Fin e) : ℝ :=
  if 64 ≤ (c : ℕ) + n then X c h i a else 0

/-- The state before trip `n`. -/
structure Inv (D : Data) (s : State Ideal) (n : ℕ) : Prop where
  i0 : s.main_v88_0 = lift5 fun (c : Fin 64) (_ : Fin 1) (h : Fin 4) => D.S h c
  i1 : s.main_v88_1 = lift5 fun (c : Fin 64) (_ : Fin 1) (h : Fin 4) => q0 D h c
  i2 : s.main_v88_2 = lift5 fun (c : Fin 64) (_ : Fin 1) (h : Fin 4) => D.k h c
  i3 : s.main_v88_3 = lift5 fun (c : Fin 64) (_ : Fin 1) (h : Fin 4) => D.v h c
  i4 : s.main_v88_4 = lift5 fun (c : Fin 64) (_ : Fin 1) (h : Fin 4) => D.l h c
  i5 : s.main_v88_5 = lift5 fun (c : Fin 64) (_ : Fin 1) (h : Fin 4) => D.ct h c
  g : s.main_v88_7 = lift4 fun (_ : Fin 1) (h : Fin 4) => D.back h n
  o8 : s.main_v88_8 = lift5 (part n fun c h => D.dq h c)
  o9 : s.main_v88_9 = lift5 (part n fun c h => D.dk h c)
  o10 : s.main_v88_10 = lift5 (part n fun c h => D.dv h c)
  o11 : s.main_v88_11 = lift5 (part n fun c h => D.dl h c)

variable {D : Data} {s : State Ideal} {n : ℕ}

theorem reads (I : Inv D s n) (hn : n < 64) :
    Reads s n (fun h => D.q h (chunk n)) (fun h => D.k h (chunk n)) (fun h => D.l h (chunk n)) (fun h => D.v h (chunk n))
      (fun h => D.ct h (chunk n)) (fun h => D.S h (chunk n)) (fun h => D.back h n) where
  q := by
    have e : b15 n s = lift4 fun (_ : Fin 1) (h : Fin 4) => q0 D h (chunk n) := by
      unfold b15 b14
      rw [I.i1]
      exact read64 hn _ (starts hn s rfl rfl rfl rfl)
    funext y
    idx_vars y
    pointwise [b42, b41, b40, e]
    simp only [lift4_ix, c_eighth, ← EReal.coe_mul]
    rfl
  k := by
    unfold b21 b20
    rw [I.i2]
    exact read64 hn _ (starts hn s rfl rfl rfl rfl)
  l := by
    unfold b33 b32
    rw [I.i4]
    exact read64 hn _ (starts hn s rfl rfl rfl rfl)
  v := by
    unfold b27 b26
    rw [I.i3]
    exact read128 hn _ (starts hn s rfl rfl rfl rfl)
  c := by
    unfold b39 b38
    rw [I.i5]
    exact read128 hn _ (starts hn s rfl rfl rfl rfl)
  t := by
    unfold b9 b8
    rw [I.i0]
    exact read128 hn _ (starts hn s rfl rfl rfl rfl)
  g := I.g

theorem back_G (h : ℕ) (hn : n < 64) : D.back h n = D.G h (chunk n) := by
  unfold Data.G
  congr 1
  show n = 63 - (63 - n)
  omega

theorem dl_eq (h c : ℕ) (i a : Fin 64) :
    (∑ x, if i ≤ x then rDb (D.q h c) (D.k h c) (D.b h c) (D.v h c) (D.ct h c) (D.S h c) (D.G h c) x a else 0) * (1 / 16)
      * sgm (-D.l h c i a) = D.dl h c i a := by
  unfold Data.dl
  congr 2
  exact Finset.sum_congr rfl fun x _ => by split_ifs <;> simp

theorem next_inv (I : Inv D s n) (hn : n < 64) : Inv D (step n s) (n + 1) where
  i0 := I.i0
  i1 := I.i1
  i2 := I.i2
  i3 := I.i3
  i4 := I.i4
  i5 := I.i5
  g := (b161_at (reads I hn)).trans (by congr 1)
  o8 := by
    show b232 n s = _
    unfold b232 b227
    rw [I.o8, b226_at (reads I hn)]
    exact write64 hn (fun c h => D.dq h c) (starts hn s rfl rfl rfl rfl)
  o9 := by
    show b238 n s = _
    unfold b238 b233
    rw [I.o9, b187_at (reads I hn)]
    simp only [back_G _ hn]
    exact write64 hn (fun c h => D.dk h c) (starts hn s rfl rfl rfl rfl)
  o10 := by
    show b244 n s = _
    unfold b244 b239
    rw [I.o10, b169_at (reads I hn)]
    simp only [back_G _ hn]
    exact write128 hn (fun c h => D.dv h c) (starts hn s rfl rfl rfl rfl)
  o11 := by
    show b250 n s = _
    unfold b250 b245
    have e : b223 n s = lift4 fun (_ : Fin 1) (h : Fin 4) => D.dl h (chunk n) := by
      rw [b223_at (reads I hn)]
      simp only [back_G _ hn]
      funext y
      exact congrArg _ (dl_eq _ _ _ _)
    rw [I.o11, e]
    exact write64 hn (fun c h => D.dl h c) (starts hn s rfl rfl rfl rfl)

end Cert.ReferenceIdeal.Trip

end
-- ==== Proof.Trip.lean ====
module

public import proofs.«01_k».proof.Proof.Gen.ReferenceIdeal.Run
public import proofs.«01_k».proof.Proof.Gen.ReferenceIdeal.Step

/-! The reference's loop over the chunks: a valuation that carries a state carries, one trip later, the next state, so the
results of the whole program are those of the state after the last trip. -/

@[expose] public section

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]
variable {V : Valuation τ sig (Elt F)} {s : State F} {j : ℕ}

/-- The valuation carries the state, and its counter is the trip's number. -/
structure Carries (V : Valuation τ sig (Elt F)) (s : State F) (j : ℕ) : Prop where
  at7 : V (Proc.devRef .tc main_v88_7) = s.main_v88_7
  at8 : V (Proc.devRef .tc main_v88_8) = s.main_v88_8
  at9 : V (Proc.devRef .tc main_v88_9) = s.main_v88_9
  at10 : V (Proc.devRef .tc main_v88_10) = s.main_v88_10
  at11 : V (Proc.devRef .tc main_v88_11) = s.main_v88_11
  at0 : V (Proc.devRef .tc main_v88_0) = s.main_v88_0
  at1 : V (Proc.devRef .tc main_v88_1) = s.main_v88_1
  at2 : V (Proc.devRef .tc main_v88_2) = s.main_v88_2
  at3 : V (Proc.devRef .tc main_v88_3) = s.main_v88_3
  at4 : V (Proc.devRef .tc main_v88_4) = s.main_v88_4
  at5 : V (Proc.devRef .tc main_v88_5) = s.main_v88_5
  count : V (Proc.devRef .tc main_v88_6) = constantI S_ 32 (BitVec.ofNat 32 j)

/-! What a trip computes more than once. -/

set_option maxRecDepth 8192

theorem c_v179 (h : Carries V s j) : res_main_while0b_v179 V = Step.b3 j s := by
  unfold res_main_while0b_v179
  rw [h.count]
  rfl

theorem c_v180 (h : Carries V s j) : res_main_while0b_v180 V = Step.b9 j s := by
  unfold res_main_while0b_v180
  rw [c_v179 h, h.at0]
  rfl

theorem c_v182 (h : Carries V s j) : res_main_while0b_v182 V = Step.b21 j s := by
  unfold res_main_while0b_v182
  rw [c_v179 h, h.at2]
  rfl

theorem c_v183 (h : Carries V s j) : res_main_while0b_v183 V = Step.b27 j s := by
  unfold res_main_while0b_v183
  rw [c_v179 h, h.at3]
  rfl

theorem c_v185 (h : Carries V s j) : res_main_while0b_v185 V = Step.b39 j s := by
  unfold res_main_while0b_v185
  rw [c_v179 h, h.at5]
  rfl

theorem c_v187 (h : Carries V s j) : res_main_while0b_v187 V = Step.b42 j s := by
  unfold res_main_while0b_v187
  rw [c_v179 h, h.at1]
  rfl

theorem c_v188 (h : Carries V s j) : res_main_while0b_v188 V = Step.b43 j s := by
  unfold res_main_while0b_v188
  rw [c_v179 h, h.at4]
  rfl

theorem c_cst_40 (h : Carries V s j) : res_main_while0b_cst_40 V = Step.b44 j s := by
  unfold res_main_while0b_cst_40
  rfl

theorem c_v192 (h : Carries V s j) : res_main_while0b_v192 V = Step.b48 j s := by
  unfold res_main_while0b_v192
  rw [c_v188 h, c_cst_40 h]
  rfl

theorem c_v201 (h : Carries V s j) : res_main_while0b_v201 V = Step.b57 j s := by
  unfold res_main_while0b_v201
  rw [c_v188 h, c_cst_40 h, c_v192 h]
  rfl

theorem c_v226 (h : Carries V s j) : res_main_while0b_v226 V = Step.b96 j s := by
  unfold res_main_while0b_v226
  rw [c_v201 h]
  rfl

theorem c_v231 (h : Carries V s j) : res_main_while0b_v231 V = Step.b101 j s := by
  unfold res_main_while0b_v231
  rw [c_v226 h]
  rfl

theorem c_v234 (h : Carries V s j) : res_main_while0b_v234 V = Step.b105 j s := by
  unfold res_main_while0b_v234
  rw [c_v231 h]
  rfl

theorem c_v236 (h : Carries V s j) : res_main_while0b_v236 V = Step.b107 j s := by
  unfold res_main_while0b_v236
  rw [c_v231 h]
  rfl

theorem c_v237 (h : Carries V s j) : res_main_while0b_v237 V = Step.b108 j s := by
  unfold res_main_while0b_v237
  rw [c_v187 h]
  rfl

theorem c_v238 (h : Carries V s j) : res_main_while0b_v238 V = Step.b109 j s := by
  unfold res_main_while0b_v238
  rw [c_v182 h]
  rfl

theorem c_v241 (h : Carries V s j) : res_main_while0b_v241 V = Step.b112 j s := by
  unfold res_main_while0b_v241
  rw [c_v237 h, c_v238 h]
  rfl

theorem c_v243 (h : Carries V s j) : res_main_while0b_v243 V = Step.b115 j s := by
  unfold res_main_while0b_v243
  rw [c_v236 h, c_v241 h]
  rfl

theorem c_v245 (h : Carries V s j) : res_main_while0b_v245 V = Step.b117 j s := by
  unfold res_main_while0b_v245
  rw [c_v226 h]
  rfl

theorem c_v246 (h : Carries V s j) : res_main_while0b_v246 V = Step.b118 j s := by
  unfold res_main_while0b_v246
  rw [c_v187 h, c_v245 h]
  rfl

theorem c_v249 (h : Carries V s j) : res_main_while0b_v249 V = Step.b121 j s := by
  unfold res_main_while0b_v249
  rw [c_v226 h]
  rfl

theorem c_v251 (h : Carries V s j) : res_main_while0b_v251 V = Step.b123 j s := by
  unfold res_main_while0b_v251
  rw [c_v249 h]
  rfl

theorem c_v252 (h : Carries V s j) : res_main_while0b_v252 V = Step.b124 j s := by
  unfold res_main_while0b_v252
  rw [c_v251 h]
  rfl

theorem c_v257 (h : Carries V s j) : res_main_while0b_v257 V = Step.b129 j s := by
  unfold res_main_while0b_v257
  rw [c_v226 h, c_v249 h]
  rfl

theorem c_v258 (h : Carries V s j) : res_main_while0b_v258 V = Step.b130 j s := by
  unfold res_main_while0b_v258
  rw [c_v182 h, c_v257 h]
  rfl

theorem c_v264 (h : Carries V s j) : res_main_while0b_v264 V = Step.b136 j s := by
  unfold res_main_while0b_v264
  rw [c_v183 h, h.at7]
  rfl

theorem c_v267 (h : Carries V s j) : res_main_while0b_v267 V = Step.b139 j s := by
  unfold res_main_while0b_v267
  rw [c_v182 h, c_v257 h, c_v264 h]
  rfl

theorem c_v286 (h : Carries V s j) : res_main_while0b_v286 V = Step.b162 j s := by
  unfold res_main_while0b_v286
  rw [c_v180 h, c_v185 h]
  rfl

theorem c_v295 (h : Carries V s j) : res_main_while0b_v295 V = Step.b171 j s := by
  unfold res_main_while0b_v295
  rw [c_v183 h, c_v185 h]
  rfl

theorem c_v297 (h : Carries V s j) : res_main_while0b_v297 V = Step.b173 j s := by
  unfold res_main_while0b_v297
  rw [c_v236 h, c_v295 h]
  rfl

theorem c_v313 (h : Carries V s j) : res_main_while0b_v313 V = Step.b193 j s := by
  unfold res_main_while0b_v313
  rw [c_v236 h, c_v241 h, c_v295 h]
  rfl

theorem c_v314 (h : Carries V s j) : res_main_while0b_v314 V = Step.b195 j s := by
  unfold res_main_while0b_v314
  rfl

theorem c_v318 (h : Carries V s j) : res_main_while0b_v318 V = Step.b199 j s := by
  unfold res_main_while0b_v318
  rw [c_v234 h, c_v313 h, c_v314 h]
  rfl

/-! One trip, buffer by buffer. -/

theorem next_main_v88_7 (h : Carries V s j) : step_main_v88_7 V = (step j s).main_v88_7 := by
  unfold step_main_v88_7
  rw [c_v185 h, c_v246 h, c_v252 h, h.at7]
  rfl

theorem next_main_v88_8 (h : Carries V s j) : step_main_v88_8 V = (step j s).main_v88_8 := by
  unfold step_main_v88_8
  rw [c_v179 h, c_v238 h, c_v245 h, c_v286 h, c_v297 h, h.at8]
  rfl

theorem next_main_v88_9 (h : Carries V s j) : step_main_v88_9 V = (step j s).main_v88_9 := by
  unfold step_main_v88_9
  rw [c_v179 h, c_v237 h, c_v257 h, c_v264 h, c_v297 h, h.at9]
  rfl

theorem next_main_v88_10 (h : Carries V s j) : step_main_v88_10 V = (step j s).main_v88_10 := by
  unfold step_main_v88_10
  rw [c_v179 h, c_v185 h, c_v243 h, c_v258 h, h.at7, h.at10]
  rfl

theorem next_main_v88_11 (h : Carries V s j) : step_main_v88_11 V = (step j s).main_v88_11 := by
  unfold step_main_v88_11
  rw [c_v179 h, c_v180 h, c_v187 h, c_v188 h, c_v201 h, c_v245 h, c_v251 h, c_v267 h, c_v286 h, c_v318 h, h.at7, h.at11]
  rfl

theorem next_count (h : Carries V s j) : step_main_v88_6 V = constantI S_ 32 (BitVec.ofNat 32 (j + 1)) := by
  unfold step_main_v88_6
  rw [h.count]
  funext i
  show BitVec.ofNat 32 j + 1#32 = BitVec.ofNat 32 (j + 1)
  simp only [BitVec.ofNat_add]

/-- One trip takes a valuation that carries a state to one that carries the next. -/
theorem next (h : Carries V s j) : Carries (STEP V) (step j s) (j + 1) where
  at7 := (STEP_main_v88_7 V).trans (next_main_v88_7 h)
  at8 := (STEP_main_v88_8 V).trans (next_main_v88_8 h)
  at9 := (STEP_main_v88_9 V).trans (next_main_v88_9 h)
  at10 := (STEP_main_v88_10 V).trans (next_main_v88_10 h)
  at11 := (STEP_main_v88_11 V).trans (next_main_v88_11 h)
  at0 := (STEP_main_v88_0 V).trans h.at0
  at1 := (STEP_main_v88_1 V).trans h.at1
  at2 := (STEP_main_v88_2 V).trans h.at2
  at3 := (STEP_main_v88_3 V).trans h.at3
  at4 := (STEP_main_v88_4 V).trans h.at4
  at5 := (STEP_main_v88_5 V).trans h.at5
  count := (STEP_main_v88_6 V).trans (next_count h)

/-- The state before the first trip. -/
abbrev start (m : (ℓ : Loc nD τ sig) → Buf (Elt F) ℓ) (c : Dev nD) : State F :=
  init (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))

variable (m : (ℓ : Loc nD τ sig) → Buf (Elt F) ℓ) (c : Dev nD)

set_option maxRecDepth 65536 in
set_option maxHeartbeats 700000 in
/-- Before the first trip the valuation carries that state. -/
theorem at_start : Carries (entryContents preI m c) (start m c) 0 := by
  constructor <;> (simp only [entryContents, afterL_cons, afterL_nil]; after_reads_simp) <;> rfl

/-- The state before trip `n`. -/
def at_ (m : (ℓ : Loc nD τ sig) → Buf (Elt F) ℓ) (c : Dev nD) (n : ℕ) : State F := Nat.rec (start m c) (fun k s => step k s) n

/-- Before trip `n` the valuation carries the `n`-th state. -/
theorem carries : ∀ n, Carries (STEP^[n] (entryContents preI m c)) (at_ m c n) n
  | 0 => at_start m c
  | n + 1 => by
    rw [Function.iterate_succ_apply']
    exact next (carries n)

/-- Every run ends with each result the one of the state after the last trip, and with the arguments as they were. -/
theorem results (ρ : Dev nD → PrngReg) :
    θ_run (defs (F := F)) (onTc (τ := τ) (main (F := F))) ⟨m, fun _ => 0, ρ⟩ fun r => ∀ c : Dev nD,
      r.2.mem ((c.tc : Thread nD τ).loc main_v164) = Step.R_main_v164 (at_ m c 64)
      ∧ r.2.mem ((c.tc : Thread nD τ).loc main_v166) = Step.R_main_v166 (at_ m c 64)
      ∧ r.2.mem ((c.tc : Thread nD τ).loc main_v168) = Step.R_main_v168 (at_ m c 64)
      ∧ r.2.mem ((c.tc : Thread nD τ).loc main_v170) = Step.R_main_v170 (at_ m c 64) (m ((c.tc : Thread nD τ).loc main_arg0)) (m ((c.tc :
        Thread nD τ).loc main_arg3)) (m ((c.tc : Thread nD τ).loc main_arg4)) (m ((c.tc : Thread nD τ).loc main_arg6))
      ∧ r.2.mem ((c.tc : Thread nD τ).loc main_v141) = Step.R_main_v141 (at_ m c 64) (m ((c.tc : Thread nD τ).loc main_arg0)) (m ((c.tc :
        Thread nD τ).loc main_arg4)) (m ((c.tc : Thread nD τ).loc main_arg6))
      ∧ r.2.mem ((c.tc : Thread nD τ).loc main_v174) = Step.R_main_v174 (at_ m c 64)
      ∧ r.2.mem ((c.tc : Thread nD τ).loc main_v177) = Step.R_main_v177 (at_ m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := carries m c 64
    have ⟨h0, h1, h2, h3, h4, h5, h6, a⟩ := h c
    ⟨h0.trans (by unfold out_main_v164 Step.R_main_v164; rw [hk.at8]; try rfl), h1.trans (by unfold out_main_v166 Step.R_main_v166; rw [hk.at9]; try rfl),
      h2.trans (by unfold out_main_v168 Step.R_main_v168; rw [hk.at10]; try rfl),
      h3.trans (by unfold out_main_v170 Step.R_main_v170; rw [iter_main_arg0 m c 64, iter_main_arg3 m c 64, iter_main_arg4 m c 64, iter_main_arg6 m c 64]; try rfl),
      h4.trans (by unfold out_main_v141 Step.R_main_v141; rw [iter_main_arg0 m c 64, iter_main_arg4 m c 64, iter_main_arg6 m c 64]; try rfl),
      h5.trans (by unfold out_main_v174 Step.R_main_v174; rw [hk.at11]; rfl), h6.trans (by unfold out_main_v177 Step.R_main_v177; rw [hk.at11]; rfl), a⟩)
    (Value.run m ρ)

end Cert.ReferenceIdeal.Trip
-- ==== Proof.Norms.lean ====
/-
  The derivative of the inverse root mean square, and the sigmoid by a quotient.
-/
module

public import proofs.«01_k».proof.Proof.Lift

@[expose] public section

set_option maxRecDepth 16384

noncomputable section

namespace Cert.Gla

open Idealize.ShloMosaic

theorem c_neg_half : Ideal.ofBits .f32 0xBF000000#32 = ((-(1 / 2) : ℝ) : EReal) := by
  simp [Ideal.ofBits, Ideal.ieee, -EReal.coe_mul]; norm_num

theorem sgm_host (x : ℝ) : Ideal.div ((1 : ℝ) : EReal) ((1 + Real.exp (-x) : ℝ) : EReal) = ((sgm x : ℝ) : EReal) := by
  rw [div_real _ (by linarith [Real.exp_pos (-x)]), one_div]; rfl

theorem rms_cube (x : Fin 128 → ℝ) :
    Ideal.div ((rmsScale x : ℝ) : EReal) (((∑ j, x j * x j) * (1 / 128) + eps : ℝ) : EReal) = ((rmsScale x ^ 3 : ℝ) : EReal) := by
  have h := meanSq_pos x
  rw [div_real _ h.ne']
  refine congrArg _ ?_
  unfold rmsScale
  have e := Real.mul_self_sqrt h.le
  have p := Real.sqrt_pos.mpr h
  set t := Real.sqrt ((∑ j, x j * x j) * (1 / 128) + eps)
  rw [← e]; field_simp

end Cert.Gla

end
-- ==== Proof.RefInit.lean ====
/-
  What the reference computes before its loop, of arguments that are real numbers: each chunk's inputs, and the gradient of the
  attention's output through the normalisation and the output gate.
-/
module

public import proofs.«01_k».proof.Proof.Gen.ReferenceIdeal.Step
public import proofs.«01_k».proof.Proof.Given
public import proofs.«01_k».proof.Proof.Unit
public import proofs.«01_k».proof.Proof.RefLoop
public import proofs.«01_k».proof.Proof.Trip
public import proofs.«01_k».proof.Proof.Norms

@[expose] public section

set_option maxRecDepth 16384

noncomputable section

namespace Cert.ReferenceIdeal.Trip

open Cert.ReferenceIdeal Cert.ReferenceIdeal.Gen Cert.ReferenceIdeal.Step Cert.Gla Idealize.ShloMosaic

variable (D : Data)

theorem one_coe : (1 : EReal) = ((1 : ℝ) : EReal) := rfl

theorem dout_eq (h r : ℕ) (e : Fin 128) :
    D.pre h r e * D.gn 0 (128 * h + e) * rmsScale (D.out h r)
        + D.out h r e * ((∑ x, D.out h r x * (D.pre h r x * D.gn 0 (128 * h + x))) * (-(1 / 2) * rmsScale (D.out h r) ^ 3) * (1 / 128))
        + (∑ x, D.out h r x * (D.pre h r x * D.gn 0 (128 * h + x))) * (-(1 / 2) * rmsScale (D.out h r) ^ 3) * (1 / 128) * D.out h r e
      = D.dout h r e := by
  have w : (∑ x : Fin 128, D.pre h r x * D.gn 0 (128 * h + x) * D.nrm h r x)
      = (∑ x, D.out h r x * (D.pre h r x * D.gn 0 (128 * h + x))) * rmsScale (D.out h r) := by
    rw [Finset.sum_mul]
    exact Finset.sum_congr rfl fun x _ => by unfold Data.nrm; ring
  unfold Data.dout
  rw [w]
  unfold Data.nrm
  ring

theorem a64 : A_main_v64 (F := Ideal) (P0 D) (P1 D) (P2 D) (P3 D) (P4 D) (P5 D) (P6 D) = lift5 fun (c : Fin 64) (_ : Fin 1) (h : Fin 4) => D.S h c := by
  funext y
  idx_vars y
  pointwise [A_main_v64, A_main_v63]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  rfl

theorem a68 : A_main_v68 (F := Ideal) (P0 D) (P1 D) (P2 D) (P3 D) (P4 D) (P5 D) (P6 D) = lift5 fun (c : Fin 64) (_ : Fin 1) (h : Fin 4) => q0 D h c := by
  funext y
  idx_vars y
  pointwise [A_main_v68, A_main_v67, A_main_v66, A_main_v65, A_main_v1, A_main_v0]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  simp only [q0, Nat.mul_comm (y0 : ℕ) 64, Nat.mul_comm (y2 : ℕ) 64, Nat.add_assoc]

theorem a72 : A_main_v72 (F := Ideal) (P0 D) (P1 D) (P2 D) (P3 D) (P4 D) (P5 D) (P6 D) = lift5 fun (c : Fin 64) (_ : Fin 1) (h : Fin 4) => D.k h c := by
  funext y
  idx_vars y
  pointwise [A_main_v72, A_main_v71, A_main_v70, A_main_v69, A_main_v2, A_main_v0]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  simp only [Data.k, Nat.mul_comm (y0 : ℕ) 64, Nat.mul_comm (y2 : ℕ) 64, Nat.add_assoc]

theorem a76 : A_main_v76 (F := Ideal) (P0 D) (P1 D) (P2 D) (P3 D) (P4 D) (P5 D) (P6 D) = lift5 fun (c : Fin 64) (_ : Fin 1) (h : Fin 4) => D.v h c := by
  funext y
  idx_vars y
  pointwise [A_main_v76, A_main_v75, A_main_v74, A_main_v73, A_main_v3, A_main_v0]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  simp only [Data.v, Nat.mul_comm (y0 : ℕ) 64, Nat.mul_comm (y2 : ℕ) 128, Nat.add_assoc]

theorem a8 : A_main_v8 (F := Ideal) (P0 D) (P1 D) (P2 D) (P3 D) (P4 D) (P5 D) (P6 D) = lift3 fun (_ : Fin 1) (r : Fin 4096) (a : Fin 256) => (∑ x : Fin 16, D.proj r (3072 + x) * D.wa x a) + D.ba 0 a := by
  funext y
  idx_vars y
  pointwise [A_main_v8, A_main_v7, A_main_v6, A_main_v5, A_main_v4, A_main_v0]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  rfl

theorem a80 : A_main_v80 (F := Ideal) (P0 D) (P1 D) (P2 D) (P3 D) (P4 D) (P5 D) (P6 D) = lift5 fun (c : Fin 64) (_ : Fin 1) (h : Fin 4) => D.l h c := by
  funext y
  idx_vars y
  pointwise [A_main_v80, A_main_v79, A_main_v78, A_main_v77, a8 D]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  simp only [Data.l, Data.logit, Nat.mul_comm (y0 : ℕ) 64, Nat.mul_comm (y2 : ℕ) 64, Nat.add_assoc]

theorem a11 : A_main_v11 (F := Ideal) (P0 D) (P1 D) (P2 D) (P3 D) (P4 D) (P5 D) (P6 D) = lift4 fun (_ : Fin 1) (h : Fin 4) (r : Fin 4096) => D.out h r := by
  funext y
  idx_vars y
  pointwise [A_main_v11, A_main_v10, A_main_v9]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  simp only [Data.out, Nat.mul_comm (y1 : ℕ) 128, Nat.add_assoc]

theorem a20 : A_main_v20 (F := Ideal) (P0 D) (P1 D) (P2 D) (P3 D) (P4 D) (P5 D) (P6 D) = lift4 fun (_ : Fin 1) (h : Fin 4) (r : Fin 4096) (_ : Fin 1) => (∑ x, D.out h r x * D.out h r x) * (1 / 128) + eps := by
  funext y
  idx_vars y
  pointwise [A_main_v20, K_main_v19, K_main_cst_1, A_main_v18, K_main_v17, K_main_cst_0, A_main_v16, A_main_v15, K_main_cst, A_main_v14, a11 D]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]

theorem a21 : A_main_v21 (F := Ideal) (P0 D) (P1 D) (P2 D) (P3 D) (P4 D) (P5 D) (P6 D) = lift4 fun (_ : Fin 1) (h : Fin 4) (r : Fin 4096) (_ : Fin 1) => rmsScale (D.out h r) := by
  funext y
  idx_vars y
  pointwise [A_main_v21, a20 D]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]

theorem a24 : A_main_v24 (F := Ideal) (P0 D) (P1 D) (P2 D) (P3 D) (P4 D) (P5 D) (P6 D) = lift4 fun (_ : Fin 1) (h : Fin 4) (r : Fin 4096) (_ : Fin 1) => -(1 / 2) * rmsScale (D.out h r) ^ 3 := by
  funext y
  idx_vars y
  pointwise [A_main_v24, A_main_v22, a20 D, a21 D, K_main_v23, K_main_cst_2]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]

theorem a47 : A_main_v47 (F := Ideal) (P0 D) (P1 D) (P2 D) (P3 D) (P4 D) (P5 D) (P6 D) = lift4 fun (_ : Fin 1) (h : Fin 4) (r : Fin 4096) (e : Fin 128) => D.pre h r e * D.gn 0 (128 * h + e) := by
  funext y
  idx_vars y
  pointwise [A_main_v47, A_main_v46, A_main_v43, A_main_v42, A_main_v29, A_main_v37, A_main_v32_0, A_main_v32_2, A_main_call0_v3, A_main_call0_v1, A_main_call0_v0, A_main_v13, A_main_v12, K_main_call0_v2, K_main_call0_cst, K_main_call0_v4, K_main_call0_cst_0, A_main_v35, A_main_v34]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe, one_coe, Nat.cast_one]
  refine congrArg _ ?_
  simp only [Data.pre, Data.gate, Nat.mul_comm (y1 : ℕ) 128, Nat.add_assoc]
  rfl

theorem a57 : A_main_v57 (F := Ideal) (P0 D) (P1 D) (P2 D) (P3 D) (P4 D) (P5 D) (P6 D) = lift3 fun (_ : Fin 1) (h : Fin 4) (r : Fin 4096) => (∑ x, D.out h r x * (D.pre h r x * D.gn 0 (128 * h + x))) * (-(1 / 2) * rmsScale (D.out h r) ^ 3) * (1 / 128) := by
  funext y
  idx_vars y
  pointwise [A_main_v57, A_main_v56, K_main_cst_7, A_main_v55, K_main_v54, K_main_cst_6, A_main_v53, a24 D, A_main_v50, A_main_v49, K_main_cst_5, A_main_v48, a47 D, a11 D, unit_d]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]

theorem a62 : A_main_v62 (F := Ideal) (P0 D) (P1 D) (P2 D) (P3 D) (P4 D) (P5 D) (P6 D) = lift4 fun (_ : Fin 1) (h : Fin 4) (r : Fin 4096) (e : Fin 128) => D.dout h r e := by
  funext y
  idx_vars y
  pointwise [A_main_v62, A_main_v61, a11 D, A_main_v58, a57 D, A_main_v60, A_main_v59, A_main_v52, A_main_v51, a21 D, a47 D]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  exact congrArg _ (dout_eq ..)

theorem a83 : A_main_v83 (F := Ideal) (P0 D) (P1 D) (P2 D) (P3 D) (P4 D) (P5 D) (P6 D) = lift5 fun (c : Fin 64) (_ : Fin 1) (h : Fin 4) => D.ct h c := by
  funext y
  idx_vars y
  pointwise [A_main_v83, A_main_v82, a62 D]
  simp only [lift1_ix, lift2_ix, lift3_ix, lift4_ix, lift5_ix, P0_ix, P1_ix, P2_ix, P3_ix, P4_ix, P5_ix, P6_ix, absf_coe, max_coe, min_coe, Ideal.exp_coe,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  simp only [Data.ct, Nat.mul_comm (y0 : ℕ) 64, Nat.add_assoc]

theorem part_zero {e : ℕ} (X : Fin 64 → Fin 4 → Fin 64 → Fin e → ℝ) :
    (lift5 (part 0 X) : (⟨5, ![64, 1, 4, 64, e]⟩ : Shape).Idx → EReal) = fun _ => ((0 : ℝ) : EReal) := by
  funext y
  exact congrArg _ (if_neg (by have := (y 0).isLt; simp at this ⊢; omega))

/-- The loop's first state. -/
theorem first_inv : Inv D (init (F := Ideal) (P0 D) (P1 D) (P2 D) (P3 D) (P4 D) (P5 D) (P6 D)) 0 where
  i0 := a64 D
  i1 := a68 D
  i2 := a72 D
  i3 := a76 D
  i4 := a80 D
  i5 := a83 D
  g := by
    funext y
    idx_vars y
    show K_main_v81 (F := Ideal) (ix4 y0 y1 y2 y3) = _
    pointwise [K_main_v81, K_main_cst_8]
    exact zero_coe
  o8 := by
    rw [part_zero]
    funext y
    show K_main_v84 (F := Ideal) y = _
    pointwise [K_main_v84]
    exact c_zero
  o9 := by
    rw [part_zero]
    funext y
    show K_main_v85 (F := Ideal) y = _
    pointwise [K_main_v85]
    exact c_zero
  o10 := by
    rw [part_zero]
    funext y
    show K_main_v86 (F := Ideal) y = _
    pointwise [K_main_v86]
    exact c_zero
  o11 := by
    rw [part_zero]
    funext y
    show K_main_v87 (F := Ideal) y = _
    pointwise [K_main_v87]
    exact c_zero

end Cert.ReferenceIdeal.Trip

end
-- ==== Proof.RefOut.lean ====
/-
  What the reference leaves: the gradients, token by token.
-/
module

public import proofs.«01_k».proof.Proof.RefInit

@[expose] public section

set_option maxRecDepth 16384

noncomputable section

namespace Cert.ReferenceIdeal.Trip

open Cert.ReferenceIdeal Cert.ReferenceIdeal.Gen Cert.ReferenceIdeal.Step Cert.Gla Idealize.ShloMosaic

variable {D : Data} {s : State Ideal}

theorem part_all {e : ℕ} (X : Fin 64 → Fin 4 → Fin 64 → Fin e → ℝ) : part 64 X = fun c _ h => X c h := by
  funext c _ h i a
  exact if_pos (Nat.le_add_left ..)

variable (D) in
theorem gate_lane (r a : ℕ) : D.gate (a / 128) r (Data.lane a) = D.proj r (2560 + a) :=
  congrArg (D.proj r) (by show 2560 + 128 * (a / 128) + a % 128 = _; omega)

variable (D) in
theorem out_lane (r a : ℕ) : D.out (a / 128) r (Data.lane a) = D.o r a :=
  congrArg (D.o r) (by show 128 * (a / 128) + a % 128 = _; omega)

variable (D) in
theorem out_row (r a : ℕ) : D.out (a / 128) r = fun j : Fin 128 => D.o r (a / 128 * 128 + j) := by
  funext e
  exact congrArg (D.o r) (by omega)

theorem lane_at (n a : ℕ) : n + 128 * (a / 128) + (Data.lane a : ℕ) = n + a := by
  show n + 128 * (a / 128) + a % 128 = _
  omega

theorem lane_at0 (a : ℕ) : 128 * (a / 128) + (Data.lane a : ℕ) = a := by
  show 128 * (a / 128) + a % 128 = _
  omega

variable (D) in
theorem gate_sum (r a : ℕ) :
    D.o r a * rmsScale (fun j : Fin 128 => D.o r (a / 128 * 128 + j)) * D.gn 0 a * D.dd r (512 + a) * sgm (D.proj r (2560 + a))
        + D.proj r (2560 + a) * (D.o r a * rmsScale (fun j : Fin 128 => D.o r (a / 128 * 128 + j)) * D.gn 0 a * D.dd r (512 + a))
          * (sgm (D.proj r (2560 + a)) * (1 - sgm (D.proj r (2560 + a))))
      = D.DGate r a := by
  unfold Data.DGate Data.dgate Data.nrm
  rw [gate_lane, out_lane, out_row, lane_at, lane_at0]
  ring

variable (D) in
theorem gain_sum (a : ℕ) :
    (∑ r : Fin 4096, D.o r a * rmsScale (fun j : Fin 128 => D.o r (a / 128 * 128 + j))
        * (D.dd r (512 + a) * (D.proj r (2560 + a) * sgm (D.proj r (2560 + a))))) = D.DGn a := by
  unfold Data.DGn Data.dgn
  refine Finset.sum_congr rfl fun r _ => ?_
  unfold Data.pre Data.nrm
  rw [gate_lane, out_lane, out_row, lane_at]
  ring

theorem zero_word : FloatOps.sitofp (F := Ideal) FTy.f32 (0#32) = ((0 : ℝ) : EReal) := by
  show (((0#32 : BitVec 32).toInt : ℝ) : EReal) = _
  norm_num

theorem r164 (I : Inv D s 64) : R_main_v164 (F := Ideal) s = lift2 fun (r : Fin 4096) (a : Fin 256) => D.DQ r a := by
  funext y
  idx_vars y
  pointwise [R_main_v164, I.o8, part_all]
  simp only [lift1_ix, lift2_ix, lift3_ix, lift4_ix, lift5_ix, P0_ix, P1_ix, P2_ix, P3_ix, P4_ix, P5_ix, P6_ix, absf_coe, max_coe, min_coe, Ideal.exp_coe, one_coe, Nat.cast_one,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  rfl

theorem r166 (I : Inv D s 64) : R_main_v166 (F := Ideal) s = lift2 fun (r : Fin 4096) (a : Fin 256) => D.DK r a := by
  funext y
  idx_vars y
  pointwise [R_main_v166, I.o9, part_all]
  simp only [lift1_ix, lift2_ix, lift3_ix, lift4_ix, lift5_ix, P0_ix, P1_ix, P2_ix, P3_ix, P4_ix, P5_ix, P6_ix, absf_coe, max_coe, min_coe, Ideal.exp_coe, one_coe, Nat.cast_one,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  rfl

theorem r168 (I : Inv D s 64) : R_main_v168 (F := Ideal) s = lift2 fun (r : Fin 4096) (a : Fin 512) => D.DV r a := by
  funext y
  idx_vars y
  pointwise [R_main_v168, I.o10, part_all]
  simp only [lift1_ix, lift2_ix, lift3_ix, lift4_ix, lift5_ix, P0_ix, P1_ix, P2_ix, P3_ix, P4_ix, P5_ix, P6_ix, absf_coe, max_coe, min_coe, Ideal.exp_coe, one_coe, Nat.cast_one,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  rfl

theorem r170 (I : Inv D s 64) : R_main_v170 (F := Ideal) s (P0 D) (P3 D) (P4 D) (P6 D) = lift2 fun (r : Fin 4096) (a : Fin 512) => D.DGate r a := by
  funext y
  idx_vars y
  pointwise [R_main_v170]
  simp only [lift1_ix, lift2_ix, lift3_ix, lift4_ix, lift5_ix, P0_ix, P1_ix, P2_ix, P3_ix, P4_ix, P5_ix, P6_ix, absf_coe, max_coe, min_coe, Ideal.exp_coe, one_coe, Nat.cast_one,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  exact congrArg _ (gate_sum ..)

theorem r141 (I : Inv D s 64) : R_main_v141 (F := Ideal) s (P0 D) (P4 D) (P6 D) = lift2 fun (r : Fin 1) (a : Fin 512) => D.DGn a := by
  funext y
  idx_vars y
  pointwise [R_main_v141, unit_e]
  simp only [lift1_ix, lift2_ix, lift3_ix, lift4_ix, lift5_ix, P0_ix, P1_ix, P2_ix, P3_ix, P4_ix, P5_ix, P6_ix, absf_coe, max_coe, min_coe, Ideal.exp_coe, one_coe, Nat.cast_one,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  exact congrArg _ (gain_sum ..)

theorem r174 (I : Inv D s 64) : R_main_v174 (F := Ideal) s = lift2 fun (r : Fin 4096) (a : Fin 512) => D.DL r a := by
  funext y
  idx_vars y
  pointwise [R_main_v174, I.o11, part_all]
  simp only [lift1_ix, lift2_ix, lift3_ix, lift4_ix, lift5_ix, P0_ix, P1_ix, P2_ix, P3_ix, P4_ix, P5_ix, P6_ix, absf_coe, max_coe, min_coe, Ideal.exp_coe, one_coe, Nat.cast_one,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  have h4 : (y1 : ℕ) / 128 < 4 := by omega
  by_cases h : (y1 : ℕ) % 128 < 64
  · rw [dif_pos ⟨h4, h⟩]
    refine congrArg _ (Eq.trans ?_ (wide_lt _ h).symm)
    rfl
  · rw [dif_neg fun w => h w.2, zero_word]
    exact congrArg _ (wide_ge _ h).symm

theorem r177 (I : Inv D s 64) : R_main_v177 (F := Ideal) s = lift2 fun (r : Fin 1) (a : Fin 512) => D.DBa a := by
  funext y
  idx_vars y
  pointwise [R_main_v177, I.o11, part_all, unit_f]
  simp only [lift1_ix, lift2_ix, lift3_ix, lift4_ix, lift5_ix, P0_ix, P1_ix, P2_ix, P3_ix, P4_ix, P5_ix, P6_ix, absf_coe, max_coe, min_coe, Ideal.exp_coe, one_coe, Nat.cast_one,
    div_128, rsqrt_rms, sgm_host, rms_cube, c_128, c_eps, c_one, c_zero, c_neg_half, coe_ite, coe_dite,
    ← EReal.coe_mul, ← EReal.coe_add, ← EReal.coe_sub, ← EReal.coe_neg, coe_sum, zero_coe]
  have h4 : (y1 : ℕ) / 128 < 4 := by omega
  by_cases h : (y1 : ℕ) % 128 < 64
  · rw [dif_pos ⟨h4, h⟩]
    refine congrArg _ (Eq.trans ?_ (wide_lt _ h).symm)
    have e1 : ((y1 : ℕ) / 128 * 64 + (y1 : ℕ) % 128) / 64 = (y1 : ℕ) / 128 := by omega
    have e2 : ((y1 : ℕ) / 128 * 64 + (y1 : ℕ) % 128) % 64 = (y1 : ℕ) % 128 := by omega
    simp only [e1, e2]
    rfl
  · rw [dif_neg fun w => h w.2, zero_word]
    exact congrArg _ (wide_ge _ h).symm

end Cert.ReferenceIdeal.Trip

end
-- ==== Proof.Agree.lean ====
/-
  What the reference leaves, of the gradient's inputs.
-/
module

public import proofs.«01_k».proof.Proof.RefOut

@[expose] public section

noncomputable section

namespace Cert.ReferenceIdeal.Trip

open Cert.ReferenceIdeal Cert.ReferenceIdeal.Gen Cert.Gla Idealize.ShloMosaic Idealize.ShloMosaic.TcCoe Idealize.SL.Sem

variable (D : Data) (m : (ℓ : Loc nD τ sig) → Buf (Elt Ideal) ℓ) (c : Dev nD)

/-- The arguments are the arrays of the gradient's inputs. -/
structure Given : Prop where
  a0 : m ((c : Thread nD τ).loc main_arg0) = P0 D
  a1 : m ((c : Thread nD τ).loc main_arg1) = P1 D
  a2 : m ((c : Thread nD τ).loc main_arg2) = P2 D
  a3 : m ((c : Thread nD τ).loc main_arg3) = P3 D
  a4 : m ((c : Thread nD τ).loc main_arg4) = P4 D
  a5 : m ((c : Thread nD τ).loc main_arg5) = P5 D
  a6 : m ((c : Thread nD τ).loc main_arg6) = P6 D

variable {D m c}

theorem start_eq (G : Given D m c) :
    start m c = Step.init (F := Ideal) (P0 D) (P1 D) (P2 D) (P3 D) (P4 D) (P5 D) (P6 D) := by
  rw [← G.a0, ← G.a1, ← G.a2, ← G.a3, ← G.a4, ← G.a5, ← G.a6]

theorem at_inv (G : Given D m c) (n : ℕ) (w : n ≤ 64) : Inv D (at_ m c n) n := by
  induction n with
  | zero =>
    show Inv D (start m c) 0
    rw [start_eq G]
    exact first_inv D
  | succ n ih => exact next_inv (ih (by omega)) (by omega)

theorem last_inv (G : Given D m c) : Inv D (at_ m c 64) 64 := at_inv G 64 le_rfl

end Cert.ReferenceIdeal.Trip

end
-- ==== Proof.Finite.lean ====
/-
  Arrays whose elements are all finite, as arrays of real numbers.
-/
module

public import proofs.«01_k».proof.Proof.Operands
public import proofs.«01_k».proof.Proof.Soft
public import proofs.«01_k».proof.Proof.Given
public import proofs.«01_k».proof.Proof.Gen.Pre_finite
public import proofs.«01_k».proof.Defs

@[expose] public section

set_option maxRecDepth 16384

noncomputable section

namespace Cert.Gla

open Idealize.ShloMosaic

theorem real_of {s : Shape} (x : FVec Ideal s .f32) (b : (⟨0, ![]⟩ : Shape).BroadcastsInDim s ![])
    (h : cmpf .olt (Host.absf x) (broadcastInDim s ![] b (constant (F := Ideal) ⟨0, ![]⟩ .f32 0x7F800000#32)) = fun _ => 1#1) (i : s.Idx) :
    x i = ((x i).toReal : EReal) := by
  have w := congrFun h i
  have e : broadcastInDim s ![] b (constant (F := Ideal) ⟨0, ![]⟩ .f32 0x7F800000#32) i = (⊤ : EReal) := c_inf
  replace w : FloatOps.cmpf (F := Ideal) (φ := .f32) .olt (FloatOps.absf (F := Ideal) (φ := .f32) (x i)) (⊤ : EReal) = 1#1 := by
    rw [← e]
    exact w
  refine (EReal.coe_toReal (fun h => ?_) fun h => ?_).symm
  · rw [h] at w
    simp [FloatOps.cmpf, FloatOps.absf, Ideal.cmp] at w
  · rw [h] at w
    simp [FloatOps.cmpf, FloatOps.absf, Ideal.cmp] at w

/-- The real numbers of a table, zero outside it. -/
def real2 {a b : ℕ} (x : (⟨2, ![a, b]⟩ : Shape).Idx → EReal) (i j : ℕ) : ℝ :=
  if h : i < a ∧ j < b then (x (ix2 ⟨i, h.1⟩ ⟨j, h.2⟩)).toReal else 0

def real4 {a b c d : ℕ} (x : (⟨4, ![a, b, c, d]⟩ : Shape).Idx → EReal) (i j k l : ℕ) : ℝ :=
  if h : (i < a ∧ j < b) ∧ k < c ∧ l < d then (x (ix4 ⟨i, h.1.1⟩ ⟨j, h.1.2⟩ ⟨k, h.2.1⟩ ⟨l, h.2.2⟩)).toReal else 0

theorem lift_real2 {a b : ℕ} {x : (⟨2, ![a, b]⟩ : Shape).Idx → EReal} (h : ∀ i, x i = ((x i).toReal : EReal)) :
    x = lift2 fun (i : Fin a) (j : Fin b) => real2 x i j := by
  funext y
  refine (h y).trans (congrArg _ ?_)
  refine Eq.trans ?_ (dif_pos (c := ((y 0 : Fin a) : ℕ) < a ∧ ((y 1 : Fin b) : ℕ) < b) ⟨(y 0).isLt, (y 1).isLt⟩).symm
  refine congrArg (fun z => (x z).toReal) ?_
  funext k
  match k with
  | ⟨0, _⟩ => rfl
  | ⟨1, _⟩ => rfl

theorem lift_real4 {a b c d : ℕ} {x : (⟨4, ![a, b, c, d]⟩ : Shape).Idx → EReal} (h : ∀ i, x i = ((x i).toReal : EReal)) :
    x = lift4 fun (i : Fin a) (j : Fin b) (k : Fin c) (l : Fin d) => real4 x i j k l := by
  funext y
  refine (h y).trans (congrArg _ ?_)
  refine Eq.trans ?_ (dif_pos (c := (((y 0 : Fin a) : ℕ) < a ∧ ((y 1 : Fin b) : ℕ) < b) ∧ ((y 2 : Fin c) : ℕ) < c ∧ ((y 3 : Fin d) : ℕ) < d)
    ⟨⟨(y 0).isLt, (y 1).isLt⟩, (y 2).isLt, (y 3).isLt⟩).symm
  refine congrArg (fun z => (x z).toReal) ?_
  funext k
  match k with
  | ⟨0, _⟩ => rfl
  | ⟨1, _⟩ => rfl
  | ⟨2, _⟩ => rfl
  | ⟨3, _⟩ => rfl

section

open Cert.KernelIdeal Idealize.ShloMosaic.TcCoe

variable (m : (ℓ : Loc nD τ sig) → Buf (Elt Ideal) ℓ) (c : Dev nD)

/-- The gradient's inputs, of the arguments. -/
def dataOf : Data where
  proj := real2 (m ((c : Thread nD τ).loc main_arg0))
  wa := real2 (m ((c : Thread nD τ).loc main_arg1))
  ba := real2 (m ((c : Thread nD τ).loc main_arg2))
  gn := real2 (m ((c : Thread nD τ).loc main_arg3))
  o := real2 (m ((c : Thread nD τ).loc main_arg4))
  st := real4 (m ((c : Thread nD τ).loc main_arg5))
  dd := real2 (m ((c : Thread nD τ).loc main_arg6))

theorem holds_data (P : Cert.Pre_KernelIdeal_finite (hPre_finite := Cert.Pre_finite.Gen.facts) m) :
    Cert.KernelIdeal.Block.Holds (dataOf m c) m c :=
  have h := P c
  { a0 := lift_real2 (real_of _ _ h.1)
    a1 := lift_real2 (real_of _ _ h.2.1)
    a2 := lift_real2 (real_of _ _ h.2.2.1)
    a3 := lift_real2 (real_of _ _ h.2.2.2.1)
    a4 := lift_real2 (real_of _ _ h.2.2.2.2.1)
    a5 := lift_real4 (real_of _ _ h.2.2.2.2.2.1)
    a6 := lift_real2 (real_of _ _ h.2.2.2.2.2.2) }

end

end Cert.Gla

end
-- ==== Proof.Weight2.lean ====
/-
  The gradient of a weight: the kernel's call for the gate weights adds two halves of the tokens up, and leaves the reference's product.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Kernel2Ideal.Block

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- What the reference computes. -/
abbrev REF (X : FVec Ideal S4096x2816 .f32) (Y : FVec Ideal S4096x1024 .f32) : FVec Ideal S4x704x1024 .bf16 :=
  truncf .bf16 (shapeCast _ (transpose Cert.Reference2Ideal.S2816x1024 [1, 0] (transpose Cert.Reference2Ideal.S1024x2816 [1, 0]
    (Host.dotGeneral Cert.Reference2Ideal.dot_S4096x2816_S4096x1024_S2816x1024_0_0_1_1_n_n none X Y)
    Cert.Reference2Ideal.Gen.transposes_S2816x1024_S1024x2816_1_0) Cert.Reference2Ideal.Gen.transposes_S1024x2816_S2816x1024_1_0)
    Cert.Reference2Ideal.Gen.shapeCasts_S2816x1024_S4x704x1024) Cert.Reference2Ideal.Gen.bitsLt_bf16_f32

/-- Where each grid point's blocks lie. -/
theorem idx : ∀ t : Fin cfg0.N, win0_0.index t = ![t.val / 2, t.val % 2, 0] ∧ win0_1.index t = ![t.val % 2, 0] ∧
    win0_2.index t = ![t.val / 2, 0, 0] := (by decide +kernel : ∀ t : Fin grid0.N, _)

/-- The point before. -/
def before (t : Fin cfg0.N) : Fin cfg0.N := ⟨t.val - 1, Nat.lt_of_le_of_lt (Nat.sub_le _ _) t.isLt⟩

theorem v2 : V m c main_v2 = truncf (F := Ideal) .bf16 (transpose S4x4096x704 [1, 0, 2]
    (shapeCast S4096x4x704 (m ((c : Thread nD τ).loc main_arg0)) shapeCasts_S4096x2816_S4096x4x704) transposes_S4096x4x704_S4x4096x704_1_0_2)
    bitsLt_bf16_f32 := by
  entry_read
  rfl

theorem v3 : V m c main_v3 = truncf (F := Ideal) .bf16 (m ((c : Thread nD τ).loc main_arg1)) bitsLt_bf16_f32 := by
  entry_read
  rfl

theorem left (t : Fin cfg0.N) (x : Fin 2048) (a : Fin 704) (i : Fin 4096) (j : Fin 2816) (hi : (i : ℕ) = t.val % 2 * 2048 + x)
    (hj : (j : ℕ) = t.val / 2 * 704 + a) :
    iblk m c 0 t (ix3 (0 : Fin 1) x a) = m ((c : Thread nD τ).loc main_arg0) (ix2 i j) := by
  blk_simp [iblk, idx t]
  rw [show V m c (Pipeline.arrRef spec0 0) = _ from v2 m c]
  pointwise
  blk_ext [idx t, hi, hj]

theorem right (t : Fin cfg0.N) (x : Fin 2048) (b b' : Fin 1024) (i : Fin 4096) (hi : (i : ℕ) = t.val % 2 * 2048 + x) (hb : b' = b) :
    iblk m c 1 t (ix2 x b) = m ((c : Thread nD τ).loc main_arg1) (ix2 i b') := by
  subst hb
  blk_simp [iblk, idx t]
  rw [show V m c (Pipeline.arrRef spec0 1) = _ from v3 m c]
  pointwise
  blk_ext [idx t, hi]

theorem point (t : Fin cfg0.N) (h : t.val % 2 = 1) (y) :
    k0_pay3 (k0_pay2 (k0_pay2 (k0_pay1 (F := Ideal)) (iblk m c 0 (before t)) (iblk m c 1 (before t))) (iblk m c 0 t) (iblk m c 1 t)) y
      = REF (m ((c : Thread nD τ).loc main_arg0)) (m ((c : Thread nD τ).loc main_arg1)) (((cfg0.win 2).blk t).view.emb y) := by
  have e1 : (before t).val / 2 = t.val / 2 := by simp only [before]; omega
  have e2 : (before t).val % 2 = 0 := by simp only [before]; omega
  have p0 : ((((cfg0.win 2).blk t).view.emb y) 0 : ℕ) = t.val / 2 := by blk_simp [idx t]
  have p1 : ((((cfg0.win 2).blk t).view.emb y) 1 : ℕ) = y 1 := by blk_simp [idx t]
  have p2 : ((((cfg0.win 2).blk t).view.emb y) 2) = y 2 := by apply Fin.ext; blk_simp [idx t]
  generalize ((cfg0.win 2).blk t).view.emb y = z at p0 p1 p2 ⊢
  pointwise [k0_pay1, k0_pay2, k0_pay3, REF]
  rw [Fin.sum_univ_tiles 2 2048 rfl, Fin.sum_univ_two]
  refine congrArg₂ (· + ·) (Finset.sum_congr rfl fun x _ => ?_) (Finset.sum_congr rfl fun x _ => ?_)
  · exact congrArg₂ (· * ·) (left m c (before t) x _ _ _ (by simp [e2]) (by simp [e1, p0, p1]))
      (right m c (before t) x _ _ _ (by simp [e2]) p2)
  · exact congrArg₂ (· * ·) (left m c t x _ _ _ (by simp [h]) (by simp [p0, p1]))
      (right m c t x _ _ _ (by simp [h]) p2)

/-- What the first of the two points of a block leaves for the second. -/
theorem carried (t : Fin cfg0.N) (h : t.val % 2 = 0) :
    (outsAt0 m c t.val t.isLt).2 = k0_pay2 (k0_pay1 (F := Ideal)) (iblk m c 0 t) (iblk m c 1 t) := by
  rw [outsAt0_A m c t h (by omega)]
  frame_out

/-- The result after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1]
  rw [show (outsAt0 m c (t.val - 1) _).2 = _ from carried m c (before t) (by simp only [before]; omega)]
  frame_out
  rw [(Memref.isWhole_whole cc0_scratch0).read_unread]
  exact point m c t h1 y

end Cert.Kernel2Ideal.Block

end
-- ==== Proof.Weight3.lean ====
/-
  The gradient of a weight: the kernel's call for the down weights adds two halves of the tokens up, and leaves the reference's product.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Kernel3Ideal.Block

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- What the reference computes. -/
abbrev REF (X : FVec Ideal S4096x2816 .f32) (Y : FVec Ideal S4096x1024 .f32) : FVec Ideal S4x704x1024 .bf16 :=
  truncf .bf16 (shapeCast _ (transpose Cert.Reference3Ideal.S2816x1024 [1, 0]
    (Host.dotGeneral Cert.Reference3Ideal.dot_S4096x1024_S4096x2816_S1024x2816_0_0_1_1_n_n none Y X)
    Cert.Reference3Ideal.Gen.transposes_S1024x2816_S2816x1024_1_0)
    Cert.Reference3Ideal.Gen.shapeCasts_S2816x1024_S4x704x1024) Cert.Reference3Ideal.Gen.bitsLt_bf16_f32

/-- Where each grid point's blocks lie. -/
theorem idx : ∀ t : Fin cfg0.N, win0_0.index t = ![t.val / 2, t.val % 2, 0] ∧ win0_1.index t = ![t.val % 2, 0] ∧
    win0_2.index t = ![t.val / 2, 0, 0] := (by decide +kernel : ∀ t : Fin grid0.N, _)

/-- The point before. -/
def before (t : Fin cfg0.N) : Fin cfg0.N := ⟨t.val - 1, Nat.lt_of_le_of_lt (Nat.sub_le _ _) t.isLt⟩

theorem v2 : V m c main_v2 = truncf (F := Ideal) .bf16 (transpose S4x4096x704 [1, 0, 2]
    (shapeCast S4096x4x704 (m ((c : Thread nD τ).loc main_arg0)) shapeCasts_S4096x2816_S4096x4x704) transposes_S4096x4x704_S4x4096x704_1_0_2)
    bitsLt_bf16_f32 := by
  entry_read
  rfl

theorem v3 : V m c main_v3 = truncf (F := Ideal) .bf16 (m ((c : Thread nD τ).loc main_arg1)) bitsLt_bf16_f32 := by
  entry_read
  rfl

theorem left (t : Fin cfg0.N) (x : Fin 2048) (a : Fin 704) (i : Fin 4096) (j : Fin 2816) (hi : (i : ℕ) = t.val % 2 * 2048 + x)
    (hj : (j : ℕ) = t.val / 2 * 704 + a) :
    iblk m c 0 t (ix3 (0 : Fin 1) x a) = m ((c : Thread nD τ).loc main_arg0) (ix2 i j) := by
  blk_simp [iblk, idx t]
  rw [show V m c (Pipeline.arrRef spec0 0) = _ from v2 m c]
  pointwise
  blk_ext [idx t, hi, hj]

theorem right (t : Fin cfg0.N) (x : Fin 2048) (b b' : Fin 1024) (i : Fin 4096) (hi : (i : ℕ) = t.val % 2 * 2048 + x) (hb : b' = b) :
    iblk m c 1 t (ix2 x b) = m ((c : Thread nD τ).loc main_arg1) (ix2 i b') := by
  subst hb
  blk_simp [iblk, idx t]
  rw [show V m c (Pipeline.arrRef spec0 1) = _ from v3 m c]
  pointwise
  blk_ext [idx t, hi]

theorem point (t : Fin cfg0.N) (h : t.val % 2 = 1) (y) :
    k0_pay3 (k0_pay2 (k0_pay2 (k0_pay1 (F := Ideal)) (iblk m c 0 (before t)) (iblk m c 1 (before t))) (iblk m c 0 t) (iblk m c 1 t)) y
      = REF (m ((c : Thread nD τ).loc main_arg0)) (m ((c : Thread nD τ).loc main_arg1)) (((cfg0.win 2).blk t).view.emb y) := by
  have e1 : (before t).val / 2 = t.val / 2 := by simp only [before]; omega
  have e2 : (before t).val % 2 = 0 := by simp only [before]; omega
  have p0 : ((((cfg0.win 2).blk t).view.emb y) 0 : ℕ) = t.val / 2 := by blk_simp [idx t]
  have p1 : ((((cfg0.win 2).blk t).view.emb y) 1 : ℕ) = y 1 := by blk_simp [idx t]
  have p2 : ((((cfg0.win 2).blk t).view.emb y) 2) = y 2 := by apply Fin.ext; blk_simp [idx t]
  generalize ((cfg0.win 2).blk t).view.emb y = z at p0 p1 p2 ⊢
  pointwise [k0_pay1, k0_pay2, k0_pay3, REF]
  rw [Fin.sum_univ_tiles 2 2048 rfl, Fin.sum_univ_two]
  refine congrArg₂ (· + ·) (Finset.sum_congr rfl fun x _ => ?_) (Finset.sum_congr rfl fun x _ => ?_)
  · exact (congrArg₂ (fun a b : EReal => a * b) (left m c (before t) x _ _ _ (by simp [e2]) (by simp [e1, p0, p1]))
      (right m c (before t) x _ _ _ (by simp [e2]) p2)).trans (mul_comm (G := EReal) _ _)
  · exact (congrArg₂ (fun a b : EReal => a * b) (left m c t x _ _ _ (by simp [h]) (by simp [p0, p1]))
      (right m c t x _ _ _ (by simp [h]) p2)).trans (mul_comm (G := EReal) _ _)

/-- What the first of the two points of a block leaves for the second. -/
theorem carried (t : Fin cfg0.N) (h : t.val % 2 = 0) :
    (outsAt0 m c t.val t.isLt).2 = k0_pay2 (k0_pay1 (F := Ideal)) (iblk m c 0 t) (iblk m c 1 t) := by
  rw [outsAt0_A m c t h (by omega)]
  frame_out

/-- The result after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1]
  rw [show (outsAt0 m c (t.val - 1) _).2 = _ from carried m c (before t) (by simp only [before]; omega)]
  frame_out
  rw [(Memref.isWhole_whole cc0_scratch0).read_unread]
  exact point m c t h1 y

end Cert.Kernel3Ideal.Block

end
-- ==== Proof.Weight4.lean ====
/-
  The gradient of a weight: the kernel's call for the input projection adds two halves of the tokens up, and leaves the reference's product.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Kernel4Ideal.Block

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- What the reference computes. -/
abbrev REF (X : FVec Ideal S4096x3088 .f32) (Y : FVec Ideal S4096x1024 .f32) : FVec Ideal S1x3200x1024 .bf16 :=
  truncf .bf16 (broadcastInDim Cert.Reference4Ideal.S1x3200x1024 ![1, 2] Cert.Reference4Ideal.Gen.bcast_S3200x1024_S1x3200x1024_1_2
    (pad Cert.Reference4Ideal.S3200x1024 ![0, 0] ![112, 0] ![0, 0] (transpose Cert.Reference4Ideal.S3088x1024 [1, 0]
      (transpose Cert.Reference4Ideal.S1024x3088 [1, 0]
        (Host.dotGeneral Cert.Reference4Ideal.dot_S4096x3088_S4096x1024_S3088x1024_0_0_1_1_n_n none X Y)
        Cert.Reference4Ideal.Gen.transposes_S3088x1024_S1024x3088_1_0) Cert.Reference4Ideal.Gen.transposes_S1024x3088_S3088x1024_1_0)
      (sitofp .f32 (constantI Cert.Reference4Ideal.S_ 32 0#32)) Cert.Reference4Ideal.Gen.pads_S3088x1024_S3200x1024_01120_000
      Cert.Reference4Ideal.Gen.h_S_)) Cert.Reference4Ideal.Gen.bitsLt_bf16_f32

/-- Where each grid point's blocks lie. -/
theorem idx : ∀ t : Fin cfg0.N, win0_0.index t = ![t.val % 2, t.val / 2] ∧ win0_1.index t = ![t.val % 2, 0] ∧
    win0_2.index t = ![0, t.val / 2, 0] := (by decide +kernel : ∀ t : Fin grid0.N, _)

/-- The point before. -/
def before (t : Fin cfg0.N) : Fin cfg0.N := ⟨t.val - 1, Nat.lt_of_le_of_lt (Nat.sub_le _ _) t.isLt⟩

theorem zero_word : FloatOps.sitofp (F := Ideal) FTy.f32 (0#32) = 0 := by
  show (((0#32 : BitVec 32).toInt : ℝ) : EReal) = _
  norm_num

theorem v1 : V m c main_v1 = truncf (F := Ideal) .bf16 (pad S4096x3200 ![0, 0] ![0, 112] ![0, 0] (m ((c : Thread nD τ).loc main_arg0))
    (sitofp .f32 (constantI S_ 32 0#32)) pads_S4096x3088_S4096x3200_000_01120 h_S_) bitsLt_bf16_f32 := by
  unfold V
  simp only [hostOps0, hostOps0_1, hostOps0_2, List.flatten_cons, List.flatten_nil, List.cons_append, List.nil_append, List.append_nil]
  entry_read
  rfl

theorem v2 : V m c main_v2 = truncf (F := Ideal) .bf16 (m ((c : Thread nD τ).loc main_arg1)) bitsLt_bf16_f32 := by
  unfold V
  simp only [hostOps0, hostOps0_1, hostOps0_2, List.flatten_cons, List.flatten_nil, List.cons_append, List.nil_append, List.append_nil]
  entry_read
  rfl

/-- An entry of the padded argument. -/
def entry (X : FVec Ideal S4096x3088 .f32) (i : Fin 4096) (l : ℕ) : EReal := if h : l < 3088 then X (ix2 i (⟨l, h⟩ : Fin 3088)) else 0

/-- The padded argument, read at an index. -/
theorem padded (X : FVec Ideal S4096x3088 .f32) (i : Fin 4096) (j : Fin 3200) :
    truncf (F := Ideal) .bf16 (pad S4096x3200 ![0, 0] ![0, 112] ![0, 0] X (sitofp .f32 (constantI S_ 32 0#32))
      pads_S4096x3088_S4096x3200_000_01120 h_S_) bitsLt_bf16_f32 (ix2 i j)
      = entry X i j := by
  unfold entry
  pointwise
  rw [zero_word]

theorem left (t : Fin cfg0.N) (x : Fin 2048) (a : Fin 640) (i : Fin 4096) (hi : (i : ℕ) = t.val % 2 * 2048 + x) (j : Fin 3200)
    (hj : (j : ℕ) = t.val / 2 * 640 + a) :
    iblk m c 0 t (ix2 x a) = truncf (F := Ideal) .bf16 (pad S4096x3200 ![0, 0] ![0, 112] ![0, 0] (m ((c : Thread nD τ).loc main_arg0))
      (sitofp .f32 (constantI S_ 32 0#32)) pads_S4096x3088_S4096x3200_000_01120 h_S_) bitsLt_bf16_f32 (ix2 i j) := by
  blk_simp [iblk, idx t]
  rw [show V m c (Pipeline.arrRef spec0 0) = _ from v1 m c]
  blk_ext [idx t, hi, hj]

theorem right (t : Fin cfg0.N) (x : Fin 2048) (b b' : Fin 1024) (i : Fin 4096) (hi : (i : ℕ) = t.val % 2 * 2048 + x) (hb : b' = b) :
    iblk m c 1 t (ix2 x b) = m ((c : Thread nD τ).loc main_arg1) (ix2 i b') := by
  subst hb
  blk_simp [iblk, idx t]
  rw [show V m c (Pipeline.arrRef spec0 1) = _ from v2 m c]
  pointwise
  blk_ext [idx t, hi]

theorem point (t : Fin cfg0.N) (h : t.val % 2 = 1) (y) :
    k0_pay3 (k0_pay2 (k0_pay2 (k0_pay1 (F := Ideal)) (iblk m c 0 (before t)) (iblk m c 1 (before t))) (iblk m c 0 t) (iblk m c 1 t)) y
      = REF (m ((c : Thread nD τ).loc main_arg0)) (m ((c : Thread nD τ).loc main_arg1)) (((cfg0.win 2).blk t).view.emb y) := by
  have e1 : (before t).val / 2 = t.val / 2 := by simp only [before]; omega
  have e2 : (before t).val % 2 = 0 := by simp only [before]; omega
  have p1 : ((((cfg0.win 2).blk t).view.emb y) 1 : ℕ) = t.val / 2 * 640 + y 1 := by blk_simp [idx t]
  have p2 : ((((cfg0.win 2).blk t).view.emb y) 2) = y 2 := by apply Fin.ext; blk_simp [idx t]
  generalize ((cfg0.win 2).blk t).view.emb y = z at p1 p2 ⊢
  pointwise [k0_pay1, k0_pay2, k0_pay3, REF]
  have q : ∀ (i : Fin 4096) (x : Fin 2048) (s : Fin cfg0.N), (i : ℕ) = s.val % 2 * 2048 + x → s.val / 2 = t.val / 2 →
      (fun a b : EReal => a * b) (iblk m c 0 s (ix2 x (y 1))) (iblk m c 1 s (ix2 x (y 2)))
        = (fun a b : EReal => a * b) (entry (m ((c : Thread nD τ).loc main_arg0)) i (z 1)) (m ((c : Thread nD τ).loc main_arg1) (ix2 i (z 2))) := fun i x s hi hs =>
    congrArg₂ (fun a b : EReal => a * b) ((left m c s x (y 1) i hi (z 1) (by rw [p1, hs])).trans (padded _ i (z 1)))
      (right m c s x (y 2) (z 2) i hi p2)
  have w : ∀ f : Fin 4096 → EReal, ∑ k, f k = ∑ x : Fin 2048, f ⟨x, by omega⟩ + ∑ x : Fin 2048, f ⟨2048 + x, by omega⟩ := fun f => by
    rw [Fin.sum_univ_tiles 2 2048 rfl, Fin.sum_univ_two]; simp
  refine Eq.trans (congrArg₂ (fun a b : EReal => a + b)
    (Finset.sum_congr rfl fun x _ => q ⟨x, by omega⟩ x (before t) (by simp [e2]) e1)
    (Finset.sum_congr rfl fun x _ => q ⟨2048 + x, by omega⟩ x t (by simp [h]) rfl)) ?_
  refine (w fun k => (fun a b : EReal => a * b) (entry (m ((c : Thread nD τ).loc main_arg0)) k (z 1))
    (m ((c : Thread nD τ).loc main_arg1) (ix2 k (z 2)))).symm.trans ?_
  by_cases hz : (z 1 : ℕ) < 3088
  · rw [dif_pos hz]
    refine Finset.sum_congr rfl fun k _ => congrArg₂ (fun a b : EReal => a * b) (dif_pos hz) rfl
  · rw [dif_neg hz, zero_word]
    refine Finset.sum_eq_zero fun k _ => (congrArg₂ (fun a b : EReal => a * b) (dif_neg hz) rfl).trans (zero_mul _)

/-- What the first of the two points of a block leaves for the second. -/
theorem carried (t : Fin cfg0.N) (h : t.val % 2 = 0) :
    (outsAt0 m c t.val t.isLt).2 = k0_pay2 (k0_pay1 (F := Ideal)) (iblk m c 0 t) (iblk m c 1 t) := by
  rw [outsAt0_A m c t h (by omega)]
  frame_out

/-- The result after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1]
  rw [show (outsAt0 m c (t.val - 1) _).2 = _ from carried m c (before t) (by simp only [before]; omega)]
  frame_out
  rw [(Memref.isWhole_whole cc0_scratch0).read_unread]
  exact point m c t h1 y

end Cert.Kernel4Ideal.Block

end
-- ==== Proof.Weight5.lean ====
/-
  The gradient of a weight: the kernel's call for one half of the output projection adds two halves of the tokens up, and leaves the reference's product.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Kernel5Ideal.Block

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- What the reference computes. -/
abbrev REF (X : FVec Ideal S4096x512 .f32) (Y : FVec Ideal S4096x1024 .f32) : FVec Ideal S1x512x1024 .bf16 :=
  truncf .bf16 (broadcastInDim Cert.Reference5Ideal.S1x512x1024 ![1, 2] Cert.Reference5Ideal.Gen.bcast_S512x1024_S1x512x1024_1_2
    (transpose Cert.Reference5Ideal.S512x1024 [1, 0]
      (Host.dotGeneral Cert.Reference5Ideal.dot_S4096x1024_S4096x512_S1024x512_0_0_1_1_n_n none Y X)
      Cert.Reference5Ideal.Gen.transposes_S1024x512_S512x1024_1_0)) Cert.Reference5Ideal.Gen.bitsLt_bf16_f32

/-- Where each grid point's blocks lie. -/
theorem idx : ∀ t : Fin cfg0.N, win0_0.index t = ![t.val % 2, 0] ∧ win0_1.index t = ![t.val % 2, 0] ∧
    win0_2.index t = ![0, 0, 0] := (by decide +kernel : ∀ t : Fin grid0.N, _)

/-- The point before. -/
def before (t : Fin cfg0.N) : Fin cfg0.N := ⟨t.val - 1, Nat.lt_of_le_of_lt (Nat.sub_le _ _) t.isLt⟩

theorem v0 : V m c main_v0 = truncf (F := Ideal) .bf16 (m ((c : Thread nD τ).loc main_arg0)) bitsLt_bf16_f32 := by
  entry_read
  rfl

theorem left (t : Fin cfg0.N) (x : Fin 2048) (a a' : Fin 512) (i : Fin 4096) (hi : (i : ℕ) = t.val % 2 * 2048 + x) (ha : a' = a) :
    iblk m c 0 t (ix2 x a) = m ((c : Thread nD τ).loc main_arg0) (ix2 i a') := by
  subst ha
  blk_simp [iblk, idx t]
  rw [show V m c (Pipeline.arrRef spec0 0) = _ from v0 m c]
  pointwise
  blk_ext [idx t, hi]

theorem right (t : Fin cfg0.N) (x : Fin 2048) (b b' : Fin 1024) (i : Fin 4096) (hi : (i : ℕ) = t.val % 2 * 2048 + x) (hb : b' = b) :
    iblk m c 1 t (ix2 x b) = m ((c : Thread nD τ).loc main_arg1) (ix2 i b') := by
  subst hb
  blk_simp [iblk, idx t]
  rw [show V m c (Pipeline.arrRef spec0 1) = m ((c : Thread nD τ).loc main_arg1) from rfl]
  blk_ext [idx t, hi]

theorem point (t : Fin cfg0.N) (h : t.val % 2 = 1) (y) :
    k0_pay3 (k0_pay2 (k0_pay2 (k0_pay1 (F := Ideal)) (iblk m c 0 (before t)) (iblk m c 1 (before t))) (iblk m c 0 t) (iblk m c 1 t)) y
      = REF (m ((c : Thread nD τ).loc main_arg0)) (m ((c : Thread nD τ).loc main_arg1)) (((cfg0.win 2).blk t).view.emb y) := by
  have e2 : (before t).val % 2 = 0 := by simp only [before]; omega
  have p1 : ((((cfg0.win 2).blk t).view.emb y) 1) = y 1 := by apply Fin.ext; blk_simp [idx t]
  have p2 : ((((cfg0.win 2).blk t).view.emb y) 2) = y 2 := by apply Fin.ext; blk_simp [idx t]
  generalize ((cfg0.win 2).blk t).view.emb y = z at p1 p2 ⊢
  pointwise [k0_pay1, k0_pay2, k0_pay3, REF]
  rw [Fin.sum_univ_tiles 2 2048 rfl, Fin.sum_univ_two]
  refine congrArg₂ (· + ·) (Finset.sum_congr rfl fun x _ => ?_) (Finset.sum_congr rfl fun x _ => ?_)
  · exact (congrArg₂ (fun a b : EReal => a * b) (left m c (before t) x _ _ _ (by simp [e2]) p1)
      (right m c (before t) x _ _ _ (by simp [e2]) p2)).trans (mul_comm (G := EReal) _ _)
  · exact (congrArg₂ (fun a b : EReal => a * b) (left m c t x _ _ _ (by simp [h]) p1)
      (right m c t x _ _ _ (by simp [h]) p2)).trans (mul_comm (G := EReal) _ _)

/-- What the first of the two points of a block leaves for the second. -/
theorem carried (t : Fin cfg0.N) (h : t.val % 2 = 0) :
    (outsAt0 m c t.val t.isLt).2 = k0_pay2 (k0_pay1 (F := Ideal)) (iblk m c 0 t) (iblk m c 1 t) := by
  rw [outsAt0_A m c t h (by omega)]
  frame_out

/-- The result after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1]
  rw [show (outsAt0 m c (t.val - 1) _).2 = _ from carried m c (before t) (by simp only [before]; omega)]
  frame_out
  rw [(Memref.isWhole_whole cc0_scratch0).read_unread]
  exact point m c t h1 y

end Cert.Kernel5Ideal.Block

end
-- ==== Proof.Rms.lean ====
/-
  The root mean square over 1024 lanes, and its gradient.
-/
module

public import proofs.«01_k».proof.Proof.Lift
public import proofs.«01_k».proof.Proof.Norms

@[expose] public section

set_option maxRecDepth 16384

noncomputable section

namespace Cert.Mix

open Idealize.ShloMosaic Cert.Gla

theorem c_1024 : Ideal.ofBits .f32 0x44800000#32 = ((1024 : ℝ) : EReal) := by
  simp [Ideal.ofBits, Ideal.ieee, -EReal.coe_mul]; norm_num

theorem div_1024 (x : ℝ) : Ideal.div (x : EReal) ((1024 : ℝ) : EReal) = ((x * (1 / 1024) : ℝ) : EReal) := by
  rw [div_real x (by norm_num)]; congr 1; ring

/-- The inverse root mean square of a row. -/
def scale (x : Fin 1024 → ℝ) : ℝ := (Real.sqrt ((∑ j, x j * x j) * (1 / 1024) + eps))⁻¹

theorem mean_pos (x : Fin 1024 → ℝ) : 0 < (∑ j, x j * x j) * (1 / 1024) + eps := by
  have : 0 ≤ ∑ j, x j * x j := Finset.sum_nonneg fun j _ => mul_self_nonneg _
  linarith [eps_pos]

theorem rsqrt_scale (x : Fin 1024 → ℝ) :
    Ideal.rsqrt (((∑ j, x j * x j) * (1 / 1024) + eps : ℝ) : EReal) = ((scale x : ℝ) : EReal) :=
  rsqrt_pos (mean_pos x)

theorem scale_cube (x : Fin 1024 → ℝ) :
    Ideal.div ((scale x : ℝ) : EReal) (((∑ j, x j * x j) * (1 / 1024) + eps : ℝ) : EReal) = ((scale x ^ 3 : ℝ) : EReal) := by
  have h := mean_pos x
  rw [div_real _ h.ne']
  refine congrArg _ ?_
  unfold scale
  have e := Real.mul_self_sqrt h.le
  have p := Real.sqrt_pos.mpr h
  set t := Real.sqrt ((∑ j, x j * x j) * (1 / 1024) + eps)
  rw [← e]; field_simp

/-- The gradient of a row, of the gradient `d` of the row after its normalisation and gains. -/
def back (d g x : Fin 1024 → ℝ) (j : Fin 1024) : ℝ :=
  scale x * (d j * g j - x j * scale x * ((∑ i, d i * g i * (x i * scale x)) * (1 / 1024)))

/-- The same by the derivative of the inverse root. -/
theorem back_eq (d g x : Fin 1024 → ℝ) (j : Fin 1024) :
    d j * g j * scale x + x j * ((∑ i, x i * (d i * g i)) * (-(1 / 2) * scale x ^ 3) * (1 / 1024))
      + (∑ i, x i * (d i * g i)) * (-(1 / 2) * scale x ^ 3) * (1 / 1024) * x j = back d g x j := by
  have w : (∑ i, d i * g i * (x i * scale x)) = (∑ i, x i * (d i * g i)) * scale x := by
    rw [Finset.sum_mul]
    exact Finset.sum_congr rfl fun i _ => by ring
  unfold back
  rw [w]
  ring

/-- A sum over more places, the further ones zero. -/
theorem sum_padded {n N : ℕ} (h : n ≤ N) (f : ℕ → ℝ) (z : ∀ k, n ≤ k → f k = 0) : ∑ k : Fin N, f k = ∑ k : Fin n, f k := by
  rw [Fin.sum_univ_eq_sum_range, Fin.sum_univ_eq_sum_range]
  exact (Finset.sum_subset (Finset.range_mono h) fun k _ hk => z k (by simpa using hk)).symm

end Cert.Mix

end
-- ==== Proof.MixBack.lean ====
/-
  The gradient of the mixer's input: what the kernel's body computes, of blocks that hold real numbers.
-/
module

public import proofs.«01_k».proof.Proof.Gen.Kernel6Ideal.Value
public import proofs.«01_k».proof.Proof.Rms
public import Idealize.ShloMosaic.Lib.Pipeline.ValueKit
public import Idealize.ShloMosaic.Lib.Claim
public import Idealize.ShloMosaic.Lib.Pointwise

@[expose] public section

set_option maxRecDepth 16384

noncomputable section

namespace Cert.Kernel6Ideal.Stage

open Cert.Kernel6Ideal Cert.Kernel6Ideal.Gen Cert.Gla Cert.Mix Idealize.ShloMosaic

theorem p3 (A : Fin 512 → Fin 3200 → ℝ) (W : Fin 3200 → Fin 1024 → ℝ) :
    k0_pay3 (F := Ideal) (lift2 A) (lift2 W) = lift2 fun r a => ∑ k, A r k * W k a := by
  funext y
  idx_vars y
  pointwise [k0_pay3]
  simp only [lift2_ix, ← EReal.coe_mul, coe_sum]

theorem p4 (X : Fin 512 → Fin 1024 → ℝ) : k0_pay4 (F := Ideal) (lift2 X) = lift2 fun r _ => scale (X r) := by
  funext y
  idx_vars y
  pointwise [k0_pay4]
  simp only [lift2_ix, div_1024, rsqrt_scale, c_1024, c_eps, ← EReal.coe_mul, ← EReal.coe_add, coe_sum]

theorem p5 (X : Fin 512 → Fin 1024 → ℝ) : k0_pay5 (F := Ideal) (lift2 X) = lift2 fun r a => X r a * scale (X r) := by
  funext y
  idx_vars y
  pointwise [k0_pay5, p4]
  simp only [lift2_ix, ← EReal.coe_mul]

theorem p6 (A : Fin 512 → Fin 3200 → ℝ) (W : Fin 3200 → Fin 1024 → ℝ) (X : Fin 512 → Fin 1024 → ℝ) :
    k0_pay6 (F := Ideal) (lift2 A) (lift2 W) (lift2 X) = lift2 fun (_ : Fin 1) a => ∑ r, (∑ k, A r k * W k a) * (X r a * scale (X r)) := by
  funext y
  idx_vars y
  pointwise [k0_pay6, p3, p5]
  simp only [lift2_ix, ← EReal.coe_mul, coe_sum]

theorem p7 (A : Fin 512 → Fin 3200 → ℝ) (W : Fin 3200 → Fin 1024 → ℝ) (X : Fin 512 → Fin 1024 → ℝ) (g : Fin 1 → Fin 1024 → ℝ)
    (R : FVec Ideal S512x1024 .f32) (y : S512x1024.Idx) :
    k0_pay7 (F := Ideal) (lift2 A) (lift2 W) (lift2 X) (lift2 g) R y
      = (fun a b : EReal => a + b) (R y) ((back (fun a => ∑ k, A (y 0) k * W k a) (g 0) (X (y 0)) (y 1) : ℝ) : EReal) := by
  idx_vars y
  pointwise [k0_pay7, p3, p4, p5]
  simp only [lift2_ix, div_1024, c_1024, ← EReal.coe_mul, ← EReal.coe_add, ← EReal.coe_sub, coe_sum]
  rfl

theorem p1 (a b : Fin 1 → Fin 1024 → ℝ) : k0_pay1 (F := Ideal) (lift2 a) (lift2 b) = lift2 fun u x => b u x + a u x := by
  funext y
  idx_vars y
  pointwise [k0_pay1]
  simp only [lift2_ix, ← EReal.coe_add]

theorem p2 : k0_pay2 (F := Ideal) = lift2 fun _ _ => 0 := by
  funext y
  idx_vars y
  pointwise [k0_pay2]
  rfl

end Cert.Kernel6Ideal.Stage

end
-- ==== Proof.Mix6.lean ====
/-
  The gradient of the mixer's input: the kernel's blocks, and the arrays they leave.
-/
module

public import proofs.«01_k».proof.Proof.MixBack
public import proofs.«01_k».proof.Proof.Finite
public import Idealize.ShloMosaic.Lib.Pipeline.ReadBack

@[expose] public section

set_option maxRecDepth 16384

noncomputable section

namespace Cert.Kernel6Ideal.Block

open Cert.Kernel6Ideal Cert.Kernel6Ideal.Gen Cert.Kernel6Ideal.Stage Cert.Gla Cert.Mix Idealize.ShloMosaic Idealize.ShloMosaic.TcCoe Idealize.SL.Sem

/-- The numbers in the arrays: the gradient of the projection, the weights, the input and the gains. -/
structure Data where
  p : ℕ → ℕ → ℝ
  w : ℕ → ℕ → ℝ
  x : ℕ → ℕ → ℝ
  g : ℕ → ℕ → ℝ

namespace Data

variable (D : Data)

/-- The gradient of a row after its normalisation. -/
def dh (r : ℕ) (a : Fin 1024) : ℝ := ∑ k : Fin 3088, D.p r k * D.w a k
def row (r : ℕ) (a : Fin 1024) : ℝ := D.x r a
def gain (a : Fin 1024) : ℝ := D.g 0 a
/-- The gradient of a row. -/
def dx (r : ℕ) (a : Fin 1024) : ℝ := back (D.dh r) D.gain (D.row r) a
/-- A row's part of the gradient of the gains. -/
def part (r : ℕ) (a : Fin 1024) : ℝ := D.dh r a * (D.row r a * scale (D.row r))
/-- The parts of the first tiles. -/
def upto (n : ℕ) (a : Fin 1024) : ℝ := ∑ s ∈ Finset.range n, ∑ r : Fin 512, D.part (s * 512 + r) a

end Data

variable (m : (ℓ : Loc nD τ sig) → Buf (Elt Ideal) ℓ) (c : Dev nD)

/-- The arguments hold these numbers. -/
structure Holds (D : Data) : Prop where
  a0 : m ((c : Thread nD τ).loc main_arg0) = lift2 fun (i : Fin 4096) (j : Fin 3088) => D.p i j
  a1 : m ((c : Thread nD τ).loc main_arg1) = lift2 fun (i : Fin 1024) (j : Fin 3088) => D.w i j
  a3 : m ((c : Thread nD τ).loc main_arg3) = lift2 fun (i : Fin 4096) (j : Fin 1024) => D.x i j
  a4 : m ((c : Thread nD τ).loc main_arg4) = lift2 fun (i : Fin 1) (j : Fin 1024) => D.g i j
  p0 : ∀ i j, 3088 ≤ j → D.p i j = 0
  w0 : ∀ i j, 3088 ≤ j → D.w i j = 0

/-- Where each grid point's blocks lie. -/
theorem idx : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![t.val, 0] ∧ win0_6.index t = ![0, 0] :=
  (by decide +kernel : ∀ t : Fin grid0.N, _)

variable {m c} {D : Data} (H : Holds m c D)

theorem zero_word : FloatOps.sitofp (F := Ideal) FTy.f32 (0#32) = ((0 : ℝ) : EReal) := by
  show (((0#32 : BitVec 32).toInt : ℝ) : EReal) = _
  norm_num

theorem pad_rows (p : ℕ → ℕ → ℝ) : truncf (F := Ideal) .bf16 (pad S4096x3200 ![0, 0] ![0, 112] ![0, 0] (lift2 fun (i : Fin 4096) (j : Fin 3088) => p i j)
    (sitofp .f32 (constantI S_ 32 0#32)) pads_S4096x3088_S4096x3200_000_01120 h_S_) bitsLt_bf16_f32
      = lift2 fun (i : Fin 4096) (j : Fin 3200) => if (j : ℕ) < 3088 then p i j else 0 := by
  funext y
  idx_vars y
  pointwise
  simp only [lift2_ix, zero_word, coe_dite]
  refine congrArg _ ?_
  split_ifs <;> rfl

include H

theorem v1 : V m c main_v1 = lift2 fun (i : Fin 4096) (j : Fin 3200) => D.p i j := by
  have e : V m c main_v1 = truncf (F := Ideal) .bf16 (pad S4096x3200 ![0, 0] ![0, 112] ![0, 0] (m ((c : Thread nD τ).loc main_arg0))
      (sitofp .f32 (constantI S_ 32 0#32)) pads_S4096x3088_S4096x3200_000_01120 h_S_) bitsLt_bf16_f32 := by
    unfold V
    simp only [hostOps0, hostOps0_1, hostOps0_2, hostOps0_3, hostOps0_4, List.flatten_cons, List.flatten_nil, List.cons_append, List.nil_append, List.append_nil]
    entry_read
    rfl
  rw [e, H.a0]
  refine (pad_rows D.p).trans ?_
  funext y
  show ((if (y 1 : Fin 3200).val < 3088 then D.p (y 0 : Fin 4096) (y 1 : Fin 3200) else 0 : ℝ) : EReal) = (D.p (y 0 : Fin 4096) (y 1 : Fin 3200) : ℝ)
  refine congrArg _ ?_
  split_ifs with h
  · rfl
  · exact (H.p0 _ _ (by omega)).symm

theorem v4 : V m c main_v4 = lift2 fun (i : Fin 3200) (j : Fin 1024) => D.w j i := by
  have e : V m c main_v4 = truncf (F := Ideal) .bf16 (pad S3200x1024 ![0, 0] ![112, 0] ![0, 0] (transpose S3088x1024 [1, 0] (m ((c : Thread nD τ).loc main_arg1)) transposes_S1024x3088_S3088x1024_1_0)
      (sitofp .f32 (constantI S_ 32 0#32)) pads_S3088x1024_S3200x1024_01120_000 h_S_) bitsLt_bf16_f32 := by
    unfold V
    simp only [hostOps0, hostOps0_1, hostOps0_2, hostOps0_3, hostOps0_4, List.flatten_cons, List.flatten_nil, List.cons_append, List.nil_append, List.append_nil]
    entry_read
    rfl
  rw [e, H.a1]
  funext y
  idx_vars y
  pointwise
  simp only [lift2_ix, zero_word, coe_dite]
  refine congrArg _ ?_
  split_ifs with h
  · rfl
  · exact (H.w0 _ _ (by omega)).symm

theorem b0 (t : Fin cfg0.N) : iblk m c 0 t = lift2 fun (r : Fin 512) (k : Fin 3200) => D.p (t.val * 512 + r) k := by
  funext y
  idx_vars y
  have ht : (t : ℕ) < 8 := t.isLt
  blk_simp [iblk, idx t]
  rw [show V m c (Pipeline.arrRef spec0 0) = _ from v1 H]
  refine Eq.trans (b := lift2 (fun (i : Fin 4096) (j : Fin 3200) => D.p i j) (ix2 ⟨t.val * 512 + y0, by omega⟩ y1)) ?_ rfl
  blk_ext [idx t]

theorem b1 (t : Fin cfg0.N) : iblk m c 1 t = lift2 fun (k : Fin 3200) (a : Fin 1024) => D.w a k := by
  funext y
  idx_vars y
  blk_simp [iblk, idx t]
  rw [show V m c (Pipeline.arrRef spec0 1) = _ from v4 H]
  refine Eq.trans (b := lift2 (fun (i : Fin 3200) (j : Fin 1024) => D.w j i) (ix2 y0 y1)) ?_ rfl
  blk_ext [idx t]

theorem b3 (t : Fin cfg0.N) : iblk m c 3 t = lift2 fun (r : Fin 512) => D.row (t.val * 512 + r) := by
  funext y
  idx_vars y
  have ht : (t : ℕ) < 8 := t.isLt
  blk_simp [iblk, idx t]
  rw [show V m c (Pipeline.arrRef spec0 3) = _ from (V_main_arg3 m c).trans H.a3]
  refine Eq.trans (b := lift2 (fun (i : Fin 4096) (j : Fin 1024) => D.x i j) (ix2 ⟨t.val * 512 + y0, by omega⟩ y1)) ?_ rfl
  blk_ext [idx t]

theorem b4 (t : Fin cfg0.N) : iblk m c 4 t = lift2 fun (_ : Fin 1) => D.gain := by
  funext y
  idx_vars y
  obtain rfl : y0 = 0 := Subsingleton.elim _ _
  blk_simp [iblk, idx t]
  rw [show V m c (Pipeline.arrRef spec0 4) = _ from (V_main_arg4 m c).trans H.a4]
  refine Eq.trans (b := lift2 (fun (i : Fin 1) (j : Fin 1024) => D.g i j) (ix2 0 y1)) ?_ rfl
  blk_ext [idx t]

omit H in
theorem b2 (t : Fin cfg0.N) (y : S512x1024.Idx) (i : Fin 4096) (hi : (i : ℕ) = t.val * 512 + (y 0 : Fin 512)) :
    iblk m c 2 t y = m ((c : Thread nD τ).loc main_arg2) (ix2 i (y 1)) := by
  blk_simp [iblk, idx t]
  rw [show V m c (Pipeline.arrRef spec0 2) = _ from V_main_arg2 m c]
  blk_ext [idx t, hi]

theorem dh_eq (r : ℕ) (a : Fin 1024) : ∑ k : Fin 3200, D.p r k * D.w a k = D.dh r a :=
  sum_padded (by norm_num) (fun k => D.p r k * D.w a k) fun k hk => by simp [H.p0 r k hk]

/-- What a point leaves of the first result. -/
theorem first (t : Fin cfg0.N) (y : S512x1024.Idx) :
    (outsAt0 m c t.val t.isLt).1 y = (fun a b : EReal => a + b) (iblk m c 2 t y) ((D.dx (t.val * 512 + (y 0 : Fin 512)) (y 1) : ℝ) : EReal) := by
  by_cases h : t.val % 8 = 0
  · rw [outsAt0_A m c t h]
    frame_out
    rw [b0 H, b1 H, b3 H, b4 H, p7]
    simp only [dh_eq H]
    rfl
  · rw [outsAt0_B m c t h]
    frame_out
    rw [b0 H, b1 H, b3 H, b4 H, p7]
    simp only [dh_eq H]
    rfl

/-- What the points so far leave of the second. -/
theorem second : ∀ n (hn : n < cfg0.N), (outsAt0 m c n hn).2 = lift2 fun (_ : Fin 1) a => D.upto (n + 1) a
  | 0, hn => by
    rw [outsAt0_A m c ⟨0, hn⟩ rfl]
    frame_out
    rw [b0 H, b1 H, b3 H, p6, p2, p1]
    simp only [dh_eq H, Data.upto, Finset.sum_range_succ, Finset.range_zero, Finset.sum_empty]
    rfl
  | n + 1, hn => by
    have h8 : n + 1 < 8 := hn
    rw [outsAt0_B m c ⟨n + 1, hn⟩ (by show ¬(n + 1) % 8 = 0; omega)]
    frame_out
    rw [b0 H, b1 H, b3 H, p6]
    have e := second n (Nat.lt_of_succ_lt hn)
    simp only [Nat.add_sub_cancel]
    rw [e, p1]
    simp only [dh_eq H, Data.upto]
    rw [show (fun (_ : Fin 1) (a : Fin 1024) => ∑ s ∈ Finset.range (n + 1 + 1), ∑ r : Fin 512, D.part (s * 512 + r) a) = _ from
      funext fun _ => funext fun a => Finset.sum_range_succ _ _]
    rfl

/-- The first result after the run. -/
theorem final5 : (dats m 0 c).arrAt 5 cfg0.N = fun z : S4096x1024.Idx =>
    (fun a b : EReal => a + b) (m ((c : Thread nD τ).loc main_arg2) z) ((D.dx (z 0 : Fin 4096) (z 1) : ℝ) : EReal) := by
  refine (dats m 0 c).arrAt_eq_of_covers 5 _ (by decide +kernel) fun t _ y => ?_
  blk_simp
  rw [after0_5]
  have h0 : ((((cfg0.win 5).blk t).view.emb y) 0 : ℕ) = t.val * 512 + y 0 := by blk_simp [idx t]
  have h1 : ((((cfg0.win 5).blk t).view.emb y) 1) = y 1 := by apply Fin.ext; blk_simp [idx t]
  generalize ((cfg0.win 5).blk t).view.emb y = z at h0 h1 ⊢
  refine (first H t y).trans ?_
  refine congrArg₂ (fun a b : EReal => a + b) ((b2 t y (z 0) h0).trans ?_) ?_
  · rw [← h1]
    exact congrArg _ (eq_ix2 z).symm
  · refine congrArg _ ?_
    show D.dx _ _ = D.dx _ _
    rw [← h1, ← h0]
    refine congrArg (D.dx · (z 1)) ?_
    rw [h0]
    blk_simp [idx t]

/-- The second result after the run. -/
theorem final6 : (dats m 0 c).arrAt 6 cfg0.N = lift2 fun (_ : Fin 1) a => ∑ r : Fin 4096, D.part r a := by
  refine (dats m 0 c).arrAt_eq_of_covers 6 _ (by decide +kernel) fun t hf y => ?_
  have h7 := (flush0_6 t).mp hf
  have ht : (t : ℕ) < 8 := t.isLt
  blk_simp
  rw [after0_6, second H t.val t.isLt]
  have h0 : (((win0_6.blk t).view.emb y) 1) = y 1 := by apply Fin.ext; blk_simp [idx t]
  have e : (t : ℕ) + 1 = 8 := by omega
  show ((D.upto (t + 1) (y 1) : ℝ) : EReal) = ((∑ r : Fin 4096, D.part r (((win0_6.blk t).view.emb y) 1) : ℝ) : EReal)
  rw [h0, e]
  refine congrArg _ ?_
  unfold Data.upto
  rw [Finset.sum_range]
  exact (Fin.sum_univ_tiles 8 512 rfl fun r : Fin 4096 => D.part r (y 1)).symm

end Cert.Kernel6Ideal.Block

end
-- ==== Proof.MixRef.lean ====
/-
  The gradient of the mixer's input: the reference's two results.
-/
module

public import proofs.«01_k».proof.Proof.Mix6
public import proofs.«01_k».proof.Proof.Gen.Reference6Ideal.Run
public import Idealize.ShloMosaic.Lib.Pointwise

@[expose] public section

set_option maxRecDepth 16384

noncomputable section

namespace Cert.Reference6Ideal.Value

open Cert.Reference6Ideal Cert.Reference6Ideal.Gen Cert.Gla Cert.Mix Idealize.ShloMosaic Idealize.ShloMosaic.TcCoe Idealize.SL.Sem

variable (m : (ℓ : Loc nD τ sig) → Buf (Elt Ideal) ℓ) (c : Dev nD)

/-- The arguments hold these numbers. -/
structure Holds (D : Cert.Kernel6Ideal.Block.Data) : Prop where
  a0 : m ((c : Thread nD τ).loc main_arg0) = lift2 fun (i : Fin 4096) (j : Fin 3088) => D.p i j
  a1 : m ((c : Thread nD τ).loc main_arg1) = lift2 fun (i : Fin 1024) (j : Fin 3088) => D.w i j
  a3 : m ((c : Thread nD τ).loc main_arg3) = lift2 fun (i : Fin 4096) (j : Fin 1024) => D.x i j
  a4 : m ((c : Thread nD τ).loc main_arg4) = lift2 fun (i : Fin 1) (j : Fin 1024) => D.g i j

variable {m c} {D : Cert.Kernel6Ideal.Block.Data} (H : Holds m c D)

include H

/-- The first result. -/
theorem dx_eq : res_main_v36 m c = fun z : S4096x1024.Idx =>
    (fun a b : EReal => a + b) (m ((c : Thread nD τ).loc main_arg2) z) ((D.dx (z 0 : Fin 4096) (z 1) : ℝ) : EReal) := by
  unfold res_main_v36
  rw [H.a0, H.a1, H.a3, H.a4]
  generalize m ((c : Thread nD τ).loc main_arg2) = Y
  funext z
  idx_vars z
  pointwise
  simp only [lift2_ix]
  simp only [Finset.univ_unique, Finset.sum_singleton, c_1024, c_eps, c_neg_half, ← EReal.coe_mul, coe_sum, div_1024, ← EReal.coe_add]
  rw [show (∑ x : Fin 1024, D.x z0 x * D.x z0 x) * (1 / 1024) + eps = (∑ x, D.row z0 x * D.row z0 x) * (1 / 1024) + eps from rfl, rsqrt_scale, scale_cube]
  simp only [← EReal.coe_mul, div_1024, add_assoc (G := EReal), ← EReal.coe_add]
  refine congrArg₂ (fun a b : EReal => a + b) rfl (congrArg _ ?_)
  exact back_eq (D.dh z0) D.gain (D.row z0) z1

omit H in
/-- The second result. -/
theorem dg_eq (p : FVec Ideal S4096x3088 .f32) (w : FVec Ideal S1024x3088 .f32) (x : FVec Ideal S4096x1024 .f32)
    (hp : p = lift2 fun (i : Fin 4096) (j : Fin 3088) => D.p i j) (hw : w = lift2 fun (i : Fin 1024) (j : Fin 3088) => D.w i j)
    (hx : x = lift2 fun (i : Fin 4096) (j : Fin 1024) => D.x i j) :
    shapeCast S1x1024 (Host.reduceAdd (mulf (mulf x (broadcastInDim S4096x1024 ![0, 1] bcast_S4096x1_S4096x1024_0_1
      (Host.rsqrt (addf (Host.divf (broadcastInDim S4096x1 ![0] bcast_S4096_S4096x1_0 (Host.reduceAdd (mulf x x)
        (constant S_ .f32 0x00000000#32) reducesTo_S4096x1024_S4096_d1 h_S_)) (broadcastInDim S4096x1 ![] bcast_S_S4096x1
          (constant S_ .f32 0x44800000#32))) (broadcastInDim S4096x1 ![] bcast_S_S4096x1 (constant S_ .f32 0x358637BD#32))))))
      (Host.dotGeneral dot_S4096x3088_S1024x3088_S4096x1024_1_1_0_0_n_n none p w))
      (constant S_ .f32 0x00000000#32) reducesTo_S4096x1024_S1024_d0 h_S_) shapeCasts_S1024_S1x1024
      = lift2 fun (_ : Fin 1) a => ∑ r : Fin 4096, D.part r a := by
  subst hp hw hx
  funext z
  idx_vars z
  pointwise
  simp only [lift2_ix]
  simp only [c_1024, c_eps, ← EReal.coe_mul, coe_sum, div_1024, ← EReal.coe_add]
  refine Eq.trans (b := ∑ r : Fin 4096, ((D.part r z1 : ℝ) : EReal)) (Finset.sum_congr rfl fun r _ => ?_) (by rw [coe_sum])
  rw [show (∑ x : Fin 1024, D.x r x * D.x r x) * (1 / 1024) + eps = (∑ x, D.row r x * D.row r x) * (1 / 1024) + eps from rfl, rsqrt_scale, ← EReal.coe_mul, ← EReal.coe_mul, mul_comm]
  rfl

end Cert.Reference6Ideal.Value

end
-- ==== Proof.Mixed7.lean ====
/-
  The projection out of the mixer: the kernel multiplies the two groups of heads one after the other, the reference their columns together.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Kernel7Ideal.Block

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- What the reference computes. -/
abbrev REF (A B : FVec Ideal S4096x512 .f32) (W : FVec Ideal S1024x1024 .f32) (X : FVec Ideal S4096x1024 .f32) : FVec Ideal S4096x1024 .f32 :=
  addf X (Host.dotGeneral Cert.Reference7Ideal.dot_S4096x1024_S1024x1024_S4096x1024_1_0_0_1_n_n none
    (concatenate Cert.Reference7Ideal.S4096x1024 1 [⟨Cert.Reference7Ideal.S4096x512, A⟩, ⟨Cert.Reference7Ideal.S4096x512, B⟩]
      Cert.Reference7Ideal.Gen.concatenates_S4096x512_S4096x512_S4096x1024_d1) W)

/-- Where each grid point's blocks lie. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] := (by decide +kernel : ∀ t : Fin grid0.N, _)

theorem v0 : V m c main_v0 = truncf (F := Ideal) .bf16 (m ((c : Thread nD τ).loc main_arg0)) bitsLt_bf16_f32 := by
  entry_read
  rfl
theorem v1 : V m c main_v1 = truncf (F := Ideal) .bf16 (m ((c : Thread nD τ).loc main_arg1)) bitsLt_bf16_f32 := by
  entry_read
  rfl
theorem v2 : V m c main_v2 = truncf (F := Ideal) .bf16 (m ((c : Thread nD τ).loc main_arg2)) bitsLt_bf16_f32 := by
  entry_read
  rfl

theorem b0 (t : Fin cfg0.N) (x : Fin 512) (a : Fin 512) (i : Fin 4096) (hi : (i : ℕ) = t.val * 512 + x) :
    iblk m c 0 t (ix2 x a) = m ((c : Thread nD τ).loc main_arg0) (ix2 i a) := by
  blk_simp [iblk, idx t]
  rw [show V m c (Pipeline.arrRef spec0 0) = _ from v0 m c]
  pointwise
  blk_ext [idx t, hi]
theorem b1 (t : Fin cfg0.N) (x : Fin 512) (a : Fin 512) (i : Fin 4096) (hi : (i : ℕ) = t.val * 512 + x) :
    iblk m c 1 t (ix2 x a) = m ((c : Thread nD τ).loc main_arg1) (ix2 i a) := by
  blk_simp [iblk, idx t]
  rw [show V m c (Pipeline.arrRef spec0 1) = _ from v1 m c]
  pointwise
  blk_ext [idx t, hi]
theorem b2 (t : Fin cfg0.N) (a b : Fin 1024) :
    iblk m c 2 t (ix2 a b) = m ((c : Thread nD τ).loc main_arg2) (ix2 a b) := by
  blk_simp [iblk, idx t]
  rw [show V m c (Pipeline.arrRef spec0 2) = _ from v2 m c]
  pointwise
  blk_ext [idx t]
theorem b3 (t : Fin cfg0.N) (x : Fin 512) (a : Fin 1024) (i : Fin 4096) (hi : (i : ℕ) = t.val * 512 + x) :
    iblk m c 3 t (ix2 x a) = m ((c : Thread nD τ).loc main_arg3) (ix2 i a) := by
  blk_simp [iblk, idx t]
  rw [show V m c (Pipeline.arrRef spec0 3) = _ from V_main_arg3 m c]
  blk_ext [idx t, hi]

theorem point (t : Fin cfg0.N) (y : S512x1024.Idx) (z : S4096x1024.Idx) (h0 : (z 0 : ℕ) = t.val * 512 + y 0) (h1 : z 1 = y 1) :
    k0_pay1 (iblk m c 3 t) (iblk m c 0 t) (View.ld (iblk m c 2 t) r0_2) (iblk m c 1 t) (View.ld (iblk m c 2 t) r0_3) y
      = REF (m ((c : Thread nD τ).loc main_arg0)) (m ((c : Thread nD τ).loc main_arg1)) (m ((c : Thread nD τ).loc main_arg2))
        (m ((c : Thread nD τ).loc main_arg3)) z := by
  pointwise [k0_pay1, REF]
  refine Eq.trans ?_ (add_assoc (G := EReal) _ _ _)
  refine congrArg₂ (fun a b : EReal => a + b) (congrArg₂ (fun a b : EReal => a + b) ?_ (Finset.sum_congr rfl fun x _ => ?_))
    (Finset.sum_congr rfl fun x _ => ?_)
  · rw [eq_ix2 y, eq_ix2 z, h1]
    exact b3 m c t (y 0) (y 1) (z 0) h0
  · exact congrArg₂ (fun a b : EReal => a * b) (b0 m c t (y 0) x (z 0) h0) ((b2 m c t _ _).trans (by rw [h1]))
  · exact congrArg₂ (fun a b : EReal => a * b) (b1 m c t (y 0) x (z 0) h0) ((b2 m c t _ _).trans (by rw [h1]))

/-- The result after the run. -/
theorem final : (dats m 0 c).arrAt 4 cfg0.N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  have p0 : ((((cfg0.win 4).blk t).view.emb y) 0 : ℕ) = t.val * 512 + y 0 := by blk_simp [idx t]
  have p1 : ((((cfg0.win 4).blk t).view.emb y) 1) = y 1 := by apply Fin.ext; blk_simp [idx t]
  generalize ((cfg0.win 4).blk t).view.emb y = z at p0 p1 ⊢
  frame_out
  exact point m c t y z p0 p1

end Cert.Kernel7Ideal.Block

end
-- ==== Proof.Weight8.lean ====
/-
  The gradient of a weight: the kernel's call for the gate's low-rank weight adds two halves of the tokens up, and leaves the reference's product.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Kernel8Ideal.Block

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- What the reference computes. -/
abbrev REF (X : FVec Ideal S4096x16 .f32) (Y : FVec Ideal S4096x256 .f32) : FVec Ideal S1x128x512 .f32 :=
  broadcastInDim Cert.Reference8Ideal.S1x128x512 ![1, 2] Cert.Reference8Ideal.Gen.bcast_S128x512_S1x128x512_1_2
    (pad Cert.Reference8Ideal.S128x512 ![0, 0] ![112, 0] ![0, 0] (shapeCast _ (pad Cert.Reference8Ideal.S16x4x128 ![0, 0, 0] ![0, 0, 64] ![0, 0, 0]
      (shapeCast _ (transpose Cert.Reference8Ideal.S16x256 [1, 0]
        (Host.dotGeneral Cert.Reference8Ideal.dot_S4096x256_S4096x16_S256x16_0_0_1_1_n_n none Y X)
        Cert.Reference8Ideal.Gen.transposes_S256x16_S16x256_1_0) Cert.Reference8Ideal.Gen.shapeCasts_S16x256_S16x4x64)
      (sitofp .f32 (constantI Cert.Reference8Ideal.S_ 32 0#32)) Cert.Reference8Ideal.Gen.pads_S16x4x64_S16x4x128_000_000_0640
      Cert.Reference8Ideal.Gen.h_S_) Cert.Reference8Ideal.Gen.shapeCasts_S16x4x128_S16x512)
      (sitofp .f32 (constantI Cert.Reference8Ideal.S_ 32 0#32)) Cert.Reference8Ideal.Gen.pads_S16x512_S128x512_01120_000
      Cert.Reference8Ideal.Gen.h_S_)

/-- Where each grid point's blocks lie. -/
theorem idx : ∀ t : Fin cfg0.N, win0_0.index t = ![t.val % 2, 0] ∧ win0_1.index t = ![t.val % 2, 0] ∧
    win0_2.index t = ![0, 0, 0] := (by decide +kernel : ∀ t : Fin grid0.N, _)

/-- The point before. -/
def before (t : Fin cfg0.N) : Fin cfg0.N := ⟨t.val - 1, Nat.lt_of_le_of_lt (Nat.sub_le _ _) t.isLt⟩

theorem zero_word : FloatOps.sitofp (F := Ideal) FTy.f32 (0#32) = 0 := by
  show (((0#32 : BitVec 32).toInt : ℝ) : EReal) = _
  norm_num

/-- The first operand: 16 columns of numbers, and zeros up to 128. -/
abbrev LOW (X : FVec Ideal S4096x16 .f32) : FVec Ideal S4096x128 .f32 :=
  pad S4096x128 ![0, 0] ![0, 112] ![0, 0] X (sitofp .f32 (constantI S_ 32 0#32)) pads_S4096x16_S4096x128_000_01120 h_S_

/-- The second operand: of each head, 64 columns of numbers and 64 of zeros. -/
abbrev WIDE (Y : FVec Ideal S4096x256 .f32) : FVec Ideal S4096x512 .bf16 :=
  truncf (F := Ideal) .bf16 (shapeCast S4096x512 (pad S4096x4x128 ![0, 0, 0] ![0, 0, 64] ![0, 0, 0]
    (shapeCast S4096x4x64 Y shapeCasts_S4096x256_S4096x4x64) (sitofp .f32 (constantI S_ 32 0#32))
    pads_S4096x4x64_S4096x4x128_000_000_0640 h_S_) shapeCasts_S4096x4x128_S4096x512) bitsLt_bf16_f32

theorem v0 : V m c main_v0 = LOW (m ((c : Thread nD τ).loc main_arg0)) := by
  unfold V
  simp only [hostOps0, hostOps0_1, hostOps0_2, hostOps0_3, hostOps0_4, List.flatten_cons, List.flatten_nil, List.cons_append, List.nil_append, List.append_nil]
  entry_read
  rfl

theorem v4 : V m c main_v4 = WIDE (m ((c : Thread nD τ).loc main_arg1)) := by
  unfold V
  simp only [hostOps0, hostOps0_1, hostOps0_2, hostOps0_3, hostOps0_4, List.flatten_cons, List.flatten_nil, List.cons_append, List.nil_append, List.append_nil]
  entry_read
  rfl

def low (X : FVec Ideal S4096x16 .f32) (i : Fin 4096) (l : ℕ) : EReal := if h : l < 16 then X (ix2 i (⟨l, h⟩ : Fin 16)) else 0

def wide (Y : FVec Ideal S4096x256 .f32) (i : Fin 4096) (l : Fin 512) : EReal :=
  if h : l.val % 128 < 64 then Y (ix2 i (⟨l.val / 128 * 64 + l.val % 128, by omega⟩ : Fin 256)) else 0

theorem low_eq (X : FVec Ideal S4096x16 .f32) (i : Fin 4096) (j : Fin 128) : LOW X (ix2 i j) = low X i j := by
  unfold low
  pointwise
  rw [zero_word]

theorem wide_eq (Y : FVec Ideal S4096x256 .f32) (i : Fin 4096) (j : Fin 512) : WIDE Y (ix2 i j) = wide Y i j := by
  have hj : (j : ℕ) / 128 < 4 := by omega
  unfold wide
  pointwise
  simp only [zero_word, hj, true_and]

theorem left (t : Fin cfg0.N) (x : Fin 2048) (a : Fin 128) (i : Fin 4096) (hi : (i : ℕ) = t.val % 2 * 2048 + x) (j : Fin 128) (hj : j = a) :
    iblk m c 0 t (ix2 x a) = LOW (m ((c : Thread nD τ).loc main_arg0)) (ix2 i j) := by
  subst hj
  blk_simp [iblk, idx t]
  rw [show V m c (Pipeline.arrRef spec0 0) = _ from v0 m c]
  blk_ext [idx t, hi]

theorem right (t : Fin cfg0.N) (x : Fin 2048) (b : Fin 512) (i : Fin 4096) (hi : (i : ℕ) = t.val % 2 * 2048 + x) (j : Fin 512) (hj : j = b) :
    iblk m c 1 t (ix2 x b) = WIDE (m ((c : Thread nD τ).loc main_arg1)) (ix2 i j) := by
  subst hj
  blk_simp [iblk, idx t]
  rw [show V m c (Pipeline.arrRef spec0 1) = _ from v4 m c]
  blk_ext [idx t, hi]

/-- The product of the two operands is the reference's. -/
theorem product (X : FVec Ideal S4096x16 .f32) (Y : FVec Ideal S4096x256 .f32) (u : Fin 1) (a : Fin 128) (b : Fin 512) :
    REF X Y (ix3 u a b) = ∑ k : Fin 4096, low X k a * wide Y k b := by
  have hq : (b : ℕ) / 128 < 4 := by omega
  pointwise [REF]
  by_cases ha : (a : ℕ) < 16
  · by_cases hb : (b : ℕ) % 128 < 64
    · simp only [low, wide, ha, hb, hq, and_self, dif_pos]
      exact Finset.sum_congr rfl fun k _ => mul_comm (G := EReal) _ _
    · simp only [low, wide, ha, hb, hq, and_false, dif_pos, dif_neg, not_false_eq_true, mul_zero, Finset.sum_const_zero, zero_word]
  · simp only [low, wide, ha, dif_neg, not_false_eq_true, zero_mul, Finset.sum_const_zero, zero_word]

theorem point (t : Fin cfg0.N) (h : t.val % 2 = 1) (y) :
    k0_pay3 (k0_pay2 (k0_pay2 (k0_pay1 (F := Ideal)) (iblk m c 0 (before t)) (iblk m c 1 (before t))) (iblk m c 0 t) (iblk m c 1 t)) y
      = REF (m ((c : Thread nD τ).loc main_arg0)) (m ((c : Thread nD τ).loc main_arg1)) (((cfg0.win 2).blk t).view.emb y) := by
  have e2 : (before t).val % 2 = 0 := by simp only [before]; omega
  have p1 : ((((cfg0.win 2).blk t).view.emb y) 1) = y 1 := by apply Fin.ext; blk_simp [idx t]
  have p2 : ((((cfg0.win 2).blk t).view.emb y) 2) = y 2 := by apply Fin.ext; blk_simp [idx t]
  generalize ((cfg0.win 2).blk t).view.emb y = z at p1 p2 ⊢
  refine Eq.trans ?_ ((product (m ((c : Thread nD τ).loc main_arg0)) (m ((c : Thread nD τ).loc main_arg1)) (z 0) (z 1) (z 2)).symm.trans
    (congrArg _ (eq_ix3 z).symm))
  pointwise [k0_pay1, k0_pay2, k0_pay3]
  have q : ∀ (i : Fin 4096) (x : Fin 2048) (s : Fin cfg0.N), (i : ℕ) = s.val % 2 * 2048 + x →
      (fun a b : EReal => a * b) (iblk m c 0 s (ix2 x (y 1))) (iblk m c 1 s (ix2 x (y 2)))
        = (fun a b : EReal => a * b) (low (m ((c : Thread nD τ).loc main_arg0)) i (z 1)) (wide (m ((c : Thread nD τ).loc main_arg1)) i (z 2)) := fun i x s hi =>
    congrArg₂ (fun a b : EReal => a * b) ((left m c s x (y 1) i hi (z 1) p1).trans (low_eq _ i (z 1)))
      ((right m c s x (y 2) i hi (z 2) p2).trans (wide_eq _ i (z 2)))
  have w : ∀ f : Fin 4096 → EReal, ∑ k, f k = ∑ x : Fin 2048, f ⟨x, by omega⟩ + ∑ x : Fin 2048, f ⟨2048 + x, by omega⟩ := fun f => by
    rw [Fin.sum_univ_tiles 2 2048 rfl, Fin.sum_univ_two]; simp
  refine Eq.trans (congrArg₂ (fun a b : EReal => a + b)
    (Finset.sum_congr rfl fun x _ => q ⟨x, by omega⟩ x (before t) (by simp [e2]))
    (Finset.sum_congr rfl fun x _ => q ⟨2048 + x, by omega⟩ x t (by simp [h]))) ?_
  exact (w fun k => (fun a b : EReal => a * b) (low (m ((c : Thread nD τ).loc main_arg0)) k (z 1))
    (wide (m ((c : Thread nD τ).loc main_arg1)) k (z 2))).symm

/-- What the first of the two points of a block leaves for the second. -/
theorem carried (t : Fin cfg0.N) (h : t.val % 2 = 0) :
    (outsAt0 m c t.val t.isLt).2 = k0_pay2 (k0_pay1 (F := Ideal)) (iblk m c 0 t) (iblk m c 1 t) := by
  rw [outsAt0_A m c t h (by omega)]
  frame_out

/-- The result after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  blk_simp
  rw [after0_2, outsAt0_B m c t h0 h1]
  rw [show (outsAt0 m c (t.val - 1) _).2 = _ from carried m c (before t) (by simp only [before]; omega)]
  frame_out
  rw [(Memref.isWhole_whole cc0_scratch0).read_unread]
  exact point m c t h1 y

end Cert.Kernel8Ideal.Block

end
-- ==== Proof.Adam9.lean ====
/-
  One step of the optimiser for the weights of the gated layers: a kernel that takes the two halves of the rows one after the other, each with the sum of gradients that belongs to this core or to the other.
-/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Reference9Ideal.Step

open Cert.Reference9Ideal Cert.Reference9Ideal.Gen Idealize.ShloMosaic Idealize.ShloMosaic.TcCoe

/-- The gradient: each half of the rows from the core that summed it. -/
def G (A B : FVec Ideal S352x1024 .f32) (K : S1.Idx → BitVec 32) : FVec Ideal S704x1024 .f32 :=
  shapeCast _ (select (broadcastInDim S2x352x1024 ![0, 1, 2] bcast_S2x1x1_S2x352x1024_0_1_2 (cmpi .eq (broadcastInDim S2x1x1 ![0] bcast_S2_S2x1x1_0 (iotaInDim S2 32 0)) (broadcastInDim S2x1x1 ![0, 1, 2] bcast_S1x1x1_S2x1x1_0_1_2 (broadcastInDim S1x1x1 ![2] bcast_S1_S1x1x1_2 K)))) (broadcastInDim S2x352x1024 ![1, 2] bcast_S352x1024_S2x352x1024_1_2 A) (broadcastInDim S2x352x1024 ![1, 2] bcast_S352x1024_S2x352x1024_1_2 B)) shapeCasts_S2x352x1024_S704x1024
/-- The first moment after the step. -/
def NM (A B : FVec Ideal S352x1024 .f32) (M : FVec Ideal S704x1024 .f32) (K : S1.Idx → BitVec 32) : FVec Ideal S704x1024 .f32 :=
  addf (mulf (broadcastInDim S704x1024 ![] bcast_S_S704x1024 (constant S_ .f32 0x3F666666#32)) M) (mulf (broadcastInDim S704x1024 ![] bcast_S_S704x1024 (constant S_ .f32 0x3DCCCCCD#32)) (G A B K))
/-- The second moment after the step. -/
def NV (A B : FVec Ideal S352x1024 .f32) (N : FVec Ideal S704x1024 .f32) (K : S1.Idx → BitVec 32) : FVec Ideal S704x1024 .f32 :=
  addf (mulf (broadcastInDim S704x1024 ![] bcast_S_S704x1024 (constant S_ .f32 0x3F7FBE77#32)) N) (mulf (broadcastInDim S704x1024 ![] bcast_S_S704x1024 (constant S_ .f32 0x3A83126F#32)) (mulf (G A B K) (G A B K)))
/-- The change of the weights. -/
def D (W : FVec Ideal S704x1024 .f32) (A B : FVec Ideal S352x1024 .f32) (M N : FVec Ideal S704x1024 .f32) (K : S1.Idx → BitVec 32) : FVec Ideal S704x1024 .f32 :=
  mulf (broadcastInDim S704x1024 ![] bcast_S_S704x1024 (constant S_ .f32 0xBA83126F#32)) (addf (Host.divf (Host.divf (NM A B M K) (broadcastInDim S704x1024 ![] bcast_S_S704x1024 (constant S_ .f32 0x3F26BD02#32))) (addf (Host.sqrt (Host.divf (NV A B N K) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) W))

end Cert.Reference9Ideal.Step

namespace Cert.Kernel9Ideal.Block

open Cert.Kernel9Ideal Cert.Kernel9Ideal.Gen Idealize.ShloMosaic Idealize.ShloMosaic.TcCoe Idealize.SL.Sem
open Cert.Reference9Ideal.Step (G NM NV D)

variable (m : (ℓ : Loc nD τ sig) → Buf (Elt Ideal) ℓ) (c : Dev nD)

/-- Nothing is asked of the table: no block's place depends on it. -/
theorem ok : Gen.Ok m := trivial

/-- A table of zeros, to speak of the blocks' places without a memory. -/
abbrev zero : (pcfg0 (F := Ideal)).Adm := ⟨fun | 0 => fun _ => 0#32, trivial⟩

/-- Where each grid point's blocks lie. -/
theorem idx0 : ∀ t : Fin (cfg0 zero).N, (win0 zero 0).index t = ![t.val, 0] ∧ (win0 zero 1).index t = ![0, 0] ∧ (win0 zero 2).index t = ![0, 0] ∧
    (win0 zero 3).index t = ![t.val, 0] ∧ (win0 zero 4).index t = ![t.val, 0] ∧ (win0 zero 5).index t = ![t.val, 0] ∧
    (win0 zero 6).index t = ![t.val, 0] ∧ (win0 zero 7).index t = ![t.val, 0] ∧ (win0 zero 8).index t = ![t.val, 0] := (by decide +kernel : ∀ t : Fin grid0.N, _)
theorem ext2 {a b : ℕ} {x y : (⟨2, ![a, b]⟩ : Shape).Idx} (h0 : x 0 = y 0) (h1 : x 1 = y 1) : x = y := by
  funext i
  match i with
  | 0 => exact h0
  | 1 => exact h1
theorem cov5 : (win0 zero 5).Covers := by decide +kernel
theorem cov6 : (win0 zero 6).Covers := by decide +kernel
theorem cov7 : (win0 zero 7).Covers := by decide +kernel
theorem cov8 : (win0 zero 8).Covers := by decide +kernel
theorem idx (t : Fin (cfgM m (ok m)).N) : ((cfgM m (ok m)).win 0).index t = ![t.val, 0] ∧ ((cfgM m (ok m)).win 1).index t = ![0, 0] ∧
    ((cfgM m (ok m)).win 2).index t = ![0, 0] ∧ ((cfgM m (ok m)).win 3).index t = ![t.val, 0] ∧ ((cfgM m (ok m)).win 4).index t = ![t.val, 0] ∧
    ((cfgM m (ok m)).win 5).index t = ![t.val, 0] ∧ ((cfgM m (ok m)).win 6).index t = ![t.val, 0] ∧ ((cfgM m (ok m)).win 7).index t = ![t.val, 0] ∧
    ((cfgM m (ok m)).win 8).index t = ![t.val, 0] := idx0 t

/-- Where window 0's block places an index. -/
abbrev E0 (t : Fin (cfgM m (ok m)).N) (y : S352x1024.Idx) : S704x1024.Idx := (((cfgM m (ok m)).win 0).blk t).view.emb y
theorem e0_0 (t : Fin (cfgM m (ok m)).N) (y : S352x1024.Idx) : (E0 m t y 0 : ℕ) = t.val * 352 + y 0 := by
  have h : (E0 m t y 0 : ℕ) = ((cfgM m (ok m)).win 0).index t (0 : Fin 2) * 352 + 1 * (y 0).val := rfl
  have g := congrFun (idx m t).1 (0 : Fin 2)
  rw [h, g, Nat.one_mul]
  simp
theorem e0_1 (t : Fin (cfgM m (ok m)).N) (y : S352x1024.Idx) : E0 m t y 1 = y 1 := by
  apply Fin.ext
  have h : (E0 m t y 1 : ℕ) = ((cfgM m (ok m)).win 0).index t (1 : Fin 2) * 1024 + 1 * (y 1).val := rfl
  have g := congrFun (idx m t).1 (1 : Fin 2)
  rw [h, g, Nat.one_mul]
  simp
/-- Where window 1's block places an index. -/
abbrev E1 (t : Fin (cfgM m (ok m)).N) (y : S352x1024.Idx) : S352x1024.Idx := (((cfgM m (ok m)).win 1).blk t).view.emb y
theorem e1_0 (t : Fin (cfgM m (ok m)).N) (y : S352x1024.Idx) : (E1 m t y 0 : ℕ) = (y 0 : ℕ) := by
  have h : (E1 m t y 0 : ℕ) = ((cfgM m (ok m)).win 1).index t (0 : Fin 2) * 352 + 1 * (y 0).val := rfl
  have g := congrFun (idx m t).2.1 (0 : Fin 2)
  rw [h, g, Nat.one_mul]
  simp
theorem e1_1 (t : Fin (cfgM m (ok m)).N) (y : S352x1024.Idx) : E1 m t y 1 = y 1 := by
  apply Fin.ext
  have h : (E1 m t y 1 : ℕ) = ((cfgM m (ok m)).win 1).index t (1 : Fin 2) * 1024 + 1 * (y 1).val := rfl
  have g := congrFun (idx m t).2.1 (1 : Fin 2)
  rw [h, g, Nat.one_mul]
  simp
/-- Where window 2's block places an index. -/
abbrev E2 (t : Fin (cfgM m (ok m)).N) (y : S352x1024.Idx) : S352x1024.Idx := (((cfgM m (ok m)).win 2).blk t).view.emb y
theorem e2_0 (t : Fin (cfgM m (ok m)).N) (y : S352x1024.Idx) : (E2 m t y 0 : ℕ) = (y 0 : ℕ) := by
  have h : (E2 m t y 0 : ℕ) = ((cfgM m (ok m)).win 2).index t (0 : Fin 2) * 352 + 1 * (y 0).val := rfl
  have g := congrFun (idx m t).2.2.1 (0 : Fin 2)
  rw [h, g, Nat.one_mul]
  simp
theorem e2_1 (t : Fin (cfgM m (ok m)).N) (y : S352x1024.Idx) : E2 m t y 1 = y 1 := by
  apply Fin.ext
  have h : (E2 m t y 1 : ℕ) = ((cfgM m (ok m)).win 2).index t (1 : Fin 2) * 1024 + 1 * (y 1).val := rfl
  have g := congrFun (idx m t).2.2.1 (1 : Fin 2)
  rw [h, g, Nat.one_mul]
  simp
/-- Where window 3's block places an index. -/
abbrev E3 (t : Fin (cfgM m (ok m)).N) (y : S352x1024.Idx) : S704x1024.Idx := (((cfgM m (ok m)).win 3).blk t).view.emb y
theorem e3_0 (t : Fin (cfgM m (ok m)).N) (y : S352x1024.Idx) : (E3 m t y 0 : ℕ) = t.val * 352 + y 0 := by
  have h : (E3 m t y 0 : ℕ) = ((cfgM m (ok m)).win 3).index t (0 : Fin 2) * 352 + 1 * (y 0).val := rfl
  have g := congrFun (idx m t).2.2.2.1 (0 : Fin 2)
  rw [h, g, Nat.one_mul]
  simp
theorem e3_1 (t : Fin (cfgM m (ok m)).N) (y : S352x1024.Idx) : E3 m t y 1 = y 1 := by
  apply Fin.ext
  have h : (E3 m t y 1 : ℕ) = ((cfgM m (ok m)).win 3).index t (1 : Fin 2) * 1024 + 1 * (y 1).val := rfl
  have g := congrFun (idx m t).2.2.2.1 (1 : Fin 2)
  rw [h, g, Nat.one_mul]
  simp
/-- Where window 4's block places an index. -/
abbrev E4 (t : Fin (cfgM m (ok m)).N) (y : S352x1024.Idx) : S704x1024.Idx := (((cfgM m (ok m)).win 4).blk t).view.emb y
theorem e4_0 (t : Fin (cfgM m (ok m)).N) (y : S352x1024.Idx) : (E4 m t y 0 : ℕ) = t.val * 352 + y 0 := by
  have h : (E4 m t y 0 : ℕ) = ((cfgM m (ok m)).win 4).index t (0 : Fin 2) * 352 + 1 * (y 0).val := rfl
  have g := congrFun (idx m t).2.2.2.2.1 (0 : Fin 2)
  rw [h, g, Nat.one_mul]
  simp
theorem e4_1 (t : Fin (cfgM m (ok m)).N) (y : S352x1024.Idx) : E4 m t y 1 = y 1 := by
  apply Fin.ext
  have h : (E4 m t y 1 : ℕ) = ((cfgM m (ok m)).win 4).index t (1 : Fin 2) * 1024 + 1 * (y 1).val := rfl
  have g := congrFun (idx m t).2.2.2.2.1 (1 : Fin 2)
  rw [h, g, Nat.one_mul]
  simp
/-- Where window 5's block places an index. -/
abbrev E5 (t : Fin (cfgM m (ok m)).N) (y : S352x1024.Idx) : S704x1024.Idx := (((cfgM m (ok m)).win 5).blk t).view.emb y
theorem e5_0 (t : Fin (cfgM m (ok m)).N) (y : S352x1024.Idx) : (E5 m t y 0 : ℕ) = t.val * 352 + y 0 := by
  have h : (E5 m t y 0 : ℕ) = ((cfgM m (ok m)).win 5).index t (0 : Fin 2) * 352 + 1 * (y 0).val := rfl
  have g := congrFun (idx m t).2.2.2.2.2.1 (0 : Fin 2)
  rw [h, g, Nat.one_mul]
  simp
theorem e5_1 (t : Fin (cfgM m (ok m)).N) (y : S352x1024.Idx) : E5 m t y 1 = y 1 := by
  apply Fin.ext
  have h : (E5 m t y 1 : ℕ) = ((cfgM m (ok m)).win 5).index t (1 : Fin 2) * 1024 + 1 * (y 1).val := rfl
  have g := congrFun (idx m t).2.2.2.2.2.1 (1 : Fin 2)
  rw [h, g, Nat.one_mul]
  simp
/-- Where window 6's block places an index. -/
abbrev E6 (t : Fin (cfgM m (ok m)).N) (y : S352x1024.Idx) : S704x1024.Idx := (((cfgM m (ok m)).win 6).blk t).view.emb y
theorem e6_0 (t : Fin (cfgM m (ok m)).N) (y : S352x1024.Idx) : (E6 m t y 0 : ℕ) = t.val * 352 + y 0 := by
  have h : (E6 m t y 0 : ℕ) = ((cfgM m (ok m)).win 6).index t (0 : Fin 2) * 352 + 1 * (y 0).val := rfl
  have g := congrFun (idx m t).2.2.2.2.2.2.1 (0 : Fin 2)
  rw [h, g, Nat.one_mul]
  simp
theorem e6_1 (t : Fin (cfgM m (ok m)).N) (y : S352x1024.Idx) : E6 m t y 1 = y 1 := by
  apply Fin.ext
  have h : (E6 m t y 1 : ℕ) = ((cfgM m (ok m)).win 6).index t (1 : Fin 2) * 1024 + 1 * (y 1).val := rfl
  have g := congrFun (idx m t).2.2.2.2.2.2.1 (1 : Fin 2)
  rw [h, g, Nat.one_mul]
  simp
/-- Where window 7's block places an index. -/
abbrev E7 (t : Fin (cfgM m (ok m)).N) (y : S352x1024.Idx) : S704x1024.Idx := (((cfgM m (ok m)).win 7).blk t).view.emb y
theorem e7_0 (t : Fin (cfgM m (ok m)).N) (y : S352x1024.Idx) : (E7 m t y 0 : ℕ) = t.val * 352 + y 0 := by
  have h : (E7 m t y 0 : ℕ) = ((cfgM m (ok m)).win 7).index t (0 : Fin 2) * 352 + 1 * (y 0).val := rfl
  have g := congrFun (idx m t).2.2.2.2.2.2.2.1 (0 : Fin 2)
  rw [h, g, Nat.one_mul]
  simp
theorem e7_1 (t : Fin (cfgM m (ok m)).N) (y : S352x1024.Idx) : E7 m t y 1 = y 1 := by
  apply Fin.ext
  have h : (E7 m t y 1 : ℕ) = ((cfgM m (ok m)).win 7).index t (1 : Fin 2) * 1024 + 1 * (y 1).val := rfl
  have g := congrFun (idx m t).2.2.2.2.2.2.2.1 (1 : Fin 2)
  rw [h, g, Nat.one_mul]
  simp
/-- Where window 8's block places an index. -/
abbrev E8 (t : Fin (cfgM m (ok m)).N) (y : S352x1024.Idx) : S704x1024.Idx := (((cfgM m (ok m)).win 8).blk t).view.emb y
theorem e8_0 (t : Fin (cfgM m (ok m)).N) (y : S352x1024.Idx) : (E8 m t y 0 : ℕ) = t.val * 352 + y 0 := by
  have h : (E8 m t y 0 : ℕ) = ((cfgM m (ok m)).win 8).index t (0 : Fin 2) * 352 + 1 * (y 0).val := rfl
  have g := congrFun (idx m t).2.2.2.2.2.2.2.2 (0 : Fin 2)
  rw [h, g, Nat.one_mul]
  simp
theorem e8_1 (t : Fin (cfgM m (ok m)).N) (y : S352x1024.Idx) : E8 m t y 1 = y 1 := by
  apply Fin.ext
  have h : (E8 m t y 1 : ℕ) = ((cfgM m (ok m)).win 8).index t (1 : Fin 2) * 1024 + 1 * (y 1).val := rfl
  have g := congrFun (idx m t).2.2.2.2.2.2.2.2 (1 : Fin 2)
  rw [h, g, Nat.one_mul]
  simp
theorem b0 (t : Fin (cfgM m (ok m)).N) (y : S352x1024.Idx) (z : S704x1024.Idx) (h0 : (z 0 : ℕ) = t.val * 352 + y 0) (h1 : z 1 = y 1) :
    iblk m (ok m) c 0 t y = m ((c : Thread nD τ).loc main_arg0) z := by
  show V m c main_arg0 (E0 m t y) = _
  rw [V_main_arg0, show E0 m t y = z from ext2 (Fin.ext ((e0_0 m t y).trans h0.symm)) ((e0_1 m t y).trans h1.symm)]
theorem b1 (t : Fin (cfgM m (ok m)).N) (y : S352x1024.Idx) : iblk m (ok m) c 1 t y = m ((c : Thread nD τ).loc main_arg1) y := by
  show V m c main_arg1 (E1 m t y) = _
  rw [V_main_arg1, show E1 m t y = y from ext2 (Fin.ext (e1_0 m t y)) (e1_1 m t y)]
theorem b2 (t : Fin (cfgM m (ok m)).N) (y : S352x1024.Idx) : iblk m (ok m) c 2 t y = m ((c : Thread nD τ).loc main_arg2) y := by
  show V m c main_arg2 (E2 m t y) = _
  rw [V_main_arg2, show E2 m t y = y from ext2 (Fin.ext (e2_0 m t y)) (e2_1 m t y)]
theorem b3 (t : Fin (cfgM m (ok m)).N) (y : S352x1024.Idx) (z : S704x1024.Idx) (h0 : (z 0 : ℕ) = t.val * 352 + y 0) (h1 : z 1 = y 1) :
    iblk m (ok m) c 3 t y = m ((c : Thread nD τ).loc main_arg3) z := by
  show V m c main_arg3 (E3 m t y) = _
  rw [V_main_arg3, show E3 m t y = z from ext2 (Fin.ext ((e3_0 m t y).trans h0.symm)) ((e3_1 m t y).trans h1.symm)]
theorem b4 (t : Fin (cfgM m (ok m)).N) (y : S352x1024.Idx) (z : S704x1024.Idx) (h0 : (z 0 : ℕ) = t.val * 352 + y 0) (h1 : z 1 = y 1) :
    iblk m (ok m) c 4 t y = m ((c : Thread nD τ).loc main_arg4) z := by
  show V m c main_arg4 (E4 m t y) = _
  rw [V_main_arg4, show E4 m t y = z from ext2 (Fin.ext ((e4_0 m t y).trans h0.symm)) ((e4_1 m t y).trans h1.symm)]

/-- The gradient at an element. -/
theorem gpoint (t : Fin (cfgM m (ok m)).N) (A B : FVec Ideal S352x1024 .f32) (K : S1.Idx → BitVec 32) (y : S352x1024.Idx) (z : S704x1024.Idx)
    (h0 : (z 0 : ℕ) = t.val * 352 + y 0) (h1 : z 1 = y 1) :
    Scalar.select (Scalar.cmpi .eq (BitVec.ofNat 32 ((grid0.coords t) 0).val) (K (ix1 0))) (A y) (B y) = G A B K z := by
  pointwise [G]
  have hy : (y 0 : ℕ) < 352 := (y 0).isLt
  obtain ⟨hd, hm⟩ : (z 0 : ℕ) / 352 = t.val ∧ (z 0 : ℕ) % 352 = y 0 := by
    rw [h0]; generalize (y 0 : ℕ) = r at hy ⊢; omega
  have hc : ((grid0.coords t) 0).val = t.val := (by decide +kernel : ∀ t : Fin grid0.N, ((grid0.coords t) 0).val = t.val) t
  have hi : ∀ h, (ix2 ⟨(z 0 : ℕ) % 352, h⟩ (z 1) : S352x1024.Idx) = y := fun h => ext2 (Fin.ext hm) h1
  rw [hc, hi]
  exact congrArg (fun n => Scalar.select (Scalar.cmpi .eq (BitVec.ofNat 32 n) (K (ix1 0))) (A y) (B y)) hd.symm

theorem gpay (t : Fin (cfgM m (ok m)).N) (k : BitVec 32) (a b A B : FVec Ideal S352x1024 .f32) (K : S1.Idx → BitVec 32) (y : S352x1024.Idx) (z : S704x1024.Idx)
    (h0 : (z 0 : ℕ) = t.val * 352 + y 0) (h1 : z 1 = y 1) (hk : k = K (ix1 0)) (ha : a y = A y) (hb : b y = B y) :
    k0_pay1 (F := Ideal) (grid0.coords t) k a b y = G A B K z := by
  refine Eq.trans ?_ (gpoint m t A B K y z h0 h1)
  rw [← hk, ← ha, ← hb]
  pointwise [k0_pay1]

section
variable (t : Fin (cfgM m (ok m)).N) (i : grid0.Coords) (k : BitVec 32) (w a b p q : FVec Ideal S352x1024 .f32) (y : S352x1024.Idx) (z : S704x1024.Idx)
  (W M N : FVec Ideal S704x1024 .f32) (A B : FVec Ideal S352x1024 .f32) (K : S1.Idx → BitVec 32)

theorem point1 (hg : k0_pay1 (F := Ideal) i k a b y = G A B K z) (hp : p y = M z) : k0_pay2 (F := Ideal) i k a b p y = NM A B M K z := by
  pointwise [k0_pay2, NM]
  rw [hg, hp]
theorem point2 (hg : k0_pay1 (F := Ideal) i k a b y = G A B K z) (hq : q y = N z) : k0_pay3 (F := Ideal) i k a b q y = NV A B N K z := by
  pointwise [k0_pay3, NV]
  rw [hg, hq]
theorem point3 (hn : k0_pay2 (F := Ideal) i k a b p y = NM A B M K z) (hv : k0_pay3 (F := Ideal) i k a b q y = NV A B N K z)
    (hw : w y = W z) : k0_pay4 (F := Ideal) i k a b w p q y = D W A B M N K z := by
  pointwise [k0_pay4, D]
  rw [hn, hv, hw]
end

theorem table : View.readAt (Elt Ideal) (View.whole main_arg5) (Rect.unit ![0] ![1] inb_S1_S1_0).toLoadRect (tbl m 0) (Shape.Idx.first (by decide))
    = m ((c : Thread nD τ).loc main_arg5) (ix1 0) := by
  obtain rfl : c = 0 := Subsingleton.elim _ _
  show m _ _ = m _ _
  refine congrArg (m _) (funext fun i => ?_)
  match i with
  | ⟨0, _⟩ => rfl

theorem bread0 (t : Fin (cfgM m (ok m)).N) (y : S352x1024.Idx) (z : S704x1024.Idx) (h0 : (z 0 : ℕ) = t.val * 352 + y 0) (h1 : z 1 = y 1) :
    View.read (Elt Ideal) (ms0_0 m (ok m) t).view ((hs0_0 m (ok m) t).unread (iblk m (ok m) c 0 t)) y = m ((c : Thread nD τ).loc main_arg0) z :=
  (congrFun ((hs0_0 m (ok m) t).read_unread _) y).trans (b0 m c t y z h0 h1)
theorem bread3 (t : Fin (cfgM m (ok m)).N) (y : S352x1024.Idx) (z : S704x1024.Idx) (h0 : (z 0 : ℕ) = t.val * 352 + y 0) (h1 : z 1 = y 1) :
    View.read (Elt Ideal) (ms0_3 m (ok m) t).view ((hs0_3 m (ok m) t).unread (iblk m (ok m) c 3 t)) y = m ((c : Thread nD τ).loc main_arg3) z :=
  (congrFun ((hs0_3 m (ok m) t).read_unread _) y).trans (b3 m c t y z h0 h1)
theorem bread4 (t : Fin (cfgM m (ok m)).N) (y : S352x1024.Idx) (z : S704x1024.Idx) (h0 : (z 0 : ℕ) = t.val * 352 + y 0) (h1 : z 1 = y 1) :
    View.read (Elt Ideal) (ms0_4 m (ok m) t).view ((hs0_4 m (ok m) t).unread (iblk m (ok m) c 4 t)) y = m ((c : Thread nD τ).loc main_arg4) z :=
  (congrFun ((hs0_4 m (ok m) t).read_unread _) y).trans (b4 m c t y z h0 h1)
theorem gread (t : Fin (cfgM m (ok m)).N) (y : S352x1024.Idx) (z : S704x1024.Idx) (h0 : (z 0 : ℕ) = t.val * 352 + y 0) (h1 : z 1 = y 1) :
    k0_pay1 (F := Ideal) (grid0.coords t)
      (View.readAt (Elt Ideal) (View.whole main_arg5) (Rect.unit ![0] ![1] inb_S1_S1_0).toLoadRect (tbl m 0) (Shape.Idx.first (by decide)))
      (View.read (Elt Ideal) (ms0_1 m (ok m) t).view ((hs0_1 m (ok m) t).unread (iblk m (ok m) c 1 t)))
      (View.read (Elt Ideal) (ms0_2 m (ok m) t).view ((hs0_2 m (ok m) t).unread (iblk m (ok m) c 2 t))) y
      = G (m ((c : Thread nD τ).loc main_arg1)) (m ((c : Thread nD τ).loc main_arg2)) (m ((c : Thread nD τ).loc main_arg5)) z :=
  gpay m t _ _ _ _ _ _ y z h0 h1 (table m c) ((congrFun ((hs0_1 m (ok m) t).read_unread _) y).trans (b1 m c t y))
    ((congrFun ((hs0_2 m (ok m) t).read_unread _) y).trans (b2 m c t y))

theorem final5 : (dats m (ok m) 0 c).arrAt 5 (cfgM m (ok m)).N
    = G (m ((c : Thread nD τ).loc main_arg1)) (m ((c : Thread nD τ).loc main_arg2)) (m ((c : Thread nD τ).loc main_arg5)) := by
  refine (dats m (ok m) 0 c).arrAt_eq_of_covers 5 _ cov5 fun t _ y => ?_
  have p0 := e5_0 m t y
  have p1 := e5_1 m t y
  show (dats m (ok m) 0 c).after 5 t y = G _ _ _ (E5 m t y)
  generalize E5 m t y = z at p0 p1 ⊢
  rw [after0_5]
  unfold outsAt0
  frame_out
  have hg := gread m c t y z p0 p1
  exact hg
theorem final6 : (dats m (ok m) 0 c).arrAt 6 (cfgM m (ok m)).N
    = D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ cov6 fun t _ y => ?_
  have p0 := e6_0 m t y
  have p1 := e6_1 m t y
  show (dats m (ok m) 0 c).after 6 t y = D _ _ _ _ _ _ (E6 m t y)
  generalize E6 m t y = z at p0 p1 ⊢
  rw [after0_6]
  unfold outsAt0
  frame_out
  have hg := gread m c t y z p0 p1
  exact point3 _ _ _ _ _ _ _ _ _ _ _ _ _ _ _ (point1 _ _ _ _ _ _ _ _ _ _ _ hg (bread3 m c t y z p0 p1))
    (point2 _ _ _ _ _ _ _ _ _ _ _ hg (bread4 m c t y z p0 p1)) (bread0 m c t y z p0 p1)
theorem final7 : (dats m (ok m) 0 c).arrAt 7 (cfgM m (ok m)).N
    = NM (m ((c : Thread nD τ).loc main_arg1)) (m ((c : Thread nD τ).loc main_arg2)) (m ((c : Thread nD τ).loc main_arg3)) (m ((c : Thread nD τ).loc main_arg5)) := by
  refine (dats m (ok m) 0 c).arrAt_eq_of_covers 7 _ cov7 fun t _ y => ?_
  have p0 := e7_0 m t y
  have p1 := e7_1 m t y
  show (dats m (ok m) 0 c).after 7 t y = NM _ _ _ _ (E7 m t y)
  generalize E7 m t y = z at p0 p1 ⊢
  rw [after0_7]
  unfold outsAt0
  frame_out
  have hg := gread m c t y z p0 p1
  exact point1 _ _ _ _ _ _ _ _ _ _ _ hg (bread3 m c t y z p0 p1)
theorem final8 : (dats m (ok m) 0 c).arrAt 8 (cfgM m (ok m)).N
    = NV (m ((c : Thread nD τ).loc main_arg1)) (m ((c : Thread nD τ).loc main_arg2)) (m ((c : Thread nD τ).loc main_arg4)) (m ((c : Thread nD τ).loc main_arg5)) := by
  refine (dats m (ok m) 0 c).arrAt_eq_of_covers 8 _ cov8 fun t _ y => ?_
  have p0 := e8_0 m t y
  have p1 := e8_1 m t y
  show (dats m (ok m) 0 c).after 8 t y = NV _ _ _ _ (E8 m t y)
  generalize E8 m t y = z at p0 p1 ⊢
  rw [after0_8]
  unfold outsAt0
  frame_out
  have hg := gread m c t y z p0 p1
  exact point2 _ _ _ _ _ _ _ _ _ _ _ hg (bread4 m c t y z p0 p1)

/-- The run, its results read. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = G (m ((c : Thread nD τ).loc main_arg1)) (m ((c : Thread nD τ).loc main_arg2)) (m ((c : Thread nD τ).loc main_arg5))
      ∧ r.2.mem ((c.tc : Thread nD τ).loc main_v0_1) = D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2) = NM (m ((c : Thread nD τ).loc main_arg1)) (m ((c : Thread nD τ).loc main_arg2)) (m ((c : Thread nD τ).loc main_arg3)) (m ((c : Thread nD τ).loc main_arg5))
      ∧ r.2.mem ((c.tc : Thread nD τ).loc main_v0_3) = NV (m ((c : Thread nD τ).loc main_arg1)) (m ((c : Thread nD τ).loc main_arg2)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m c), ((h.1 c).1 6).trans (final6 m c),
    ((h.1 c).1 7).trans (final7 m c), ((h.1 c).1 8).trans (final8 m c), h.2 c⟩)
    (θ_run_and (run_main m ρ (ok m)) (unchanged m ρ (ok m)))

end Cert.Kernel9Ideal.Block

end
-- ==== Proof.Adam10.lean ====
/-
  One step of the optimiser for the weights of the mixer's projection in: a kernel that takes the two halves of the rows one after the other, each with the sum of gradients that belongs to this core or to the other.
-/
module

public import proofs.«01_k».proof.Proof.Gen.Kernel10Ideal.Frame
public import proofs.«01_k».proof.Proof.Gen.Reference10Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Reference10Ideal.Step

open Cert.Reference10Ideal Cert.Reference10Ideal.Gen Idealize.ShloMosaic Idealize.ShloMosaic.TcCoe

/-- The gradient: each half of the rows from the core that summed it. -/
def G (A B : FVec Ideal S400x1024 .f32) (K : S1.Idx → BitVec 32) : FVec Ideal S800x1024 .f32 :=
  shapeCast _ (select (broadcastInDim S2x400x1024 ![0, 1, 2] bcast_S2x1x1_S2x400x1024_0_1_2 (cmpi .eq (broadcastInDim S2x1x1 ![0] bcast_S2_S2x1x1_0 (iotaInDim S2 32 0)) (broadcastInDim S2x1x1 ![0, 1, 2] bcast_S1x1x1_S2x1x1_0_1_2 (broadcastInDim S1x1x1 ![2] bcast_S1_S1x1x1_2 K)))) (broadcastInDim S2x400x1024 ![1, 2] bcast_S400x1024_S2x400x1024_1_2 A) (broadcastInDim S2x400x1024 ![1, 2] bcast_S400x1024_S2x400x1024_1_2 B)) shapeCasts_S2x400x1024_S800x1024
/-- The first moment after the step. -/
def NM (A B : FVec Ideal S400x1024 .f32) (M : FVec Ideal S800x1024 .f32) (K : S1.Idx → BitVec 32) : FVec Ideal S800x1024 .f32 :=
  addf (mulf (broadcastInDim S800x1024 ![] bcast_S_S800x1024 (constant S_ .f32 0x3F666666#32)) M) (mulf (broadcastInDim S800x1024 ![] bcast_S_S800x1024 (constant S_ .f32 0x3DCCCCCD#32)) (G A B K))
/-- The second moment after the step. -/
def NV (A B : FVec Ideal S400x1024 .f32) (N : FVec Ideal S800x1024 .f32) (K : S1.Idx → BitVec 32) : FVec Ideal S800x1024 .f32 :=
  addf (mulf (broadcastInDim S800x1024 ![] bcast_S_S800x1024 (constant S_ .f32 0x3F7FBE77#32)) N) (mulf (broadcastInDim S800x1024 ![] bcast_S_S800x1024 (constant S_ .f32 0x3A83126F#32)) (mulf (G A B K) (G A B K)))
/-- The change of the weights. -/
def D (W : FVec Ideal S800x1024 .f32) (A B : FVec Ideal S400x1024 .f32) (M N : FVec Ideal S800x1024 .f32) (K : S1.Idx → BitVec 32) : FVec Ideal S800x1024 .f32 :=
  mulf (broadcastInDim S800x1024 ![] bcast_S_S800x1024 (constant S_ .f32 0xBA83126F#32)) (addf (Host.divf (Host.divf (NM A B M K) (broadcastInDim S800x1024 ![] bcast_S_S800x1024 (constant S_ .f32 0x3F26BD02#32))) (addf (Host.sqrt (Host.divf (NV A B N K) (broadcastInDim S800x1024 ![] bcast_S_S800x1024 (constant S_ .f32 0x3C231ACC#32)))) (broadcastInDim S800x1024 ![] bcast_S_S800x1024 (constant S_ .f32 0x322BCC77#32)))) (mulf (broadcastInDim S800x1024 ![] bcast_S_S800x1024 (constant S_ .f32 0x3C23D70A#32)) W))

end Cert.Reference10Ideal.Step

namespace Cert.Kernel10Ideal.Block

open Cert.Kernel10Ideal Cert.Kernel10Ideal.Gen Idealize.ShloMosaic Idealize.ShloMosaic.TcCoe Idealize.SL.Sem
open Cert.Reference10Ideal.Step (G NM NV D)

variable (m : (ℓ : Loc nD τ sig) → Buf (Elt Ideal) ℓ) (c : Dev nD)

/-- Nothing is asked of the table: no block's place depends on it. -/
theorem ok : Gen.Ok m := trivial

/-- A table of zeros, to speak of the blocks' places without a memory. -/
abbrev zero : (pcfg0 (F := Ideal)).Adm := ⟨fun | 0 => fun _ => 0#32, trivial⟩

/-- Where each grid point's blocks lie. -/
theorem idx0 : ∀ t : Fin (cfg0 zero).N, (win0 zero 0).index t = ![t.val, 0] ∧ (win0 zero 1).index t = ![0, 0] ∧ (win0 zero 2).index t = ![0, 0] ∧
    (win0 zero 3).index t = ![t.val, 0] ∧ (win0 zero 4).index t = ![t.val, 0] ∧ (win0 zero 5).index t = ![t.val, 0] ∧
    (win0 zero 6).index t = ![t.val, 0] ∧ (win0 zero 7).index t = ![t.val, 0] ∧ (win0 zero 8).index t = ![t.val, 0] := (by decide +kernel : ∀ t : Fin grid0.N, _)
theorem ext2 {a b : ℕ} {x y : (⟨2, ![a, b]⟩ : Shape).Idx} (h0 : x 0 = y 0) (h1 : x 1 = y 1) : x = y := by
  funext i
  match i with
  | 0 => exact h0
  | 1 => exact h1
theorem cov5 : (win0 zero 5).Covers := by decide +kernel
theorem cov6 : (win0 zero 6).Covers := by decide +kernel
theorem cov7 : (win0 zero 7).Covers := by decide +kernel
theorem cov8 : (win0 zero 8).Covers := by decide +kernel
theorem idx (t : Fin (cfgM m (ok m)).N) : ((cfgM m (ok m)).win 0).index t = ![t.val, 0] ∧ ((cfgM m (ok m)).win 1).index t = ![0, 0] ∧
    ((cfgM m (ok m)).win 2).index t = ![0, 0] ∧ ((cfgM m (ok m)).win 3).index t = ![t.val, 0] ∧ ((cfgM m (ok m)).win 4).index t = ![t.val, 0] ∧
    ((cfgM m (ok m)).win 5).index t = ![t.val, 0] ∧ ((cfgM m (ok m)).win 6).index t = ![t.val, 0] ∧ ((cfgM m (ok m)).win 7).index t = ![t.val, 0] ∧
    ((cfgM m (ok m)).win 8).index t = ![t.val, 0] := idx0 t

/-- Where window 0's block places an index. -/
abbrev E0 (t : Fin (cfgM m (ok m)).N) (y : S400x1024.Idx) : S800x1024.Idx := (((cfgM m (ok m)).win 0).blk t).view.emb y
theorem e0_0 (t : Fin (cfgM m (ok m)).N) (y : S400x1024.Idx) : (E0 m t y 0 : ℕ) = t.val * 400 + y 0 := by
  have h : (E0 m t y 0 : ℕ) = ((cfgM m (ok m)).win 0).index t (0 : Fin 2) * 400 + 1 * (y 0).val := rfl
  have g := congrFun (idx m t).1 (0 : Fin 2)
  rw [h, g, Nat.one_mul]
  simp
theorem e0_1 (t : Fin (cfgM m (ok m)).N) (y : S400x1024.Idx) : E0 m t y 1 = y 1 := by
  apply Fin.ext
  have h : (E0 m t y 1 : ℕ) = ((cfgM m (ok m)).win 0).index t (1 : Fin 2) * 1024 + 1 * (y 1).val := rfl
  have g := congrFun (idx m t).1 (1 : Fin 2)
  rw [h, g, Nat.one_mul]
  simp
/-- Where window 1's block places an index. -/
abbrev E1 (t : Fin (cfgM m (ok m)).N) (y : S400x1024.Idx) : S400x1024.Idx := (((cfgM m (ok m)).win 1).blk t).view.emb y
theorem e1_0 (t : Fin (cfgM m (ok m)).N) (y : S400x1024.Idx) : (E1 m t y 0 : ℕ) = (y 0 : ℕ) := by
  have h : (E1 m t y 0 : ℕ) = ((cfgM m (ok m)).win 1).index t (0 : Fin 2) * 400 + 1 * (y 0).val := rfl
  have g := congrFun (idx m t).2.1 (0 : Fin 2)
  rw [h, g, Nat.one_mul]
  simp
theorem e1_1 (t : Fin (cfgM m (ok m)).N) (y : S400x1024.Idx) : E1 m t y 1 = y 1 := by
  apply Fin.ext
  have h : (E1 m t y 1 : ℕ) = ((cfgM m (ok m)).win 1).index t (1 : Fin 2) * 1024 + 1 * (y 1).val := rfl
  have g := congrFun (idx m t).2.1 (1 : Fin 2)
  rw [h, g, Nat.one_mul]
  simp
/-- Where window 2's block places an index. -/
abbrev E2 (t : Fin (cfgM m (ok m)).N) (y : S400x1024.Idx) : S400x1024.Idx := (((cfgM m (ok m)).win 2).blk t).view.emb y
theorem e2_0 (t : Fin (cfgM m (ok m)).N) (y : S400x1024.Idx) : (E2 m t y 0 : ℕ) = (y 0 : ℕ) := by
  have h : (E2 m t y 0 : ℕ) = ((cfgM m (ok m)).win 2).index t (0 : Fin 2) * 400 + 1 * (y 0).val := rfl
  have g := congrFun (idx m t).2.2.1 (0 : Fin 2)
  rw [h, g, Nat.one_mul]
  simp
theorem e2_1 (t : Fin (cfgM m (ok m)).N) (y : S400x1024.Idx) : E2 m t y 1 = y 1 := by
  apply Fin.ext
  have h : (E2 m t y 1 : ℕ) = ((cfgM m (ok m)).win 2).index t (1 : Fin 2) * 1024 + 1 * (y 1).val := rfl
  have g := congrFun (idx m t).2.2.1 (1 : Fin 2)
  rw [h, g, Nat.one_mul]
  simp
/-- Where window 3's block places an index. -/
abbrev E3 (t : Fin (cfgM m (ok m)).N) (y : S400x1024.Idx) : S800x1024.Idx := (((cfgM m (ok m)).win 3).blk t).view.emb y
theorem e3_0 (t : Fin (cfgM m (ok m)).N) (y : S400x1024.Idx) : (E3 m t y 0 : ℕ) = t.val * 400 + y 0 := by
  have h : (E3 m t y 0 : ℕ) = ((cfgM m (ok m)).win 3).index t (0 : Fin 2) * 400 + 1 * (y 0).val := rfl
  have g := congrFun (idx m t).2.2.2.1 (0 : Fin 2)
  rw [h, g, Nat.one_mul]
  simp
theorem e3_1 (t : Fin (cfgM m (ok m)).N) (y : S400x1024.Idx) : E3 m t y 1 = y 1 := by
  apply Fin.ext
  have h : (E3 m t y 1 : ℕ) = ((cfgM m (ok m)).win 3).index t (1 : Fin 2) * 1024 + 1 * (y 1).val := rfl
  have g := congrFun (idx m t).2.2.2.1 (1 : Fin 2)
  rw [h, g, Nat.one_mul]
  simp
/-- Where window 4's block places an index. -/
abbrev E4 (t : Fin (cfgM m (ok m)).N) (y : S400x1024.Idx) : S800x1024.Idx := (((cfgM m (ok m)).win 4).blk t).view.emb y
theorem e4_0 (t : Fin (cfgM m (ok m)).N) (y : S400x1024.Idx) : (E4 m t y 0 : ℕ) = t.val * 400 + y 0 := by
  have h : (E4 m t y 0 : ℕ) = ((cfgM m (ok m)).win 4).index t (0 : Fin 2) * 400 + 1 * (y 0).val := rfl
  have g := congrFun (idx m t).2.2.2.2.1 (0 : Fin 2)
  rw [h, g, Nat.one_mul]
  simp
theorem e4_1 (t : Fin (cfgM m (ok m)).N) (y : S400x1024.Idx) : E4 m t y 1 = y 1 := by
  apply Fin.ext
  have h : (E4 m t y 1 : ℕ) = ((cfgM m (ok m)).win 4).index t (1 : Fin 2) * 1024 + 1 * (y 1).val := rfl
  have g := congrFun (idx m t).2.2.2.2.1 (1 : Fin 2)
  rw [h, g, Nat.one_mul]
  simp
/-- Where window 5's block places an index. -/
abbrev E5 (t : Fin (cfgM m (ok m)).N) (y : S400x1024.Idx) : S800x1024.Idx := (((cfgM m (ok m)).win 5).blk t).view.emb y
theorem e5_0 (t : Fin (cfgM m (ok m)).N) (y : S400x1024.Idx) : (E5 m t y 0 : ℕ) = t.val * 400 + y 0 := by
  have h : (E5 m t y 0 : ℕ) = ((cfgM m (ok m)).win 5).index t (0 : Fin 2) * 400 + 1 * (y 0).val := rfl
  have g := congrFun (idx m t).2.2.2.2.2.1 (0 : Fin 2)
  rw [h, g, Nat.one_mul]
  simp
theorem e5_1 (t : Fin (cfgM m (ok m)).N) (y : S400x1024.Idx) : E5 m t y 1 = y 1 := by
  apply Fin.ext
  have h : (E5 m t y 1 : ℕ) = ((cfgM m (ok m)).win 5).index t (1 : Fin 2) * 1024 + 1 * (y 1).val := rfl
  have g := congrFun (idx m t).2.2.2.2.2.1 (1 : Fin 2)
  rw [h, g, Nat.one_mul]
  simp
/-- Where window 6's block places an index. -/
abbrev E6 (t : Fin (cfgM m (ok m)).N) (y : S400x1024.Idx) : S800x1024.Idx := (((cfgM m (ok m)).win 6).blk t).view.emb y
theorem e6_0 (t : Fin (cfgM m (ok m)).N) (y : S400x1024.Idx) : (E6 m t y 0 : ℕ) = t.val * 400 + y 0 := by
  have h : (E6 m t y 0 : ℕ) = ((cfgM m (ok m)).win 6).index t (0 : Fin 2) * 400 + 1 * (y 0).val := rfl
  have g := congrFun (idx m t).2.2.2.2.2.2.1 (0 : Fin 2)
  rw [h, g, Nat.one_mul]
  simp
theorem e6_1 (t : Fin (cfgM m (ok m)).N) (y : S400x1024.Idx) : E6 m t y 1 = y 1 := by
  apply Fin.ext
  have h : (E6 m t y 1 : ℕ) = ((cfgM m (ok m)).win 6).index t (1 : Fin 2) * 1024 + 1 * (y 1).val := rfl
  have g := congrFun (idx m t).2.2.2.2.2.2.1 (1 : Fin 2)
  rw [h, g, Nat.one_mul]
  simp
/-- Where window 7's block places an index. -/
abbrev E7 (t : Fin (cfgM m (ok m)).N) (y : S400x1024.Idx) : S800x1024.Idx := (((cfgM m (ok m)).win 7).blk t).view.emb y
theorem e7_0 (t : Fin (cfgM m (ok m)).N) (y : S400x1024.Idx) : (E7 m t y 0 : ℕ) = t.val * 400 + y 0 := by
  have h : (E7 m t y 0 : ℕ) = ((cfgM m (ok m)).win 7).index t (0 : Fin 2) * 400 + 1 * (y 0).val := rfl
  have g := congrFun (idx m t).2.2.2.2.2.2.2.1 (0 : Fin 2)
  rw [h, g, Nat.one_mul]
  simp
theorem e7_1 (t : Fin (cfgM m (ok m)).N) (y : S400x1024.Idx) : E7 m t y 1 = y 1 := by
  apply Fin.ext
  have h : (E7 m t y 1 : ℕ) = ((cfgM m (ok m)).win 7).index t (1 : Fin 2) * 1024 + 1 * (y 1).val := rfl
  have g := congrFun (idx m t).2.2.2.2.2.2.2.1 (1 : Fin 2)
  rw [h, g, Nat.one_mul]
  simp
/-- Where window 8's block places an index. -/
abbrev E8 (t : Fin (cfgM m (ok m)).N) (y : S400x1024.Idx) : S800x1024.Idx := (((cfgM m (ok m)).win 8).blk t).view.emb y
theorem e8_0 (t : Fin (cfgM m (ok m)).N) (y : S400x1024.Idx) : (E8 m t y 0 : ℕ) = t.val * 400 + y 0 := by
  have h : (E8 m t y 0 : ℕ) = ((cfgM m (ok m)).win 8).index t (0 : Fin 2) * 400 + 1 * (y 0).val := rfl
  have g := congrFun (idx m t).2.2.2.2.2.2.2.2 (0 : Fin 2)
  rw [h, g, Nat.one_mul]
  simp
theorem e8_1 (t : Fin (cfgM m (ok m)).N) (y : S400x1024.Idx) : E8 m t y 1 = y 1 := by
  apply Fin.ext
  have h : (E8 m t y 1 : ℕ) = ((cfgM m (ok m)).win 8).index t (1 : Fin 2) * 1024 + 1 * (y 1).val := rfl
  have g := congrFun (idx m t).2.2.2.2.2.2.2.2 (1 : Fin 2)
  rw [h, g, Nat.one_mul]
  simp
theorem b0 (t : Fin (cfgM m (ok m)).N) (y : S400x1024.Idx) (z : S800x1024.Idx) (h0 : (z 0 : ℕ) = t.val * 400 + y 0) (h1 : z 1 = y 1) :
    iblk m (ok m) c 0 t y = m ((c : Thread nD τ).loc main_arg0) z := by
  show V m c main_arg0 (E0 m t y) = _
  rw [V_main_arg0, show E0 m t y = z from ext2 (Fin.ext ((e0_0 m t y).trans h0.symm)) ((e0_1 m t y).trans h1.symm)]
theorem b1 (t : Fin (cfgM m (ok m)).N) (y : S400x1024.Idx) : iblk m (ok m) c 1 t y = m ((c : Thread nD τ).loc main_arg1) y := by
  show V m c main_arg1 (E1 m t y) = _
  rw [V_main_arg1, show E1 m t y = y from ext2 (Fin.ext (e1_0 m t y)) (e1_1 m t y)]
theorem b2 (t : Fin (cfgM m (ok m)).N) (y : S400x1024.Idx) : iblk m (ok m) c 2 t y = m ((c : Thread nD τ).loc main_arg2) y := by
  show V m c main_arg2 (E2 m t y) = _
  rw [V_main_arg2, show E2 m t y = y from ext2 (Fin.ext (e2_0 m t y)) (e2_1 m t y)]
theorem b3 (t : Fin (cfgM m (ok m)).N) (y : S400x1024.Idx) (z : S800x1024.Idx) (h0 : (z 0 : ℕ) = t.val * 400 + y 0) (h1 : z 1 = y 1) :
    iblk m (ok m) c 3 t y = m ((c : Thread nD τ).loc main_arg3) z := by
  show V m c main_arg3 (E3 m t y) = _
  rw [V_main_arg3, show E3 m t y = z from ext2 (Fin.ext ((e3_0 m t y).trans h0.symm)) ((e3_1 m t y).trans h1.symm)]
theorem b4 (t : Fin (cfgM m (ok m)).N) (y : S400x1024.Idx) (z : S800x1024.Idx) (h0 : (z 0 : ℕ) = t.val * 400 + y 0) (h1 : z 1 = y 1) :
    iblk m (ok m) c 4 t y = m ((c : Thread nD τ).loc main_arg4) z := by
  show V m c main_arg4 (E4 m t y) = _
  rw [V_main_arg4, show E4 m t y = z from ext2 (Fin.ext ((e4_0 m t y).trans h0.symm)) ((e4_1 m t y).trans h1.symm)]

/-- The gradient at an element. -/
theorem gpoint (t : Fin (cfgM m (ok m)).N) (A B : FVec Ideal S400x1024 .f32) (K : S1.Idx → BitVec 32) (y : S400x1024.Idx) (z : S800x1024.Idx)
    (h0 : (z 0 : ℕ) = t.val * 400 + y 0) (h1 : z 1 = y 1) :
    Scalar.select (Scalar.cmpi .eq (BitVec.ofNat 32 ((grid0.coords t) 0).val) (K (ix1 0))) (A y) (B y) = G A B K z := by
  pointwise [G]
  have hy : (y 0 : ℕ) < 400 := (y 0).isLt
  obtain ⟨hd, hm⟩ : (z 0 : ℕ) / 400 = t.val ∧ (z 0 : ℕ) % 400 = y 0 := by
    rw [h0]; generalize (y 0 : ℕ) = r at hy ⊢; omega
  have hc : ((grid0.coords t) 0).val = t.val := (by decide +kernel : ∀ t : Fin grid0.N, ((grid0.coords t) 0).val = t.val) t
  have hi : ∀ h, (ix2 ⟨(z 0 : ℕ) % 400, h⟩ (z 1) : S400x1024.Idx) = y := fun h => ext2 (Fin.ext hm) h1
  rw [hc, hi]
  exact congrArg (fun n => Scalar.select (Scalar.cmpi .eq (BitVec.ofNat 32 n) (K (ix1 0))) (A y) (B y)) hd.symm

theorem gpay (t : Fin (cfgM m (ok m)).N) (k : BitVec 32) (a b A B : FVec Ideal S400x1024 .f32) (K : S1.Idx → BitVec 32) (y : S400x1024.Idx) (z : S800x1024.Idx)
    (h0 : (z 0 : ℕ) = t.val * 400 + y 0) (h1 : z 1 = y 1) (hk : k = K (ix1 0)) (ha : a y = A y) (hb : b y = B y) :
    k0_pay1 (F := Ideal) (grid0.coords t) k a b y = G A B K z := by
  refine Eq.trans ?_ (gpoint m t A B K y z h0 h1)
  rw [← hk, ← ha, ← hb]
  pointwise [k0_pay1]

section
variable (t : Fin (cfgM m (ok m)).N) (i : grid0.Coords) (k : BitVec 32) (w a b p q : FVec Ideal S400x1024 .f32) (y : S400x1024.Idx) (z : S800x1024.Idx)
  (W M N : FVec Ideal S800x1024 .f32) (A B : FVec Ideal S400x1024 .f32) (K : S1.Idx → BitVec 32)

theorem point1 (hg : k0_pay1 (F := Ideal) i k a b y = G A B K z) (hp : p y = M z) : k0_pay2 (F := Ideal) i k a b p y = NM A B M K z := by
  pointwise [k0_pay2, NM]
  rw [hg, hp]
theorem point2 (hg : k0_pay1 (F := Ideal) i k a b y = G A B K z) (hq : q y = N z) : k0_pay3 (F := Ideal) i k a b q y = NV A B N K z := by
  pointwise [k0_pay3, NV]
  rw [hg, hq]
theorem point3 (hn : k0_pay2 (F := Ideal) i k a b p y = NM A B M K z) (hv : k0_pay3 (F := Ideal) i k a b q y = NV A B N K z)
    (hw : w y = W z) : k0_pay4 (F := Ideal) i k a b w p q y = D W A B M N K z := by
  pointwise [k0_pay4, D]
  rw [hn, hv, hw]
end

theorem table : View.readAt (Elt Ideal) (View.whole main_arg5) (Rect.unit ![0] ![1] inb_S1_S1_0).toLoadRect (tbl m 0) (Shape.Idx.first (by decide))
    = m ((c : Thread nD τ).loc main_arg5) (ix1 0) := by
  obtain rfl : c = 0 := Subsingleton.elim _ _
  show m _ _ = m _ _
  refine congrArg (m _) (funext fun i => ?_)
  match i with
  | ⟨0, _⟩ => rfl

theorem bread0 (t : Fin (cfgM m (ok m)).N) (y : S400x1024.Idx) (z : S800x1024.Idx) (h0 : (z 0 : ℕ) = t.val * 400 + y 0) (h1 : z 1 = y 1) :
    View.read (Elt Ideal) (ms0_0 m (ok m) t).view ((hs0_0 m (ok m) t).unread (iblk m (ok m) c 0 t)) y = m ((c : Thread nD τ).loc main_arg0) z :=
  (congrFun ((hs0_0 m (ok m) t).read_unread _) y).trans (b0 m c t y z h0 h1)
theorem bread3 (t : Fin (cfgM m (ok m)).N) (y : S400x1024.Idx) (z : S800x1024.Idx) (h0 : (z 0 : ℕ) = t.val * 400 + y 0) (h1 : z 1 = y 1) :
    View.read (Elt Ideal) (ms0_3 m (ok m) t).view ((hs0_3 m (ok m) t).unread (iblk m (ok m) c 3 t)) y = m ((c : Thread nD τ).loc main_arg3) z :=
  (congrFun ((hs0_3 m (ok m) t).read_unread _) y).trans (b3 m c t y z h0 h1)
theorem bread4 (t : Fin (cfgM m (ok m)).N) (y : S400x1024.Idx) (z : S800x1024.Idx) (h0 : (z 0 : ℕ) = t.val * 400 + y 0) (h1 : z 1 = y 1) :
    View.read (Elt Ideal) (ms0_4 m (ok m) t).view ((hs0_4 m (ok m) t).unread (iblk m (ok m) c 4 t)) y = m ((c : Thread nD τ).loc main_arg4) z :=
  (congrFun ((hs0_4 m (ok m) t).read_unread _) y).trans (b4 m c t y z h0 h1)
theorem gread (t : Fin (cfgM m (ok m)).N) (y : S400x1024.Idx) (z : S800x1024.Idx) (h0 : (z 0 : ℕ) = t.val * 400 + y 0) (h1 : z 1 = y 1) :
    k0_pay1 (F := Ideal) (grid0.coords t)
      (View.readAt (Elt Ideal) (View.whole main_arg5) (Rect.unit ![0] ![1] inb_S1_S1_0).toLoadRect (tbl m 0) (Shape.Idx.first (by decide)))
      (View.read (Elt Ideal) (ms0_1 m (ok m) t).view ((hs0_1 m (ok m) t).unread (iblk m (ok m) c 1 t)))
      (View.read (Elt Ideal) (ms0_2 m (ok m) t).view ((hs0_2 m (ok m) t).unread (iblk m (ok m) c 2 t))) y
      = G (m ((c : Thread nD τ).loc main_arg1)) (m ((c : Thread nD τ).loc main_arg2)) (m ((c : Thread nD τ).loc main_arg5)) z :=
  gpay m t _ _ _ _ _ _ y z h0 h1 (table m c) ((congrFun ((hs0_1 m (ok m) t).read_unread _) y).trans (b1 m c t y))
    ((congrFun ((hs0_2 m (ok m) t).read_unread _) y).trans (b2 m c t y))

theorem final5 : (dats m (ok m) 0 c).arrAt 5 (cfgM m (ok m)).N
    = G (m ((c : Thread nD τ).loc main_arg1)) (m ((c : Thread nD τ).loc main_arg2)) (m ((c : Thread nD τ).loc main_arg5)) := by
  refine (dats m (ok m) 0 c).arrAt_eq_of_covers 5 _ cov5 fun t _ y => ?_
  have p0 := e5_0 m t y
  have p1 := e5_1 m t y
  show (dats m (ok m) 0 c).after 5 t y = G _ _ _ (E5 m t y)
  generalize E5 m t y = z at p0 p1 ⊢
  rw [after0_5]
  unfold outsAt0
  frame_out
  have hg := gread m c t y z p0 p1
  exact hg
theorem final6 : (dats m (ok m) 0 c).arrAt 6 (cfgM m (ok m)).N
    = D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ cov6 fun t _ y => ?_
  have p0 := e6_0 m t y
  have p1 := e6_1 m t y
  show (dats m (ok m) 0 c).after 6 t y = D _ _ _ _ _ _ (E6 m t y)
  generalize E6 m t y = z at p0 p1 ⊢
  rw [after0_6]
  unfold outsAt0
  frame_out
  have hg := gread m c t y z p0 p1
  exact point3 _ _ _ _ _ _ _ _ _ _ _ _ _ _ _ (point1 _ _ _ _ _ _ _ _ _ _ _ hg (bread3 m c t y z p0 p1))
    (point2 _ _ _ _ _ _ _ _ _ _ _ hg (bread4 m c t y z p0 p1)) (bread0 m c t y z p0 p1)
theorem final7 : (dats m (ok m) 0 c).arrAt 7 (cfgM m (ok m)).N
    = NM (m ((c : Thread nD τ).loc main_arg1)) (m ((c : Thread nD τ).loc main_arg2)) (m ((c : Thread nD τ).loc main_arg3)) (m ((c : Thread nD τ).loc main_arg5)) := by
  refine (dats m (ok m) 0 c).arrAt_eq_of_covers 7 _ cov7 fun t _ y => ?_
  have p0 := e7_0 m t y
  have p1 := e7_1 m t y
  show (dats m (ok m) 0 c).after 7 t y = NM _ _ _ _ (E7 m t y)
  generalize E7 m t y = z at p0 p1 ⊢
  rw [after0_7]
  unfold outsAt0
  frame_out
  have hg := gread m c t y z p0 p1
  exact point1 _ _ _ _ _ _ _ _ _ _ _ hg (bread3 m c t y z p0 p1)
theorem final8 : (dats m (ok m) 0 c).arrAt 8 (cfgM m (ok m)).N
    = NV (m ((c : Thread nD τ).loc main_arg1)) (m ((c : Thread nD τ).loc main_arg2)) (m ((c : Thread nD τ).loc main_arg4)) (m ((c : Thread nD τ).loc main_arg5)) := by
  refine (dats m (ok m) 0 c).arrAt_eq_of_covers 8 _ cov8 fun t _ y => ?_
  have p0 := e8_0 m t y
  have p1 := e8_1 m t y
  show (dats m (ok m) 0 c).after 8 t y = NV _ _ _ _ (E8 m t y)
  generalize E8 m t y = z at p0 p1 ⊢
  rw [after0_8]
  unfold outsAt0
  frame_out
  have hg := gread m c t y z p0 p1
  exact point2 _ _ _ _ _ _ _ _ _ _ _ hg (bread4 m c t y z p0 p1)

/-- The run, its results read. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = G (m ((c : Thread nD τ).loc main_arg1)) (m ((c : Thread nD τ).loc main_arg2)) (m ((c : Thread nD τ).loc main_arg5))
      ∧ r.2.mem ((c.tc : Thread nD τ).loc main_v0_1) = D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2) = NM (m ((c : Thread nD τ).loc main_arg1)) (m ((c : Thread nD τ).loc main_arg2)) (m ((c : Thread nD τ).loc main_arg3)) (m ((c : Thread nD τ).loc main_arg5))
      ∧ r.2.mem ((c.tc : Thread nD τ).loc main_v0_3) = NV (m ((c : Thread nD τ).loc main_arg1)) (m ((c : Thread nD τ).loc main_arg2)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m c), ((h.1 c).1 6).trans (final6 m c),
    ((h.1 c).1 7).trans (final7 m c), ((h.1 c).1 8).trans (final8 m c), h.2 c⟩)
    (θ_run_and (run_main m ρ (ok m)) (unchanged m ρ (ok m)))

end Cert.Kernel10Ideal.Block

end
-- ==== Proof.Adam11.lean ====
/-
  One step of the optimiser for the weights of the mixer's projection out: a kernel that takes the two halves of the rows one after the other, each with the sum of gradients that belongs to this core or to the other.
-/
module

public import proofs.«01_k».proof.Proof.Gen.Kernel11Ideal.Frame
public import proofs.«01_k».proof.Proof.Gen.Reference11Ideal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.Reference11Ideal.Step

open Cert.Reference11Ideal Cert.Reference11Ideal.Gen Idealize.ShloMosaic Idealize.ShloMosaic.TcCoe

/-- The gradient: each half of the rows from the core that summed it. -/
def G (A B : FVec Ideal S128x1024 .f32) (K : S1.Idx → BitVec 32) : FVec Ideal S256x1024 .f32 :=
  shapeCast _ (select (broadcastInDim S2x128x1024 ![0, 1, 2] bcast_S2x1x1_S2x128x1024_0_1_2 (cmpi .eq (broadcastInDim S2x1x1 ![0] bcast_S2_S2x1x1_0 (iotaInDim S2 32 0)) (broadcastInDim S2x1x1 ![0, 1, 2] bcast_S1x1x1_S2x1x1_0_1_2 (broadcastInDim S1x1x1 ![2] bcast_S1_S1x1x1_2 K)))) (broadcastInDim S2x128x1024 ![1, 2] bcast_S128x1024_S2x128x1024_1_2 A) (broadcastInDim S2x128x1024 ![1, 2] bcast_S128x1024_S2x128x1024_1_2 B)) shapeCasts_S2x128x1024_S256x1024
/-- The first moment after the step. -/
def NM (A B : FVec Ideal S128x1024 .f32) (M : FVec Ideal S256x1024 .f32) (K : S1.Idx → BitVec 32) : FVec Ideal S256x1024 .f32 :=
  addf (mulf (broadcastInDim S256x1024 ![] bcast_S_S256x1024 (constant S_ .f32 0x3F666666#32)) M) (mulf (broadcastInDim S256x1024 ![] bcast_S_S256x1024 (constant S_ .f32 0x3DCCCCCD#32)) (G A B K))
/-- The second moment after the step. -/
def NV (A B : FVec Ideal S128x1024 .f32) (N : FVec Ideal S256x1024 .f32) (K : S1.Idx → BitVec 32) : FVec Ideal S256x1024 .f32 :=
  addf (mulf (broadcastInDim S256x1024 ![] bcast_S_S256x1024 (constant S_ .f32 0x3F7FBE77#32)) N) (mulf (broadcastInDim S256x1024 ![] bcast_S_S256x1024 (constant S_ .f32 0x3A83126F#32)) (mulf (G A B K) (G A B K)))
/-- The change of the weights. -/
def D (W : FVec Ideal S256x1024 .f32) (A B : FVec Ideal S128x1024 .f32) (M N : FVec Ideal S256x1024 .f32) (K : S1.Idx → BitVec 32) : FVec Ideal S256x1024 .f32 :=
  mulf (broadcastInDim S256x1024 ![] bcast_S_S256x1024 (constant S_ .f32 0xBA83126F#32)) (addf (Host.divf (Host.divf (NM A B M K) (broadcastInDim S256x1024 ![] bcast_S_S256x1024 (constant S_ .f32 0x3F26BD02#32))) (addf (Host.sqrt (Host.divf (NV A B N K) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) W))

end Cert.Reference11Ideal.Step

namespace Cert.Kernel11Ideal.Block

open Cert.Kernel11Ideal Cert.Kernel11Ideal.Gen Idealize.ShloMosaic Idealize.ShloMosaic.TcCoe Idealize.SL.Sem
open Cert.Reference11Ideal.Step (G NM NV D)

variable (m : (ℓ : Loc nD τ sig) → Buf (Elt Ideal) ℓ) (c : Dev nD)

/-- Nothing is asked of the table: no block's place depends on it. -/
theorem ok : Gen.Ok m := trivial

/-- A table of zeros, to speak of the blocks' places without a memory. -/
abbrev zero : (pcfg0 (F := Ideal)).Adm := ⟨fun | 0 => fun _ => 0#32, trivial⟩

/-- Where each grid point's blocks lie. -/
theorem idx0 : ∀ t : Fin (cfg0 zero).N, (win0 zero 0).index t = ![t.val, 0] ∧ (win0 zero 1).index t = ![0, 0] ∧ (win0 zero 2).index t = ![0, 0] ∧
    (win0 zero 3).index t = ![t.val, 0] ∧ (win0 zero 4).index t = ![t.val, 0] ∧ (win0 zero 5).index t = ![t.val, 0] ∧
    (win0 zero 6).index t = ![t.val, 0] ∧ (win0 zero 7).index t = ![t.val, 0] ∧ (win0 zero 8).index t = ![t.val, 0] := (by decide +kernel : ∀ t : Fin grid0.N, _)
theorem ext2 {a b : ℕ} {x y : (⟨2, ![a, b]⟩ : Shape).Idx} (h0 : x 0 = y 0) (h1 : x 1 = y 1) : x = y := by
  funext i
  match i with
  | 0 => exact h0
  | 1 => exact h1
theorem cov5 : (win0 zero 5).Covers := by decide +kernel
theorem cov6 : (win0 zero 6).Covers := by decide +kernel
theorem cov7 : (win0 zero 7).Covers := by decide +kernel
theorem cov8 : (win0 zero 8).Covers := by decide +kernel
theorem idx (t : Fin (cfgM m (ok m)).N) : ((cfgM m (ok m)).win 0).index t = ![t.val, 0] ∧ ((cfgM m (ok m)).win 1).index t = ![0, 0] ∧
    ((cfgM m (ok m)).win 2).index t = ![0, 0] ∧ ((cfgM m (ok m)).win 3).index t = ![t.val, 0] ∧ ((cfgM m (ok m)).win 4).index t = ![t.val, 0] ∧
    ((cfgM m (ok m)).win 5).index t = ![t.val, 0] ∧ ((cfgM m (ok m)).win 6).index t = ![t.val, 0] ∧ ((cfgM m (ok m)).win 7).index t = ![t.val, 0] ∧
    ((cfgM m (ok m)).win 8).index t = ![t.val, 0] := idx0 t

/-- Where window 0's block places an index. -/
abbrev E0 (t : Fin (cfgM m (ok m)).N) (y : S128x1024.Idx) : S256x1024.Idx := (((cfgM m (ok m)).win 0).blk t).view.emb y
theorem e0_0 (t : Fin (cfgM m (ok m)).N) (y : S128x1024.Idx) : (E0 m t y 0 : ℕ) = t.val * 128 + y 0 := by
  have h : (E0 m t y 0 : ℕ) = ((cfgM m (ok m)).win 0).index t (0 : Fin 2) * 128 + 1 * (y 0).val := rfl
  have g := congrFun (idx m t).1 (0 : Fin 2)
  rw [h, g, Nat.one_mul]
  simp
theorem e0_1 (t : Fin (cfgM m (ok m)).N) (y : S128x1024.Idx) : E0 m t y 1 = y 1 := by
  apply Fin.ext
  have h : (E0 m t y 1 : ℕ) = ((cfgM m (ok m)).win 0).index t (1 : Fin 2) * 1024 + 1 * (y 1).val := rfl
  have g := congrFun (idx m t).1 (1 : Fin 2)
  rw [h, g, Nat.one_mul]
  simp
/-- Where window 1's block places an index. -/
abbrev E1 (t : Fin (cfgM m (ok m)).N) (y : S128x1024.Idx) : S128x1024.Idx := (((cfgM m (ok m)).win 1).blk t).view.emb y
theorem e1_0 (t : Fin (cfgM m (ok m)).N) (y : S128x1024.Idx) : (E1 m t y 0 : ℕ) = (y 0 : ℕ) := by
  have h : (E1 m t y 0 : ℕ) = ((cfgM m (ok m)).win 1).index t (0 : Fin 2) * 128 + 1 * (y 0).val := rfl
  have g := congrFun (idx m t).2.1 (0 : Fin 2)
  rw [h, g, Nat.one_mul]
  simp
theorem e1_1 (t : Fin (cfgM m (ok m)).N) (y : S128x1024.Idx) : E1 m t y 1 = y 1 := by
  apply Fin.ext
  have h : (E1 m t y 1 : ℕ) = ((cfgM m (ok m)).win 1).index t (1 : Fin 2) * 1024 + 1 * (y 1).val := rfl
  have g := congrFun (idx m t).2.1 (1 : Fin 2)
  rw [h, g, Nat.one_mul]
  simp
/-- Where window 2's block places an index. -/
abbrev E2 (t : Fin (cfgM m (ok m)).N) (y : S128x1024.Idx) : S128x1024.Idx := (((cfgM m (ok m)).win 2).blk t).view.emb y
theorem e2_0 (t : Fin (cfgM m (ok m)).N) (y : S128x1024.Idx) : (E2 m t y 0 : ℕ) = (y 0 : ℕ) := by
  have h : (E2 m t y 0 : ℕ) = ((cfgM m (ok m)).win 2).index t (0 : Fin 2) * 128 + 1 * (y 0).val := rfl
  have g := congrFun (idx m t).2.2.1 (0 : Fin 2)
  rw [h, g, Nat.one_mul]
  simp
theorem e2_1 (t : Fin (cfgM m (ok m)).N) (y : S128x1024.Idx) : E2 m t y 1 = y 1 := by
  apply Fin.ext
  have h : (E2 m t y 1 : ℕ) = ((cfgM m (ok m)).win 2).index t (1 : Fin 2) * 1024 + 1 * (y 1).val := rfl
  have g := congrFun (idx m t).2.2.1 (1 : Fin 2)
  rw [h, g, Nat.one_mul]
  simp
/-- Where window 3's block places an index. -/
abbrev E3 (t : Fin (cfgM m (ok m)).N) (y : S128x1024.Idx) : S256x1024.Idx := (((cfgM m (ok m)).win 3).blk t).view.emb y
theorem e3_0 (t : Fin (cfgM m (ok m)).N) (y : S128x1024.Idx) : (E3 m t y 0 : ℕ) = t.val * 128 + y 0 := by
  have h : (E3 m t y 0 : ℕ) = ((cfgM m (ok m)).win 3).index t (0 : Fin 2) * 128 + 1 * (y 0).val := rfl
  have g := congrFun (idx m t).2.2.2.1 (0 : Fin 2)
  rw [h, g, Nat.one_mul]
  simp
theorem e3_1 (t : Fin (cfgM m (ok m)).N) (y : S128x1024.Idx) : E3 m t y 1 = y 1 := by
  apply Fin.ext
  have h : (E3 m t y 1 : ℕ) = ((cfgM m (ok m)).win 3).index t (1 : Fin 2) * 1024 + 1 * (y 1).val := rfl
  have g := congrFun (idx m t).2.2.2.1 (1 : Fin 2)
  rw [h, g, Nat.one_mul]
  simp
/-- Where window 4's block places an index. -/
abbrev E4 (t : Fin (cfgM m (ok m)).N) (y : S128x1024.Idx) : S256x1024.Idx := (((cfgM m (ok m)).win 4).blk t).view.emb y
theorem e4_0 (t : Fin (cfgM m (ok m)).N) (y : S128x1024.Idx) : (E4 m t y 0 : ℕ) = t.val * 128 + y 0 := by
  have h : (E4 m t y 0 : ℕ) = ((cfgM m (ok m)).win 4).index t (0 : Fin 2) * 128 + 1 * (y 0).val := rfl
  have g := congrFun (idx m t).2.2.2.2.1 (0 : Fin 2)
  rw [h, g, Nat.one_mul]
  simp
theorem e4_1 (t : Fin (cfgM m (ok m)).N) (y : S128x1024.Idx) : E4 m t y 1 = y 1 := by
  apply Fin.ext
  have h : (E4 m t y 1 : ℕ) = ((cfgM m (ok m)).win 4).index t (1 : Fin 2) * 1024 + 1 * (y 1).val := rfl
  have g := congrFun (idx m t).2.2.2.2.1 (1 : Fin 2)
  rw [h, g, Nat.one_mul]
  simp
/-- Where window 5's block places an index. -/
abbrev E5 (t : Fin (cfgM m (ok m)).N) (y : S128x1024.Idx) : S256x1024.Idx := (((cfgM m (ok m)).win 5).blk t).view.emb y
theorem e5_0 (t : Fin (cfgM m (ok m)).N) (y : S128x1024.Idx) : (E5 m t y 0 : ℕ) = t.val * 128 + y 0 := by
  have h : (E5 m t y 0 : ℕ) = ((cfgM m (ok m)).win 5).index t (0 : Fin 2) * 128 + 1 * (y 0).val := rfl
  have g := congrFun (idx m t).2.2.2.2.2.1 (0 : Fin 2)
  rw [h, g, Nat.one_mul]
  simp
theorem e5_1 (t : Fin (cfgM m (ok m)).N) (y : S128x1024.Idx) : E5 m t y 1 = y 1 := by
  apply Fin.ext
  have h : (E5 m t y 1 : ℕ) = ((cfgM m (ok m)).win 5).index t (1 : Fin 2) * 1024 + 1 * (y 1).val := rfl
  have g := congrFun (idx m t).2.2.2.2.2.1 (1 : Fin 2)
  rw [h, g, Nat.one_mul]
  simp
/-- Where window 6's block places an index. -/
abbrev E6 (t : Fin (cfgM m (ok m)).N) (y : S128x1024.Idx) : S256x1024.Idx := (((cfgM m (ok m)).win 6).blk t).view.emb y
theorem e6_0 (t : Fin (cfgM m (ok m)).N) (y : S128x1024.Idx) : (E6 m t y 0 : ℕ) = t.val * 128 + y 0 := by
  have h : (E6 m t y 0 : ℕ) = ((cfgM m (ok m)).win 6).index t (0 : Fin 2) * 128 + 1 * (y 0).val := rfl
  have g := congrFun (idx m t).2.2.2.2.2.2.1 (0 : Fin 2)
  rw [h, g, Nat.one_mul]
  simp
theorem e6_1 (t : Fin (cfgM m (ok m)).N) (y : S128x1024.Idx) : E6 m t y 1 = y 1 := by
  apply Fin.ext
  have h : (E6 m t y 1 : ℕ) = ((cfgM m (ok m)).win 6).index t (1 : Fin 2) * 1024 + 1 * (y 1).val := rfl
  have g := congrFun (idx m t).2.2.2.2.2.2.1 (1 : Fin 2)
  rw [h, g, Nat.one_mul]
  simp
/-- Where window 7's block places an index. -/
abbrev E7 (t : Fin (cfgM m (ok m)).N) (y : S128x1024.Idx) : S256x1024.Idx := (((cfgM m (ok m)).win 7).blk t).view.emb y
theorem e7_0 (t : Fin (cfgM m (ok m)).N) (y : S128x1024.Idx) : (E7 m t y 0 : ℕ) = t.val * 128 + y 0 := by
  have h : (E7 m t y 0 : ℕ) = ((cfgM m (ok m)).win 7).index t (0 : Fin 2) * 128 + 1 * (y 0).val := rfl
  have g := congrFun (idx m t).2.2.2.2.2.2.2.1 (0 : Fin 2)
  rw [h, g, Nat.one_mul]
  simp
theorem e7_1 (t : Fin (cfgM m (ok m)).N) (y : S128x1024.Idx) : E7 m t y 1 = y 1 := by
  apply Fin.ext
  have h : (E7 m t y 1 : ℕ) = ((cfgM m (ok m)).win 7).index t (1 : Fin 2) * 1024 + 1 * (y 1).val := rfl
  have g := congrFun (idx m t).2.2.2.2.2.2.2.1 (1 : Fin 2)
  rw [h, g, Nat.one_mul]
  simp
/-- Where window 8's block places an index. -/
abbrev E8 (t : Fin (cfgM m (ok m)).N) (y : S128x1024.Idx) : S256x1024.Idx := (((cfgM m (ok m)).win 8).blk t).view.emb y
theorem e8_0 (t : Fin (cfgM m (ok m)).N) (y : S128x1024.Idx) : (E8 m t y 0 : ℕ) = t.val * 128 + y 0 := by
  have h : (E8 m t y 0 : ℕ) = ((cfgM m (ok m)).win 8).index t (0 : Fin 2) * 128 + 1 * (y 0).val := rfl
  have g := congrFun (idx m t).2.2.2.2.2.2.2.2 (0 : Fin 2)
  rw [h, g, Nat.one_mul]
  simp
theorem e8_1 (t : Fin (cfgM m (ok m)).N) (y : S128x1024.Idx) : E8 m t y 1 = y 1 := by
  apply Fin.ext
  have h : (E8 m t y 1 : ℕ) = ((cfgM m (ok m)).win 8).index t (1 : Fin 2) * 1024 + 1 * (y 1).val := rfl
  have g := congrFun (idx m t).2.2.2.2.2.2.2.2 (1 : Fin 2)
  rw [h, g, Nat.one_mul]
  simp
theorem b0 (t : Fin (cfgM m (ok m)).N) (y : S128x1024.Idx) (z : S256x1024.Idx) (h0 : (z 0 : ℕ) = t.val * 128 + y 0) (h1 : z 1 = y 1) :
    iblk m (ok m) c 0 t y = m ((c : Thread nD τ).loc main_arg0) z := by
  show V m c main_arg0 (E0 m t y) = _
  rw [V_main_arg0, show E0 m t y = z from ext2 (Fin.ext ((e0_0 m t y).trans h0.symm)) ((e0_1 m t y).trans h1.symm)]
theorem b1 (t : Fin (cfgM m (ok m)).N) (y : S128x1024.Idx) : iblk m (ok m) c 1 t y = m ((c : Thread nD τ).loc main_arg1) y := by
  show V m c main_arg1 (E1 m t y) = _
  rw [V_main_arg1, show E1 m t y = y from ext2 (Fin.ext (e1_0 m t y)) (e1_1 m t y)]
theorem b2 (t : Fin (cfgM m (ok m)).N) (y : S128x1024.Idx) : iblk m (ok m) c 2 t y = m ((c : Thread nD τ).loc main_arg2) y := by
  show V m c main_arg2 (E2 m t y) = _
  rw [V_main_arg2, show E2 m t y = y from ext2 (Fin.ext (e2_0 m t y)) (e2_1 m t y)]
theorem b3 (t : Fin (cfgM m (ok m)).N) (y : S128x1024.Idx) (z : S256x1024.Idx) (h0 : (z 0 : ℕ) = t.val * 128 + y 0) (h1 : z 1 = y 1) :
    iblk m (ok m) c 3 t y = m ((c : Thread nD τ).loc main_arg3) z := by
  show V m c main_arg3 (E3 m t y) = _
  rw [V_main_arg3, show E3 m t y = z from ext2 (Fin.ext ((e3_0 m t y).trans h0.symm)) ((e3_1 m t y).trans h1.symm)]
theorem b4 (t : Fin (cfgM m (ok m)).N) (y : S128x1024.Idx) (z : S256x1024.Idx) (h0 : (z 0 : ℕ) = t.val * 128 + y 0) (h1 : z 1 = y 1) :
    iblk m (ok m) c 4 t y = m ((c : Thread nD τ).loc main_arg4) z := by
  show V m c main_arg4 (E4 m t y) = _
  rw [V_main_arg4, show E4 m t y = z from ext2 (Fin.ext ((e4_0 m t y).trans h0.symm)) ((e4_1 m t y).trans h1.symm)]

/-- The gradient at an element. -/
theorem gpoint (t : Fin (cfgM m (ok m)).N) (A B : FVec Ideal S128x1024 .f32) (K : S1.Idx → BitVec 32) (y : S128x1024.Idx) (z : S256x1024.Idx)
    (h0 : (z 0 : ℕ) = t.val * 128 + y 0) (h1 : z 1 = y 1) :
    Scalar.select (Scalar.cmpi .eq (BitVec.ofNat 32 ((grid0.coords t) 0).val) (K (ix1 0))) (A y) (B y) = G A B K z := by
  pointwise [G]
  have hy : (y 0 : ℕ) < 128 := (y 0).isLt
  obtain ⟨hd, hm⟩ : (z 0 : ℕ) / 128 = t.val ∧ (z 0 : ℕ) % 128 = y 0 := by
    rw [h0]; generalize (y 0 : ℕ) = r at hy ⊢; omega
  have hc : ((grid0.coords t) 0).val = t.val := (by decide +kernel : ∀ t : Fin grid0.N, ((grid0.coords t) 0).val = t.val) t
  have hi : ∀ h, (ix2 ⟨(z 0 : ℕ) % 128, h⟩ (z 1) : S128x1024.Idx) = y := fun h => ext2 (Fin.ext hm) h1
  rw [hc, hi]
  exact congrArg (fun n => Scalar.select (Scalar.cmpi .eq (BitVec.ofNat 32 n) (K (ix1 0))) (A y) (B y)) hd.symm

theorem gpay (t : Fin (cfgM m (ok m)).N) (k : BitVec 32) (a b A B : FVec Ideal S128x1024 .f32) (K : S1.Idx → BitVec 32) (y : S128x1024.Idx) (z : S256x1024.Idx)
    (h0 : (z 0 : ℕ) = t.val * 128 + y 0) (h1 : z 1 = y 1) (hk : k = K (ix1 0)) (ha : a y = A y) (hb : b y = B y) :
    k0_pay1 (F := Ideal) (grid0.coords t) k a b y = G A B K z := by
  refine Eq.trans ?_ (gpoint m t A B K y z h0 h1)
  rw [← hk, ← ha, ← hb]
  pointwise [k0_pay1]

section
variable (t : Fin (cfgM m (ok m)).N) (i : grid0.Coords) (k : BitVec 32) (w a b p q : FVec Ideal S128x1024 .f32) (y : S128x1024.Idx) (z : S256x1024.Idx)
  (W M N : FVec Ideal S256x1024 .f32) (A B : FVec Ideal S128x1024 .f32) (K : S1.Idx → BitVec 32)

theorem point1 (hg : k0_pay1 (F := Ideal) i k a b y = G A B K z) (hp : p y = M z) : k0_pay2 (F := Ideal) i k a b p y = NM A B M K z := by
  pointwise [k0_pay2, NM]
  rw [hg, hp]
theorem point2 (hg : k0_pay1 (F := Ideal) i k a b y = G A B K z) (hq : q y = N z) : k0_pay3 (F := Ideal) i k a b q y = NV A B N K z := by
  pointwise [k0_pay3, NV]
  rw [hg, hq]
theorem point3 (hn : k0_pay2 (F := Ideal) i k a b p y = NM A B M K z) (hv : k0_pay3 (F := Ideal) i k a b q y = NV A B N K z)
    (hw : w y = W z) : k0_pay4 (F := Ideal) i k a b w p q y = D W A B M N K z := by
  pointwise [k0_pay4, D]
  rw [hn, hv, hw]
end

theorem table : View.readAt (Elt Ideal) (View.whole main_arg5) (Rect.unit ![0] ![1] inb_S1_S1_0).toLoadRect (tbl m 0) (Shape.Idx.first (by decide))
    = m ((c : Thread nD τ).loc main_arg5) (ix1 0) := by
  obtain rfl : c = 0 := Subsingleton.elim _ _
  show m _ _ = m _ _
  refine congrArg (m _) (funext fun i => ?_)
  match i with
  | ⟨0, _⟩ => rfl

theorem bread0 (t : Fin (cfgM m (ok m)).N) (y : S128x1024.Idx) (z : S256x1024.Idx) (h0 : (z 0 : ℕ) = t.val * 128 + y 0) (h1 : z 1 = y 1) :
    View.read (Elt Ideal) (ms0_0 m (ok m) t).view ((hs0_0 m (ok m) t).unread (iblk m (ok m) c 0 t)) y = m ((c : Thread nD τ).loc main_arg0) z :=
  (congrFun ((hs0_0 m (ok m) t).read_unread _) y).trans (b0 m c t y z h0 h1)
theorem bread3 (t : Fin (cfgM m (ok m)).N) (y : S128x1024.Idx) (z : S256x1024.Idx) (h0 : (z 0 : ℕ) = t.val * 128 + y 0) (h1 : z 1 = y 1) :
    View.read (Elt Ideal) (ms0_3 m (ok m) t).view ((hs0_3 m (ok m) t).unread (iblk m (ok m) c 3 t)) y = m ((c : Thread nD τ).loc main_arg3) z :=
  (congrFun ((hs0_3 m (ok m) t).read_unread _) y).trans (b3 m c t y z h0 h1)
theorem bread4 (t : Fin (cfgM m (ok m)).N) (y : S128x1024.Idx) (z : S256x1024.Idx) (h0 : (z 0 : ℕ) = t.val * 128 + y 0) (h1 : z 1 = y 1) :
    View.read (Elt Ideal) (ms0_4 m (ok m) t).view ((hs0_4 m (ok m) t).unread (iblk m (ok m) c 4 t)) y = m ((c : Thread nD τ).loc main_arg4) z :=
  (congrFun ((hs0_4 m (ok m) t).read_unread _) y).trans (b4 m c t y z h0 h1)
theorem gread (t : Fin (cfgM m (ok m)).N) (y : S128x1024.Idx) (z : S256x1024.Idx) (h0 : (z 0 : ℕ) = t.val * 128 + y 0) (h1 : z 1 = y 1) :
    k0_pay1 (F := Ideal) (grid0.coords t)
      (View.readAt (Elt Ideal) (View.whole main_arg5) (Rect.unit ![0] ![1] inb_S1_S1_0).toLoadRect (tbl m 0) (Shape.Idx.first (by decide)))
      (View.read (Elt Ideal) (ms0_1 m (ok m) t).view ((hs0_1 m (ok m) t).unread (iblk m (ok m) c 1 t)))
      (View.read (Elt Ideal) (ms0_2 m (ok m) t).view ((hs0_2 m (ok m) t).unread (iblk m (ok m) c 2 t))) y
      = G (m ((c : Thread nD τ).loc main_arg1)) (m ((c : Thread nD τ).loc main_arg2)) (m ((c : Thread nD τ).loc main_arg5)) z :=
  gpay m t _ _ _ _ _ _ y z h0 h1 (table m c) ((congrFun ((hs0_1 m (ok m) t).read_unread _) y).trans (b1 m c t y))
    ((congrFun ((hs0_2 m (ok m) t).read_unread _) y).trans (b2 m c t y))

theorem final5 : (dats m (ok m) 0 c).arrAt 5 (cfgM m (ok m)).N
    = G (m ((c : Thread nD τ).loc main_arg1)) (m ((c : Thread nD τ).loc main_arg2)) (m ((c : Thread nD τ).loc main_arg5)) := by
  refine (dats m (ok m) 0 c).arrAt_eq_of_covers 5 _ cov5 fun t _ y => ?_
  have p0 := e5_0 m t y
  have p1 := e5_1 m t y
  show (dats m (ok m) 0 c).after 5 t y = G _ _ _ (E5 m t y)
  generalize E5 m t y = z at p0 p1 ⊢
  rw [after0_5]
  unfold outsAt0
  frame_out
  have hg := gread m c t y z p0 p1
  exact hg
theorem final6 : (dats m (ok m) 0 c).arrAt 6 (cfgM m (ok m)).N
    = D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ cov6 fun t _ y => ?_
  have p0 := e6_0 m t y
  have p1 := e6_1 m t y
  show (dats m (ok m) 0 c).after 6 t y = D _ _ _ _ _ _ (E6 m t y)
  generalize E6 m t y = z at p0 p1 ⊢
  rw [after0_6]
  unfold outsAt0
  frame_out
  have hg := gread m c t y z p0 p1
  exact point3 _ _ _ _ _ _ _ _ _ _ _ _ _ _ _ (point1 _ _ _ _ _ _ _ _ _ _ _ hg (bread3 m c t y z p0 p1))
    (point2 _ _ _ _ _ _ _ _ _ _ _ hg (bread4 m c t y z p0 p1)) (bread0 m c t y z p0 p1)
theorem final7 : (dats m (ok m) 0 c).arrAt 7 (cfgM m (ok m)).N
    = NM (m ((c : Thread nD τ).loc main_arg1)) (m ((c : Thread nD τ).loc main_arg2)) (m ((c : Thread nD τ).loc main_arg3)) (m ((c : Thread nD τ).loc main_arg5)) := by
  refine (dats m (ok m) 0 c).arrAt_eq_of_covers 7 _ cov7 fun t _ y => ?_
  have p0 := e7_0 m t y
  have p1 := e7_1 m t y
  show (dats m (ok m) 0 c).after 7 t y = NM _ _ _ _ (E7 m t y)
  generalize E7 m t y = z at p0 p1 ⊢
  rw [after0_7]
  unfold outsAt0
  frame_out
  have hg := gread m c t y z p0 p1
  exact point1 _ _ _ _ _ _ _ _ _ _ _ hg (bread3 m c t y z p0 p1)
theorem final8 : (dats m (ok m) 0 c).arrAt 8 (cfgM m (ok m)).N
    = NV (m ((c : Thread nD τ).loc main_arg1)) (m ((c : Thread nD τ).loc main_arg2)) (m ((c : Thread nD τ).loc main_arg4)) (m ((c : Thread nD τ).loc main_arg5)) := by
  refine (dats m (ok m) 0 c).arrAt_eq_of_covers 8 _ cov8 fun t _ y => ?_
  have p0 := e8_0 m t y
  have p1 := e8_1 m t y
  show (dats m (ok m) 0 c).after 8 t y = NV _ _ _ _ (E8 m t y)
  generalize E8 m t y = z at p0 p1 ⊢
  rw [after0_8]
  unfold outsAt0
  frame_out
  have hg := gread m c t y z p0 p1
  exact point2 _ _ _ _ _ _ _ _ _ _ _ hg (bread4 m c t y z p0 p1)

/-- The run, its results read. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = G (m ((c : Thread nD τ).loc main_arg1)) (m ((c : Thread nD τ).loc main_arg2)) (m ((c : Thread nD τ).loc main_arg5))
      ∧ r.2.mem ((c.tc : Thread nD τ).loc main_v0_1) = D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2) = NM (m ((c : Thread nD τ).loc main_arg1)) (m ((c : Thread nD τ).loc main_arg2)) (m ((c : Thread nD τ).loc main_arg3)) (m ((c : Thread nD τ).loc main_arg5))
      ∧ r.2.mem ((c.tc : Thread nD τ).loc main_v0_3) = NV (m ((c : Thread nD τ).loc main_arg1)) (m ((c : Thread nD τ).loc main_arg2)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m c), ((h.1 c).1 6).trans (final6 m c),
    ((h.1 c).1 7).trans (final7 m c), ((h.1 c).1 8).trans (final8 m c), h.2 c⟩)
    (θ_run_and (run_main m ρ (ok m)) (unchanged m ρ (ok m)))

end Cert.Kernel11Ideal.Block

end
-- ==== Proof.FfnIOff.lean ====
module

public import proofs.«01_k».proof.Proof.Gen.Kernel12Ideal.Skeleton
public import proofs.«01_k».proof.Proof.Gen.Kernel12Ideal.Frame

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point of the one grid axis. -/
def at33 (i : Fin 33) : grid0.Coords := fun a => match a with | ⟨0, _⟩ => i

theorem off1_eq : ∀ i : Fin 33, k0_off1 (at33 i) = ![(i.val + 1) % 2, 0, 0] := by decide +kernel
theorem off2_eq : ∀ i : Fin 33, k0_off2 (at33 i) = ![i.val % 2, 0, 0] := by decide +kernel

theorem coords_at (i : grid0.Coords) : i = at33 (i 0) := by
  funext a
  match a with
  | ⟨0, _⟩ => rfl

/-- The slot a point reads is the other one. -/
instance offRead (i : grid0.Coords) : ClosedOff (k0_off1 i) :=
  ⟨![((i 0).val + 1) % 2, 0, 0], by
    have h := off1_eq (i 0)
    rwa [← coords_at i] at h⟩

/-- The slot a point writes alternates with the point. -/
instance offWrite (i : grid0.Coords) : ClosedOff (k0_off2 i) :=
  ⟨![(i 0).val % 2, 0, 0], by
    have h := off2_eq (i 0)
    rwa [← coords_at i] at h⟩

/-- A whole buffer that holds an array's values holds the array. -/
theorem owns_unread (c : Dev nD) {s : Shape} {e : EltTy} {arg : Memref sig .tc .vmem s e} (h : arg.IsWhole) (x : Vec F s e) :
    (arg.view.loc c.tc ↦[arg.view.set]{fullShare} h.unread x : sProp 𝕄)
      ⊢ (iprop(∃ f, ⌜arg.view.read (Elt F) f = x⌝ ∗ (arg.view.loc c.tc ↦[arg.view.set]{fullShare} f)) : sProp 𝕄) := by
  iintro H
  iexists _; isplitr; · ipureintro; exact h.read_unread _
  iexact H

end Cert.Kernel12Ideal.Ffn

end
-- ==== Proof.FfnIDef.lean ====
module

public import proofs.«01_k».proof.Proof.FfnIOff
public import Idealize.ShloMosaic.Lib.VecWindow

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable {sig' : RefSig} {κ : Kind} {sp : Space} {e : EltTy} {Val : EltTy → Type} {r : ℕ} {sz : Fin r → ℕ}

/-- A load of a whole buffer, its sizes written out. -/
theorem readAt_all (v : View sig' κ sp ⟨r, sz⟩ e) (f : v.ty.Contents Val) {off : Fin r → ℕ} (inb : ∀ a, off a + sz a ≤ (⟨r, sz⟩ : Shape).size a) :
    v.readAt Val (Rect.unit (s := ⟨r, sz⟩) off sz inb).toLoadRect f = v.read Val f :=
  View.readAt_full v f inb

/-- A store of a whole buffer, its sizes written out. -/
theorem read_writes_all (v : View sig' κ sp ⟨r, sz⟩ e) (f : v.ty.Contents Val) {off : Fin r → ℕ} (inb : ∀ a, off a + sz a ≤ (⟨r, sz⟩ : Shape).size a)
    (w : (Rect.unit (s := ⟨r, sz⟩) off sz inb).shape.Idx → Val e) (L : List (View.Piece Val ⟨r, sz⟩ e)) :
    v.read Val (v.writes Val f (⟨Rect.unit (s := ⟨r, sz⟩) off sz inb, w⟩ :: L)) = w :=
  View.read_writes_full v f inb w L

end Whole
/-- The slot a point reads: the one the point before filled. -/
def slotOf (i : grid0.Coords) (X : Vec F S2x512x704 .bf16) : Vec F S1x512x704 .bf16 :=
  VecWindow.window X (k0_off1 i) S1x512x704.size (k0_off1_inb i)

/-- The two slots with the one this point fills replaced. -/
def fillOf (i : grid0.Coords) (X : Vec F S2x512x704 .bf16) (w : Vec F S1x512x704 .bf16) : Vec F S2x512x704 .bf16 :=
  VecWindow.put X (k0_off2 i) S1x512x704.size w

/-- The running sum after a point: the two products over the shard the point before prepared, added. -/
def accOf (i : grid0.Coords) (acc : Vec F S512x1024 .f32) (A : Vec F S2x512x704 .bf16) (wg : Vec F S1x704x1024 .bf16)
    (U : Vec F S2x512x704 .bf16) (wu : Vec F S1x704x1024 .bf16) : Vec F S512x1024 .f32 :=
  k0_pay24 acc (slotOf i A) wg (slotOf i U) wu

theorem readAt_slot {sig' : RefSig} {κ : Kind} {sp : Space} (i : grid0.Coords) (v : View sig' κ sp S2x512x704 .bf16) (f : v.ty.Contents (Elt F))
    (inb : ∀ a : Fin 3, k0_off1 i a + ![1, 512, 704] a ≤ ![2, 512, 704] a) :
    v.readAt (Elt F) (Rect.unit (s := S2x512x704) (k0_off1 i) ![1, 512, 704] inb).toLoadRect f = slotOf i (v.read (Elt F) f) :=
  View.readAt_unit v f inb rfl (k0_off1_inb i)

theorem read_writes_slot {sig' : RefSig} {κ : Kind} {sp : Space} (i : grid0.Coords) (v : View sig' κ sp S2x512x704 .bf16) (f : v.ty.Contents (Elt F))
    (inb : ∀ a : Fin 3, k0_off2 i a + ![1, 512, 704] a ≤ ![2, 512, 704] a)
    (w : (Rect.unit (s := S2x512x704) (k0_off2 i) ![1, 512, 704] inb).shape.Idx → Elt F .bf16) (L : List (View.Piece (Elt F) S2x512x704 .bf16)) :
    v.read (Elt F) (v.writes (Elt F) f (⟨Rect.unit (s := S2x512x704) (k0_off2 i) ![1, 512, 704] inb, w⟩ :: L))
      = fillOf i (v.read (Elt F) (v.writes (Elt F) f L)) w :=
  View.read_writes_cons_put v f inb w L rfl

end Cert.Kernel12Ideal.Ffn

end
-- ==== Proof.FfnStage.lean ====
/-
  The gradient of the feed-forward layer's input: what the kernel's body computes, of blocks that hold real numbers.
-/
module

public import proofs.«01_k».proof.Proof.FfnIDef
public import proofs.«01_k».proof.Proof.Rms
public import Idealize.ShloMosaic.Lib.Pipeline.ValueKit
public import Idealize.ShloMosaic.Lib.Claim
public import Idealize.ShloMosaic.Lib.Pointwise

@[expose] public section

set_option maxRecDepth 16384

noncomputable section

namespace Cert.Kernel12Ideal.Stage

open Cert.Kernel12Ideal Cert.Kernel12Ideal.Gen Cert.Gla Cert.Mix Idealize.ShloMosaic

theorem c_half : Ideal.ofBits .f32 0x3F000000#32 = ((1 / 2 : ℝ) : EReal) := by
  simp [Ideal.ofBits, Ideal.ieee, -EReal.coe_mul]; norm_num

theorem c_one : Ideal.ofBits .f32 0x3F800000#32 = ((1 : ℝ) : EReal) := by
  simp [Ideal.ofBits, Ideal.ieee, -EReal.coe_mul]; norm_num

/-- The sigmoid. -/
def sg (x : ℝ) : ℝ := 1 / (1 + Real.exp (-x))

theorem logistic_sg (x : ℝ) : Ideal.logistic (x : EReal) = ((sg x : ℝ) : EReal) := by
  rw [Ideal.logistic_coe]
  refine congrArg _ ?_
  unfold sg
  first | rfl | simp

variable (X Y Z : Fin 512 → Fin 1024 → ℝ) (W W' : Fin 1 → Fin 704 → Fin 1024 → ℝ) (A U : Fin 1 → Fin 512 → Fin 704 → ℝ)

/-- Half the cotangent. -/
theorem p13 : k0_pay13 (F := Ideal) (lift2 X) = lift2 fun r a => 1 / 2 * X r a := by
  funext y
  idx_vars y
  pointwise [k0_pay13]
  simp only [lift2_ix, c_half, ← EReal.coe_mul]

/-- The gradient of the hidden layer. -/
theorem p14 : k0_pay14 (F := Ideal) (lift2 X) (lift3 W) = lift2 fun r j => ∑ k, X r k * W 0 j k := by
  funext y
  idx_vars y
  pointwise [k0_pay14]
  simp only [lift2_ix, lift3_ix, ← EReal.coe_mul, coe_sum]

theorem p15 : k0_pay15 (F := Ideal) (lift3 A) = lift2 fun r j => A 0 r j := by
  funext y
  idx_vars y
  pointwise [k0_pay15]
  simp only [lift2_ix, lift3_ix]

theorem p16 : k0_pay16 (F := Ideal) (lift3 A) = lift2 fun r j => A 0 r j := by
  funext y
  idx_vars y
  pointwise [k0_pay16]
  simp only [lift2_ix, lift3_ix]

theorem p17 : k0_pay17 (F := Ideal) (lift3 A) = lift2 fun r j => sg (A 0 r j) := by
  funext y
  idx_vars y
  pointwise [k0_pay17, p15]
  simp only [lift2_ix, logistic_sg]

theorem p18 : k0_pay18 (F := Ideal) (lift3 A) = lift2 fun r j => A 0 r j * sg (A 0 r j) := by
  funext y
  idx_vars y
  pointwise [k0_pay18, p15, p17]
  simp only [lift2_ix, ← EReal.coe_mul]

theorem p20 : k0_pay20 (F := Ideal) (lift2 X) (lift3 W) (lift3 A) = lift2 fun r j => (∑ k, X r k * W 0 j k) * (A 0 r j * sg (A 0 r j)) := by
  funext y
  idx_vars y
  pointwise [k0_pay20, p14, p18]
  simp only [lift2_ix, ← EReal.coe_mul]

theorem p21 : k0_pay21 (F := Ideal) (lift2 X) (lift3 W) (lift3 A) (lift3 U)
    = lift2 fun r j => (∑ k, X r k * W 0 j k) * U 0 r j * (sg (A 0 r j) * (1 + A 0 r j * (1 - sg (A 0 r j)))) := by
  funext y
  idx_vars y
  pointwise [k0_pay21, p14, p15, p16, p17]
  simp only [lift2_ix, c_one, one_coe, ← EReal.coe_mul, ← EReal.coe_add, ← EReal.coe_sub]

variable (B : Fin 512 → Fin 704 → ℝ)

theorem p1 : k0_pay1 (F := Ideal) (lift2 B) = lift3 fun _ r j => B r j := by
  funext y
  idx_vars y
  pointwise [k0_pay1]
  simp only [lift2_ix, lift3_ix]

theorem p25 : k0_pay25 (F := Ideal) (lift2 B) = lift3 fun _ r j => B r j := by
  funext y
  idx_vars y
  pointwise [k0_pay25]
  simp only [lift2_ix, lift3_ix]

/-- The running sum takes two products up. -/
theorem p24 : k0_pay24 (F := Ideal) (lift2 X) (lift3 A) (lift3 W) (lift3 U) (lift3 W')
    = lift2 fun r k => X r k + (∑ j, A 0 r j * W 0 j k + ∑ j, U 0 r j * W' 0 j k) := by
  funext y
  idx_vars y
  pointwise [k0_pay24]
  simp only [lift2_ix, lift3_ix, ← EReal.coe_mul, ← EReal.coe_add, coe_sum]

theorem p4 : k0_pay4 (F := Ideal) (lift2 X) = lift2 fun r _ => scale (X r) := by
  funext y
  idx_vars y
  pointwise [k0_pay4]
  simp only [lift2_ix, div_1024, rsqrt_scale, c_1024, c_eps, ← EReal.coe_mul, ← EReal.coe_add, coe_sum]

theorem p5 : k0_pay5 (F := Ideal) (lift2 X) = lift2 fun r a => X r a * scale (X r) := by
  funext y
  idx_vars y
  pointwise [k0_pay5, p4]
  simp only [lift2_ix, ← EReal.coe_mul]

theorem p6 (g : Fin 1 → Fin 1024 → ℝ) :
    k0_pay6 (F := Ideal) (lift2 X) (lift2 Y) (lift2 g) (lift2 Z) = lift2 fun r a => Z r a + back (X r) (g 0) (Y r) a := by
  funext y
  idx_vars y
  pointwise [k0_pay6, p4, p5]
  simp only [lift2_ix, div_1024, c_1024, ← EReal.coe_mul, ← EReal.coe_add, ← EReal.coe_sub, coe_sum]
  rfl

theorem p7 (g : Fin 1 → Fin 1024 → ℝ) :
    k0_pay7 (F := Ideal) (lift2 X) (lift2 Y) (lift2 g) = lift2 fun (u : Fin 1) a => g u a + ∑ r, X r a * (Y r a * scale (Y r)) := by
  funext y
  idx_vars y
  pointwise [k0_pay7, p5]
  simp only [lift2_ix, ← EReal.coe_mul, ← EReal.coe_add, coe_sum]

/-- The gradient of the heads. -/
theorem p3 (w : Fin 1024 → Fin 1024 → ℝ) :
    k0_pay3 (F := Ideal) (lift2 X) (lift2 w) = lift2 fun r k => ∑ a, X r a * w k a := by
  funext y
  idx_vars y
  pointwise [k0_pay3]
  simp only [lift2_ix, ← EReal.coe_mul, coe_sum]

theorem p28 : k0_pay2 (F := Ideal) k0_pay8 = lift2 fun _ _ => 0 := by
  funext y
  idx_vars y
  pointwise [k0_pay2, k0_pay8]
  rfl

theorem p9 : k0_pay9 (F := Ideal) = lift2 fun _ _ => 0 := by
  funext y
  idx_vars y
  pointwise [k0_pay9]
  rfl

theorem p10 : k0_pay10 (F := Ideal) = lift2 fun _ _ => 0 := by
  funext y
  idx_vars y
  pointwise [k0_pay10]
  rfl

theorem p11 : k0_pay11 (F := Ideal) = lift3 fun _ _ _ => 0 := by
  funext y
  idx_vars y
  pointwise [k0_pay11]
  first | rfl | simp [Ideal.ofBits, Ideal.ieee, lift3]

theorem p12 : k0_pay12 (F := Ideal) = lift3 fun _ _ _ => 0 := by
  funext y
  idx_vars y
  pointwise [k0_pay12]
  first | rfl | simp [Ideal.ofBits, Ideal.ieee, lift3]

end Cert.Kernel12Ideal.Stage

end
-- ==== Proof.FfnIDat.lean ====
module

public import proofs.«01_k».proof.Proof.FfnIDef
public import Idealize.ShloMosaic.Lib.Pipeline.TableIdle

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' memrefs and blocks, and the scratch -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x704 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x704 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x704x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x704x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x704x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512x704 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512x704 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x512x704 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x1024 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x1024 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x1024 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x1024 .f32 := win0_16.stage (cfg0.slots t 16)
abbrev hs16 (t : Fin cfg0.N) : (ms16 t).IsWhole := hstage0_16 ((cfg0.slots t 16).cast nbuf0_16)
abbrev scM0 : Memref sig .tc .vmem S512x1024 .f32 := Memref.whole cc0_scratch0
abbrev scM1 : Memref sig .tc .vmem S2x512x704 .bf16 := Memref.whole cc0_scratch1
abbrev scM2 : Memref sig .tc .vmem S2x512x704 .bf16 := Memref.whole cc0_scratch2

variable (m : (ℓ : Loc nD τ sig) → Buf (Elt F) ℓ) (ρ : Dev nD → PrngReg)

/-- Window 0's block at a point. -/
abbrev b1 (c : Dev nD) (t : Fin cfg0.N) : Vec F S512x1024 .f32 := iblk m c 0 t
/-- Window 1's block at a point. -/
abbrev b2 (c : Dev nD) (t : Fin cfg0.N) : Vec F S512x1024 .f32 := iblk m c 1 t
/-- Window 2's block at a point. -/
abbrev b3 (c : Dev nD) (t : Fin cfg0.N) : Vec F S512x1024 .f32 := iblk m c 2 t
/-- Window 3's block at a point. -/
abbrev b4 (c : Dev nD) (t : Fin cfg0.N) : Vec F S1x1024 .f32 := iblk m c 3 t
/-- Window 4's block at a point. -/
abbrev b5 (c : Dev nD) (t : Fin cfg0.N) : Vec F S1x512x704 .bf16 := iblk m c 4 t
/-- Window 5's block at a point. -/
abbrev b6 (c : Dev nD) (t : Fin cfg0.N) : Vec F S1x512x704 .bf16 := iblk m c 5 t
/-- Window 6's block at a point. -/
abbrev b7 (c : Dev nD) (t : Fin cfg0.N) : Vec F S1x704x1024 .bf16 := iblk m c 6 t
/-- Window 7's block at a point. -/
abbrev b8 (c : Dev nD) (t : Fin cfg0.N) : Vec F S1x704x1024 .bf16 := iblk m c 7 t
/-- Window 8's block at a point. -/
abbrev b9 (c : Dev nD) (t : Fin cfg0.N) : Vec F S1x704x1024 .bf16 := iblk m c 8 t
/-- Window 9's block at a point. -/
abbrev b10 (c : Dev nD) (t : Fin cfg0.N) : Vec F S1024x1024 .bf16 := iblk m c 9 t

/-! ## Which case a point is in -/

theorem first_conds : ∀ t : Fin cfg0.N, t.val = 0 → k0_cond1 (grid0.coords t) = 1#1 ∧ k0_cond2 (grid0.coords t) = 1#1 ∧ ¬k0_cond3 (grid0.coords t) = 1#1 := by decide +kernel
theorem later_conds : ∀ t : Fin cfg0.N, t.val ≠ 0 → ¬k0_cond1 (grid0.coords t) = 1#1 ∧ (k0_cond2 (grid0.coords t) = 1#1 → k0_cond3 (grid0.coords t) = 1#1) := by decide +kernel

theorem idle13 : ∀ t : Fin cfg0.N, ¬k0_cond2 (grid0.coords t) = 1#1 → cfg0.idle 13 (grid0.coords t) = true := by decide +kernel
theorem live13 : ∀ t : Fin cfg0.N, k0_cond2 (grid0.coords t) = 1#1 → cfg0.idle 13 (grid0.coords t) = false := by decide +kernel
theorem idle14 : ∀ t : Fin cfg0.N, ¬k0_cond3 (grid0.coords t) = 1#1 → cfg0.idle 14 (grid0.coords t) = true ∧ (cfg0.win 14).flush t = false := by decide +kernel
theorem live14 : ∀ t : Fin cfg0.N, k0_cond3 (grid0.coords t) = 1#1 → cfg0.idle 14 (grid0.coords t) = false := by decide +kernel
theorem idle15 : ∀ t : Fin cfg0.N, ¬k0_cond1 (grid0.coords t) = 1#1 → ¬k0_cond3 (grid0.coords t) = 1#1 → cfg0.idle 15 (grid0.coords t) = true ∧ (cfg0.win 15).flush t = false := by decide +kernel
theorem live15 : ∀ t : Fin cfg0.N, k0_cond1 (grid0.coords t) = 1#1 ∨ k0_cond3 (grid0.coords t) = 1#1 → cfg0.idle 15 (grid0.coords t) = false := by decide +kernel
theorem idle16 : ∀ t : Fin cfg0.N, ¬k0_cond3 (grid0.coords t) = 1#1 → cfg0.idle 16 (grid0.coords t) = true ∧ (cfg0.win 16).flush t = false := by decide +kernel
theorem live16 : ∀ t : Fin cfg0.N, k0_cond3 (grid0.coords t) = 1#1 → cfg0.idle 16 (grid0.coords t) = false := by decide +kernel
theorem fresh13 : ∀ t : Fin cfg0.N, ¬k0_cond2 (grid0.coords t) = 1#1 → cfg0.fresh 13 t.val = false := by decide +kernel
theorem fresh15 : ∀ t : Fin cfg0.N, t.val ≠ 0 → cfg0.fresh 15 t.val = false := by decide +kernel

/-! ## What is carried from point to point -/

/-- What the points hand on: the scaled cotangent rows, the gain's gradient so far, the running sum before and after
    its reset, and the two slots of each product. -/
structure St (F : FTy → Type) [FloatOps F] where
  dob : Vec F S512x1024 .bf16
  dg : Vec F S1x1024 .f32
  mid : Vec F S512x1024 .f32
  acc : Vec F S512x1024 .f32
  A : Vec F S2x512x704 .bf16
  U : Vec F S2x512x704 .bf16

/-- After the first point. -/
def firstSt (c : Dev nD) (t : Fin cfg0.N) : St F where
  dob := k0_pay13 (b1 m c t)
  dg := k0_pay9
  mid := accOf (grid0.coords t) k0_pay10 k0_pay11 (b7 m c t) k0_pay12 (b8 m c t)
  acc := accOf (grid0.coords t) k0_pay10 k0_pay11 (b7 m c t) k0_pay12 (b8 m c t)
  A := fillOf (grid0.coords t) k0_pay11 (k0_pay25 (k0_pay21 (k0_pay13 (b1 m c t)) (b9 m c t) (b5 m c t) (b6 m c t)))
  U := fillOf (grid0.coords t) k0_pay12 (k0_pay1 (k0_pay20 (k0_pay13 (b1 m c t)) (b9 m c t) (b5 m c t)))

/-- The cotangent rows a later point works with. -/
def nextDob (c : Dev nD) (t : Fin cfg0.N) (s : St F) : Vec F S512x1024 .bf16 :=
  if k0_cond2 (grid0.coords t) = 1#1 then k0_pay13 (b1 m c t) else s.dob

/-- The running sum of a later point before its reset. -/
def nextMid (c : Dev nD) (t : Fin cfg0.N) (s : St F) : Vec F S512x1024 .f32 :=
  accOf (grid0.coords t) s.acc s.A (b7 m c t) s.U (b8 m c t)

/-- After a later point. -/
def nextSt (c : Dev nD) (t : Fin cfg0.N) (s : St F) : St F where
  dob := nextDob m c t s
  dg := if k0_cond3 (grid0.coords t) = 1#1 then k0_pay7 (nextMid m c t s) (b3 m c t) s.dg else s.dg
  mid := nextMid m c t s
  acc := if k0_cond3 (grid0.coords t) = 1#1 then k0_pay2 k0_pay8 else nextMid m c t s
  A := fillOf (grid0.coords t) s.A (k0_pay25 (k0_pay21 (nextDob m c t s) (b9 m c t) (b5 m c t) (b6 m c t)))
  U := fillOf (grid0.coords t) s.U (k0_pay1 (k0_pay20 (nextDob m c t s) (b9 m c t) (b5 m c t)))

/-- After point `n`. -/
def stAt (c : Dev nD) : (n : ℕ) → n < cfg0.N → St F
  | 0, hn => firstSt m c ⟨0, hn⟩
  | n + 1, hn => nextSt m c ⟨n + 1, hn⟩ (stAt c n (Nat.lt_of_succ_lt hn))

theorem stAt_first (c : Dev nD) (t : Fin cfg0.N) (hz : t.val = 0) : stAt m c t.val t.isLt = firstSt m c t := by
  obtain ⟨n, hn⟩ := t
  cases n with
  | zero => rfl
  | succ n => exact absurd hz (Nat.succ_ne_zero n)

/-- The state before a later point. -/
abbrev prevSt (c : Dev nD) (t : Fin cfg0.N) : St F := stAt m c (t.val - 1) (Nat.lt_of_le_of_lt (Nat.sub_le _ _) t.isLt)

theorem stAt_later (c : Dev nD) (t : Fin cfg0.N) (hz : t.val ≠ 0) : stAt m c t.val t.isLt = nextSt m c t (prevSt m c t) := by
  obtain ⟨n, hn⟩ := t
  cases n with
  | zero => exact absurd rfl hz
  | succ n => rfl

/-- The region's invariant: before the first point the scratch at anything, then at what the point before left. -/
def PhiS (c : Dev nD) : (n : ℕ) → n ≤ cfg0.N → sProp 𝕄
  | 0, _ => Pipeline.ΦA spec0 c
  | n + 1, hn => iprop(iprop(owns c.tc scM0 fullShare (stAt m c n hn).acc ∗ owns c.tc scM1 fullShare (stAt m c n hn).A
      ∗ owns c.tc scM2 fullShare (stAt m c n hn).U) ∗ (∃ r, prngReg c r))

theorem PhiA_eq (c : Dev nD) :
    (Pipeline.ΦA spec0 c : sProp 𝕄)
      = iprop(iprop((∃ d, owns c.tc scM0 fullShare d) ∗ (∃ d, owns c.tc scM1 fullShare d)
          ∗ (∃ d, owns c.tc scM2 fullShare d)) ∗ (∃ r, prngReg c r)) := by
  unfold Pipeline.ΦA; rw [scopedRest0_eq]; simp only [scM0, scM1, scM2, owns_whole]; try rfl

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns c.tc scM0 fullShare (stAt m c n hn).acc ∗ owns c.tc scM1 fullShare (stAt m c n hn).A
      ∗ owns c.tc scM2 fullShare (stAt m c n hn).U) ∗ (∃ r, prngReg c r)) := rfl

theorem PhiS_pos (c : Dev nD) (n : ℕ) (h : n ≤ cfg0.N) (hz : n ≠ 0) :
    PhiS m c n h = iprop(iprop(owns c.tc scM0 fullShare (stAt m c (n - 1) (by omega)).acc
      ∗ owns c.tc scM1 fullShare (stAt m c (n - 1) (by omega)).A
      ∗ owns c.tc scM2 fullShare (stAt m c (n - 1) (by omega)).U) ∗ (∃ r, prngReg c r)) := by
  cases n with
  | zero => exact absurd rfl hz
  | succ n => rfl

/-- The pipeline's proof data: the inputs' blocks stay; each output holds what the state says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay23 (k0_pay21 (stAt m c t.val t.isLt).dob (b9 m c t) (b5 m c t) (b6 m c t))
    | ⟨11, _⟩ => k0_pay22 (k0_pay20 (stAt m c t.val t.isLt).dob (b9 m c t) (b5 m c t))
    | ⟨12, _⟩ => k0_pay19 (b5 m c t) (b6 m c t)
    | ⟨13, _⟩ => (stAt m c t.val t.isLt).dob
    | ⟨14, _⟩ => k0_pay6 (stAt m c t.val t.isLt).mid (b3 m c t) (b4 m c t) (b2 m c t)
    | ⟨15, _⟩ => (stAt m c t.val t.isLt).dg
    | ⟨16, _⟩ => k0_pay3 (k0_pay6 (stAt m c t.val t.isLt).mid (b3 m c t) (b4 m c t) (b2 m c t)) (b10 m c t)
    | ⟨n + 17, h⟩ => absurd h (Nat.not_lt.mpr (Nat.le_add_left 17 n))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = k0_pay23 (k0_pay21 (stAt m c t.val t.isLt).dob (b9 m c t) (b5 m c t) (b6 m c t)) := by dsimp only [dats]
theorem after11 : (dats m 0 c).after 11 t = k0_pay22 (k0_pay20 (stAt m c t.val t.isLt).dob (b9 m c t) (b5 m c t)) := by dsimp only [dats]
theorem after12 : (dats m 0 c).after 12 t = k0_pay19 (b5 m c t) (b6 m c t) := by dsimp only [dats]
theorem after13 : (dats m 0 c).after 13 t = (stAt m c t.val t.isLt).dob := by dsimp only [dats]
theorem after14 : (dats m 0 c).after 14 t = k0_pay6 (stAt m c t.val t.isLt).mid (b3 m c t) (b4 m c t) (b2 m c t) := by dsimp only [dats]
theorem after15 : (dats m 0 c).after 15 t = (stAt m c t.val t.isLt).dg := by dsimp only [dats]
theorem after16 : (dats m 0 c).after 16 t = k0_pay3 (k0_pay6 (stAt m c t.val t.isLt).mid (b3 m c t) (b4 m c t) (b2 m c t)) (b10 m c t) := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d
theorem before4 (d) : (dats m 0 c).before 4 t d = iblk m c 4 t := before0_4_of m (dats m 0 c) (A_eq m c 4) (after4 m c) t d
theorem before5 (d) : (dats m 0 c).before 5 t d = iblk m c 5 t := before0_5_of m (dats m 0 c) (A_eq m c 5) (after5 m c) t d
theorem before6 (d) : (dats m 0 c).before 6 t d = iblk m c 6 t := before0_6_of m (dats m 0 c) (A_eq m c 6) (after6 m c) t d
theorem before7 (d) : (dats m 0 c).before 7 t d = iblk m c 7 t := before0_7_of m (dats m 0 c) (A_eq m c 7) (after7 m c) t d
theorem before8 (d) : (dats m 0 c).before 8 t d = iblk m c 8 t := before0_8_of m (dats m 0 c) (A_eq m c 8) (after8 m c) t d
theorem before9 (d) : (dats m 0 c).before 9 t d = iblk m c 9 t := before0_9_of m (dats m 0 c) (A_eq m c 9) (after9 m c) t d

/-- Within a tile the cotangent rows are those the tile's first point left. -/
theorem before13 (h2 : ¬k0_cond2 (grid0.coords t) = 1#1) (d) : (dats m 0 c).before 13 t d = (prevSt m c t).dob := by
  rw [(dats m 0 c).before_out_traj 13 rfl (fun _ _ => rfl) (fun t hz hi _ => by
    have h2 : ¬k0_cond2 (grid0.coords t) = 1#1 := fun h => Bool.false_ne_true ((live13 t h).symm.trans hi)
    rw [after13, after13, stAt_later m c t hz]
    show nextDob m c t (prevSt m c t) = _
    rw [nextDob, if_neg h2]) t.val t rfl d, fresh13 t h2, if_neg Bool.false_ne_true, after13]

/-- The gain's gradient is handed on. -/
theorem before15 (hz : t.val ≠ 0) (d) : (dats m 0 c).before 15 t d = (prevSt m c t).dg := by
  rw [(dats m 0 c).before_out_traj 15 rfl (fun _ _ => rfl) (fun t hz hi _ => by
    have h3 : ¬k0_cond3 (grid0.coords t) = 1#1 := fun h => Bool.false_ne_true ((live15 t (.inr h)).symm.trans hi)
    rw [after15, after15, stAt_later m c t hz]
    show (if k0_cond3 (grid0.coords t) = 1#1 then _ else _) = _
    rw [if_neg h3]) t.val t rfl d, fresh15 t hz, if_neg Bool.false_ne_true, after15]

end Cert.Kernel12Ideal.Ffn

end
-- ==== Proof.FfnBlock.lean ====
/-
  The gradient of the feed-forward layer's input: the arrays the kernel is given, as real numbers.
-/
module

public import proofs.«01_k».proof.Proof.FfnStage
public import proofs.«01_k».proof.Proof.FfnIDat
public import Idealize.ShloMosaic.Lib.Pipeline.ReadBack

@[expose] public section

set_option maxRecDepth 16384

noncomputable section

namespace Cert.Kernel12Ideal.Block

open Cert.Kernel12Ideal Cert.Kernel12Ideal.Gen Cert.Kernel12Ideal.Ffn Cert.Kernel12Ideal.Stage Cert.Gla Cert.Mix
open Idealize.ShloMosaic Idealize.ShloMosaic.TcCoe Idealize.SL.Sem

/-- The numbers in the arrays: the cotangent, the input, the gains, the three weights and the heads' weight. -/
structure Data where
  ct : ℕ → ℕ → ℝ
  x : ℕ → ℕ → ℝ
  g : ℕ → ℕ → ℝ
  wg : ℕ → ℕ → ℝ
  wu : ℕ → ℕ → ℝ
  wd : ℕ → ℕ → ℝ
  wo : ℕ → ℕ → ℝ

namespace Data

variable (D : Data)

def row (r : ℕ) (a : Fin 1024) : ℝ := D.x r a
def gain (a : Fin 1024) : ℝ := D.g 0 a
/-- The normalised row. -/
def h (r : ℕ) (k : Fin 1024) : ℝ := D.row r k * scale (D.row r) * D.gain k
/-- The gate's and the other half's projections. -/
def a (r j : ℕ) : ℝ := ∑ k : Fin 1024, D.h r k * D.wg k j
def u (r j : ℕ) : ℝ := ∑ k : Fin 1024, D.h r k * D.wu k j
/-- The gradient of the hidden layer, and of the two projections. -/
def dhid (r j : ℕ) : ℝ := ∑ k : Fin 1024, 1 / 2 * D.ct r k * D.wd j k
def du (r j : ℕ) : ℝ := D.dhid r j * (D.a r j * sg (D.a r j))
def da (r j : ℕ) : ℝ := D.dhid r j * D.u r j * (sg (D.a r j) * (1 + D.a r j * (1 - sg (D.a r j))))

end Data

variable (m : (ℓ : Loc nD τ sig) → Buf (Elt Ideal) ℓ) (c : Dev nD)

/-- The arguments hold these numbers. -/
structure Holds (D : Data) : Prop where
  a0 : m ((c : Thread nD τ).loc main_arg0) = lift2 fun (i : Fin 4096) (j : Fin 1024) => D.ct i j
  a1 : m ((c : Thread nD τ).loc main_arg1) = lift2 fun (i : Fin 4096) (j : Fin 1024) => D.x i j
  a2 : m ((c : Thread nD τ).loc main_arg2) = lift2 fun (i : Fin 1) (j : Fin 1024) => D.g i j
  a3 : m ((c : Thread nD τ).loc main_arg3) = lift2 fun (i : Fin 1024) (j : Fin 2816) => D.wg i j
  a4 : m ((c : Thread nD τ).loc main_arg4) = lift2 fun (i : Fin 1024) (j : Fin 2816) => D.wu i j
  a5 : m ((c : Thread nD τ).loc main_arg5) = lift2 fun (i : Fin 2816) (j : Fin 1024) => D.wd i j
  a6 : m ((c : Thread nD τ).loc main_arg6) = lift2 fun (i : Fin 1024) (j : Fin 1024) => D.wo i j

/-- The tile and the shard a point prepares; the point before's are those of `t - 1`. -/
abbrev til (t : ℕ) : ℕ := min t 31 / 4
abbrev shd (t : ℕ) : ℕ := min t 31 % 4

/-- Where each grid point's blocks lie. -/
theorem idx : ∀ t : Fin cfg0.N, win0_0.index t = ![til t.val, 0] ∧ win0_1.index t = ![(t.val - 1) / 4, 0] ∧ win0_2.index t = ![(t.val - 1) / 4, 0] ∧
    win0_3.index t = ![0, 0] ∧ win0_4.index t = ![shd t.val, til t.val, 0] ∧ win0_5.index t = ![shd t.val, til t.val, 0] ∧
    win0_6.index t = ![(t.val - 1) % 4, 0, 0] ∧ win0_7.index t = ![(t.val - 1) % 4, 0, 0] ∧ win0_8.index t = ![shd t.val, 0, 0] ∧
    win0_9.index t = ![0, 0] ∧ win0_14.index t = ![(t.val - 1) / 4, 0] ∧ win0_15.index t = ![0, 0] ∧ win0_16.index t = ![(t.val - 1) / 4, 0] :=
  (by decide +kernel : ∀ t : Fin grid0.N, _)

variable {m c} {D : Data} (H : Holds m c D)

/-- A weight of the first layer, its transpose cut in four. -/
theorem cut_back (w : ℕ → ℕ → ℝ) : shapeCast S4x704x1024 (truncf (F := Ideal) .bf16 (transpose S2816x1024 [1, 0] (lift2 fun (i : Fin 1024) (j : Fin 2816) => w i j)
    transposes_S1024x2816_S2816x1024_1_0) bitsLt_bf16_f32) shapeCasts_S2816x1024_S4x704x1024
      = lift3 fun (s : Fin 4) (j : Fin 704) (k : Fin 1024) => w k (s * 704 + j) := by
  funext y
  idx_vars y
  pointwise
  rfl

theorem cut_rows (w : ℕ → ℕ → ℝ) : shapeCast S4x704x1024 (truncf (F := Ideal) .bf16 (lift2 fun (i : Fin 2816) (j : Fin 1024) => w i j) bitsLt_bf16_f32)
    shapeCasts_S2816x1024_S4x704x1024 = lift3 fun (s : Fin 4) (j : Fin 704) (k : Fin 1024) => w (s * 704 + j) k := by
  funext y
  idx_vars y
  pointwise
  rfl

theorem cut_lanes (w : ℕ → ℕ → ℝ) : truncf (F := Ideal) .bf16 (transpose S4x4096x704 [1, 0, 2] (shapeCast S4096x4x704 (lift2 fun (i : Fin 4096) (j : Fin 2816) => w i j)
    shapeCasts_S4096x2816_S4096x4x704) transposes_S4096x4x704_S4x4096x704_1_0_2) bitsLt_bf16_f32
      = lift3 fun (s : Fin 4) (r : Fin 4096) (j : Fin 704) => w r (s * 704 + j) := by
  funext y
  idx_vars y
  pointwise
  rfl

/-- The host's normalised rows. -/
abbrev normed (X : FVec Ideal S4096x1024 .f32) (G : FVec Ideal S1x1024 .f32) : FVec Ideal S4096x1024 .f32 :=
  mulf (mulf X (broadcastInDim S4096x1024 ![0, 1] bcast_S4096x1_S4096x1024_0_1 (Host.rsqrt (addf (Host.divf (broadcastInDim S4096x1 ![0] bcast_S4096_S4096x1_0
    (Host.reduceAdd (mulf X X) (constant S_ .f32 0x00000000#32) reducesTo_S4096x1024_S4096_d1 h_S_)) (broadcastInDim S4096x1 ![] bcast_S_S4096x1
      (constant S_ .f32 0x44800000#32))) (broadcastInDim S4096x1 ![] bcast_S_S4096x1 (constant S_ .f32 0x358637BD#32)))))) (broadcastInDim S4096x1024 ![0, 1] bcast_S1x1024_S4096x1024_0_1 G)

theorem normed_eq (x g : ℕ → ℕ → ℝ) (D : Data) (hx : D.x = x) (hg : D.g = g) :
    normed (lift2 fun (i : Fin 4096) (j : Fin 1024) => x i j) (lift2 fun (i : Fin 1) (j : Fin 1024) => g i j) = lift2 fun (i : Fin 4096) => D.h i := by
  subst hx hg
  funext y
  idx_vars y
  pointwise [normed]
  simp only [lift2_ix, c_1024, c_eps, ← EReal.coe_mul, coe_sum, div_1024, ← EReal.coe_add]
  rw [show (∑ k : Fin 1024, D.x y0 k * D.x y0 k) * (1 / 1024) + eps = (∑ k, D.row y0 k * D.row y0 k) * (1 / 1024) + eps from rfl, rsqrt_scale]
  simp only [← EReal.coe_mul]
  rfl

/-- A projection of the normalised rows. -/
theorem projected (h : ℕ → Fin 1024 → ℝ) (w : ℕ → ℕ → ℝ) : Host.dotGeneral (F := Ideal) (φ₁ := .f32) (φ₂ := .f32) dot_S4096x1024_S1024x2816_S4096x2816_1_0_0_1_n_n none (lift2 fun (i : Fin 4096) => h i)
    (lift2 fun (i : Fin 1024) (j : Fin 2816) => w i j) = lift2 fun (i : Fin 4096) (j : Fin 2816) => ∑ k : Fin 1024, h i k * w k j := by
  funext y
  idx_vars y
  pointwise
  simp only [lift2_ix, ← EReal.coe_mul, coe_sum]

include H

theorem v3 : V m c main_v3 = lift3 fun (s : Fin 4) (j : Fin 704) (k : Fin 1024) => D.wg k (s * 704 + j) := by
  have e : V m c main_v3 = shapeCast S4x704x1024 (truncf (F := Ideal) .bf16 (transpose S2816x1024 [1, 0] (m ((c : Thread nD τ).loc main_arg3))
      transposes_S1024x2816_S2816x1024_1_0) bitsLt_bf16_f32) shapeCasts_S2816x1024_S4x704x1024 := by
    unfold V
    simp only [hostOps0, List.flatten_cons, List.flatten_nil, List.cons_append, List.nil_append, List.append_nil]
    entry_read
    rfl
  rw [e, H.a3]
  exact cut_back _

theorem v5 : V m c main_v5 = lift3 fun (s : Fin 4) (j : Fin 704) (k : Fin 1024) => D.wu k (s * 704 + j) := by
  have e : V m c main_v5 = shapeCast S4x704x1024 (truncf (F := Ideal) .bf16 (transpose S2816x1024 [1, 0] (m ((c : Thread nD τ).loc main_arg4))
      transposes_S1024x2816_S2816x1024_1_0) bitsLt_bf16_f32) shapeCasts_S2816x1024_S4x704x1024 := by
    unfold V
    simp only [hostOps0, List.flatten_cons, List.flatten_nil, List.cons_append, List.nil_append, List.append_nil]
    entry_read
    rfl
  rw [e, H.a4]
  exact cut_back _

theorem v7 : V m c main_v7 = lift3 fun (s : Fin 4) (j : Fin 704) (k : Fin 1024) => D.wd (s * 704 + j) k := by
  have e : V m c main_v7 = shapeCast S4x704x1024 (truncf (F := Ideal) .bf16 (m ((c : Thread nD τ).loc main_arg5)) bitsLt_bf16_f32) shapeCasts_S2816x1024_S4x704x1024 := by
    unfold V
    simp only [hostOps0, List.flatten_cons, List.flatten_nil, List.cons_append, List.nil_append, List.append_nil]
    entry_read
    rfl
  rw [e, H.a5]
  exact cut_rows _

theorem v23 : V m c main_v23 = lift3 fun (s : Fin 4) (r : Fin 4096) (j : Fin 704) => D.a r (s * 704 + j) := by
  have e : V m c main_v23 = truncf (F := Ideal) .bf16 (transpose S4x4096x704 [1, 0, 2] (shapeCast S4096x4x704 (Host.dotGeneral (F := Ideal) (φ₁ := .f32) (φ₂ := .f32) dot_S4096x1024_S1024x2816_S4096x2816_1_0_0_1_n_n none
      (normed (m ((c : Thread nD τ).loc main_arg1)) (m ((c : Thread nD τ).loc main_arg2))) (m ((c : Thread nD τ).loc main_arg3))) shapeCasts_S4096x2816_S4096x4x704) transposes_S4096x4x704_S4x4096x704_1_0_2) bitsLt_bf16_f32 := by
    unfold V
    simp only [hostOps0, List.flatten_cons, List.flatten_nil, List.cons_append, List.nil_append, List.append_nil]
    entry_read
    rfl
  rw [e, H.a1, H.a2, H.a3, normed_eq D.x D.g D rfl rfl, projected D.h D.wg]
  exact cut_lanes D.a

theorem v27 : V m c main_v27 = lift3 fun (s : Fin 4) (r : Fin 4096) (j : Fin 704) => D.u r (s * 704 + j) := by
  have e : V m c main_v27 = truncf (F := Ideal) .bf16 (transpose S4x4096x704 [1, 0, 2] (shapeCast S4096x4x704 (Host.dotGeneral (F := Ideal) (φ₁ := .f32) (φ₂ := .f32) dot_S4096x1024_S1024x2816_S4096x2816_1_0_0_1_n_n none
      (normed (m ((c : Thread nD τ).loc main_arg1)) (m ((c : Thread nD τ).loc main_arg2))) (m ((c : Thread nD τ).loc main_arg4))) shapeCasts_S4096x2816_S4096x4x704) transposes_S4096x4x704_S4x4096x704_1_0_2) bitsLt_bf16_f32 := by
    unfold V
    simp only [hostOps0, List.flatten_cons, List.flatten_nil, List.cons_append, List.nil_append, List.append_nil]
    entry_read
    rfl
  rw [e, H.a1, H.a2, H.a4, normed_eq D.x D.g D rfl rfl, projected D.h D.wu]
  exact cut_lanes D.u

theorem v28 : V m c main_v28 = lift2 fun (i : Fin 1024) (j : Fin 1024) => D.wo i j := by
  have e : V m c main_v28 = truncf (F := Ideal) .bf16 (m ((c : Thread nD τ).loc main_arg6)) bitsLt_bf16_f32 := by
    unfold V
    simp only [hostOps0, List.flatten_cons, List.flatten_nil, List.cons_append, List.nil_append, List.append_nil]
    entry_read
    rfl
  rw [e, H.a6]
  funext y
  idx_vars y
  pointwise

/-! ## The blocks -/

theorem blk0 (t : Fin cfg0.N) : iblk m c 0 t = lift2 fun (r : Fin 512) (a : Fin 1024) => D.ct (til t.val * 512 + r) a := by
  funext y
  idx_vars y
  have ht : (t : ℕ) < 33 := t.isLt
  have hT : til t.val < 8 := by unfold til; omega
  have hS : shd t.val < 4 := by unfold shd; omega
  blk_simp [iblk, idx t]
  rw [show V m c (Pipeline.arrRef spec0 0) = _ from (V_main_arg0 m c).trans H.a0]
  refine Eq.trans (b := lift2 (fun (i : Fin 4096) (j : Fin 1024) => D.ct i j) (ix2 ⟨til t.val * 512 + y0, by omega⟩ y1)) ?_ rfl
  blk_ext [idx t]

theorem blk1 (t : Fin cfg0.N) : iblk m c 1 t = lift2 fun (r : Fin 512) (a : Fin 1024) => D.ct ((t.val - 1) / 4 * 512 + r) a := by
  funext y
  idx_vars y
  have ht : (t : ℕ) < 33 := t.isLt
  have hT : til t.val < 8 := by unfold til; omega
  have hS : shd t.val < 4 := by unfold shd; omega
  blk_simp [iblk, idx t]
  rw [show V m c (Pipeline.arrRef spec0 1) = _ from (V_main_arg0 m c).trans H.a0]
  refine Eq.trans (b := lift2 (fun (i : Fin 4096) (j : Fin 1024) => D.ct i j) (ix2 ⟨(t.val - 1) / 4 * 512 + y0, by omega⟩ y1)) ?_ rfl
  blk_ext [idx t]

theorem blk2 (t : Fin cfg0.N) : iblk m c 2 t = lift2 fun (r : Fin 512) (a : Fin 1024) => D.x ((t.val - 1) / 4 * 512 + r) a := by
  funext y
  idx_vars y
  have ht : (t : ℕ) < 33 := t.isLt
  have hT : til t.val < 8 := by unfold til; omega
  have hS : shd t.val < 4 := by unfold shd; omega
  blk_simp [iblk, idx t]
  rw [show V m c (Pipeline.arrRef spec0 2) = _ from (V_main_arg1 m c).trans H.a1]
  refine Eq.trans (b := lift2 (fun (i : Fin 4096) (j : Fin 1024) => D.x i j) (ix2 ⟨(t.val - 1) / 4 * 512 + y0, by omega⟩ y1)) ?_ rfl
  blk_ext [idx t]

theorem blk3 (t : Fin cfg0.N) : iblk m c 3 t = lift2 fun (_ : Fin 1) (a : Fin 1024) => D.gain a := by
  funext y
  idx_vars y
  have ht : (t : ℕ) < 33 := t.isLt
  have hT : til t.val < 8 := by unfold til; omega
  have hS : shd t.val < 4 := by unfold shd; omega
  obtain rfl : y0 = 0 := Subsingleton.elim _ _
  blk_simp [iblk, idx t]
  rw [show V m c (Pipeline.arrRef spec0 3) = _ from (V_main_arg2 m c).trans H.a2]
  refine Eq.trans (b := lift2 (fun (i : Fin 1) (j : Fin 1024) => D.g i j) (ix2 0 y1)) ?_ rfl
  blk_ext [idx t]

theorem blk4 (t : Fin cfg0.N) : iblk m c 4 t = lift3 fun (_ : Fin 1) (r : Fin 512) (j : Fin 704) => D.a (til t.val * 512 + r) (shd t.val * 704 + j) := by
  funext y
  idx_vars y
  have ht : (t : ℕ) < 33 := t.isLt
  have hT : til t.val < 8 := by unfold til; omega
  have hS : shd t.val < 4 := by unfold shd; omega
  obtain rfl : y0 = 0 := Subsingleton.elim _ _
  blk_simp [iblk, idx t]
  rw [show V m c (Pipeline.arrRef spec0 4) = _ from v23 H]
  refine Eq.trans (b := lift3 (fun (s : Fin 4) (r : Fin 4096) (j : Fin 704) => D.a r (s * 704 + j)) (ix3 ⟨shd t.val, by omega⟩ ⟨til t.val * 512 + y1, by omega⟩ y2)) ?_ rfl
  blk_ext [idx t]

theorem blk5 (t : Fin cfg0.N) : iblk m c 5 t = lift3 fun (_ : Fin 1) (r : Fin 512) (j : Fin 704) => D.u (til t.val * 512 + r) (shd t.val * 704 + j) := by
  funext y
  idx_vars y
  have ht : (t : ℕ) < 33 := t.isLt
  have hT : til t.val < 8 := by unfold til; omega
  have hS : shd t.val < 4 := by unfold shd; omega
  obtain rfl : y0 = 0 := Subsingleton.elim _ _
  blk_simp [iblk, idx t]
  rw [show V m c (Pipeline.arrRef spec0 5) = _ from v27 H]
  refine Eq.trans (b := lift3 (fun (s : Fin 4) (r : Fin 4096) (j : Fin 704) => D.u r (s * 704 + j)) (ix3 ⟨shd t.val, by omega⟩ ⟨til t.val * 512 + y1, by omega⟩ y2)) ?_ rfl
  blk_ext [idx t]

theorem blk6 (t : Fin cfg0.N) : iblk m c 6 t = lift3 fun (_ : Fin 1) (j : Fin 704) (k : Fin 1024) => D.wg k ((t.val - 1) % 4 * 704 + j) := by
  funext y
  idx_vars y
  have ht : (t : ℕ) < 33 := t.isLt
  have hT : til t.val < 8 := by unfold til; omega
  have hS : shd t.val < 4 := by unfold shd; omega
  obtain rfl : y0 = 0 := Subsingleton.elim _ _
  blk_simp [iblk, idx t]
  rw [show V m c (Pipeline.arrRef spec0 6) = _ from v3 H]
  refine Eq.trans (b := lift3 (fun (s : Fin 4) (j : Fin 704) (k : Fin 1024) => D.wg k (s * 704 + j)) (ix3 ⟨(t.val - 1) % 4, by omega⟩ y1 y2)) ?_ rfl
  blk_ext [idx t]

theorem blk7 (t : Fin cfg0.N) : iblk m c 7 t = lift3 fun (_ : Fin 1) (j : Fin 704) (k : Fin 1024) => D.wu k ((t.val - 1) % 4 * 704 + j) := by
  funext y
  idx_vars y
  have ht : (t : ℕ) < 33 := t.isLt
  have hT : til t.val < 8 := by unfold til; omega
  have hS : shd t.val < 4 := by unfold shd; omega
  obtain rfl : y0 = 0 := Subsingleton.elim _ _
  blk_simp [iblk, idx t]
  rw [show V m c (Pipeline.arrRef spec0 7) = _ from v5 H]
  refine Eq.trans (b := lift3 (fun (s : Fin 4) (j : Fin 704) (k : Fin 1024) => D.wu k (s * 704 + j)) (ix3 ⟨(t.val - 1) % 4, by omega⟩ y1 y2)) ?_ rfl
  blk_ext [idx t]

theorem blk8 (t : Fin cfg0.N) : iblk m c 8 t = lift3 fun (_ : Fin 1) (j : Fin 704) (k : Fin 1024) => D.wd (shd t.val * 704 + j) k := by
  funext y
  idx_vars y
  have ht : (t : ℕ) < 33 := t.isLt
  have hT : til t.val < 8 := by unfold til; omega
  have hS : shd t.val < 4 := by unfold shd; omega
  obtain rfl : y0 = 0 := Subsingleton.elim _ _
  blk_simp [iblk, idx t]
  rw [show V m c (Pipeline.arrRef spec0 8) = _ from v7 H]
  refine Eq.trans (b := lift3 (fun (s : Fin 4) (j : Fin 704) (k : Fin 1024) => D.wd (s * 704 + j) k) (ix3 ⟨shd t.val, by omega⟩ y1 y2)) ?_ rfl
  blk_ext [idx t]

theorem blk9 (t : Fin cfg0.N) : iblk m c 9 t = lift2 fun (i : Fin 1024) (j : Fin 1024) => D.wo i j := by
  funext y
  idx_vars y
  have ht : (t : ℕ) < 33 := t.isLt
  have hT : til t.val < 8 := by unfold til; omega
  have hS : shd t.val < 4 := by unfold shd; omega
  blk_simp [iblk, idx t]
  rw [show V m c (Pipeline.arrRef spec0 9) = _ from v28 H]
  refine Eq.trans (b := lift2 (fun (i : Fin 1024) (j : Fin 1024) => D.wo i j) (ix2 y0 y1)) ?_ rfl
  blk_ext [idx t]

end Cert.Kernel12Ideal.Block

end
-- ==== Proof.FfnSum.lean ====
/-
  The gradient of the feed-forward layer's input: what the kernel's points hand on, and the arrays they leave.
-/
module

public import proofs.«01_k».proof.Proof.FfnBlock

@[expose] public section

set_option maxRecDepth 16384

noncomputable section

namespace Cert.Kernel12Ideal.Block

open Cert.Kernel12Ideal Cert.Kernel12Ideal.Gen Cert.Kernel12Ideal.Ffn Cert.Kernel12Ideal.Stage Cert.Gla Cert.Mix
open Idealize.ShloMosaic Idealize.ShloMosaic.TcCoe Idealize.SL.Sem

namespace Data

variable (D : Data)

/-- What one shard of the hidden layer adds to the gradient of a normalised row. -/
def shard (r s : ℕ) (k : Fin 1024) : ℝ :=
  ∑ j : Fin 704, D.da r (s * 704 + j) * D.wg k (s * 704 + j) + ∑ j : Fin 704, D.du r (s * 704 + j) * D.wu k (s * 704 + j)
/-- The first shards together. -/
def some (n r : ℕ) (k : Fin 1024) : ℝ := ∑ s ∈ Finset.range n, D.shard r s k
/-- The gradient of a normalised row. -/
def dh (r : ℕ) (k : Fin 1024) : ℝ := D.some 4 r k
/-- The gradient of a row, a row's part of the gradient of the gains, and the gradient of the heads. -/
def dx (r : ℕ) (a : Fin 1024) : ℝ := D.ct r a + back (D.dh r) D.gain (D.row r) a
def part (r : ℕ) (a : Fin 1024) : ℝ := D.dh r a * (D.row r a * scale (D.row r))
def heads (r : ℕ) (k : Fin 1024) : ℝ := ∑ a : Fin 1024, D.dx r a * D.wo k a
/-- The parts of the first tiles. -/
def upto (n : ℕ) (a : Fin 1024) : ℝ := ∑ s ∈ Finset.range n, ∑ r : Fin 512, D.part (s * 512 + r) a

theorem some_succ (n r : ℕ) (k : Fin 1024) : D.some (n + 1) r k = D.some n r k + D.shard r n k := Finset.sum_range_succ _ _

end Data

variable {m : (ℓ : Loc nD τ sig) → Buf (Elt Ideal) ℓ} {c : Dev nD} {D : Data} (H : Holds m c D)

/-- The slot a point reads holds what the point before put there. -/
theorem slot_fill (t t' : Fin cfg0.N) (h : t'.val = t.val + 1) (X : Vec Ideal S2x512x704 .bf16) (w : Vec Ideal S1x512x704 .bf16) :
    slotOf (grid0.coords t') (fillOf (grid0.coords t) X w) = w := by
  have e : k0_off1 (grid0.coords t') = k0_off2 (grid0.coords t) := by
    have e1 : ∀ i : grid0.Coords, k0_off1 i = ![((i 0).val + 1) % 2, 0, 0] := fun i => (congrArg k0_off1 (coords_at i)).trans (off1_eq (i 0))
    have e2 : ∀ i : grid0.Coords, k0_off2 i = ![(i 0).val % 2, 0, 0] := fun i => (congrArg k0_off2 (coords_at i)).trans (off2_eq (i 0))
    rw [e1, e2]
    have a : ((grid0.coords t') 0).val = t'.val := (by decide +kernel : ∀ t : Fin grid0.N, ((grid0.coords t) 0).val = t.val) t'
    have b : ((grid0.coords t) 0).val = t.val := (by decide +kernel : ∀ t : Fin grid0.N, ((grid0.coords t) 0).val = t.val) t
    rw [a, b, h, show (t.val + 1 + 1) % 2 = t.val % 2 by omega]
  unfold slotOf fillOf
  generalize k0_off1_inb (grid0.coords t') = p
  revert p
  rw [e]
  intro p
  exact VecWindow.window_put_same X _ _ _ w

theorem cond2_iff : ∀ t : Fin cfg0.N, k0_cond2 (grid0.coords t) = 1#1 ↔ t.val % 4 = 0 ∧ t.val < 32 := by decide +kernel
theorem cond3_iff : ∀ t : Fin cfg0.N, k0_cond3 (grid0.coords t) = 1#1 ↔ t.val % 4 = 0 ∧ t.val ≠ 0 := by decide +kernel

/-- The slots before any point. -/
theorem slot_zero (i : grid0.Coords) : slotOf (F := Ideal) i (lift3 (fun (_ : Fin 2) (_ : Fin 512) (_ : Fin 704) => (0 : ℝ)))
    = (lift3 (fun (_ : Fin 1) (_ : Fin 512) (_ : Fin 704) => (0 : ℝ)) : FVec Ideal S1x512x704 .bf16) := rfl

/-- What a point prepares of the two products. -/
abbrev preA (D : Data) (t : ℕ) : FVec Ideal S1x512x704 .bf16 := lift3 fun (_ : Fin 1) (r : Fin 512) (j : Fin 704) => D.da (til t * 512 + r) (shd t * 704 + j)
abbrev preU (D : Data) (t : ℕ) : FVec Ideal S1x512x704 .bf16 := lift3 fun (_ : Fin 1) (r : Fin 512) (j : Fin 704) => D.du (til t * 512 + r) (shd t * 704 + j)

/-- What point `n` hands on. -/
structure Good (D : Data) (n : ℕ) (s : St Ideal) : Prop where
  dob : s.dob = lift2 fun (r : Fin 512) (a : Fin 1024) => 1 / 2 * D.ct (til n * 512 + r) a
  dg : s.dg = lift2 fun (_ : Fin 1) (a : Fin 1024) => D.upto (n / 4) a
  mid : n ≠ 0 → s.mid = lift2 fun (r : Fin 512) (k : Fin 1024) => D.some ((n - 1) % 4 + 1) ((n - 1) / 4 * 512 + r) k
  acc : s.acc = lift2 fun (r : Fin 512) (k : Fin 1024) => D.some (n % 4) (n / 4 * 512 + r) k
  A : ∀ t : Fin cfg0.N, t.val = n + 1 → slotOf (grid0.coords t) s.A = preA D n
  U : ∀ t : Fin cfg0.N, t.val = n + 1 → slotOf (grid0.coords t) s.U = preU D n

include H

theorem half (t : Fin cfg0.N) : k0_pay13 (b1 m c t) = lift2 fun (r : Fin 512) (a : Fin 1024) => 1 / 2 * D.ct (til t.val * 512 + r) a := by
  rw [show b1 m c t = _ from blk0 H t, p13]

theorem prepU (t : Fin cfg0.N) (X : Vec Ideal S512x1024 .bf16) (hX : X = lift2 fun (r : Fin 512) (a : Fin 1024) => 1 / 2 * D.ct (til t.val * 512 + r) a) :
    k0_pay1 (k0_pay20 X (b9 m c t) (b5 m c t)) = preU D t.val := by
  rw [hX, show b9 m c t = _ from blk8 H t, show b5 m c t = _ from blk4 H t, p20, p1]
  rfl

theorem prepA (t : Fin cfg0.N) (X : Vec Ideal S512x1024 .bf16) (hX : X = lift2 fun (r : Fin 512) (a : Fin 1024) => 1 / 2 * D.ct (til t.val * 512 + r) a) :
    k0_pay25 (k0_pay21 X (b9 m c t) (b5 m c t) (b6 m c t)) = preA D t.val := by
  rw [hX, show b9 m c t = _ from blk8 H t, show b5 m c t = _ from blk4 H t, show b6 m c t = _ from blk5 H t, p21, p25]
  rfl

theorem acc_first (t : Fin cfg0.N) : accOf (F := Ideal) (grid0.coords t) (k0_pay10 (F := Ideal)) (k0_pay11 (F := Ideal)) (b7 m c t) (k0_pay12 (F := Ideal)) (b8 m c t)
    = lift2 fun (_ : Fin 512) (_ : Fin 1024) => (0 : ℝ) := by
  unfold accOf
  rw [p10, p11, p12, slot_zero, show b7 m c t = _ from blk6 H t, show b8 m c t = _ from blk7 H t, p24]
  refine congrArg _ (funext fun _ => funext fun _ => ?_)
  simp only [zero_mul, Finset.sum_const_zero, add_zero]

theorem good_first (t : Fin cfg0.N) (hz : t.val = 0) : Good D 0 (firstSt m c t) where
  dob := (half H t).trans (by rw [hz])
  dg := p9.trans rfl
  mid h := absurd rfl h
  acc := (acc_first H t).trans rfl
  A t' h := (slot_fill t t' (by omega) _ _).trans ((prepA H t _ (half H t)).trans (by rw [hz]))
  U t' h := (slot_fill t t' (by omega) _ _).trans ((prepU H t _ (half H t)).trans (by rw [hz]))

theorem mid_next (t : Fin cfg0.N) (n : ℕ) (hn : t.val = n + 1) (s : St Ideal) (G : Good D n s) :
    nextMid m c t s = lift2 fun (r : Fin 512) (k : Fin 1024) => D.some (n % 4 + 1) (n / 4 * 512 + r) k := by
  have ht : t.val < 33 := t.isLt
  have e1 : t.val - 1 = n := by omega
  have e2 : til n = n / 4 := by unfold til; omega
  have e3 : shd n = n % 4 := by unfold shd; omega
  unfold nextMid accOf
  rw [G.A t hn, G.U t hn, G.acc, show b7 m c t = _ from blk6 H t, show b8 m c t = _ from blk7 H t, p24]
  refine congrArg _ (funext fun r => funext fun k => ?_)
  rw [D.some_succ, e1, e2, e3]
  rfl

theorem dob_next (t : Fin cfg0.N) (n : ℕ) (hn : t.val = n + 1) (s : St Ideal) (G : Good D n s) :
    nextDob m c t s = lift2 fun (r : Fin 512) (a : Fin 1024) => 1 / 2 * D.ct (til t.val * 512 + r) a := by
  have ht : t.val < 33 := t.isLt
  unfold nextDob
  by_cases h : k0_cond2 (grid0.coords t) = 1#1
  · rw [if_pos h]
    exact half H t
  · rw [if_neg h, G.dob]
    have := mt (cond2_iff t).mpr h
    rw [show til t.val = til n by unfold til; omega]

theorem good_next (t : Fin cfg0.N) (n : ℕ) (hn : t.val = n + 1) (s : St Ideal) (G : Good D n s) : Good D t.val (nextSt m c t s) where
  dob := dob_next H t n hn s G
  mid _ := by
    rw [hn]
    exact mid_next H t n hn s G
  dg := by
    have ht : t.val < 33 := t.isLt
    show (if k0_cond3 (grid0.coords t) = 1#1 then k0_pay7 (nextMid m c t s) (b3 m c t) s.dg else s.dg) = _
    by_cases h : k0_cond3 (grid0.coords t) = 1#1
    · have h4 := ((cond3_iff t).mp h).1
      rw [if_pos h, mid_next H t n hn s G, G.dg, show b3 m c t = _ from blk2 H t, p7]
      refine congrArg _ (funext fun _ => funext fun a => ?_)
      rw [show t.val / 4 = n / 4 + 1 by omega]
      refine Eq.trans ?_ (Finset.sum_range_succ _ _).symm
      rw [show n % 4 + 1 = 4 by omega, show t.val - 1 = n by omega]
      rfl
    · have h4 := mt (cond3_iff t).mpr h
      rw [if_neg h, G.dg, show t.val / 4 = n / 4 by omega]
  acc := by
    have ht : t.val < 33 := t.isLt
    show (if k0_cond3 (grid0.coords t) = 1#1 then k0_pay2 k0_pay8 else nextMid m c t s) = _
    by_cases h : k0_cond3 (grid0.coords t) = 1#1
    · have h4 := ((cond3_iff t).mp h).1
      rw [if_pos h, p28, h4]
      rfl
    · have h4 := mt (cond3_iff t).mpr h
      rw [if_neg h, mid_next H t n hn s G, show t.val % 4 = n % 4 + 1 by omega, show t.val / 4 = n / 4 by omega]
  A t' h := (slot_fill t t' h _ _).trans (prepA H t _ (dob_next H t n hn s G))
  U t' h := (slot_fill t t' h _ _).trans (prepU H t _ (dob_next H t n hn s G))

/-- Every point hands on what it should. -/
theorem good : ∀ n (hn : n < cfg0.N), Good D n (stAt m c n hn)
  | 0, hn => good_first H ⟨0, hn⟩ rfl
  | n + 1, hn => good_next H ⟨n + 1, hn⟩ n rfl _ (good n (Nat.lt_of_succ_lt hn))

/-- What a tile's last point leaves of the first result. -/
theorem tile_dx (t : Fin cfg0.N) (h4 : t.val % 4 = 0) (hz : t.val ≠ 0) :
    k0_pay6 (stAt m c t.val t.isLt).mid (b3 m c t) (b4 m c t) (b2 m c t) = lift2 fun (r : Fin 512) (a : Fin 1024) => D.dx ((t.val - 1) / 4 * 512 + r) a := by
  rw [(good H t.val t.isLt).mid hz, show b3 m c t = _ from blk2 H t, show b4 m c t = _ from blk3 H t, show b2 m c t = _ from blk1 H t, p6]
  rw [show (t.val - 1) % 4 + 1 = 4 by omega]
  rfl

/-- And of the third. -/
theorem tile_heads (t : Fin cfg0.N) (h4 : t.val % 4 = 0) (hz : t.val ≠ 0) :
    k0_pay3 (k0_pay6 (stAt m c t.val t.isLt).mid (b3 m c t) (b4 m c t) (b2 m c t)) (b10 m c t)
      = lift2 fun (r : Fin 512) (k : Fin 1024) => D.heads ((t.val - 1) / 4 * 512 + r) k := by
  rw [tile_dx H t h4 hz, show b10 m c t = _ from blk9 H t, p3]
  rfl

omit H in
theorem flushes : ∀ t : Fin cfg0.N, ((cfg0.win 14).flush t = true → t.val % 4 = 0 ∧ t.val ≠ 0) ∧ ((cfg0.win 16).flush t = true → t.val % 4 = 0 ∧ t.val ≠ 0)
    ∧ ((cfg0.win 15).flush t = true → t.val = 32) := by decide +kernel

/-- The first result after the run. -/
theorem final14 : (dats m 0 c).arrAt 14 cfg0.N = lift2 fun (r : Fin 4096) (a : Fin 1024) => D.dx r a := by
  refine (dats m 0 c).arrAt_eq_of_covers 14 _ (by decide +kernel) fun t hf y => ?_
  obtain ⟨h4, hz⟩ := (flushes t).1 hf
  blk_simp
  rw [after14, tile_dx H t h4 hz]
  have h0 : ((((cfg0.win 14).blk t).view.emb y) 0 : ℕ) = (t.val - 1) / 4 * 512 + y 0 := by blk_simp [idx t]
  have h1 : ((((cfg0.win 14).blk t).view.emb y) 1) = y 1 := by apply Fin.ext; blk_simp [idx t]
  generalize ((cfg0.win 14).blk t).view.emb y = z at h0 h1 ⊢
  show ((D.dx ((t.val - 1) / 4 * 512 + (y 0 : Fin 512)) (y 1) : ℝ) : EReal) = ((D.dx (z 0 : Fin 4096) (z 1) : ℝ) : EReal)
  rw [← h1]
  exact congrArg (fun r : ℕ => ((D.dx r (z 1) : ℝ) : EReal)) h0.symm

/-- The third. -/
theorem final16 : (dats m 0 c).arrAt 16 cfg0.N = lift2 fun (r : Fin 4096) (a : Fin 1024) => D.heads r a := by
  refine (dats m 0 c).arrAt_eq_of_covers 16 _ (by decide +kernel) fun t hf y => ?_
  obtain ⟨h4, hz⟩ := (flushes t).2.1 hf
  blk_simp
  rw [after16, tile_heads H t h4 hz]
  have h0 : ((((cfg0.win 16).blk t).view.emb y) 0 : ℕ) = (t.val - 1) / 4 * 512 + y 0 := by blk_simp [idx t]
  have h1 : ((((cfg0.win 16).blk t).view.emb y) 1) = y 1 := by apply Fin.ext; blk_simp [idx t]
  generalize ((cfg0.win 16).blk t).view.emb y = z at h0 h1 ⊢
  show ((D.heads ((t.val - 1) / 4 * 512 + (y 0 : Fin 512)) (y 1) : ℝ) : EReal) = ((D.heads (z 0 : Fin 4096) (z 1) : ℝ) : EReal)
  rw [← h1]
  exact congrArg (fun r : ℕ => ((D.heads r (z 1) : ℝ) : EReal)) h0.symm

/-- The second. -/
theorem final15 : (dats m 0 c).arrAt 15 cfg0.N = lift2 fun (_ : Fin 1) a => ∑ r : Fin 4096, D.part r a := by
  refine (dats m 0 c).arrAt_eq_of_covers 15 _ (by decide +kernel) fun t hf y => ?_
  have e := (flushes t).2.2 hf
  blk_simp
  rw [after15, (good H t.val t.isLt).dg]
  have h1 : ((((cfg0.win 15).blk t).view.emb y) 1) = y 1 := by apply Fin.ext; blk_simp [idx t]
  generalize ((cfg0.win 15).blk t).view.emb y = z at h1 ⊢
  show ((D.upto (t.val / 4) (y 1) : ℝ) : EReal) = ((∑ r : Fin 4096, D.part r (z 1) : ℝ) : EReal)
  rw [h1, e]
  refine congrArg _ ?_
  unfold Data.upto
  rw [show 32 / 4 = 8 from rfl, Finset.sum_range]
  exact (Fin.sum_univ_tiles 8 512 rfl fun r : Fin 4096 => D.part r (y 1)).symm

end Cert.Kernel12Ideal.Block

end
-- ==== Proof.FfnIPre.lean ====
module

public import proofs.«01_k».proof.Proof.FfnIDat

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, -/
def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d)) ∗ (∃ d, owns c.tc (ms1 t) fullShare ((dats m 0 c).before 1 t d)) ∗ (∃ d, owns c.tc (ms2 t) fullShare ((dats m 0 c).before 2 t d)) ∗ (∃ d, owns c.tc (ms3 t) fullShare ((dats m 0 c).before 3 t d)) ∗ (∃ d, owns c.tc (ms4 t) fullShare ((dats m 0 c).before 4 t d)) ∗ (∃ d, owns c.tc (ms5 t) fullShare ((dats m 0 c).before 5 t d)) ∗ (∃ d, owns c.tc (ms6 t) fullShare ((dats m 0 c).before 6 t d)) ∗ (∃ d, owns c.tc (ms7 t) fullShare ((dats m 0 c).before 7 t d)) ∗ (∃ d, owns c.tc (ms8 t) fullShare ((dats m 0 c).before 8 t d)) ∗ (∃ d, owns c.tc (ms9 t) fullShare ((dats m 0 c).before 9 t d)) ∗ (∃ d, owns c.tc (ms10 t) fullShare ((dats m 0 c).before 10 t d)) ∗ (∃ d, owns c.tc (ms11 t) fullShare ((dats m 0 c).before 11 t d)) ∗ (∃ d, owns c.tc (ms12 t) fullShare ((dats m 0 c).before 12 t d)) ∗ (∃ d, owns c.tc (ms13 t) fullShare ((dats m 0 c).before 13 t d)) ∗ (∃ d, owns c.tc (ms14 t) fullShare ((dats m 0 c).before 14 t d)) ∗ (∃ d, owns c.tc (ms15 t) fullShare ((dats m 0 c).before 15 t d)) ∗ (∃ d, owns c.tc (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t)

/-- The cotangent rows, unchanged within a tile, are what the point leaves, written back there or not. -/
theorem leaves13 (c : Dev nD) (t : Fin cfg0.N) (hz : t.val ≠ 0) (h2 : ¬k0_cond2 (grid0.coords t) = 1#1) :
    owns c.tc (ms13 t) fullShare (prevSt m c t).dob ⊢ ((dats m 0 c).leavesExact 13 t : sProp 𝕄) := by
  have e : (dats m 0 c).after 13 t = (prevSt m c t).dob := by
    rw [after13, stAt_later m c t hz]
    exact if_neg h2
  cases hf : (cfg0.win 13).flush t with
  | false =>
    rw [Dat.leavesExact_idle (dats m 0 c) 13 t (idle13 t h2) hf]
    simp only [before13 m c t h2]
    iintro H
    iexists (prevSt m c t).dob
    iexact H
  | true =>
    rw [show (dats m 0 c).leavesExact 13 t = owns c.tc (ms13 t) fullShare ((dats m 0 c).after 13 t) from by
      unfold Dat.leavesExact; rw [idle13 t h2, hf], e]

variable (c : Dev nD) (t : Fin cfg0.N)

/-- What a point leaves in a window it does not leave alone. -/
theorem leaves_live (w : Fin cfg0.W) (h : cfg0.idle w (cfg0.grid.coords t) = false) :
    (dats m 0 c).leavesExact w t = owns c.tc ((cfg0.win w).stage (cfg0.slots t w)) fullShare ((dats m 0 c).after w t) := by
  unfold Dat.leavesExact; rw [h]

theorem leaves0 :
    (dats m 0 c).leavesExact 0 t = owns c.tc (ms0 t) fullShare (iblk m c 0 t) :=
  (leaves_live m c t 0 rfl).trans (congrArg _ (after0 m c t))
theorem leaves1 :
    (dats m 0 c).leavesExact 1 t = owns c.tc (ms1 t) fullShare (iblk m c 1 t) :=
  (leaves_live m c t 1 rfl).trans (congrArg _ (after1 m c t))
theorem leaves2 :
    (dats m 0 c).leavesExact 2 t = owns c.tc (ms2 t) fullShare (iblk m c 2 t) :=
  (leaves_live m c t 2 rfl).trans (congrArg _ (after2 m c t))
theorem leaves3 :
    (dats m 0 c).leavesExact 3 t = owns c.tc (ms3 t) fullShare (iblk m c 3 t) :=
  (leaves_live m c t 3 rfl).trans (congrArg _ (after3 m c t))
theorem leaves4 :
    (dats m 0 c).leavesExact 4 t = owns c.tc (ms4 t) fullShare (iblk m c 4 t) :=
  (leaves_live m c t 4 rfl).trans (congrArg _ (after4 m c t))
theorem leaves5 :
    (dats m 0 c).leavesExact 5 t = owns c.tc (ms5 t) fullShare (iblk m c 5 t) :=
  (leaves_live m c t 5 rfl).trans (congrArg _ (after5 m c t))
theorem leaves6 :
    (dats m 0 c).leavesExact 6 t = owns c.tc (ms6 t) fullShare (iblk m c 6 t) :=
  (leaves_live m c t 6 rfl).trans (congrArg _ (after6 m c t))
theorem leaves7 :
    (dats m 0 c).leavesExact 7 t = owns c.tc (ms7 t) fullShare (iblk m c 7 t) :=
  (leaves_live m c t 7 rfl).trans (congrArg _ (after7 m c t))
theorem leaves8 :
    (dats m 0 c).leavesExact 8 t = owns c.tc (ms8 t) fullShare (iblk m c 8 t) :=
  (leaves_live m c t 8 rfl).trans (congrArg _ (after8 m c t))
theorem leaves9 :
    (dats m 0 c).leavesExact 9 t = owns c.tc (ms9 t) fullShare (iblk m c 9 t) :=
  (leaves_live m c t 9 rfl).trans (congrArg _ (after9 m c t))
theorem leaves10 :
    (dats m 0 c).leavesExact 10 t = owns c.tc (ms10 t) fullShare (k0_pay23 (k0_pay21 (stAt m c t.val t.isLt).dob (b9 m c t) (b5 m c t) (b6 m c t))) :=
  (leaves_live m c t 10 rfl).trans (congrArg _ (after10 m c t))
theorem leaves11 :
    (dats m 0 c).leavesExact 11 t = owns c.tc (ms11 t) fullShare (k0_pay22 (k0_pay20 (stAt m c t.val t.isLt).dob (b9 m c t) (b5 m c t))) :=
  (leaves_live m c t 11 rfl).trans (congrArg _ (after11 m c t))
theorem leaves12 :
    (dats m 0 c).leavesExact 12 t = owns c.tc (ms12 t) fullShare (k0_pay19 (b5 m c t) (b6 m c t)) :=
  (leaves_live m c t 12 rfl).trans (congrArg _ (after12 m c t))
theorem leaves13_live (h : k0_cond2 (grid0.coords t) = 1#1) :
    (dats m 0 c).leavesExact 13 t = owns c.tc (ms13 t) fullShare ((stAt m c t.val t.isLt).dob) :=
  (leaves_live m c t 13 (live13 t h)).trans (congrArg _ (after13 m c t))
theorem leaves14 (h : k0_cond3 (grid0.coords t) = 1#1) :
    (dats m 0 c).leavesExact 14 t = owns c.tc (ms14 t) fullShare (k0_pay6 (stAt m c t.val t.isLt).mid (b3 m c t) (b4 m c t) (b2 m c t)) :=
  (leaves_live m c t 14 (live14 t h)).trans (congrArg _ (after14 m c t))
theorem leaves15 (h : k0_cond1 (grid0.coords t) = 1#1 ∨ k0_cond3 (grid0.coords t) = 1#1) :
    (dats m 0 c).leavesExact 15 t = owns c.tc (ms15 t) fullShare ((stAt m c t.val t.isLt).dg) :=
  (leaves_live m c t 15 (live15 t h)).trans (congrArg _ (after15 m c t))
theorem leaves16 (h : k0_cond3 (grid0.coords t) = 1#1) :
    (dats m 0 c).leavesExact 16 t = owns c.tc (ms16 t) fullShare (k0_pay3 (k0_pay6 (stAt m c t.val t.isLt).mid (b3 m c t) (b4 m c t) (b2 m c t)) (b10 m c t)) :=
  (leaves_live m c t 16 (live16 t h)).trans (congrArg _ (after16 m c t))

end Cert.Kernel12Ideal.Ffn

end
-- ==== Proof.FfnIRun.lean ====
module

public import proofs.«01_k».proof.Proof.FfnIOff

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1024x1024 .bf16) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S1x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S2x512x704 .bf16) (harg19 : arg19.IsWhole) (arg20 : Memref sig .tc .vmem S2x512x704 .bf16) (harg20 : arg20.IsWhole)
  (x1 : Vec F S512x1024 .f32) (x2 : Vec F S512x1024 .f32) (x3 : Vec F S512x1024 .f32) (x4 : Vec F S1x1024 .f32) (x5 : Vec F S1x512x704 .bf16) (x6 : Vec F S1x512x704 .bf16) (x7 : Vec F S1x704x1024 .bf16) (x8 : Vec F S1x704x1024 .bf16) (x9 : Vec F S1x704x1024 .bf16) (x10 : Vec F S1024x1024 .bf16)

set_option maxHeartbeats 4000000 in
/-- At the first point: what the body's stores leave in each buffer it writes, as pieces (last first), with the proof that the body
    runs to them. -/
def runA (hc1 : k0_cond1 i = 1#1) (hc2 : k0_cond2 i = 1#1) (hc3 : ¬k0_cond3 i = 1#1)  :
    Σ' (L11 : List (View.Piece (Elt F) S1x512x704 .bf16)), Σ' (L12 : List (View.Piece (Elt F) S1x512x704 .bf16)), Σ' (L13 : List (View.Piece (Elt F) S1x512x704 .bf16)), Σ' (L14 : List (View.Piece (Elt F) S512x1024 .bf16)), Σ' (L16 : List (View.Piece (Elt F) S1x1024 .f32)), Σ' (L18 : List (View.Piece (Elt F) S512x1024 .f32)), Σ' (L19 : List (View.Piece (Elt F) S2x512x704 .bf16)), { L20 : List (View.Piece (Elt F) S2x512x704 .bf16) //
      ∀ (x15 : Vec F S512x1024 .f32) (x17 : Vec F S512x1024 .f32) (E : Set ℕ) (K : PUnit → sProp 𝕄),
        iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ (∃ d, owns c.tc arg14 fullShare d) ∗ owns c.tc arg15 fullShare x15 ∗ (∃ d, owns c.tc arg16 fullShare d) ∗ owns c.tc arg17 fullShare x17 ∗ (∃ d, owns c.tc arg18 fullShare d) ∗ (∃ d, owns c.tc arg19 fullShare d) ∗ (∃ d, owns c.tc arg20 fullShare d)
            ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ f, arg11.view.loc c.tc ↦[arg11.view.set]{fullShare} arg11.view.writes (Elt F) f L11) ∗ (∃ f, arg12.view.loc c.tc ↦[arg12.view.set]{fullShare} arg12.view.writes (Elt F) f L12) ∗ (∃ f, arg13.view.loc c.tc ↦[arg13.view.set]{fullShare} arg13.view.writes (Elt F) f L13) ∗ (∃ f, arg14.view.loc c.tc ↦[arg14.view.set]{fullShare} arg14.view.writes (Elt F) f L14) ∗ owns c.tc arg15 fullShare x15 ∗ (∃ f, arg16.view.loc c.tc ↦[arg16.view.set]{fullShare} arg16.view.writes (Elt F) f L16) ∗ owns c.tc arg17 fullShare x17 ∗ (∃ f, arg18.view.loc c.tc ↦[arg18.view.set]{fullShare} arg18.view.writes (Elt F) f L18) ∗ (∃ f, arg19.view.loc c.tc ↦[arg19.view.set]{fullShare} arg19.view.writes (Elt F) f L19) ∗ (∃ f, arg20.view.loc c.tc ↦[arg20.view.set]{fullShare} arg20.view.writes (Elt F) f L20)) -∗ K ⟨⟩))
          ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, fun x15 x17 E K => ?run⟩
  case run =>
    simp only [cc0_ffn2_bwd_eq_skeleton]
    unfold cc0_ffn2_bwd_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%f17, %hf17, H17⟩, ⟨%d18, %f18, -, H18⟩, ⟨%d19, %f19, -, H19⟩, ⟨%d20, %f20, -, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15; obtain rfl := harg17.eq_unread hf17
    sl_exec (disch := first | sl_exact hc1 | sl_exact hc2 | sl_exact hc3)
    sl_step
    iapply Hk
    isplitl [H1]; iapply (owns_unread c harg1 x1); iexact H1
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iapply (owns_unread c harg9 x9); iexact H9
    isplitl [H10]; iapply (owns_unread c harg10 x10); iexact H10
    isplitl [H11]; iexists _; iexact H11
    isplitl [H12]; iexists _; iexact H12
    isplitl [H13]; iexists _; iexact H13
    isplitl [H14]; iexists _; iexact H14
    isplitl [H15]; iapply (owns_unread c harg15 x15); iexact H15
    isplitl [H16]; iexists _; iexact H16
    isplitl [H17]; iapply (owns_unread c harg17 x17); iexact H17
    isplitl [H18]; iexists _; iexact H18
    isplitl [H19]; iexists _; iexact H19
    iexists _; iexact H20

set_option maxHeartbeats 4000000 in
/-- At a tile's first point but the very first: what the body's stores leave in each buffer it writes, as pieces (last first), with the proof that the body
    runs to them. -/
def runB (hc1 : ¬k0_cond1 i = 1#1) (hc2 : k0_cond2 i = 1#1) (hc3 : k0_cond3 i = 1#1) (x16 : Vec F S1x1024 .f32) (x18 : Vec F S512x1024 .f32) (x19 : Vec F S2x512x704 .bf16) (x20 : Vec F S2x512x704 .bf16) :
    Σ' (L11 : List (View.Piece (Elt F) S1x512x704 .bf16)), Σ' (L12 : List (View.Piece (Elt F) S1x512x704 .bf16)), Σ' (L13 : List (View.Piece (Elt F) S1x512x704 .bf16)), Σ' (L14 : List (View.Piece (Elt F) S512x1024 .bf16)), Σ' (L15 : List (View.Piece (Elt F) S512x1024 .f32)), Σ' (L16 : List (View.Piece (Elt F) S1x1024 .f32)), Σ' (L17 : List (View.Piece (Elt F) S512x1024 .f32)), Σ' (L18 : List (View.Piece (Elt F) S512x1024 .f32)), Σ' (L19 : List (View.Piece (Elt F) S2x512x704 .bf16)), { L20 : List (View.Piece (Elt F) S2x512x704 .bf16) //
      ∀ (E : Set ℕ) (K : PUnit → sProp 𝕄),
        iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d) ∗ owns c.tc arg16 fullShare x16 ∗ (∃ d, owns c.tc arg17 fullShare d) ∗ owns c.tc arg18 fullShare x18 ∗ owns c.tc arg19 fullShare x19 ∗ owns c.tc arg20 fullShare x20
            ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ f, arg11.view.loc c.tc ↦[arg11.view.set]{fullShare} arg11.view.writes (Elt F) f L11) ∗ (∃ f, arg12.view.loc c.tc ↦[arg12.view.set]{fullShare} arg12.view.writes (Elt F) f L12) ∗ (∃ f, arg13.view.loc c.tc ↦[arg13.view.set]{fullShare} arg13.view.writes (Elt F) f L13) ∗ (∃ f, arg14.view.loc c.tc ↦[arg14.view.set]{fullShare} arg14.view.writes (Elt F) f L14) ∗ (∃ f, arg15.view.loc c.tc ↦[arg15.view.set]{fullShare} arg15.view.writes (Elt F) f L15) ∗ (∃ f, arg16.view.loc c.tc ↦[arg16.view.set]{fullShare} arg16.view.writes (Elt F) f L16) ∗ (∃ f, arg17.view.loc c.tc ↦[arg17.view.set]{fullShare} arg17.view.writes (Elt F) f L17) ∗ (∃ f, arg18.view.loc c.tc ↦[arg18.view.set]{fullShare} arg18.view.writes (Elt F) f L18) ∗ (arg19.view.loc c.tc ↦[arg19.view.set]{fullShare} arg19.view.writes (Elt F) (harg19.unread x19) L19) ∗ (arg20.view.loc c.tc ↦[arg20.view.set]{fullShare} arg20.view.writes (Elt F) (harg20.unread x20) L20)) -∗ K ⟨⟩))
          ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun  E K => ?run⟩
  case run =>
    simp only [cc0_ffn2_bwd_eq_skeleton]
    unfold cc0_ffn2_bwd_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%d17, %f17, -, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg18.eq_unread hf18; obtain rfl := harg19.eq_unread hf19; obtain rfl := harg20.eq_unread hf20
    sl_exec (disch := first | sl_exact hc1 | sl_exact hc2 | sl_exact hc3)
    sl_step
    iapply Hk
    isplitl [H1]; iapply (owns_unread c harg1 x1); iexact H1
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iapply (owns_unread c harg9 x9); iexact H9
    isplitl [H10]; iapply (owns_unread c harg10 x10); iexact H10
    isplitl [H11]; iexists _; iexact H11
    isplitl [H12]; iexists _; iexact H12
    isplitl [H13]; iexists _; iexact H13
    isplitl [H14]; iexists _; iexact H14
    isplitl [H15]; iexists _; iexact H15
    isplitl [H16]; iexists _; iexact H16
    isplitl [H17]; iexists _; iexact H17
    isplitl [H18]; iexists _; iexact H18
    isplitl [H19]; iexact H19
    iexact H20

set_option maxHeartbeats 4000000 in
/-- Within a tile: what the body's stores leave in each buffer it writes, as pieces (last first), with the proof that the body
    runs to them. -/
def runC (hc1 : ¬k0_cond1 i = 1#1) (hc2 : ¬k0_cond2 i = 1#1) (hc3 : ¬k0_cond3 i = 1#1) (x14 : Vec F S512x1024 .bf16) (x18 : Vec F S512x1024 .f32) (x19 : Vec F S2x512x704 .bf16) (x20 : Vec F S2x512x704 .bf16) :
    Σ' (L11 : List (View.Piece (Elt F) S1x512x704 .bf16)), Σ' (L12 : List (View.Piece (Elt F) S1x512x704 .bf16)), Σ' (L13 : List (View.Piece (Elt F) S1x512x704 .bf16)), Σ' (L18 : List (View.Piece (Elt F) S512x1024 .f32)), Σ' (L19 : List (View.Piece (Elt F) S2x512x704 .bf16)), { L20 : List (View.Piece (Elt F) S2x512x704 .bf16) //
      ∀ (x15 : Vec F S512x1024 .f32) (x16 : Vec F S1x1024 .f32) (x17 : Vec F S512x1024 .f32) (E : Set ℕ) (K : PUnit → sProp 𝕄),
        iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ owns c.tc arg14 fullShare x14 ∗ owns c.tc arg15 fullShare x15 ∗ owns c.tc arg16 fullShare x16 ∗ owns c.tc arg17 fullShare x17 ∗ owns c.tc arg18 fullShare x18 ∗ owns c.tc arg19 fullShare x19 ∗ owns c.tc arg20 fullShare x20
            ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ f, arg11.view.loc c.tc ↦[arg11.view.set]{fullShare} arg11.view.writes (Elt F) f L11) ∗ (∃ f, arg12.view.loc c.tc ↦[arg12.view.set]{fullShare} arg12.view.writes (Elt F) f L12) ∗ (∃ f, arg13.view.loc c.tc ↦[arg13.view.set]{fullShare} arg13.view.writes (Elt F) f L13) ∗ owns c.tc arg14 fullShare x14 ∗ owns c.tc arg15 fullShare x15 ∗ owns c.tc arg16 fullShare x16 ∗ owns c.tc arg17 fullShare x17 ∗ (∃ f, arg18.view.loc c.tc ↦[arg18.view.set]{fullShare} arg18.view.writes (Elt F) f L18) ∗ (arg19.view.loc c.tc ↦[arg19.view.set]{fullShare} arg19.view.writes (Elt F) (harg19.unread x19) L19) ∗ (arg20.view.loc c.tc ↦[arg20.view.set]{fullShare} arg20.view.writes (Elt F) (harg20.unread x20) L20)) -∗ K ⟨⟩))
          ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun x15 x16 x17 E K => ?run⟩
  case run =>
    simp only [cc0_ffn2_bwd_eq_skeleton]
    unfold cc0_ffn2_bwd_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec (disch := first | sl_exact hc1 | sl_exact hc2 | sl_exact hc3)
    sl_step
    iapply Hk
    isplitl [H1]; iapply (owns_unread c harg1 x1); iexact H1
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iapply (owns_unread c harg9 x9); iexact H9
    isplitl [H10]; iapply (owns_unread c harg10 x10); iexact H10
    isplitl [H11]; iexists _; iexact H11
    isplitl [H12]; iexists _; iexact H12
    isplitl [H13]; iexists _; iexact H13
    isplitl [H14]; iapply (owns_unread c harg14 x14); iexact H14
    isplitl [H15]; iapply (owns_unread c harg15 x15); iexact H15
    isplitl [H16]; iapply (owns_unread c harg16 x16); iexact H16
    isplitl [H17]; iapply (owns_unread c harg17 x17); iexact H17
    isplitl [H18]; iexists _; iexact H18
    isplitl [H19]; iexact H19
    iexact H20

set_option maxHeartbeats 4000000 in
/-- At the last point, which only finishes: what the body's stores leave in each buffer it writes, as pieces (last first), with the proof that the body
    runs to them. -/
def runD (hc1 : ¬k0_cond1 i = 1#1) (hc2 : ¬k0_cond2 i = 1#1) (hc3 : k0_cond3 i = 1#1) (x14 : Vec F S512x1024 .bf16) (x16 : Vec F S1x1024 .f32) (x18 : Vec F S512x1024 .f32) (x19 : Vec F S2x512x704 .bf16) (x20 : Vec F S2x512x704 .bf16) :
    Σ' (L11 : List (View.Piece (Elt F) S1x512x704 .bf16)), Σ' (L12 : List (View.Piece (Elt F) S1x512x704 .bf16)), Σ' (L13 : List (View.Piece (Elt F) S1x512x704 .bf16)), Σ' (L15 : List (View.Piece (Elt F) S512x1024 .f32)), Σ' (L16 : List (View.Piece (Elt F) S1x1024 .f32)), Σ' (L17 : List (View.Piece (Elt F) S512x1024 .f32)), Σ' (L18 : List (View.Piece (Elt F) S512x1024 .f32)), Σ' (L19 : List (View.Piece (Elt F) S2x512x704 .bf16)), { L20 : List (View.Piece (Elt F) S2x512x704 .bf16) //
      ∀ (E : Set ℕ) (K : PUnit → sProp 𝕄),
        iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ owns c.tc arg14 fullShare x14 ∗ (∃ d, owns c.tc arg15 fullShare d) ∗ owns c.tc arg16 fullShare x16 ∗ (∃ d, owns c.tc arg17 fullShare d) ∗ owns c.tc arg18 fullShare x18 ∗ owns c.tc arg19 fullShare x19 ∗ owns c.tc arg20 fullShare x20
            ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ f, arg11.view.loc c.tc ↦[arg11.view.set]{fullShare} arg11.view.writes (Elt F) f L11) ∗ (∃ f, arg12.view.loc c.tc ↦[arg12.view.set]{fullShare} arg12.view.writes (Elt F) f L12) ∗ (∃ f, arg13.view.loc c.tc ↦[arg13.view.set]{fullShare} arg13.view.writes (Elt F) f L13) ∗ owns c.tc arg14 fullShare x14 ∗ (∃ f, arg15.view.loc c.tc ↦[arg15.view.set]{fullShare} arg15.view.writes (Elt F) f L15) ∗ (∃ f, arg16.view.loc c.tc ↦[arg16.view.set]{fullShare} arg16.view.writes (Elt F) f L16) ∗ (∃ f, arg17.view.loc c.tc ↦[arg17.view.set]{fullShare} arg17.view.writes (Elt F) f L17) ∗ (∃ f, arg18.view.loc c.tc ↦[arg18.view.set]{fullShare} arg18.view.writes (Elt F) f L18) ∗ (arg19.view.loc c.tc ↦[arg19.view.set]{fullShare} arg19.view.writes (Elt F) (harg19.unread x19) L19) ∗ (arg20.view.loc c.tc ↦[arg20.view.set]{fullShare} arg20.view.writes (Elt F) (harg20.unread x20) L20)) -∗ K ⟨⟩))
          ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, fun  E K => ?run⟩
  case run =>
    simp only [cc0_ffn2_bwd_eq_skeleton]
    unfold cc0_ffn2_bwd_skel
    simp only [k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%d17, %f17, -, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg16.eq_unread hf16; obtain rfl := harg18.eq_unread hf18; obtain rfl := harg19.eq_unread hf19; obtain rfl := harg20.eq_unread hf20
    sl_exec (disch := first | sl_exact hc1 | sl_exact hc2 | sl_exact hc3)
    sl_step
    iapply Hk
    isplitl [H1]; iapply (owns_unread c harg1 x1); iexact H1
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iapply (owns_unread c harg9 x9); iexact H9
    isplitl [H10]; iapply (owns_unread c harg10 x10); iexact H10
    isplitl [H11]; iexists _; iexact H11
    isplitl [H12]; iexists _; iexact H12
    isplitl [H13]; iexists _; iexact H13
    isplitl [H14]; iapply (owns_unread c harg14 x14); iexact H14
    isplitl [H15]; iexists _; iexact H15
    isplitl [H16]; iexists _; iexact H16
    isplitl [H17]; iexists _; iexact H17
    isplitl [H18]; iexists _; iexact H18
    isplitl [H19]; iexact H19
    iexact H20

end Cert.Kernel12Ideal.Ffn

end
-- ==== Proof.FfnIStep.lean ====
module

public import proofs.«01_k».proof.Proof.FfnIDef
public import proofs.«01_k».proof.Proof.FfnIRun

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1024x1024 .bf16) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S1x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S2x512x704 .bf16) (harg19 : arg19.IsWhole) (arg20 : Memref sig .tc .vmem S2x512x704 .bf16) (harg20 : arg20.IsWhole)
  (x1 : Vec F S512x1024 .f32) (x2 : Vec F S512x1024 .f32) (x3 : Vec F S512x1024 .f32) (x4 : Vec F S1x1024 .f32) (x5 : Vec F S1x512x704 .bf16) (x6 : Vec F S1x512x704 .bf16) (x7 : Vec F S1x704x1024 .bf16) (x8 : Vec F S1x704x1024 .bf16) (x9 : Vec F S1x704x1024 .bf16) (x10 : Vec F S1024x1024 .bf16)

set_option maxHeartbeats 4000000 in
/-- At the first point: the body's run with what each buffer holds afterwards. -/
theorem stepA (hc1 : k0_cond1 i = 1#1) (hc2 : k0_cond2 i = 1#1) (hc3 : ¬k0_cond3 i = 1#1) (x15 : Vec F S512x1024 .f32) (x17 : Vec F S512x1024 .f32) (E : Set ℕ) (K : PUnit → sProp 𝕄) :
    iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ (∃ d, owns c.tc arg14 fullShare d) ∗ owns c.tc arg15 fullShare x15 ∗ (∃ d, owns c.tc arg16 fullShare d) ∗ owns c.tc arg17 fullShare x17 ∗ (∃ d, owns c.tc arg18 fullShare d) ∗ (∃ d, owns c.tc arg19 fullShare d) ∗ (∃ d, owns c.tc arg20 fullShare d)
        ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare (k0_pay23 (k0_pay21 (k0_pay13 x1) x9 x5 x6)) ∗ owns c.tc arg12 fullShare (k0_pay22 (k0_pay20 (k0_pay13 x1) x9 x5)) ∗ owns c.tc arg13 fullShare (k0_pay19 x5 x6) ∗ owns c.tc arg14 fullShare ((k0_pay13 x1)) ∗ owns c.tc arg15 fullShare x15 ∗ owns c.tc arg16 fullShare (k0_pay9) ∗ owns c.tc arg17 fullShare x17 ∗ owns c.tc arg18 fullShare ((accOf i k0_pay10 k0_pay11 x7 k0_pay12 x8)) ∗ owns c.tc arg19 fullShare (fillOf i k0_pay11 (k0_pay25 (k0_pay21 (k0_pay13 x1) x9 x5 x6))) ∗ owns c.tc arg20 fullShare (fillOf i k0_pay12 (k0_pay1 (k0_pay20 (k0_pay13 x1) x9 x5)))) -∗ K ⟨⟩))
      ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H1, H2, H3, H4, H5, H6, H7, H8, H9, H10, H11, H12, H13, H14, H15, H16, H17, H18, H19, H20, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 hc1 hc2 hc3 ).2.2.2.2.2.2.2.2 x15 x17 E K)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  isplitl [H17]; iexact H17
  isplitl [H18]; iexact H18
  isplitl [H19]; iexact H19
  isplitl [H20]; iexact H20
  iintro ⟨H1, H2, H3, H4, H5, H6, H7, H8, H9, H10, ⟨%e11, H11⟩, ⟨%e12, H12⟩, ⟨%e13, H13⟩, ⟨%e14, H14⟩, H15, ⟨%e16, H16⟩, H17, ⟨%e18, H18⟩, ⟨%e19, H19⟩, ⟨%e20, H20⟩⟩
  iapply Hk
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; on_goal 1 => (unfold owns; iexists _; isplitr; swap; iexact H11)
  rotate_left
  isplitl [H12]; on_goal 1 => (unfold owns; iexists _; isplitr; swap; iexact H12)
  rotate_left
  isplitl [H13]; on_goal 1 => (unfold owns; iexists _; isplitr; swap; iexact H13)
  rotate_left
  isplitl [H14]; on_goal 1 => (unfold owns; iexists _; isplitr; swap; iexact H14)
  rotate_left
  isplitl [H15]; iexact H15
  isplitl [H16]; on_goal 1 => (unfold owns; iexists _; isplitr; swap; iexact H16)
  rotate_left
  isplitl [H17]; iexact H17
  isplitl [H18]; on_goal 1 => (unfold owns; iexists _; isplitr; swap; iexact H18)
  rotate_left
  isplitl [H19]; on_goal 1 => (unfold owns; iexists _; isplitr; swap; iexact H19)
  rotate_left
  unfold owns; iexists _; isplitr; swap; iexact H20
  all_goals
    ipureintro
    simp only [runA, runA.sl.H14_1, runA.sl.H18_1, runA.sl.H19_1, runA.sl.H20_1, runA.sl.v42, runA.sl.v77, runA.sl.r, runA.sl.r_1, ↓read_writes_all, readAt_all,
      readAt_slot, read_writes_slot, accOf, View.readCov, View.writes_nil, Memref.IsWhole.read_unread]

set_option maxHeartbeats 4000000 in
/-- At a tile's first point but the very first: the body's run with what each buffer holds afterwards. -/
theorem stepB (hc1 : ¬k0_cond1 i = 1#1) (hc2 : k0_cond2 i = 1#1) (hc3 : k0_cond3 i = 1#1) (x16 : Vec F S1x1024 .f32) (x18 : Vec F S512x1024 .f32) (x19 : Vec F S2x512x704 .bf16) (x20 : Vec F S2x512x704 .bf16) (E : Set ℕ) (K : PUnit → sProp 𝕄) :
    iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d) ∗ owns c.tc arg16 fullShare x16 ∗ (∃ d, owns c.tc arg17 fullShare d) ∗ owns c.tc arg18 fullShare x18 ∗ owns c.tc arg19 fullShare x19 ∗ owns c.tc arg20 fullShare x20
        ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare (k0_pay23 (k0_pay21 (k0_pay13 x1) x9 x5 x6)) ∗ owns c.tc arg12 fullShare (k0_pay22 (k0_pay20 (k0_pay13 x1) x9 x5)) ∗ owns c.tc arg13 fullShare (k0_pay19 x5 x6) ∗ owns c.tc arg14 fullShare ((k0_pay13 x1)) ∗ owns c.tc arg15 fullShare (k0_pay6 (accOf i x18 x19 x7 x20 x8) x3 x4 x2) ∗ owns c.tc arg16 fullShare (k0_pay7 (accOf i x18 x19 x7 x20 x8) x3 x16) ∗ owns c.tc arg17 fullShare (k0_pay3 (k0_pay6 (accOf i x18 x19 x7 x20 x8) x3 x4 x2) x10) ∗ owns c.tc arg18 fullShare (k0_pay2 k0_pay8) ∗ owns c.tc arg19 fullShare (fillOf i x19 (k0_pay25 (k0_pay21 (k0_pay13 x1) x9 x5 x6))) ∗ owns c.tc arg20 fullShare (fillOf i x20 (k0_pay1 (k0_pay20 (k0_pay13 x1) x9 x5)))) -∗ K ⟨⟩))
      ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H1, H2, H3, H4, H5, H6, H7, H8, H9, H10, H11, H12, H13, H14, H15, H16, H17, H18, H19, H20, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 hc1 hc2 hc3 x16 x18 x19 x20).2.2.2.2.2.2.2.2.2.2  E K)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  isplitl [H17]; iexact H17
  isplitl [H18]; iexact H18
  isplitl [H19]; iexact H19
  isplitl [H20]; iexact H20
  iintro ⟨H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, H19, H20⟩
  iapply Hk
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; on_goal 1 => (unfold owns; iexists _; isplitr; swap; iexact H11)
  rotate_left
  isplitl [H12]; on_goal 1 => (unfold owns; iexists _; isplitr; swap; iexact H12)
  rotate_left
  isplitl [H13]; on_goal 1 => (unfold owns; iexists _; isplitr; swap; iexact H13)
  rotate_left
  isplitl [H14]; on_goal 1 => (unfold owns; iexists _; isplitr; swap; iexact H14)
  rotate_left
  isplitl [H15]; on_goal 1 => (unfold owns; iexists _; isplitr; swap; iexact H15)
  rotate_left
  isplitl [H16]; on_goal 1 => (unfold owns; iexists _; isplitr; swap; iexact H16)
  rotate_left
  isplitl [H17]; on_goal 1 => (unfold owns; iexists _; isplitr; swap; iexact H17)
  rotate_left
  isplitl [H18]; on_goal 1 => (unfold owns; iexists _; isplitr; swap; iexact H18)
  rotate_left
  isplitl [H19]; on_goal 1 => (unfold owns; iexists _; isplitr; swap; iexact H19)
  rotate_left
  unfold owns; iexists _; isplitr; swap; iexact H20
  all_goals
    ipureintro
    simp only [runB, runB.sl.H14_1, runB.sl.H18_1, runB.sl.v42, runB.sl.v110, runB.sl.r, runB.sl.r_1, runB.sl.r_2, ↓read_writes_all, readAt_all,
      readAt_slot, read_writes_slot, accOf, View.readCov, View.writes_nil, Memref.IsWhole.read_unread]

set_option maxHeartbeats 4000000 in
/-- Within a tile: the body's run with what each buffer holds afterwards. -/
theorem stepC (hc1 : ¬k0_cond1 i = 1#1) (hc2 : ¬k0_cond2 i = 1#1) (hc3 : ¬k0_cond3 i = 1#1) (x14 : Vec F S512x1024 .bf16) (x15 : Vec F S512x1024 .f32) (x16 : Vec F S1x1024 .f32) (x17 : Vec F S512x1024 .f32) (x18 : Vec F S512x1024 .f32) (x19 : Vec F S2x512x704 .bf16) (x20 : Vec F S2x512x704 .bf16) (E : Set ℕ) (K : PUnit → sProp 𝕄) :
    iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ owns c.tc arg14 fullShare x14 ∗ owns c.tc arg15 fullShare x15 ∗ owns c.tc arg16 fullShare x16 ∗ owns c.tc arg17 fullShare x17 ∗ owns c.tc arg18 fullShare x18 ∗ owns c.tc arg19 fullShare x19 ∗ owns c.tc arg20 fullShare x20
        ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare (k0_pay23 (k0_pay21 x14 x9 x5 x6)) ∗ owns c.tc arg12 fullShare (k0_pay22 (k0_pay20 x14 x9 x5)) ∗ owns c.tc arg13 fullShare (k0_pay19 x5 x6) ∗ owns c.tc arg14 fullShare x14 ∗ owns c.tc arg15 fullShare x15 ∗ owns c.tc arg16 fullShare x16 ∗ owns c.tc arg17 fullShare x17 ∗ owns c.tc arg18 fullShare ((accOf i x18 x19 x7 x20 x8)) ∗ owns c.tc arg19 fullShare (fillOf i x19 (k0_pay25 (k0_pay21 x14 x9 x5 x6))) ∗ owns c.tc arg20 fullShare (fillOf i x20 (k0_pay1 (k0_pay20 x14 x9 x5)))) -∗ K ⟨⟩))
      ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H1, H2, H3, H4, H5, H6, H7, H8, H9, H10, H11, H12, H13, H14, H15, H16, H17, H18, H19, H20, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 hc1 hc2 hc3 x14 x18 x19 x20).2.2.2.2.2.2 x15 x16 x17 E K)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  isplitl [H17]; iexact H17
  isplitl [H18]; iexact H18
  isplitl [H19]; iexact H19
  isplitl [H20]; iexact H20
  iintro ⟨H1, H2, H3, H4, H5, H6, H7, H8, H9, H10, ⟨%e11, H11⟩, ⟨%e12, H12⟩, ⟨%e13, H13⟩, H14, H15, H16, H17, ⟨%e18, H18⟩, H19, H20⟩
  iapply Hk
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; on_goal 1 => (unfold owns; iexists _; isplitr; swap; iexact H11)
  rotate_left
  isplitl [H12]; on_goal 1 => (unfold owns; iexists _; isplitr; swap; iexact H12)
  rotate_left
  isplitl [H13]; on_goal 1 => (unfold owns; iexists _; isplitr; swap; iexact H13)
  rotate_left
  isplitl [H14]; iexact H14
  isplitl [H15]; iexact H15
  isplitl [H16]; iexact H16
  isplitl [H17]; iexact H17
  isplitl [H18]; on_goal 1 => (unfold owns; iexists _; isplitr; swap; iexact H18)
  rotate_left
  isplitl [H19]; on_goal 1 => (unfold owns; iexists _; isplitr; swap; iexact H19)
  rotate_left
  unfold owns; iexists _; isplitr; swap; iexact H20
  all_goals
    ipureintro
    simp only [runC, runC.sl.r, runC.sl.r_1, ↓read_writes_all, readAt_all,
      readAt_slot, read_writes_slot, accOf, View.readCov, View.writes_nil, Memref.IsWhole.read_unread]

set_option maxHeartbeats 4000000 in
/-- At the last point, which only finishes: the body's run with what each buffer holds afterwards. -/
theorem stepD (hc1 : ¬k0_cond1 i = 1#1) (hc2 : ¬k0_cond2 i = 1#1) (hc3 : k0_cond3 i = 1#1) (x14 : Vec F S512x1024 .bf16) (x16 : Vec F S1x1024 .f32) (x18 : Vec F S512x1024 .f32) (x19 : Vec F S2x512x704 .bf16) (x20 : Vec F S2x512x704 .bf16) (E : Set ℕ) (K : PUnit → sProp 𝕄) :
    iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (∃ d, owns c.tc arg11 fullShare d) ∗ (∃ d, owns c.tc arg12 fullShare d) ∗ (∃ d, owns c.tc arg13 fullShare d) ∗ owns c.tc arg14 fullShare x14 ∗ (∃ d, owns c.tc arg15 fullShare d) ∗ owns c.tc arg16 fullShare x16 ∗ (∃ d, owns c.tc arg17 fullShare d) ∗ owns c.tc arg18 fullShare x18 ∗ owns c.tc arg19 fullShare x19 ∗ owns c.tc arg20 fullShare x20
        ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare (k0_pay23 (k0_pay21 x14 x9 x5 x6)) ∗ owns c.tc arg12 fullShare (k0_pay22 (k0_pay20 x14 x9 x5)) ∗ owns c.tc arg13 fullShare (k0_pay19 x5 x6) ∗ owns c.tc arg14 fullShare x14 ∗ owns c.tc arg15 fullShare (k0_pay6 (accOf i x18 x19 x7 x20 x8) x3 x4 x2) ∗ owns c.tc arg16 fullShare (k0_pay7 (accOf i x18 x19 x7 x20 x8) x3 x16) ∗ owns c.tc arg17 fullShare (k0_pay3 (k0_pay6 (accOf i x18 x19 x7 x20 x8) x3 x4 x2) x10) ∗ owns c.tc arg18 fullShare (k0_pay2 k0_pay8) ∗ owns c.tc arg19 fullShare (fillOf i x19 (k0_pay25 (k0_pay21 x14 x9 x5 x6))) ∗ owns c.tc arg20 fullShare (fillOf i x20 (k0_pay1 (k0_pay20 x14 x9 x5)))) -∗ K ⟨⟩))
      ⊢ wp frame (wpE (defs₀ (F := F)) Variants.none c none) E (cc0_ffn2_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H1, H2, H3, H4, H5, H6, H7, H8, H9, H10, H11, H12, H13, H14, H15, H16, H17, H18, H19, H20, Hk⟩
  iapply ((runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 hc1 hc2 hc3 x14 x16 x18 x19 x20).2.2.2.2.2.2.2.2.2  E K)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  isplitl [H17]; iexact H17
  isplitl [H18]; iexact H18
  isplitl [H19]; iexact H19
  isplitl [H20]; iexact H20
  iintro ⟨H1, H2, H3, H4, H5, H6, H7, H8, H9, H10, ⟨%e11, H11⟩, ⟨%e12, H12⟩, ⟨%e13, H13⟩, H14, ⟨%e15, H15⟩, ⟨%e16, H16⟩, ⟨%e17, H17⟩, ⟨%e18, H18⟩, H19, H20⟩
  iapply Hk
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; on_goal 1 => (unfold owns; iexists _; isplitr; swap; iexact H11)
  rotate_left
  isplitl [H12]; on_goal 1 => (unfold owns; iexists _; isplitr; swap; iexact H12)
  rotate_left
  isplitl [H13]; on_goal 1 => (unfold owns; iexists _; isplitr; swap; iexact H13)
  rotate_left
  isplitl [H14]; iexact H14
  isplitl [H15]; on_goal 1 => (unfold owns; iexists _; isplitr; swap; iexact H15)
  rotate_left
  isplitl [H16]; on_goal 1 => (unfold owns; iexists _; isplitr; swap; iexact H16)
  rotate_left
  isplitl [H17]; on_goal 1 => (unfold owns; iexists _; isplitr; swap; iexact H17)
  rotate_left
  isplitl [H18]; on_goal 1 => (unfold owns; iexists _; isplitr; swap; iexact H18)
  rotate_left
  isplitl [H19]; on_goal 1 => (unfold owns; iexists _; isplitr; swap; iexact H19)
  rotate_left
  unfold owns; iexists _; isplitr; swap; iexact H20
  all_goals
    ipureintro
    simp only [runD, runD.sl.H18_1, runD.sl.v110, runD.sl.r, runD.sl.r_1, runD.sl.r_2, ↓read_writes_all, readAt_all,
      readAt_slot, read_writes_slot, accOf, View.readCov, View.writes_nil, Memref.IsWhole.read_unread]

end Cert.Kernel12Ideal.Ffn

end
-- ==== Proof.FfnISound.lean ====
module

public import proofs.«01_k».proof.Proof.FfnIPre
public import proofs.«01_k».proof.Proof.FfnIStep

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first point: what the body is called with gives what it must leave. -/
theorem soundA (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  obtain ⟨h1, h2, h3⟩ := first_conds t hz
  rw [leaves0, leaves1, leaves2, leaves3, leaves4, leaves5, leaves6, leaves7, leaves8, leaves9, leaves10, leaves11, leaves12, leaves13_live m c t h2]
  rw [Dat.leavesExact_idle (dats m 0 c) 14 t (idle14 t h3).1 (idle14 t h3).2]
  rw [Dat.leavesExact_idle (dats m 0 c) 16 t (idle16 t h3).1 (idle16 t h3).2]
  rw [leaves15 m c t (.inl h1)]
  rw [PhiS_castSucc m c t, PhiS_zero m c _ _ hz, PhiA_eq, stAt_first m c t hz]
  dsimp only [firstSt]
  iintro ⟨⟨⟨HS18, HS19, HS20⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (stepA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scM0 (Memref.isWhole_whole _) scM1 (Memref.isWhole_whole _) scM2 (Memref.isWhole_whole _) (b1 m c t) (b2 m c t) (b3 m c t) (b4 m c t) (b5 m c t) (b6 m c t) (b7 m c t) (b8 m c t) (b9 m c t) (b10 m c t) h1 h2 h3 _ _ Set.univ _)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexists _; iexact H11
  isplitl [H12]; iexists _; iexact H12
  isplitl [H13]; iexists _; iexact H13
  isplitl [H14]; iexists _; iexact H14
  isplitl [H15]; iexact H15
  isplitl [H16]; iexists _; iexact H16
  isplitl [H17]; iexact H17
  isplitl [HS18]; iexact HS18
  isplitl [HS19]; iexact HS19
  isplitl [HS20]; iexact HS20
  iintro ⟨H1, H2, H3, H4, H5, H6, H7, H8, H9, H10, H11, H12, H13, H14, H15, H16, H17, HS18, HS19, HS20⟩
  isplitl [HS18 HS19 HS20 Hg]
  · isplitl [HS18 HS19 HS20]
    · isplitl [HS18]; iexact HS18
      isplitl [HS19]; iexact HS19
      iexact HS20
    iexact Hg
  isplitl [Ho]; iexact Ho
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexists _; iexact H15
  isplitl [H16]; iexact H16
  iexists _; iexact H17

set_option maxHeartbeats 4000000 in
/-- At a tile's first point but the very first: what the body is called with gives what it must leave. -/
theorem soundB (c : Dev nD) (t : Fin cfg0.N) (hz : t.val ≠ 0) (h2 : k0_cond2 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  obtain ⟨h1, h23⟩ := later_conds t hz
  have h3 := h23 h2
  rw [leaves0, leaves1, leaves2, leaves3, leaves4, leaves5, leaves6, leaves7, leaves8, leaves9, leaves10, leaves11, leaves12, leaves13_live m c t h2]
  rw [leaves14 m c t h3]
  rw [leaves16 m c t h3]
  rw [leaves15 m c t (.inr h3)]
  simp only [before15 m c t hz]
  rw [PhiS_castSucc m c t, PhiS_pos m c _ _ hz, stAt_later m c t hz]
  have e2 : nextDob m c t (prevSt m c t) = k0_pay13 (b1 m c t) := if_pos h2
  have e3 : (nextSt m c t (prevSt m c t)).dg = k0_pay7 (nextMid m c t (prevSt m c t)) (b3 m c t) (prevSt m c t).dg := if_pos h3
  have e4 : (nextSt m c t (prevSt m c t)).acc = k0_pay2 k0_pay8 := if_pos h3
  rw [e4]
  rw [e3]
  dsimp only [nextSt]
  rw [e2]
  dsimp only [nextMid]
  iintro ⟨⟨⟨HS18, HS19, HS20⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (stepB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scM0 (Memref.isWhole_whole _) scM1 (Memref.isWhole_whole _) scM2 (Memref.isWhole_whole _) (b1 m c t) (b2 m c t) (b3 m c t) (b4 m c t) (b5 m c t) (b6 m c t) (b7 m c t) (b8 m c t) (b9 m c t) (b10 m c t) h1 h2 h3 (prevSt m c t).dg (prevSt m c t).acc (prevSt m c t).A (prevSt m c t).U Set.univ _)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexists _; iexact H11
  isplitl [H12]; iexists _; iexact H12
  isplitl [H13]; iexists _; iexact H13
  isplitl [H14]; iexists _; iexact H14
  isplitl [H15]; iexists _; iexact H15
  isplitl [H16]; iexact H16
  isplitl [H17]; iexists _; iexact H17
  isplitl [HS18]; iexact HS18
  isplitl [HS19]; iexact HS19
  isplitl [HS20]; iexact HS20
  iintro ⟨H1, H2, H3, H4, H5, H6, H7, H8, H9, H10, H11, H12, H13, H14, H15, H16, H17, HS18, HS19, HS20⟩
  isplitl [HS18 HS19 HS20 Hg]
  · isplitl [HS18 HS19 HS20]
    · isplitl [HS18]; iexact HS18
      isplitl [HS19]; iexact HS19
      iexact HS20
    iexact Hg
  isplitl [Ho]; iexact Ho
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  isplitl [H16]; iexact H16
  iexact H17

set_option maxHeartbeats 4000000 in
/-- Within a tile: what the body is called with gives what it must leave. -/
theorem soundC (c : Dev nD) (t : Fin cfg0.N) (hz : t.val ≠ 0) (h2 : ¬k0_cond2 (grid0.coords t) = 1#1) (h3 : ¬k0_cond3 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  obtain ⟨h1, -⟩ := later_conds t hz
  rw [leaves0, leaves1, leaves2, leaves3, leaves4, leaves5, leaves6, leaves7, leaves8, leaves9, leaves10, leaves11, leaves12]
  rw [Dat.leavesExact_idle (dats m 0 c) 14 t (idle14 t h3).1 (idle14 t h3).2]
  rw [Dat.leavesExact_idle (dats m 0 c) 16 t (idle16 t h3).1 (idle16 t h3).2]
  rw [Dat.leavesExact_idle (dats m 0 c) 15 t (idle15 t h1 h3).1 (idle15 t h1 h3).2]
  have h13 : owns c.tc (ms13 t) fullShare (prevSt m c t).dob ⊢ ((dats m 0 c).leavesExact 13 t : sProp 𝕄) := leaves13 m c t hz h2
  simp only [before13 m c t h2]
  simp only [before15 m c t hz]
  rw [PhiS_castSucc m c t, PhiS_pos m c _ _ hz, stAt_later m c t hz]
  have e2 : nextDob m c t (prevSt m c t) = (prevSt m c t).dob := if_neg h2
  have e3 : (nextSt m c t (prevSt m c t)).dg = (prevSt m c t).dg := if_neg h3
  have e4 : (nextSt m c t (prevSt m c t)).acc = nextMid m c t (prevSt m c t) := if_neg h3
  rw [e4]

  dsimp only [nextSt]
  rw [e2]
  dsimp only [nextMid]
  iintro ⟨⟨⟨HS18, HS19, HS20⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (stepC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scM0 (Memref.isWhole_whole _) scM1 (Memref.isWhole_whole _) scM2 (Memref.isWhole_whole _) (b1 m c t) (b2 m c t) (b3 m c t) (b4 m c t) (b5 m c t) (b6 m c t) (b7 m c t) (b8 m c t) (b9 m c t) (b10 m c t) h1 h2 h3 (prevSt m c t).dob _ (prevSt m c t).dg _ (prevSt m c t).acc (prevSt m c t).A (prevSt m c t).U Set.univ _)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexists _; iexact H11
  isplitl [H12]; iexists _; iexact H12
  isplitl [H13]; iexists _; iexact H13
  isplitl [H14]; iexact H14
  isplitl [H15]; iexact H15
  isplitl [H16]; iexact H16
  isplitl [H17]; iexact H17
  isplitl [HS18]; iexact HS18
  isplitl [HS19]; iexact HS19
  isplitl [HS20]; iexact HS20
  iintro ⟨H1, H2, H3, H4, H5, H6, H7, H8, H9, H10, H11, H12, H13, H14, H15, H16, H17, HS18, HS19, HS20⟩
  isplitl [HS18 HS19 HS20 Hg]
  · isplitl [HS18 HS19 HS20]
    · isplitl [HS18]; iexact HS18
      isplitl [HS19]; iexact HS19
      iexact HS20
    iexact Hg
  isplitl [Ho]; iexact Ho
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iapply h13; iexact H14
  isplitl [H15]; iexists _; iexact H15
  isplitl [H16]; iexists (prevSt m c t).dg; iexact H16
  iexists _; iexact H17

set_option maxHeartbeats 4000000 in
/-- At the last point, which only finishes: what the body is called with gives what it must leave. -/
theorem soundD (c : Dev nD) (t : Fin cfg0.N) (hz : t.val ≠ 0) (h2 : ¬k0_cond2 (grid0.coords t) = 1#1) (h3 : k0_cond3 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  obtain ⟨h1, -⟩ := later_conds t hz
  rw [leaves0, leaves1, leaves2, leaves3, leaves4, leaves5, leaves6, leaves7, leaves8, leaves9, leaves10, leaves11, leaves12]
  rw [leaves14 m c t h3]
  rw [leaves16 m c t h3]
  rw [leaves15 m c t (.inr h3)]
  have h13 : owns c.tc (ms13 t) fullShare (prevSt m c t).dob ⊢ ((dats m 0 c).leavesExact 13 t : sProp 𝕄) := leaves13 m c t hz h2
  simp only [before13 m c t h2]
  simp only [before15 m c t hz]
  rw [PhiS_castSucc m c t, PhiS_pos m c _ _ hz, stAt_later m c t hz]
  have e2 : nextDob m c t (prevSt m c t) = (prevSt m c t).dob := if_neg h2
  have e3 : (nextSt m c t (prevSt m c t)).dg = k0_pay7 (nextMid m c t (prevSt m c t)) (b3 m c t) (prevSt m c t).dg := if_pos h3
  have e4 : (nextSt m c t (prevSt m c t)).acc = k0_pay2 k0_pay8 := if_pos h3
  rw [e4]
  rw [e3]
  dsimp only [nextSt]
  rw [e2]
  dsimp only [nextMid]
  iintro ⟨⟨⟨HS18, HS19, HS20⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (stepD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) scM0 (Memref.isWhole_whole _) scM1 (Memref.isWhole_whole _) scM2 (Memref.isWhole_whole _) (b1 m c t) (b2 m c t) (b3 m c t) (b4 m c t) (b5 m c t) (b6 m c t) (b7 m c t) (b8 m c t) (b9 m c t) (b10 m c t) h1 h2 h3 (prevSt m c t).dob (prevSt m c t).dg (prevSt m c t).acc (prevSt m c t).A (prevSt m c t).U Set.univ _)
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexists _; iexact H11
  isplitl [H12]; iexists _; iexact H12
  isplitl [H13]; iexists _; iexact H13
  isplitl [H14]; iexact H14
  isplitl [H15]; iexists _; iexact H15
  isplitl [H16]; iexact H16
  isplitl [H17]; iexists _; iexact H17
  isplitl [HS18]; iexact HS18
  isplitl [HS19]; iexact HS19
  isplitl [HS20]; iexact HS20
  iintro ⟨H1, H2, H3, H4, H5, H6, H7, H8, H9, H10, H11, H12, H13, H14, H15, H16, H17, HS18, HS19, HS20⟩
  isplitl [HS18 HS19 HS20 Hg]
  · isplitl [HS18 HS19 HS20]
    · isplitl [HS18]; iexact HS18
      isplitl [HS19]; iexact HS19
      iexact HS20
    iexact Hg
  isplitl [Ho]; iexact Ho
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iapply h13; iexact H14
  isplitl [H15]; iexact H15
  isplitl [H16]; iexact H16
  iexact H17

end Cert.Kernel12Ideal.Ffn

end
-- ==== Proof.FfnIFrame.lean ====
module

public import proofs.«01_k».proof.Proof.FfnISound
public import proofs.«01_k».proof.Proof.Gen.Kernel12Ideal.Launch
public import Idealize.ShloMosaic.Lib.Claim

@[expose] public section

set_option maxRecDepth 16384

noncomputable section

namespace Cert.Kernel12Ideal.Ffn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact soundA m c t hz
  · by_cases h2 : k0_cond2 (grid0.coords t) = 1#1
    · exact soundB m c t hz h2
    · by_cases h3 : k0_cond3 (grid0.coords t) = 1#1
      · exact soundD m c t hz h2 h3
      · exact soundC m c t hz h2 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 33 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨HS0, HS1, HS2⟩, Hg⟩
  isplitl [HS0 HS1 HS2]
  · isplitl [HS0]; iexists _; iexact HS0
    isplitl [HS1]; iexists _; iexact HS1
    iexists _; iexact HS2
  iexact Hg

-- the library theorem's implicit arguments are found by unifying its conclusion with this one
set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel12Ideal.Ffn

end
-- ==== Proof.FfnRun.lean ====
/-
  The gradient of the feed-forward layer's input: the kernel's run with its three results named.
-/
module

public import proofs.«01_k».proof.Proof.FfnSum
public import proofs.«01_k».proof.Proof.FfnIFrame

@[expose] public section

noncomputable section

namespace Cert.Kernel12Ideal.Block

open Cert.Kernel12Ideal Cert.Kernel12Ideal.Gen Cert.Kernel12Ideal.Ffn Idealize.ShloMosaic Idealize.ShloMosaic.TcCoe Idealize.SL.Sem

variable (m : (ℓ : Loc nD τ sig) → Buf (Elt Ideal) ℓ) (ρ : Dev nD → PrngReg)

/-- The results after the run are the arrays the grid leaves; the arguments are as they were. -/
theorem run_blocks : θ_run defs (onTc (τ := τ) (main (F := Ideal))) ⟨m, fun _ => 0, ρ⟩ fun r => ∀ c : Dev nD,
      r.2.mem ((c.tc : Thread nD τ).loc main_v29_4) = (dats m 0 c).arrAt 14 cfg0.N
      ∧ r.2.mem ((c.tc : Thread nD τ).loc main_v29_5) = (dats m 0 c).arrAt 15 cfg0.N
      ∧ r.2.mem ((c.tc : Thread nD τ).loc main_v29_6) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 14, (h.1 c).1 15, (h.1 c).1 16, h.2.1 c⟩)
    (θ_run_and (run_main m ρ) (frame m ρ))

end Cert.Kernel12Ideal.Block

end
-- ==== Proof.FfnRef.lean ====
/-
  The gradient of the feed-forward layer's input: the reference's three results.
-/
module

public import proofs.«01_k».proof.Proof.FfnSum
public import proofs.«01_k».proof.Proof.Norms
public import proofs.«01_k».proof.Proof.Gen.Reference12Ideal.Run
public import Idealize.ShloMosaic.Lib.Pointwise

@[expose] public section

set_option maxRecDepth 16384

noncomputable section

namespace Cert.Reference12Ideal.Value

open Cert.Reference12Ideal Cert.Reference12Ideal.Gen Cert.Gla Cert.Mix Idealize.ShloMosaic Idealize.ShloMosaic.TcCoe Idealize.SL.Sem
open Cert.Kernel12Ideal.Stage (sg c_half)
open Cert.Kernel12Ideal.Block (Data)

/-- The reference's steps: the inverse root mean squares, the normalised rows, a projection, the sigmoid. -/
def inv (X : FVec Ideal S4096x1024 .f32) : FVec Ideal S4096x1 .f32 :=
  Host.rsqrt (addf (Host.divf (broadcastInDim S4096x1 ![0] bcast_S4096_S4096x1_0 (Host.reduceAdd (mulf X X) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))

def normed (X : FVec Ideal S4096x1024 .f32) (G : FVec Ideal S1x1024 .f32) : FVec Ideal S4096x1024 .f32 :=
  mulf (mulf X (broadcastInDim S4096x1024 ![0, 1] bcast_S4096x1_S4096x1024_0_1 (inv X))) (broadcastInDim S4096x1024 ![0, 1] bcast_S1x1024_S4096x1024_0_1 G)

def proj (h : FVec Ideal S4096x1024 .f32) (W : FVec Ideal S1024x2816 .f32) : FVec Ideal S4096x2816 .f32 :=
  Host.dotGeneral dot_S4096x1024_S1024x2816_S4096x2816_1_0_0_1_n_n none h W

def logi (A : FVec Ideal S4096x2816 .f32) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf A)))

/-- The gradient of the hidden layer, of its two projections, and of the normalised rows. -/
def hidden (Y : FVec Ideal S4096x1024 .f32) (W : FVec Ideal S2816x1024 .f32) : FVec Ideal S4096x2816 .f32 :=
  Host.dotGeneral dot_S4096x1024_S2816x1024_S4096x2816_1_1_0_0_n_n none (mulf (broadcastInDim S4096x1024 ![] bcast_S_S4096x1024 (constant S_ .f32 0x3F000000#32))
    (shapeCast S4096x1024 Y shapeCasts_S4096x1024_S4096x1024)) W

def dU (A d : FVec Ideal S4096x2816 .f32) : FVec Ideal S4096x2816 .f32 := mulf (mulf A (logi A)) d

def dA (A U d : FVec Ideal S4096x2816 .f32) : FVec Ideal S4096x2816 .f32 :=
  addf (mulf (mulf d U) (logi A)) (mulf (mulf A (mulf d U)) (mulf (logi A) (subf (broadcastInDim S4096x2816 ![] bcast_S_S4096x2816 (constant S_ .f32 0x3F800000#32)) (logi A))))

def dH (U A : FVec Ideal S4096x2816 .f32) (Wu Wg : FVec Ideal S1024x2816 .f32) : FVec Ideal S4096x1024 .f32 :=
  addf (Host.dotGeneral (φ₁ := .f32) (φ₂ := .f32) dot_S4096x2816_S1024x2816_S4096x1024_1_1_0_0_n_n none U Wu)
    (Host.dotGeneral (φ₁ := .f32) (φ₂ := .f32) dot_S4096x2816_S1024x2816_S4096x1024_1_1_0_0_n_n none A Wg)

/-- The gradient of the mean squares, spread over the rows. -/
def spread (X H : FVec Ideal S4096x1024 .f32) (G : FVec Ideal S1x1024 .f32) : FVec Ideal S4096x1024 .f32 :=
  broadcastInDim S4096x1024 ![0] bcast_S4096_S4096x1024_0 (Host.reduceAdd (Host.divf (mulf (shapeCast S4096x1 (Host.reduceAdd (mulf X (mulf H
      (broadcastInDim S4096x1024 ![0, 1] bcast_S1x1024_S4096x1024_0_1 G))) (constant S_ .f32 0x00000000#32) reducesTo_S4096x1024_S4096_d1 h_S_) shapeCasts_S4096_S4096x1)
    (mulf (broadcastInDim S4096x1 ![] bcast_S_S4096x1 (constant S_ .f32 0xBF000000#32)) (Host.divf (inv X) (addf (Host.divf (broadcastInDim S4096x1 ![0] bcast_S4096_S4096x1_0
      (Host.reduceAdd (mulf X X) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
    (broadcastInDim S4096x1 ![] bcast_S_S4096x1 (constant S_ .f32 0x44800000#32))) (constant S_ .f32 0x00000000#32) reducesTo_S4096x1_S4096_d1 h_S_)

def dX (Y X H : FVec Ideal S4096x1024 .f32) (G : FVec Ideal S1x1024 .f32) : FVec Ideal S4096x1024 .f32 :=
  addf (addf (addf Y (mulf (mulf H (broadcastInDim S4096x1024 ![0, 1] bcast_S1x1024_S4096x1024_0_1 G)) (broadcastInDim S4096x1024 ![0, 1] bcast_S4096x1_S4096x1024_0_1 (inv X))))
    (mulf X (spread X H G))) (mulf (spread X H G) X)

def dG (X H : FVec Ideal S4096x1024 .f32) : FVec Ideal S1x1024 .f32 :=
  shapeCast S1x1024 (Host.reduceAdd (mulf (mulf X (broadcastInDim S4096x1024 ![0, 1] bcast_S4096x1_S4096x1024_0_1 (inv X))) H) (constant S_ .f32 0x00000000#32)
    reducesTo_S4096x1024_S1024_d0 h_S_) shapeCasts_S1024_S1x1024

def dO (Z : FVec Ideal S4096x1024 .f32) (W : FVec Ideal S1024x1024 .f32) : FVec Ideal S4096x1024 .f32 :=
  Host.dotGeneral (φ₁ := .f32) (φ₂ := .f32) dot_S4096x1024_S1024x1024_S4096x1024_1_1_0_0_n_n none Z W

/-- The gradient of the normalised rows from the arguments. -/
def rows (Y X : FVec Ideal S4096x1024 .f32) (G : FVec Ideal S1x1024 .f32) (Wg Wu : FVec Ideal S1024x2816 .f32) (Wd : FVec Ideal S2816x1024 .f32) : FVec Ideal S4096x1024 .f32 :=
  dH (dU (proj (normed X G) Wg) (hidden Y Wd)) (dA (proj (normed X G) Wg) (proj (normed X G) Wu) (hidden Y Wd)) Wu Wg

variable {D : Data}

theorem inv_eq : inv (lift2 fun (i : Fin 4096) => D.row i) = lift2 fun (i : Fin 4096) (_ : Fin 1) => scale (D.row i) := by
  funext z
  idx_vars z
  pointwise [inv]
  simp only [lift2_ix, c_1024, c_eps, ← EReal.coe_mul, coe_sum, div_1024, ← EReal.coe_add, rsqrt_scale]

theorem normed_eq : normed (lift2 fun (i : Fin 4096) => D.row i) (lift2 fun (_ : Fin 1) => D.gain) = lift2 fun (i : Fin 4096) => D.h i := by
  unfold normed
  rw [inv_eq]
  funext z
  idx_vars z
  pointwise
  simp only [lift2_ix, ← EReal.coe_mul]
  rfl

theorem proj_eq (w : ℕ → ℕ → ℝ) : proj (lift2 fun (i : Fin 4096) => D.h i) (lift2 fun (i : Fin 1024) (j : Fin 2816) => w i j)
    = lift2 fun (i : Fin 4096) (j : Fin 2816) => ∑ k : Fin 1024, D.h i k * w k j := by
  funext z
  idx_vars z
  pointwise [proj]
  simp only [lift2_ix, ← EReal.coe_mul, coe_sum]

theorem logi_eq (a : Fin 4096 → Fin 2816 → ℝ) : logi (lift2 a) = lift2 fun i j => sg (a i j) := by
  funext z
  idx_vars z
  pointwise [logi]
  simp only [lift2_ix, Cert.Gla.c_one, Cert.Gla.one_coe, ← EReal.coe_neg, Ideal.exp_coe, ← EReal.coe_add]
  rw [div_real _ (by linarith [Real.exp_pos (-a z0 z1)])]
  rfl

theorem hidden_eq : hidden (lift2 fun (i : Fin 4096) (j : Fin 1024) => D.ct i j) (lift2 fun (i : Fin 2816) (j : Fin 1024) => D.wd i j)
    = lift2 fun (i : Fin 4096) (j : Fin 2816) => D.dhid i j := by
  funext z
  idx_vars z
  pointwise [hidden]
  simp only [lift2_ix, c_half, ← EReal.coe_mul, coe_sum]
  rfl

theorem dU_eq (a d : Fin 4096 → Fin 2816 → ℝ) : dU (lift2 a) (lift2 d) = lift2 fun i j => d i j * (a i j * sg (a i j)) := by
  unfold dU
  rw [logi_eq]
  funext z
  idx_vars z
  pointwise
  simp only [lift2_ix, ← EReal.coe_mul]
  exact congrArg _ (mul_comm _ _)

theorem dA_eq (a u d : Fin 4096 → Fin 2816 → ℝ) : dA (lift2 a) (lift2 u) (lift2 d)
    = lift2 fun i j => d i j * u i j * (sg (a i j) * (1 + a i j * (1 - sg (a i j)))) := by
  unfold dA
  rw [logi_eq]
  funext z
  idx_vars z
  pointwise
  simp only [lift2_ix, Cert.Gla.c_one, Cert.Gla.one_coe, ← EReal.coe_mul, ← EReal.coe_sub, ← EReal.coe_add]
  refine congrArg _ ?_
  ring

/-- The sum over the hidden layer is that over its shards. -/
theorem dh_eq (D : Data) (r : ℕ) (k : Fin 1024) :
    ∑ j : Fin 2816, D.du r j * D.wu k j + ∑ j : Fin 2816, D.da r j * D.wg k j = D.dh r k := by
  rw [Fin.sum_univ_tiles 4 704 rfl fun j : Fin 2816 => D.du r j * D.wu k j, Fin.sum_univ_tiles 4 704 rfl fun j : Fin 2816 => D.da r j * D.wg k j,
    ← Finset.sum_add_distrib]
  unfold Data.dh Data.some
  rw [Finset.sum_range]
  exact Finset.sum_congr rfl fun s _ => add_comm _ _

theorem dH_eq : dH (lift2 fun (i : Fin 4096) (j : Fin 2816) => D.du i j) (lift2 fun (i : Fin 4096) (j : Fin 2816) => D.da i j)
    (lift2 fun (i : Fin 1024) (j : Fin 2816) => D.wu i j) (lift2 fun (i : Fin 1024) (j : Fin 2816) => D.wg i j) = lift2 fun (i : Fin 4096) => D.dh i := by
  funext z
  idx_vars z
  pointwise [dH]
  simp only [lift2_ix, ← EReal.coe_mul, coe_sum, ← EReal.coe_add]
  exact congrArg _ (dh_eq D z0 z1)

theorem rows_eq : rows (lift2 fun (i : Fin 4096) (j : Fin 1024) => D.ct i j) (lift2 fun (i : Fin 4096) => D.row i) (lift2 fun (_ : Fin 1) => D.gain)
    (lift2 fun (i : Fin 1024) (j : Fin 2816) => D.wg i j) (lift2 fun (i : Fin 1024) (j : Fin 2816) => D.wu i j)
    (lift2 fun (i : Fin 2816) (j : Fin 1024) => D.wd i j) = lift2 fun (i : Fin 4096) => D.dh i := by
  unfold rows
  rw [normed_eq, proj_eq, proj_eq, hidden_eq, dU_eq, dA_eq]
  exact dH_eq

theorem spread_eq (d : ℕ → Fin 1024 → ℝ) : spread (lift2 fun (i : Fin 4096) => D.row i) (lift2 fun (i : Fin 4096) => d i) (lift2 fun (_ : Fin 1) => D.gain)
    = lift2 fun (i : Fin 4096) (_ : Fin 1024) => (∑ a, D.row i a * (d i a * D.gain a)) * (-(1 / 2) * scale (D.row i) ^ 3) * (1 / 1024) := by
  unfold spread
  rw [inv_eq]
  funext z
  idx_vars z
  pointwise
  simp only [lift2_ix]
  simp only [Finset.univ_unique, Finset.sum_singleton, c_1024, c_eps, c_neg_half, ← EReal.coe_mul, coe_sum, div_1024, ← EReal.coe_add, scale_cube]

theorem dX_eq : dX (lift2 fun (i : Fin 4096) (j : Fin 1024) => D.ct i j) (lift2 fun (i : Fin 4096) => D.row i) (lift2 fun (i : Fin 4096) => D.dh i) (lift2 fun (_ : Fin 1) => D.gain)
    = lift2 fun (i : Fin 4096) => D.dx i := by
  unfold dX
  rw [inv_eq, spread_eq]
  funext z
  idx_vars z
  pointwise
  simp only [lift2_ix, ← EReal.coe_mul, ← EReal.coe_add, add_assoc]
  refine congrArg _ (congrArg (D.ct z0 z1 + ·) ?_)
  rw [← back_eq]
  ring

theorem dG_eq (d : ℕ → Fin 1024 → ℝ) : dG (lift2 fun (i : Fin 4096) => D.row i) (lift2 fun (i : Fin 4096) => d i) = lift2 fun (_ : Fin 1) a => ∑ r : Fin 4096, d r a * (D.row r a * scale (D.row r)) := by
  unfold dG
  rw [inv_eq]
  funext z
  idx_vars z
  pointwise
  simp only [lift2_ix, ← EReal.coe_mul, coe_sum]
  exact congrArg _ (Finset.sum_congr rfl fun _ _ => mul_comm _ _)

theorem dO_eq : dO (lift2 fun (i : Fin 4096) => D.dx i) (lift2 fun (i : Fin 1024) (j : Fin 1024) => D.wo i j) = lift2 fun (i : Fin 4096) => D.heads i := by
  funext z
  idx_vars z
  pointwise [dO]
  simp only [lift2_ix, ← EReal.coe_mul, coe_sum]
  rfl

variable (m : (ℓ : Loc nD τ sig) → Buf (Elt Ideal) ℓ) (c : Dev nD)

/-- The arguments hold these numbers. -/
structure Holds (D : Data) : Prop where
  a0 : m ((c : Thread nD τ).loc main_arg0) = lift2 fun (i : Fin 4096) (j : Fin 1024) => D.ct i j
  a1 : m ((c : Thread nD τ).loc main_arg1) = lift2 fun (i : Fin 4096) => D.row i
  a2 : m ((c : Thread nD τ).loc main_arg2) = lift2 fun (_ : Fin 1) => D.gain
  a3 : m ((c : Thread nD τ).loc main_arg3) = lift2 fun (i : Fin 1024) (j : Fin 2816) => D.wg i j
  a4 : m ((c : Thread nD τ).loc main_arg4) = lift2 fun (i : Fin 1024) (j : Fin 2816) => D.wu i j
  a5 : m ((c : Thread nD τ).loc main_arg5) = lift2 fun (i : Fin 2816) (j : Fin 1024) => D.wd i j
  a6 : m ((c : Thread nD τ).loc main_arg6) = lift2 fun (i : Fin 1024) (j : Fin 1024) => D.wo i j

/-- The results by their steps. -/
theorem steps_dx : res_main_v64 m c = dX (m ((c : Thread nD τ).loc main_arg0)) (m ((c : Thread nD τ).loc main_arg1))
    (rows (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5))) (m ((c : Thread nD τ).loc main_arg2)) := rfl

theorem steps_dg : res_main_v47 m c = dG (m ((c : Thread nD τ).loc main_arg1))
    (rows (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5))) := rfl

theorem steps_heads : res_main_v67 m c = dO (res_main_v64 m c) (m ((c : Thread nD τ).loc main_arg6)) := rfl

variable {m c} (H : Holds m c D)

include H

/-- The first result. -/
theorem dx_eq : res_main_v64 m c = lift2 fun (i : Fin 4096) => D.dx i := by
  rw [steps_dx, H.a0, H.a1, H.a2, H.a3, H.a4, H.a5, rows_eq, dX_eq]

/-- The second. -/
theorem dg_eq : res_main_v47 m c = lift2 fun (_ : Fin 1) a => ∑ r : Fin 4096, D.part r a := by
  rw [steps_dg, H.a0, H.a1, H.a2, H.a3, H.a4, H.a5, rows_eq, dG_eq]
  rfl

/-- The third. -/
theorem heads_eq : res_main_v67 m c = lift2 fun (i : Fin 4096) => D.heads i := by
  rw [steps_heads, dx_eq H, H.a6, dO_eq]

end Cert.Reference12Ideal.Value

end
-- ==== Proof.FfnTwin.lean ====
/-
  The gradient of the feed-forward layer's input: the printed program and its idealised form are one program.
-/
module

public import proofs.«01_k».proof.Proof.FfnIFrame
public import proofs.«01_k».proof.Proof.Gen.Kernel12

@[expose] public section

set_option maxRecDepth 16384

noncomputable section

namespace Cert.Kernel12.Ffn

open Cert.Kernel12 Cert.Kernel12.Gen Idealize.ShloMosaic Idealize.ShloMosaic.TcCoe Idealize.SL.Sem

variable {F : FTy → Type} [FloatOps F]
/-- The two kernel bodies are one. -/
theorem body_eq : @Kernel12.cc0_ffn2_bwd F _ _ = @Kernel12Ideal.cc0_ffn2_bwd F _ _ := rfl

set_option maxHeartbeats 1000000 in
/-- So are their bodies' tables, -/
theorem bodies_eq : @Kernel12.defs₀ F _ _ = @Kernel12Ideal.defs₀ F _ _ := by
  funext p
  cases p with
  | tc =>
    funext ℓ a
    match ℓ, a with
    | 0, (t, s) => with_unfolding_all rfl
  | scScalar _ => rfl
  | scVector _ _ => rfl

set_option maxHeartbeats 1000000 in
/-- the tables with their pipelines, -/
theorem defs_eq : @Kernel12.defs F _ _ = @Kernel12Ideal.defs F _ _ :=
  congrArg (Pipeline.defs Kernel12.pcfgs) bodies_eq

set_option maxHeartbeats 1000000 in
/-- and their entry points. -/
theorem main_eq : @Kernel12.main F _ _ = @Kernel12Ideal.main F _ _ := rfl

variable (m : (ℓ : Loc nD τ sig) → Buf (Elt F) ℓ) (ρ : Dev nD → PrngReg)

set_option maxHeartbeats 1000000 in
/-- The program runs, leaves its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have e := congrFun (congrArg₂ (fun D p => θ_run D (onTc (τ := τ) p)) (defs_eq (F := F)) main_eq) ⟨m, fun _ => 0, ρ⟩
  rw [e]
  exact Cert.Kernel12Ideal.Ffn.frame m ρ

end Cert.Kernel12.Ffn

end
-- ==== Proof.LossStage.lean ====
/-
  The second feed-forward layer and the loss: what the kernel's body computes, of blocks that hold real numbers.
-/
module

public import proofs.«01_k».proof.Proof.FfnStage
public import proofs.«01_k».proof.Proof.Gen.Kernel13Ideal.Skeleton

@[expose] public section

set_option maxRecDepth 16384

noncomputable section

namespace Cert.Kernel13Ideal.Stage

open Cert.Kernel13Ideal Cert.Kernel13Ideal.Gen Cert.Gla Cert.Mix Idealize.ShloMosaic
open Cert.Kernel12Ideal.Stage (sg c_half logistic_sg)

theorem c_lane : Ideal.ofBits .f32 0x3A800000#32 = ((1 / 1024 : ℝ) : EReal) := by
  simp [Ideal.ofBits, Ideal.ieee, -EReal.coe_mul]; norm_num

variable (X Y A T E : Fin 512 → Fin 1024 → ℝ) (g : Fin 1 → Fin 1024 → ℝ) (W W' W'' : Fin 1 → Fin 704 → Fin 1024 → ℝ)

theorem p1 : k0_pay1 (F := Ideal) (lift2 X) = lift2 X := by
  funext y
  idx_vars y
  pointwise [k0_pay1]

theorem p2 : k0_pay2 (F := Ideal) = lift2 fun _ _ => 0 := by
  funext y
  idx_vars y
  pointwise [k0_pay2]
  rfl

theorem p3 : k0_pay3 (F := Ideal) = lift2 fun _ _ => 0 := by
  funext y
  idx_vars y
  pointwise [k0_pay3]
  rfl

theorem p14 : k0_pay14 (F := Ideal) = lift2 fun _ _ => 0 := by
  funext y
  idx_vars y
  pointwise [k0_pay14]
  rfl

/-- The normalised rows. -/
theorem p13 : k0_pay13 (F := Ideal) (lift2 X) (lift2 g) = lift2 fun r a => X r a * scale (X r) * g 0 a := by
  funext y
  idx_vars y
  pointwise [k0_pay13]
  simp only [lift2_ix, div_1024, rsqrt_scale, c_1024, c_eps, ← EReal.coe_mul, ← EReal.coe_add, coe_sum]

theorem p15 : k0_pay15 (F := Ideal) (lift2 X) = lift2 X := by
  funext y
  idx_vars y
  pointwise [k0_pay15]

/-- The two projections. -/
theorem p16 : k0_pay16 (F := Ideal) (lift2 X) (lift3 W) = lift2 fun r j => ∑ k, X r k * W 0 j k := by
  funext y
  idx_vars y
  pointwise [k0_pay16, p15]
  simp only [lift2_ix, lift3_ix, ← EReal.coe_mul, coe_sum]

theorem p17 : k0_pay17 (F := Ideal) (lift2 X) (lift3 W) = lift2 fun r j => ∑ k, X r k * W 0 j k := by
  funext y
  idx_vars y
  pointwise [k0_pay17, p15]
  simp only [lift2_ix, lift3_ix, ← EReal.coe_mul, coe_sum]

/-- The running sum takes a shard up. -/
theorem p20 : k0_pay20 (F := Ideal) (lift2 X) (lift3 W) (lift3 W') (lift2 A) (lift3 W'') = lift2 fun r k => A r k
    + ∑ j, (∑ k, X r k * W 0 j k) * sg (∑ k, X r k * W 0 j k) * (∑ k, X r k * W' 0 j k) * W'' 0 j k := by
  funext y
  idx_vars y
  pointwise [k0_pay20, p16, p17]
  simp only [lift2_ix, lift3_ix, logistic_sg, ← EReal.coe_mul, ← EReal.coe_add, coe_sum]

/-- The layer's rows. -/
theorem p8 : k0_pay8 (F := Ideal) (lift2 X) (lift2 A) = lift2 fun r a => X r a + 1 / 2 * A r a := by
  funext y
  idx_vars y
  pointwise [k0_pay8]
  simp only [lift2_ix, c_half, ← EReal.coe_mul, ← EReal.coe_add]

/-- The layer's rows, by the layer's input and the sum over the shards, -/
abbrev out (r : Fin 512) (a : Fin 1024) : ℝ := X r a + 1 / 2 * A r a
/-- and how far they are from the targets once normalised. -/
abbrev miss (r : Fin 512) (a : Fin 1024) : ℝ := out X A r a * scale (out X A r) * g 0 a - T r a

theorem p9 : k0_pay9 (F := Ideal) (lift2 X) (lift2 A) (lift2 g) (lift2 T) = lift2 (miss X A T g) := by
  funext y
  idx_vars y
  pointwise [k0_pay9, p8]
  simp only [lift2_ix, div_1024, c_1024, c_eps, ← EReal.coe_mul, ← EReal.coe_add, coe_sum]
  rw [show (∑ k, (X y0 k + 1 / 2 * A y0 k) * (X y0 k + 1 / 2 * A y0 k)) * (1 / 1024) + eps = (∑ k, out X A y0 k * out X A y0 k) * (1 / 1024) + eps from rfl, rsqrt_scale]
  simp only [← EReal.coe_mul, ← EReal.coe_sub]

theorem p11 : k0_pay11 (F := Ideal) (lift2 X) (lift2 A) (lift2 g) (lift2 T) = lift2 fun r a => miss X A T g r a * (1 / 1024) := by
  funext y
  idx_vars y
  pointwise [k0_pay11, p9]
  simp only [lift2_ix, c_lane, ← EReal.coe_mul]

theorem p12 : k0_pay12 (F := Ideal) (lift2 X) (lift2 A) = lift2 fun r a => out X A r a * out X A r a := by
  funext y
  idx_vars y
  pointwise [k0_pay12, p8]
  simp only [lift2_ix, ← EReal.coe_mul]

/-- The loss takes a tile up. -/
theorem p10 (l : Fin 8 → Fin 128 → ℝ) : k0_pay10 (F := Ideal) (lift2 X) (lift2 A) (lift2 g) (lift2 T) (lift2 l)
    = lift2 fun p q => l p q + 1 / 2 * ∑ r, (∑ a, miss X A T g r a * miss X A T g r a) * (1 / 1024) := by
  funext y
  idx_vars y
  pointwise [k0_pay10, p9]
  simp only [lift2_ix, div_1024, c_1024, c_half, ← EReal.coe_mul, ← EReal.coe_add, coe_sum]

theorem p4 : k0_pay4 (F := Ideal) (lift2 fun r a => Y r a * Y r a) = lift2 fun r _ => scale (Y r) := by
  funext y
  idx_vars y
  pointwise [k0_pay4]
  simp only [lift2_ix, div_1024, rsqrt_scale, c_1024, c_eps, ← EReal.coe_mul, ← EReal.coe_add, coe_sum]

theorem p5 : k0_pay5 (F := Ideal) (lift2 Y) (lift2 fun r a => Y r a * Y r a) = lift2 fun r a => Y r a * scale (Y r) := by
  funext y
  idx_vars y
  pointwise [k0_pay5, p4]
  simp only [lift2_ix, ← EReal.coe_mul]

/-- The gradient of the rows, -/
theorem p6 : k0_pay6 (F := Ideal) (lift2 Y) (lift2 g) (lift2 E) (lift2 fun r a => Y r a * Y r a) = lift2 fun r a => back (E r) (g 0) (Y r) a := by
  funext y
  idx_vars y
  pointwise [k0_pay6, p4, p5]
  simp only [lift2_ix, div_1024, c_1024, ← EReal.coe_mul, ← EReal.coe_add, ← EReal.coe_sub, coe_sum]
  rfl

/-- and of the gains. -/
theorem p7 (d : Fin 1 → Fin 1024 → ℝ) : k0_pay7 (F := Ideal) (lift2 Y) (lift2 E) (lift2 fun r a => Y r a * Y r a) (lift2 d)
    = lift2 fun (u : Fin 1) a => d u a + ∑ r, E r a * (Y r a * scale (Y r)) := by
  funext y
  idx_vars y
  pointwise [k0_pay7, p5]
  simp only [lift2_ix, ← EReal.coe_mul, ← EReal.coe_add, coe_sum]

end Cert.Kernel13Ideal.Stage

end
-- ==== Proof.LossDat.lean ====
module

public import proofs.«01_k».proof.Proof.Gen.Kernel13Ideal.Skeleton
public import proofs.«01_k».proof.Proof.Gen.Kernel13Ideal.Frame
public import Idealize.ShloMosaic.Lib.Pipeline.TableIdle

@[expose] public section

set_option maxRecDepth 16384

noncomputable section

namespace Cert.Kernel13Ideal.Loss

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' memrefs and blocks, and the scratch -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x704x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x704x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x704x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512x704 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512x704 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x1024 .bf16 := win0_12.stage (cfg0.slots t 12)
abbrev hs12 (t : Fin cfg0.N) : (ms12 t).IsWhole := hstage0_12 ((cfg0.slots t 12).cast nbuf0_12)
abbrev scM0 : Memref sig .tc .vmem S512x1024 .f32 := Memref.whole cc0_scratch0

variable (m : (ℓ : Loc nD τ sig) → Buf (Elt F) ℓ) (ρ : Dev nD → PrngReg)

/-- Window 0's block at a point. -/
abbrev b0 (c : Dev nD) (t : Fin cfg0.N) : Vec F S512x1024 .f32 := iblk m c 0 t
/-- Window 1's block at a point. -/
abbrev b1 (c : Dev nD) (t : Fin cfg0.N) : Vec F S1x1024 .f32 := iblk m c 1 t
/-- Window 2's block at a point. -/
abbrev b2 (c : Dev nD) (t : Fin cfg0.N) : Vec F S1x704x1024 .bf16 := iblk m c 2 t
/-- Window 3's block at a point. -/
abbrev b3 (c : Dev nD) (t : Fin cfg0.N) : Vec F S1x704x1024 .bf16 := iblk m c 3 t
/-- Window 4's block at a point. -/
abbrev b4 (c : Dev nD) (t : Fin cfg0.N) : Vec F S1x704x1024 .bf16 := iblk m c 4 t
/-- Window 5's block at a point. -/
abbrev b5 (c : Dev nD) (t : Fin cfg0.N) : Vec F S1x1024 .f32 := iblk m c 5 t
/-- Window 6's block at a point. -/
abbrev b6 (c : Dev nD) (t : Fin cfg0.N) : Vec F S512x1024 .f32 := iblk m c 6 t

/-! ## Which case a point is in -/

theorem first_conds : ∀ t : Fin cfg0.N, t.val = 0 → k0_cond1 (grid0.coords t) = 1#1 ∧ k0_cond2 (grid0.coords t) = 1#1 ∧ ¬k0_cond3 (grid0.coords t) = 1#1 := by decide +kernel
theorem later_conds : ∀ t : Fin cfg0.N, t.val ≠ 0 → ¬k0_cond2 (grid0.coords t) = 1#1 ∧ (k0_cond1 (grid0.coords t) = 1#1 → ¬k0_cond3 (grid0.coords t) = 1#1) := by decide +kernel

theorem idle12 : ∀ t : Fin cfg0.N, ¬k0_cond1 (grid0.coords t) = 1#1 → cfg0.idle 12 (grid0.coords t) = true := by decide +kernel
theorem live12 : ∀ t : Fin cfg0.N, k0_cond1 (grid0.coords t) = 1#1 → cfg0.idle 12 (grid0.coords t) = false := by decide +kernel
theorem idle8 : ∀ t : Fin cfg0.N, ¬k0_cond3 (grid0.coords t) = 1#1 → cfg0.idle 8 (grid0.coords t) = true ∧ (cfg0.win 8).flush t = false := by decide +kernel
theorem live8 : ∀ t : Fin cfg0.N, k0_cond3 (grid0.coords t) = 1#1 → cfg0.idle 8 (grid0.coords t) = false := by decide +kernel
theorem idle7 : ∀ t : Fin cfg0.N, ¬k0_cond2 (grid0.coords t) = 1#1 → ¬k0_cond3 (grid0.coords t) = 1#1 → cfg0.idle 7 (grid0.coords t) = true ∧ (cfg0.win 7).flush t = false := by decide +kernel
theorem live7 : ∀ t : Fin cfg0.N, k0_cond2 (grid0.coords t) = 1#1 ∨ k0_cond3 (grid0.coords t) = 1#1 → cfg0.idle 7 (grid0.coords t) = false := by decide +kernel
theorem idle9 : ∀ t : Fin cfg0.N, ¬k0_cond2 (grid0.coords t) = 1#1 → ¬k0_cond3 (grid0.coords t) = 1#1 → cfg0.idle 9 (grid0.coords t) = true ∧ (cfg0.win 9).flush t = false := by decide +kernel
theorem live9 : ∀ t : Fin cfg0.N, k0_cond2 (grid0.coords t) = 1#1 ∨ k0_cond3 (grid0.coords t) = 1#1 → cfg0.idle 9 (grid0.coords t) = false := by decide +kernel
theorem fresh12 : ∀ t : Fin cfg0.N, ¬k0_cond1 (grid0.coords t) = 1#1 → cfg0.fresh 12 t.val = false := by decide +kernel
theorem fresh7 : ∀ t : Fin cfg0.N, t.val ≠ 0 → cfg0.fresh 7 t.val = false := by decide +kernel
theorem fresh9 : ∀ t : Fin cfg0.N, t.val ≠ 0 → cfg0.fresh 9 t.val = false := by decide +kernel

/-! ## What is carried from point to point -/

/-- What the points hand on: the normalised rows, the loss and the gain's gradient so far, the running sum. -/
structure St (F : FTy → Type) [FloatOps F] where
  h : Vec F S512x1024 .bf16
  loss : Vec F S8x128 .f32
  dg : Vec F S1x1024 .f32
  acc : Vec F S512x1024 .f32

/-- After the first point. -/
def firstSt (c : Dev nD) (t : Fin cfg0.N) : St F where
  h := k0_pay13 (b0 m c t) (b1 m c t)
  loss := k0_pay2
  dg := k0_pay3
  acc := k0_pay1 (k0_pay20 (k0_pay13 (b0 m c t) (b1 m c t)) (b2 m c t) (b3 m c t) k0_pay14 (b4 m c t))

/-- The normalised rows a later point works with, -/
def nextH (c : Dev nD) (t : Fin cfg0.N) (s : St F) : Vec F S512x1024 .bf16 :=
  if k0_cond1 (grid0.coords t) = 1#1 then k0_pay13 (b0 m c t) (b1 m c t) else s.h

/-- and its running sum. -/
def nextAcc (c : Dev nD) (t : Fin cfg0.N) (s : St F) : Vec F S512x1024 .f32 :=
  k0_pay1 (k0_pay20 (nextH m c t s) (b2 m c t) (b3 m c t) (if k0_cond1 (grid0.coords t) = 1#1 then k0_pay14 else s.acc) (b4 m c t))

/-- After a later point. -/
def nextSt (c : Dev nD) (t : Fin cfg0.N) (s : St F) : St F where
  h := nextH m c t s
  loss := if k0_cond3 (grid0.coords t) = 1#1 then k0_pay10 (b0 m c t) (nextAcc m c t s) (b5 m c t) (b6 m c t) s.loss else s.loss
  dg := if k0_cond3 (grid0.coords t) = 1#1 then k0_pay7 (k0_pay8 (b0 m c t) (nextAcc m c t s)) (k0_pay11 (b0 m c t) (nextAcc m c t s) (b5 m c t) (b6 m c t)) (k0_pay12 (b0 m c t) (nextAcc m c t s)) s.dg else s.dg
  acc := nextAcc m c t s

/-- After point `n`. -/
def stAt (c : Dev nD) : (n : ℕ) → n < cfg0.N → St F
  | 0, hn => firstSt m c ⟨0, hn⟩
  | n + 1, hn => nextSt m c ⟨n + 1, hn⟩ (stAt c n (Nat.lt_of_succ_lt hn))

theorem stAt_first (c : Dev nD) (t : Fin cfg0.N) (hz : t.val = 0) : stAt m c t.val t.isLt = firstSt m c t := by
  obtain ⟨n, hn⟩ := t
  cases n with
  | zero => rfl
  | succ n => exact absurd hz (Nat.succ_ne_zero n)

/-- The state before a later point. -/
abbrev prevSt (c : Dev nD) (t : Fin cfg0.N) : St F := stAt m c (t.val - 1) (Nat.lt_of_le_of_lt (Nat.sub_le _ _) t.isLt)

theorem stAt_later (c : Dev nD) (t : Fin cfg0.N) (hz : t.val ≠ 0) : stAt m c t.val t.isLt = nextSt m c t (prevSt m c t) := by
  obtain ⟨n, hn⟩ := t
  cases n with
  | zero => exact absurd rfl hz
  | succ n => rfl

/-- The region's invariant: before the first point the scratch at anything, then at what the point before left. -/
def PhiS (c : Dev nD) : (n : ℕ) → n ≤ cfg0.N → sProp 𝕄
  | 0, _ => Pipeline.ΦA spec0 c
  | n + 1, hn => iprop(owns c.tc scM0 fullShare (stAt m c n hn).acc ∗ (∃ r, prngReg c r))

theorem PhiA_eq (c : Dev nD) :
    (Pipeline.ΦA spec0 c : sProp 𝕄) = iprop((∃ d, owns c.tc scM0 fullShare d) ∗ (∃ r, prngReg c r)) := by
  unfold Pipeline.ΦA; rw [scopedRest0_eq]; simp only [scM0, owns_whole]; try rfl

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns c.tc scM0 fullShare (stAt m c n hn).acc ∗ (∃ r, prngReg c r)) := rfl

theorem PhiS_pos (c : Dev nD) (n : ℕ) (h : n ≤ cfg0.N) (hz : n ≠ 0) :
    PhiS m c n h = iprop(owns c.tc scM0 fullShare (stAt m c (n - 1) (by omega)).acc ∗ (∃ r, prngReg c r)) := by
  cases n with
  | zero => exact absurd rfl hz
  | succ n => rfl

/-- The pipeline's proof data: the inputs' blocks stay; each output holds what the state says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stAt m c t.val t.isLt).loss
    | ⟨8, _⟩ => k0_pay6 (k0_pay8 (b0 m c t) (stAt m c t.val t.isLt).acc) (b5 m c t) (k0_pay11 (b0 m c t) (stAt m c t.val t.isLt).acc (b5 m c t) (b6 m c t)) (k0_pay12 (b0 m c t) (stAt m c t.val t.isLt).acc)
    | ⟨9, _⟩ => (stAt m c t.val t.isLt).dg
    | ⟨10, _⟩ => k0_pay18 (stAt m c t.val t.isLt).h (b2 m c t)
    | ⟨11, _⟩ => k0_pay19 (stAt m c t.val t.isLt).h (b3 m c t)
    | ⟨12, _⟩ => (stAt m c t.val t.isLt).h
    | ⟨n + 13, h⟩ => absurd h (Nat.not_lt.mpr (Nat.le_add_left 13 n))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = (stAt m c t.val t.isLt).loss := by dsimp only [dats]
theorem after8 : (dats m 0 c).after 8 t = k0_pay6 (k0_pay8 (b0 m c t) (stAt m c t.val t.isLt).acc) (b5 m c t) (k0_pay11 (b0 m c t) (stAt m c t.val t.isLt).acc (b5 m c t) (b6 m c t)) (k0_pay12 (b0 m c t) (stAt m c t.val t.isLt).acc) := by dsimp only [dats]
theorem after9 : (dats m 0 c).after 9 t = (stAt m c t.val t.isLt).dg := by dsimp only [dats]
theorem after10 : (dats m 0 c).after 10 t = k0_pay18 (stAt m c t.val t.isLt).h (b2 m c t) := by dsimp only [dats]
theorem after11 : (dats m 0 c).after 11 t = k0_pay19 (stAt m c t.val t.isLt).h (b3 m c t) := by dsimp only [dats]
theorem after12 : (dats m 0 c).after 12 t = (stAt m c t.val t.isLt).h := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d
theorem before4 (d) : (dats m 0 c).before 4 t d = iblk m c 4 t := before0_4_of m (dats m 0 c) (A_eq m c 4) (after4 m c) t d
theorem before5 (d) : (dats m 0 c).before 5 t d = iblk m c 5 t := before0_5_of m (dats m 0 c) (A_eq m c 5) (after5 m c) t d
theorem before6 (d) : (dats m 0 c).before 6 t d = iblk m c 6 t := before0_6_of m (dats m 0 c) (A_eq m c 6) (after6 m c) t d

/-- Within a tile the normalised rows are those the tile's first point left. -/
theorem before12 (h1 : ¬k0_cond1 (grid0.coords t) = 1#1) (d) : (dats m 0 c).before 12 t d = (prevSt m c t).h := by
  rw [(dats m 0 c).before_out_traj 12 rfl (fun _ _ => rfl) (fun t hz hi _ => by
    have h1 : ¬k0_cond1 (grid0.coords t) = 1#1 := fun h => Bool.false_ne_true ((live12 t h).symm.trans hi)
    rw [after12, after12, stAt_later m c t hz]
    show nextH m c t (prevSt m c t) = _
    rw [nextH, if_neg h1]) t.val t rfl d, fresh12 t h1, if_neg Bool.false_ne_true, after12]

/-- The loss is handed on, -/
theorem before7 (hz : t.val ≠ 0) (d) : (dats m 0 c).before 7 t d = (prevSt m c t).loss := by
  rw [(dats m 0 c).before_out_traj 7 rfl (fun _ _ => rfl) (fun t hz hi _ => by
    have h3 : ¬k0_cond3 (grid0.coords t) = 1#1 := fun h => Bool.false_ne_true ((live7 t (.inr h)).symm.trans hi)
    rw [after7, after7, stAt_later m c t hz]
    show (if k0_cond3 (grid0.coords t) = 1#1 then _ else _) = _
    rw [if_neg h3]) t.val t rfl d, fresh7 t hz, if_neg Bool.false_ne_true, after7]

/-- and so is the gain's gradient. -/
theorem before9 (hz : t.val ≠ 0) (d) : (dats m 0 c).before 9 t d = (prevSt m c t).dg := by
  rw [(dats m 0 c).before_out_traj 9 rfl (fun _ _ => rfl) (fun t hz hi _ => by
    have h3 : ¬k0_cond3 (grid0.coords t) = 1#1 := fun h => Bool.false_ne_true ((live9 t (.inr h)).symm.trans hi)
    rw [after9, after9, stAt_later m c t hz]
    show (if k0_cond3 (grid0.coords t) = 1#1 then _ else _) = _
    rw [if_neg h3]) t.val t rfl d, fresh9 t hz, if_neg Bool.false_ne_true, after9]

end Cert.Kernel13Ideal.Loss

end
-- ==== Proof.LossBlock.lean ====
/-
  The second feed-forward layer and the loss: the arrays the kernel is given, as real numbers.
-/
module

public import proofs.«01_k».proof.Proof.LossStage
public import proofs.«01_k».proof.Proof.LossDat
public import proofs.«01_k».proof.Proof.FfnBlock
public import Idealize.ShloMosaic.Lib.Pipeline.ReadBack

@[expose] public section

set_option maxRecDepth 16384

noncomputable section

namespace Cert.Kernel13Ideal.Block

open Cert.Kernel13Ideal Cert.Kernel13Ideal.Gen Cert.Kernel13Ideal.Loss Cert.Kernel13Ideal.Stage Cert.Gla Cert.Mix
open Cert.Kernel12Ideal.Stage (sg)
open Idealize.ShloMosaic Idealize.ShloMosaic.TcCoe Idealize.SL.Sem

/-- The numbers in the arrays: the input, the gains, the three weights, the final gains and the targets. -/
structure Data where
  x : ℕ → ℕ → ℝ
  g : ℕ → ℕ → ℝ
  wg : ℕ → ℕ → ℝ
  wu : ℕ → ℕ → ℝ
  wd : ℕ → ℕ → ℝ
  gf : ℕ → ℕ → ℝ
  t : ℕ → ℕ → ℝ

namespace Data

variable (D : Data)

def row (r : ℕ) (a : Fin 1024) : ℝ := D.x r a
def gain (a : Fin 1024) : ℝ := D.g 0 a
/-- The normalised row. -/
def h (r : ℕ) (k : Fin 1024) : ℝ := D.row r k * scale (D.row r) * D.gain k
/-- The gate's and the other half's projections, and the hidden layer. -/
def a (r j : ℕ) : ℝ := ∑ k : Fin 1024, D.h r k * D.wg k j
def u (r j : ℕ) : ℝ := ∑ k : Fin 1024, D.h r k * D.wu k j
def hid (r j : ℕ) : ℝ := D.a r j * sg (D.a r j) * D.u r j
/-- What one shard of the hidden layer adds to a row, -/
def shard (r s k : ℕ) : ℝ := ∑ j : Fin 704, D.hid r (s * 704 + j) * D.wd (s * 704 + j) k
/-- the first shards together, -/
def some (n r k : ℕ) : ℝ := ∑ s ∈ Finset.range n, D.shard r s k
/-- and the layer's row. -/
def y (r k : ℕ) : ℝ := D.x r k + 1 / 2 * D.some 4 r k
def yrow (r : ℕ) (a : Fin 1024) : ℝ := D.y r a
def fgain (a : Fin 1024) : ℝ := D.gf 0 a
/-- How far the normalised row is from its target, and its mean square. -/
def err (r : ℕ) (a : Fin 1024) : ℝ := D.yrow r a * scale (D.yrow r) * D.fgain a - D.t r a
def sq (r : ℕ) : ℝ := (∑ a, D.err r a * D.err r a) * (1 / 1024)
/-- The gradient of a row, and a row's part of the gradient of the gains. -/
def dx (r : ℕ) (a : Fin 1024) : ℝ := back (fun a => D.err r a * (1 / 1024)) D.fgain (D.yrow r) a
def part (r : ℕ) (a : Fin 1024) : ℝ := D.err r a * (1 / 1024) * (D.yrow r a * scale (D.yrow r))
/-- The first tiles' parts of the loss and of the gradient of the gains. -/
def lossTo (n : ℕ) : ℝ := ∑ s ∈ Finset.range n, 1 / 2 * ∑ r : Fin 512, D.sq (s * 512 + r)
def gainTo (n : ℕ) (a : Fin 1024) : ℝ := ∑ s ∈ Finset.range n, ∑ r : Fin 512, D.part (s * 512 + r) a

theorem some_succ (n r k : ℕ) : D.some (n + 1) r k = D.some n r k + D.shard r n k := Finset.sum_range_succ _ _

end Data

variable (m : (ℓ : Loc nD τ sig) → Buf (Elt Ideal) ℓ) (c : Dev nD)

/-- The arguments hold these numbers. -/
structure Holds (D : Data) : Prop where
  a0 : m ((c : Thread nD τ).loc main_arg0) = lift2 fun (i : Fin 4096) (j : Fin 1024) => D.x i j
  a1 : m ((c : Thread nD τ).loc main_arg1) = lift2 fun (i : Fin 1) (j : Fin 1024) => D.g i j
  a2 : m ((c : Thread nD τ).loc main_arg2) = lift2 fun (i : Fin 1024) (j : Fin 2816) => D.wg i j
  a3 : m ((c : Thread nD τ).loc main_arg3) = lift2 fun (i : Fin 1024) (j : Fin 2816) => D.wu i j
  a4 : m ((c : Thread nD τ).loc main_arg4) = lift2 fun (i : Fin 2816) (j : Fin 1024) => D.wd i j
  a5 : m ((c : Thread nD τ).loc main_arg5) = lift2 fun (i : Fin 1) (j : Fin 1024) => D.gf i j
  a6 : m ((c : Thread nD τ).loc main_arg6) = lift2 fun (i : Fin 4096) (j : Fin 1024) => D.t i j

/-- Where each grid point's blocks lie. -/
theorem idx : ∀ t : Fin cfg0.N, win0_0.index t = ![t.val / 4, 0] ∧ win0_1.index t = ![0, 0] ∧ win0_2.index t = ![t.val % 4, 0, 0] ∧
    win0_3.index t = ![t.val % 4, 0, 0] ∧ win0_4.index t = ![t.val % 4, 0, 0] ∧ win0_5.index t = ![0, 0] ∧ win0_6.index t = ![t.val / 4, 0] ∧
    win0_7.index t = ![0, 0] ∧ win0_8.index t = ![t.val / 4, 0] ∧ win0_9.index t = ![0, 0] :=
  (by decide +kernel : ∀ t : Fin grid0.N, _)

variable {m c} {D : Data} (H : Holds m c D)

include H

theorem v3 : V m c main_v3 = lift3 fun (s : Fin 4) (j : Fin 704) (k : Fin 1024) => D.wg k (s * 704 + j) := by
  have e : V m c main_v3 = shapeCast S4x704x1024 (truncf (F := Ideal) .bf16 (transpose S2816x1024 [1, 0] (m ((c : Thread nD τ).loc main_arg2)) transposes_S1024x2816_S2816x1024_1_0) bitsLt_bf16_f32) shapeCasts_S2816x1024_S4x704x1024 := by
    unfold V
    simp only [hostOps0, List.flatten_cons, List.flatten_nil, List.cons_append, List.nil_append, List.append_nil]
    entry_read
    rfl
  rw [e, H.a2]
  exact Cert.Kernel12Ideal.Block.cut_back _

theorem v5 : V m c main_v5 = lift3 fun (s : Fin 4) (j : Fin 704) (k : Fin 1024) => D.wu k (s * 704 + j) := by
  have e : V m c main_v5 = shapeCast S4x704x1024 (truncf (F := Ideal) .bf16 (transpose S2816x1024 [1, 0] (m ((c : Thread nD τ).loc main_arg3)) transposes_S1024x2816_S2816x1024_1_0) bitsLt_bf16_f32) shapeCasts_S2816x1024_S4x704x1024 := by
    unfold V
    simp only [hostOps0, List.flatten_cons, List.flatten_nil, List.cons_append, List.nil_append, List.append_nil]
    entry_read
    rfl
  rw [e, H.a3]
  exact Cert.Kernel12Ideal.Block.cut_back _

theorem v7 : V m c main_v7 = lift3 fun (s : Fin 4) (j : Fin 704) (k : Fin 1024) => D.wd (s * 704 + j) k := by
  have e : V m c main_v7 = shapeCast S4x704x1024 (truncf (F := Ideal) .bf16 (m ((c : Thread nD τ).loc main_arg4)) bitsLt_bf16_f32) shapeCasts_S2816x1024_S4x704x1024 := by
    unfold V
    simp only [hostOps0, List.flatten_cons, List.flatten_nil, List.cons_append, List.nil_append, List.append_nil]
    entry_read
    rfl
  rw [e, H.a4]
  exact Cert.Kernel12Ideal.Block.cut_rows _

/-! ## The blocks -/

theorem blk0 (t : Fin cfg0.N) : iblk m c 0 t = lift2 fun (r : Fin 512) (a : Fin 1024) => D.x (t.val / 4 * 512 + r) a := by
  funext y
  idx_vars y
  have ht : (t : ℕ) < 32 := t.isLt
  blk_simp [iblk, idx t]
  rw [show V m c (Pipeline.arrRef spec0 0) = _ from (V_main_arg0 m c).trans H.a0]
  refine Eq.trans (b := lift2 (fun (i : Fin 4096) (j : Fin 1024) => D.x i j) (ix2 ⟨t.val / 4 * 512 + y0, by omega⟩ y1)) ?_ rfl
  blk_ext [idx t]

theorem blk1 (t : Fin cfg0.N) : iblk m c 1 t = lift2 fun (_ : Fin 1) (a : Fin 1024) => D.gain a := by
  funext y
  idx_vars y
  have ht : (t : ℕ) < 32 := t.isLt
  obtain rfl : y0 = 0 := Subsingleton.elim _ _
  blk_simp [iblk, idx t]
  rw [show V m c (Pipeline.arrRef spec0 1) = _ from (V_main_arg1 m c).trans H.a1]
  refine Eq.trans (b := lift2 (fun (i : Fin 1) (j : Fin 1024) => D.g i j) (ix2 0 y1)) ?_ rfl
  blk_ext [idx t]

theorem blk2 (t : Fin cfg0.N) : iblk m c 2 t = lift3 fun (_ : Fin 1) (j : Fin 704) (k : Fin 1024) => D.wg k (t.val % 4 * 704 + j) := by
  funext y
  idx_vars y
  have ht : (t : ℕ) < 32 := t.isLt
  obtain rfl : y0 = 0 := Subsingleton.elim _ _
  blk_simp [iblk, idx t]
  rw [show V m c (Pipeline.arrRef spec0 2) = _ from v3 H]
  refine Eq.trans (b := lift3 (fun (s : Fin 4) (j : Fin 704) (k : Fin 1024) => D.wg k (s * 704 + j)) (ix3 ⟨t.val % 4, by omega⟩ y1 y2)) ?_ rfl
  blk_ext [idx t]

theorem blk3 (t : Fin cfg0.N) : iblk m c 3 t = lift3 fun (_ : Fin 1) (j : Fin 704) (k : Fin 1024) => D.wu k (t.val % 4 * 704 + j) := by
  funext y
  idx_vars y
  have ht : (t : ℕ) < 32 := t.isLt
  obtain rfl : y0 = 0 := Subsingleton.elim _ _
  blk_simp [iblk, idx t]
  rw [show V m c (Pipeline.arrRef spec0 3) = _ from v5 H]
  refine Eq.trans (b := lift3 (fun (s : Fin 4) (j : Fin 704) (k : Fin 1024) => D.wu k (s * 704 + j)) (ix3 ⟨t.val % 4, by omega⟩ y1 y2)) ?_ rfl
  blk_ext [idx t]

theorem blk4 (t : Fin cfg0.N) : iblk m c 4 t = lift3 fun (_ : Fin 1) (j : Fin 704) (k : Fin 1024) => D.wd (t.val % 4 * 704 + j) k := by
  funext y
  idx_vars y
  have ht : (t : ℕ) < 32 := t.isLt
  obtain rfl : y0 = 0 := Subsingleton.elim _ _
  blk_simp [iblk, idx t]
  rw [show V m c (Pipeline.arrRef spec0 4) = _ from v7 H]
  refine Eq.trans (b := lift3 (fun (s : Fin 4) (j : Fin 704) (k : Fin 1024) => D.wd (s * 704 + j) k) (ix3 ⟨t.val % 4, by omega⟩ y1 y2)) ?_ rfl
  blk_ext [idx t]

theorem blk5 (t : Fin cfg0.N) : iblk m c 5 t = lift2 fun (_ : Fin 1) (a : Fin 1024) => D.fgain a := by
  funext y
  idx_vars y
  have ht : (t : ℕ) < 32 := t.isLt
  obtain rfl : y0 = 0 := Subsingleton.elim _ _
  blk_simp [iblk, idx t]
  rw [show V m c (Pipeline.arrRef spec0 5) = _ from (V_main_arg5 m c).trans H.a5]
  refine Eq.trans (b := lift2 (fun (i : Fin 1) (j : Fin 1024) => D.gf i j) (ix2 0 y1)) ?_ rfl
  blk_ext [idx t]

theorem blk6 (t : Fin cfg0.N) : iblk m c 6 t = lift2 fun (r : Fin 512) (a : Fin 1024) => D.t (t.val / 4 * 512 + r) a := by
  funext y
  idx_vars y
  have ht : (t : ℕ) < 32 := t.isLt
  blk_simp [iblk, idx t]
  rw [show V m c (Pipeline.arrRef spec0 6) = _ from (V_main_arg6 m c).trans H.a6]
  refine Eq.trans (b := lift2 (fun (i : Fin 4096) (j : Fin 1024) => D.t i j) (ix2 ⟨t.val / 4 * 512 + y0, by omega⟩ y1)) ?_ rfl
  blk_ext [idx t]

end Cert.Kernel13Ideal.Block

end
-- ==== Proof.LossSum.lean ====
/-
  The second feed-forward layer and the loss: what the kernel's points hand on, and the arrays they leave.
-/
module

public import proofs.«01_k».proof.Proof.LossBlock

@[expose] public section

set_option maxRecDepth 16384

noncomputable section

namespace Cert.Kernel13Ideal.Block

open Cert.Kernel13Ideal Cert.Kernel13Ideal.Gen Cert.Kernel13Ideal.Loss Cert.Kernel13Ideal.Stage Cert.Gla Cert.Mix
open Cert.Kernel12Ideal.Stage (sg)
open Idealize.ShloMosaic Idealize.ShloMosaic.TcCoe Idealize.SL.Sem

variable {m : (ℓ : Loc nD τ sig) → Buf (Elt Ideal) ℓ} {c : Dev nD} {D : Data} (H : Holds m c D)

theorem cond1_iff : ∀ t : Fin cfg0.N, k0_cond1 (grid0.coords t) = 1#1 ↔ t.val % 4 = 0 := by decide +kernel
theorem cond3_iff : ∀ t : Fin cfg0.N, k0_cond3 (grid0.coords t) = 1#1 ↔ t.val % 4 = 3 := by decide +kernel

/-- What point `n` hands on. -/
structure Good (D : Data) (n : ℕ) (s : St Ideal) : Prop where
  h : s.h = lift2 fun (r : Fin 512) (k : Fin 1024) => D.h (n / 4 * 512 + r) k
  loss : s.loss = lift2 fun (_ : Fin 8) (_ : Fin 128) => D.lossTo ((n + 1) / 4)
  dg : s.dg = lift2 fun (_ : Fin 1) (a : Fin 1024) => D.gainTo ((n + 1) / 4) a
  acc : s.acc = lift2 fun (r : Fin 512) (k : Fin 1024) => D.some (n % 4 + 1) (n / 4 * 512 + r) k

include H

theorem rows (t : Fin cfg0.N) : k0_pay13 (b0 m c t) (b1 m c t) = lift2 fun (r : Fin 512) (k : Fin 1024) => D.h (t.val / 4 * 512 + r) k := by
  rw [show b0 m c t = _ from blk0 H t, show b1 m c t = _ from blk1 H t, p13]
  rfl

/-- A point adds its shard to the running sum. -/
theorem sum_step (t : Fin cfg0.N) (h : Vec Ideal S512x1024 .bf16) (A : Vec Ideal S512x1024 .f32)
    (hh : h = lift2 fun (r : Fin 512) (k : Fin 1024) => D.h (t.val / 4 * 512 + r) k)
    (hA : A = lift2 fun (r : Fin 512) (k : Fin 1024) => D.some (t.val % 4) (t.val / 4 * 512 + r) k) :
    k0_pay1 (k0_pay20 h (b2 m c t) (b3 m c t) A (b4 m c t))
      = lift2 fun (r : Fin 512) (k : Fin 1024) => D.some (t.val % 4 + 1) (t.val / 4 * 512 + r) k := by
  rw [hh, hA, show b2 m c t = _ from blk2 H t, show b3 m c t = _ from blk3 H t, show b4 m c t = _ from blk4 H t, p20, p1]
  refine congrArg _ (funext fun r => funext fun k => ?_)
  rw [D.some_succ]
  rfl

theorem good_first (t : Fin cfg0.N) (hz : t.val = 0) : Good D 0 (firstSt m c t) where
  h := (rows H t).trans (by rw [hz])
  loss := p2.trans rfl
  dg := p3.trans rfl
  acc := (sum_step H t _ _ (rows H t) (p14.trans (by rw [hz]; rfl))).trans (by rw [hz])

theorem h_next (t : Fin cfg0.N) (n : ℕ) (hn : t.val = n + 1) (s : St Ideal) (G : Good D n s) :
    nextH m c t s = lift2 fun (r : Fin 512) (k : Fin 1024) => D.h (t.val / 4 * 512 + r) k := by
  unfold nextH
  by_cases h : k0_cond1 (grid0.coords t) = 1#1
  · rw [if_pos h]
    exact rows H t
  · have := mt (cond1_iff t).mpr h
    rw [if_neg h, G.h, show t.val / 4 = n / 4 by omega]

theorem acc_next (t : Fin cfg0.N) (n : ℕ) (hn : t.val = n + 1) (s : St Ideal) (G : Good D n s) :
    nextAcc m c t s = lift2 fun (r : Fin 512) (k : Fin 1024) => D.some (t.val % 4 + 1) (t.val / 4 * 512 + r) k := by
  unfold nextAcc
  refine sum_step H t _ _ (h_next H t n hn s G) ?_
  by_cases h : k0_cond1 (grid0.coords t) = 1#1
  · rw [if_pos h, p14, (cond1_iff t).mp h]
    rfl
  · have := mt (cond1_iff t).mpr h
    rw [if_neg h, G.acc, show t.val / 4 = n / 4 by omega, show t.val % 4 = n % 4 + 1 by omega]

/-- What a tile's last point makes of the tile's rows. -/
theorem ends (t : Fin cfg0.N) (A : Vec Ideal S512x1024 .f32) (h3 : t.val % 4 = 3)
    (hA : A = lift2 fun (r : Fin 512) (k : Fin 1024) => D.some (t.val % 4 + 1) (t.val / 4 * 512 + r) k) :
    k0_pay8 (b0 m c t) A = lift2 (fun (r : Fin 512) => D.yrow (t.val / 4 * 512 + r)) ∧
    k0_pay11 (b0 m c t) A (b5 m c t) (b6 m c t) = lift2 (fun (r : Fin 512) a => D.err (t.val / 4 * 512 + r) a * (1 / 1024)) ∧
    k0_pay12 (b0 m c t) A = lift2 (fun (r : Fin 512) a => D.yrow (t.val / 4 * 512 + r) a * D.yrow (t.val / 4 * 512 + r) a) ∧
    ∀ l : Fin 8 → Fin 128 → ℝ, k0_pay10 (b0 m c t) A (b5 m c t) (b6 m c t) (lift2 l)
      = lift2 fun p q => l p q + 1 / 2 * ∑ r : Fin 512, D.sq (t.val / 4 * 512 + r) := by
  rw [hA, show t.val % 4 + 1 = 4 by omega, show b0 m c t = _ from blk0 H t, show b5 m c t = _ from blk5 H t, show b6 m c t = _ from blk6 H t]
  exact ⟨(p8 _ _).trans rfl, (p11 _ _ _ _).trans rfl, (p12 _ _).trans rfl, fun l => (p10 _ _ _ _ l).trans rfl⟩

theorem good_next (t : Fin cfg0.N) (n : ℕ) (hn : t.val = n + 1) (s : St Ideal) (G : Good D n s) : Good D t.val (nextSt m c t s) where
  h := h_next H t n hn s G
  acc := acc_next H t n hn s G
  loss := by
    show (if k0_cond3 (grid0.coords t) = 1#1 then k0_pay10 (b0 m c t) (nextAcc m c t s) (b5 m c t) (b6 m c t) s.loss else s.loss) = _
    by_cases h : k0_cond3 (grid0.coords t) = 1#1
    · have h4 := (cond3_iff t).mp h
      rw [if_pos h, G.loss, (ends H t _ h4 (acc_next H t n hn s G)).2.2.2]
      refine congrArg _ (funext fun _ => funext fun _ => ?_)
      rw [show (t.val + 1) / 4 = (n + 1) / 4 + 1 by omega]
      refine Eq.trans ?_ (Finset.sum_range_succ _ _).symm
      rw [show t.val / 4 = (n + 1) / 4 by omega]
      rfl
    · have h4 := mt (cond3_iff t).mpr h
      rw [if_neg h, G.loss, show (t.val + 1) / 4 = (n + 1) / 4 by omega]
  dg := by
    show (if k0_cond3 (grid0.coords t) = 1#1 then k0_pay7 (k0_pay8 (b0 m c t) (nextAcc m c t s))
      (k0_pay11 (b0 m c t) (nextAcc m c t s) (b5 m c t) (b6 m c t)) (k0_pay12 (b0 m c t) (nextAcc m c t s)) s.dg else s.dg) = _
    by_cases h : k0_cond3 (grid0.coords t) = 1#1
    · have h4 := (cond3_iff t).mp h
      obtain ⟨e1, e2, e3, -⟩ := ends H t _ h4 (acc_next H t n hn s G)
      rw [if_pos h, G.dg, e1, e2, e3, p7]
      refine congrArg _ (funext fun _ => funext fun a => ?_)
      rw [show (t.val + 1) / 4 = (n + 1) / 4 + 1 by omega]
      refine Eq.trans ?_ (Finset.sum_range_succ _ _).symm
      rw [show t.val / 4 = (n + 1) / 4 by omega]
      rfl
    · have h4 := mt (cond3_iff t).mpr h
      rw [if_neg h, G.dg, show (t.val + 1) / 4 = (n + 1) / 4 by omega]

/-- Every point hands on what it should. -/
theorem good : ∀ n (hn : n < cfg0.N), Good D n (stAt m c n hn)
  | 0, hn => good_first H ⟨0, hn⟩ rfl
  | n + 1, hn => good_next H ⟨n + 1, hn⟩ n rfl _ (good n (Nat.lt_of_succ_lt hn))

/-- What a tile's last point leaves of the gradient of the rows. -/
theorem tile_dx (t : Fin cfg0.N) (h3 : t.val % 4 = 3) (A : Vec Ideal S512x1024 .f32)
    (hA : A = lift2 fun (r : Fin 512) (k : Fin 1024) => D.some (t.val % 4 + 1) (t.val / 4 * 512 + r) k) :
    k0_pay6 (k0_pay8 (b0 m c t) A) (b5 m c t) (k0_pay11 (b0 m c t) A (b5 m c t) (b6 m c t)) (k0_pay12 (b0 m c t) A)
      = lift2 fun (r : Fin 512) (a : Fin 1024) => D.dx (t.val / 4 * 512 + r) a := by
  obtain ⟨e1, e2, e3, -⟩ := ends H t A h3 hA
  rw [e1, e2, e3, show b5 m c t = _ from blk5 H t, p6]
  rfl

omit H in
theorem flushes : ∀ t : Fin cfg0.N, ((cfg0.win 8).flush t = true → t.val % 4 = 3) ∧ ((cfg0.win 7).flush t = true → t.val = 31)
    ∧ ((cfg0.win 9).flush t = true → t.val = 31) := by decide +kernel

/-- The loss after the run, -/
theorem final7 : (dats m 0 c).arrAt 7 cfg0.N = lift2 fun (_ : Fin 8) (_ : Fin 128) => 1 / 2 * ∑ r : Fin 4096, D.sq r := by
  refine (dats m 0 c).arrAt_eq_of_covers 7 _ (by decide +kernel) fun t hf y => ?_
  have e := (flushes t).2.1 hf
  blk_simp
  rw [after7, (good H t.val t.isLt).loss]
  show ((D.lossTo ((t.val + 1) / 4) : ℝ) : EReal) = ((1 / 2 * ∑ r : Fin 4096, D.sq r : ℝ) : EReal)
  rw [e]
  refine congrArg _ ?_
  unfold Data.lossTo
  rw [show (31 + 1) / 4 = 8 from rfl, ← Finset.mul_sum, Finset.sum_range]
  exact congrArg _ (Fin.sum_univ_tiles 8 512 rfl fun r : Fin 4096 => D.sq r).symm

/-- the gradient of the rows, -/
theorem final8 : (dats m 0 c).arrAt 8 cfg0.N = lift2 fun (r : Fin 4096) (a : Fin 1024) => D.dx r a := by
  refine (dats m 0 c).arrAt_eq_of_covers 8 _ (by decide +kernel) fun t hf y => ?_
  have h3 := (flushes t).1 hf
  blk_simp
  rw [after8, tile_dx H t h3 _ (good H t.val t.isLt).acc]
  have h0 : ((((cfg0.win 8).blk t).view.emb y) 0 : ℕ) = t.val / 4 * 512 + y 0 := by blk_simp [idx t]
  have h1 : ((((cfg0.win 8).blk t).view.emb y) 1) = y 1 := by apply Fin.ext; blk_simp [idx t]
  generalize ((cfg0.win 8).blk t).view.emb y = z at h0 h1 ⊢
  show ((D.dx (t.val / 4 * 512 + (y 0 : Fin 512)) (y 1) : ℝ) : EReal) = ((D.dx (z 0 : Fin 4096) (z 1) : ℝ) : EReal)
  rw [← h1]
  exact congrArg (fun r : ℕ => ((D.dx r (z 1) : ℝ) : EReal)) h0.symm

/-- and that of the final gains. -/
theorem final9 : (dats m 0 c).arrAt 9 cfg0.N = lift2 fun (_ : Fin 1) a => ∑ r : Fin 4096, D.part r a := by
  refine (dats m 0 c).arrAt_eq_of_covers 9 _ (by decide +kernel) fun t hf y => ?_
  have e := (flushes t).2.2 hf
  blk_simp
  rw [after9, (good H t.val t.isLt).dg]
  have h1 : ((((cfg0.win 9).blk t).view.emb y) 1) = y 1 := by apply Fin.ext; blk_simp [idx t]
  generalize ((cfg0.win 9).blk t).view.emb y = z at h1 ⊢
  show ((D.gainTo ((t.val + 1) / 4) (y 1) : ℝ) : EReal) = ((∑ r : Fin 4096, D.part r (z 1) : ℝ) : EReal)
  rw [h1, e]
  refine congrArg _ ?_
  unfold Data.gainTo
  rw [show (31 + 1) / 4 = 8 from rfl, Finset.sum_range]
  exact (Fin.sum_univ_tiles 8 512 rfl fun r : Fin 4096 => D.part r (y 1)).symm

end Cert.Kernel13Ideal.Block

end
-- ==== Proof.LossPre.lean ====
module

public import proofs.«01_k».proof.Proof.LossDat

@[expose] public section

set_option maxRecDepth 16384

noncomputable section

namespace Cert.Kernel13Ideal.Loss

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, -/
def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d)) ∗ (∃ d, owns c.tc (ms1 t) fullShare ((dats m 0 c).before 1 t d)) ∗ (∃ d, owns c.tc (ms2 t) fullShare ((dats m 0 c).before 2 t d)) ∗ (∃ d, owns c.tc (ms3 t) fullShare ((dats m 0 c).before 3 t d)) ∗ (∃ d, owns c.tc (ms4 t) fullShare ((dats m 0 c).before 4 t d)) ∗ (∃ d, owns c.tc (ms5 t) fullShare ((dats m 0 c).before 5 t d)) ∗ (∃ d, owns c.tc (ms6 t) fullShare ((dats m 0 c).before 6 t d)) ∗ (∃ d, owns c.tc (ms7 t) fullShare ((dats m 0 c).before 7 t d)) ∗ (∃ d, owns c.tc (ms8 t) fullShare ((dats m 0 c).before 8 t d)) ∗ (∃ d, owns c.tc (ms9 t) fullShare ((dats m 0 c).before 9 t d)) ∗ (∃ d, owns c.tc (ms10 t) fullShare ((dats m 0 c).before 10 t d)) ∗ (∃ d, owns c.tc (ms11 t) fullShare ((dats m 0 c).before 11 t d)) ∗ (∃ d, owns c.tc (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

/-- The normalised rows, unchanged within a tile, are what the point leaves, written back there or not. -/
theorem leaves12 (c : Dev nD) (t : Fin cfg0.N) (hz : t.val ≠ 0) (h1 : ¬k0_cond1 (grid0.coords t) = 1#1) :
    owns c.tc (ms12 t) fullShare (prevSt m c t).h ⊢ ((dats m 0 c).leavesExact 12 t : sProp 𝕄) := by
  have e : (dats m 0 c).after 12 t = (prevSt m c t).h := by
    rw [after12, stAt_later m c t hz]
    exact if_neg h1
  cases hf : (cfg0.win 12).flush t with
  | false =>
    rw [Dat.leavesExact_idle (dats m 0 c) 12 t (idle12 t h1) hf]
    simp only [before12 m c t h1]
    iintro H
    iexists (prevSt m c t).h
    iexact H
  | true =>
    rw [show (dats m 0 c).leavesExact 12 t = owns c.tc (ms12 t) fullShare ((dats m 0 c).after 12 t) from by
      unfold Dat.leavesExact; rw [idle12 t h1, hf], e]

variable (c : Dev nD) (t : Fin cfg0.N)

/-- What a point leaves in a window it does not leave alone. -/
theorem leaves_live (w : Fin cfg0.W) (h : cfg0.idle w (cfg0.grid.coords t) = false) :
    (dats m 0 c).leavesExact w t = owns c.tc ((cfg0.win w).stage (cfg0.slots t w)) fullShare ((dats m 0 c).after w t) := by
  unfold Dat.leavesExact; rw [h]

theorem leaves0 :
    (dats m 0 c).leavesExact 0 t = owns c.tc (ms0 t) fullShare (iblk m c 0 t) :=
  (leaves_live m c t 0 rfl).trans (congrArg _ (after0 m c t))
theorem leaves1 :
    (dats m 0 c).leavesExact 1 t = owns c.tc (ms1 t) fullShare (iblk m c 1 t) :=
  (leaves_live m c t 1 rfl).trans (congrArg _ (after1 m c t))
theorem leaves2 :
    (dats m 0 c).leavesExact 2 t = owns c.tc (ms2 t) fullShare (iblk m c 2 t) :=
  (leaves_live m c t 2 rfl).trans (congrArg _ (after2 m c t))
theorem leaves3 :
    (dats m 0 c).leavesExact 3 t = owns c.tc (ms3 t) fullShare (iblk m c 3 t) :=
  (leaves_live m c t 3 rfl).trans (congrArg _ (after3 m c t))
theorem leaves4 :
    (dats m 0 c).leavesExact 4 t = owns c.tc (ms4 t) fullShare (iblk m c 4 t) :=
  (leaves_live m c t 4 rfl).trans (congrArg _ (after4 m c t))
theorem leaves5 :
    (dats m 0 c).leavesExact 5 t = owns c.tc (ms5 t) fullShare (iblk m c 5 t) :=
  (leaves_live m c t 5 rfl).trans (congrArg _ (after5 m c t))
theorem leaves6 :
    (dats m 0 c).leavesExact 6 t = owns c.tc (ms6 t) fullShare (iblk m c 6 t) :=
  (leaves_live m c t 6 rfl).trans (congrArg _ (after6 m c t))
theorem leaves7 (h : k0_cond2 (grid0.coords t) = 1#1 ∨ k0_cond3 (grid0.coords t) = 1#1) :
    (dats m 0 c).leavesExact 7 t = owns c.tc (ms7 t) fullShare ((stAt m c t.val t.isLt).loss) :=
  (leaves_live m c t 7 (live7 t h)).trans (congrArg _ (after7 m c t))
theorem leaves8 (h : k0_cond3 (grid0.coords t) = 1#1) :
    (dats m 0 c).leavesExact 8 t = owns c.tc (ms8 t) fullShare (k0_pay6 (k0_pay8 (b0 m c t) (stAt m c t.val t.isLt).acc) (b5 m c t) (k0_pay11 (b0 m c t) (stAt m c t.val t.isLt).acc (b5 m c t) (b6 m c t)) (k0_pay12 (b0 m c t) (stAt m c t.val t.isLt).acc)) :=
  (leaves_live m c t 8 (live8 t h)).trans (congrArg _ (after8 m c t))
theorem leaves9 (h : k0_cond2 (grid0.coords t) = 1#1 ∨ k0_cond3 (grid0.coords t) = 1#1) :
    (dats m 0 c).leavesExact 9 t = owns c.tc (ms9 t) fullShare ((stAt m c t.val t.isLt).dg) :=
  (leaves_live m c t 9 (live9 t h)).trans (congrArg _ (after9 m c t))
theorem leaves10 :
    (dats m 0 c).leavesExact 10 t = owns c.tc (ms10 t) fullShare (k0_pay18 (stAt m c t.val t.isLt).h (b2 m c t)) :=
  (leaves_live m c t 10 rfl).trans (congrArg _ (after10 m c t))
theorem leaves11 :
    (dats m 0 c).leavesExact 11 t = owns c.tc (ms11 t) fullShare (k0_pay19 (stAt m c t.val t.isLt).h (b3 m c t)) :=
  (leaves_live m c t 11 rfl).trans (congrArg _ (after11 m c t))
theorem leaves12_live (h : k0_cond1 (grid0.coords t) = 1#1) :
    (dats m 0 c).leavesExact 12 t = owns c.tc (ms12 t) fullShare ((stAt m c t.val t.isLt).h) :=
  (leaves_live m c t 12 (live12 t h)).trans (congrArg _ (after12 m c t))

end Cert.Kernel13Ideal.Loss

end
-- ==== Proof.LossRun.lean ====
module

public import proofs.«01_k».proof.Proof.Gen.Kernel13Ideal.Skeleton
public import proofs.«01_k».proof.Proof.Gen.Kernel13Ideal.Frame

@[expose] public section

set_option maxRecDepth 16384

noncomputable section

namespace Cert.Kernel13Ideal.Loss

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer that holds an array's values holds the array. -/
theorem owns_unread (c : Dev nD) {s : Shape} {e : EltTy} {arg : Memref sig .tc .vmem s e} (h : arg.IsWhole) (x : Vec F s e) :
    (arg.view.loc c.tc ↦[arg.view.set]{fullShare} h.unread x : sProp 𝕄)
      ⊢ (iprop(∃ f, ⌜arg.view.read (Elt F) f = x⌝ ∗ (arg.view.loc c.tc ↦[arg.view.set]{fullShare} f)) : sProp 𝕄) := by
  iintro H
  iexists _; isplitr; · ipureintro; exact h.read_unread _
  iexact H

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x128 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .bf16) (harg14 : arg14.IsWhole) (arg15 : Memref sig .tc .vmem S512x1024 .f32) (harg15 : arg15.IsWhole)
  (x2 : Vec F S512x1024 .f32) (x3 : Vec F S1x1024 .f32) (x4 : Vec F S1x704x1024 .bf16) (x5 : Vec F S1x704x1024 .bf16) (x6 : Vec F S1x704x1024 .bf16) (x7 : Vec F S1x1024 .f32) (x8 : Vec F S512x1024 .f32)

set_option maxHeartbeats 4000000 in
/-- At the first point: what the body's stores leave in each buffer it writes, as pieces (last first), with the proof that the body
    runs to them. -/
def runA (hc1 : k0_cond1 i = 1#1) (hc2 : k0_cond2 i = 1#1) (hc3 : ¬k0_cond3 i = 1#1)  :
    Σ' (L9 : List (View.Piece (Elt F) S8x128 .f32)), Σ' (L11 : List (View.Piece (Elt F) S1x1024 .f32)), Σ' (L12 : List (View.Piece (Elt F) S1x512x704 .bf16)), Σ' (L13 : List (View.Piece (Elt F) S1x512x704 .bf16)), Σ' (L14 : List (View.Piece (Elt F) S512x1024 .bf16)), { L15 : List (View.Piece (Elt F) S512x1024 .f32) //
      ∀ (x10 : Vec F S512x1024 .f32) (E : Set ℕ) (K : PUnit → sProp 𝕄),
        iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ (∃ d, owns c.tc arg9 fullShare d) ∗ owns c.tc arg10 fullShare x10 ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d)
            ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ (∃ f, arg9.view.loc c.tc ↦[arg9.view.set]{fullShare} arg9.view.writes (Elt F) f L9) ∗ owns c.tc arg10 fullShare x10 ∗ (∃ f, arg11.view.loc c.tc ↦[arg11.view.set]{fullShare} arg11.view.writes (Elt F) f L11) ∗ (∃ f, arg12.view.loc c.tc ↦[arg12.view.set]{fullShare} arg12.view.writes (Elt F) f L12) ∗ (∃ f, arg13.view.loc c.tc ↦[arg13.view.set]{fullShare} arg13.view.writes (Elt F) f L13) ∗ (∃ f, arg14.view.loc c.tc ↦[arg14.view.set]{fullShare} arg14.view.writes (Elt F) f L14) ∗ (∃ f, arg15.view.loc c.tc ↦[arg15.view.set]{fullShare} arg15.view.writes (Elt F) f L15)) -∗ K ⟨⟩))
          ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun x10 E K => ?run⟩
  case run =>
    simp only [cc0_ffn2_fwd_eq_skeleton]
    unfold cc0_ffn2_fwd_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10
    sl_exec (disch := first | sl_exact hc1 | sl_exact hc2 | sl_exact hc3)
    sl_step
    iapply Hk
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iexists _; iexact H9
    isplitl [H10]; iapply (owns_unread c harg10 x10); iexact H10
    isplitl [H11]; iexists _; iexact H11
    isplitl [H12]; iexists _; iexact H12
    isplitl [H13]; iexists _; iexact H13
    isplitl [H14]; iexists _; iexact H14
    iexists _; iexact H15

set_option maxHeartbeats 4000000 in
/-- At a tile's first point but the very first: what the body's stores leave in each buffer it writes, as pieces (last first), with the proof that the body
    runs to them. -/
def runB (hc1 : k0_cond1 i = 1#1) (hc2 : ¬k0_cond2 i = 1#1) (hc3 : ¬k0_cond3 i = 1#1)  :
    Σ' (L12 : List (View.Piece (Elt F) S1x512x704 .bf16)), Σ' (L13 : List (View.Piece (Elt F) S1x512x704 .bf16)), Σ' (L14 : List (View.Piece (Elt F) S512x1024 .bf16)), { L15 : List (View.Piece (Elt F) S512x1024 .f32) //
      ∀ (x9 : Vec F S8x128 .f32) (x10 : Vec F S512x1024 .f32) (x11 : Vec F S1x1024 .f32) (E : Set ℕ) (K : PUnit → sProp 𝕄),
        iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ (∃ d, owns c.tc arg12 fullShare d) ∗ (∃ d, owns c.tc arg13 fullShare d) ∗ (∃ d, owns c.tc arg14 fullShare d) ∗ (∃ d, owns c.tc arg15 fullShare d)
            ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ (∃ f, arg12.view.loc c.tc ↦[arg12.view.set]{fullShare} arg12.view.writes (Elt F) f L12) ∗ (∃ f, arg13.view.loc c.tc ↦[arg13.view.set]{fullShare} arg13.view.writes (Elt F) f L13) ∗ (∃ f, arg14.view.loc c.tc ↦[arg14.view.set]{fullShare} arg14.view.writes (Elt F) f L14) ∗ (∃ f, arg15.view.loc c.tc ↦[arg15.view.set]{fullShare} arg15.view.writes (Elt F) f L15)) -∗ K ⟨⟩))
          ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun x9 x10 x11 E K => ?run⟩
  case run =>
    simp only [cc0_ffn2_fwd_eq_skeleton]
    unfold cc0_ffn2_fwd_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc1 | sl_exact hc2 | sl_exact hc3)
    sl_step
    iapply Hk
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iapply (owns_unread c harg9 x9); iexact H9
    isplitl [H10]; iapply (owns_unread c harg10 x10); iexact H10
    isplitl [H11]; iapply (owns_unread c harg11 x11); iexact H11
    isplitl [H12]; iexists _; iexact H12
    isplitl [H13]; iexists _; iexact H13
    isplitl [H14]; iexists _; iexact H14
    iexists _; iexact H15

set_option maxHeartbeats 4000000 in
/-- Within a tile: what the body's stores leave in each buffer it writes, as pieces (last first), with the proof that the body
    runs to them. -/
def runC (hc1 : ¬k0_cond1 i = 1#1) (hc2 : ¬k0_cond2 i = 1#1) (hc3 : ¬k0_cond3 i = 1#1) (x14 : Vec F S512x1024 .bf16) (x15 : Vec F S512x1024 .f32) :
    Σ' (L12 : List (View.Piece (Elt F) S1x512x704 .bf16)), Σ' (L13 : List (View.Piece (Elt F) S1x512x704 .bf16)), { L15 : List (View.Piece (Elt F) S512x1024 .f32) //
      ∀ (x9 : Vec F S8x128 .f32) (x10 : Vec F S512x1024 .f32) (x11 : Vec F S1x1024 .f32) (E : Set ℕ) (K : PUnit → sProp 𝕄),
        iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ (∃ d, owns c.tc arg12 fullShare d) ∗ (∃ d, owns c.tc arg13 fullShare d) ∗ owns c.tc arg14 fullShare x14 ∗ owns c.tc arg15 fullShare x15
            ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ (∃ f, arg12.view.loc c.tc ↦[arg12.view.set]{fullShare} arg12.view.writes (Elt F) f L12) ∗ (∃ f, arg13.view.loc c.tc ↦[arg13.view.set]{fullShare} arg13.view.writes (Elt F) f L13) ∗ owns c.tc arg14 fullShare x14 ∗ (∃ f, arg15.view.loc c.tc ↦[arg15.view.set]{fullShare} arg15.view.writes (Elt F) f L15)) -∗ K ⟨⟩))
          ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun x9 x10 x11 E K => ?run⟩
  case run =>
    simp only [cc0_ffn2_fwd_eq_skeleton]
    unfold cc0_ffn2_fwd_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15
    sl_exec (disch := first | sl_exact hc1 | sl_exact hc2 | sl_exact hc3)
    sl_step
    iapply Hk
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iapply (owns_unread c harg9 x9); iexact H9
    isplitl [H10]; iapply (owns_unread c harg10 x10); iexact H10
    isplitl [H11]; iapply (owns_unread c harg11 x11); iexact H11
    isplitl [H12]; iexists _; iexact H12
    isplitl [H13]; iexists _; iexact H13
    isplitl [H14]; iapply (owns_unread c harg14 x14); iexact H14
    iexists _; iexact H15

set_option maxHeartbeats 4000000 in
/-- At a tile's last point: what the body's stores leave in each buffer it writes, as pieces (last first), with the proof that the body
    runs to them. -/
def runD (hc1 : ¬k0_cond1 i = 1#1) (hc2 : ¬k0_cond2 i = 1#1) (hc3 : k0_cond3 i = 1#1) (x9 : Vec F S8x128 .f32) (x11 : Vec F S1x1024 .f32) (x14 : Vec F S512x1024 .bf16) (x15 : Vec F S512x1024 .f32) :
    Σ' (L9 : List (View.Piece (Elt F) S8x128 .f32)), Σ' (L10 : List (View.Piece (Elt F) S512x1024 .f32)), Σ' (L11 : List (View.Piece (Elt F) S1x1024 .f32)), Σ' (L12 : List (View.Piece (Elt F) S1x512x704 .bf16)), Σ' (L13 : List (View.Piece (Elt F) S1x512x704 .bf16)), { L15 : List (View.Piece (Elt F) S512x1024 .f32) //
      ∀ (E : Set ℕ) (K : PUnit → sProp 𝕄),
        iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ (∃ d, owns c.tc arg10 fullShare d) ∗ owns c.tc arg11 fullShare x11 ∗ (∃ d, owns c.tc arg12 fullShare d) ∗ (∃ d, owns c.tc arg13 fullShare d) ∗ owns c.tc arg14 fullShare x14 ∗ owns c.tc arg15 fullShare x15
            ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ (∃ f, arg9.view.loc c.tc ↦[arg9.view.set]{fullShare} arg9.view.writes (Elt F) f L9) ∗ (∃ f, arg10.view.loc c.tc ↦[arg10.view.set]{fullShare} arg10.view.writes (Elt F) f L10) ∗ (∃ f, arg11.view.loc c.tc ↦[arg11.view.set]{fullShare} arg11.view.writes (Elt F) f L11) ∗ (∃ f, arg12.view.loc c.tc ↦[arg12.view.set]{fullShare} arg12.view.writes (Elt F) f L12) ∗ (∃ f, arg13.view.loc c.tc ↦[arg13.view.set]{fullShare} arg13.view.writes (Elt F) f L13) ∗ owns c.tc arg14 fullShare x14 ∗ (∃ f, arg15.view.loc c.tc ↦[arg15.view.set]{fullShare} arg15.view.writes (Elt F) f L15)) -∗ K ⟨⟩))
          ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun  E K => ?run⟩
  case run =>
    simp only [cc0_ffn2_fwd_eq_skeleton]
    unfold cc0_ffn2_fwd_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg14.eq_unread hf14; obtain rfl := harg15.eq_unread hf15
    sl_exec (disch := first | sl_exact hc1 | sl_exact hc2 | sl_exact hc3)
    sl_step
    iapply Hk
    isplitl [H2]; iapply (owns_unread c harg2 x2); iexact H2
    isplitl [H3]; iapply (owns_unread c harg3 x3); iexact H3
    isplitl [H4]; iapply (owns_unread c harg4 x4); iexact H4
    isplitl [H5]; iapply (owns_unread c harg5 x5); iexact H5
    isplitl [H6]; iapply (owns_unread c harg6 x6); iexact H6
    isplitl [H7]; iapply (owns_unread c harg7 x7); iexact H7
    isplitl [H8]; iapply (owns_unread c harg8 x8); iexact H8
    isplitl [H9]; iexists _; iexact H9
    isplitl [H10]; iexists _; iexact H10
    isplitl [H11]; iexists _; iexact H11
    isplitl [H12]; iexists _; iexact H12
    isplitl [H13]; iexists _; iexact H13
    isplitl [H14]; iapply (owns_unread c harg14 x14); iexact H14
    iexists _; iexact H15

end Cert.Kernel13Ideal.Loss

end
-- ==== Proof.LossStep.lean ====
module

public import proofs.«01_k».proof.Proof.FfnIDef
public import proofs.«01_k».proof.Proof.LossRun

@[expose] public section

set_option maxRecDepth 16384

noncomputable section

namespace Cert.Kernel13Ideal.Loss

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel12Ideal.Ffn (readAt_all read_writes_all)

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S8x128 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S512x1024 .bf16) (harg14 : arg14.IsWhole) (arg15 : Memref sig .tc .vmem S512x1024 .f32) (harg15 : arg15.IsWhole)
  (x2 : Vec F S512x1024 .f32) (x3 : Vec F S1x1024 .f32) (x4 : Vec F S1x704x1024 .bf16) (x5 : Vec F S1x704x1024 .bf16) (x6 : Vec F S1x704x1024 .bf16) (x7 : Vec F S1x1024 .f32) (x8 : Vec F S512x1024 .f32)

set_option maxHeartbeats 4000000 in
/-- At the first point: the body's run with what each buffer holds afterwards. -/
theorem stepA (hc1 : k0_cond1 i = 1#1) (hc2 : k0_cond2 i = 1#1) (hc3 : ¬k0_cond3 i = 1#1) (x10 : Vec F S512x1024 .f32) (E : Set ℕ) (K : PUnit → sProp 𝕄) :
    iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ (∃ d, owns c.tc arg9 fullShare d) ∗ owns c.tc arg10 fullShare x10 ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d)
        ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare (k0_pay2) ∗ owns c.tc arg10 fullShare x10 ∗ owns c.tc arg11 fullShare (k0_pay3) ∗ owns c.tc arg12 fullShare (k0_pay18 (k0_pay13 x2 x3) x4) ∗ owns c.tc arg13 fullShare (k0_pay19 (k0_pay13 x2 x3) x5) ∗ owns c.tc arg14 fullShare ((k0_pay13 x2 x3)) ∗ owns c.tc arg15 fullShare ((k0_pay1 (k0_pay20 (k0_pay13 x2 x3) x4 x5 k0_pay14 x6)))) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H2, H3, H4, H5, H6, H7, H8, H9, H10, H11, H12, H13, H14, H15, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 hc1 hc2 hc3 ).2.2.2.2.2.2 x10 E K)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  iintro ⟨H2, H3, H4, H5, H6, H7, H8, ⟨%e9, H9⟩, H10, ⟨%e11, H11⟩, ⟨%e12, H12⟩, ⟨%e13, H13⟩, ⟨%e14, H14⟩, ⟨%e15, H15⟩⟩
  iapply Hk
  isplitl [H2]; iexact H2
  isplitl [H3]; iexact H3
  isplitl [H4]; iexact H4
  isplitl [H5]; iexact H5
  isplitl [H6]; iexact H6
  isplitl [H7]; iexact H7
  isplitl [H8]; iexact H8
  isplitl [H9]; on_goal 1 => (unfold owns; iexists _; isplitr; swap; iexact H9)
  rotate_left
  isplitl [H10]; iexact H10
  isplitl [H11]; on_goal 1 => (unfold owns; iexists _; isplitr; swap; iexact H11)
  rotate_left
  isplitl [H12]; on_goal 1 => (unfold owns; iexists _; isplitr; swap; iexact H12)
  rotate_left
  isplitl [H13]; on_goal 1 => (unfold owns; iexists _; isplitr; swap; iexact H13)
  rotate_left
  isplitl [H14]; on_goal 1 => (unfold owns; iexists _; isplitr; swap; iexact H14)
  rotate_left
  unfold owns; iexists _; isplitr; swap; iexact H15
  all_goals
    ipureintro
    simp only [runA, runA.sl.H14_1, runA.sl.H15_1, runA.sl.r, runA.sl.v22, runA.sl.v3, ↓read_writes_all, readAt_all,
      View.readCov, View.writes_nil, Memref.IsWhole.read_unread]

set_option maxHeartbeats 4000000 in
/-- At a tile's first point but the very first: the body's run with what each buffer holds afterwards. -/
theorem stepB (hc1 : k0_cond1 i = 1#1) (hc2 : ¬k0_cond2 i = 1#1) (hc3 : ¬k0_cond3 i = 1#1) (x9 : Vec F S8x128 .f32) (x10 : Vec F S512x1024 .f32) (x11 : Vec F S1x1024 .f32) (E : Set ℕ) (K : PUnit → sProp 𝕄) :
    iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ (∃ d, owns c.tc arg12 fullShare d) ∗ (∃ d, owns c.tc arg13 fullShare d) ∗ (∃ d, owns c.tc arg14 fullShare d) ∗ (∃ d, owns c.tc arg15 fullShare d)
        ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare (k0_pay18 (k0_pay13 x2 x3) x4) ∗ owns c.tc arg13 fullShare (k0_pay19 (k0_pay13 x2 x3) x5) ∗ owns c.tc arg14 fullShare ((k0_pay13 x2 x3)) ∗ owns c.tc arg15 fullShare ((k0_pay1 (k0_pay20 (k0_pay13 x2 x3) x4 x5 k0_pay14 x6)))) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H2, H3, H4, H5, H6, H7, H8, H9, H10, H11, H12, H13, H14, H15, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 hc1 hc2 hc3 ).2.2.2.2 x9 x10 x11 E K)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  iintro ⟨H2, H3, H4, H5, H6, H7, H8, H9, H10, H11, ⟨%e12, H12⟩, ⟨%e13, H13⟩, ⟨%e14, H14⟩, ⟨%e15, H15⟩⟩
  iapply Hk
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; on_goal 1 => (unfold owns; iexists _; isplitr; swap; iexact H12)
  rotate_left
  isplitl [H13]; on_goal 1 => (unfold owns; iexists _; isplitr; swap; iexact H13)
  rotate_left
  isplitl [H14]; on_goal 1 => (unfold owns; iexists _; isplitr; swap; iexact H14)
  rotate_left
  unfold owns; iexists _; isplitr; swap; iexact H15
  all_goals
    ipureintro
    simp only [runB, runB.sl.H14_1, runB.sl.H15_1, runB.sl.r, runB.sl.v22, runB.sl.v3, ↓read_writes_all, readAt_all,
      View.readCov, View.writes_nil, Memref.IsWhole.read_unread]

set_option maxHeartbeats 4000000 in
/-- Within a tile: the body's run with what each buffer holds afterwards. -/
theorem stepC (hc1 : ¬k0_cond1 i = 1#1) (hc2 : ¬k0_cond2 i = 1#1) (hc3 : ¬k0_cond3 i = 1#1) (x9 : Vec F S8x128 .f32) (x10 : Vec F S512x1024 .f32) (x11 : Vec F S1x1024 .f32) (x14 : Vec F S512x1024 .bf16) (x15 : Vec F S512x1024 .f32) (E : Set ℕ) (K : PUnit → sProp 𝕄) :
    iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ (∃ d, owns c.tc arg12 fullShare d) ∗ (∃ d, owns c.tc arg13 fullShare d) ∗ owns c.tc arg14 fullShare x14 ∗ owns c.tc arg15 fullShare x15
        ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare (k0_pay18 x14 x4) ∗ owns c.tc arg13 fullShare (k0_pay19 x14 x5) ∗ owns c.tc arg14 fullShare x14 ∗ owns c.tc arg15 fullShare ((k0_pay1 (k0_pay20 x14 x4 x5 x15 x6)))) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H2, H3, H4, H5, H6, H7, H8, H9, H10, H11, H12, H13, H14, H15, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 hc1 hc2 hc3 x14 x15).2.2.2 x9 x10 x11 E K)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  iintro ⟨H2, H3, H4, H5, H6, H7, H8, H9, H10, H11, ⟨%e12, H12⟩, ⟨%e13, H13⟩, H14, ⟨%e15, H15⟩⟩
  iapply Hk
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; on_goal 1 => (unfold owns; iexists _; isplitr; swap; iexact H12)
  rotate_left
  isplitl [H13]; on_goal 1 => (unfold owns; iexists _; isplitr; swap; iexact H13)
  rotate_left
  isplitl [H14]; iexact H14
  unfold owns; iexists _; isplitr; swap; iexact H15
  all_goals
    ipureintro
    simp only [runC, runC.sl.r, runC.sl.r_1, ↓read_writes_all, readAt_all,
      View.readCov, View.writes_nil, Memref.IsWhole.read_unread]

set_option maxHeartbeats 4000000 in
/-- At a tile's last point: the body's run with what each buffer holds afterwards. -/
theorem stepD (hc1 : ¬k0_cond1 i = 1#1) (hc2 : ¬k0_cond2 i = 1#1) (hc3 : k0_cond3 i = 1#1) (x9 : Vec F S8x128 .f32) (x11 : Vec F S1x1024 .f32) (x14 : Vec F S512x1024 .bf16) (x15 : Vec F S512x1024 .f32) (E : Set ℕ) (K : PUnit → sProp 𝕄) :
    iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ (∃ d, owns c.tc arg10 fullShare d) ∗ owns c.tc arg11 fullShare x11 ∗ (∃ d, owns c.tc arg12 fullShare d) ∗ (∃ d, owns c.tc arg13 fullShare d) ∗ owns c.tc arg14 fullShare x14 ∗ owns c.tc arg15 fullShare x15
        ∗ (iprop(owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare (k0_pay10 x2 (k0_pay1 (k0_pay20 x14 x4 x5 x15 x6)) x7 x8 x9) ∗ owns c.tc arg10 fullShare (k0_pay6 (k0_pay8 x2 (k0_pay1 (k0_pay20 x14 x4 x5 x15 x6))) x7 (k0_pay11 x2 (k0_pay1 (k0_pay20 x14 x4 x5 x15 x6)) x7 x8) (k0_pay12 x2 (k0_pay1 (k0_pay20 x14 x4 x5 x15 x6)))) ∗ owns c.tc arg11 fullShare (k0_pay7 (k0_pay8 x2 (k0_pay1 (k0_pay20 x14 x4 x5 x15 x6))) (k0_pay11 x2 (k0_pay1 (k0_pay20 x14 x4 x5 x15 x6)) x7 x8) (k0_pay12 x2 (k0_pay1 (k0_pay20 x14 x4 x5 x15 x6))) x11) ∗ owns c.tc arg12 fullShare (k0_pay18 x14 x4) ∗ owns c.tc arg13 fullShare (k0_pay19 x14 x5) ∗ owns c.tc arg14 fullShare x14 ∗ owns c.tc arg15 fullShare ((k0_pay1 (k0_pay20 x14 x4 x5 x15 x6)))) -∗ K ⟨⟩))
      ⊢ wp frame (wpE (defs₀ (F := F)) Variants.none c none) E (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H2, H3, H4, H5, H6, H7, H8, H9, H10, H11, H12, H13, H14, H15, Hk⟩
  iapply ((runD c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 hc1 hc2 hc3 x9 x11 x14 x15).2.2.2.2.2.2  E K)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  isplitl [H14]; iexact H14
  isplitl [H15]; iexact H15
  iintro ⟨H2, H3, H4, H5, H6, H7, H8, ⟨%e9, H9⟩, ⟨%e10, H10⟩, ⟨%e11, H11⟩, ⟨%e12, H12⟩, ⟨%e13, H13⟩, H14, ⟨%e15, H15⟩⟩
  iapply Hk
  isplitl [H2]; iexact H2
  isplitl [H3]; iexact H3
  isplitl [H4]; iexact H4
  isplitl [H5]; iexact H5
  isplitl [H6]; iexact H6
  isplitl [H7]; iexact H7
  isplitl [H8]; iexact H8
  isplitl [H9]; on_goal 1 => (unfold owns; iexists _; isplitr; swap; iexact H9)
  rotate_left
  isplitl [H10]; on_goal 1 => (unfold owns; iexists _; isplitr; swap; iexact H10)
  rotate_left
  isplitl [H11]; on_goal 1 => (unfold owns; iexists _; isplitr; swap; iexact H11)
  rotate_left
  isplitl [H12]; on_goal 1 => (unfold owns; iexists _; isplitr; swap; iexact H12)
  rotate_left
  isplitl [H13]; on_goal 1 => (unfold owns; iexists _; isplitr; swap; iexact H13)
  rotate_left
  isplitl [H14]; iexact H14
  unfold owns; iexists _; isplitr; swap; iexact H15
  all_goals
    ipureintro
    simp only [runD, runD.sl.H15_1, runD.sl.r, runD.sl.r_1, runD.sl.r_2, runD.sl.r_3, runD.sl.r_4, runD.sl.r_5, runD.sl.v40, ↓read_writes_all, readAt_all,
      View.readCov, View.writes_nil, Memref.IsWhole.read_unread]

end Cert.Kernel13Ideal.Loss

end
-- ==== Proof.LossSound.lean ====
module

public import proofs.«01_k».proof.Proof.LossPre
public import proofs.«01_k».proof.Proof.LossStep

@[expose] public section

set_option maxRecDepth 16384

noncomputable section

namespace Cert.Kernel13Ideal.Loss

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first point: what the body is called with gives what it must leave. -/
theorem soundA (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  obtain ⟨h1, h2, h3⟩ := first_conds t hz
  rw [leaves0, leaves1, leaves2, leaves3, leaves4, leaves5, leaves6, leaves10, leaves11, leaves12_live m c t h1]
  rw [Dat.leavesExact_idle (dats m 0 c) 8 t (idle8 t h3).1 (idle8 t h3).2]
  rw [leaves7 m c t (.inl h2)]
  rw [leaves9 m c t (.inl h2)]
  rw [PhiS_castSucc m c t, PhiS_zero m c _ _ hz, PhiA_eq, stAt_first m c t hz]
  dsimp only [firstSt]
  iintro ⟨⟨HS15, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (stepA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) (b0 m c t) (b1 m c t) (b2 m c t) (b3 m c t) (b4 m c t) (b5 m c t) (b6 m c t) h1 h2 h3 _ Set.univ _)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexists _; iexact H9
  isplitl [H10]; iexact H10
  isplitl [H11]; iexists _; iexact H11
  isplitl [H12]; iexists _; iexact H12
  isplitl [H13]; iexists _; iexact H13
  isplitl [H14]; iexists _; iexact H14
  isplitl [HS15]; iexact HS15
  iintro ⟨H2, H3, H4, H5, H6, H7, H8, H9, H10, H11, H12, H13, H14, HS15⟩
  isplitl [HS15 Hg]
  · isplitl [HS15]; iexact HS15
    iexact Hg
  isplitl [Ho]; iexact Ho
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexists _; iexact H10
  isplitl [H11]; iexact H11
  isplitl [H12]; iexact H12
  isplitl [H13]; iexact H13
  iexact H14

set_option maxHeartbeats 4000000 in
/-- At a tile's first point but the very first: what the body is called with gives what it must leave. -/
theorem soundB (c : Dev nD) (t : Fin cfg0.N) (hz : t.val ≠ 0) (h1 : k0_cond1 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  obtain ⟨h2, h13⟩ := later_conds t hz
  have h3 := h13 h1
  rw [leaves0, leaves1, leaves2, leaves3, leaves4, leaves5, leaves6, leaves10, leaves11, leaves12_live m c t h1]
  rw [Dat.leavesExact_idle (dats m 0 c) 8 t (idle8 t h3).1 (idle8 t h3).2]
  rw [Dat.leavesExact_idle (dats m 0 c) 7 t (idle7 t h2 h3).1 (idle7 t h2 h3).2]
  rw [Dat.leavesExact_idle (dats m 0 c) 9 t (idle9 t h2 h3).1 (idle9 t h2 h3).2]
  simp only [before7 m c t hz, before9 m c t hz]
  rw [PhiS_castSucc m c t, PhiS_pos m c _ _ hz, stAt_later m c t hz]
  have e1 : nextH m c t (prevSt m c t) = k0_pay13 (b0 m c t) (b1 m c t) := if_pos h1
  dsimp only [nextSt, nextAcc]
  rw [e1]
  rw [if_pos h1]
  iintro ⟨⟨HS15, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (stepB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) (b0 m c t) (b1 m c t) (b2 m c t) (b3 m c t) (b4 m c t) (b5 m c t) (b6 m c t) h1 h2 h3 (prevSt m c t).loss _ (prevSt m c t).dg Set.univ _)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexists _; iexact H12
  isplitl [H13]; iexists _; iexact H13
  isplitl [H14]; iexists _; iexact H14
  isplitl [HS15]; iexists _; iexact HS15
  iintro ⟨H2, H3, H4, H5, H6, H7, H8, H9, H10, H11, H12, H13, H14, HS15⟩
  isplitl [HS15 Hg]
  · isplitl [HS15]; iexact HS15
    iexact Hg
  isplitl [Ho]; iexact Ho
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexists (prevSt m c t).loss; iexact H9
  isplitl [H10]; iexists _; iexact H10
  isplitl [H11]; iexists (prevSt m c t).dg; iexact H11
  isplitl [H12]; iexact H12
  isplitl [H13]; iexact H13
  iexact H14

set_option maxHeartbeats 4000000 in
/-- Within a tile: what the body is called with gives what it must leave. -/
theorem soundC (c : Dev nD) (t : Fin cfg0.N) (hz : t.val ≠ 0) (h1 : ¬k0_cond1 (grid0.coords t) = 1#1) (h3 : ¬k0_cond3 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  obtain ⟨h2, -⟩ := later_conds t hz
  rw [leaves0, leaves1, leaves2, leaves3, leaves4, leaves5, leaves6, leaves10, leaves11]
  rw [Dat.leavesExact_idle (dats m 0 c) 8 t (idle8 t h3).1 (idle8 t h3).2]
  rw [Dat.leavesExact_idle (dats m 0 c) 7 t (idle7 t h2 h3).1 (idle7 t h2 h3).2]
  rw [Dat.leavesExact_idle (dats m 0 c) 9 t (idle9 t h2 h3).1 (idle9 t h2 h3).2]
  have h12 : owns c.tc (ms12 t) fullShare (prevSt m c t).h ⊢ ((dats m 0 c).leavesExact 12 t : sProp 𝕄) := leaves12 m c t hz h1
  simp only [before12 m c t h1]
  simp only [before7 m c t hz, before9 m c t hz]
  rw [PhiS_castSucc m c t, PhiS_pos m c _ _ hz, stAt_later m c t hz]
  have e1 : nextH m c t (prevSt m c t) = (prevSt m c t).h := if_neg h1
  dsimp only [nextSt, nextAcc]
  rw [e1]
  rw [if_neg h1]
  iintro ⟨⟨HS15, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (stepC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) (b0 m c t) (b1 m c t) (b2 m c t) (b3 m c t) (b4 m c t) (b5 m c t) (b6 m c t) h1 h2 h3 (prevSt m c t).loss _ (prevSt m c t).dg (prevSt m c t).h (prevSt m c t).acc Set.univ _)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexists _; iexact H12
  isplitl [H13]; iexists _; iexact H13
  isplitl [H14]; iexact H14
  isplitl [HS15]; iexact HS15
  iintro ⟨H2, H3, H4, H5, H6, H7, H8, H9, H10, H11, H12, H13, H14, HS15⟩
  isplitl [HS15 Hg]
  · isplitl [HS15]; iexact HS15
    iexact Hg
  isplitl [Ho]; iexact Ho
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexists (prevSt m c t).loss; iexact H9
  isplitl [H10]; iexists _; iexact H10
  isplitl [H11]; iexists (prevSt m c t).dg; iexact H11
  isplitl [H12]; iexact H12
  isplitl [H13]; iexact H13
  iapply h12; iexact H14

set_option maxHeartbeats 4000000 in
/-- At a tile's last point: what the body is called with gives what it must leave. -/
theorem soundD (c : Dev nD) (t : Fin cfg0.N) (hz : t.val ≠ 0) (h1 : ¬k0_cond1 (grid0.coords t) = 1#1) (h3 : k0_cond3 (grid0.coords t) = 1#1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  obtain ⟨h2, -⟩ := later_conds t hz
  rw [leaves0, leaves1, leaves2, leaves3, leaves4, leaves5, leaves6, leaves10, leaves11]
  rw [leaves8 m c t h3]
  rw [leaves7 m c t (.inr h3)]
  rw [leaves9 m c t (.inr h3)]
  have h12 : owns c.tc (ms12 t) fullShare (prevSt m c t).h ⊢ ((dats m 0 c).leavesExact 12 t : sProp 𝕄) := leaves12 m c t hz h1
  simp only [before12 m c t h1]
  simp only [before7 m c t hz, before9 m c t hz]
  rw [PhiS_castSucc m c t, PhiS_pos m c _ _ hz, stAt_later m c t hz]
  have e1 : nextH m c t (prevSt m c t) = (prevSt m c t).h := if_neg h1
  have e2 : (nextSt m c t (prevSt m c t)).loss = k0_pay10 (b0 m c t) (nextAcc m c t (prevSt m c t)) (b5 m c t) (b6 m c t) (prevSt m c t).loss := if_pos h3
  have e3 : (nextSt m c t (prevSt m c t)).dg = k0_pay7 (k0_pay8 (b0 m c t) (nextAcc m c t (prevSt m c t))) (k0_pay11 (b0 m c t) (nextAcc m c t (prevSt m c t)) (b5 m c t) (b6 m c t)) (k0_pay12 (b0 m c t) (nextAcc m c t (prevSt m c t))) (prevSt m c t).dg := if_pos h3
  rw [e2, e3]
  dsimp only [nextSt, nextAcc]
  rw [e1]
  rw [if_neg h1]
  iintro ⟨⟨HS15, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (stepD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) (b0 m c t) (b1 m c t) (b2 m c t) (b3 m c t) (b4 m c t) (b5 m c t) (b6 m c t) h1 h2 h3 (prevSt m c t).loss (prevSt m c t).dg (prevSt m c t).h (prevSt m c t).acc Set.univ _)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexists _; iexact H10
  isplitl [H11]; iexact H11
  isplitl [H12]; iexists _; iexact H12
  isplitl [H13]; iexists _; iexact H13
  isplitl [H14]; iexact H14
  isplitl [HS15]; iexact HS15
  iintro ⟨H2, H3, H4, H5, H6, H7, H8, H9, H10, H11, H12, H13, H14, HS15⟩
  isplitl [HS15 Hg]
  · isplitl [HS15]; iexact HS15
    iexact Hg
  isplitl [Ho]; iexact Ho
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  isplitl [H13]; iexact H13
  iapply h12; iexact H14

end Cert.Kernel13Ideal.Loss

end
-- ==== Proof.LossFrame.lean ====
module

public import proofs.«01_k».proof.Proof.LossSound
public import proofs.«01_k».proof.Proof.Gen.Kernel13Ideal.Launch
public import Idealize.ShloMosaic.Lib.Claim

@[expose] public section

set_option maxRecDepth 16384

noncomputable section

namespace Cert.Kernel13Ideal.Loss

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact soundA m c t hz
  · by_cases h1 : k0_cond1 (grid0.coords t) = 1#1
    · exact soundB m c t hz h1
    · by_cases h3 : k0_cond3 (grid0.coords t) = 1#1
      · exact soundD m c t hz h1 h3
      · exact soundC m c t hz h1 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS0, Hg⟩
  isplitl [HS0]; iexists _; iexact HS0
  iexact Hg

-- the library theorem's implicit arguments are found by unifying its conclusion with this one
set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel13Ideal.Loss

end
-- ==== Proof.LossEnd.lean ====
/-
  The second feed-forward layer and the loss: the kernel's run with its three results named.
-/
module

public import proofs.«01_k».proof.Proof.LossSum
public import proofs.«01_k».proof.Proof.LossFrame

@[expose] public section

noncomputable section

namespace Cert.Kernel13Ideal.Block

open Cert.Kernel13Ideal Cert.Kernel13Ideal.Gen Cert.Kernel13Ideal.Loss Idealize.ShloMosaic Idealize.ShloMosaic.TcCoe Idealize.SL.Sem

variable (m : (ℓ : Loc nD τ sig) → Buf (Elt Ideal) ℓ) (ρ : Dev nD → PrngReg)

/-- The results after the run are the arrays the grid leaves; the arguments are as they were. -/
theorem run_blocks : θ_run defs (onTc (τ := τ) (main (F := Ideal))) ⟨m, fun _ => 0, ρ⟩ fun r => ∀ c : Dev nD,
      r.2.mem ((c.tc : Thread nD τ).loc main_v8_0) = (dats m 0 c).arrAt 7 cfg0.N
      ∧ r.2.mem ((c.tc : Thread nD τ).loc main_v8_1) = (dats m 0 c).arrAt 8 cfg0.N
      ∧ r.2.mem ((c.tc : Thread nD τ).loc main_v8_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 7, (h.1 c).1 8, (h.1 c).1 9, h.2.1 c⟩)
    (θ_run_and (run_main m ρ) (frame m ρ))

end Cert.Kernel13Ideal.Block

end
-- ==== Proof.LossRef.lean ====
/-
  The second feed-forward layer and the loss: the reference's three results.
-/
module

public import proofs.«01_k».proof.Proof.LossSum
public import proofs.«01_k».proof.Proof.FfnRef
public import proofs.«01_k».proof.Proof.Gen.Reference13Ideal.Run

@[expose] public section

set_option maxRecDepth 16384

noncomputable section

namespace Cert.Kernel13Ideal.Block.Data

variable (D : Data)

/-- The numbers of the layer before its normalisation, and of the loss's, each as those of a layer. -/
def inner : Cert.Kernel12Ideal.Block.Data := { ct := D.t, x := D.x, g := D.g, wg := D.wg, wu := D.wu, wd := D.wd, wo := D.gf }
def outer : Cert.Kernel12Ideal.Block.Data := { ct := D.t, x := D.y, g := D.gf, wg := D.wg, wu := D.wu, wd := D.wd, wo := D.gf }

end Cert.Kernel13Ideal.Block.Data

namespace Cert.Reference13Ideal.Value

open Cert.Reference13Ideal Cert.Reference13Ideal.Gen Cert.Gla Cert.Mix Idealize.ShloMosaic Idealize.ShloMosaic.TcCoe Idealize.SL.Sem
open Cert.Kernel12Ideal.Stage (sg c_half)
open Cert.Kernel13Ideal.Block (Data)
open Cert.Reference12Ideal.Value (inv normed proj logi spread dG inv_eq normed_eq proj_eq logi_eq spread_eq dG_eq)

theorem c_two : Ideal.ofBits .f32 0x40000000#32 = ((2 : ℝ) : EReal) := by
  simp [Ideal.ofBits, Ideal.ieee, -EReal.coe_mul]; norm_num

/-- The reference's steps: the hidden layer's product with its weight, the layer, how far its normalised rows are from the targets. -/
def down (A U : FVec Ideal S4096x2816 .f32) (W : FVec Ideal S2816x1024 .f32) : FVec Ideal S4096x1024 .f32 :=
  Host.dotGeneral (φ₁ := .f32) (φ₂ := .f32) dot_S4096x2816_S2816x1024_S4096x1024_1_0_0_1_n_n none (mulf (mulf A (logi A)) U) W

def layer (X : FVec Ideal S4096x1024 .f32) (G : FVec Ideal S1x1024 .f32) (Wg Wu : FVec Ideal S1024x2816 .f32) (Wd : FVec Ideal S2816x1024 .f32) : FVec Ideal S4096x1024 .f32 :=
  addf X (mulf (broadcastInDim S4096x1024 ![] bcast_S_S4096x1024 (constant S_ .f32 0x3F000000#32)) (down (proj (normed X G) Wg) (proj (normed X G) Wu) Wd))

def far (Y : FVec Ideal S4096x1024 .f32) (G : FVec Ideal S1x1024 .f32) (T : FVec Ideal S4096x1024 .f32) : FVec Ideal S4096x1024 .f32 :=
  subf (normed Y G) T

/-- The loss, spread over its block, and its gradient by the normalised rows and by the rows. -/
def loss (E : FVec Ideal S4096x1024 .f32) : FVec Ideal S8x128 .f32 :=
  broadcastInDim S8x128 ![] bcast_S_S8x128 (mulf (constant S_ .f32 0x3F000000#32) (Host.reduceAdd (Host.divf (Host.reduceAdd (mulf E E) (constant S_ .f32 0x00000000#32)
    reducesTo_S4096x1024_S4096_d1 h_S_) (broadcastInDim S4096 ![] bcast_S_S4096 (constant S_ .f32 0x44800000#32))) (constant S_ .f32 0x00000000#32) reducesTo_S4096_S_d0 h_S_))

def dN (E : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (broadcastInDim S4096x1024 ![] bcast_S_S4096x1024 (constant S_ .f32 0x40000000#32)) E)

def dY (Y N : FVec Ideal S4096x1024 .f32) (G : FVec Ideal S1x1024 .f32) : FVec Ideal S4096x1024 .f32 :=
  addf (addf (mulf (mulf N (broadcastInDim S4096x1024 ![0, 1] bcast_S1x1024_S4096x1024_0_1 G)) (broadcastInDim S4096x1024 ![0, 1] bcast_S4096x1_S4096x1024_0_1 (inv Y)))
    (mulf Y (spread Y N G))) (mulf (spread Y N G) Y)

variable {D : Data}

theorem down_eq (w : ℕ → ℕ → ℝ) (a u : ℕ → ℕ → ℝ) : down (lift2 fun (i : Fin 4096) (j : Fin 2816) => a i j) (lift2 fun (i : Fin 4096) (j : Fin 2816) => u i j)
    (lift2 fun (i : Fin 2816) (j : Fin 1024) => w i j) = lift2 fun (i : Fin 4096) (k : Fin 1024) => ∑ j : Fin 2816, a i j * sg (a i j) * u i j * w j k := by
  unfold down
  rw [logi_eq]
  funext z
  idx_vars z
  pointwise
  simp only [lift2_ix, ← EReal.coe_mul, coe_sum]

/-- The sum over the hidden layer is that over its shards. -/
theorem shards (D : Data) (r k : ℕ) : ∑ j : Fin 2816, D.a r j * sg (D.a r j) * D.u r j * D.wd j k = D.some 4 r k := by
  rw [Fin.sum_univ_tiles 4 704 rfl fun j : Fin 2816 => D.a r j * sg (D.a r j) * D.u r j * D.wd j k]
  unfold Data.some
  rw [Finset.sum_range]
  rfl

theorem layer_eq : layer (lift2 fun (i : Fin 4096) => D.inner.row i) (lift2 fun (_ : Fin 1) => D.inner.gain) (lift2 fun (i : Fin 1024) (j : Fin 2816) => D.wg i j)
    (lift2 fun (i : Fin 1024) (j : Fin 2816) => D.wu i j) (lift2 fun (i : Fin 2816) (j : Fin 1024) => D.wd i j) = lift2 fun (i : Fin 4096) => D.outer.row i := by
  unfold layer
  rw [normed_eq, proj_eq, proj_eq]
  refine (congrArg (fun B => addf _ (mulf _ B)) (down_eq D.wd D.a D.u)).trans ?_
  funext z
  idx_vars z
  pointwise
  simp only [lift2_ix, c_half, shards, ← EReal.coe_mul, ← EReal.coe_add]
  rfl

theorem far_eq : far (lift2 fun (i : Fin 4096) => D.outer.row i) (lift2 fun (_ : Fin 1) => D.outer.gain) (lift2 fun (i : Fin 4096) (j : Fin 1024) => D.t i j)
    = lift2 fun (i : Fin 4096) => D.err i := by
  unfold far
  rw [normed_eq]
  funext z
  idx_vars z
  pointwise
  simp only [lift2_ix, ← EReal.coe_sub]
  rfl

theorem loss_eq : loss (lift2 fun (i : Fin 4096) => D.err i) = lift2 fun (_ : Fin 8) (_ : Fin 128) => 1 / 2 * ∑ r : Fin 4096, D.sq r := by
  funext z
  idx_vars z
  pointwise [loss]
  simp only [lift2_ix, c_half, c_1024, div_1024, ← EReal.coe_mul, coe_sum]
  rfl

theorem dN_eq : dN (lift2 fun (i : Fin 4096) => D.err i) = lift2 fun (i : Fin 4096) (a : Fin 1024) => D.err i a * (1 / 1024) := by
  funext z
  idx_vars z
  pointwise [dN]
  simp only [lift2_ix, c_half, Cert.Gla.c_one, Cert.Gla.one_coe, c_two, c_1024, ← EReal.coe_mul, div_1024]
  refine congrArg _ ?_
  ring

theorem dY_eq : dY (lift2 fun (i : Fin 4096) => D.outer.row i) (lift2 fun (i : Fin 4096) (a : Fin 1024) => D.err i a * (1 / 1024)) (lift2 fun (_ : Fin 1) => D.outer.gain)
    = lift2 fun (i : Fin 4096) => D.dx i := by
  unfold dY
  rw [inv_eq, spread_eq fun i a => D.err i a * (1 / 1024)]
  funext z
  idx_vars z
  pointwise
  simp only [lift2_ix, ← EReal.coe_mul, ← EReal.coe_add]
  exact congrArg _ (back_eq (fun a => D.err z0 a * (1 / 1024)) D.fgain (D.yrow z0) z1)

variable (m : (ℓ : Loc nD τ sig) → Buf (Elt Ideal) ℓ) (c : Dev nD)

/-- The arguments hold these numbers. -/
structure Holds (D : Data) : Prop where
  a0 : m ((c : Thread nD τ).loc main_arg0) = lift2 fun (i : Fin 4096) => D.inner.row i
  a1 : m ((c : Thread nD τ).loc main_arg1) = lift2 fun (_ : Fin 1) => D.inner.gain
  a2 : m ((c : Thread nD τ).loc main_arg2) = lift2 fun (i : Fin 1024) (j : Fin 2816) => D.wg i j
  a3 : m ((c : Thread nD τ).loc main_arg3) = lift2 fun (i : Fin 1024) (j : Fin 2816) => D.wu i j
  a4 : m ((c : Thread nD τ).loc main_arg4) = lift2 fun (i : Fin 2816) (j : Fin 1024) => D.wd i j
  a5 : m ((c : Thread nD τ).loc main_arg5) = lift2 fun (_ : Fin 1) => D.outer.gain
  a6 : m ((c : Thread nD τ).loc main_arg6) = lift2 fun (i : Fin 4096) (j : Fin 1024) => D.t i j

/-- The layer and how far it is from the targets, of the arguments. -/
abbrev rowsOf : FVec Ideal S4096x1024 .f32 := layer (m ((c : Thread nD τ).loc main_arg0)) (m ((c : Thread nD τ).loc main_arg1)) (m ((c : Thread nD τ).loc main_arg2)) (m ((c : Thread nD τ).loc main_arg3)) (m ((c : Thread nD τ).loc main_arg4))
abbrev farOf : FVec Ideal S4096x1024 .f32 := far (rowsOf m c) (m ((c : Thread nD τ).loc main_arg5)) (m ((c : Thread nD τ).loc main_arg6))

/-- The results by their steps. -/
theorem steps_loss : res_main_v75 m c = loss (farOf m c) := rfl
theorem steps_dx : res_main_v74 m c = dY (rowsOf m c) (dN (farOf m c)) (m ((c : Thread nD τ).loc main_arg5)) := rfl
theorem steps_dg : res_main_v58 m c = dG (rowsOf m c) (dN (farOf m c)) := rfl

variable {m c} (H : Holds m c D)

include H

theorem rowsOf_eq : rowsOf m c = lift2 fun (i : Fin 4096) => D.outer.row i := by
  rw [rowsOf, H.a0, H.a1, H.a2, H.a3, H.a4, layer_eq]

theorem farOf_eq : farOf m c = lift2 fun (i : Fin 4096) => D.err i := by
  rw [farOf, rowsOf_eq H, H.a5, H.a6, far_eq]

/-- The first result, -/
theorem val_loss : res_main_v75 m c = lift2 fun (_ : Fin 8) (_ : Fin 128) => 1 / 2 * ∑ r : Fin 4096, D.sq r := by
  rw [steps_loss, farOf_eq H, loss_eq]

/-- the second, -/
theorem val_dx : res_main_v74 m c = lift2 fun (i : Fin 4096) => D.dx i := by
  rw [steps_dx, farOf_eq H, rowsOf_eq H, H.a5, dN_eq, dY_eq]

/-- and the third. -/
theorem val_dg : res_main_v58 m c = lift2 fun (_ : Fin 1) a => ∑ r : Fin 4096, D.part r a := by
  rw [steps_dg, farOf_eq H, rowsOf_eq H, dN_eq]
  exact dG_eq fun i a => D.err i a * (1 / 1024)

end Cert.Reference13Ideal.Value

end
-- ==== Proof.LossTwin.lean ====
/-
  The second feed-forward layer and the loss: the printed program and its idealised form are one program.
-/
module

public import proofs.«01_k».proof.Proof.LossFrame
public import proofs.«01_k».proof.Proof.Gen.Kernel13

@[expose] public section

set_option maxRecDepth 16384

noncomputable section

namespace Cert.Kernel13.Loss

open Cert.Kernel13 Cert.Kernel13.Gen Idealize.ShloMosaic Idealize.ShloMosaic.TcCoe Idealize.SL.Sem

variable {F : FTy → Type} [FloatOps F]
/-- The two kernel bodies are one. -/
theorem body_eq : @Kernel13.cc0_ffn2_fwd F _ _ = @Kernel13Ideal.cc0_ffn2_fwd F _ _ := rfl

set_option maxHeartbeats 1000000 in
/-- So are their bodies' tables, -/
theorem bodies_eq : @Kernel13.defs₀ F _ _ = @Kernel13Ideal.defs₀ F _ _ := by
  funext p
  cases p with
  | tc =>
    funext ℓ a
    match ℓ, a with
    | 0, (t, s) => with_unfolding_all rfl
  | scScalar _ => rfl
  | scVector _ _ => rfl

set_option maxHeartbeats 1000000 in
/-- the tables with their pipelines, -/
theorem defs_eq : @Kernel13.defs F _ _ = @Kernel13Ideal.defs F _ _ :=
  congrArg (Pipeline.defs Kernel13.pcfgs) bodies_eq

set_option maxHeartbeats 1000000 in
/-- and their entry points. -/
theorem main_eq : @Kernel13.main F _ _ = @Kernel13Ideal.main F _ _ := rfl

variable (m : (ℓ : Loc nD τ sig) → Buf (Elt F) ℓ) (ρ : Dev nD → PrngReg)

set_option maxHeartbeats 1000000 in
/-- The program runs, leaves its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have e := congrFun (congrArg₂ (fun D p => θ_run D (onTc (τ := τ) p)) (defs_eq (F := F)) main_eq) ⟨m, fun _ => 0, ρ⟩
  rw [e]
  exact Cert.Kernel13Ideal.Loss.frame m ρ

end Cert.Kernel13.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Pre_finite12
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Pre_finite13
public import proofs.«01_k».proof.Proof.Gen.Pre_finite
public import proofs.«01_k».proof.Proof.Gen.Pre_finite6
public import proofs.«01_k».proof.Proof.Arrays
public import proofs.«01_k».proof.Proof.Agree
public import proofs.«01_k».proof.Proof.Finite
public import proofs.«01_k».proof.Proof.Weight2
public import proofs.«01_k».proof.Proof.Weight3
public import proofs.«01_k».proof.Proof.Weight4
public import proofs.«01_k».proof.Proof.Weight5
public import proofs.«01_k».proof.Proof.MixRef
public import proofs.«01_k».proof.Proof.Mixed7
public import proofs.«01_k».proof.Proof.Weight8
public import proofs.«01_k».proof.Proof.Adam9
public import proofs.«01_k».proof.Proof.Adam10
public import proofs.«01_k».proof.Proof.Adam11
public import proofs.«01_k».proof.Proof.FfnRun
public import proofs.«01_k».proof.Proof.FfnRef
public import proofs.«01_k».proof.Proof.FfnTwin
public import proofs.«01_k».proof.Proof.LossEnd
public import proofs.«01_k».proof.Proof.LossRef
public import proofs.«01_k».proof.Proof.LossTwin
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal := fun m ρ _ =>
  (θ_run Cert.ReferenceIdeal.defs _ _).mono
    (fun r h => ⟨fun c => (h c).2.2.2.2.2.2.2, sem_eq_zero_of_no_sems (by decide) r.2⟩) (Cert.ReferenceIdeal.Trip.results (F := Ideal) m ρ)

/-- The kernel's results are the reference's. -/
theorem same : Cert.algebraic_KernelIdeal_ReferenceIdeal_pre_finite := by
  intro m g m' g' hpre hagree
  have H := fun c => Cert.Gla.holds_data m c hpre
  have G : ∀ c : Dev Cert.KernelIdeal.nD, Cert.ReferenceIdeal.Trip.Given (Cert.Gla.dataOf m c) m' c := fun c =>
    have a := hagree c
    ⟨a.1.trans (H c).a0, a.2.1.trans (H c).a1, a.2.2.1.trans (H c).a2, a.2.2.2.1.trans (H c).a3, a.2.2.2.2.1.trans (H c).a4,
      a.2.2.2.2.2.1.trans (H c).a5, a.2.2.2.2.2.2.trans (H c).a6⟩
  refine ⟨fun c => Cert.Gla.lift2 fun (r : Fin 4096) (a : Fin 256) => (Cert.Gla.dataOf m c).DQ r a,
    fun c => Cert.Gla.lift2 fun (r : Fin 4096) (a : Fin 256) => (Cert.Gla.dataOf m c).DK r a,
    fun c => Cert.Gla.lift2 fun (r : Fin 4096) (a : Fin 512) => (Cert.Gla.dataOf m c).DV r a,
    fun c => Cert.Gla.lift2 fun (r : Fin 4096) (a : Fin 512) => (Cert.Gla.dataOf m c).DGate r a,
    fun c => Cert.Gla.lift2 fun (_ : Fin 1) (a : Fin 512) => (Cert.Gla.dataOf m c).DGn a,
    fun c => Cert.Gla.lift2 fun (r : Fin 4096) (a : Fin 512) => (Cert.Gla.dataOf m c).DL r a,
    fun c => Cert.Gla.lift2 fun (_ : Fin 1) (a : Fin 512) => (Cert.Gla.dataOf m c).DBa a, ?_, ?_⟩
  · refine θ_run_mono (Cert.KernelIdeal.Value.run_blocks m g) fun r h c => ?_
    have ⟨h0, h1, h2, h3, h4, h5, h6, k⟩ := h c
    open Cert.KernelIdeal.Block in
    exact ⟨h0.trans (arr_q (H c)), h1.trans (arr_k (H c)), h2.trans (arr_v (H c)), h3.trans (arr_gate (H c)), h4.trans (arr_n (H c)),
      h5.trans (arr_l (H c)), h6.trans (arr_b (H c)), k⟩
  · refine θ_run_mono (Cert.ReferenceIdeal.Trip.results m' g') fun r h c => ?_
    have ⟨h0, h1, h2, h3, h4, h5, h6, k⟩ := h c
    open Cert.ReferenceIdeal.Trip in
    have I := last_inv (G c)
    rw [(G c).a0, (G c).a3, (G c).a4, (G c).a6] at h3
    rw [(G c).a0, (G c).a4, (G c).a6] at h4
    open Cert.ReferenceIdeal.Trip in
    exact ⟨h0.trans (r164 I), h1.trans (r166 I), h2.trans (r168 I), h3.trans (r170 I), h4.trans (r141 I), h5.trans (r174 I),
      h6.trans (r177 I), k⟩

theorem reference_frame2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem same2 : Cert.algebraic_Kernel2Ideal_Reference2Ideal := by
  intro m g m' g' _ hagree
  refine ⟨fun c => Cert.Kernel2Ideal.Block.REF (m ((c.tc : Thread _ _).loc Cert.Kernel2Ideal.main_arg0))
    (m ((c.tc : Thread _ _).loc Cert.Kernel2Ideal.main_arg1)), ?_, ?_⟩
  · refine θ_run_mono (Cert.Kernel2Ideal.Value.run_blocks m g) fun r h c => ?_
    exact ⟨(h c).1.trans (Cert.Kernel2Ideal.Block.final m c), (h c).2⟩
  · refine θ_run_mono (Cert.Reference2Ideal.Value.run m' g') fun r h c => ?_
    refine ⟨(h c).1.trans ?_, (h c).2⟩
    rw [(hagree c).1, (hagree c).2]

theorem reference_frame3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem same3 : Cert.algebraic_Kernel3Ideal_Reference3Ideal := by
  intro m g m' g' _ hagree
  refine ⟨fun c => Cert.Kernel3Ideal.Block.REF (m ((c.tc : Thread _ _).loc Cert.Kernel3Ideal.main_arg0))
    (m ((c.tc : Thread _ _).loc Cert.Kernel3Ideal.main_arg1)), ?_, ?_⟩
  · refine θ_run_mono (Cert.Kernel3Ideal.Value.run_blocks m g) fun r h c => ?_
    exact ⟨(h c).1.trans (Cert.Kernel3Ideal.Block.final m c), (h c).2⟩
  · refine θ_run_mono (Cert.Reference3Ideal.Value.run m' g') fun r h c => ?_
    refine ⟨(h c).1.trans ?_, (h c).2⟩
    rw [(hagree c).1, (hagree c).2]

theorem reference_frame4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem same4 : Cert.algebraic_Kernel4Ideal_Reference4Ideal := by
  intro m g m' g' _ hagree
  refine ⟨fun c => Cert.Kernel4Ideal.Block.REF (m ((c.tc : Thread _ _).loc Cert.Kernel4Ideal.main_arg0))
    (m ((c.tc : Thread _ _).loc Cert.Kernel4Ideal.main_arg1)), ?_, ?_⟩
  · refine θ_run_mono (Cert.Kernel4Ideal.Value.run_blocks m g) fun r h c => ?_
    exact ⟨(h c).1.trans (Cert.Kernel4Ideal.Block.final m c), (h c).2⟩
  · refine θ_run_mono (Cert.Reference4Ideal.Value.run m' g') fun r h c => ?_
    refine ⟨(h c).1.trans ?_, (h c).2⟩
    rw [(hagree c).1, (hagree c).2]

theorem reference_frame5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem same5 : Cert.algebraic_Kernel5Ideal_Reference5Ideal := by
  intro m g m' g' _ hagree
  refine ⟨fun c => Cert.Kernel5Ideal.Block.REF (m ((c.tc : Thread _ _).loc Cert.Kernel5Ideal.main_arg0))
    (m ((c.tc : Thread _ _).loc Cert.Kernel5Ideal.main_arg1)), ?_, ?_⟩
  · refine θ_run_mono (Cert.Kernel5Ideal.Value.run_blocks m g) fun r h c => ?_
    exact ⟨(h c).1.trans (Cert.Kernel5Ideal.Block.final m c), (h c).2⟩
  · refine θ_run_mono (Cert.Reference5Ideal.Value.run m' g') fun r h c => ?_
    refine ⟨(h c).1.trans ?_, (h c).2⟩
    rw [(hagree c).1, (hagree c).2]

theorem reference_frame6 : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run m ρ)

/-- The numbers in the arguments of the sixth program. -/
def mixData (m : (ℓ : Loc Cert.Kernel6Ideal.nD Cert.Kernel6Ideal.τ Cert.Kernel6Ideal.sig) → Buf (Elt Ideal) ℓ) (c : Dev Cert.Kernel6Ideal.nD) :
    Cert.Kernel6Ideal.Block.Data where
  p := Cert.Gla.real2 (m ((c.tc : Thread _ _).loc Cert.Kernel6Ideal.main_arg0))
  w := Cert.Gla.real2 (m ((c.tc : Thread _ _).loc Cert.Kernel6Ideal.main_arg1))
  x := Cert.Gla.real2 (m ((c.tc : Thread _ _).loc Cert.Kernel6Ideal.main_arg3))
  g := Cert.Gla.real2 (m ((c.tc : Thread _ _).loc Cert.Kernel6Ideal.main_arg4))

open Cert.Gla in
theorem holds_mix (m : (ℓ : Loc Cert.Kernel6Ideal.nD Cert.Kernel6Ideal.τ Cert.Kernel6Ideal.sig) → Buf (Elt Ideal) ℓ) (c : Dev Cert.Kernel6Ideal.nD)
    (P : Cert.Pre_Kernel6Ideal_finite6 (hPre_finite6 := Cert.Pre_finite6.Gen.facts) m) : Cert.Kernel6Ideal.Block.Holds m c (mixData m c) :=
  have h := P c
  { a0 := lift_real2 (real_of _ _ h.1)
    a1 := lift_real2 (real_of _ _ h.2.1)
    a3 := lift_real2 (real_of _ _ h.2.2.1)
    a4 := lift_real2 (real_of _ _ h.2.2.2)
    p0 := fun _ _ h => dif_neg fun k => absurd k.2 (Nat.not_lt.mpr h)
    w0 := fun _ _ h => dif_neg fun k => absurd k.2 (Nat.not_lt.mpr h) }

theorem same6 : Cert.algebraic_Kernel6Ideal_Reference6Ideal_pre_finite6 := by
  intro m g m' g' hpre hagree
  have H := fun c => holds_mix m c hpre
  have G : ∀ c : Dev Cert.Kernel6Ideal.nD, Cert.Reference6Ideal.Value.Holds m' c (mixData m c) := fun c =>
    have a := hagree c
    ⟨a.1.trans (H c).a0, a.2.1.trans (H c).a1, a.2.2.2.1.trans (H c).a3, a.2.2.2.2.trans (H c).a4⟩
  refine ⟨fun c z => (fun a b : EReal => a + b) (m ((c.tc : Thread _ _).loc Cert.Kernel6Ideal.main_arg2) z)
      (((mixData m c).dx (z 0 : Fin 4096) (z 1) : ℝ) : EReal),
    fun c => Cert.Gla.lift2 fun (_ : Fin 1) a => ∑ r : Fin 4096, (mixData m c).part r a, ?_, ?_⟩
  · refine θ_run_mono (Cert.Kernel6Ideal.Value.run_blocks m g) fun r h c => ?_
    have ⟨h0, h1, k⟩ := h c
    exact ⟨h0.trans (Cert.Kernel6Ideal.Block.final5 (H c)), h1.trans (Cert.Kernel6Ideal.Block.final6 (H c)), k⟩
  · refine θ_run_mono (Cert.Reference6Ideal.Value.run m' g') fun r h c => ?_
    have ⟨h0, h1, k⟩ := h c
    refine ⟨h0.trans ((Cert.Reference6Ideal.Value.dx_eq (G c)).trans ?_),
      h1.trans (Cert.Reference6Ideal.Value.dg_eq _ _ _ (G c).a0 (G c).a1 (G c).a3), k⟩
    rw [(hagree c).2.2.1]
    rfl

theorem reference_frame7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

theorem same7 : Cert.algebraic_Kernel7Ideal_Reference7Ideal := by
  intro m g m' g' _ hagree
  refine ⟨fun c => Cert.Kernel7Ideal.Block.REF (m ((c.tc : Thread _ _).loc Cert.Kernel7Ideal.main_arg0))
    (m ((c.tc : Thread _ _).loc Cert.Kernel7Ideal.main_arg1))
    (m ((c.tc : Thread _ _).loc Cert.Kernel7Ideal.main_arg2))
    (m ((c.tc : Thread _ _).loc Cert.Kernel7Ideal.main_arg3)), ?_, ?_⟩
  · refine θ_run_mono (Cert.Kernel7Ideal.Value.run_blocks m g) fun r h c => ?_
    exact ⟨(h c).1.trans (Cert.Kernel7Ideal.Block.final m c), (h c).2⟩
  · refine θ_run_mono (Cert.Reference7Ideal.Value.run m' g') fun r h c => ?_
    refine ⟨(h c).1.trans ?_, (h c).2⟩
    rw [(hagree c).1, (hagree c).2.1, (hagree c).2.2.1, (hagree c).2.2.2]

theorem reference_frame8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

theorem same8 : Cert.algebraic_Kernel8Ideal_Reference8Ideal := by
  intro m g m' g' _ hagree
  refine ⟨fun c => Cert.Kernel8Ideal.Block.REF (m ((c.tc : Thread _ _).loc Cert.Kernel8Ideal.main_arg0))
    (m ((c.tc : Thread _ _).loc Cert.Kernel8Ideal.main_arg1)), ?_, ?_⟩
  · refine θ_run_mono (Cert.Kernel8Ideal.Value.run_blocks m g) fun r h c => ?_
    exact ⟨(h c).1.trans (Cert.Kernel8Ideal.Block.final m c), (h c).2⟩
  · refine θ_run_mono (Cert.Reference8Ideal.Value.run m' g') fun r h c => ?_
    refine ⟨(h c).1.trans ?_, (h c).2⟩
    rw [(hagree c).1, (hagree c).2]

theorem reference_frame9 : Cert.quiescent_Reference9Ideal := fun m ρ _ =>
  (θ_run Cert.Reference9Ideal.defs _ _).mono
    (fun r h => ⟨fun c => (h c).2.2.2.2, sem_eq_zero_of_no_sems (by decide) r.2⟩) (Cert.Reference9Ideal.Value.run m ρ)

open Cert.Reference9Ideal.Step in
theorem same9 : Cert.algebraic_Kernel9Ideal_Reference9Ideal := by
  intro m g m' g' _ hagree
  refine ⟨fun c => G (m ((c.tc : Thread _ _).loc Cert.Kernel9Ideal.main_arg1)) (m ((c.tc : Thread _ _).loc Cert.Kernel9Ideal.main_arg2)) (m ((c.tc : Thread _ _).loc Cert.Kernel9Ideal.main_arg5)),
    fun c => D (m ((c.tc : Thread _ _).loc Cert.Kernel9Ideal.main_arg0)) (m ((c.tc : Thread _ _).loc Cert.Kernel9Ideal.main_arg1)) (m ((c.tc : Thread _ _).loc Cert.Kernel9Ideal.main_arg2))
      (m ((c.tc : Thread _ _).loc Cert.Kernel9Ideal.main_arg3)) (m ((c.tc : Thread _ _).loc Cert.Kernel9Ideal.main_arg4)) (m ((c.tc : Thread _ _).loc Cert.Kernel9Ideal.main_arg5)),
    fun c => NM (m ((c.tc : Thread _ _).loc Cert.Kernel9Ideal.main_arg1)) (m ((c.tc : Thread _ _).loc Cert.Kernel9Ideal.main_arg2))
      (m ((c.tc : Thread _ _).loc Cert.Kernel9Ideal.main_arg3)) (m ((c.tc : Thread _ _).loc Cert.Kernel9Ideal.main_arg5)),
    fun c => NV (m ((c.tc : Thread _ _).loc Cert.Kernel9Ideal.main_arg1)) (m ((c.tc : Thread _ _).loc Cert.Kernel9Ideal.main_arg2))
      (m ((c.tc : Thread _ _).loc Cert.Kernel9Ideal.main_arg4)) (m ((c.tc : Thread _ _).loc Cert.Kernel9Ideal.main_arg5)), ?_, ?_⟩
  · exact Cert.Kernel9Ideal.Block.run m g
  · refine θ_run_mono (Cert.Reference9Ideal.Value.run m' g') fun r h c => ?_
    have ⟨h0, h1, h2, h3, k⟩ := h c
    have ⟨a0, a1, a2, a3, a4, a5⟩ := hagree c
    refine ⟨h0.trans ?_, h1.trans ?_, h2.trans ?_, h3.trans ?_, k⟩
    · rw [a1, a2, a5]; rfl
    · rw [a0, a1, a2, a3, a4, a5]; rfl
    · rw [a1, a2, a3, a5]; rfl
    · rw [a1, a2, a4, a5]; rfl

theorem reference_frame10 : Cert.quiescent_Reference10Ideal := fun m ρ _ =>
  (θ_run Cert.Reference10Ideal.defs _ _).mono
    (fun r h => ⟨fun c => (h c).2.2.2.2, sem_eq_zero_of_no_sems (by decide) r.2⟩) (Cert.Reference10Ideal.Value.run m ρ)

open Cert.Reference10Ideal.Step in
theorem same10 : Cert.algebraic_Kernel10Ideal_Reference10Ideal := by
  intro m g m' g' _ hagree
  refine ⟨fun c => G (m ((c.tc : Thread _ _).loc Cert.Kernel10Ideal.main_arg1)) (m ((c.tc : Thread _ _).loc Cert.Kernel10Ideal.main_arg2)) (m ((c.tc : Thread _ _).loc Cert.Kernel10Ideal.main_arg5)),
    fun c => D (m ((c.tc : Thread _ _).loc Cert.Kernel10Ideal.main_arg0)) (m ((c.tc : Thread _ _).loc Cert.Kernel10Ideal.main_arg1)) (m ((c.tc : Thread _ _).loc Cert.Kernel10Ideal.main_arg2))
      (m ((c.tc : Thread _ _).loc Cert.Kernel10Ideal.main_arg3)) (m ((c.tc : Thread _ _).loc Cert.Kernel10Ideal.main_arg4)) (m ((c.tc : Thread _ _).loc Cert.Kernel10Ideal.main_arg5)),
    fun c => NM (m ((c.tc : Thread _ _).loc Cert.Kernel10Ideal.main_arg1)) (m ((c.tc : Thread _ _).loc Cert.Kernel10Ideal.main_arg2))
      (m ((c.tc : Thread _ _).loc Cert.Kernel10Ideal.main_arg3)) (m ((c.tc : Thread _ _).loc Cert.Kernel10Ideal.main_arg5)),
    fun c => NV (m ((c.tc : Thread _ _).loc Cert.Kernel10Ideal.main_arg1)) (m ((c.tc : Thread _ _).loc Cert.Kernel10Ideal.main_arg2))
      (m ((c.tc : Thread _ _).loc Cert.Kernel10Ideal.main_arg4)) (m ((c.tc : Thread _ _).loc Cert.Kernel10Ideal.main_arg5)), ?_, ?_⟩
  · exact Cert.Kernel10Ideal.Block.run m g
  · refine θ_run_mono (Cert.Reference10Ideal.Value.run m' g') fun r h c => ?_
    have ⟨h0, h1, h2, h3, k⟩ := h c
    have ⟨a0, a1, a2, a3, a4, a5⟩ := hagree c
    refine ⟨h0.trans ?_, h1.trans ?_, h2.trans ?_, h3.trans ?_, k⟩
    · rw [a1, a2, a5]; rfl
    · rw [a0, a1, a2, a3, a4, a5]; rfl
    · rw [a1, a2, a3, a5]; rfl
    · rw [a1, a2, a4, a5]; rfl

theorem reference_frame11 : Cert.quiescent_Reference11Ideal := fun m ρ _ =>
  (θ_run Cert.Reference11Ideal.defs _ _).mono
    (fun r h => ⟨fun c => (h c).2.2.2.2, sem_eq_zero_of_no_sems (by decide) r.2⟩) (Cert.Reference11Ideal.Value.run m ρ)

open Cert.Reference11Ideal.Step in
theorem same11 : Cert.algebraic_Kernel11Ideal_Reference11Ideal := by
  intro m g m' g' _ hagree
  refine ⟨fun c => G (m ((c.tc : Thread _ _).loc Cert.Kernel11Ideal.main_arg1)) (m ((c.tc : Thread _ _).loc Cert.Kernel11Ideal.main_arg2)) (m ((c.tc : Thread _ _).loc Cert.Kernel11Ideal.main_arg5)),
    fun c => D (m ((c.tc : Thread _ _).loc Cert.Kernel11Ideal.main_arg0)) (m ((c.tc : Thread _ _).loc Cert.Kernel11Ideal.main_arg1)) (m ((c.tc : Thread _ _).loc Cert.Kernel11Ideal.main_arg2))
      (m ((c.tc : Thread _ _).loc Cert.Kernel11Ideal.main_arg3)) (m ((c.tc : Thread _ _).loc Cert.Kernel11Ideal.main_arg4)) (m ((c.tc : Thread _ _).loc Cert.Kernel11Ideal.main_arg5)),
    fun c => NM (m ((c.tc : Thread _ _).loc Cert.Kernel11Ideal.main_arg1)) (m ((c.tc : Thread _ _).loc Cert.Kernel11Ideal.main_arg2))
      (m ((c.tc : Thread _ _).loc Cert.Kernel11Ideal.main_arg3)) (m ((c.tc : Thread _ _).loc Cert.Kernel11Ideal.main_arg5)),
    fun c => NV (m ((c.tc : Thread _ _).loc Cert.Kernel11Ideal.main_arg1)) (m ((c.tc : Thread _ _).loc Cert.Kernel11Ideal.main_arg2))
      (m ((c.tc : Thread _ _).loc Cert.Kernel11Ideal.main_arg4)) (m ((c.tc : Thread _ _).loc Cert.Kernel11Ideal.main_arg5)), ?_, ?_⟩
  · exact Cert.Kernel11Ideal.Block.run m g
  · refine θ_run_mono (Cert.Reference11Ideal.Value.run m' g') fun r h c => ?_
    have ⟨h0, h1, h2, h3, k⟩ := h c
    have ⟨a0, a1, a2, a3, a4, a5⟩ := hagree c
    refine ⟨h0.trans ?_, h1.trans ?_, h2.trans ?_, h3.trans ?_, k⟩
    · rw [a1, a2, a5]; rfl
    · rw [a0, a1, a2, a3, a4, a5]; rfl
    · rw [a1, a2, a3, a5]; rfl
    · rw [a1, a2, a4, a5]; rfl

/-- An array of one row by its row. -/
theorem one_row (g : ℕ → ℕ → ℝ) : Cert.Gla.lift2 (fun (i : Fin 1) (j : Fin 1024) => g i j) = Cert.Gla.lift2 fun (_ : Fin 1) (j : Fin 1024) => g 0 j :=
  congrArg _ (funext fun i => funext fun j => by rw [Subsingleton.elim i 0]; rfl)

theorem reference_frame12 : Cert.quiescent_Reference12Ideal := fun m ρ _ =>
  (θ_run Cert.Reference12Ideal.defs _ _).mono
    (fun r h => ⟨fun c => (h c).2.2.2, sem_eq_zero_of_no_sems (by decide) r.2⟩) (Cert.Reference12Ideal.Value.run m ρ)

/-- The numbers in the arguments of the twelfth program. -/
def ffnData (m : (ℓ : Loc Cert.Kernel12Ideal.nD Cert.Kernel12Ideal.τ Cert.Kernel12Ideal.sig) → Buf (Elt Ideal) ℓ) (c : Dev Cert.Kernel12Ideal.nD) :
    Cert.Kernel12Ideal.Block.Data where
  ct := Cert.Gla.real2 (m ((c.tc : Thread _ _).loc Cert.Kernel12Ideal.main_arg0))
  x := Cert.Gla.real2 (m ((c.tc : Thread _ _).loc Cert.Kernel12Ideal.main_arg1))
  g := Cert.Gla.real2 (m ((c.tc : Thread _ _).loc Cert.Kernel12Ideal.main_arg2))
  wg := Cert.Gla.real2 (m ((c.tc : Thread _ _).loc Cert.Kernel12Ideal.main_arg3))
  wu := Cert.Gla.real2 (m ((c.tc : Thread _ _).loc Cert.Kernel12Ideal.main_arg4))
  wd := Cert.Gla.real2 (m ((c.tc : Thread _ _).loc Cert.Kernel12Ideal.main_arg5))
  wo := Cert.Gla.real2 (m ((c.tc : Thread _ _).loc Cert.Kernel12Ideal.main_arg6))

open Cert.Gla in
theorem holds_ffn (m : (ℓ : Loc Cert.Kernel12Ideal.nD Cert.Kernel12Ideal.τ Cert.Kernel12Ideal.sig) → Buf (Elt Ideal) ℓ) (c : Dev Cert.Kernel12Ideal.nD)
    (P : Cert.Pre_Kernel12Ideal_finite12 (hPre_finite12 := Cert.Pre_finite12.Gen.facts) m) : Cert.Kernel12Ideal.Block.Holds m c (ffnData m c) :=
  have h := P c
  { a0 := lift_real2 (real_of _ _ h.1)
    a1 := lift_real2 (real_of _ _ h.2.1)
    a2 := lift_real2 (real_of _ _ h.2.2.1)
    a3 := lift_real2 (real_of _ _ h.2.2.2.1)
    a4 := lift_real2 (real_of _ _ h.2.2.2.2.1)
    a5 := lift_real2 (real_of _ _ h.2.2.2.2.2.1)
    a6 := lift_real2 (real_of _ _ h.2.2.2.2.2.2) }

theorem same12 : Cert.algebraic_Kernel12Ideal_Reference12Ideal_pre_finite12 (hPre_finite12 := Cert.Pre_finite12.Gen.facts) := by
  intro m g m' g' P hagree
  have H := fun c => holds_ffn m c P
  have G : ∀ c : Dev Cert.Kernel12Ideal.nD, Cert.Reference12Ideal.Value.Holds m' c (ffnData m c) := fun c =>
    have ⟨e0, e1, e2, e3, e4, e5, e6⟩ := hagree c
    ⟨e0.trans (H c).a0, e1.trans (H c).a1, e2.trans ((H c).a2.trans (one_row _)), e3.trans (H c).a3, e4.trans (H c).a4, e5.trans (H c).a5, e6.trans (H c).a6⟩
  refine ⟨fun c => Cert.Gla.lift2 fun (r : Fin 4096) (a : Fin 1024) => (ffnData m c).dx r a,
    fun c => Cert.Gla.lift2 fun (_ : Fin 1) a => ∑ r : Fin 4096, (ffnData m c).part r a,
    fun c => Cert.Gla.lift2 fun (r : Fin 4096) (a : Fin 1024) => (ffnData m c).heads r a, ?_, ?_⟩
  · refine θ_run_mono (Cert.Kernel12Ideal.Block.run_blocks m g) fun r h c => ?_
    have ⟨h0, h1, h2, k⟩ := h c
    exact ⟨h0.trans (Cert.Kernel12Ideal.Block.final14 (H c)), h1.trans (Cert.Kernel12Ideal.Block.final15 (H c)),
      h2.trans (Cert.Kernel12Ideal.Block.final16 (H c)), k⟩
  · refine θ_run_mono (Cert.Reference12Ideal.Value.run m' g') fun r h c => ?_
    have ⟨h0, h1, h2, k⟩ := h c
    exact ⟨h0.trans (Cert.Reference12Ideal.Value.dx_eq (G c)), h1.trans (Cert.Reference12Ideal.Value.dg_eq (G c)),
      h2.trans (Cert.Reference12Ideal.Value.heads_eq (G c)), k⟩

theorem reference_frame13 : Cert.quiescent_Reference13Ideal := fun m ρ _ =>
  (θ_run Cert.Reference13Ideal.defs _ _).mono
    (fun r h => ⟨fun c => (h c).2.2.2, sem_eq_zero_of_no_sems (by decide) r.2⟩) (Cert.Reference13Ideal.Value.run m ρ)

/-- The numbers in the arguments of the thirteenth program. -/
def lossData (m : (ℓ : Loc Cert.Kernel13Ideal.nD Cert.Kernel13Ideal.τ Cert.Kernel13Ideal.sig) → Buf (Elt Ideal) ℓ) (c : Dev Cert.Kernel13Ideal.nD) :
    Cert.Kernel13Ideal.Block.Data where
  x := Cert.Gla.real2 (m ((c.tc : Thread _ _).loc Cert.Kernel13Ideal.main_arg0))
  g := Cert.Gla.real2 (m ((c.tc : Thread _ _).loc Cert.Kernel13Ideal.main_arg1))
  wg := Cert.Gla.real2 (m ((c.tc : Thread _ _).loc Cert.Kernel13Ideal.main_arg2))
  wu := Cert.Gla.real2 (m ((c.tc : Thread _ _).loc Cert.Kernel13Ideal.main_arg3))
  wd := Cert.Gla.real2 (m ((c.tc : Thread _ _).loc Cert.Kernel13Ideal.main_arg4))
  gf := Cert.Gla.real2 (m ((c.tc : Thread _ _).loc Cert.Kernel13Ideal.main_arg5))
  t := Cert.Gla.real2 (m ((c.tc : Thread _ _).loc Cert.Kernel13Ideal.main_arg6))

open Cert.Gla in
theorem holds_loss (m : (ℓ : Loc Cert.Kernel13Ideal.nD Cert.Kernel13Ideal.τ Cert.Kernel13Ideal.sig) → Buf (Elt Ideal) ℓ) (c : Dev Cert.Kernel13Ideal.nD)
    (P : Cert.Pre_Kernel13Ideal_finite13 (hPre_finite13 := Cert.Pre_finite13.Gen.facts) m) : Cert.Kernel13Ideal.Block.Holds m c (lossData m c) :=
  have h := P c
  { a0 := lift_real2 (real_of _ _ h.1)
    a1 := lift_real2 (real_of _ _ h.2.1)
    a2 := lift_real2 (real_of _ _ h.2.2.1)
    a3 := lift_real2 (real_of _ _ h.2.2.2.1)
    a4 := lift_real2 (real_of _ _ h.2.2.2.2.1)
    a5 := lift_real2 (real_of _ _ h.2.2.2.2.2.1)
    a6 := lift_real2 (real_of _ _ h.2.2.2.2.2.2) }

theorem same13 : Cert.algebraic_Kernel13Ideal_Reference13Ideal_pre_finite13 (hPre_finite13 := Cert.Pre_finite13.Gen.facts) := by
  intro m g m' g' P hagree
  have H := fun c => holds_loss m c P
  have G : ∀ c : Dev Cert.Kernel13Ideal.nD, Cert.Reference13Ideal.Value.Holds m' c (lossData m c) := fun c =>
    have ⟨e0, e1, e2, e3, e4, e5, e6⟩ := hagree c
    ⟨e0.trans (H c).a0, e1.trans ((H c).a1.trans (one_row _)), e2.trans (H c).a2, e3.trans (H c).a3, e4.trans (H c).a4, e5.trans ((H c).a5.trans (one_row _)), e6.trans (H c).a6⟩
  refine ⟨fun c => Cert.Gla.lift2 fun (_ : Fin 8) (_ : Fin 128) => 1 / 2 * ∑ r : Fin 4096, (lossData m c).sq r,
    fun c => Cert.Gla.lift2 fun (r : Fin 4096) (a : Fin 1024) => (lossData m c).dx r a,
    fun c => Cert.Gla.lift2 fun (_ : Fin 1) a => ∑ r : Fin 4096, (lossData m c).part r a, ?_, ?_⟩
  · refine θ_run_mono (Cert.Kernel13Ideal.Block.run_blocks m g) fun r h c => ?_
    have ⟨h0, h1, h2, k⟩ := h c
    exact ⟨h0.trans (Cert.Kernel13Ideal.Block.final7 (H c)), h1.trans (Cert.Kernel13Ideal.Block.final8 (H c)),
      h2.trans (Cert.Kernel13Ideal.Block.final9 (H c)), k⟩
  · refine θ_run_mono (Cert.Reference13Ideal.Value.run m' g') fun r h c => ?_
    have ⟨h0, h1, h2, k⟩ := h c
    exact ⟨h0.trans (Cert.Reference13Ideal.Value.val_loss (G c)), h1.trans (Cert.Reference13Ideal.Value.val_dx (G c)),
      h2.trans (Cert.Reference13Ideal.Value.val_dg (G c)), k⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_finite6.Gen.facts, Cert.Pre_finite12.Gen.facts, Cert.Pre_finite13.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference_frame2,
  fun m ρ _ => Cert.Kernel3.Gen.frame m ρ, fun m ρ _ => Cert.Kernel3Ideal.Gen.frame m ρ, reference_frame3,
  fun m ρ _ => Cert.Kernel4.Gen.frame m ρ, fun m ρ _ => Cert.Kernel4Ideal.Gen.frame m ρ, reference_frame4,
  fun m ρ _ => Cert.Kernel5.Gen.frame m ρ, fun m ρ _ => Cert.Kernel5Ideal.Gen.frame m ρ, reference_frame5,
  fun m ρ _ => Cert.Kernel6.Gen.frame m ρ, fun m ρ _ => Cert.Kernel6Ideal.Gen.frame m ρ, fun m ρ _ => Cert.Kernel6Ideal.Gen.frame m ρ,
  reference_frame6, fun m ρ _ => reference_frame6 m ρ trivial,
  fun m ρ _ => Cert.Kernel7.Gen.frame m ρ, fun m ρ _ => Cert.Kernel7Ideal.Gen.frame m ρ, reference_frame7,
  fun m ρ _ => Cert.Kernel8.Gen.frame m ρ, fun m ρ _ => Cert.Kernel8Ideal.Gen.frame m ρ, reference_frame8,
  fun m ρ _ => Cert.Kernel9.Gen.frame m ρ trivial, fun m ρ _ => Cert.Kernel9Ideal.Gen.frame m ρ trivial, reference_frame9,
  fun m ρ _ => Cert.Kernel10.Gen.frame m ρ trivial, fun m ρ _ => Cert.Kernel10Ideal.Gen.frame m ρ trivial, reference_frame10,
  fun m ρ _ => Cert.Kernel11.Gen.frame m ρ trivial, fun m ρ _ => Cert.Kernel11Ideal.Gen.frame m ρ trivial, reference_frame11,
  fun m ρ _ => Cert.Kernel12.Ffn.frame m ρ, fun m ρ _ => Cert.Kernel12Ideal.Ffn.frame m ρ, fun m ρ _ => Cert.Kernel12Ideal.Ffn.frame m ρ,
  reference_frame12, fun m ρ _ => reference_frame12 m ρ trivial,
  fun m ρ _ => Cert.Kernel13.Loss.frame m ρ, fun m ρ _ => Cert.Kernel13Ideal.Loss.frame m ρ, fun m ρ _ => Cert.Kernel13Ideal.Loss.frame m ρ,
  reference_frame13, fun m ρ _ => reference_frame13 m ρ trivial,
  trivial, same, trivial, same2, trivial, same3, trivial, same4, trivial, same5,
  trivial, same6, trivial, same7, trivial, same8, trivial, same9, trivial, same10, trivial, same11, trivial, same12,
  trivial, same13⟩

end Cert.Proof

end
